-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49)
      ∧ r.2.mem ((c.tc : Thread Cert.Kernel.nD Cert.Kernel.τ).loc Cert.Kernel.main_arg50) = m ((c.tc : Thread Cert.Kernel.nD Cert.Kernel.τ).loc Cert.Kernel.main_arg50)
      ∧ r.2.mem ((c.tc : Thread Cert.Kernel.nD Cert.Kernel.τ).loc Cert.Kernel.main_arg51) = m ((c.tc : Thread Cert.Kernel.nD Cert.Kernel.τ).loc Cert.Kernel.main_arg51)
      ∧ r.2.mem ((c.tc : Thread Cert.Kernel.nD Cert.Kernel.τ).loc Cert.Kernel.main_arg52) = m ((c.tc : Thread Cert.Kernel.nD Cert.Kernel.τ).loc Cert.Kernel.main_arg52)
      ∧ r.2.mem ((c.tc : Thread Cert.Kernel.nD Cert.Kernel.τ).loc Cert.Kernel.main_arg53) = m ((c.tc : Thread Cert.Kernel.nD Cert.Kernel.τ).loc Cert.Kernel.main_arg53)
      ∧ r.2.mem ((c.tc : Thread Cert.Kernel.nD Cert.Kernel.τ).loc Cert.Kernel.main_arg54) = m ((c.tc : Thread Cert.Kernel.nD Cert.Kernel.τ).loc Cert.Kernel.main_arg54)
      ∧ r.2.mem ((c.tc : Thread Cert.Kernel.nD Cert.Kernel.τ).loc Cert.Kernel.main_arg55) = m ((c.tc : Thread Cert.Kernel.nD Cert.Kernel.τ).loc Cert.Kernel.main_arg55)
      ∧ r.2.mem ((c.tc : Thread Cert.Kernel.nD Cert.Kernel.τ).loc Cert.Kernel.main_arg56) = m ((c.tc : Thread Cert.Kernel.nD Cert.Kernel.τ).loc Cert.Kernel.main_arg56)
      ∧ r.2.mem ((c.tc : Thread Cert.Kernel.nD Cert.Kernel.τ).loc Cert.Kernel.main_arg57) = m ((c.tc : Thread Cert.Kernel.nD Cert.Kernel.τ).loc Cert.Kernel.main_arg57)
      ∧ r.2.mem ((c.tc : Thread Cert.Kernel.nD Cert.Kernel.τ).loc Cert.Kernel.main_arg58) = m ((c.tc : Thread Cert.Kernel.nD Cert.Kernel.τ).loc Cert.Kernel.main_arg58)
      ∧ r.2.mem ((c.tc : Thread Cert.Kernel.nD Cert.Kernel.τ).loc Cert.Kernel.main_arg59) = m ((c.tc : Thread Cert.Kernel.nD Cert.Kernel.τ).loc Cert.Kernel.main_arg59)
      ∧ r.2.mem ((c.tc : Thread Cert.Kernel.nD Cert.Kernel.τ).loc Cert.Kernel.main_arg60) = m ((c.tc : Thread Cert.Kernel.nD Cert.Kernel.τ).loc Cert.Kernel.main_arg60)
      ∧ r.2.mem ((c.tc : Thread Cert.Kernel.nD Cert.Kernel.τ).loc Cert.Kernel.main_arg61) = m ((c.tc : Thread Cert.Kernel.nD Cert.Kernel.τ).loc Cert.Kernel.main_arg61)
      ∧ r.2.mem ((c.tc : Thread Cert.Kernel.nD Cert.Kernel.τ).loc Cert.Kernel.main_arg62) = m ((c.tc : Thread Cert.Kernel.nD Cert.Kernel.τ).loc Cert.Kernel.main_arg62)
      ∧ r.2.mem ((c.tc : Thread Cert.Kernel.nD Cert.Kernel.τ).loc Cert.Kernel.main_arg63) = m ((c.tc : Thread Cert.Kernel.nD Cert.Kernel.τ).loc Cert.Kernel.main_arg63)
      ∧ r.2.mem ((c.tc : Thread Cert.Kernel.nD Cert.Kernel.τ).loc Cert.Kernel.main_arg64) = m ((c.tc : Thread Cert.Kernel.nD Cert.Kernel.τ).loc Cert.Kernel.main_arg64)
      ∧ r.2.mem ((c.tc : Thread Cert.Kernel.nD Cert.Kernel.τ).loc Cert.Kernel.main_arg65) = m ((c.tc : Thread Cert.Kernel.nD Cert.Kernel.τ).loc Cert.Kernel.main_arg65)
      ∧ r.2.mem ((c.tc : Thread Cert.Kernel.nD Cert.Kernel.τ).loc Cert.Kernel.main_arg66) = m ((c.tc : Thread Cert.Kernel.nD Cert.Kernel.τ).loc Cert.Kernel.main_arg66)
      ∧ r.2.mem ((c.tc : Thread Cert.Kernel.nD Cert.Kernel.τ).loc Cert.Kernel.main_arg67) = m ((c.tc : Thread Cert.Kernel.nD Cert.Kernel.τ).loc Cert.Kernel.main_arg67)
      ∧ r.2.mem ((c.tc : Thread Cert.Kernel.nD Cert.Kernel.τ).loc Cert.Kernel.main_arg68) = m ((c.tc : Thread Cert.Kernel.nD Cert.Kernel.τ).loc Cert.Kernel.main_arg68)
      ∧ r.2.mem ((c.tc : Thread Cert.Kernel.nD Cert.Kernel.τ).loc Cert.Kernel.main_arg69) = m ((c.tc : Thread Cert.Kernel.nD Cert.Kernel.τ).loc Cert.Kernel.main_arg69)
      ∧ r.2.mem ((c.tc : Thread Cert.Kernel.nD Cert.Kernel.τ).loc Cert.Kernel.main_arg70) = m ((c.tc : Thread Cert.Kernel.nD Cert.Kernel.τ).loc Cert.Kernel.main_arg70)
      ∧ r.2.mem ((c.tc : Thread Cert.Kernel.nD Cert.Kernel.τ).loc Cert.Kernel.main_arg71) = m ((c.tc : Thread Cert.Kernel.nD Cert.Kernel.τ).loc Cert.Kernel.main_arg71)
      ∧ r.2.mem ((c.tc : Thread Cert.Kernel.nD Cert.Kernel.τ).loc Cert.Kernel.main_arg72) = m ((c.tc : Thread Cert.Kernel.nD Cert.Kernel.τ).loc Cert.Kernel.main_arg72)
      ∧ r.2.mem ((c.tc : Thread Cert.Kernel.nD Cert.Kernel.τ).loc Cert.Kernel.main_arg73) = m ((c.tc : Thread Cert.Kernel.nD Cert.Kernel.τ).loc Cert.Kernel.main_arg73)
      ∧ r.2.mem ((c.tc : Thread Cert.Kernel.nD Cert.Kernel.τ).loc Cert.Kernel.main_arg74) = m ((c.tc : Thread Cert.Kernel.nD Cert.Kernel.τ).loc Cert.Kernel.main_arg74)
      ∧ r.2.mem ((c.tc : Thread Cert.Kernel.nD Cert.Kernel.τ).loc Cert.Kernel.main_arg75) = m ((c.tc : Thread Cert.Kernel.nD Cert.Kernel.τ).loc Cert.Kernel.main_arg75))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
      ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
      ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
      ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
      ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
      ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54)
      ∧ r.2.mem ((c.tc : Thread Cert.KernelIdeal.nD Cert.KernelIdeal.τ).loc Cert.KernelIdeal.main_arg55) = m ((c.tc : Thread Cert.KernelIdeal.nD Cert.KernelIdeal.τ).loc Cert.KernelIdeal.main_arg55)
      ∧ r.2.mem ((c.tc : Thread Cert.KernelIdeal.nD Cert.KernelIdeal.τ).loc Cert.KernelIdeal.main_arg56) = m ((c.tc : Thread Cert.KernelIdeal.nD Cert.KernelIdeal.τ).loc Cert.KernelIdeal.main_arg56)
      ∧ r.2.mem ((c.tc : Thread Cert.KernelIdeal.nD Cert.KernelIdeal.τ).loc Cert.KernelIdeal.main_arg57) = m ((c.tc : Thread Cert.KernelIdeal.nD Cert.KernelIdeal.τ).loc Cert.KernelIdeal.main_arg57)
      ∧ r.2.mem ((c.tc : Thread Cert.KernelIdeal.nD Cert.KernelIdeal.τ).loc Cert.KernelIdeal.main_arg58) = m ((c.tc : Thread Cert.KernelIdeal.nD Cert.KernelIdeal.τ).loc Cert.KernelIdeal.main_arg58)
      ∧ r.2.mem ((c.tc : Thread Cert.KernelIdeal.nD Cert.KernelIdeal.τ).loc Cert.KernelIdeal.main_arg59) = m ((c.tc : Thread Cert.KernelIdeal.nD Cert.KernelIdeal.τ).loc Cert.KernelIdeal.main_arg59)
      ∧ r.2.mem ((c.tc : Thread Cert.KernelIdeal.nD Cert.KernelIdeal.τ).loc Cert.KernelIdeal.main_arg60) = m ((c.tc : Thread Cert.KernelIdeal.nD Cert.KernelIdeal.τ).loc Cert.KernelIdeal.main_arg60)
      ∧ r.2.mem ((c.tc : Thread Cert.KernelIdeal.nD Cert.KernelIdeal.τ).loc Cert.KernelIdeal.main_arg61) = m ((c.tc : Thread Cert.KernelIdeal.nD Cert.KernelIdeal.τ).loc Cert.KernelIdeal.main_arg61)
      ∧ r.2.mem ((c.tc : Thread Cert.KernelIdeal.nD Cert.KernelIdeal.τ).loc Cert.KernelIdeal.main_arg62) = m ((c.tc : Thread Cert.KernelIdeal.nD Cert.KernelIdeal.τ).loc Cert.KernelIdeal.main_arg62)
      ∧ r.2.mem ((c.tc : Thread Cert.KernelIdeal.nD Cert.KernelIdeal.τ).loc Cert.KernelIdeal.main_arg63) = m ((c.tc : Thread Cert.KernelIdeal.nD Cert.KernelIdeal.τ).loc Cert.KernelIdeal.main_arg63)
      ∧ r.2.mem ((c.tc : Thread Cert.KernelIdeal.nD Cert.KernelIdeal.τ).loc Cert.KernelIdeal.main_arg64) = m ((c.tc : Thread Cert.KernelIdeal.nD Cert.KernelIdeal.τ).loc Cert.KernelIdeal.main_arg64)
      ∧ r.2.mem ((c.tc : Thread Cert.KernelIdeal.nD Cert.KernelIdeal.τ).loc Cert.KernelIdeal.main_arg65) = m ((c.tc : Thread Cert.KernelIdeal.nD Cert.KernelIdeal.τ).loc Cert.KernelIdeal.main_arg65)
      ∧ r.2.mem ((c.tc : Thread Cert.KernelIdeal.nD Cert.KernelIdeal.τ).loc Cert.KernelIdeal.main_arg66) = m ((c.tc : Thread Cert.KernelIdeal.nD Cert.KernelIdeal.τ).loc Cert.KernelIdeal.main_arg66)
      ∧ r.2.mem ((c.tc : Thread Cert.KernelIdeal.nD Cert.KernelIdeal.τ).loc Cert.KernelIdeal.main_arg67) = m ((c.tc : Thread Cert.KernelIdeal.nD Cert.KernelIdeal.τ).loc Cert.KernelIdeal.main_arg67)
      ∧ r.2.mem ((c.tc : Thread Cert.KernelIdeal.nD Cert.KernelIdeal.τ).loc Cert.KernelIdeal.main_arg68) = m ((c.tc : Thread Cert.KernelIdeal.nD Cert.KernelIdeal.τ).loc Cert.KernelIdeal.main_arg68)
      ∧ r.2.mem ((c.tc : Thread Cert.KernelIdeal.nD Cert.KernelIdeal.τ).loc Cert.KernelIdeal.main_arg69) = m ((c.tc : Thread Cert.KernelIdeal.nD Cert.KernelIdeal.τ).loc Cert.KernelIdeal.main_arg69)
      ∧ r.2.mem ((c.tc : Thread Cert.KernelIdeal.nD Cert.KernelIdeal.τ).loc Cert.KernelIdeal.main_arg70) = m ((c.tc : Thread Cert.KernelIdeal.nD Cert.KernelIdeal.τ).loc Cert.KernelIdeal.main_arg70)
      ∧ r.2.mem ((c.tc : Thread Cert.KernelIdeal.nD Cert.KernelIdeal.τ).loc Cert.KernelIdeal.main_arg71) = m ((c.tc : Thread Cert.KernelIdeal.nD Cert.KernelIdeal.τ).loc Cert.KernelIdeal.main_arg71)
      ∧ r.2.mem ((c.tc : Thread Cert.KernelIdeal.nD Cert.KernelIdeal.τ).loc Cert.KernelIdeal.main_arg72) = m ((c.tc : Thread Cert.KernelIdeal.nD Cert.KernelIdeal.τ).loc Cert.KernelIdeal.main_arg72)
      ∧ r.2.mem ((c.tc : Thread Cert.KernelIdeal.nD Cert.KernelIdeal.τ).loc Cert.KernelIdeal.main_arg73) = m ((c.tc : Thread Cert.KernelIdeal.nD Cert.KernelIdeal.τ).loc Cert.KernelIdeal.main_arg73)
      ∧ r.2.mem ((c.tc : Thread Cert.KernelIdeal.nD Cert.KernelIdeal.τ).loc Cert.KernelIdeal.main_arg74) = m ((c.tc : Thread Cert.KernelIdeal.nD Cert.KernelIdeal.τ).loc Cert.KernelIdeal.main_arg74)
      ∧ r.2.mem ((c.tc : Thread Cert.KernelIdeal.nD Cert.KernelIdeal.τ).loc Cert.KernelIdeal.main_arg75) = m ((c.tc : Thread Cert.KernelIdeal.nD Cert.KernelIdeal.τ).loc Cert.KernelIdeal.main_arg75))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49)
      ∧ r.2.mem ((c.tc : Thread Cert.ReferenceIdeal.nD Cert.ReferenceIdeal.τ).loc Cert.ReferenceIdeal.main_arg50) = m ((c.tc : Thread Cert.ReferenceIdeal.nD Cert.ReferenceIdeal.τ).loc Cert.ReferenceIdeal.main_arg50)
      ∧ r.2.mem ((c.tc : Thread Cert.ReferenceIdeal.nD Cert.ReferenceIdeal.τ).loc Cert.ReferenceIdeal.main_arg51) = m ((c.tc : Thread Cert.ReferenceIdeal.nD Cert.ReferenceIdeal.τ).loc Cert.ReferenceIdeal.main_arg51)
      ∧ r.2.mem ((c.tc : Thread Cert.ReferenceIdeal.nD Cert.ReferenceIdeal.τ).loc Cert.ReferenceIdeal.main_arg52) = m ((c.tc : Thread Cert.ReferenceIdeal.nD Cert.ReferenceIdeal.τ).loc Cert.ReferenceIdeal.main_arg52)
      ∧ r.2.mem ((c.tc : Thread Cert.ReferenceIdeal.nD Cert.ReferenceIdeal.τ).loc Cert.ReferenceIdeal.main_arg53) = m ((c.tc : Thread Cert.ReferenceIdeal.nD Cert.ReferenceIdeal.τ).loc Cert.ReferenceIdeal.main_arg53)
      ∧ r.2.mem ((c.tc : Thread Cert.ReferenceIdeal.nD Cert.ReferenceIdeal.τ).loc Cert.ReferenceIdeal.main_arg54) = m ((c.tc : Thread Cert.ReferenceIdeal.nD Cert.ReferenceIdeal.τ).loc Cert.ReferenceIdeal.main_arg54)
      ∧ r.2.mem ((c.tc : Thread Cert.ReferenceIdeal.nD Cert.ReferenceIdeal.τ).loc Cert.ReferenceIdeal.main_arg55) = m ((c.tc : Thread Cert.ReferenceIdeal.nD Cert.ReferenceIdeal.τ).loc Cert.ReferenceIdeal.main_arg55)
      ∧ r.2.mem ((c.tc : Thread Cert.ReferenceIdeal.nD Cert.ReferenceIdeal.τ).loc Cert.ReferenceIdeal.main_arg56) = m ((c.tc : Thread Cert.ReferenceIdeal.nD Cert.ReferenceIdeal.τ).loc Cert.ReferenceIdeal.main_arg56)
      ∧ r.2.mem ((c.tc : Thread Cert.ReferenceIdeal.nD Cert.ReferenceIdeal.τ).loc Cert.ReferenceIdeal.main_arg57) = m ((c.tc : Thread Cert.ReferenceIdeal.nD Cert.ReferenceIdeal.τ).loc Cert.ReferenceIdeal.main_arg57)
      ∧ r.2.mem ((c.tc : Thread Cert.ReferenceIdeal.nD Cert.ReferenceIdeal.τ).loc Cert.ReferenceIdeal.main_arg58) = m ((c.tc : Thread Cert.ReferenceIdeal.nD Cert.ReferenceIdeal.τ).loc Cert.ReferenceIdeal.main_arg58)
      ∧ r.2.mem ((c.tc : Thread Cert.ReferenceIdeal.nD Cert.ReferenceIdeal.τ).loc Cert.ReferenceIdeal.main_arg59) = m ((c.tc : Thread Cert.ReferenceIdeal.nD Cert.ReferenceIdeal.τ).loc Cert.ReferenceIdeal.main_arg59)
      ∧ r.2.mem ((c.tc : Thread Cert.ReferenceIdeal.nD Cert.ReferenceIdeal.τ).loc Cert.ReferenceIdeal.main_arg60) = m ((c.tc : Thread Cert.ReferenceIdeal.nD Cert.ReferenceIdeal.τ).loc Cert.ReferenceIdeal.main_arg60)
      ∧ r.2.mem ((c.tc : Thread Cert.ReferenceIdeal.nD Cert.ReferenceIdeal.τ).loc Cert.ReferenceIdeal.main_arg61) = m ((c.tc : Thread Cert.ReferenceIdeal.nD Cert.ReferenceIdeal.τ).loc Cert.ReferenceIdeal.main_arg61)
      ∧ r.2.mem ((c.tc : Thread Cert.ReferenceIdeal.nD Cert.ReferenceIdeal.τ).loc Cert.ReferenceIdeal.main_arg62) = m ((c.tc : Thread Cert.ReferenceIdeal.nD Cert.ReferenceIdeal.τ).loc Cert.ReferenceIdeal.main_arg62)
      ∧ r.2.mem ((c.tc : Thread Cert.ReferenceIdeal.nD Cert.ReferenceIdeal.τ).loc Cert.ReferenceIdeal.main_arg63) = m ((c.tc : Thread Cert.ReferenceIdeal.nD Cert.ReferenceIdeal.τ).loc Cert.ReferenceIdeal.main_arg63)
      ∧ r.2.mem ((c.tc : Thread Cert.ReferenceIdeal.nD Cert.ReferenceIdeal.τ).loc Cert.ReferenceIdeal.main_arg64) = m ((c.tc : Thread Cert.ReferenceIdeal.nD Cert.ReferenceIdeal.τ).loc Cert.ReferenceIdeal.main_arg64)
      ∧ r.2.mem ((c.tc : Thread Cert.ReferenceIdeal.nD Cert.ReferenceIdeal.τ).loc Cert.ReferenceIdeal.main_arg65) = m ((c.tc : Thread Cert.ReferenceIdeal.nD Cert.ReferenceIdeal.τ).loc Cert.ReferenceIdeal.main_arg65)
      ∧ r.2.mem ((c.tc : Thread Cert.ReferenceIdeal.nD Cert.ReferenceIdeal.τ).loc Cert.ReferenceIdeal.main_arg66) = m ((c.tc : Thread Cert.ReferenceIdeal.nD Cert.ReferenceIdeal.τ).loc Cert.ReferenceIdeal.main_arg66)
      ∧ r.2.mem ((c.tc : Thread Cert.ReferenceIdeal.nD Cert.ReferenceIdeal.τ).loc Cert.ReferenceIdeal.main_arg67) = m ((c.tc : Thread Cert.ReferenceIdeal.nD Cert.ReferenceIdeal.τ).loc Cert.ReferenceIdeal.main_arg67)
      ∧ r.2.mem ((c.tc : Thread Cert.ReferenceIdeal.nD Cert.ReferenceIdeal.τ).loc Cert.ReferenceIdeal.main_arg68) = m ((c.tc : Thread Cert.ReferenceIdeal.nD Cert.ReferenceIdeal.τ).loc Cert.ReferenceIdeal.main_arg68)
      ∧ r.2.mem ((c.tc : Thread Cert.ReferenceIdeal.nD Cert.ReferenceIdeal.τ).loc Cert.ReferenceIdeal.main_arg69) = m ((c.tc : Thread Cert.ReferenceIdeal.nD Cert.ReferenceIdeal.τ).loc Cert.ReferenceIdeal.main_arg69)
      ∧ r.2.mem ((c.tc : Thread Cert.ReferenceIdeal.nD Cert.ReferenceIdeal.τ).loc Cert.ReferenceIdeal.main_arg70) = m ((c.tc : Thread Cert.ReferenceIdeal.nD Cert.ReferenceIdeal.τ).loc Cert.ReferenceIdeal.main_arg70)
      ∧ r.2.mem ((c.tc : Thread Cert.ReferenceIdeal.nD Cert.ReferenceIdeal.τ).loc Cert.ReferenceIdeal.main_arg71) = m ((c.tc : Thread Cert.ReferenceIdeal.nD Cert.ReferenceIdeal.τ).loc Cert.ReferenceIdeal.main_arg71)
      ∧ r.2.mem ((c.tc : Thread Cert.ReferenceIdeal.nD Cert.ReferenceIdeal.τ).loc Cert.ReferenceIdeal.main_arg72) = m ((c.tc : Thread Cert.ReferenceIdeal.nD Cert.ReferenceIdeal.τ).loc Cert.ReferenceIdeal.main_arg72)
      ∧ r.2.mem ((c.tc : Thread Cert.ReferenceIdeal.nD Cert.ReferenceIdeal.τ).loc Cert.ReferenceIdeal.main_arg73) = m ((c.tc : Thread Cert.ReferenceIdeal.nD Cert.ReferenceIdeal.τ).loc Cert.ReferenceIdeal.main_arg73)
      ∧ r.2.mem ((c.tc : Thread Cert.ReferenceIdeal.nD Cert.ReferenceIdeal.τ).loc Cert.ReferenceIdeal.main_arg74) = m ((c.tc : Thread Cert.ReferenceIdeal.nD Cert.ReferenceIdeal.τ).loc Cert.ReferenceIdeal.main_arg74)
      ∧ r.2.mem ((c.tc : Thread Cert.ReferenceIdeal.nD Cert.ReferenceIdeal.τ).loc Cert.ReferenceIdeal.main_arg75) = m ((c.tc : Thread Cert.ReferenceIdeal.nD Cert.ReferenceIdeal.τ).loc Cert.ReferenceIdeal.main_arg75))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)
      ∧ m' ((c.tc : Thread Cert.ReferenceIdeal.nD Cert.ReferenceIdeal.τ).loc Cert.ReferenceIdeal.main_arg50) = m ((c.tc : Thread Cert.KernelIdeal.nD Cert.KernelIdeal.τ).loc Cert.KernelIdeal.main_arg50)
      ∧ m' ((c.tc : Thread Cert.ReferenceIdeal.nD Cert.ReferenceIdeal.τ).loc Cert.ReferenceIdeal.main_arg51) = m ((c.tc : Thread Cert.KernelIdeal.nD Cert.KernelIdeal.τ).loc Cert.KernelIdeal.main_arg51)
      ∧ m' ((c.tc : Thread Cert.ReferenceIdeal.nD Cert.ReferenceIdeal.τ).loc Cert.ReferenceIdeal.main_arg52) = m ((c.tc : Thread Cert.KernelIdeal.nD Cert.KernelIdeal.τ).loc Cert.KernelIdeal.main_arg52)
      ∧ m' ((c.tc : Thread Cert.ReferenceIdeal.nD Cert.ReferenceIdeal.τ).loc Cert.ReferenceIdeal.main_arg53) = m ((c.tc : Thread Cert.KernelIdeal.nD Cert.KernelIdeal.τ).loc Cert.KernelIdeal.main_arg53)
      ∧ m' ((c.tc : Thread Cert.ReferenceIdeal.nD Cert.ReferenceIdeal.τ).loc Cert.ReferenceIdeal.main_arg54) = m ((c.tc : Thread Cert.KernelIdeal.nD Cert.KernelIdeal.τ).loc Cert.KernelIdeal.main_arg54)
      ∧ m' ((c.tc : Thread Cert.ReferenceIdeal.nD Cert.ReferenceIdeal.τ).loc Cert.ReferenceIdeal.main_arg55) = m ((c.tc : Thread Cert.KernelIdeal.nD Cert.KernelIdeal.τ).loc Cert.KernelIdeal.main_arg55)
      ∧ m' ((c.tc : Thread Cert.ReferenceIdeal.nD Cert.ReferenceIdeal.τ).loc Cert.ReferenceIdeal.main_arg56) = m ((c.tc : Thread Cert.KernelIdeal.nD Cert.KernelIdeal.τ).loc Cert.KernelIdeal.main_arg56)
      ∧ m' ((c.tc : Thread Cert.ReferenceIdeal.nD Cert.ReferenceIdeal.τ).loc Cert.ReferenceIdeal.main_arg57) = m ((c.tc : Thread Cert.KernelIdeal.nD Cert.KernelIdeal.τ).loc Cert.KernelIdeal.main_arg57)
      ∧ m' ((c.tc : Thread Cert.ReferenceIdeal.nD Cert.ReferenceIdeal.τ).loc Cert.ReferenceIdeal.main_arg58) = m ((c.tc : Thread Cert.KernelIdeal.nD Cert.KernelIdeal.τ).loc Cert.KernelIdeal.main_arg58)
      ∧ m' ((c.tc : Thread Cert.ReferenceIdeal.nD Cert.ReferenceIdeal.τ).loc Cert.ReferenceIdeal.main_arg59) = m ((c.tc : Thread Cert.KernelIdeal.nD Cert.KernelIdeal.τ).loc Cert.KernelIdeal.main_arg59)
      ∧ m' ((c.tc : Thread Cert.ReferenceIdeal.nD Cert.ReferenceIdeal.τ).loc Cert.ReferenceIdeal.main_arg60) = m ((c.tc : Thread Cert.KernelIdeal.nD Cert.KernelIdeal.τ).loc Cert.KernelIdeal.main_arg60)
      ∧ m' ((c.tc : Thread Cert.ReferenceIdeal.nD Cert.ReferenceIdeal.τ).loc Cert.ReferenceIdeal.main_arg61) = m ((c.tc : Thread Cert.KernelIdeal.nD Cert.KernelIdeal.τ).loc Cert.KernelIdeal.main_arg61)
      ∧ m' ((c.tc : Thread Cert.ReferenceIdeal.nD Cert.ReferenceIdeal.τ).loc Cert.ReferenceIdeal.main_arg62) = m ((c.tc : Thread Cert.KernelIdeal.nD Cert.KernelIdeal.τ).loc Cert.KernelIdeal.main_arg62)
      ∧ m' ((c.tc : Thread Cert.ReferenceIdeal.nD Cert.ReferenceIdeal.τ).loc Cert.ReferenceIdeal.main_arg63) = m ((c.tc : Thread Cert.KernelIdeal.nD Cert.KernelIdeal.τ).loc Cert.KernelIdeal.main_arg63)
      ∧ m' ((c.tc : Thread Cert.ReferenceIdeal.nD Cert.ReferenceIdeal.τ).loc Cert.ReferenceIdeal.main_arg64) = m ((c.tc : Thread Cert.KernelIdeal.nD Cert.KernelIdeal.τ).loc Cert.KernelIdeal.main_arg64)
      ∧ m' ((c.tc : Thread Cert.ReferenceIdeal.nD Cert.ReferenceIdeal.τ).loc Cert.ReferenceIdeal.main_arg65) = m ((c.tc : Thread Cert.KernelIdeal.nD Cert.KernelIdeal.τ).loc Cert.KernelIdeal.main_arg65)
      ∧ m' ((c.tc : Thread Cert.ReferenceIdeal.nD Cert.ReferenceIdeal.τ).loc Cert.ReferenceIdeal.main_arg66) = m ((c.tc : Thread Cert.KernelIdeal.nD Cert.KernelIdeal.τ).loc Cert.KernelIdeal.main_arg66)
      ∧ m' ((c.tc : Thread Cert.ReferenceIdeal.nD Cert.ReferenceIdeal.τ).loc Cert.ReferenceIdeal.main_arg67) = m ((c.tc : Thread Cert.KernelIdeal.nD Cert.KernelIdeal.τ).loc Cert.KernelIdeal.main_arg67)
      ∧ m' ((c.tc : Thread Cert.ReferenceIdeal.nD Cert.ReferenceIdeal.τ).loc Cert.ReferenceIdeal.main_arg68) = m ((c.tc : Thread Cert.KernelIdeal.nD Cert.KernelIdeal.τ).loc Cert.KernelIdeal.main_arg68)
      ∧ m' ((c.tc : Thread Cert.ReferenceIdeal.nD Cert.ReferenceIdeal.τ).loc Cert.ReferenceIdeal.main_arg69) = m ((c.tc : Thread Cert.KernelIdeal.nD Cert.KernelIdeal.τ).loc Cert.KernelIdeal.main_arg69)
      ∧ m' ((c.tc : Thread Cert.ReferenceIdeal.nD Cert.ReferenceIdeal.τ).loc Cert.ReferenceIdeal.main_arg70) = m ((c.tc : Thread Cert.KernelIdeal.nD Cert.KernelIdeal.τ).loc Cert.KernelIdeal.main_arg70)
      ∧ m' ((c.tc : Thread Cert.ReferenceIdeal.nD Cert.ReferenceIdeal.τ).loc Cert.ReferenceIdeal.main_arg71) = m ((c.tc : Thread Cert.KernelIdeal.nD Cert.KernelIdeal.τ).loc Cert.KernelIdeal.main_arg71)
      ∧ m' ((c.tc : Thread Cert.ReferenceIdeal.nD Cert.ReferenceIdeal.τ).loc Cert.ReferenceIdeal.main_arg72) = m ((c.tc : Thread Cert.KernelIdeal.nD Cert.KernelIdeal.τ).loc Cert.KernelIdeal.main_arg72)
      ∧ m' ((c.tc : Thread Cert.ReferenceIdeal.nD Cert.ReferenceIdeal.τ).loc Cert.ReferenceIdeal.main_arg73) = m ((c.tc : Thread Cert.KernelIdeal.nD Cert.KernelIdeal.τ).loc Cert.KernelIdeal.main_arg73)
      ∧ m' ((c.tc : Thread Cert.ReferenceIdeal.nD Cert.ReferenceIdeal.τ).loc Cert.ReferenceIdeal.main_arg74) = m ((c.tc : Thread Cert.KernelIdeal.nD Cert.KernelIdeal.τ).loc Cert.KernelIdeal.main_arg74)
      ∧ m' ((c.tc : Thread Cert.ReferenceIdeal.nD Cert.ReferenceIdeal.τ).loc Cert.ReferenceIdeal.main_arg75) = m ((c.tc : Thread Cert.KernelIdeal.nD Cert.KernelIdeal.τ).loc Cert.KernelIdeal.main_arg75)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49)
          ∧ r.2.mem ((c.tc : Thread Cert.KernelIdeal.nD Cert.KernelIdeal.τ).loc Cert.KernelIdeal.main_arg50) = m ((c.tc : Thread Cert.KernelIdeal.nD Cert.KernelIdeal.τ).loc Cert.KernelIdeal.main_arg50)
          ∧ r.2.mem ((c.tc : Thread Cert.KernelIdeal.nD Cert.KernelIdeal.τ).loc Cert.KernelIdeal.main_arg51) = m ((c.tc : Thread Cert.KernelIdeal.nD Cert.KernelIdeal.τ).loc Cert.KernelIdeal.main_arg51)
          ∧ r.2.mem ((c.tc : Thread Cert.KernelIdeal.nD Cert.KernelIdeal.τ).loc Cert.KernelIdeal.main_arg52) = m ((c.tc : Thread Cert.KernelIdeal.nD Cert.KernelIdeal.τ).loc Cert.KernelIdeal.main_arg52)
          ∧ r.2.mem ((c.tc : Thread Cert.KernelIdeal.nD Cert.KernelIdeal.τ).loc Cert.KernelIdeal.main_arg53) = m ((c.tc : Thread Cert.KernelIdeal.nD Cert.KernelIdeal.τ).loc Cert.KernelIdeal.main_arg53)
          ∧ r.2.mem ((c.tc : Thread Cert.KernelIdeal.nD Cert.KernelIdeal.τ).loc Cert.KernelIdeal.main_arg54) = m ((c.tc : Thread Cert.KernelIdeal.nD Cert.KernelIdeal.τ).loc Cert.KernelIdeal.main_arg54)
          ∧ r.2.mem ((c.tc : Thread Cert.KernelIdeal.nD Cert.KernelIdeal.τ).loc Cert.KernelIdeal.main_arg55) = m ((c.tc : Thread Cert.KernelIdeal.nD Cert.KernelIdeal.τ).loc Cert.KernelIdeal.main_arg55)
          ∧ r.2.mem ((c.tc : Thread Cert.KernelIdeal.nD Cert.KernelIdeal.τ).loc Cert.KernelIdeal.main_arg56) = m ((c.tc : Thread Cert.KernelIdeal.nD Cert.KernelIdeal.τ).loc Cert.KernelIdeal.main_arg56)
          ∧ r.2.mem ((c.tc : Thread Cert.KernelIdeal.nD Cert.KernelIdeal.τ).loc Cert.KernelIdeal.main_arg57) = m ((c.tc : Thread Cert.KernelIdeal.nD Cert.KernelIdeal.τ).loc Cert.KernelIdeal.main_arg57)
          ∧ r.2.mem ((c.tc : Thread Cert.KernelIdeal.nD Cert.KernelIdeal.τ).loc Cert.KernelIdeal.main_arg58) = m ((c.tc : Thread Cert.KernelIdeal.nD Cert.KernelIdeal.τ).loc Cert.KernelIdeal.main_arg58)
          ∧ r.2.mem ((c.tc : Thread Cert.KernelIdeal.nD Cert.KernelIdeal.τ).loc Cert.KernelIdeal.main_arg59) = m ((c.tc : Thread Cert.KernelIdeal.nD Cert.KernelIdeal.τ).loc Cert.KernelIdeal.main_arg59)
          ∧ r.2.mem ((c.tc : Thread Cert.KernelIdeal.nD Cert.KernelIdeal.τ).loc Cert.KernelIdeal.main_arg60) = m ((c.tc : Thread Cert.KernelIdeal.nD Cert.KernelIdeal.τ).loc Cert.KernelIdeal.main_arg60)
          ∧ r.2.mem ((c.tc : Thread Cert.KernelIdeal.nD Cert.KernelIdeal.τ).loc Cert.KernelIdeal.main_arg61) = m ((c.tc : Thread Cert.KernelIdeal.nD Cert.KernelIdeal.τ).loc Cert.KernelIdeal.main_arg61)
          ∧ r.2.mem ((c.tc : Thread Cert.KernelIdeal.nD Cert.KernelIdeal.τ).loc Cert.KernelIdeal.main_arg62) = m ((c.tc : Thread Cert.KernelIdeal.nD Cert.KernelIdeal.τ).loc Cert.KernelIdeal.main_arg62)
          ∧ r.2.mem ((c.tc : Thread Cert.KernelIdeal.nD Cert.KernelIdeal.τ).loc Cert.KernelIdeal.main_arg63) = m ((c.tc : Thread Cert.KernelIdeal.nD Cert.KernelIdeal.τ).loc Cert.KernelIdeal.main_arg63)
          ∧ r.2.mem ((c.tc : Thread Cert.KernelIdeal.nD Cert.KernelIdeal.τ).loc Cert.KernelIdeal.main_arg64) = m ((c.tc : Thread Cert.KernelIdeal.nD Cert.KernelIdeal.τ).loc Cert.KernelIdeal.main_arg64)
          ∧ r.2.mem ((c.tc : Thread Cert.KernelIdeal.nD Cert.KernelIdeal.τ).loc Cert.KernelIdeal.main_arg65) = m ((c.tc : Thread Cert.KernelIdeal.nD Cert.KernelIdeal.τ).loc Cert.KernelIdeal.main_arg65)
          ∧ r.2.mem ((c.tc : Thread Cert.KernelIdeal.nD Cert.KernelIdeal.τ).loc Cert.KernelIdeal.main_arg66) = m ((c.tc : Thread Cert.KernelIdeal.nD Cert.KernelIdeal.τ).loc Cert.KernelIdeal.main_arg66)
          ∧ r.2.mem ((c.tc : Thread Cert.KernelIdeal.nD Cert.KernelIdeal.τ).loc Cert.KernelIdeal.main_arg67) = m ((c.tc : Thread Cert.KernelIdeal.nD Cert.KernelIdeal.τ).loc Cert.KernelIdeal.main_arg67)
          ∧ r.2.mem ((c.tc : Thread Cert.KernelIdeal.nD Cert.KernelIdeal.τ).loc Cert.KernelIdeal.main_arg68) = m ((c.tc : Thread Cert.KernelIdeal.nD Cert.KernelIdeal.τ).loc Cert.KernelIdeal.main_arg68)
          ∧ r.2.mem ((c.tc : Thread Cert.KernelIdeal.nD Cert.KernelIdeal.τ).loc Cert.KernelIdeal.main_arg69) = m ((c.tc : Thread Cert.KernelIdeal.nD Cert.KernelIdeal.τ).loc Cert.KernelIdeal.main_arg69)
          ∧ r.2.mem ((c.tc : Thread Cert.KernelIdeal.nD Cert.KernelIdeal.τ).loc Cert.KernelIdeal.main_arg70) = m ((c.tc : Thread Cert.KernelIdeal.nD Cert.KernelIdeal.τ).loc Cert.KernelIdeal.main_arg70)
          ∧ r.2.mem ((c.tc : Thread Cert.KernelIdeal.nD Cert.KernelIdeal.τ).loc Cert.KernelIdeal.main_arg71) = m ((c.tc : Thread Cert.KernelIdeal.nD Cert.KernelIdeal.τ).loc Cert.KernelIdeal.main_arg71)
          ∧ r.2.mem ((c.tc : Thread Cert.KernelIdeal.nD Cert.KernelIdeal.τ).loc Cert.KernelIdeal.main_arg72) = m ((c.tc : Thread Cert.KernelIdeal.nD Cert.KernelIdeal.τ).loc Cert.KernelIdeal.main_arg72)
          ∧ r.2.mem ((c.tc : Thread Cert.KernelIdeal.nD Cert.KernelIdeal.τ).loc Cert.KernelIdeal.main_arg73) = m ((c.tc : Thread Cert.KernelIdeal.nD Cert.KernelIdeal.τ).loc Cert.KernelIdeal.main_arg73)
          ∧ r.2.mem ((c.tc : Thread Cert.KernelIdeal.nD Cert.KernelIdeal.τ).loc Cert.KernelIdeal.main_arg74) = m ((c.tc : Thread Cert.KernelIdeal.nD Cert.KernelIdeal.τ).loc Cert.KernelIdeal.main_arg74)
          ∧ r.2.mem ((c.tc : Thread Cert.KernelIdeal.nD Cert.KernelIdeal.τ).loc Cert.KernelIdeal.main_arg75) = m ((c.tc : Thread Cert.KernelIdeal.nD Cert.KernelIdeal.τ).loc Cert.KernelIdeal.main_arg75))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_v107) = v5 c
          ∧ r.2.mem ((c.tc : Thread Cert.ReferenceIdeal.nD Cert.ReferenceIdeal.τ).loc Cert.ReferenceIdeal.main_v132) = v6 c
          ∧ r.2.mem ((c.tc : Thread Cert.ReferenceIdeal.nD Cert.ReferenceIdeal.τ).loc Cert.ReferenceIdeal.main_v155) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49)
          ∧ r.2.mem ((c.tc : Thread Cert.ReferenceIdeal.nD Cert.ReferenceIdeal.τ).loc Cert.ReferenceIdeal.main_arg50) = m' ((c.tc : Thread Cert.ReferenceIdeal.nD Cert.ReferenceIdeal.τ).loc Cert.ReferenceIdeal.main_arg50)
          ∧ r.2.mem ((c.tc : Thread Cert.ReferenceIdeal.nD Cert.ReferenceIdeal.τ).loc Cert.ReferenceIdeal.main_arg51) = m' ((c.tc : Thread Cert.ReferenceIdeal.nD Cert.ReferenceIdeal.τ).loc Cert.ReferenceIdeal.main_arg51)
          ∧ r.2.mem ((c.tc : Thread Cert.ReferenceIdeal.nD Cert.ReferenceIdeal.τ).loc Cert.ReferenceIdeal.main_arg52) = m' ((c.tc : Thread Cert.ReferenceIdeal.nD Cert.ReferenceIdeal.τ).loc Cert.ReferenceIdeal.main_arg52)
          ∧ r.2.mem ((c.tc : Thread Cert.ReferenceIdeal.nD Cert.ReferenceIdeal.τ).loc Cert.ReferenceIdeal.main_arg53) = m' ((c.tc : Thread Cert.ReferenceIdeal.nD Cert.ReferenceIdeal.τ).loc Cert.ReferenceIdeal.main_arg53)
          ∧ r.2.mem ((c.tc : Thread Cert.ReferenceIdeal.nD Cert.ReferenceIdeal.τ).loc Cert.ReferenceIdeal.main_arg54) = m' ((c.tc : Thread Cert.ReferenceIdeal.nD Cert.ReferenceIdeal.τ).loc Cert.ReferenceIdeal.main_arg54)
          ∧ r.2.mem ((c.tc : Thread Cert.ReferenceIdeal.nD Cert.ReferenceIdeal.τ).loc Cert.ReferenceIdeal.main_arg55) = m' ((c.tc : Thread Cert.ReferenceIdeal.nD Cert.ReferenceIdeal.τ).loc Cert.ReferenceIdeal.main_arg55)
          ∧ r.2.mem ((c.tc : Thread Cert.ReferenceIdeal.nD Cert.ReferenceIdeal.τ).loc Cert.ReferenceIdeal.main_arg56) = m' ((c.tc : Thread Cert.ReferenceIdeal.nD Cert.ReferenceIdeal.τ).loc Cert.ReferenceIdeal.main_arg56)
          ∧ r.2.mem ((c.tc : Thread Cert.ReferenceIdeal.nD Cert.ReferenceIdeal.τ).loc Cert.ReferenceIdeal.main_arg57) = m' ((c.tc : Thread Cert.ReferenceIdeal.nD Cert.ReferenceIdeal.τ).loc Cert.ReferenceIdeal.main_arg57)
          ∧ r.2.mem ((c.tc : Thread Cert.ReferenceIdeal.nD Cert.ReferenceIdeal.τ).loc Cert.ReferenceIdeal.main_arg58) = m' ((c.tc : Thread Cert.ReferenceIdeal.nD Cert.ReferenceIdeal.τ).loc Cert.ReferenceIdeal.main_arg58)
          ∧ r.2.mem ((c.tc : Thread Cert.ReferenceIdeal.nD Cert.ReferenceIdeal.τ).loc Cert.ReferenceIdeal.main_arg59) = m' ((c.tc : Thread Cert.ReferenceIdeal.nD Cert.ReferenceIdeal.τ).loc Cert.ReferenceIdeal.main_arg59)
          ∧ r.2.mem ((c.tc : Thread Cert.ReferenceIdeal.nD Cert.ReferenceIdeal.τ).loc Cert.ReferenceIdeal.main_arg60) = m' ((c.tc : Thread Cert.ReferenceIdeal.nD Cert.ReferenceIdeal.τ).loc Cert.ReferenceIdeal.main_arg60)
          ∧ r.2.mem ((c.tc : Thread Cert.ReferenceIdeal.nD Cert.ReferenceIdeal.τ).loc Cert.ReferenceIdeal.main_arg61) = m' ((c.tc : Thread Cert.ReferenceIdeal.nD Cert.ReferenceIdeal.τ).loc Cert.ReferenceIdeal.main_arg61)
          ∧ r.2.mem ((c.tc : Thread Cert.ReferenceIdeal.nD Cert.ReferenceIdeal.τ).loc Cert.ReferenceIdeal.main_arg62) = m' ((c.tc : Thread Cert.ReferenceIdeal.nD Cert.ReferenceIdeal.τ).loc Cert.ReferenceIdeal.main_arg62)
          ∧ r.2.mem ((c.tc : Thread Cert.ReferenceIdeal.nD Cert.ReferenceIdeal.τ).loc Cert.ReferenceIdeal.main_arg63) = m' ((c.tc : Thread Cert.ReferenceIdeal.nD Cert.ReferenceIdeal.τ).loc Cert.ReferenceIdeal.main_arg63)
          ∧ r.2.mem ((c.tc : Thread Cert.ReferenceIdeal.nD Cert.ReferenceIdeal.τ).loc Cert.ReferenceIdeal.main_arg64) = m' ((c.tc : Thread Cert.ReferenceIdeal.nD Cert.ReferenceIdeal.τ).loc Cert.ReferenceIdeal.main_arg64)
          ∧ r.2.mem ((c.tc : Thread Cert.ReferenceIdeal.nD Cert.ReferenceIdeal.τ).loc Cert.ReferenceIdeal.main_arg65) = m' ((c.tc : Thread Cert.ReferenceIdeal.nD Cert.ReferenceIdeal.τ).loc Cert.ReferenceIdeal.main_arg65)
          ∧ r.2.mem ((c.tc : Thread Cert.ReferenceIdeal.nD Cert.ReferenceIdeal.τ).loc Cert.ReferenceIdeal.main_arg66) = m' ((c.tc : Thread Cert.ReferenceIdeal.nD Cert.ReferenceIdeal.τ).loc Cert.ReferenceIdeal.main_arg66)
          ∧ r.2.mem ((c.tc : Thread Cert.ReferenceIdeal.nD Cert.ReferenceIdeal.τ).loc Cert.ReferenceIdeal.main_arg67) = m' ((c.tc : Thread Cert.ReferenceIdeal.nD Cert.ReferenceIdeal.τ).loc Cert.ReferenceIdeal.main_arg67)
          ∧ r.2.mem ((c.tc : Thread Cert.ReferenceIdeal.nD Cert.ReferenceIdeal.τ).loc Cert.ReferenceIdeal.main_arg68) = m' ((c.tc : Thread Cert.ReferenceIdeal.nD Cert.ReferenceIdeal.τ).loc Cert.ReferenceIdeal.main_arg68)
          ∧ r.2.mem ((c.tc : Thread Cert.ReferenceIdeal.nD Cert.ReferenceIdeal.τ).loc Cert.ReferenceIdeal.main_arg69) = m' ((c.tc : Thread Cert.ReferenceIdeal.nD Cert.ReferenceIdeal.τ).loc Cert.ReferenceIdeal.main_arg69)
          ∧ r.2.mem ((c.tc : Thread Cert.ReferenceIdeal.nD Cert.ReferenceIdeal.τ).loc Cert.ReferenceIdeal.main_arg70) = m' ((c.tc : Thread Cert.ReferenceIdeal.nD Cert.ReferenceIdeal.τ).loc Cert.ReferenceIdeal.main_arg70)
          ∧ r.2.mem ((c.tc : Thread Cert.ReferenceIdeal.nD Cert.ReferenceIdeal.τ).loc Cert.ReferenceIdeal.main_arg71) = m' ((c.tc : Thread Cert.ReferenceIdeal.nD Cert.ReferenceIdeal.τ).loc Cert.ReferenceIdeal.main_arg71)
          ∧ r.2.mem ((c.tc : Thread Cert.ReferenceIdeal.nD Cert.ReferenceIdeal.τ).loc Cert.ReferenceIdeal.main_arg72) = m' ((c.tc : Thread Cert.ReferenceIdeal.nD Cert.ReferenceIdeal.τ).loc Cert.ReferenceIdeal.main_arg72)
          ∧ r.2.mem ((c.tc : Thread Cert.ReferenceIdeal.nD Cert.ReferenceIdeal.τ).loc Cert.ReferenceIdeal.main_arg73) = m' ((c.tc : Thread Cert.ReferenceIdeal.nD Cert.ReferenceIdeal.τ).loc Cert.ReferenceIdeal.main_arg73)
          ∧ r.2.mem ((c.tc : Thread Cert.ReferenceIdeal.nD Cert.ReferenceIdeal.τ).loc Cert.ReferenceIdeal.main_arg74) = m' ((c.tc : Thread Cert.ReferenceIdeal.nD Cert.ReferenceIdeal.τ).loc Cert.ReferenceIdeal.main_arg74)
          ∧ r.2.mem ((c.tc : Thread Cert.ReferenceIdeal.nD Cert.ReferenceIdeal.τ).loc Cert.ReferenceIdeal.main_arg75) = m' ((c.tc : Thread Cert.ReferenceIdeal.nD Cert.ReferenceIdeal.τ).loc Cert.ReferenceIdeal.main_arg75))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x16x1 : Shape := ⟨3, ![128, 16, 1]⟩
abbrev S128x16x3 : Shape := ⟨3, ![128, 16, 3]⟩
abbrev S128x16x5 : Shape := ⟨3, ![128, 16, 5]⟩
abbrev S128x16x7 : Shape := ⟨3, ![128, 16, 7]⟩
abbrev S128x1x16 : Shape := ⟨3, ![128, 1, 16]⟩
abbrev S128x3x16 : Shape := ⟨3, ![128, 3, 16]⟩
abbrev S128x5x16 : Shape := ⟨3, ![128, 5, 16]⟩
abbrev S128x7x16 : Shape := ⟨3, ![128, 7, 16]⟩
abbrev S128x1x48 : Shape := ⟨3, ![128, 1, 48]⟩
abbrev S128x3x48 : Shape := ⟨3, ![128, 3, 48]⟩
abbrev S128x5x48 : Shape := ⟨3, ![128, 5, 48]⟩
abbrev S128x7x48 : Shape := ⟨3, ![128, 7, 48]⟩
abbrev S128x1x80 : Shape := ⟨3, ![128, 1, 80]⟩
abbrev S128x3x80 : Shape := ⟨3, ![128, 3, 80]⟩
abbrev S128x5x80 : Shape := ⟨3, ![128, 5, 80]⟩
abbrev S128x7x80 : Shape := ⟨3, ![128, 7, 80]⟩
abbrev S128x1x112 : Shape := ⟨3, ![128, 1, 112]⟩
abbrev S128x3x112 : Shape := ⟨3, ![128, 3, 112]⟩
abbrev S128x5x112 : Shape := ⟨3, ![128, 5, 112]⟩
abbrev S128x7x112 : Shape := ⟨3, ![128, 7, 112]⟩
abbrev S128x128x16 : Shape := ⟨3, ![128, 128, 16]⟩
abbrev S128x288x48 : Shape := ⟨3, ![128, 288, 48]⟩
abbrev S128x352x80 : Shape := ⟨3, ![128, 352, 80]⟩
abbrev S128x320x112 : Shape := ⟨3, ![128, 320, 112]⟩
abbrev S8x16x1 : Shape := ⟨3, ![8, 16, 1]⟩
abbrev S8x16x3 : Shape := ⟨3, ![8, 16, 3]⟩
abbrev S8x16x5 : Shape := ⟨3, ![8, 16, 5]⟩
abbrev S8x16x7 : Shape := ⟨3, ![8, 16, 7]⟩
abbrev S8x1x16 : Shape := ⟨3, ![8, 1, 16]⟩
abbrev S8x3x16 : Shape := ⟨3, ![8, 3, 16]⟩
abbrev S8x5x16 : Shape := ⟨3, ![8, 5, 16]⟩
abbrev S8x7x16 : Shape := ⟨3, ![8, 7, 16]⟩
abbrev S8x1x48 : Shape := ⟨3, ![8, 1, 48]⟩
abbrev S8x3x48 : Shape := ⟨3, ![8, 3, 48]⟩
abbrev S8x5x48 : Shape := ⟨3, ![8, 5, 48]⟩
abbrev S8x7x48 : Shape := ⟨3, ![8, 7, 48]⟩
abbrev S8x1x80 : Shape := ⟨3, ![8, 1, 80]⟩
abbrev S8x3x80 : Shape := ⟨3, ![8, 3, 80]⟩
abbrev S8x5x80 : Shape := ⟨3, ![8, 5, 80]⟩
abbrev S8x7x80 : Shape := ⟨3, ![8, 7, 80]⟩
abbrev S8x1x112 : Shape := ⟨3, ![8, 1, 112]⟩
abbrev S8x3x112 : Shape := ⟨3, ![8, 3, 112]⟩
abbrev S8x5x112 : Shape := ⟨3, ![8, 5, 112]⟩
abbrev S8x7x112 : Shape := ⟨3, ![8, 7, 112]⟩
abbrev S8x128x16 : Shape := ⟨3, ![8, 128, 16]⟩
abbrev S8x288x48 : Shape := ⟨3, ![8, 288, 48]⟩
abbrev S8x352x80 : Shape := ⟨3, ![8, 352, 80]⟩
abbrev S8x320x112 : Shape := ⟨3, ![8, 320, 112]⟩
abbrev S8x1x1 : Shape := ⟨3, ![8, 1, 1]⟩
abbrev S8 : Shape := ⟨1, ![8]⟩
abbrev S8x1 : Shape := ⟨2, ![8, 1]⟩
abbrev S8x16 : Shape := ⟨2, ![8, 16]⟩
abbrev S8x48 : Shape := ⟨2, ![8, 48]⟩
abbrev S8x80 : Shape := ⟨2, ![8, 80]⟩
abbrev S8x112 : Shape := ⟨2, ![8, 112]⟩

abbrev nBuf : Space → Nat
  | .hbm => 84
  | .vmem => 168
  | .smem => 0
  | _ => 0

abbrev vmemTy0_0 (i : Nat) : BufTy := match i % 128 with
  | 0 => ⟨S8x16x1, .f32⟩
  | 1 => ⟨S8x16x1, .f32⟩
  | 2 => ⟨S8x16x3, .f32⟩
  | 3 => ⟨S8x16x3, .f32⟩
  | 4 => ⟨S8x16x5, .f32⟩
  | 5 => ⟨S8x16x5, .f32⟩
  | 6 => ⟨S8x16x7, .f32⟩
  | 7 => ⟨S8x16x7, .f32⟩
  | 8 => ⟨S8x16x1, .f32⟩
  | 9 => ⟨S8x16x1, .f32⟩
  | 10 => ⟨S8x16x3, .f32⟩
  | 11 => ⟨S8x16x3, .f32⟩
  | 12 => ⟨S8x16x5, .f32⟩
  | 13 => ⟨S8x16x5, .f32⟩
  | 14 => ⟨S8x16x7, .f32⟩
  | 15 => ⟨S8x16x7, .f32⟩
  | 16 => ⟨S8x1x16, .f32⟩
  | 17 => ⟨S8x1x16, .f32⟩
  | 18 => ⟨S8x3x16, .f32⟩
  | 19 => ⟨S8x3x16, .f32⟩
  | 20 => ⟨S8x5x16, .f32⟩
  | 21 => ⟨S8x5x16, .f32⟩
  | 22 => ⟨S8x7x16, .f32⟩
  | 23 => ⟨S8x7x16, .f32⟩
  | 24 => ⟨S8x1x48, .f32⟩
  | 25 => ⟨S8x1x48, .f32⟩
  | 26 => ⟨S8x3x48, .f32⟩
  | 27 => ⟨S8x3x48, .f32⟩
  | 28 => ⟨S8x3x48, .f32⟩
  | 29 => ⟨S8x3x48, .f32⟩
  | 30 => ⟨S8x3x48, .f32⟩
  | 31 => ⟨S8x3x48, .f32⟩
  | 32 => ⟨S8x5x48, .f32⟩
  | 33 => ⟨S8x5x48, .f32⟩
  | 34 => ⟨S8x5x48, .f32⟩
  | 35 => ⟨S8x5x48, .f32⟩
  | 36 => ⟨S8x5x48, .f32⟩
  | 37 => ⟨S8x5x48, .f32⟩
  | 38 => ⟨S8x7x48, .f32⟩
  | 39 => ⟨S8x7x48, .f32⟩
  | 40 => ⟨S8x7x48, .f32⟩
  | 41 => ⟨S8x7x48, .f32⟩
  | 42 => ⟨S8x1x80, .f32⟩
  | 43 => ⟨S8x1x80, .f32⟩
  | 44 => ⟨S8x3x80, .f32⟩
  | 45 => ⟨S8x3x80, .f32⟩
  | 46 => ⟨S8x3x80, .f32⟩
  | 47 => ⟨S8x3x80, .f32⟩
  | 48 => ⟨S8x3x80, .f32⟩
  | 49 => ⟨S8x3x80, .f32⟩
  | 50 => ⟨S8x5x80, .f32⟩
  | 51 => ⟨S8x5x80, .f32⟩
  | 52 => ⟨S8x5x80, .f32⟩
  | 53 => ⟨S8x5x80, .f32⟩
  | 54 => ⟨S8x5x80, .f32⟩
  | 55 => ⟨S8x5x80, .f32⟩
  | 56 => ⟨S8x5x80, .f32⟩
  | 57 => ⟨S8x5x80, .f32⟩
  | 58 => ⟨S8x7x80, .f32⟩
  | 59 => ⟨S8x7x80, .f32⟩
  | 60 => ⟨S8x7x80, .f32⟩
  | 61 => ⟨S8x7x80, .f32⟩
  | 62 => ⟨S8x7x80, .f32⟩
  | 63 => ⟨S8x7x80, .f32⟩
  | 64 => ⟨S8x1x112, .f32⟩
  | 65 => ⟨S8x1x112, .f32⟩
  | 66 => ⟨S8x3x112, .f32⟩
  | 67 => ⟨S8x3x112, .f32⟩
  | 68 => ⟨S8x3x112, .f32⟩
  | 69 => ⟨S8x3x112, .f32⟩
  | 70 => ⟨S8x5x112, .f32⟩
  | 71 => ⟨S8x5x112, .f32⟩
  | 72 => ⟨S8x5x112, .f32⟩
  | 73 => ⟨S8x5x112, .f32⟩
  | 74 => ⟨S8x5x112, .f32⟩
  | 75 => ⟨S8x5x112, .f32⟩
  | 76 => ⟨S8x7x112, .f32⟩
  | 77 => ⟨S8x7x112, .f32⟩
  | 78 => ⟨S8x7x112, .f32⟩
  | 79 => ⟨S8x7x112, .f32⟩
  | 80 => ⟨S8x7x112, .f32⟩
  | 81 => ⟨S8x7x112, .f32⟩
  | 82 => ⟨S8x7x112, .f32⟩
  | 83 => ⟨S8x7x112, .f32⟩
  | 84 => ⟨S8x1x16, .f32⟩
  | 85 => ⟨S8x1x16, .f32⟩
  | 86 => ⟨S8x3x16, .f32⟩
  | 87 => ⟨S8x3x16, .f32⟩
  | 88 => ⟨S8x5x16, .f32⟩
  | 89 => ⟨S8x5x16, .f32⟩
  | 90 => ⟨S8x7x16, .f32⟩
  | 91 => ⟨S8x7x16, .f32⟩
  | 92 => ⟨S8x1x48, .f32⟩
  | 93 => ⟨S8x1x48, .f32⟩
  | 94 => ⟨S8x3x48, .f32⟩
  | 95 => ⟨S8x3x48, .f32⟩
  | 96 => ⟨S8x3x48, .f32⟩
  | 97 => ⟨S8x3x48, .f32⟩
  | 98 => ⟨S8x3x48, .f32⟩
  | 99 => ⟨S8x3x48, .f32⟩
  | 100 => ⟨S8x5x48, .f32⟩
  | 101 => ⟨S8x5x48, .f32⟩
  | 102 => ⟨S8x5x48, .f32⟩
  | 103 => ⟨S8x5x48, .f32⟩
  | 104 => ⟨S8x5x48, .f32⟩
  | 105 => ⟨S8x5x48, .f32⟩
  | 106 => ⟨S8x7x48, .f32⟩
  | 107 => ⟨S8x7x48, .f32⟩
  | 108 => ⟨S8x7x48, .f32⟩
  | 109 => ⟨S8x7x48, .f32⟩
  | 110 => ⟨S8x1x80, .f32⟩
  | 111 => ⟨S8x1x80, .f32⟩
  | 112 => ⟨S8x3x80, .f32⟩
  | 113 => ⟨S8x3x80, .f32⟩
  | 114 => ⟨S8x3x80, .f32⟩
  | 115 => ⟨S8x3x80, .f32⟩
  | 116 => ⟨S8x3x80, .f32⟩
  | 117 => ⟨S8x3x80, .f32⟩
  | 118 => ⟨S8x5x80, .f32⟩
  | 119 => ⟨S8x5x80, .f32⟩
  | 120 => ⟨S8x5x80, .f32⟩
  | 121 => ⟨S8x5x80, .f32⟩
  | 122 => ⟨S8x5x80, .f32⟩
  | 123 => ⟨S8x5x80, .f32⟩
  | 124 => ⟨S8x5x80, .f32⟩
  | 125 => ⟨S8x5x80, .f32⟩
  | 126 => ⟨S8x7x80, .f32⟩
  | 127 => ⟨S8x7x80, .f32⟩
  | _ => ⟨S128x16x1, .f32⟩

abbrev vmemTy0_1 (i : Nat) : BufTy := match i % 128 with
  | 0 => ⟨S8x7x80, .f32⟩
  | 1 => ⟨S8x7x80, .f32⟩
  | 2 => ⟨S8x7x80, .f32⟩
  | 3 => ⟨S8x7x80, .f32⟩
  | 4 => ⟨S8x1x112, .f32⟩
  | 5 => ⟨S8x1x112, .f32⟩
  | 6 => ⟨S8x3x112, .f32⟩
  | 7 => ⟨S8x3x112, .f32⟩
  | 8 => ⟨S8x3x112, .f32⟩
  | 9 => ⟨S8x3x112, .f32⟩
  | 10 => ⟨S8x5x112, .f32⟩
  | 11 => ⟨S8x5x112, .f32⟩
  | 12 => ⟨S8x5x112, .f32⟩
  | 13 => ⟨S8x5x112, .f32⟩
  | 14 => ⟨S8x5x112, .f32⟩
  | 15 => ⟨S8x5x112, .f32⟩
  | 16 => ⟨S8x7x112, .f32⟩
  | 17 => ⟨S8x7x112, .f32⟩
  | 18 => ⟨S8x7x112, .f32⟩
  | 19 => ⟨S8x7x112, .f32⟩
  | 20 => ⟨S8x7x112, .f32⟩
  | 21 => ⟨S8x7x112, .f32⟩
  | 22 => ⟨S8x7x112, .f32⟩
  | 23 => ⟨S8x7x112, .f32⟩
  | 24 => ⟨S8x128x16, .f32⟩
  | 25 => ⟨S8x128x16, .f32⟩
  | 26 => ⟨S8x288x48, .f32⟩
  | 27 => ⟨S8x288x48, .f32⟩
  | 28 => ⟨S8x352x80, .f32⟩
  | 29 => ⟨S8x352x80, .f32⟩
  | 30 => ⟨S8x320x112, .f32⟩
  | 31 => ⟨S8x320x112, .f32⟩
  | 32 => ⟨S8x128x16, .f32⟩
  | 33 => ⟨S8x128x16, .f32⟩
  | 34 => ⟨S8x288x48, .f32⟩
  | 35 => ⟨S8x288x48, .f32⟩
  | 36 => ⟨S8x352x80, .f32⟩
  | 37 => ⟨S8x352x80, .f32⟩
  | 38 => ⟨S8x320x112, .f32⟩
  | 39 => ⟨S8x320x112, .f32⟩
  | _ => ⟨S128x16x1, .f32⟩

abbrev vmemTy (i : Nat) : BufTy := match i / 128 with
  | 0 => vmemTy0_0 i
  | 1 => vmemTy0_1 i
  | _ => ⟨S128x16x1, .f32⟩

abbrev bufTy : (tb : Table) → Fin (tcTables nBuf tb) → BufTy
  | .hbm, ⟨0, _⟩ => ⟨S128x16x1, .f32⟩
  | .hbm, ⟨1, _⟩ => ⟨S128x16x3, .f32⟩
  | .hbm, ⟨2, _⟩ => ⟨S128x16x5, .f32⟩
  | .hbm, ⟨3, _⟩ => ⟨S128x16x7, .f32⟩
  | .hbm, ⟨4, _⟩ => ⟨S128x16x1, .f32⟩
  | .hbm, ⟨5, _⟩ => ⟨S128x16x3, .f32⟩
  | .hbm, ⟨6, _⟩ => ⟨S128x16x5, .f32⟩
  | .hbm, ⟨7, _⟩ => ⟨S128x16x7, .f32⟩
  | .hbm, ⟨8, _⟩ => ⟨S128x1x16, .f32⟩
  | .hbm, ⟨9, _⟩ => ⟨S128x3x16, .f32⟩
  | .hbm, ⟨10, _⟩ => ⟨S128x5x16, .f32⟩
  | .hbm, ⟨11, _⟩ => ⟨S128x7x16, .f32⟩
  | .hbm, ⟨12, _⟩ => ⟨S128x1x48, .f32⟩
  | .hbm, ⟨13, _⟩ => ⟨S128x3x48, .f32⟩
  | .hbm, ⟨14, _⟩ => ⟨S128x3x48, .f32⟩
  | .hbm, ⟨15, _⟩ => ⟨S128x3x48, .f32⟩
  | .hbm, ⟨16, _⟩ => ⟨S128x5x48, .f32⟩
  | .hbm, ⟨17, _⟩ => ⟨S128x5x48, .f32⟩
  | .hbm, ⟨18, _⟩ => ⟨S128x5x48, .f32⟩
  | .hbm, ⟨19, _⟩ => ⟨S128x7x48, .f32⟩
  | .hbm, ⟨20, _⟩ => ⟨S128x7x48, .f32⟩
  | .hbm, ⟨21, _⟩ => ⟨S128x1x80, .f32⟩
  | .hbm, ⟨22, _⟩ => ⟨S128x3x80, .f32⟩
  | .hbm, ⟨23, _⟩ => ⟨S128x3x80, .f32⟩
  | .hbm, ⟨24, _⟩ => ⟨S128x3x80, .f32⟩
  | .hbm, ⟨25, _⟩ => ⟨S128x5x80, .f32⟩
  | .hbm, ⟨26, _⟩ => ⟨S128x5x80, .f32⟩
  | .hbm, ⟨27, _⟩ => ⟨S128x5x80, .f32⟩
  | .hbm, ⟨28, _⟩ => ⟨S128x5x80, .f32⟩
  | .hbm, ⟨29, _⟩ => ⟨S128x7x80, .f32⟩
  | .hbm, ⟨30, _⟩ => ⟨S128x7x80, .f32⟩
  | .hbm, ⟨31, _⟩ => ⟨S128x7x80, .f32⟩
  | .hbm, ⟨32, _⟩ => ⟨S128x1x112, .f32⟩
  | .hbm, ⟨33, _⟩ => ⟨S128x3x112, .f32⟩
  | .hbm, ⟨34, _⟩ => ⟨S128x3x112, .f32⟩
  | .hbm, ⟨35, _⟩ => ⟨S128x5x112, .f32⟩
  | .hbm, ⟨36, _⟩ => ⟨S128x5x112, .f32⟩
  | .hbm, ⟨37, _⟩ => ⟨S128x5x112, .f32⟩
  | .hbm, ⟨38, _⟩ => ⟨S128x7x112, .f32⟩
  | .hbm, ⟨39, _⟩ => ⟨S128x7x112, .f32⟩
  | .hbm, ⟨40, _⟩ => ⟨S128x7x112, .f32⟩
  | .hbm, ⟨41, _⟩ => ⟨S128x7x112, .f32⟩
  | .hbm, ⟨42, _⟩ => ⟨S128x1x16, .f32⟩
  | .hbm, ⟨43, _⟩ => ⟨S128x3x16, .f32⟩
  | .hbm, ⟨44, _⟩ => ⟨S128x5x16, .f32⟩
  | .hbm, ⟨45, _⟩ => ⟨S128x7x16, .f32⟩
  | .hbm, ⟨46, _⟩ => ⟨S128x1x48, .f32⟩
  | .hbm, ⟨47, _⟩ => ⟨S128x3x48, .f32⟩
  | .hbm, ⟨48, _⟩ => ⟨S128x3x48, .f32⟩
  | .hbm, ⟨49, _⟩ => ⟨S128x3x48, .f32⟩
  | .hbm, ⟨50, _⟩ => ⟨S128x5x48, .f32⟩
  | .hbm, ⟨51, _⟩ => ⟨S128x5x48, .f32⟩
  | .hbm, ⟨52, _⟩ => ⟨S128x5x48, .f32⟩
  | .hbm, ⟨53, _⟩ => ⟨S128x7x48, .f32⟩
  | .hbm, ⟨54, _⟩ => ⟨S128x7x48, .f32⟩
  | .hbm, ⟨55, _⟩ => ⟨S128x1x80, .f32⟩
  | .hbm, ⟨56, _⟩ => ⟨S128x3x80, .f32⟩
  | .hbm, ⟨57, _⟩ => ⟨S128x3x80, .f32⟩
  | .hbm, ⟨58, _⟩ => ⟨S128x3x80, .f32⟩
  | .hbm, ⟨59, _⟩ => ⟨S128x5x80, .f32⟩
  | .hbm, ⟨60, _⟩ => ⟨S128x5x80, .f32⟩
  | .hbm, ⟨61, _⟩ => ⟨S128x5x80, .f32⟩
  | .hbm, ⟨62, _⟩ => ⟨S128x5x80, .f32⟩
  | .hbm, ⟨63, _⟩ => ⟨S128x7x80, .f32⟩
  | .hbm, ⟨64, _⟩ => ⟨S128x7x80, .f32⟩
  | .hbm, ⟨65, _⟩ => ⟨S128x7x80, .f32⟩
  | .hbm, ⟨66, _⟩ => ⟨S128x1x112, .f32⟩
  | .hbm, ⟨67, _⟩ => ⟨S128x3x112, .f32⟩
  | .hbm, ⟨68, _⟩ => ⟨S128x3x112, .f32⟩
  | .hbm, ⟨69, _⟩ => ⟨S128x5x112, .f32⟩
  | .hbm, ⟨70, _⟩ => ⟨S128x5x112, .f32⟩
  | .hbm, ⟨71, _⟩ => ⟨S128x5x112, .f32⟩
  | .hbm, ⟨72, _⟩ => ⟨S128x7x112, .f32⟩
  | .hbm, ⟨73, _⟩ => ⟨S128x7x112, .f32⟩
  | .hbm, ⟨74, _⟩ => ⟨S128x7x112, .f32⟩
  | .hbm, ⟨75, _⟩ => ⟨S128x7x112, .f32⟩
  | .hbm, ⟨76, _⟩ => ⟨S128x128x16, .f32⟩
  | .hbm, ⟨77, _⟩ => ⟨S128x288x48, .f32⟩
  | .hbm, ⟨78, _⟩ => ⟨S128x352x80, .f32⟩
  | .hbm, ⟨79, _⟩ => ⟨S128x320x112, .f32⟩
  | .hbm, ⟨80, _⟩ => ⟨S128x128x16, .f32⟩
  | .hbm, ⟨81, _⟩ => ⟨S128x288x48, .f32⟩
  | .hbm, ⟨82, _⟩ => ⟨S128x352x80, .f32⟩
  | .hbm, ⟨83, _⟩ => ⟨S128x320x112, .f32⟩
  | .local _ .vmem, ⟨i, _⟩ => vmemTy i
  | _, _ => ⟨S128x16x1, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_v0_0 : Ref sig .tc := ⟨.hbm, 76, rfl⟩
abbrev main_v0_1 : Ref sig .tc := ⟨.hbm, 77, rfl⟩
abbrev main_v0_2 : Ref sig .tc := ⟨.hbm, 78, rfl⟩
abbrev main_v0_3 : Ref sig .tc := ⟨.hbm, 79, rfl⟩
abbrev main_v0_4 : Ref sig .tc := ⟨.hbm, 80, rfl⟩
abbrev main_v0_5 : Ref sig .tc := ⟨.hbm, 81, rfl⟩
abbrev main_v0_6 : Ref sig .tc := ⟨.hbm, 82, rfl⟩
abbrev main_v0_7 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg73_1 : Ref sig .tc := ⟨.vmem, 147, rfl⟩
abbrev cc0_stg74_0 : Ref sig .tc := ⟨.vmem, 148, rfl⟩
abbrev cc0_stg74_1 : Ref sig .tc := ⟨.vmem, 149, rfl⟩
abbrev cc0_stg75_0 : Ref sig .tc := ⟨.vmem, 150, rfl⟩
abbrev cc0_stg75_1 : Ref sig .tc := ⟨.vmem, 151, rfl⟩
abbrev cc0_stg76_0 : Ref sig .tc := ⟨.vmem, 152, rfl⟩
abbrev cc0_stg76_1 : Ref sig .tc := ⟨.vmem, 153, rfl⟩
abbrev cc0_stg77_0 : Ref sig .tc := ⟨.vmem, 154, rfl⟩
abbrev cc0_stg77_1 : Ref sig .tc := ⟨.vmem, 155, rfl⟩
abbrev cc0_stg78_0 : Ref sig .tc := ⟨.vmem, 156, rfl⟩
abbrev cc0_stg78_1 : Ref sig .tc := ⟨.vmem, 157, rfl⟩
abbrev cc0_stg79_0 : Ref sig .tc := ⟨.vmem, 158, rfl⟩
abbrev cc0_stg79_1 : Ref sig .tc := ⟨.vmem, 159, rfl⟩
abbrev cc0_stg80_0 : Ref sig .tc := ⟨.vmem, 160, rfl⟩
abbrev cc0_stg80_1 : Ref sig .tc := ⟨.vmem, 161, rfl⟩
abbrev cc0_stg81_0 : Ref sig .tc := ⟨.vmem, 162, rfl⟩
abbrev cc0_stg81_1 : Ref sig .tc := ⟨.vmem, 163, rfl⟩
abbrev cc0_stg82_0 : Ref sig .tc := ⟨.vmem, 164, rfl⟩
abbrev cc0_stg82_1 : Ref sig .tc := ⟨.vmem, 165, rfl⟩
abbrev cc0_stg83_0 : Ref sig .tc := ⟨.vmem, 166, rfl⟩
abbrev cc0_stg83_1 : Ref sig .tc := ⟨.vmem, 167, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem73_1 : DmaSem sig := 147
abbrev cc0_sem74_0 : DmaSem sig := 148
abbrev cc0_sem74_1 : DmaSem sig := 149
abbrev cc0_sem75_0 : DmaSem sig := 150
abbrev cc0_sem75_1 : DmaSem sig := 151
abbrev cc0_sem76_0 : DmaSem sig := 152
abbrev cc0_sem76_1 : DmaSem sig := 153
abbrev cc0_sem77_0 : DmaSem sig := 154
abbrev cc0_sem77_1 : DmaSem sig := 155
abbrev cc0_sem78_0 : DmaSem sig := 156
abbrev cc0_sem78_1 : DmaSem sig := 157
abbrev cc0_sem79_0 : DmaSem sig := 158
abbrev cc0_sem79_1 : DmaSem sig := 159
abbrev cc0_sem80_0 : DmaSem sig := 160
abbrev cc0_sem80_1 : DmaSem sig := 161
abbrev cc0_sem81_0 : DmaSem sig := 162
abbrev cc0_sem81_1 : DmaSem sig := 163
abbrev cc0_sem82_0 : DmaSem sig := 164
abbrev cc0_sem82_1 : DmaSem sig := 165
abbrev cc0_sem83_0 : DmaSem sig := 166
abbrev cc0_sem83_1 : DmaSem sig := 167

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0 : Index := 0#32
  let c0_i32 : BitVec 32 := 0#32
  let c1_i32 : BitVec 32 := 1#32
  let arg85 : BitVec 32 := Scf.iv c0_i32 c1_i32 k0_t1
  let v136 : Index := Scalar.indexCast arg85
  let c0_541 : Index := 0#32
  ![0, v136.toNat, 0]
def k0_off2 (k0_t1 : Fin k0_t1_loop.trips) : Fin 3 → Nat :=
  let c0_546 : Index := 0#32
  let c0_i32_545 : BitVec 32 := 0#32
  let c0_i32 : BitVec 32 := 0#32
  let c1_i32 : BitVec 32 := 1#32
  let arg85 : BitVec 32 := Scf.iv c0_i32 c1_i32 k0_t1
  let v144 : BitVec 32 := Scalar.addi c0_i32_545 arg85
  let v145 : Index := Scalar.indexCast v144
  let c0_547 : Index := 0#32
  ![0, v145.toNat, 0]
@[reducible] def k0_t2_loop : Scf.Loop 32 :=
  let c0_i32_1 : BitVec 32 := 0#32
  let c16_i32_2 : BitVec 32 := 16#32
  let v1 : BitVec 32 := Scalar.addi c0_i32_1 c16_i32_2
  let c1_i32_3 : BitVec 32 := 1#32
  ⟨c0_i32_1, v1, c1_i32_3⟩
def k0_off3 (k0_t2 : Fin k0_t2_loop.trips) : Fin 3 → Nat :=
  let c0 : Index := 0#32
  let c0_i32_1 : BitVec 32 := 0#32
  let c1_i32_3 : BitVec 32 := 1#32
  let arg85 : BitVec 32 := Scf.iv c0_i32_1 c1_i32_3 k0_t2
  let v136 : Index := Scalar.indexCast arg85
  let c0_541 : Index := 0#32
  ![0, v136.toNat, 0]
def k0_off4 (k0_t2 : Fin k0_t2_loop.trips) : Fin 3 → Nat :=
  let c0_545 : Index := 0#32
  let c0_i32_1 : BitVec 32 := 0#32
  let c1_i32_3 : BitVec 32 := 1#32
  let arg85 : BitVec 32 := Scf.iv c0_i32_1 c1_i32_3 k0_t2
  let v144 : Index := Scalar.indexCast arg85
  let c1 : Index := 1#32
  ![0, v144.toNat, 1]
def k0_off5 (k0_t2 : Fin k0_t2_loop.trips) : Fin 3 → Nat :=
  let c0_549 : Index := 0#32
  let c0_i32_1 : BitVec 32 := 0#32
  let c1_i32_3 : BitVec 32 := 1#32
  let arg85 : BitVec 32 := Scf.iv c0_i32_1 c1_i32_3 k0_t2
  let v153 : Index := Scalar.indexCast arg85
  let c2 : Index := 2#32
  ![0, v153.toNat, 2]
def k0_off6 (k0_t2 : Fin k0_t2_loop.trips) : Fin 3 → Nat :=
  let c0_554 : Index := 0#32
  let c16_i32_553 : BitVec 32 := 16#32
  let c0_i32_1 : BitVec 32 := 0#32
  let c1_i32_3 : BitVec 32 := 1#32
  let arg85 : BitVec 32 := Scf.iv c0_i32_1 c1_i32_3 k0_t2
  let v162 : BitVec 32 := Scalar.addi c16_i32_553 arg85
  let v163 : Index := Scalar.indexCast v162
  let c0_555 : Index := 0#32
  ![0, v163.toNat, 0]
@[reducible] def k0_t3_loop : Scf.Loop 32 :=
  let c0_i32_5 : BitVec 32 := 0#32
  let c16_i32_6 : BitVec 32 := 16#32
  let v2 : BitVec 32 := Scalar.addi c0_i32_5 c16_i32_6
  let c1_i32_7 : BitVec 32 := 1#32
  ⟨c0_i32_5, v2, c1_i32_7⟩
def k0_off7 (k0_t3 : Fin k0_t3_loop.trips) : Fin 3 → Nat :=
  let c0 : Index := 0#32
  let c0_i32_5 : BitVec 32 := 0#32
  let c1_i32_7 : BitVec 32 := 1#32
  let arg85 : BitVec 32 := Scf.iv c0_i32_5 c1_i32_7 k0_t3
  let v136 : Index := Scalar.indexCast arg85
  let c0_541 : Index := 0#32
  ![0, v136.toNat, 0]
def k0_off8 (k0_t3 : Fin k0_t3_loop.trips) : Fin 3 → Nat :=
  let c0_545 : Index := 0#32
  let c0_i32_5 : BitVec 32 := 0#32
  let c1_i32_7 : BitVec 32 := 1#32
  let arg85 : BitVec 32 := Scf.iv c0_i32_5 c1_i32_7 k0_t3
  let v144 : Index := Scalar.indexCast arg85
  let c1 : Index := 1#32
  ![0, v144.toNat, 1]
def k0_off9 (k0_t3 : Fin k0_t3_loop.trips) : Fin 3 → Nat :=
  let c0_549 : Index := 0#32
  let c0_i32_5 : BitVec 32 := 0#32
  let c1_i32_7 : BitVec 32 := 1#32
  let arg85 : BitVec 32 := Scf.iv c0_i32_5 c1_i32_7 k0_t3
  let v153 : Index := Scalar.indexCast arg85
  let c2 : Index := 2#32
  ![0, v153.toNat, 2]
def k0_off10 (k0_t3 : Fin k0_t3_loop.trips) : Fin 3 → Nat :=
  let c0_553 : Index := 0#32
  let c0_i32_5 : BitVec 32 := 0#32
  let c1_i32_7 : BitVec 32 := 1#32
  let arg85 : BitVec 32 := Scf.iv c0_i32_5 c1_i32_7 k0_t3
  let v162 : Index := Scalar.indexCast arg85
  let c3 : Index := 3#32
  ![0, v162.toNat, 3]
def k0_off11 (k0_t3 : Fin k0_t3_loop.trips) : Fin 3 → Nat :=
  let c0_557 : Index := 0#32
  let c0_i32_5 : BitVec 32 := 0#32
  let c1_i32_7 : BitVec 32 := 1#32
  let arg85 : BitVec 32 := Scf.iv c0_i32_5 c1_i32_7 k0_t3
  let v171 : Index := Scalar.indexCast arg85
  let c4 : Index := 4#32
  ![0, v171.toNat, 4]
def k0_off12 (k0_t3 : Fin k0_t3_loop.trips) : Fin 3 → Nat :=
  let c0_561 : Index := 0#32
  let c32_i32 : BitVec 32 := 32#32
  let c0_i32_5 : BitVec 32 := 0#32
  let c1_i32_7 : BitVec 32 := 1#32
  let arg85 : BitVec 32 := Scf.iv c0_i32_5 c1_i32_7 k0_t3
  let v180 : BitVec 32 := Scalar.addi c32_i32 arg85
  let v181 : Index := Scalar.indexCast v180
  let c0_562 : Index := 0#32
  ![0, v181.toNat, 0]
@[reducible] def k0_t4_loop : Scf.Loop 32 :=
  let c0_i32_9 : BitVec 32 := 0#32
  let c16_i32_10 : BitVec 32 := 16#32
  let v3 : BitVec 32 := Scalar.addi c0_i32_9 c16_i32_10
  let c1_i32_11 : BitVec 32 := 1#32
  ⟨c0_i32_9, v3, c1_i32_11⟩
def k0_off13 (k0_t4 : Fin k0_t4_loop.trips) : Fin 3 → Nat :=
  let c0 : Index := 0#32
  let c0_i32_9 : BitVec 32 := 0#32
  let c1_i32_11 : BitVec 32 := 1#32
  let arg85 : BitVec 32 := Scf.iv c0_i32_9 c1_i32_11 k0_t4
  let v136 : Index := Scalar.indexCast arg85
  let c0_541 : Index := 0#32
  ![0, v136.toNat, 0]
def k0_off14 (k0_t4 : Fin k0_t4_loop.trips) : Fin 3 → Nat :=
  let c0_545 : Index := 0#32
  let c0_i32_9 : BitVec 32 := 0#32
  let c1_i32_11 : BitVec 32 := 1#32
  let arg85 : BitVec 32 := Scf.iv c0_i32_9 c1_i32_11 k0_t4
  let v144 : Index := Scalar.indexCast arg85
  let c1 : Index := 1#32
  ![0, v144.toNat, 1]
def k0_off15 (k0_t4 : Fin k0_t4_loop.trips) : Fin 3 → Nat :=
  let c0_549 : Index := 0#32
  let c0_i32_9 : BitVec 32 := 0#32
  let c1_i32_11 : BitVec 32 := 1#32
  let arg85 : BitVec 32 := Scf.iv c0_i32_9 c1_i32_11 k0_t4
  let v153 : Index := Scalar.indexCast arg85
  let c2 : Index := 2#32
  ![0, v153.toNat, 2]
def k0_off16 (k0_t4 : Fin k0_t4_loop.trips) : Fin 3 → Nat :=
  let c0_553 : Index := 0#32
  let c0_i32_9 : BitVec 32 := 0#32
  let c1_i32_11 : BitVec 32 := 1#32
  let arg85 : BitVec 32 := Scf.iv c0_i32_9 c1_i32_11 k0_t4
  let v162 : Index := Scalar.indexCast arg85
  let c3 : Index := 3#32
  ![0, v162.toNat, 3]
def k0_off17 (k0_t4 : Fin k0_t4_loop.trips) : Fin 3 → Nat :=
  let c0_557 : Index := 0#32
  let c0_i32_9 : BitVec 32 := 0#32
  let c1_i32_11 : BitVec 32 := 1#32
  let arg85 : BitVec 32 := Scf.iv c0_i32_9 c1_i32_11 k0_t4
  let v171 : Index := Scalar.indexCast arg85
  let c4 : Index := 4#32
  ![0, v171.toNat, 4]
def k0_off18 (k0_t4 : Fin k0_t4_loop.trips) : Fin 3 → Nat :=
  let c0_561 : Index := 0#32
  let c0_i32_9 : BitVec 32 := 0#32
  let c1_i32_11 : BitVec 32 := 1#32
  let arg85 : BitVec 32 := Scf.iv c0_i32_9 c1_i32_11 k0_t4
  let v180 : Index := Scalar.indexCast arg85
  let c5 : Index := 5#32
  ![0, v180.toNat, 5]
def k0_off19 (k0_t4 : Fin k0_t4_loop.trips) : Fin 3 → Nat :=
  let c0_565 : Index := 0#32
  let c0_i32_9 : BitVec 32 := 0#32
  let c1_i32_11 : BitVec 32 := 1#32
  let arg85 : BitVec 32 := Scf.iv c0_i32_9 c1_i32_11 k0_t4
  let v189 : Index := Scalar.indexCast arg85
  let c6 : Index := 6#32
  ![0, v189.toNat, 6]
def k0_off20 (k0_t4 : Fin k0_t4_loop.trips) : Fin 3 → Nat :=
  let c0_569 : Index := 0#32
  let c48_i32 : BitVec 32 := 48#32
  let c0_i32_9 : BitVec 32 := 0#32
  let c1_i32_11 : BitVec 32 := 1#32
  let arg85 : BitVec 32 := Scf.iv c0_i32_9 c1_i32_11 k0_t4
  let v198 : BitVec 32 := Scalar.addi c48_i32 arg85
  let v199 : Index := Scalar.indexCast v198
  let c0_570 : Index := 0#32
  ![0, v199.toNat, 0]
@[reducible] def k0_t5_loop : Scf.Loop 32 :=
  let c0_i32_13 : BitVec 32 := 0#32
  let c16_i32_14 : BitVec 32 := 16#32
  let v4 : BitVec 32 := Scalar.addi c0_i32_13 c16_i32_14
  let c1_i32_15 : BitVec 32 := 1#32
  ⟨c0_i32_13, v4, c1_i32_15⟩
def k0_off21 (k0_t5 : Fin k0_t5_loop.trips) : Fin 3 → Nat :=
  let c0 : Index := 0#32
  let c0_i32_13 : BitVec 32 := 0#32
  let c1_i32_15 : BitVec 32 := 1#32
  let arg85 : BitVec 32 := Scf.iv c0_i32_13 c1_i32_15 k0_t5
  let v136 : Index := Scalar.indexCast arg85
  let c0_541 : Index := 0#32
  ![0, v136.toNat, 0]
def k0_off22 (k0_t5 : Fin k0_t5_loop.trips) : Fin 3 → Nat :=
  let c0_545 : Index := 0#32
  let c64_i32 : BitVec 32 := 64#32
  let c0_i32_13 : BitVec 32 := 0#32
  let c1_i32_15 : BitVec 32 := 1#32
  let arg85 : BitVec 32 := Scf.iv c0_i32_13 c1_i32_15 k0_t5
  let v144 : BitVec 32 := Scalar.addi c64_i32 arg85
  let v145 : Index := Scalar.indexCast v144
  let c0_546 : Index := 0#32
  ![0, v145.toNat, 0]
@[reducible] def k0_t6_loop : Scf.Loop 32 :=
  let c0_i32_17 : BitVec 32 := 0#32
  let c16_i32_18 : BitVec 32 := 16#32
  let v5 : BitVec 32 := Scalar.addi c0_i32_17 c16_i32_18
  let c1_i32_19 : BitVec 32 := 1#32
  ⟨c0_i32_17, v5, c1_i32_19⟩
def k0_off23 (k0_t6 : Fin k0_t6_loop.trips) : Fin 3 → Nat :=
  let c0 : Index := 0#32
  let c0_i32_17 : BitVec 32 := 0#32
  let c1_i32_19 : BitVec 32 := 1#32
  let arg85 : BitVec 32 := Scf.iv c0_i32_17 c1_i32_19 k0_t6
  let v136 : Index := Scalar.indexCast arg85
  let c0_541 : Index := 0#32
  ![0, v136.toNat, 0]
def k0_off24 (k0_t6 : Fin k0_t6_loop.trips) : Fin 3 → Nat :=
  let c0_545 : Index := 0#32
  let c0_i32_17 : BitVec 32 := 0#32
  let c1_i32_19 : BitVec 32 := 1#32
  let arg85 : BitVec 32 := Scf.iv c0_i32_17 c1_i32_19 k0_t6
  let v144 : Index := Scalar.indexCast arg85
  let c1 : Index := 1#32
  ![0, v144.toNat, 1]
def k0_off25 (k0_t6 : Fin k0_t6_loop.trips) : Fin 3 → Nat :=
  let c0_549 : Index := 0#32
  let c0_i32_17 : BitVec 32 := 0#32
  let c1_i32_19 : BitVec 32 := 1#32
  let arg85 : BitVec 32 := Scf.iv c0_i32_17 c1_i32_19 k0_t6
  let v153 : Index := Scalar.indexCast arg85
  let c2 : Index := 2#32
  ![0, v153.toNat, 2]
def k0_off26 (k0_t6 : Fin k0_t6_loop.trips) : Fin 3 → Nat :=
  let c0_553 : Index := 0#32
  let c80_i32 : BitVec 32 := 80#32
  let c0_i32_17 : BitVec 32 := 0#32
  let c1_i32_19 : BitVec 32 := 1#32
  let arg85 : BitVec 32 := Scf.iv c0_i32_17 c1_i32_19 k0_t6
  let v162 : BitVec 32 := Scalar.addi c80_i32 arg85
  let v163 : Index := Scalar.indexCast v162
  let c0_554 : Index := 0#32
  ![0, v163.toNat, 0]
@[reducible] def k0_t7_loop : Scf.Loop 32 :=
  let c0_i32_21 : BitVec 32 := 0#32
  let c16_i32_22 : BitVec 32 := 16#32
  let v6 : BitVec 32 := Scalar.addi c0_i32_21 c16_i32_22
  let c1_i32_23 : BitVec 32 := 1#32
  ⟨c0_i32_21, v6, c1_i32_23⟩
def k0_off27 (k0_t7 : Fin k0_t7_loop.trips) : Fin 3 → Nat :=
  let c0 : Index := 0#32
  let c0_i32_21 : BitVec 32 := 0#32
  let c1_i32_23 : BitVec 32 := 1#32
  let arg85 : BitVec 32 := Scf.iv c0_i32_21 c1_i32_23 k0_t7
  let v136 : Index := Scalar.indexCast arg85
  let c0_541 : Index := 0#32
  ![0, v136.toNat, 0]
def k0_off28 (k0_t7 : Fin k0_t7_loop.trips) : Fin 3 → Nat :=
  let c0_545 : Index := 0#32
  let c0_i32_21 : BitVec 32 := 0#32
  let c1_i32_23 : BitVec 32 := 1#32
  let arg85 : BitVec 32 := Scf.iv c0_i32_21 c1_i32_23 k0_t7
  let v144 : Index := Scalar.indexCast arg85
  let c1 : Index := 1#32
  ![0, v144.toNat, 1]
def k0_off29 (k0_t7 : Fin k0_t7_loop.trips) : Fin 3 → Nat :=
  let c0_549 : Index := 0#32
  let c0_i32_21 : BitVec 32 := 0#32
  let c1_i32_23 : BitVec 32 := 1#32
  let arg85 : BitVec 32 := Scf.iv c0_i32_21 c1_i32_23 k0_t7
  let v153 : Index := Scalar.indexCast arg85
  let c2 : Index := 2#32
  ![0, v153.toNat, 2]
def k0_off30 (k0_t7 : Fin k0_t7_loop.trips) : Fin 3 → Nat :=
  let c0_553 : Index := 0#32
  let c0_i32_21 : BitVec 32 := 0#32
  let c1_i32_23 : BitVec 32 := 1#32
  let arg85 : BitVec 32 := Scf.iv c0_i32_21 c1_i32_23 k0_t7
  let v162 : Index := Scalar.indexCast arg85
  let c3 : Index := 3#32
  ![0, v162.toNat, 3]
def k0_off31 (k0_t7 : Fin k0_t7_loop.trips) : Fin 3 → Nat :=
  let c0_557 : Index := 0#32
  let c0_i32_21 : BitVec 32 := 0#32
  let c1_i32_23 : BitVec 32 := 1#32
  let arg85 : BitVec 32 := Scf.iv c0_i32_21 c1_i32_23 k0_t7
  let v171 : Index := Scalar.indexCast arg85
  let c4 : Index := 4#32
  ![0, v171.toNat, 4]
def k0_off32 (k0_t7 : Fin k0_t7_loop.trips) : Fin 3 → Nat :=
  let c0_561 : Index := 0#32
  let c96_i32 : BitVec 32 := 96#32
  let c0_i32_21 : BitVec 32 := 0#32
  let c1_i32_23 : BitVec 32 := 1#32
  let arg85 : BitVec 32 := Scf.iv c0_i32_21 c1_i32_23 k0_t7
  let v180 : BitVec 32 := Scalar.addi c96_i32 arg85
  let v181 : Index := Scalar.indexCast v180
  let c0_562 : Index := 0#32
  ![0, v181.toNat, 0]
@[reducible] def k0_t8_loop : Scf.Loop 32 :=
  let c0_i32_25 : BitVec 32 := 0#32
  let c16_i32_26 : BitVec 32 := 16#32
  let v7 : BitVec 32 := Scalar.addi c0_i32_25 c16_i32_26
  let c1_i32_27 : BitVec 32 := 1#32
  ⟨c0_i32_25, v7, c1_i32_27⟩
def k0_off33 (k0_t8 : Fin k0_t8_loop.trips) : Fin 3 → Nat :=
  let c0 : Index := 0#32
  let c0_i32_25 : BitVec 32 := 0#32
  let c1_i32_27 : BitVec 32 := 1#32
  let arg85 : BitVec 32 := Scf.iv c0_i32_25 c1_i32_27 k0_t8
  let v136 : Index := Scalar.indexCast arg85
  let c0_541 : Index := 0#32
  ![0, v136.toNat, 0]
def k0_off34 (k0_t8 : Fin k0_t8_loop.trips) : Fin 3 → Nat :=
  let c0_545 : Index := 0#32
  let c0_i32_25 : BitVec 32 := 0#32
  let c1_i32_27 : BitVec 32 := 1#32
  let arg85 : BitVec 32 := Scf.iv c0_i32_25 c1_i32_27 k0_t8
  let v144 : Index := Scalar.indexCast arg85
  let c1 : Index := 1#32
  ![0, v144.toNat, 1]
def k0_off35 (k0_t8 : Fin k0_t8_loop.trips) : Fin 3 → Nat :=
  let c0_549 : Index := 0#32
  let c0_i32_25 : BitVec 32 := 0#32
  let c1_i32_27 : BitVec 32 := 1#32
  let arg85 : BitVec 32 := Scf.iv c0_i32_25 c1_i32_27 k0_t8
  let v153 : Index := Scalar.indexCast arg85
  let c2 : Index := 2#32
  ![0, v153.toNat, 2]
def k0_off36 (k0_t8 : Fin k0_t8_loop.trips) : Fin 3 → Nat :=
  let c0_553 : Index := 0#32
  let c0_i32_25 : BitVec 32 := 0#32
  let c1_i32_27 : BitVec 32 := 1#32
  let arg85 : BitVec 32 := Scf.iv c0_i32_25 c1_i32_27 k0_t8
  let v162 : Index := Scalar.indexCast arg85
  let c3 : Index := 3#32
  ![0, v162.toNat, 3]
def k0_off37 (k0_t8 : Fin k0_t8_loop.trips) : Fin 3 → Nat :=
  let c0_557 : Index := 0#32
  let c0_i32_25 : BitVec 32 := 0#32
  let c1_i32_27 : BitVec 32 := 1#32
  let arg85 : BitVec 32 := Scf.iv c0_i32_25 c1_i32_27 k0_t8
  let v171 : Index := Scalar.indexCast arg85
  let c4 : Index := 4#32
  ![0, v171.toNat, 4]
def k0_off38 (k0_t8 : Fin k0_t8_loop.trips) : Fin 3 → Nat :=
  let c0_561 : Index := 0#32
  let c0_i32_25 : BitVec 32 := 0#32
  let c1_i32_27 : BitVec 32 := 1#32
  let arg85 : BitVec 32 := Scf.iv c0_i32_25 c1_i32_27 k0_t8
  let v180 : Index := Scalar.indexCast arg85
  let c5 : Index := 5#32
  ![0, v180.toNat, 5]
def k0_off39 (k0_t8 : Fin k0_t8_loop.trips) : Fin 3 → Nat :=
  let c0_565 : Index := 0#32
  let c0_i32_25 : BitVec 32 := 0#32
  let c1_i32_27 : BitVec 32 := 1#32
  let arg85 : BitVec 32 := Scf.iv c0_i32_25 c1_i32_27 k0_t8
  let v189 : Index := Scalar.indexCast arg85
  let c6 : Index := 6#32
  ![0, v189.toNat, 6]
def k0_off40 (k0_t8 : Fin k0_t8_loop.trips) : Fin 3 → Nat :=
  let c0_569 : Index := 0#32
  let c112_i32 : BitVec 32 := 112#32
  let c0_i32_25 : BitVec 32 := 0#32
  let c1_i32_27 : BitVec 32 := 1#32
  let arg85 : BitVec 32 := Scf.iv c0_i32_25 c1_i32_27 k0_t8
  let v198 : BitVec 32 := Scalar.addi c112_i32 arg85
  let v199 : Index := Scalar.indexCast v198
  let c0_570 : Index := 0#32
  ![0, v199.toNat, 0]
@[reducible] def k0_t9_loop : Scf.Loop 32 :=
  let c0_i32_29 : BitVec 32 := 0#32
  let c16_i32_30 : BitVec 32 := 16#32
  let v8 : BitVec 32 := Scalar.addi c0_i32_29 c16_i32_30
  let c1_i32_31 : BitVec 32 := 1#32
  ⟨c0_i32_29, v8, c1_i32_31⟩
def k0_off41 (k0_t9 : Fin k0_t9_loop.trips) : Fin 3 → Nat :=
  let c0 : Index := 0#32
  let c0_i32_29 : BitVec 32 := 0#32
  let c1_i32_31 : BitVec 32 := 1#32
  let arg85 : BitVec 32 := Scf.iv c0_i32_29 c1_i32_31 k0_t9
  let v136 : Index := Scalar.indexCast arg85
  let c0_541 : Index := 0#32
  ![0, v136.toNat, 0]
def k0_off42 (k0_t9 : Fin k0_t9_loop.trips) : Fin 3 → Nat :=
  let c0_546 : Index := 0#32
  let c0_i32_545 : BitVec 32 := 0#32
  let c0_i32_29 : BitVec 32 := 0#32
  let c1_i32_31 : BitVec 32 := 1#32
  let arg85 : BitVec 32 := Scf.iv c0_i32_29 c1_i32_31 k0_t9
  let v144 : BitVec 32 := Scalar.addi c0_i32_545 arg85
  let v145 : Index := Scalar.indexCast v144
  let c0_547 : Index := 0#32
  ![0, v145.toNat, 0]
@[reducible] def k0_t10_loop : Scf.Loop 32 :=
  let c0_i32_33 : BitVec 32 := 0#32
  let c16_i32_34 : BitVec 32 := 16#32
  let v9 : BitVec 32 := Scalar.addi c0_i32_33 c16_i32_34
  let c1_i32_35 : BitVec 32 := 1#32
  ⟨c0_i32_33, v9, c1_i32_35⟩
def k0_off43 (k0_t10 : Fin k0_t10_loop.trips) : Fin 3 → Nat :=
  let c0 : Index := 0#32
  let c0_i32_33 : BitVec 32 := 0#32
  let c1_i32_35 : BitVec 32 := 1#32
  let arg85 : BitVec 32 := Scf.iv c0_i32_33 c1_i32_35 k0_t10
  let v136 : Index := Scalar.indexCast arg85
  let c0_541 : Index := 0#32
  ![0, v136.toNat, 0]
def k0_off44 (k0_t10 : Fin k0_t10_loop.trips) : Fin 3 → Nat :=
  let c0_545 : Index := 0#32
  let c0_i32_33 : BitVec 32 := 0#32
  let c1_i32_35 : BitVec 32 := 1#32
  let arg85 : BitVec 32 := Scf.iv c0_i32_33 c1_i32_35 k0_t10
  let v144 : Index := Scalar.indexCast arg85
  let c1 : Index := 1#32
  ![0, v144.toNat, 1]
def k0_off45 (k0_t10 : Fin k0_t10_loop.trips) : Fin 3 → Nat :=
  let c0_549 : Index := 0#32
  let c0_i32_33 : BitVec 32 := 0#32
  let c1_i32_35 : BitVec 32 := 1#32
  let arg85 : BitVec 32 := Scf.iv c0_i32_33 c1_i32_35 k0_t10
  let v153 : Index := Scalar.indexCast arg85
  let c2 : Index := 2#32
  ![0, v153.toNat, 2]
def k0_off46 (k0_t10 : Fin k0_t10_loop.trips) : Fin 3 → Nat :=
  let c0_554 : Index := 0#32
  let c16_i32_553 : BitVec 32 := 16#32
  let c0_i32_33 : BitVec 32 := 0#32
  let c1_i32_35 : BitVec 32 := 1#32
  let arg85 : BitVec 32 := Scf.iv c0_i32_33 c1_i32_35 k0_t10
  let v162 : BitVec 32 := Scalar.addi c16_i32_553 arg85
  let v163 : Index := Scalar.indexCast v162
  let c0_555 : Index := 0#32
  ![0, v163.toNat, 0]
@[reducible] def k0_t11_loop : Scf.Loop 32 :=
  let c0_i32_37 : BitVec 32 := 0#32
  let c16_i32_38 : BitVec 32 := 16#32
  let v10 : BitVec 32 := Scalar.addi c0_i32_37 c16_i32_38
  let c1_i32_39 : BitVec 32 := 1#32
  ⟨c0_i32_37, v10, c1_i32_39⟩
def k0_off47 (k0_t11 : Fin k0_t11_loop.trips) : Fin 3 → Nat :=
  let c0 : Index := 0#32
  let c0_i32_37 : BitVec 32 := 0#32
  let c1_i32_39 : BitVec 32 := 1#32
  let arg85 : BitVec 32 := Scf.iv c0_i32_37 c1_i32_39 k0_t11
  let v136 : Index := Scalar.indexCast arg85
  let c0_541 : Index := 0#32
  ![0, v136.toNat, 0]
def k0_off48 (k0_t11 : Fin k0_t11_loop.trips) : Fin 3 → Nat :=
  let c0_545 : Index := 0#32
  let c0_i32_37 : BitVec 32 := 0#32
  let c1_i32_39 : BitVec 32 := 1#32
  let arg85 : BitVec 32 := Scf.iv c0_i32_37 c1_i32_39 k0_t11
  let v144 : Index := Scalar.indexCast arg85
  let c1 : Index := 1#32
  ![0, v144.toNat, 1]
def k0_off49 (k0_t11 : Fin k0_t11_loop.trips) : Fin 3 → Nat :=
  let c0_549 : Index := 0#32
  let c0_i32_37 : BitVec 32 := 0#32
  let c1_i32_39 : BitVec 32 := 1#32
  let arg85 : BitVec 32 := Scf.iv c0_i32_37 c1_i32_39 k0_t11
  let v153 : Index := Scalar.indexCast arg85
  let c2 : Index := 2#32
  ![0, v153.toNat, 2]
def k0_off50 (k0_t11 : Fin k0_t11_loop.trips) : Fin 3 → Nat :=
  let c0_553 : Index := 0#32
  let c32_i32 : BitVec 32 := 32#32
  let c0_i32_37 : BitVec 32 := 0#32
  let c1_i32_39 : BitVec 32 := 1#32
  let arg85 : BitVec 32 := Scf.iv c0_i32_37 c1_i32_39 k0_t11
  let v162 : BitVec 32 := Scalar.addi c32_i32 arg85
  let v163 : Index := Scalar.indexCast v162
  let c0_554 : Index := 0#32
  ![0, v163.toNat, 0]
@[reducible] def k0_t12_loop : Scf.Loop 32 :=
  let c0_i32_41 : BitVec 32 := 0#32
  let c16_i32_42 : BitVec 32 := 16#32
  let v11 : BitVec 32 := Scalar.addi c0_i32_41 c16_i32_42
  let c1_i32_43 : BitVec 32 := 1#32
  ⟨c0_i32_41, v11, c1_i32_43⟩
def k0_off51 (k0_t12 : Fin k0_t12_loop.trips) : Fin 3 → Nat :=
  let c0 : Index := 0#32
  let c0_i32_41 : BitVec 32 := 0#32
  let c1_i32_43 : BitVec 32 := 1#32
  let arg85 : BitVec 32 := Scf.iv c0_i32_41 c1_i32_43 k0_t12
  let v136 : Index := Scalar.indexCast arg85
  let c0_541 : Index := 0#32
  ![0, v136.toNat, 0]
def k0_off52 (k0_t12 : Fin k0_t12_loop.trips) : Fin 3 → Nat :=
  let c0_545 : Index := 0#32
  let c0_i32_41 : BitVec 32 := 0#32
  let c1_i32_43 : BitVec 32 := 1#32
  let arg85 : BitVec 32 := Scf.iv c0_i32_41 c1_i32_43 k0_t12
  let v144 : Index := Scalar.indexCast arg85
  let c1 : Index := 1#32
  ![0, v144.toNat, 1]
def k0_off53 (k0_t12 : Fin k0_t12_loop.trips) : Fin 3 → Nat :=
  let c0_549 : Index := 0#32
  let c0_i32_41 : BitVec 32 := 0#32
  let c1_i32_43 : BitVec 32 := 1#32
  let arg85 : BitVec 32 := Scf.iv c0_i32_41 c1_i32_43 k0_t12
  let v153 : Index := Scalar.indexCast arg85
  let c2 : Index := 2#32
  ![0, v153.toNat, 2]
def k0_off54 (k0_t12 : Fin k0_t12_loop.trips) : Fin 3 → Nat :=
  let c0_553 : Index := 0#32
  let c48_i32 : BitVec 32 := 48#32
  let c0_i32_41 : BitVec 32 := 0#32
  let c1_i32_43 : BitVec 32 := 1#32
  let arg85 : BitVec 32 := Scf.iv c0_i32_41 c1_i32_43 k0_t12
  let v162 : BitVec 32 := Scalar.addi c48_i32 arg85
  let v163 : Index := Scalar.indexCast v162
  let c0_554 : Index := 0#32
  ![0, v163.toNat, 0]
@[reducible] def k0_t13_loop : Scf.Loop 32 :=
  let c0_i32_45 : BitVec 32 := 0#32
  let c16_i32_46 : BitVec 32 := 16#32
  let v12 : BitVec 32 := Scalar.addi c0_i32_45 c16_i32_46
  let c1_i32_47 : BitVec 32 := 1#32
  ⟨c0_i32_45, v12, c1_i32_47⟩
def k0_off55 (k0_t13 : Fin k0_t13_loop.trips) : Fin 3 → Nat :=
  let c0 : Index := 0#32
  let c0_i32_45 : BitVec 32 := 0#32
  let c1_i32_47 : BitVec 32 := 1#32
  let arg85 : BitVec 32 := Scf.iv c0_i32_45 c1_i32_47 k0_t13
  let v136 : Index := Scalar.indexCast arg85
  let c0_541 : Index := 0#32
  ![0, v136.toNat, 0]
def k0_off56 (k0_t13 : Fin k0_t13_loop.trips) : Fin 3 → Nat :=
  let c0_545 : Index := 0#32
  let c0_i32_45 : BitVec 32 := 0#32
  let c1_i32_47 : BitVec 32 := 1#32
  let arg85 : BitVec 32 := Scf.iv c0_i32_45 c1_i32_47 k0_t13
  let v144 : Index := Scalar.indexCast arg85
  let c1 : Index := 1#32
  ![0, v144.toNat, 1]
def k0_off57 (k0_t13 : Fin k0_t13_loop.trips) : Fin 3 → Nat :=
  let c0_549 : Index := 0#32
  let c0_i32_45 : BitVec 32 := 0#32
  let c1_i32_47 : BitVec 32 := 1#32
  let arg85 : BitVec 32 := Scf.iv c0_i32_45 c1_i32_47 k0_t13
  let v153 : Index := Scalar.indexCast arg85
  let c2 : Index := 2#32
  ![0, v153.toNat, 2]
def k0_off58 (k0_t13 : Fin k0_t13_loop.trips) : Fin 3 → Nat :=
  let c0_553 : Index := 0#32
  let c0_i32_45 : BitVec 32 := 0#32
  let c1_i32_47 : BitVec 32 := 1#32
  let arg85 : BitVec 32 := Scf.iv c0_i32_45 c1_i32_47 k0_t13
  let v162 : Index := Scalar.indexCast arg85
  let c3 : Index := 3#32
  ![0, v162.toNat, 3]
def k0_off59 (k0_t13 : Fin k0_t13_loop.trips) : Fin 3 → Nat :=
  let c0_557 : Index := 0#32
  let c0_i32_45 : BitVec 32 := 0#32
  let c1_i32_47 : BitVec 32 := 1#32
  let arg85 : BitVec 32 := Scf.iv c0_i32_45 c1_i32_47 k0_t13
  let v171 : Index := Scalar.indexCast arg85
  let c4 : Index := 4#32
  ![0, v171.toNat, 4]
def k0_off60 (k0_t13 : Fin k0_t13_loop.trips) : Fin 3 → Nat :=
  let c0_561 : Index := 0#32
  let c64_i32 : BitVec 32 := 64#32
  let c0_i32_45 : BitVec 32 := 0#32
  let c1_i32_47 : BitVec 32 := 1#32
  let arg85 : BitVec 32 := Scf.iv c0_i32_45 c1_i32_47 k0_t13
  let v180 : BitVec 32 := Scalar.addi c64_i32 arg85
  let v181 : Index := Scalar.indexCast v180
  let c0_562 : Index := 0#32
  ![0, v181.toNat, 0]
@[reducible] def k0_t14_loop : Scf.Loop 32 :=
  let c0_i32_49 : BitVec 32 := 0#32
  let c16_i32_50 : BitVec 32 := 16#32
  let v13 : BitVec 32 := Scalar.addi c0_i32_49 c16_i32_50
  let c1_i32_51 : BitVec 32 := 1#32
  ⟨c0_i32_49, v13, c1_i32_51⟩
def k0_off61 (k0_t14 : Fin k0_t14_loop.trips) : Fin 3 → Nat :=
  let c0 : Index := 0#32
  let c0_i32_49 : BitVec 32 := 0#32
  let c1_i32_51 : BitVec 32 := 1#32
  let arg85 : BitVec 32 := Scf.iv c0_i32_49 c1_i32_51 k0_t14
  let v136 : Index := Scalar.indexCast arg85
  let c0_541 : Index := 0#32
  ![0, v136.toNat, 0]
def k0_off62 (k0_t14 : Fin k0_t14_loop.trips) : Fin 3 → Nat :=
  let c0_545 : Index := 0#32
  let c0_i32_49 : BitVec 32 := 0#32
  let c1_i32_51 : BitVec 32 := 1#32
  let arg85 : BitVec 32 := Scf.iv c0_i32_49 c1_i32_51 k0_t14
  let v144 : Index := Scalar.indexCast arg85
  let c1 : Index := 1#32
  ![0, v144.toNat, 1]
def k0_off63 (k0_t14 : Fin k0_t14_loop.trips) : Fin 3 → Nat :=
  let c0_549 : Index := 0#32
  let c0_i32_49 : BitVec 32 := 0#32
  let c1_i32_51 : BitVec 32 := 1#32
  let arg85 : BitVec 32 := Scf.iv c0_i32_49 c1_i32_51 k0_t14
  let v153 : Index := Scalar.indexCast arg85
  let c2 : Index := 2#32
  ![0, v153.toNat, 2]
def k0_off64 (k0_t14 : Fin k0_t14_loop.trips) : Fin 3 → Nat :=
  let c0_553 : Index := 0#32
  let c0_i32_49 : BitVec 32 := 0#32
  let c1_i32_51 : BitVec 32 := 1#32
  let arg85 : BitVec 32 := Scf.iv c0_i32_49 c1_i32_51 k0_t14
  let v162 : Index := Scalar.indexCast arg85
  let c3 : Index := 3#32
  ![0, v162.toNat, 3]
def k0_off65 (k0_t14 : Fin k0_t14_loop.trips) : Fin 3 → Nat :=
  let c0_557 : Index := 0#32
  let c0_i32_49 : BitVec 32 := 0#32
  let c1_i32_51 : BitVec 32 := 1#32
  let arg85 : BitVec 32 := Scf.iv c0_i32_49 c1_i32_51 k0_t14
  let v171 : Index := Scalar.indexCast arg85
  let c4 : Index := 4#32
  ![0, v171.toNat, 4]
def k0_off66 (k0_t14 : Fin k0_t14_loop.trips) : Fin 3 → Nat :=
  let c0_561 : Index := 0#32
  let c80_i32 : BitVec 32 := 80#32
  let c0_i32_49 : BitVec 32 := 0#32
  let c1_i32_51 : BitVec 32 := 1#32
  let arg85 : BitVec 32 := Scf.iv c0_i32_49 c1_i32_51 k0_t14
  let v180 : BitVec 32 := Scalar.addi c80_i32 arg85
  let v181 : Index := Scalar.indexCast v180
  let c0_562 : Index := 0#32
  ![0, v181.toNat, 0]
@[reducible] def k0_t15_loop : Scf.Loop 32 :=
  let c0_i32_53 : BitVec 32 := 0#32
  let c16_i32_54 : BitVec 32 := 16#32
  let v14 : BitVec 32 := Scalar.addi c0_i32_53 c16_i32_54
  let c1_i32_55 : BitVec 32 := 1#32
  ⟨c0_i32_53, v14, c1_i32_55⟩
def k0_off67 (k0_t15 : Fin k0_t15_loop.trips) : Fin 3 → Nat :=
  let c0 : Index := 0#32
  let c0_i32_53 : BitVec 32 := 0#32
  let c1_i32_55 : BitVec 32 := 1#32
  let arg85 : BitVec 32 := Scf.iv c0_i32_53 c1_i32_55 k0_t15
  let v136 : Index := Scalar.indexCast arg85
  let c0_541 : Index := 0#32
  ![0, v136.toNat, 0]
def k0_off68 (k0_t15 : Fin k0_t15_loop.trips) : Fin 3 → Nat :=
  let c0_545 : Index := 0#32
  let c0_i32_53 : BitVec 32 := 0#32
  let c1_i32_55 : BitVec 32 := 1#32
  let arg85 : BitVec 32 := Scf.iv c0_i32_53 c1_i32_55 k0_t15
  let v144 : Index := Scalar.indexCast arg85
  let c1 : Index := 1#32
  ![0, v144.toNat, 1]
def k0_off69 (k0_t15 : Fin k0_t15_loop.trips) : Fin 3 → Nat :=
  let c0_549 : Index := 0#32
  let c0_i32_53 : BitVec 32 := 0#32
  let c1_i32_55 : BitVec 32 := 1#32
  let arg85 : BitVec 32 := Scf.iv c0_i32_53 c1_i32_55 k0_t15
  let v153 : Index := Scalar.indexCast arg85
  let c2 : Index := 2#32
  ![0, v153.toNat, 2]
def k0_off70 (k0_t15 : Fin k0_t15_loop.trips) : Fin 3 → Nat :=
  let c0_553 : Index := 0#32
  let c0_i32_53 : BitVec 32 := 0#32
  let c1_i32_55 : BitVec 32 := 1#32
  let arg85 : BitVec 32 := Scf.iv c0_i32_53 c1_i32_55 k0_t15
  let v162 : Index := Scalar.indexCast arg85
  let c3 : Index := 3#32
  ![0, v162.toNat, 3]
def k0_off71 (k0_t15 : Fin k0_t15_loop.trips) : Fin 3 → Nat :=
  let c0_557 : Index := 0#32
  let c0_i32_53 : BitVec 32 := 0#32
  let c1_i32_55 : BitVec 32 := 1#32
  let arg85 : BitVec 32 := Scf.iv c0_i32_53 c1_i32_55 k0_t15
  let v171 : Index := Scalar.indexCast arg85
  let c4 : Index := 4#32
  ![0, v171.toNat, 4]
def k0_off72 (k0_t15 : Fin k0_t15_loop.trips) : Fin 3 → Nat :=
  let c0_561 : Index := 0#32
  let c96_i32 : BitVec 32 := 96#32
  let c0_i32_53 : BitVec 32 := 0#32
  let c1_i32_55 : BitVec 32 := 1#32
  let arg85 : BitVec 32 := Scf.iv c0_i32_53 c1_i32_55 k0_t15
  let v180 : BitVec 32 := Scalar.addi c96_i32 arg85
  let v181 : Index := Scalar.indexCast v180
  let c0_562 : Index := 0#32
  ![0, v181.toNat, 0]
@[reducible] def k0_t16_loop : Scf.Loop 32 :=
  let c0_i32_57 : BitVec 32 := 0#32
  let c16_i32_58 : BitVec 32 := 16#32
  let v15 : BitVec 32 := Scalar.addi c0_i32_57 c16_i32_58
  let c1_i32_59 : BitVec 32 := 1#32
  ⟨c0_i32_57, v15, c1_i32_59⟩
def k0_off73 (k0_t16 : Fin k0_t16_loop.trips) : Fin 3 → Nat :=
  let c0 : Index := 0#32
  let c0_i32_57 : BitVec 32 := 0#32
  let c1_i32_59 : BitVec 32 := 1#32
  let arg85 : BitVec 32 := Scf.iv c0_i32_57 c1_i32_59 k0_t16
  let v136 : Index := Scalar.indexCast arg85
  let c0_541 : Index := 0#32
  ![0, v136.toNat, 0]
def k0_off74 (k0_t16 : Fin k0_t16_loop.trips) : Fin 3 → Nat :=
  let c0_545 : Index := 0#32
  let c0_i32_57 : BitVec 32 := 0#32
  let c1_i32_59 : BitVec 32 := 1#32
  let arg85 : BitVec 32 := Scf.iv c0_i32_57 c1_i32_59 k0_t16
  let v144 : Index := Scalar.indexCast arg85
  let c1 : Index := 1#32
  ![0, v144.toNat, 1]
def k0_off75 (k0_t16 : Fin k0_t16_loop.trips) : Fin 3 → Nat :=
  let c0_549 : Index := 0#32
  let c0_i32_57 : BitVec 32 := 0#32
  let c1_i32_59 : BitVec 32 := 1#32
  let arg85 : BitVec 32 := Scf.iv c0_i32_57 c1_i32_59 k0_t16
  let v153 : Index := Scalar.indexCast arg85
  let c2 : Index := 2#32
  ![0, v153.toNat, 2]
def k0_off76 (k0_t16 : Fin k0_t16_loop.trips) : Fin 3 → Nat :=
  let c0_553 : Index := 0#32
  let c0_i32_57 : BitVec 32 := 0#32
  let c1_i32_59 : BitVec 32 := 1#32
  let arg85 : BitVec 32 := Scf.iv c0_i32_57 c1_i32_59 k0_t16
  let v162 : Index := Scalar.indexCast arg85
  let c3 : Index := 3#32
  ![0, v162.toNat, 3]
def k0_off77 (k0_t16 : Fin k0_t16_loop.trips) : Fin 3 → Nat :=
  let c0_557 : Index := 0#32
  let c0_i32_57 : BitVec 32 := 0#32
  let c1_i32_59 : BitVec 32 := 1#32
  let arg85 : BitVec 32 := Scf.iv c0_i32_57 c1_i32_59 k0_t16
  let v171 : Index := Scalar.indexCast arg85
  let c4 : Index := 4#32
  ![0, v171.toNat, 4]
def k0_off78 (k0_t16 : Fin k0_t16_loop.trips) : Fin 3 → Nat :=
  let c0_561 : Index := 0#32
  let c0_i32_57 : BitVec 32 := 0#32
  let c1_i32_59 : BitVec 32 := 1#32
  let arg85 : BitVec 32 := Scf.iv c0_i32_57 c1_i32_59 k0_t16
  let v180 : Index := Scalar.indexCast arg85
  let c5 : Index := 5#32
  ![0, v180.toNat, 5]
def k0_off79 (k0_t16 : Fin k0_t16_loop.trips) : Fin 3 → Nat :=
  let c0_565 : Index := 0#32
  let c0_i32_57 : BitVec 32 := 0#32
  let c1_i32_59 : BitVec 32 := 1#32
  let arg85 : BitVec 32 := Scf.iv c0_i32_57 c1_i32_59 k0_t16
  let v189 : Index := Scalar.indexCast arg85
  let c6 : Index := 6#32
  ![0, v189.toNat, 6]
def k0_off80 (k0_t16 : Fin k0_t16_loop.trips) : Fin 3 → Nat :=
  let c0_569 : Index := 0#32
  let c112_i32 : BitVec 32 := 112#32
  let c0_i32_57 : BitVec 32 := 0#32
  let c1_i32_59 : BitVec 32 := 1#32
  let arg85 : BitVec 32 := Scf.iv c0_i32_57 c1_i32_59 k0_t16
  let v198 : BitVec 32 := Scalar.addi c112_i32 arg85
  let v199 : Index := Scalar.indexCast v198
  let c0_570 : Index := 0#32
  ![0, v199.toNat, 0]
@[reducible] def k0_t17_loop : Scf.Loop 32 :=
  let c0_i32_61 : BitVec 32 := 0#32
  let c16_i32_62 : BitVec 32 := 16#32
  let v16 : BitVec 32 := Scalar.addi c0_i32_61 c16_i32_62
  let c1_i32_63 : BitVec 32 := 1#32
  ⟨c0_i32_61, v16, c1_i32_63⟩
def k0_off81 (k0_t17 : Fin k0_t17_loop.trips) : Fin 3 → Nat :=
  let c0 : Index := 0#32
  let c0_i32_61 : BitVec 32 := 0#32
  let c1_i32_63 : BitVec 32 := 1#32
  let arg85 : BitVec 32 := Scf.iv c0_i32_61 c1_i32_63 k0_t17
  let v136 : Index := Scalar.indexCast arg85
  let c0_541 : Index := 0#32
  ![0, v136.toNat, 0]
def k0_off82 (k0_t17 : Fin k0_t17_loop.trips) : Fin 3 → Nat :=
  let c0_545 : Index := 0#32
  let c0_i32_61 : BitVec 32 := 0#32
  let c1_i32_63 : BitVec 32 := 1#32
  let arg85 : BitVec 32 := Scf.iv c0_i32_61 c1_i32_63 k0_t17
  let v144 : Index := Scalar.indexCast arg85
  let c1 : Index := 1#32
  ![0, v144.toNat, 1]
def k0_off83 (k0_t17 : Fin k0_t17_loop.trips) : Fin 3 → Nat :=
  let c0_549 : Index := 0#32
  let c0_i32_61 : BitVec 32 := 0#32
  let c1_i32_63 : BitVec 32 := 1#32
  let arg85 : BitVec 32 := Scf.iv c0_i32_61 c1_i32_63 k0_t17
  let v153 : Index := Scalar.indexCast arg85
  let c2 : Index := 2#32
  ![0, v153.toNat, 2]
def k0_off84 (k0_t17 : Fin k0_t17_loop.trips) : Fin 3 → Nat :=
  let c0_553 : Index := 0#32
  let c0_i32_61 : BitVec 32 := 0#32
  let c1_i32_63 : BitVec 32 := 1#32
  let arg85 : BitVec 32 := Scf.iv c0_i32_61 c1_i32_63 k0_t17
  let v162 : Index := Scalar.indexCast arg85
  let c3 : Index := 3#32
  ![0, v162.toNat, 3]
def k0_off85 (k0_t17 : Fin k0_t17_loop.trips) : Fin 3 → Nat :=
  let c0_557 : Index := 0#32
  let c0_i32_61 : BitVec 32 := 0#32
  let c1_i32_63 : BitVec 32 := 1#32
  let arg85 : BitVec 32 := Scf.iv c0_i32_61 c1_i32_63 k0_t17
  let v171 : Index := Scalar.indexCast arg85
  let c4 : Index := 4#32
  ![0, v171.toNat, 4]
def k0_off86 (k0_t17 : Fin k0_t17_loop.trips) : Fin 3 → Nat :=
  let c0_561 : Index := 0#32
  let c0_i32_61 : BitVec 32 := 0#32
  let c1_i32_63 : BitVec 32 := 1#32
  let arg85 : BitVec 32 := Scf.iv c0_i32_61 c1_i32_63 k0_t17
  let v180 : Index := Scalar.indexCast arg85
  let c5 : Index := 5#32
  ![0, v180.toNat, 5]
def k0_off87 (k0_t17 : Fin k0_t17_loop.trips) : Fin 3 → Nat :=
  let c0_565 : Index := 0#32
  let c0_i32_61 : BitVec 32 := 0#32
  let c1_i32_63 : BitVec 32 := 1#32
  let arg85 : BitVec 32 := Scf.iv c0_i32_61 c1_i32_63 k0_t17
  let v189 : Index := Scalar.indexCast arg85
  let c6 : Index := 6#32
  ![0, v189.toNat, 6]
def k0_off88 (k0_t17 : Fin k0_t17_loop.trips) : Fin 3 → Nat :=
  let c0_569 : Index := 0#32
  let c128_i32 : BitVec 32 := 128#32
  let c0_i32_61 : BitVec 32 := 0#32
  let c1_i32_63 : BitVec 32 := 1#32
  let arg85 : BitVec 32 := Scf.iv c0_i32_61 c1_i32_63 k0_t17
  let v198 : BitVec 32 := Scalar.addi c128_i32 arg85
  let v199 : Index := Scalar.indexCast v198
  let c0_570 : Index := 0#32
  ![0, v199.toNat, 0]
@[reducible] def k0_t18_loop : Scf.Loop 32 :=
  let c0_i32_65 : BitVec 32 := 0#32
  let c16_i32_66 : BitVec 32 := 16#32
  let v17 : BitVec 32 := Scalar.addi c0_i32_65 c16_i32_66
  let c1_i32_67 : BitVec 32 := 1#32
  ⟨c0_i32_65, v17, c1_i32_67⟩
def k0_off89 (k0_t18 : Fin k0_t18_loop.trips) : Fin 3 → Nat :=
  let c0 : Index := 0#32
  let c0_i32_65 : BitVec 32 := 0#32
  let c1_i32_67 : BitVec 32 := 1#32
  let arg85 : BitVec 32 := Scf.iv c0_i32_65 c1_i32_67 k0_t18
  let v136 : Index := Scalar.indexCast arg85
  let c0_541 : Index := 0#32
  ![0, v136.toNat, 0]
def k0_off90 (k0_t18 : Fin k0_t18_loop.trips) : Fin 3 → Nat :=
  let c0_545 : Index := 0#32
  let c144_i32 : BitVec 32 := 144#32
  let c0_i32_65 : BitVec 32 := 0#32
  let c1_i32_67 : BitVec 32 := 1#32
  let arg85 : BitVec 32 := Scf.iv c0_i32_65 c1_i32_67 k0_t18
  let v144 : BitVec 32 := Scalar.addi c144_i32 arg85
  let v145 : Index := Scalar.indexCast v144
  let c0_546 : Index := 0#32
  ![0, v145.toNat, 0]
@[reducible] def k0_t19_loop : Scf.Loop 32 :=
  let c0_i32_69 : BitVec 32 := 0#32
  let c16_i32_70 : BitVec 32 := 16#32
  let v18 : BitVec 32 := Scalar.addi c0_i32_69 c16_i32_70
  let c1_i32_71 : BitVec 32 := 1#32
  ⟨c0_i32_69, v18, c1_i32_71⟩
def k0_off91 (k0_t19 : Fin k0_t19_loop.trips) : Fin 3 → Nat :=
  let c0 : Index := 0#32
  let c0_i32_69 : BitVec 32 := 0#32
  let c1_i32_71 : BitVec 32 := 1#32
  let arg85 : BitVec 32 := Scf.iv c0_i32_69 c1_i32_71 k0_t19
  let v136 : Index := Scalar.indexCast arg85
  let c0_541 : Index := 0#32
  ![0, v136.toNat, 0]
def k0_off92 (k0_t19 : Fin k0_t19_loop.trips) : Fin 3 → Nat :=
  let c0_545 : Index := 0#32
  let c0_i32_69 : BitVec 32 := 0#32
  let c1_i32_71 : BitVec 32 := 1#32
  let arg85 : BitVec 32 := Scf.iv c0_i32_69 c1_i32_71 k0_t19
  let v144 : Index := Scalar.indexCast arg85
  let c1 : Index := 1#32
  ![0, v144.toNat, 1]
def k0_off93 (k0_t19 : Fin k0_t19_loop.trips) : Fin 3 → Nat :=
  let c0_549 : Index := 0#32
  let c0_i32_69 : BitVec 32 := 0#32
  let c1_i32_71 : BitVec 32 := 1#32
  let arg85 : BitVec 32 := Scf.iv c0_i32_69 c1_i32_71 k0_t19
  let v153 : Index := Scalar.indexCast arg85
  let c2 : Index := 2#32
  ![0, v153.toNat, 2]
def k0_off94 (k0_t19 : Fin k0_t19_loop.trips) : Fin 3 → Nat :=
  let c0_553 : Index := 0#32
  let c160_i32 : BitVec 32 := 160#32
  let c0_i32_69 : BitVec 32 := 0#32
  let c1_i32_71 : BitVec 32 := 1#32
  let arg85 : BitVec 32 := Scf.iv c0_i32_69 c1_i32_71 k0_t19
  let v162 : BitVec 32 := Scalar.addi c160_i32 arg85
  let v163 : Index := Scalar.indexCast v162
  let c0_554 : Index := 0#32
  ![0, v163.toNat, 0]
@[reducible] def k0_t20_loop : Scf.Loop 32 :=
  let c0_i32_73 : BitVec 32 := 0#32
  let c16_i32_74 : BitVec 32 := 16#32
  let v19 : BitVec 32 := Scalar.addi c0_i32_73 c16_i32_74
  let c1_i32_75 : BitVec 32 := 1#32
  ⟨c0_i32_73, v19, c1_i32_75⟩
def k0_off95 (k0_t20 : Fin k0_t20_loop.trips) : Fin 3 → Nat :=
  let c0 : Index := 0#32
  let c0_i32_73 : BitVec 32 := 0#32
  let c1_i32_75 : BitVec 32 := 1#32
  let arg85 : BitVec 32 := Scf.iv c0_i32_73 c1_i32_75 k0_t20
  let v136 : Index := Scalar.indexCast arg85
  let c0_541 : Index := 0#32
  ![0, v136.toNat, 0]
def k0_off96 (k0_t20 : Fin k0_t20_loop.trips) : Fin 3 → Nat :=
  let c0_545 : Index := 0#32
  let c0_i32_73 : BitVec 32 := 0#32
  let c1_i32_75 : BitVec 32 := 1#32
  let arg85 : BitVec 32 := Scf.iv c0_i32_73 c1_i32_75 k0_t20
  let v144 : Index := Scalar.indexCast arg85
  let c1 : Index := 1#32
  ![0, v144.toNat, 1]
def k0_off97 (k0_t20 : Fin k0_t20_loop.trips) : Fin 3 → Nat :=
  let c0_549 : Index := 0#32
  let c0_i32_73 : BitVec 32 := 0#32
  let c1_i32_75 : BitVec 32 := 1#32
  let arg85 : BitVec 32 := Scf.iv c0_i32_73 c1_i32_75 k0_t20
  let v153 : Index := Scalar.indexCast arg85
  let c2 : Index := 2#32
  ![0, v153.toNat, 2]
def k0_off98 (k0_t20 : Fin k0_t20_loop.trips) : Fin 3 → Nat :=
  let c0_553 : Index := 0#32
  let c176_i32 : BitVec 32 := 176#32
  let c0_i32_73 : BitVec 32 := 0#32
  let c1_i32_75 : BitVec 32 := 1#32
  let arg85 : BitVec 32 := Scf.iv c0_i32_73 c1_i32_75 k0_t20
  let v162 : BitVec 32 := Scalar.addi c176_i32 arg85
  let v163 : Index := Scalar.indexCast v162
  let c0_554 : Index := 0#32
  ![0, v163.toNat, 0]
@[reducible] def k0_t21_loop : Scf.Loop 32 :=
  let c0_i32_77 : BitVec 32 := 0#32
  let c16_i32_78 : BitVec 32 := 16#32
  let v20 : BitVec 32 := Scalar.addi c0_i32_77 c16_i32_78
  let c1_i32_79 : BitVec 32 := 1#32
  ⟨c0_i32_77, v20, c1_i32_79⟩
def k0_off99 (k0_t21 : Fin k0_t21_loop.trips) : Fin 3 → Nat :=
  let c0 : Index := 0#32
  let c0_i32_77 : BitVec 32 := 0#32
  let c1_i32_79 : BitVec 32 := 1#32
  let arg85 : BitVec 32 := Scf.iv c0_i32_77 c1_i32_79 k0_t21
  let v136 : Index := Scalar.indexCast arg85
  let c0_541 : Index := 0#32
  ![0, v136.toNat, 0]
def k0_off100 (k0_t21 : Fin k0_t21_loop.trips) : Fin 3 → Nat :=
  let c0_545 : Index := 0#32
  let c0_i32_77 : BitVec 32 := 0#32
  let c1_i32_79 : BitVec 32 := 1#32
  let arg85 : BitVec 32 := Scf.iv c0_i32_77 c1_i32_79 k0_t21
  let v144 : Index := Scalar.indexCast arg85
  let c1 : Index := 1#32
  ![0, v144.toNat, 1]
def k0_off101 (k0_t21 : Fin k0_t21_loop.trips) : Fin 3 → Nat :=
  let c0_549 : Index := 0#32
  let c0_i32_77 : BitVec 32 := 0#32
  let c1_i32_79 : BitVec 32 := 1#32
  let arg85 : BitVec 32 := Scf.iv c0_i32_77 c1_i32_79 k0_t21
  let v153 : Index := Scalar.indexCast arg85
  let c2 : Index := 2#32
  ![0, v153.toNat, 2]
def k0_off102 (k0_t21 : Fin k0_t21_loop.trips) : Fin 3 → Nat :=
  let c0_553 : Index := 0#32
  let c192_i32 : BitVec 32 := 192#32
  let c0_i32_77 : BitVec 32 := 0#32
  let c1_i32_79 : BitVec 32 := 1#32
  let arg85 : BitVec 32 := Scf.iv c0_i32_77 c1_i32_79 k0_t21
  let v162 : BitVec 32 := Scalar.addi c192_i32 arg85
  let v163 : Index := Scalar.indexCast v162
  let c0_554 : Index := 0#32
  ![0, v163.toNat, 0]
@[reducible] def k0_t22_loop : Scf.Loop 32 :=
  let c0_i32_81 : BitVec 32 := 0#32
  let c16_i32_82 : BitVec 32 := 16#32
  let v21 : BitVec 32 := Scalar.addi c0_i32_81 c16_i32_82
  let c1_i32_83 : BitVec 32 := 1#32
  ⟨c0_i32_81, v21, c1_i32_83⟩
def k0_off103 (k0_t22 : Fin k0_t22_loop.trips) : Fin 3 → Nat :=
  let c0 : Index := 0#32
  let c0_i32_81 : BitVec 32 := 0#32
  let c1_i32_83 : BitVec 32 := 1#32
  let arg85 : BitVec 32 := Scf.iv c0_i32_81 c1_i32_83 k0_t22
  let v136 : Index := Scalar.indexCast arg85
  let c0_541 : Index := 0#32
  ![0, v136.toNat, 0]
def k0_off104 (k0_t22 : Fin k0_t22_loop.trips) : Fin 3 → Nat :=
  let c0_545 : Index := 0#32
  let c0_i32_81 : BitVec 32 := 0#32
  let c1_i32_83 : BitVec 32 := 1#32
  let arg85 : BitVec 32 := Scf.iv c0_i32_81 c1_i32_83 k0_t22
  let v144 : Index := Scalar.indexCast arg85
  let c1 : Index := 1#32
  ![0, v144.toNat, 1]
def k0_off105 (k0_t22 : Fin k0_t22_loop.trips) : Fin 3 → Nat :=
  let c0_549 : Index := 0#32
  let c0_i32_81 : BitVec 32 := 0#32
  let c1_i32_83 : BitVec 32 := 1#32
  let arg85 : BitVec 32 := Scf.iv c0_i32_81 c1_i32_83 k0_t22
  let v153 : Index := Scalar.indexCast arg85
  let c2 : Index := 2#32
  ![0, v153.toNat, 2]
def k0_off106 (k0_t22 : Fin k0_t22_loop.trips) : Fin 3 → Nat :=
  let c0_553 : Index := 0#32
  let c0_i32_81 : BitVec 32 := 0#32
  let c1_i32_83 : BitVec 32 := 1#32
  let arg85 : BitVec 32 := Scf.iv c0_i32_81 c1_i32_83 k0_t22
  let v162 : Index := Scalar.indexCast arg85
  let c3 : Index := 3#32
  ![0, v162.toNat, 3]
def k0_off107 (k0_t22 : Fin k0_t22_loop.trips) : Fin 3 → Nat :=
  let c0_557 : Index := 0#32
  let c0_i32_81 : BitVec 32 := 0#32
  let c1_i32_83 : BitVec 32 := 1#32
  let arg85 : BitVec 32 := Scf.iv c0_i32_81 c1_i32_83 k0_t22
  let v171 : Index := Scalar.indexCast arg85
  let c4 : Index := 4#32
  ![0, v171.toNat, 4]
def k0_off108 (k0_t22 : Fin k0_t22_loop.trips) : Fin 3 → Nat :=
  let c0_561 : Index := 0#32
  let c208_i32 : BitVec 32 := 208#32
  let c0_i32_81 : BitVec 32 := 0#32
  let c1_i32_83 : BitVec 32 := 1#32
  let arg85 : BitVec 32 := Scf.iv c0_i32_81 c1_i32_83 k0_t22
  let v180 : BitVec 32 := Scalar.addi c208_i32 arg85
  let v181 : Index := Scalar.indexCast v180
  let c0_562 : Index := 0#32
  ![0, v181.toNat, 0]
@[reducible] def k0_t23_loop : Scf.Loop 32 :=
  let c0_i32_85 : BitVec 32 := 0#32
  let c16_i32_86 : BitVec 32 := 16#32
  let v22 : BitVec 32 := Scalar.addi c0_i32_85 c16_i32_86
  let c1_i32_87 : BitVec 32 := 1#32
  ⟨c0_i32_85, v22, c1_i32_87⟩
def k0_off109 (k0_t23 : Fin k0_t23_loop.trips) : Fin 3 → Nat :=
  let c0 : Index := 0#32
  let c0_i32_85 : BitVec 32 := 0#32
  let c1_i32_87 : BitVec 32 := 1#32
  let arg85 : BitVec 32 := Scf.iv c0_i32_85 c1_i32_87 k0_t23
  let v136 : Index := Scalar.indexCast arg85
  let c0_541 : Index := 0#32
  ![0, v136.toNat, 0]
def k0_off110 (k0_t23 : Fin k0_t23_loop.trips) : Fin 3 → Nat :=
  let c0_545 : Index := 0#32
  let c0_i32_85 : BitVec 32 := 0#32
  let c1_i32_87 : BitVec 32 := 1#32
  let arg85 : BitVec 32 := Scf.iv c0_i32_85 c1_i32_87 k0_t23
  let v144 : Index := Scalar.indexCast arg85
  let c1 : Index := 1#32
  ![0, v144.toNat, 1]
def k0_off111 (k0_t23 : Fin k0_t23_loop.trips) : Fin 3 → Nat :=
  let c0_549 : Index := 0#32
  let c0_i32_85 : BitVec 32 := 0#32
  let c1_i32_87 : BitVec 32 := 1#32
  let arg85 : BitVec 32 := Scf.iv c0_i32_85 c1_i32_87 k0_t23
  let v153 : Index := Scalar.indexCast arg85
  let c2 : Index := 2#32
  ![0, v153.toNat, 2]
def k0_off112 (k0_t23 : Fin k0_t23_loop.trips) : Fin 3 → Nat :=
  let c0_553 : Index := 0#32
  let c0_i32_85 : BitVec 32 := 0#32
  let c1_i32_87 : BitVec 32 := 1#32
  let arg85 : BitVec 32 := Scf.iv c0_i32_85 c1_i32_87 k0_t23
  let v162 : Index := Scalar.indexCast arg85
  let c3 : Index := 3#32
  ![0, v162.toNat, 3]
def k0_off113 (k0_t23 : Fin k0_t23_loop.trips) : Fin 3 → Nat :=
  let c0_557 : Index := 0#32
  let c0_i32_85 : BitVec 32 := 0#32
  let c1_i32_87 : BitVec 32 := 1#32
  let arg85 : BitVec 32 := Scf.iv c0_i32_85 c1_i32_87 k0_t23
  let v171 : Index := Scalar.indexCast arg85
  let c4 : Index := 4#32
  ![0, v171.toNat, 4]
def k0_off114 (k0_t23 : Fin k0_t23_loop.trips) : Fin 3 → Nat :=
  let c0_561 : Index := 0#32
  let c224_i32 : BitVec 32 := 224#32
  let c0_i32_85 : BitVec 32 := 0#32
  let c1_i32_87 : BitVec 32 := 1#32
  let arg85 : BitVec 32 := Scf.iv c0_i32_85 c1_i32_87 k0_t23
  let v180 : BitVec 32 := Scalar.addi c224_i32 arg85
  let v181 : Index := Scalar.indexCast v180
  let c0_562 : Index := 0#32
  ![0, v181.toNat, 0]
@[reducible] def k0_t24_loop : Scf.Loop 32 :=
  let c0_i32_89 : BitVec 32 := 0#32
  let c16_i32_90 : BitVec 32 := 16#32
  let v23 : BitVec 32 := Scalar.addi c0_i32_89 c16_i32_90
  let c1_i32_91 : BitVec 32 := 1#32
  ⟨c0_i32_89, v23, c1_i32_91⟩
def k0_off115 (k0_t24 : Fin k0_t24_loop.trips) : Fin 3 → Nat :=
  let c0 : Index := 0#32
  let c0_i32_89 : BitVec 32 := 0#32
  let c1_i32_91 : BitVec 32 := 1#32
  let arg85 : BitVec 32 := Scf.iv c0_i32_89 c1_i32_91 k0_t24
  let v136 : Index := Scalar.indexCast arg85
  let c0_541 : Index := 0#32
  ![0, v136.toNat, 0]
def k0_off116 (k0_t24 : Fin k0_t24_loop.trips) : Fin 3 → Nat :=
  let c0_545 : Index := 0#32
  let c0_i32_89 : BitVec 32 := 0#32
  let c1_i32_91 : BitVec 32 := 1#32
  let arg85 : BitVec 32 := Scf.iv c0_i32_89 c1_i32_91 k0_t24
  let v144 : Index := Scalar.indexCast arg85
  let c1 : Index := 1#32
  ![0, v144.toNat, 1]
def k0_off117 (k0_t24 : Fin k0_t24_loop.trips) : Fin 3 → Nat :=
  let c0_549 : Index := 0#32
  let c0_i32_89 : BitVec 32 := 0#32
  let c1_i32_91 : BitVec 32 := 1#32
  let arg85 : BitVec 32 := Scf.iv c0_i32_89 c1_i32_91 k0_t24
  let v153 : Index := Scalar.indexCast arg85
  let c2 : Index := 2#32
  ![0, v153.toNat, 2]
def k0_off118 (k0_t24 : Fin k0_t24_loop.trips) : Fin 3 → Nat :=
  let c0_553 : Index := 0#32
  let c0_i32_89 : BitVec 32 := 0#32
  let c1_i32_91 : BitVec 32 := 1#32
  let arg85 : BitVec 32 := Scf.iv c0_i32_89 c1_i32_91 k0_t24
  let v162 : Index := Scalar.indexCast arg85
  let c3 : Index := 3#32
  ![0, v162.toNat, 3]
def k0_off119 (k0_t24 : Fin k0_t24_loop.trips) : Fin 3 → Nat :=
  let c0_557 : Index := 0#32
  let c0_i32_89 : BitVec 32 := 0#32
  let c1_i32_91 : BitVec 32 := 1#32
  let arg85 : BitVec 32 := Scf.iv c0_i32_89 c1_i32_91 k0_t24
  let v171 : Index := Scalar.indexCast arg85
  let c4 : Index := 4#32
  ![0, v171.toNat, 4]
def k0_off120 (k0_t24 : Fin k0_t24_loop.trips) : Fin 3 → Nat :=
  let c0_561 : Index := 0#32
  let c240_i32 : BitVec 32 := 240#32
  let c0_i32_89 : BitVec 32 := 0#32
  let c1_i32_91 : BitVec 32 := 1#32
  let arg85 : BitVec 32 := Scf.iv c0_i32_89 c1_i32_91 k0_t24
  let v180 : BitVec 32 := Scalar.addi c240_i32 arg85
  let v181 : Index := Scalar.indexCast v180
  let c0_562 : Index := 0#32
  ![0, v181.toNat, 0]
@[reducible] def k0_t25_loop : Scf.Loop 32 :=
  let c0_i32_93 : BitVec 32 := 0#32
  let c16_i32_94 : BitVec 32 := 16#32
  let v24 : BitVec 32 := Scalar.addi c0_i32_93 c16_i32_94
  let c1_i32_95 : BitVec 32 := 1#32
  ⟨c0_i32_93, v24, c1_i32_95⟩
def k0_off121 (k0_t25 : Fin k0_t25_loop.trips) : Fin 3 → Nat :=
  let c0 : Index := 0#32
  let c0_i32_93 : BitVec 32 := 0#32
  let c1_i32_95 : BitVec 32 := 1#32
  let arg85 : BitVec 32 := Scf.iv c0_i32_93 c1_i32_95 k0_t25
  let v136 : Index := Scalar.indexCast arg85
  let c0_541 : Index := 0#32
  ![0, v136.toNat, 0]
def k0_off122 (k0_t25 : Fin k0_t25_loop.trips) : Fin 3 → Nat :=
  let c0_545 : Index := 0#32
  let c0_i32_93 : BitVec 32 := 0#32
  let c1_i32_95 : BitVec 32 := 1#32
  let arg85 : BitVec 32 := Scf.iv c0_i32_93 c1_i32_95 k0_t25
  let v144 : Index := Scalar.indexCast arg85
  let c1 : Index := 1#32
  ![0, v144.toNat, 1]
def k0_off123 (k0_t25 : Fin k0_t25_loop.trips) : Fin 3 → Nat :=
  let c0_549 : Index := 0#32
  let c0_i32_93 : BitVec 32 := 0#32
  let c1_i32_95 : BitVec 32 := 1#32
  let arg85 : BitVec 32 := Scf.iv c0_i32_93 c1_i32_95 k0_t25
  let v153 : Index := Scalar.indexCast arg85
  let c2 : Index := 2#32
  ![0, v153.toNat, 2]
def k0_off124 (k0_t25 : Fin k0_t25_loop.trips) : Fin 3 → Nat :=
  let c0_553 : Index := 0#32
  let c0_i32_93 : BitVec 32 := 0#32
  let c1_i32_95 : BitVec 32 := 1#32
  let arg85 : BitVec 32 := Scf.iv c0_i32_93 c1_i32_95 k0_t25
  let v162 : Index := Scalar.indexCast arg85
  let c3 : Index := 3#32
  ![0, v162.toNat, 3]
def k0_off125 (k0_t25 : Fin k0_t25_loop.trips) : Fin 3 → Nat :=
  let c0_557 : Index := 0#32
  let c0_i32_93 : BitVec 32 := 0#32
  let c1_i32_95 : BitVec 32 := 1#32
  let arg85 : BitVec 32 := Scf.iv c0_i32_93 c1_i32_95 k0_t25
  let v171 : Index := Scalar.indexCast arg85
  let c4 : Index := 4#32
  ![0, v171.toNat, 4]
def k0_off126 (k0_t25 : Fin k0_t25_loop.trips) : Fin 3 → Nat :=
  let c0_561 : Index := 0#32
  let c0_i32_93 : BitVec 32 := 0#32
  let c1_i32_95 : BitVec 32 := 1#32
  let arg85 : BitVec 32 := Scf.iv c0_i32_93 c1_i32_95 k0_t25
  let v180 : Index := Scalar.indexCast arg85
  let c5 : Index := 5#32
  ![0, v180.toNat, 5]
def k0_off127 (k0_t25 : Fin k0_t25_loop.trips) : Fin 3 → Nat :=
  let c0_565 : Index := 0#32
  let c0_i32_93 : BitVec 32 := 0#32
  let c1_i32_95 : BitVec 32 := 1#32
  let arg85 : BitVec 32 := Scf.iv c0_i32_93 c1_i32_95 k0_t25
  let v189 : Index := Scalar.indexCast arg85
  let c6 : Index := 6#32
  ![0, v189.toNat, 6]
def k0_off128 (k0_t25 : Fin k0_t25_loop.trips) : Fin 3 → Nat :=
  let c0_569 : Index := 0#32
  let c256_i32 : BitVec 32 := 256#32
  let c0_i32_93 : BitVec 32 := 0#32
  let c1_i32_95 : BitVec 32 := 1#32
  let arg85 : BitVec 32 := Scf.iv c0_i32_93 c1_i32_95 k0_t25
  let v198 : BitVec 32 := Scalar.addi c256_i32 arg85
  let v199 : Index := Scalar.indexCast v198
  let c0_570 : Index := 0#32
  ![0, v199.toNat, 0]
@[reducible] def k0_t26_loop : Scf.Loop 32 :=
  let c0_i32_97 : BitVec 32 := 0#32
  let c16_i32_98 : BitVec 32 := 16#32
  let v25 : BitVec 32 := Scalar.addi c0_i32_97 c16_i32_98
  let c1_i32_99 : BitVec 32 := 1#32
  ⟨c0_i32_97, v25, c1_i32_99⟩
def k0_off129 (k0_t26 : Fin k0_t26_loop.trips) : Fin 3 → Nat :=
  let c0 : Index := 0#32
  let c0_i32_97 : BitVec 32 := 0#32
  let c1_i32_99 : BitVec 32 := 1#32
  let arg85 : BitVec 32 := Scf.iv c0_i32_97 c1_i32_99 k0_t26
  let v136 : Index := Scalar.indexCast arg85
  let c0_541 : Index := 0#32
  ![0, v136.toNat, 0]
def k0_off130 (k0_t26 : Fin k0_t26_loop.trips) : Fin 3 → Nat :=
  let c0_545 : Index := 0#32
  let c0_i32_97 : BitVec 32 := 0#32
  let c1_i32_99 : BitVec 32 := 1#32
  let arg85 : BitVec 32 := Scf.iv c0_i32_97 c1_i32_99 k0_t26
  let v144 : Index := Scalar.indexCast arg85
  let c1 : Index := 1#32
  ![0, v144.toNat, 1]
def k0_off131 (k0_t26 : Fin k0_t26_loop.trips) : Fin 3 → Nat :=
  let c0_549 : Index := 0#32
  let c0_i32_97 : BitVec 32 := 0#32
  let c1_i32_99 : BitVec 32 := 1#32
  let arg85 : BitVec 32 := Scf.iv c0_i32_97 c1_i32_99 k0_t26
  let v153 : Index := Scalar.indexCast arg85
  let c2 : Index := 2#32
  ![0, v153.toNat, 2]
def k0_off132 (k0_t26 : Fin k0_t26_loop.trips) : Fin 3 → Nat :=
  let c0_553 : Index := 0#32
  let c0_i32_97 : BitVec 32 := 0#32
  let c1_i32_99 : BitVec 32 := 1#32
  let arg85 : BitVec 32 := Scf.iv c0_i32_97 c1_i32_99 k0_t26
  let v162 : Index := Scalar.indexCast arg85
  let c3 : Index := 3#32
  ![0, v162.toNat, 3]
def k0_off133 (k0_t26 : Fin k0_t26_loop.trips) : Fin 3 → Nat :=
  let c0_557 : Index := 0#32
  let c0_i32_97 : BitVec 32 := 0#32
  let c1_i32_99 : BitVec 32 := 1#32
  let arg85 : BitVec 32 := Scf.iv c0_i32_97 c1_i32_99 k0_t26
  let v171 : Index := Scalar.indexCast arg85
  let c4 : Index := 4#32
  ![0, v171.toNat, 4]
def k0_off134 (k0_t26 : Fin k0_t26_loop.trips) : Fin 3 → Nat :=
  let c0_561 : Index := 0#32
  let c0_i32_97 : BitVec 32 := 0#32
  let c1_i32_99 : BitVec 32 := 1#32
  let arg85 : BitVec 32 := Scf.iv c0_i32_97 c1_i32_99 k0_t26
  let v180 : Index := Scalar.indexCast arg85
  let c5 : Index := 5#32
  ![0, v180.toNat, 5]
def k0_off135 (k0_t26 : Fin k0_t26_loop.trips) : Fin 3 → Nat :=
  let c0_565 : Index := 0#32
  let c0_i32_97 : BitVec 32 := 0#32
  let c1_i32_99 : BitVec 32 := 1#32
  let arg85 : BitVec 32 := Scf.iv c0_i32_97 c1_i32_99 k0_t26
  let v189 : Index := Scalar.indexCast arg85
  let c6 : Index := 6#32
  ![0, v189.toNat, 6]
def k0_off136 (k0_t26 : Fin k0_t26_loop.trips) : Fin 3 → Nat :=
  let c0_569 : Index := 0#32
  let c272_i32 : BitVec 32 := 272#32
  let c0_i32_97 : BitVec 32 := 0#32
  let c1_i32_99 : BitVec 32 := 1#32
  let arg85 : BitVec 32 := Scf.iv c0_i32_97 c1_i32_99 k0_t26
  let v198 : BitVec 32 := Scalar.addi c272_i32 arg85
  let v199 : Index := Scalar.indexCast v198
  let c0_570 : Index := 0#32
  ![0, v199.toNat, 0]
@[reducible] def k0_t27_loop : Scf.Loop 32 :=
  let c0_i32_101 : BitVec 32 := 0#32
  let c16_i32_102 : BitVec 32 := 16#32
  let v26 : BitVec 32 := Scalar.addi c0_i32_101 c16_i32_102
  let c1_i32_103 : BitVec 32 := 1#32
  ⟨c0_i32_101, v26, c1_i32_103⟩
def k0_off137 (k0_t27 : Fin k0_t27_loop.trips) : Fin 3 → Nat :=
  let c0 : Index := 0#32
  let c0_i32_101 : BitVec 32 := 0#32
  let c1_i32_103 : BitVec 32 := 1#32
  let arg85 : BitVec 32 := Scf.iv c0_i32_101 c1_i32_103 k0_t27
  let v136 : Index := Scalar.indexCast arg85
  let c0_541 : Index := 0#32
  ![0, v136.toNat, 0]
def k0_off138 (k0_t27 : Fin k0_t27_loop.trips) : Fin 3 → Nat :=
  let c0_546 : Index := 0#32
  let c0_i32_545 : BitVec 32 := 0#32
  let c0_i32_101 : BitVec 32 := 0#32
  let c1_i32_103 : BitVec 32 := 1#32
  let arg85 : BitVec 32 := Scf.iv c0_i32_101 c1_i32_103 k0_t27
  let v144 : BitVec 32 := Scalar.addi c0_i32_545 arg85
  let v145 : Index := Scalar.indexCast v144
  let c0_547 : Index := 0#32
  ![0, v145.toNat, 0]
@[reducible] def k0_t28_loop : Scf.Loop 32 :=
  let c0_i32_105 : BitVec 32 := 0#32
  let c16_i32_106 : BitVec 32 := 16#32
  let v27 : BitVec 32 := Scalar.addi c0_i32_105 c16_i32_106
  let c1_i32_107 : BitVec 32 := 1#32
  ⟨c0_i32_105, v27, c1_i32_107⟩
def k0_off139 (k0_t28 : Fin k0_t28_loop.trips) : Fin 3 → Nat :=
  let c0 : Index := 0#32
  let c0_i32_105 : BitVec 32 := 0#32
  let c1_i32_107 : BitVec 32 := 1#32
  let arg85 : BitVec 32 := Scf.iv c0_i32_105 c1_i32_107 k0_t28
  let v136 : Index := Scalar.indexCast arg85
  let c0_541 : Index := 0#32
  ![0, v136.toNat, 0]
def k0_off140 (k0_t28 : Fin k0_t28_loop.trips) : Fin 3 → Nat :=
  let c0_545 : Index := 0#32
  let c0_i32_105 : BitVec 32 := 0#32
  let c1_i32_107 : BitVec 32 := 1#32
  let arg85 : BitVec 32 := Scf.iv c0_i32_105 c1_i32_107 k0_t28
  let v144 : Index := Scalar.indexCast arg85
  let c1 : Index := 1#32
  ![0, v144.toNat, 1]
def k0_off141 (k0_t28 : Fin k0_t28_loop.trips) : Fin 3 → Nat :=
  let c0_549 : Index := 0#32
  let c0_i32_105 : BitVec 32 := 0#32
  let c1_i32_107 : BitVec 32 := 1#32
  let arg85 : BitVec 32 := Scf.iv c0_i32_105 c1_i32_107 k0_t28
  let v153 : Index := Scalar.indexCast arg85
  let c2 : Index := 2#32
  ![0, v153.toNat, 2]
def k0_off142 (k0_t28 : Fin k0_t28_loop.trips) : Fin 3 → Nat :=
  let c0_554 : Index := 0#32
  let c16_i32_553 : BitVec 32 := 16#32
  let c0_i32_105 : BitVec 32 := 0#32
  let c1_i32_107 : BitVec 32 := 1#32
  let arg85 : BitVec 32 := Scf.iv c0_i32_105 c1_i32_107 k0_t28
  let v162 : BitVec 32 := Scalar.addi c16_i32_553 arg85
  let v163 : Index := Scalar.indexCast v162
  let c0_555 : Index := 0#32
  ![0, v163.toNat, 0]
@[reducible] def k0_t29_loop : Scf.Loop 32 :=
  let c0_i32_109 : BitVec 32 := 0#32
  let c16_i32_110 : BitVec 32 := 16#32
  let v28 : BitVec 32 := Scalar.addi c0_i32_109 c16_i32_110
  let c1_i32_111 : BitVec 32 := 1#32
  ⟨c0_i32_109, v28, c1_i32_111⟩
def k0_off143 (k0_t29 : Fin k0_t29_loop.trips) : Fin 3 → Nat :=
  let c0 : Index := 0#32
  let c0_i32_109 : BitVec 32 := 0#32
  let c1_i32_111 : BitVec 32 := 1#32
  let arg85 : BitVec 32 := Scf.iv c0_i32_109 c1_i32_111 k0_t29
  let v136 : Index := Scalar.indexCast arg85
  let c0_541 : Index := 0#32
  ![0, v136.toNat, 0]
def k0_off144 (k0_t29 : Fin k0_t29_loop.trips) : Fin 3 → Nat :=
  let c0_545 : Index := 0#32
  let c0_i32_109 : BitVec 32 := 0#32
  let c1_i32_111 : BitVec 32 := 1#32
  let arg85 : BitVec 32 := Scf.iv c0_i32_109 c1_i32_111 k0_t29
  let v144 : Index := Scalar.indexCast arg85
  let c1 : Index := 1#32
  ![0, v144.toNat, 1]
def k0_off145 (k0_t29 : Fin k0_t29_loop.trips) : Fin 3 → Nat :=
  let c0_549 : Index := 0#32
  let c0_i32_109 : BitVec 32 := 0#32
  let c1_i32_111 : BitVec 32 := 1#32
  let arg85 : BitVec 32 := Scf.iv c0_i32_109 c1_i32_111 k0_t29
  let v153 : Index := Scalar.indexCast arg85
  let c2 : Index := 2#32
  ![0, v153.toNat, 2]
def k0_off146 (k0_t29 : Fin k0_t29_loop.trips) : Fin 3 → Nat :=
  let c0_553 : Index := 0#32
  let c32_i32 : BitVec 32 := 32#32
  let c0_i32_109 : BitVec 32 := 0#32
  let c1_i32_111 : BitVec 32 := 1#32
  let arg85 : BitVec 32 := Scf.iv c0_i32_109 c1_i32_111 k0_t29
  let v162 : BitVec 32 := Scalar.addi c32_i32 arg85
  let v163 : Index := Scalar.indexCast v162
  let c0_554 : Index := 0#32
  ![0, v163.toNat, 0]
@[reducible] def k0_t30_loop : Scf.Loop 32 :=
  let c0_i32_113 : BitVec 32 := 0#32
  let c16_i32_114 : BitVec 32 := 16#32
  let v29 : BitVec 32 := Scalar.addi c0_i32_113 c16_i32_114
  let c1_i32_115 : BitVec 32 := 1#32
  ⟨c0_i32_113, v29, c1_i32_115⟩
def k0_off147 (k0_t30 : Fin k0_t30_loop.trips) : Fin 3 → Nat :=
  let c0 : Index := 0#32
  let c0_i32_113 : BitVec 32 := 0#32
  let c1_i32_115 : BitVec 32 := 1#32
  let arg85 : BitVec 32 := Scf.iv c0_i32_113 c1_i32_115 k0_t30
  let v136 : Index := Scalar.indexCast arg85
  let c0_541 : Index := 0#32
  ![0, v136.toNat, 0]
def k0_off148 (k0_t30 : Fin k0_t30_loop.trips) : Fin 3 → Nat :=
  let c0_545 : Index := 0#32
  let c0_i32_113 : BitVec 32 := 0#32
  let c1_i32_115 : BitVec 32 := 1#32
  let arg85 : BitVec 32 := Scf.iv c0_i32_113 c1_i32_115 k0_t30
  let v144 : Index := Scalar.indexCast arg85
  let c1 : Index := 1#32
  ![0, v144.toNat, 1]
def k0_off149 (k0_t30 : Fin k0_t30_loop.trips) : Fin 3 → Nat :=
  let c0_549 : Index := 0#32
  let c0_i32_113 : BitVec 32 := 0#32
  let c1_i32_115 : BitVec 32 := 1#32
  let arg85 : BitVec 32 := Scf.iv c0_i32_113 c1_i32_115 k0_t30
  let v153 : Index := Scalar.indexCast arg85
  let c2 : Index := 2#32
  ![0, v153.toNat, 2]
def k0_off150 (k0_t30 : Fin k0_t30_loop.trips) : Fin 3 → Nat :=
  let c0_553 : Index := 0#32
  let c48_i32 : BitVec 32 := 48#32
  let c0_i32_113 : BitVec 32 := 0#32
  let c1_i32_115 : BitVec 32 := 1#32
  let arg85 : BitVec 32 := Scf.iv c0_i32_113 c1_i32_115 k0_t30
  let v162 : BitVec 32 := Scalar.addi c48_i32 arg85
  let v163 : Index := Scalar.indexCast v162
  let c0_554 : Index := 0#32
  ![0, v163.toNat, 0]
@[reducible] def k0_t31_loop : Scf.Loop 32 :=
  let c0_i32_117 : BitVec 32 := 0#32
  let c16_i32_118 : BitVec 32 := 16#32
  let v30 : BitVec 32 := Scalar.addi c0_i32_117 c16_i32_118
  let c1_i32_119 : BitVec 32 := 1#32
  ⟨c0_i32_117, v30, c1_i32_119⟩
def k0_off151 (k0_t31 : Fin k0_t31_loop.trips) : Fin 3 → Nat :=
  let c0 : Index := 0#32
  let c0_i32_117 : BitVec 32 := 0#32
  let c1_i32_119 : BitVec 32 := 1#32
  let arg85 : BitVec 32 := Scf.iv c0_i32_117 c1_i32_119 k0_t31
  let v136 : Index := Scalar.indexCast arg85
  let c0_541 : Index := 0#32
  ![0, v136.toNat, 0]
def k0_off152 (k0_t31 : Fin k0_t31_loop.trips) : Fin 3 → Nat :=
  let c0_545 : Index := 0#32
  let c0_i32_117 : BitVec 32 := 0#32
  let c1_i32_119 : BitVec 32 := 1#32
  let arg85 : BitVec 32 := Scf.iv c0_i32_117 c1_i32_119 k0_t31
  let v144 : Index := Scalar.indexCast arg85
  let c1 : Index := 1#32
  ![0, v144.toNat, 1]
def k0_off153 (k0_t31 : Fin k0_t31_loop.trips) : Fin 3 → Nat :=
  let c0_549 : Index := 0#32
  let c0_i32_117 : BitVec 32 := 0#32
  let c1_i32_119 : BitVec 32 := 1#32
  let arg85 : BitVec 32 := Scf.iv c0_i32_117 c1_i32_119 k0_t31
  let v153 : Index := Scalar.indexCast arg85
  let c2 : Index := 2#32
  ![0, v153.toNat, 2]
def k0_off154 (k0_t31 : Fin k0_t31_loop.trips) : Fin 3 → Nat :=
  let c0_553 : Index := 0#32
  let c0_i32_117 : BitVec 32 := 0#32
  let c1_i32_119 : BitVec 32 := 1#32
  let arg85 : BitVec 32 := Scf.iv c0_i32_117 c1_i32_119 k0_t31
  let v162 : Index := Scalar.indexCast arg85
  let c3 : Index := 3#32
  ![0, v162.toNat, 3]
def k0_off155 (k0_t31 : Fin k0_t31_loop.trips) : Fin 3 → Nat :=
  let c0_557 : Index := 0#32
  let c0_i32_117 : BitVec 32 := 0#32
  let c1_i32_119 : BitVec 32 := 1#32
  let arg85 : BitVec 32 := Scf.iv c0_i32_117 c1_i32_119 k0_t31
  let v171 : Index := Scalar.indexCast arg85
  let c4 : Index := 4#32
  ![0, v171.toNat, 4]
def k0_off156 (k0_t31 : Fin k0_t31_loop.trips) : Fin 3 → Nat :=
  let c0_561 : Index := 0#32
  let c64_i32 : BitVec 32 := 64#32
  let c0_i32_117 : BitVec 32 := 0#32
  let c1_i32_119 : BitVec 32 := 1#32
  let arg85 : BitVec 32 := Scf.iv c0_i32_117 c1_i32_119 k0_t31
  let v180 : BitVec 32 := Scalar.addi c64_i32 arg85
  let v181 : Index := Scalar.indexCast v180
  let c0_562 : Index := 0#32
  ![0, v181.toNat, 0]
@[reducible] def k0_t32_loop : Scf.Loop 32 :=
  let c0_i32_121 : BitVec 32 := 0#32
  let c16_i32_122 : BitVec 32 := 16#32
  let v31 : BitVec 32 := Scalar.addi c0_i32_121 c16_i32_122
  let c1_i32_123 : BitVec 32 := 1#32
  ⟨c0_i32_121, v31, c1_i32_123⟩
def k0_off157 (k0_t32 : Fin k0_t32_loop.trips) : Fin 3 → Nat :=
  let c0 : Index := 0#32
  let c0_i32_121 : BitVec 32 := 0#32
  let c1_i32_123 : BitVec 32 := 1#32
  let arg85 : BitVec 32 := Scf.iv c0_i32_121 c1_i32_123 k0_t32
  let v136 : Index := Scalar.indexCast arg85
  let c0_541 : Index := 0#32
  ![0, v136.toNat, 0]
def k0_off158 (k0_t32 : Fin k0_t32_loop.trips) : Fin 3 → Nat :=
  let c0_545 : Index := 0#32
  let c0_i32_121 : BitVec 32 := 0#32
  let c1_i32_123 : BitVec 32 := 1#32
  let arg85 : BitVec 32 := Scf.iv c0_i32_121 c1_i32_123 k0_t32
  let v144 : Index := Scalar.indexCast arg85
  let c1 : Index := 1#32
  ![0, v144.toNat, 1]
def k0_off159 (k0_t32 : Fin k0_t32_loop.trips) : Fin 3 → Nat :=
  let c0_549 : Index := 0#32
  let c0_i32_121 : BitVec 32 := 0#32
  let c1_i32_123 : BitVec 32 := 1#32
  let arg85 : BitVec 32 := Scf.iv c0_i32_121 c1_i32_123 k0_t32
  let v153 : Index := Scalar.indexCast arg85
  let c2 : Index := 2#32
  ![0, v153.toNat, 2]
def k0_off160 (k0_t32 : Fin k0_t32_loop.trips) : Fin 3 → Nat :=
  let c0_553 : Index := 0#32
  let c0_i32_121 : BitVec 32 := 0#32
  let c1_i32_123 : BitVec 32 := 1#32
  let arg85 : BitVec 32 := Scf.iv c0_i32_121 c1_i32_123 k0_t32
  let v162 : Index := Scalar.indexCast arg85
  let c3 : Index := 3#32
  ![0, v162.toNat, 3]
def k0_off161 (k0_t32 : Fin k0_t32_loop.trips) : Fin 3 → Nat :=
  let c0_557 : Index := 0#32
  let c0_i32_121 : BitVec 32 := 0#32
  let c1_i32_123 : BitVec 32 := 1#32
  let arg85 : BitVec 32 := Scf.iv c0_i32_121 c1_i32_123 k0_t32
  let v171 : Index := Scalar.indexCast arg85
  let c4 : Index := 4#32
  ![0, v171.toNat, 4]
def k0_off162 (k0_t32 : Fin k0_t32_loop.trips) : Fin 3 → Nat :=
  let c0_561 : Index := 0#32
  let c80_i32 : BitVec 32 := 80#32
  let c0_i32_121 : BitVec 32 := 0#32
  let c1_i32_123 : BitVec 32 := 1#32
  let arg85 : BitVec 32 := Scf.iv c0_i32_121 c1_i32_123 k0_t32
  let v180 : BitVec 32 := Scalar.addi c80_i32 arg85
  let v181 : Index := Scalar.indexCast v180
  let c0_562 : Index := 0#32
  ![0, v181.toNat, 0]
@[reducible] def k0_t33_loop : Scf.Loop 32 :=
  let c0_i32_125 : BitVec 32 := 0#32
  let c16_i32_126 : BitVec 32 := 16#32
  let v32 : BitVec 32 := Scalar.addi c0_i32_125 c16_i32_126
  let c1_i32_127 : BitVec 32 := 1#32
  ⟨c0_i32_125, v32, c1_i32_127⟩
def k0_off163 (k0_t33 : Fin k0_t33_loop.trips) : Fin 3 → Nat :=
  let c0 : Index := 0#32
  let c0_i32_125 : BitVec 32 := 0#32
  let c1_i32_127 : BitVec 32 := 1#32
  let arg85 : BitVec 32 := Scf.iv c0_i32_125 c1_i32_127 k0_t33
  let v136 : Index := Scalar.indexCast arg85
  let c0_541 : Index := 0#32
  ![0, v136.toNat, 0]
def k0_off164 (k0_t33 : Fin k0_t33_loop.trips) : Fin 3 → Nat :=
  let c0_545 : Index := 0#32
  let c0_i32_125 : BitVec 32 := 0#32
  let c1_i32_127 : BitVec 32 := 1#32
  let arg85 : BitVec 32 := Scf.iv c0_i32_125 c1_i32_127 k0_t33
  let v144 : Index := Scalar.indexCast arg85
  let c1 : Index := 1#32
  ![0, v144.toNat, 1]
def k0_off165 (k0_t33 : Fin k0_t33_loop.trips) : Fin 3 → Nat :=
  let c0_549 : Index := 0#32
  let c0_i32_125 : BitVec 32 := 0#32
  let c1_i32_127 : BitVec 32 := 1#32
  let arg85 : BitVec 32 := Scf.iv c0_i32_125 c1_i32_127 k0_t33
  let v153 : Index := Scalar.indexCast arg85
  let c2 : Index := 2#32
  ![0, v153.toNat, 2]
def k0_off166 (k0_t33 : Fin k0_t33_loop.trips) : Fin 3 → Nat :=
  let c0_553 : Index := 0#32
  let c0_i32_125 : BitVec 32 := 0#32
  let c1_i32_127 : BitVec 32 := 1#32
  let arg85 : BitVec 32 := Scf.iv c0_i32_125 c1_i32_127 k0_t33
  let v162 : Index := Scalar.indexCast arg85
  let c3 : Index := 3#32
  ![0, v162.toNat, 3]
def k0_off167 (k0_t33 : Fin k0_t33_loop.trips) : Fin 3 → Nat :=
  let c0_557 : Index := 0#32
  let c0_i32_125 : BitVec 32 := 0#32
  let c1_i32_127 : BitVec 32 := 1#32
  let arg85 : BitVec 32 := Scf.iv c0_i32_125 c1_i32_127 k0_t33
  let v171 : Index := Scalar.indexCast arg85
  let c4 : Index := 4#32
  ![0, v171.toNat, 4]
def k0_off168 (k0_t33 : Fin k0_t33_loop.trips) : Fin 3 → Nat :=
  let c0_561 : Index := 0#32
  let c96_i32 : BitVec 32 := 96#32
  let c0_i32_125 : BitVec 32 := 0#32
  let c1_i32_127 : BitVec 32 := 1#32
  let arg85 : BitVec 32 := Scf.iv c0_i32_125 c1_i32_127 k0_t33
  let v180 : BitVec 32 := Scalar.addi c96_i32 arg85
  let v181 : Index := Scalar.indexCast v180
  let c0_562 : Index := 0#32
  ![0, v181.toNat, 0]
@[reducible] def k0_t34_loop : Scf.Loop 32 :=
  let c0_i32_129 : BitVec 32 := 0#32
  let c16_i32_130 : BitVec 32 := 16#32
  let v33 : BitVec 32 := Scalar.addi c0_i32_129 c16_i32_130
  let c1_i32_131 : BitVec 32 := 1#32
  ⟨c0_i32_129, v33, c1_i32_131⟩
def k0_off169 (k0_t34 : Fin k0_t34_loop.trips) : Fin 3 → Nat :=
  let c0 : Index := 0#32
  let c0_i32_129 : BitVec 32 := 0#32
  let c1_i32_131 : BitVec 32 := 1#32
  let arg85 : BitVec 32 := Scf.iv c0_i32_129 c1_i32_131 k0_t34
  let v136 : Index := Scalar.indexCast arg85
  let c0_541 : Index := 0#32
  ![0, v136.toNat, 0]
def k0_off170 (k0_t34 : Fin k0_t34_loop.trips) : Fin 3 → Nat :=
  let c0_545 : Index := 0#32
  let c0_i32_129 : BitVec 32 := 0#32
  let c1_i32_131 : BitVec 32 := 1#32
  let arg85 : BitVec 32 := Scf.iv c0_i32_129 c1_i32_131 k0_t34
  let v144 : Index := Scalar.indexCast arg85
  let c1 : Index := 1#32
  ![0, v144.toNat, 1]
def k0_off171 (k0_t34 : Fin k0_t34_loop.trips) : Fin 3 → Nat :=
  let c0_549 : Index := 0#32
  let c0_i32_129 : BitVec 32 := 0#32
  let c1_i32_131 : BitVec 32 := 1#32
  let arg85 : BitVec 32 := Scf.iv c0_i32_129 c1_i32_131 k0_t34
  let v153 : Index := Scalar.indexCast arg85
  let c2 : Index := 2#32
  ![0, v153.toNat, 2]
def k0_off172 (k0_t34 : Fin k0_t34_loop.trips) : Fin 3 → Nat :=
  let c0_553 : Index := 0#32
  let c0_i32_129 : BitVec 32 := 0#32
  let c1_i32_131 : BitVec 32 := 1#32
  let arg85 : BitVec 32 := Scf.iv c0_i32_129 c1_i32_131 k0_t34
  let v162 : Index := Scalar.indexCast arg85
  let c3 : Index := 3#32
  ![0, v162.toNat, 3]
def k0_off173 (k0_t34 : Fin k0_t34_loop.trips) : Fin 3 → Nat :=
  let c0_557 : Index := 0#32
  let c0_i32_129 : BitVec 32 := 0#32
  let c1_i32_131 : BitVec 32 := 1#32
  let arg85 : BitVec 32 := Scf.iv c0_i32_129 c1_i32_131 k0_t34
  let v171 : Index := Scalar.indexCast arg85
  let c4 : Index := 4#32
  ![0, v171.toNat, 4]
def k0_off174 (k0_t34 : Fin k0_t34_loop.trips) : Fin 3 → Nat :=
  let c0_561 : Index := 0#32
  let c112_i32 : BitVec 32 := 112#32
  let c0_i32_129 : BitVec 32 := 0#32
  let c1_i32_131 : BitVec 32 := 1#32
  let arg85 : BitVec 32 := Scf.iv c0_i32_129 c1_i32_131 k0_t34
  let v180 : BitVec 32 := Scalar.addi c112_i32 arg85
  let v181 : Index := Scalar.indexCast v180
  let c0_562 : Index := 0#32
  ![0, v181.toNat, 0]
@[reducible] def k0_t35_loop : Scf.Loop 32 :=
  let c0_i32_133 : BitVec 32 := 0#32
  let c16_i32_134 : BitVec 32 := 16#32
  let v34 : BitVec 32 := Scalar.addi c0_i32_133 c16_i32_134
  let c1_i32_135 : BitVec 32 := 1#32
  ⟨c0_i32_133, v34, c1_i32_135⟩
def k0_off175 (k0_t35 : Fin k0_t35_loop.trips) : Fin 3 → Nat :=
  let c0 : Index := 0#32
  let c0_i32_133 : BitVec 32 := 0#32
  let c1_i32_135 : BitVec 32 := 1#32
  let arg85 : BitVec 32 := Scf.iv c0_i32_133 c1_i32_135 k0_t35
  let v136 : Index := Scalar.indexCast arg85
  let c0_541 : Index := 0#32
  ![0, v136.toNat, 0]
def k0_off176 (k0_t35 : Fin k0_t35_loop.trips) : Fin 3 → Nat :=
  let c0_545 : Index := 0#32
  let c0_i32_133 : BitVec 32 := 0#32
  let c1_i32_135 : BitVec 32 := 1#32
  let arg85 : BitVec 32 := Scf.iv c0_i32_133 c1_i32_135 k0_t35
  let v144 : Index := Scalar.indexCast arg85
  let c1 : Index := 1#32
  ![0, v144.toNat, 1]
def k0_off177 (k0_t35 : Fin k0_t35_loop.trips) : Fin 3 → Nat :=
  let c0_549 : Index := 0#32
  let c0_i32_133 : BitVec 32 := 0#32
  let c1_i32_135 : BitVec 32 := 1#32
  let arg85 : BitVec 32 := Scf.iv c0_i32_133 c1_i32_135 k0_t35
  let v153 : Index := Scalar.indexCast arg85
  let c2 : Index := 2#32
  ![0, v153.toNat, 2]
def k0_off178 (k0_t35 : Fin k0_t35_loop.trips) : Fin 3 → Nat :=
  let c0_553 : Index := 0#32
  let c0_i32_133 : BitVec 32 := 0#32
  let c1_i32_135 : BitVec 32 := 1#32
  let arg85 : BitVec 32 := Scf.iv c0_i32_133 c1_i32_135 k0_t35
  let v162 : Index := Scalar.indexCast arg85
  let c3 : Index := 3#32
  ![0, v162.toNat, 3]
def k0_off179 (k0_t35 : Fin k0_t35_loop.trips) : Fin 3 → Nat :=
  let c0_557 : Index := 0#32
  let c0_i32_133 : BitVec 32 := 0#32
  let c1_i32_135 : BitVec 32 := 1#32
  let arg85 : BitVec 32 := Scf.iv c0_i32_133 c1_i32_135 k0_t35
  let v171 : Index := Scalar.indexCast arg85
  let c4 : Index := 4#32
  ![0, v171.toNat, 4]
def k0_off180 (k0_t35 : Fin k0_t35_loop.trips) : Fin 3 → Nat :=
  let c0_561 : Index := 0#32
  let c0_i32_133 : BitVec 32 := 0#32
  let c1_i32_135 : BitVec 32 := 1#32
  let arg85 : BitVec 32 := Scf.iv c0_i32_133 c1_i32_135 k0_t35
  let v180 : Index := Scalar.indexCast arg85
  let c5 : Index := 5#32
  ![0, v180.toNat, 5]
def k0_off181 (k0_t35 : Fin k0_t35_loop.trips) : Fin 3 → Nat :=
  let c0_565 : Index := 0#32
  let c0_i32_133 : BitVec 32 := 0#32
  let c1_i32_135 : BitVec 32 := 1#32
  let arg85 : BitVec 32 := Scf.iv c0_i32_133 c1_i32_135 k0_t35
  let v189 : Index := Scalar.indexCast arg85
  let c6 : Index := 6#32
  ![0, v189.toNat, 6]
def k0_off182 (k0_t35 : Fin k0_t35_loop.trips) : Fin 3 → Nat :=
  let c0_569 : Index := 0#32
  let c128_i32 : BitVec 32 := 128#32
  let c0_i32_133 : BitVec 32 := 0#32
  let c1_i32_135 : BitVec 32 := 1#32
  let arg85 : BitVec 32 := Scf.iv c0_i32_133 c1_i32_135 k0_t35
  let v198 : BitVec 32 := Scalar.addi c128_i32 arg85
  let v199 : Index := Scalar.indexCast v198
  let c0_570 : Index := 0#32
  ![0, v199.toNat, 0]
@[reducible] def k0_t36_loop : Scf.Loop 32 :=
  let c0_i32_137 : BitVec 32 := 0#32
  let c16_i32_138 : BitVec 32 := 16#32
  let v35 : BitVec 32 := Scalar.addi c0_i32_137 c16_i32_138
  let c1_i32_139 : BitVec 32 := 1#32
  ⟨c0_i32_137, v35, c1_i32_139⟩
def k0_off183 (k0_t36 : Fin k0_t36_loop.trips) : Fin 3 → Nat :=
  let c0 : Index := 0#32
  let c0_i32_137 : BitVec 32 := 0#32
  let c1_i32_139 : BitVec 32 := 1#32
  let arg85 : BitVec 32 := Scf.iv c0_i32_137 c1_i32_139 k0_t36
  let v136 : Index := Scalar.indexCast arg85
  let c0_541 : Index := 0#32
  ![0, v136.toNat, 0]
def k0_off184 (k0_t36 : Fin k0_t36_loop.trips) : Fin 3 → Nat :=
  let c0_545 : Index := 0#32
  let c0_i32_137 : BitVec 32 := 0#32
  let c1_i32_139 : BitVec 32 := 1#32
  let arg85 : BitVec 32 := Scf.iv c0_i32_137 c1_i32_139 k0_t36
  let v144 : Index := Scalar.indexCast arg85
  let c1 : Index := 1#32
  ![0, v144.toNat, 1]
def k0_off185 (k0_t36 : Fin k0_t36_loop.trips) : Fin 3 → Nat :=
  let c0_549 : Index := 0#32
  let c0_i32_137 : BitVec 32 := 0#32
  let c1_i32_139 : BitVec 32 := 1#32
  let arg85 : BitVec 32 := Scf.iv c0_i32_137 c1_i32_139 k0_t36
  let v153 : Index := Scalar.indexCast arg85
  let c2 : Index := 2#32
  ![0, v153.toNat, 2]
def k0_off186 (k0_t36 : Fin k0_t36_loop.trips) : Fin 3 → Nat :=
  let c0_553 : Index := 0#32
  let c0_i32_137 : BitVec 32 := 0#32
  let c1_i32_139 : BitVec 32 := 1#32
  let arg85 : BitVec 32 := Scf.iv c0_i32_137 c1_i32_139 k0_t36
  let v162 : Index := Scalar.indexCast arg85
  let c3 : Index := 3#32
  ![0, v162.toNat, 3]
def k0_off187 (k0_t36 : Fin k0_t36_loop.trips) : Fin 3 → Nat :=
  let c0_557 : Index := 0#32
  let c0_i32_137 : BitVec 32 := 0#32
  let c1_i32_139 : BitVec 32 := 1#32
  let arg85 : BitVec 32 := Scf.iv c0_i32_137 c1_i32_139 k0_t36
  let v171 : Index := Scalar.indexCast arg85
  let c4 : Index := 4#32
  ![0, v171.toNat, 4]
def k0_off188 (k0_t36 : Fin k0_t36_loop.trips) : Fin 3 → Nat :=
  let c0_561 : Index := 0#32
  let c0_i32_137 : BitVec 32 := 0#32
  let c1_i32_139 : BitVec 32 := 1#32
  let arg85 : BitVec 32 := Scf.iv c0_i32_137 c1_i32_139 k0_t36
  let v180 : Index := Scalar.indexCast arg85
  let c5 : Index := 5#32
  ![0, v180.toNat, 5]
def k0_off189 (k0_t36 : Fin k0_t36_loop.trips) : Fin 3 → Nat :=
  let c0_565 : Index := 0#32
  let c0_i32_137 : BitVec 32 := 0#32
  let c1_i32_139 : BitVec 32 := 1#32
  let arg85 : BitVec 32 := Scf.iv c0_i32_137 c1_i32_139 k0_t36
  let v189 : Index := Scalar.indexCast arg85
  let c6 : Index := 6#32
  ![0, v189.toNat, 6]
def k0_off190 (k0_t36 : Fin k0_t36_loop.trips) : Fin 3 → Nat :=
  let c0_569 : Index := 0#32
  let c144_i32 : BitVec 32 := 144#32
  let c0_i32_137 : BitVec 32 := 0#32
  let c1_i32_139 : BitVec 32 := 1#32
  let arg85 : BitVec 32 := Scf.iv c0_i32_137 c1_i32_139 k0_t36
  let v198 : BitVec 32 := Scalar.addi c144_i32 arg85
  let v199 : Index := Scalar.indexCast v198
  let c0_570 : Index := 0#32
  ![0, v199.toNat, 0]
@[reducible] def k0_t37_loop : Scf.Loop 32 :=
  let c0_i32_141 : BitVec 32 := 0#32
  let c16_i32_142 : BitVec 32 := 16#32
  let v36 : BitVec 32 := Scalar.addi c0_i32_141 c16_i32_142
  let c1_i32_143 : BitVec 32 := 1#32
  ⟨c0_i32_141, v36, c1_i32_143⟩
def k0_off191 (k0_t37 : Fin k0_t37_loop.trips) : Fin 3 → Nat :=
  let c0 : Index := 0#32
  let c0_i32_141 : BitVec 32 := 0#32
  let c1_i32_143 : BitVec 32 := 1#32
  let arg85 : BitVec 32 := Scf.iv c0_i32_141 c1_i32_143 k0_t37
  let v136 : Index := Scalar.indexCast arg85
  let c0_541 : Index := 0#32
  ![0, v136.toNat, 0]
def k0_off192 (k0_t37 : Fin k0_t37_loop.trips) : Fin 3 → Nat :=
  let c0_545 : Index := 0#32
  let c0_i32_141 : BitVec 32 := 0#32
  let c1_i32_143 : BitVec 32 := 1#32
  let arg85 : BitVec 32 := Scf.iv c0_i32_141 c1_i32_143 k0_t37
  let v144 : Index := Scalar.indexCast arg85
  let c1 : Index := 1#32
  ![0, v144.toNat, 1]
def k0_off193 (k0_t37 : Fin k0_t37_loop.trips) : Fin 3 → Nat :=
  let c0_549 : Index := 0#32
  let c0_i32_141 : BitVec 32 := 0#32
  let c1_i32_143 : BitVec 32 := 1#32
  let arg85 : BitVec 32 := Scf.iv c0_i32_141 c1_i32_143 k0_t37
  let v153 : Index := Scalar.indexCast arg85
  let c2 : Index := 2#32
  ![0, v153.toNat, 2]
def k0_off194 (k0_t37 : Fin k0_t37_loop.trips) : Fin 3 → Nat :=
  let c0_553 : Index := 0#32
  let c0_i32_141 : BitVec 32 := 0#32
  let c1_i32_143 : BitVec 32 := 1#32
  let arg85 : BitVec 32 := Scf.iv c0_i32_141 c1_i32_143 k0_t37
  let v162 : Index := Scalar.indexCast arg85
  let c3 : Index := 3#32
  ![0, v162.toNat, 3]
def k0_off195 (k0_t37 : Fin k0_t37_loop.trips) : Fin 3 → Nat :=
  let c0_557 : Index := 0#32
  let c0_i32_141 : BitVec 32 := 0#32
  let c1_i32_143 : BitVec 32 := 1#32
  let arg85 : BitVec 32 := Scf.iv c0_i32_141 c1_i32_143 k0_t37
  let v171 : Index := Scalar.indexCast arg85
  let c4 : Index := 4#32
  ![0, v171.toNat, 4]
def k0_off196 (k0_t37 : Fin k0_t37_loop.trips) : Fin 3 → Nat :=
  let c0_561 : Index := 0#32
  let c0_i32_141 : BitVec 32 := 0#32
  let c1_i32_143 : BitVec 32 := 1#32
  let arg85 : BitVec 32 := Scf.iv c0_i32_141 c1_i32_143 k0_t37
  let v180 : Index := Scalar.indexCast arg85
  let c5 : Index := 5#32
  ![0, v180.toNat, 5]
def k0_off197 (k0_t37 : Fin k0_t37_loop.trips) : Fin 3 → Nat :=
  let c0_565 : Index := 0#32
  let c0_i32_141 : BitVec 32 := 0#32
  let c1_i32_143 : BitVec 32 := 1#32
  let arg85 : BitVec 32 := Scf.iv c0_i32_141 c1_i32_143 k0_t37
  let v189 : Index := Scalar.indexCast arg85
  let c6 : Index := 6#32
  ![0, v189.toNat, 6]
def k0_off198 (k0_t37 : Fin k0_t37_loop.trips) : Fin 3 → Nat :=
  let c0_569 : Index := 0#32
  let c160_i32 : BitVec 32 := 160#32
  let c0_i32_141 : BitVec 32 := 0#32
  let c1_i32_143 : BitVec 32 := 1#32
  let arg85 : BitVec 32 := Scf.iv c0_i32_141 c1_i32_143 k0_t37
  let v198 : BitVec 32 := Scalar.addi c160_i32 arg85
  let v199 : Index := Scalar.indexCast v198
  let c0_570 : Index := 0#32
  ![0, v199.toNat, 0]
@[reducible] def k0_t38_loop : Scf.Loop 32 :=
  let c0_i32_145 : BitVec 32 := 0#32
  let c16_i32_146 : BitVec 32 := 16#32
  let v37 : BitVec 32 := Scalar.addi c0_i32_145 c16_i32_146
  let c1_i32_147 : BitVec 32 := 1#32
  ⟨c0_i32_145, v37, c1_i32_147⟩
def k0_off199 (k0_t38 : Fin k0_t38_loop.trips) : Fin 3 → Nat :=
  let c0 : Index := 0#32
  let c0_i32_145 : BitVec 32 := 0#32
  let c1_i32_147 : BitVec 32 := 1#32
  let arg85 : BitVec 32 := Scf.iv c0_i32_145 c1_i32_147 k0_t38
  let v136 : Index := Scalar.indexCast arg85
  let c0_541 : Index := 0#32
  ![0, v136.toNat, 0]
def k0_off200 (k0_t38 : Fin k0_t38_loop.trips) : Fin 3 → Nat :=
  let c0_545 : Index := 0#32
  let c176_i32 : BitVec 32 := 176#32
  let c0_i32_145 : BitVec 32 := 0#32
  let c1_i32_147 : BitVec 32 := 1#32
  let arg85 : BitVec 32 := Scf.iv c0_i32_145 c1_i32_147 k0_t38
  let v144 : BitVec 32 := Scalar.addi c176_i32 arg85
  let v145 : Index := Scalar.indexCast v144
  let c0_546 : Index := 0#32
  ![0, v145.toNat, 0]
@[reducible] def k0_t39_loop : Scf.Loop 32 :=
  let c0_i32_149 : BitVec 32 := 0#32
  let c16_i32_150 : BitVec 32 := 16#32
  let v38 : BitVec 32 := Scalar.addi c0_i32_149 c16_i32_150
  let c1_i32_151 : BitVec 32 := 1#32
  ⟨c0_i32_149, v38, c1_i32_151⟩
def k0_off201 (k0_t39 : Fin k0_t39_loop.trips) : Fin 3 → Nat :=
  let c0 : Index := 0#32
  let c0_i32_149 : BitVec 32 := 0#32
  let c1_i32_151 : BitVec 32 := 1#32
  let arg85 : BitVec 32 := Scf.iv c0_i32_149 c1_i32_151 k0_t39
  let v136 : Index := Scalar.indexCast arg85
  let c0_541 : Index := 0#32
  ![0, v136.toNat, 0]
def k0_off202 (k0_t39 : Fin k0_t39_loop.trips) : Fin 3 → Nat :=
  let c0_545 : Index := 0#32
  let c0_i32_149 : BitVec 32 := 0#32
  let c1_i32_151 : BitVec 32 := 1#32
  let arg85 : BitVec 32 := Scf.iv c0_i32_149 c1_i32_151 k0_t39
  let v144 : Index := Scalar.indexCast arg85
  let c1 : Index := 1#32
  ![0, v144.toNat, 1]
def k0_off203 (k0_t39 : Fin k0_t39_loop.trips) : Fin 3 → Nat :=
  let c0_549 : Index := 0#32
  let c0_i32_149 : BitVec 32 := 0#32
  let c1_i32_151 : BitVec 32 := 1#32
  let arg85 : BitVec 32 := Scf.iv c0_i32_149 c1_i32_151 k0_t39
  let v153 : Index := Scalar.indexCast arg85
  let c2 : Index := 2#32
  ![0, v153.toNat, 2]
def k0_off204 (k0_t39 : Fin k0_t39_loop.trips) : Fin 3 → Nat :=
  let c0_553 : Index := 0#32
  let c192_i32 : BitVec 32 := 192#32
  let c0_i32_149 : BitVec 32 := 0#32
  let c1_i32_151 : BitVec 32 := 1#32
  let arg85 : BitVec 32 := Scf.iv c0_i32_149 c1_i32_151 k0_t39
  let v162 : BitVec 32 := Scalar.addi c192_i32 arg85
  let v163 : Index := Scalar.indexCast v162
  let c0_554 : Index := 0#32
  ![0, v163.toNat, 0]
@[reducible] def k0_t40_loop : Scf.Loop 32 :=
  let c0_i32_153 : BitVec 32 := 0#32
  let c16_i32_154 : BitVec 32 := 16#32
  let v39 : BitVec 32 := Scalar.addi c0_i32_153 c16_i32_154
  let c1_i32_155 : BitVec 32 := 1#32
  ⟨c0_i32_153, v39, c1_i32_155⟩
def k0_off205 (k0_t40 : Fin k0_t40_loop.trips) : Fin 3 → Nat :=
  let c0 : Index := 0#32
  let c0_i32_153 : BitVec 32 := 0#32
  let c1_i32_155 : BitVec 32 := 1#32
  let arg85 : BitVec 32 := Scf.iv c0_i32_153 c1_i32_155 k0_t40
  let v136 : Index := Scalar.indexCast arg85
  let c0_541 : Index := 0#32
  ![0, v136.toNat, 0]
def k0_off206 (k0_t40 : Fin k0_t40_loop.trips) : Fin 3 → Nat :=
  let c0_545 : Index := 0#32
  let c0_i32_153 : BitVec 32 := 0#32
  let c1_i32_155 : BitVec 32 := 1#32
  let arg85 : BitVec 32 := Scf.iv c0_i32_153 c1_i32_155 k0_t40
  let v144 : Index := Scalar.indexCast arg85
  let c1 : Index := 1#32
  ![0, v144.toNat, 1]
def k0_off207 (k0_t40 : Fin k0_t40_loop.trips) : Fin 3 → Nat :=
  let c0_549 : Index := 0#32
  let c0_i32_153 : BitVec 32 := 0#32
  let c1_i32_155 : BitVec 32 := 1#32
  let arg85 : BitVec 32 := Scf.iv c0_i32_153 c1_i32_155 k0_t40
  let v153 : Index := Scalar.indexCast arg85
  let c2 : Index := 2#32
  ![0, v153.toNat, 2]
def k0_off208 (k0_t40 : Fin k0_t40_loop.trips) : Fin 3 → Nat :=
  let c0_553 : Index := 0#32
  let c208_i32 : BitVec 32 := 208#32
  let c0_i32_153 : BitVec 32 := 0#32
  let c1_i32_155 : BitVec 32 := 1#32
  let arg85 : BitVec 32 := Scf.iv c0_i32_153 c1_i32_155 k0_t40
  let v162 : BitVec 32 := Scalar.addi c208_i32 arg85
  let v163 : Index := Scalar.indexCast v162
  let c0_554 : Index := 0#32
  ![0, v163.toNat, 0]
@[reducible] def k0_t41_loop : Scf.Loop 32 :=
  let c0_i32_157 : BitVec 32 := 0#32
  let c16_i32_158 : BitVec 32 := 16#32
  let v40 : BitVec 32 := Scalar.addi c0_i32_157 c16_i32_158
  let c1_i32_159 : BitVec 32 := 1#32
  ⟨c0_i32_157, v40, c1_i32_159⟩
def k0_off209 (k0_t41 : Fin k0_t41_loop.trips) : Fin 3 → Nat :=
  let c0 : Index := 0#32
  let c0_i32_157 : BitVec 32 := 0#32
  let c1_i32_159 : BitVec 32 := 1#32
  let arg85 : BitVec 32 := Scf.iv c0_i32_157 c1_i32_159 k0_t41
  let v136 : Index := Scalar.indexCast arg85
  let c0_541 : Index := 0#32
  ![0, v136.toNat, 0]
def k0_off210 (k0_t41 : Fin k0_t41_loop.trips) : Fin 3 → Nat :=
  let c0_545 : Index := 0#32
  let c0_i32_157 : BitVec 32 := 0#32
  let c1_i32_159 : BitVec 32 := 1#32
  let arg85 : BitVec 32 := Scf.iv c0_i32_157 c1_i32_159 k0_t41
  let v144 : Index := Scalar.indexCast arg85
  let c1 : Index := 1#32
  ![0, v144.toNat, 1]
def k0_off211 (k0_t41 : Fin k0_t41_loop.trips) : Fin 3 → Nat :=
  let c0_549 : Index := 0#32
  let c0_i32_157 : BitVec 32 := 0#32
  let c1_i32_159 : BitVec 32 := 1#32
  let arg85 : BitVec 32 := Scf.iv c0_i32_157 c1_i32_159 k0_t41
  let v153 : Index := Scalar.indexCast arg85
  let c2 : Index := 2#32
  ![0, v153.toNat, 2]
def k0_off212 (k0_t41 : Fin k0_t41_loop.trips) : Fin 3 → Nat :=
  let c0_553 : Index := 0#32
  let c224_i32 : BitVec 32 := 224#32
  let c0_i32_157 : BitVec 32 := 0#32
  let c1_i32_159 : BitVec 32 := 1#32
  let arg85 : BitVec 32 := Scf.iv c0_i32_157 c1_i32_159 k0_t41
  let v162 : BitVec 32 := Scalar.addi c224_i32 arg85
  let v163 : Index := Scalar.indexCast v162
  let c0_554 : Index := 0#32
  ![0, v163.toNat, 0]
@[reducible] def k0_t42_loop : Scf.Loop 32 :=
  let c0_i32_161 : BitVec 32 := 0#32
  let c16_i32_162 : BitVec 32 := 16#32
  let v41 : BitVec 32 := Scalar.addi c0_i32_161 c16_i32_162
  let c1_i32_163 : BitVec 32 := 1#32
  ⟨c0_i32_161, v41, c1_i32_163⟩
def k0_off213 (k0_t42 : Fin k0_t42_loop.trips) : Fin 3 → Nat :=
  let c0 : Index := 0#32
  let c0_i32_161 : BitVec 32 := 0#32
  let c1_i32_163 : BitVec 32 := 1#32
  let arg85 : BitVec 32 := Scf.iv c0_i32_161 c1_i32_163 k0_t42
  let v136 : Index := Scalar.indexCast arg85
  let c0_541 : Index := 0#32
  ![0, v136.toNat, 0]
def k0_off214 (k0_t42 : Fin k0_t42_loop.trips) : Fin 3 → Nat :=
  let c0_545 : Index := 0#32
  let c0_i32_161 : BitVec 32 := 0#32
  let c1_i32_163 : BitVec 32 := 1#32
  let arg85 : BitVec 32 := Scf.iv c0_i32_161 c1_i32_163 k0_t42
  let v144 : Index := Scalar.indexCast arg85
  let c1 : Index := 1#32
  ![0, v144.toNat, 1]
def k0_off215 (k0_t42 : Fin k0_t42_loop.trips) : Fin 3 → Nat :=
  let c0_549 : Index := 0#32
  let c0_i32_161 : BitVec 32 := 0#32
  let c1_i32_163 : BitVec 32 := 1#32
  let arg85 : BitVec 32 := Scf.iv c0_i32_161 c1_i32_163 k0_t42
  let v153 : Index := Scalar.indexCast arg85
  let c2 : Index := 2#32
  ![0, v153.toNat, 2]
def k0_off216 (k0_t42 : Fin k0_t42_loop.trips) : Fin 3 → Nat :=
  let c0_553 : Index := 0#32
  let c0_i32_161 : BitVec 32 := 0#32
  let c1_i32_163 : BitVec 32 := 1#32
  let arg85 : BitVec 32 := Scf.iv c0_i32_161 c1_i32_163 k0_t42
  let v162 : Index := Scalar.indexCast arg85
  let c3 : Index := 3#32
  ![0, v162.toNat, 3]
def k0_off217 (k0_t42 : Fin k0_t42_loop.trips) : Fin 3 → Nat :=
  let c0_557 : Index := 0#32
  let c0_i32_161 : BitVec 32 := 0#32
  let c1_i32_163 : BitVec 32 := 1#32
  let arg85 : BitVec 32 := Scf.iv c0_i32_161 c1_i32_163 k0_t42
  let v171 : Index := Scalar.indexCast arg85
  let c4 : Index := 4#32
  ![0, v171.toNat, 4]
def k0_off218 (k0_t42 : Fin k0_t42_loop.trips) : Fin 3 → Nat :=
  let c0_561 : Index := 0#32
  let c240_i32 : BitVec 32 := 240#32
  let c0_i32_161 : BitVec 32 := 0#32
  let c1_i32_163 : BitVec 32 := 1#32
  let arg85 : BitVec 32 := Scf.iv c0_i32_161 c1_i32_163 k0_t42
  let v180 : BitVec 32 := Scalar.addi c240_i32 arg85
  let v181 : Index := Scalar.indexCast v180
  let c0_562 : Index := 0#32
  ![0, v181.toNat, 0]
@[reducible] def k0_t43_loop : Scf.Loop 32 :=
  let c0_i32_165 : BitVec 32 := 0#32
  let c16_i32_166 : BitVec 32 := 16#32
  let v42 : BitVec 32 := Scalar.addi c0_i32_165 c16_i32_166
  let c1_i32_167 : BitVec 32 := 1#32
  ⟨c0_i32_165, v42, c1_i32_167⟩
def k0_off219 (k0_t43 : Fin k0_t43_loop.trips) : Fin 3 → Nat :=
  let c0 : Index := 0#32
  let c0_i32_165 : BitVec 32 := 0#32
  let c1_i32_167 : BitVec 32 := 1#32
  let arg85 : BitVec 32 := Scf.iv c0_i32_165 c1_i32_167 k0_t43
  let v136 : Index := Scalar.indexCast arg85
  let c0_541 : Index := 0#32
  ![0, v136.toNat, 0]
def k0_off220 (k0_t43 : Fin k0_t43_loop.trips) : Fin 3 → Nat :=
  let c0_545 : Index := 0#32
  let c0_i32_165 : BitVec 32 := 0#32
  let c1_i32_167 : BitVec 32 := 1#32
  let arg85 : BitVec 32 := Scf.iv c0_i32_165 c1_i32_167 k0_t43
  let v144 : Index := Scalar.indexCast arg85
  let c1 : Index := 1#32
  ![0, v144.toNat, 1]
def k0_off221 (k0_t43 : Fin k0_t43_loop.trips) : Fin 3 → Nat :=
  let c0_549 : Index := 0#32
  let c0_i32_165 : BitVec 32 := 0#32
  let c1_i32_167 : BitVec 32 := 1#32
  let arg85 : BitVec 32 := Scf.iv c0_i32_165 c1_i32_167 k0_t43
  let v153 : Index := Scalar.indexCast arg85
  let c2 : Index := 2#32
  ![0, v153.toNat, 2]
def k0_off222 (k0_t43 : Fin k0_t43_loop.trips) : Fin 3 → Nat :=
  let c0_553 : Index := 0#32
  let c0_i32_165 : BitVec 32 := 0#32
  let c1_i32_167 : BitVec 32 := 1#32
  let arg85 : BitVec 32 := Scf.iv c0_i32_165 c1_i32_167 k0_t43
  let v162 : Index := Scalar.indexCast arg85
  let c3 : Index := 3#32
  ![0, v162.toNat, 3]
def k0_off223 (k0_t43 : Fin k0_t43_loop.trips) : Fin 3 → Nat :=
  let c0_557 : Index := 0#32
  let c0_i32_165 : BitVec 32 := 0#32
  let c1_i32_167 : BitVec 32 := 1#32
  let arg85 : BitVec 32 := Scf.iv c0_i32_165 c1_i32_167 k0_t43
  let v171 : Index := Scalar.indexCast arg85
  let c4 : Index := 4#32
  ![0, v171.toNat, 4]
def k0_off224 (k0_t43 : Fin k0_t43_loop.trips) : Fin 3 → Nat :=
  let c0_561 : Index := 0#32
  let c256_i32 : BitVec 32 := 256#32
  let c0_i32_165 : BitVec 32 := 0#32
  let c1_i32_167 : BitVec 32 := 1#32
  let arg85 : BitVec 32 := Scf.iv c0_i32_165 c1_i32_167 k0_t43
  let v180 : BitVec 32 := Scalar.addi c256_i32 arg85
  let v181 : Index := Scalar.indexCast v180
  let c0_562 : Index := 0#32
  ![0, v181.toNat, 0]
@[reducible] def k0_t44_loop : Scf.Loop 32 :=
  let c0_i32_169 : BitVec 32 := 0#32
  let c16_i32_170 : BitVec 32 := 16#32
  let v43 : BitVec 32 := Scalar.addi c0_i32_169 c16_i32_170
  let c1_i32_171 : BitVec 32 := 1#32
  ⟨c0_i32_169, v43, c1_i32_171⟩
def k0_off225 (k0_t44 : Fin k0_t44_loop.trips) : Fin 3 → Nat :=
  let c0 : Index := 0#32
  let c0_i32_169 : BitVec 32 := 0#32
  let c1_i32_171 : BitVec 32 := 1#32
  let arg85 : BitVec 32 := Scf.iv c0_i32_169 c1_i32_171 k0_t44
  let v136 : Index := Scalar.indexCast arg85
  let c0_541 : Index := 0#32
  ![0, v136.toNat, 0]
def k0_off226 (k0_t44 : Fin k0_t44_loop.trips) : Fin 3 → Nat :=
  let c0_545 : Index := 0#32
  let c0_i32_169 : BitVec 32 := 0#32
  let c1_i32_171 : BitVec 32 := 1#32
  let arg85 : BitVec 32 := Scf.iv c0_i32_169 c1_i32_171 k0_t44
  let v144 : Index := Scalar.indexCast arg85
  let c1 : Index := 1#32
  ![0, v144.toNat, 1]
def k0_off227 (k0_t44 : Fin k0_t44_loop.trips) : Fin 3 → Nat :=
  let c0_549 : Index := 0#32
  let c0_i32_169 : BitVec 32 := 0#32
  let c1_i32_171 : BitVec 32 := 1#32
  let arg85 : BitVec 32 := Scf.iv c0_i32_169 c1_i32_171 k0_t44
  let v153 : Index := Scalar.indexCast arg85
  let c2 : Index := 2#32
  ![0, v153.toNat, 2]
def k0_off228 (k0_t44 : Fin k0_t44_loop.trips) : Fin 3 → Nat :=
  let c0_553 : Index := 0#32
  let c0_i32_169 : BitVec 32 := 0#32
  let c1_i32_171 : BitVec 32 := 1#32
  let arg85 : BitVec 32 := Scf.iv c0_i32_169 c1_i32_171 k0_t44
  let v162 : Index := Scalar.indexCast arg85
  let c3 : Index := 3#32
  ![0, v162.toNat, 3]
def k0_off229 (k0_t44 : Fin k0_t44_loop.trips) : Fin 3 → Nat :=
  let c0_557 : Index := 0#32
  let c0_i32_169 : BitVec 32 := 0#32
  let c1_i32_171 : BitVec 32 := 1#32
  let arg85 : BitVec 32 := Scf.iv c0_i32_169 c1_i32_171 k0_t44
  let v171 : Index := Scalar.indexCast arg85
  let c4 : Index := 4#32
  ![0, v171.toNat, 4]
def k0_off230 (k0_t44 : Fin k0_t44_loop.trips) : Fin 3 → Nat :=
  let c0_561 : Index := 0#32
  let c272_i32 : BitVec 32 := 272#32
  let c0_i32_169 : BitVec 32 := 0#32
  let c1_i32_171 : BitVec 32 := 1#32
  let arg85 : BitVec 32 := Scf.iv c0_i32_169 c1_i32_171 k0_t44
  let v180 : BitVec 32 := Scalar.addi c272_i32 arg85
  let v181 : Index := Scalar.indexCast v180
  let c0_562 : Index := 0#32
  ![0, v181.toNat, 0]
@[reducible] def k0_t45_loop : Scf.Loop 32 :=
  let c0_i32_173 : BitVec 32 := 0#32
  let c16_i32_174 : BitVec 32 := 16#32
  let v44 : BitVec 32 := Scalar.addi c0_i32_173 c16_i32_174
  let c1_i32_175 : BitVec 32 := 1#32
  ⟨c0_i32_173, v44, c1_i32_175⟩
def k0_off231 (k0_t45 : Fin k0_t45_loop.trips) : Fin 3 → Nat :=
  let c0 : Index := 0#32
  let c0_i32_173 : BitVec 32 := 0#32
  let c1_i32_175 : BitVec 32 := 1#32
  let arg85 : BitVec 32 := Scf.iv c0_i32_173 c1_i32_175 k0_t45
  let v136 : Index := Scalar.indexCast arg85
  let c0_541 : Index := 0#32
  ![0, v136.toNat, 0]
def k0_off232 (k0_t45 : Fin k0_t45_loop.trips) : Fin 3 → Nat :=
  let c0_545 : Index := 0#32
  let c0_i32_173 : BitVec 32 := 0#32
  let c1_i32_175 : BitVec 32 := 1#32
  let arg85 : BitVec 32 := Scf.iv c0_i32_173 c1_i32_175 k0_t45
  let v144 : Index := Scalar.indexCast arg85
  let c1 : Index := 1#32
  ![0, v144.toNat, 1]
def k0_off233 (k0_t45 : Fin k0_t45_loop.trips) : Fin 3 → Nat :=
  let c0_549 : Index := 0#32
  let c0_i32_173 : BitVec 32 := 0#32
  let c1_i32_175 : BitVec 32 := 1#32
  let arg85 : BitVec 32 := Scf.iv c0_i32_173 c1_i32_175 k0_t45
  let v153 : Index := Scalar.indexCast arg85
  let c2 : Index := 2#32
  ![0, v153.toNat, 2]
def k0_off234 (k0_t45 : Fin k0_t45_loop.trips) : Fin 3 → Nat :=
  let c0_553 : Index := 0#32
  let c0_i32_173 : BitVec 32 := 0#32
  let c1_i32_175 : BitVec 32 := 1#32
  let arg85 : BitVec 32 := Scf.iv c0_i32_173 c1_i32_175 k0_t45
  let v162 : Index := Scalar.indexCast arg85
  let c3 : Index := 3#32
  ![0, v162.toNat, 3]
def k0_off235 (k0_t45 : Fin k0_t45_loop.trips) : Fin 3 → Nat :=
  let c0_557 : Index := 0#32
  let c0_i32_173 : BitVec 32 := 0#32
  let c1_i32_175 : BitVec 32 := 1#32
  let arg85 : BitVec 32 := Scf.iv c0_i32_173 c1_i32_175 k0_t45
  let v171 : Index := Scalar.indexCast arg85
  let c4 : Index := 4#32
  ![0, v171.toNat, 4]
def k0_off236 (k0_t45 : Fin k0_t45_loop.trips) : Fin 3 → Nat :=
  let c0_561 : Index := 0#32
  let c288_i32 : BitVec 32 := 288#32
  let c0_i32_173 : BitVec 32 := 0#32
  let c1_i32_175 : BitVec 32 := 1#32
  let arg85 : BitVec 32 := Scf.iv c0_i32_173 c1_i32_175 k0_t45
  let v180 : BitVec 32 := Scalar.addi c288_i32 arg85
  let v181 : Index := Scalar.indexCast v180
  let c0_562 : Index := 0#32
  ![0, v181.toNat, 0]
@[reducible] def k0_t46_loop : Scf.Loop 32 :=
  let c0_i32_177 : BitVec 32 := 0#32
  let c16_i32_178 : BitVec 32 := 16#32
  let v45 : BitVec 32 := Scalar.addi c0_i32_177 c16_i32_178
  let c1_i32_179 : BitVec 32 := 1#32
  ⟨c0_i32_177, v45, c1_i32_179⟩
def k0_off237 (k0_t46 : Fin k0_t46_loop.trips) : Fin 3 → Nat :=
  let c0 : Index := 0#32
  let c0_i32_177 : BitVec 32 := 0#32
  let c1_i32_179 : BitVec 32 := 1#32
  let arg85 : BitVec 32 := Scf.iv c0_i32_177 c1_i32_179 k0_t46
  let v136 : Index := Scalar.indexCast arg85
  let c0_541 : Index := 0#32
  ![0, v136.toNat, 0]
def k0_off238 (k0_t46 : Fin k0_t46_loop.trips) : Fin 3 → Nat :=
  let c0_545 : Index := 0#32
  let c0_i32_177 : BitVec 32 := 0#32
  let c1_i32_179 : BitVec 32 := 1#32
  let arg85 : BitVec 32 := Scf.iv c0_i32_177 c1_i32_179 k0_t46
  let v144 : Index := Scalar.indexCast arg85
  let c1 : Index := 1#32
  ![0, v144.toNat, 1]
def k0_off239 (k0_t46 : Fin k0_t46_loop.trips) : Fin 3 → Nat :=
  let c0_549 : Index := 0#32
  let c0_i32_177 : BitVec 32 := 0#32
  let c1_i32_179 : BitVec 32 := 1#32
  let arg85 : BitVec 32 := Scf.iv c0_i32_177 c1_i32_179 k0_t46
  let v153 : Index := Scalar.indexCast arg85
  let c2 : Index := 2#32
  ![0, v153.toNat, 2]
def k0_off240 (k0_t46 : Fin k0_t46_loop.trips) : Fin 3 → Nat :=
  let c0_553 : Index := 0#32
  let c0_i32_177 : BitVec 32 := 0#32
  let c1_i32_179 : BitVec 32 := 1#32
  let arg85 : BitVec 32 := Scf.iv c0_i32_177 c1_i32_179 k0_t46
  let v162 : Index := Scalar.indexCast arg85
  let c3 : Index := 3#32
  ![0, v162.toNat, 3]
def k0_off241 (k0_t46 : Fin k0_t46_loop.trips) : Fin 3 → Nat :=
  let c0_557 : Index := 0#32
  let c0_i32_177 : BitVec 32 := 0#32
  let c1_i32_179 : BitVec 32 := 1#32
  let arg85 : BitVec 32 := Scf.iv c0_i32_177 c1_i32_179 k0_t46
  let v171 : Index := Scalar.indexCast arg85
  let c4 : Index := 4#32
  ![0, v171.toNat, 4]
def k0_off242 (k0_t46 : Fin k0_t46_loop.trips) : Fin 3 → Nat :=
  let c0_561 : Index := 0#32
  let c0_i32_177 : BitVec 32 := 0#32
  let c1_i32_179 : BitVec 32 := 1#32
  let arg85 : BitVec 32 := Scf.iv c0_i32_177 c1_i32_179 k0_t46
  let v180 : Index := Scalar.indexCast arg85
  let c5 : Index := 5#32
  ![0, v180.toNat, 5]
def k0_off243 (k0_t46 : Fin k0_t46_loop.trips) : Fin 3 → Nat :=
  let c0_565 : Index := 0#32
  let c0_i32_177 : BitVec 32 := 0#32
  let c1_i32_179 : BitVec 32 := 1#32
  let arg85 : BitVec 32 := Scf.iv c0_i32_177 c1_i32_179 k0_t46
  let v189 : Index := Scalar.indexCast arg85
  let c6 : Index := 6#32
  ![0, v189.toNat, 6]
def k0_off244 (k0_t46 : Fin k0_t46_loop.trips) : Fin 3 → Nat :=
  let c0_569 : Index := 0#32
  let c304_i32 : BitVec 32 := 304#32
  let c0_i32_177 : BitVec 32 := 0#32
  let c1_i32_179 : BitVec 32 := 1#32
  let arg85 : BitVec 32 := Scf.iv c0_i32_177 c1_i32_179 k0_t46
  let v198 : BitVec 32 := Scalar.addi c304_i32 arg85
  let v199 : Index := Scalar.indexCast v198
  let c0_570 : Index := 0#32
  ![0, v199.toNat, 0]
@[reducible] def k0_t47_loop : Scf.Loop 32 :=
  let c0_i32_181 : BitVec 32 := 0#32
  let c16_i32_182 : BitVec 32 := 16#32
  let v46 : BitVec 32 := Scalar.addi c0_i32_181 c16_i32_182
  let c1_i32_183 : BitVec 32 := 1#32
  ⟨c0_i32_181, v46, c1_i32_183⟩
def k0_off245 (k0_t47 : Fin k0_t47_loop.trips) : Fin 3 → Nat :=
  let c0 : Index := 0#32
  let c0_i32_181 : BitVec 32 := 0#32
  let c1_i32_183 : BitVec 32 := 1#32
  let arg85 : BitVec 32 := Scf.iv c0_i32_181 c1_i32_183 k0_t47
  let v136 : Index := Scalar.indexCast arg85
  let c0_541 : Index := 0#32
  ![0, v136.toNat, 0]
def k0_off246 (k0_t47 : Fin k0_t47_loop.trips) : Fin 3 → Nat :=
  let c0_545 : Index := 0#32
  let c0_i32_181 : BitVec 32 := 0#32
  let c1_i32_183 : BitVec 32 := 1#32
  let arg85 : BitVec 32 := Scf.iv c0_i32_181 c1_i32_183 k0_t47
  let v144 : Index := Scalar.indexCast arg85
  let c1 : Index := 1#32
  ![0, v144.toNat, 1]
def k0_off247 (k0_t47 : Fin k0_t47_loop.trips) : Fin 3 → Nat :=
  let c0_549 : Index := 0#32
  let c0_i32_181 : BitVec 32 := 0#32
  let c1_i32_183 : BitVec 32 := 1#32
  let arg85 : BitVec 32 := Scf.iv c0_i32_181 c1_i32_183 k0_t47
  let v153 : Index := Scalar.indexCast arg85
  let c2 : Index := 2#32
  ![0, v153.toNat, 2]
def k0_off248 (k0_t47 : Fin k0_t47_loop.trips) : Fin 3 → Nat :=
  let c0_553 : Index := 0#32
  let c0_i32_181 : BitVec 32 := 0#32
  let c1_i32_183 : BitVec 32 := 1#32
  let arg85 : BitVec 32 := Scf.iv c0_i32_181 c1_i32_183 k0_t47
  let v162 : Index := Scalar.indexCast arg85
  let c3 : Index := 3#32
  ![0, v162.toNat, 3]
def k0_off249 (k0_t47 : Fin k0_t47_loop.trips) : Fin 3 → Nat :=
  let c0_557 : Index := 0#32
  let c0_i32_181 : BitVec 32 := 0#32
  let c1_i32_183 : BitVec 32 := 1#32
  let arg85 : BitVec 32 := Scf.iv c0_i32_181 c1_i32_183 k0_t47
  let v171 : Index := Scalar.indexCast arg85
  let c4 : Index := 4#32
  ![0, v171.toNat, 4]
def k0_off250 (k0_t47 : Fin k0_t47_loop.trips) : Fin 3 → Nat :=
  let c0_561 : Index := 0#32
  let c0_i32_181 : BitVec 32 := 0#32
  let c1_i32_183 : BitVec 32 := 1#32
  let arg85 : BitVec 32 := Scf.iv c0_i32_181 c1_i32_183 k0_t47
  let v180 : Index := Scalar.indexCast arg85
  let c5 : Index := 5#32
  ![0, v180.toNat, 5]
def k0_off251 (k0_t47 : Fin k0_t47_loop.trips) : Fin 3 → Nat :=
  let c0_565 : Index := 0#32
  let c0_i32_181 : BitVec 32 := 0#32
  let c1_i32_183 : BitVec 32 := 1#32
  let arg85 : BitVec 32 := Scf.iv c0_i32_181 c1_i32_183 k0_t47
  let v189 : Index := Scalar.indexCast arg85
  let c6 : Index := 6#32
  ![0, v189.toNat, 6]
def k0_off252 (k0_t47 : Fin k0_t47_loop.trips) : Fin 3 → Nat :=
  let c0_569 : Index := 0#32
  let c320_i32 : BitVec 32 := 320#32
  let c0_i32_181 : BitVec 32 := 0#32
  let c1_i32_183 : BitVec 32 := 1#32
  let arg85 : BitVec 32 := Scf.iv c0_i32_181 c1_i32_183 k0_t47
  let v198 : BitVec 32 := Scalar.addi c320_i32 arg85
  let v199 : Index := Scalar.indexCast v198
  let c0_570 : Index := 0#32
  ![0, v199.toNat, 0]
@[reducible] def k0_t48_loop : Scf.Loop 32 :=
  let c0_i32_185 : BitVec 32 := 0#32
  let c16_i32_186 : BitVec 32 := 16#32
  let v47 : BitVec 32 := Scalar.addi c0_i32_185 c16_i32_186
  let c1_i32_187 : BitVec 32 := 1#32
  ⟨c0_i32_185, v47, c1_i32_187⟩
def k0_off253 (k0_t48 : Fin k0_t48_loop.trips) : Fin 3 → Nat :=
  let c0 : Index := 0#32
  let c0_i32_185 : BitVec 32 := 0#32
  let c1_i32_187 : BitVec 32 := 1#32
  let arg85 : BitVec 32 := Scf.iv c0_i32_185 c1_i32_187 k0_t48
  let v136 : Index := Scalar.indexCast arg85
  let c0_541 : Index := 0#32
  ![0, v136.toNat, 0]
def k0_off254 (k0_t48 : Fin k0_t48_loop.trips) : Fin 3 → Nat :=
  let c0_545 : Index := 0#32
  let c0_i32_185 : BitVec 32 := 0#32
  let c1_i32_187 : BitVec 32 := 1#32
  let arg85 : BitVec 32 := Scf.iv c0_i32_185 c1_i32_187 k0_t48
  let v144 : Index := Scalar.indexCast arg85
  let c1 : Index := 1#32
  ![0, v144.toNat, 1]
def k0_off255 (k0_t48 : Fin k0_t48_loop.trips) : Fin 3 → Nat :=
  let c0_549 : Index := 0#32
  let c0_i32_185 : BitVec 32 := 0#32
  let c1_i32_187 : BitVec 32 := 1#32
  let arg85 : BitVec 32 := Scf.iv c0_i32_185 c1_i32_187 k0_t48
  let v153 : Index := Scalar.indexCast arg85
  let c2 : Index := 2#32
  ![0, v153.toNat, 2]
def k0_off256 (k0_t48 : Fin k0_t48_loop.trips) : Fin 3 → Nat :=
  let c0_553 : Index := 0#32
  let c0_i32_185 : BitVec 32 := 0#32
  let c1_i32_187 : BitVec 32 := 1#32
  let arg85 : BitVec 32 := Scf.iv c0_i32_185 c1_i32_187 k0_t48
  let v162 : Index := Scalar.indexCast arg85
  let c3 : Index := 3#32
  ![0, v162.toNat, 3]
def k0_off257 (k0_t48 : Fin k0_t48_loop.trips) : Fin 3 → Nat :=
  let c0_557 : Index := 0#32
  let c0_i32_185 : BitVec 32 := 0#32
  let c1_i32_187 : BitVec 32 := 1#32
  let arg85 : BitVec 32 := Scf.iv c0_i32_185 c1_i32_187 k0_t48
  let v171 : Index := Scalar.indexCast arg85
  let c4 : Index := 4#32
  ![0, v171.toNat, 4]
def k0_off258 (k0_t48 : Fin k0_t48_loop.trips) : Fin 3 → Nat :=
  let c0_561 : Index := 0#32
  let c0_i32_185 : BitVec 32 := 0#32
  let c1_i32_187 : BitVec 32 := 1#32
  let arg85 : BitVec 32 := Scf.iv c0_i32_185 c1_i32_187 k0_t48
  let v180 : Index := Scalar.indexCast arg85
  let c5 : Index := 5#32
  ![0, v180.toNat, 5]
def k0_off259 (k0_t48 : Fin k0_t48_loop.trips) : Fin 3 → Nat :=
  let c0_565 : Index := 0#32
  let c0_i32_185 : BitVec 32 := 0#32
  let c1_i32_187 : BitVec 32 := 1#32
  let arg85 : BitVec 32 := Scf.iv c0_i32_185 c1_i32_187 k0_t48
  let v189 : Index := Scalar.indexCast arg85
  let c6 : Index := 6#32
  ![0, v189.toNat, 6]
def k0_off260 (k0_t48 : Fin k0_t48_loop.trips) : Fin 3 → Nat :=
  let c0_569 : Index := 0#32
  let c336_i32 : BitVec 32 := 336#32
  let c0_i32_185 : BitVec 32 := 0#32
  let c1_i32_187 : BitVec 32 := 1#32
  let arg85 : BitVec 32 := Scf.iv c0_i32_185 c1_i32_187 k0_t48
  let v198 : BitVec 32 := Scalar.addi c336_i32 arg85
  let v199 : Index := Scalar.indexCast v198
  let c0_570 : Index := 0#32
  ![0, v199.toNat, 0]
@[reducible] def k0_t49_loop : Scf.Loop 32 :=
  let c0_i32_189 : BitVec 32 := 0#32
  let c16_i32_190 : BitVec 32 := 16#32
  let v48 : BitVec 32 := Scalar.addi c0_i32_189 c16_i32_190
  let c1_i32_191 : BitVec 32 := 1#32
  ⟨c0_i32_189, v48, c1_i32_191⟩
def k0_off261 (k0_t49 : Fin k0_t49_loop.trips) : Fin 3 → Nat :=
  let c0 : Index := 0#32
  let c0_i32_189 : BitVec 32 := 0#32
  let c1_i32_191 : BitVec 32 := 1#32
  let arg85 : BitVec 32 := Scf.iv c0_i32_189 c1_i32_191 k0_t49
  let v136 : Index := Scalar.indexCast arg85
  let c0_541 : Index := 0#32
  ![0, v136.toNat, 0]
def k0_off262 (k0_t49 : Fin k0_t49_loop.trips) : Fin 3 → Nat :=
  let c0_546 : Index := 0#32
  let c0_i32_545 : BitVec 32 := 0#32
  let c0_i32_189 : BitVec 32 := 0#32
  let c1_i32_191 : BitVec 32 := 1#32
  let arg85 : BitVec 32 := Scf.iv c0_i32_189 c1_i32_191 k0_t49
  let v144 : BitVec 32 := Scalar.addi c0_i32_545 arg85
  let v145 : Index := Scalar.indexCast v144
  let c0_547 : Index := 0#32
  ![0, v145.toNat, 0]
@[reducible] def k0_t50_loop : Scf.Loop 32 :=
  let c0_i32_193 : BitVec 32 := 0#32
  let c16_i32_194 : BitVec 32 := 16#32
  let v49 : BitVec 32 := Scalar.addi c0_i32_193 c16_i32_194
  let c1_i32_195 : BitVec 32 := 1#32
  ⟨c0_i32_193, v49, c1_i32_195⟩
def k0_off263 (k0_t50 : Fin k0_t50_loop.trips) : Fin 3 → Nat :=
  let c0 : Index := 0#32
  let c0_i32_193 : BitVec 32 := 0#32
  let c1_i32_195 : BitVec 32 := 1#32
  let arg85 : BitVec 32 := Scf.iv c0_i32_193 c1_i32_195 k0_t50
  let v136 : Index := Scalar.indexCast arg85
  let c0_541 : Index := 0#32
  ![0, v136.toNat, 0]
def k0_off264 (k0_t50 : Fin k0_t50_loop.trips) : Fin 3 → Nat :=
  let c0_545 : Index := 0#32
  let c0_i32_193 : BitVec 32 := 0#32
  let c1_i32_195 : BitVec 32 := 1#32
  let arg85 : BitVec 32 := Scf.iv c0_i32_193 c1_i32_195 k0_t50
  let v144 : Index := Scalar.indexCast arg85
  let c1 : Index := 1#32
  ![0, v144.toNat, 1]
def k0_off265 (k0_t50 : Fin k0_t50_loop.trips) : Fin 3 → Nat :=
  let c0_549 : Index := 0#32
  let c0_i32_193 : BitVec 32 := 0#32
  let c1_i32_195 : BitVec 32 := 1#32
  let arg85 : BitVec 32 := Scf.iv c0_i32_193 c1_i32_195 k0_t50
  let v153 : Index := Scalar.indexCast arg85
  let c2 : Index := 2#32
  ![0, v153.toNat, 2]
def k0_off266 (k0_t50 : Fin k0_t50_loop.trips) : Fin 3 → Nat :=
  let c0_554 : Index := 0#32
  let c16_i32_553 : BitVec 32 := 16#32
  let c0_i32_193 : BitVec 32 := 0#32
  let c1_i32_195 : BitVec 32 := 1#32
  let arg85 : BitVec 32 := Scf.iv c0_i32_193 c1_i32_195 k0_t50
  let v162 : BitVec 32 := Scalar.addi c16_i32_553 arg85
  let v163 : Index := Scalar.indexCast v162
  let c0_555 : Index := 0#32
  ![0, v163.toNat, 0]
@[reducible] def k0_t51_loop : Scf.Loop 32 :=
  let c0_i32_197 : BitVec 32 := 0#32
  let c16_i32_198 : BitVec 32 := 16#32
  let v50 : BitVec 32 := Scalar.addi c0_i32_197 c16_i32_198
  let c1_i32_199 : BitVec 32 := 1#32
  ⟨c0_i32_197, v50, c1_i32_199⟩
def k0_off267 (k0_t51 : Fin k0_t51_loop.trips) : Fin 3 → Nat :=
  let c0 : Index := 0#32
  let c0_i32_197 : BitVec 32 := 0#32
  let c1_i32_199 : BitVec 32 := 1#32
  let arg85 : BitVec 32 := Scf.iv c0_i32_197 c1_i32_199 k0_t51
  let v136 : Index := Scalar.indexCast arg85
  let c0_541 : Index := 0#32
  ![0, v136.toNat, 0]
def k0_off268 (k0_t51 : Fin k0_t51_loop.trips) : Fin 3 → Nat :=
  let c0_545 : Index := 0#32
  let c0_i32_197 : BitVec 32 := 0#32
  let c1_i32_199 : BitVec 32 := 1#32
  let arg85 : BitVec 32 := Scf.iv c0_i32_197 c1_i32_199 k0_t51
  let v144 : Index := Scalar.indexCast arg85
  let c1 : Index := 1#32
  ![0, v144.toNat, 1]
def k0_off269 (k0_t51 : Fin k0_t51_loop.trips) : Fin 3 → Nat :=
  let c0_549 : Index := 0#32
  let c0_i32_197 : BitVec 32 := 0#32
  let c1_i32_199 : BitVec 32 := 1#32
  let arg85 : BitVec 32 := Scf.iv c0_i32_197 c1_i32_199 k0_t51
  let v153 : Index := Scalar.indexCast arg85
  let c2 : Index := 2#32
  ![0, v153.toNat, 2]
def k0_off270 (k0_t51 : Fin k0_t51_loop.trips) : Fin 3 → Nat :=
  let c0_553 : Index := 0#32
  let c32_i32 : BitVec 32 := 32#32
  let c0_i32_197 : BitVec 32 := 0#32
  let c1_i32_199 : BitVec 32 := 1#32
  let arg85 : BitVec 32 := Scf.iv c0_i32_197 c1_i32_199 k0_t51
  let v162 : BitVec 32 := Scalar.addi c32_i32 arg85
  let v163 : Index := Scalar.indexCast v162
  let c0_554 : Index := 0#32
  ![0, v163.toNat, 0]
@[reducible] def k0_t52_loop : Scf.Loop 32 :=
  let c0_i32_201 : BitVec 32 := 0#32
  let c16_i32_202 : BitVec 32 := 16#32
  let v51 : BitVec 32 := Scalar.addi c0_i32_201 c16_i32_202
  let c1_i32_203 : BitVec 32 := 1#32
  ⟨c0_i32_201, v51, c1_i32_203⟩
def k0_off271 (k0_t52 : Fin k0_t52_loop.trips) : Fin 3 → Nat :=
  let c0 : Index := 0#32
  let c0_i32_201 : BitVec 32 := 0#32
  let c1_i32_203 : BitVec 32 := 1#32
  let arg85 : BitVec 32 := Scf.iv c0_i32_201 c1_i32_203 k0_t52
  let v136 : Index := Scalar.indexCast arg85
  let c0_541 : Index := 0#32
  ![0, v136.toNat, 0]
def k0_off272 (k0_t52 : Fin k0_t52_loop.trips) : Fin 3 → Nat :=
  let c0_545 : Index := 0#32
  let c0_i32_201 : BitVec 32 := 0#32
  let c1_i32_203 : BitVec 32 := 1#32
  let arg85 : BitVec 32 := Scf.iv c0_i32_201 c1_i32_203 k0_t52
  let v144 : Index := Scalar.indexCast arg85
  let c1 : Index := 1#32
  ![0, v144.toNat, 1]
def k0_off273 (k0_t52 : Fin k0_t52_loop.trips) : Fin 3 → Nat :=
  let c0_549 : Index := 0#32
  let c0_i32_201 : BitVec 32 := 0#32
  let c1_i32_203 : BitVec 32 := 1#32
  let arg85 : BitVec 32 := Scf.iv c0_i32_201 c1_i32_203 k0_t52
  let v153 : Index := Scalar.indexCast arg85
  let c2 : Index := 2#32
  ![0, v153.toNat, 2]
def k0_off274 (k0_t52 : Fin k0_t52_loop.trips) : Fin 3 → Nat :=
  let c0_553 : Index := 0#32
  let c0_i32_201 : BitVec 32 := 0#32
  let c1_i32_203 : BitVec 32 := 1#32
  let arg85 : BitVec 32 := Scf.iv c0_i32_201 c1_i32_203 k0_t52
  let v162 : Index := Scalar.indexCast arg85
  let c3 : Index := 3#32
  ![0, v162.toNat, 3]
def k0_off275 (k0_t52 : Fin k0_t52_loop.trips) : Fin 3 → Nat :=
  let c0_557 : Index := 0#32
  let c0_i32_201 : BitVec 32 := 0#32
  let c1_i32_203 : BitVec 32 := 1#32
  let arg85 : BitVec 32 := Scf.iv c0_i32_201 c1_i32_203 k0_t52
  let v171 : Index := Scalar.indexCast arg85
  let c4 : Index := 4#32
  ![0, v171.toNat, 4]
def k0_off276 (k0_t52 : Fin k0_t52_loop.trips) : Fin 3 → Nat :=
  let c0_561 : Index := 0#32
  let c48_i32 : BitVec 32 := 48#32
  let c0_i32_201 : BitVec 32 := 0#32
  let c1_i32_203 : BitVec 32 := 1#32
  let arg85 : BitVec 32 := Scf.iv c0_i32_201 c1_i32_203 k0_t52
  let v180 : BitVec 32 := Scalar.addi c48_i32 arg85
  let v181 : Index := Scalar.indexCast v180
  let c0_562 : Index := 0#32
  ![0, v181.toNat, 0]
@[reducible] def k0_t53_loop : Scf.Loop 32 :=
  let c0_i32_205 : BitVec 32 := 0#32
  let c16_i32_206 : BitVec 32 := 16#32
  let v52 : BitVec 32 := Scalar.addi c0_i32_205 c16_i32_206
  let c1_i32_207 : BitVec 32 := 1#32
  ⟨c0_i32_205, v52, c1_i32_207⟩
def k0_off277 (k0_t53 : Fin k0_t53_loop.trips) : Fin 3 → Nat :=
  let c0 : Index := 0#32
  let c0_i32_205 : BitVec 32 := 0#32
  let c1_i32_207 : BitVec 32 := 1#32
  let arg85 : BitVec 32 := Scf.iv c0_i32_205 c1_i32_207 k0_t53
  let v136 : Index := Scalar.indexCast arg85
  let c0_541 : Index := 0#32
  ![0, v136.toNat, 0]
def k0_off278 (k0_t53 : Fin k0_t53_loop.trips) : Fin 3 → Nat :=
  let c0_545 : Index := 0#32
  let c0_i32_205 : BitVec 32 := 0#32
  let c1_i32_207 : BitVec 32 := 1#32
  let arg85 : BitVec 32 := Scf.iv c0_i32_205 c1_i32_207 k0_t53
  let v144 : Index := Scalar.indexCast arg85
  let c1 : Index := 1#32
  ![0, v144.toNat, 1]
def k0_off279 (k0_t53 : Fin k0_t53_loop.trips) : Fin 3 → Nat :=
  let c0_549 : Index := 0#32
  let c0_i32_205 : BitVec 32 := 0#32
  let c1_i32_207 : BitVec 32 := 1#32
  let arg85 : BitVec 32 := Scf.iv c0_i32_205 c1_i32_207 k0_t53
  let v153 : Index := Scalar.indexCast arg85
  let c2 : Index := 2#32
  ![0, v153.toNat, 2]
def k0_off280 (k0_t53 : Fin k0_t53_loop.trips) : Fin 3 → Nat :=
  let c0_553 : Index := 0#32
  let c0_i32_205 : BitVec 32 := 0#32
  let c1_i32_207 : BitVec 32 := 1#32
  let arg85 : BitVec 32 := Scf.iv c0_i32_205 c1_i32_207 k0_t53
  let v162 : Index := Scalar.indexCast arg85
  let c3 : Index := 3#32
  ![0, v162.toNat, 3]
def k0_off281 (k0_t53 : Fin k0_t53_loop.trips) : Fin 3 → Nat :=
  let c0_557 : Index := 0#32
  let c0_i32_205 : BitVec 32 := 0#32
  let c1_i32_207 : BitVec 32 := 1#32
  let arg85 : BitVec 32 := Scf.iv c0_i32_205 c1_i32_207 k0_t53
  let v171 : Index := Scalar.indexCast arg85
  let c4 : Index := 4#32
  ![0, v171.toNat, 4]
def k0_off282 (k0_t53 : Fin k0_t53_loop.trips) : Fin 3 → Nat :=
  let c0_561 : Index := 0#32
  let c64_i32 : BitVec 32 := 64#32
  let c0_i32_205 : BitVec 32 := 0#32
  let c1_i32_207 : BitVec 32 := 1#32
  let arg85 : BitVec 32 := Scf.iv c0_i32_205 c1_i32_207 k0_t53
  let v180 : BitVec 32 := Scalar.addi c64_i32 arg85
  let v181 : Index := Scalar.indexCast v180
  let c0_562 : Index := 0#32
  ![0, v181.toNat, 0]
@[reducible] def k0_t54_loop : Scf.Loop 32 :=
  let c0_i32_209 : BitVec 32 := 0#32
  let c16_i32_210 : BitVec 32 := 16#32
  let v53 : BitVec 32 := Scalar.addi c0_i32_209 c16_i32_210
  let c1_i32_211 : BitVec 32 := 1#32
  ⟨c0_i32_209, v53, c1_i32_211⟩
def k0_off283 (k0_t54 : Fin k0_t54_loop.trips) : Fin 3 → Nat :=
  let c0 : Index := 0#32
  let c0_i32_209 : BitVec 32 := 0#32
  let c1_i32_211 : BitVec 32 := 1#32
  let arg85 : BitVec 32 := Scf.iv c0_i32_209 c1_i32_211 k0_t54
  let v136 : Index := Scalar.indexCast arg85
  let c0_541 : Index := 0#32
  ![0, v136.toNat, 0]
def k0_off284 (k0_t54 : Fin k0_t54_loop.trips) : Fin 3 → Nat :=
  let c0_545 : Index := 0#32
  let c0_i32_209 : BitVec 32 := 0#32
  let c1_i32_211 : BitVec 32 := 1#32
  let arg85 : BitVec 32 := Scf.iv c0_i32_209 c1_i32_211 k0_t54
  let v144 : Index := Scalar.indexCast arg85
  let c1 : Index := 1#32
  ![0, v144.toNat, 1]
def k0_off285 (k0_t54 : Fin k0_t54_loop.trips) : Fin 3 → Nat :=
  let c0_549 : Index := 0#32
  let c0_i32_209 : BitVec 32 := 0#32
  let c1_i32_211 : BitVec 32 := 1#32
  let arg85 : BitVec 32 := Scf.iv c0_i32_209 c1_i32_211 k0_t54
  let v153 : Index := Scalar.indexCast arg85
  let c2 : Index := 2#32
  ![0, v153.toNat, 2]
def k0_off286 (k0_t54 : Fin k0_t54_loop.trips) : Fin 3 → Nat :=
  let c0_553 : Index := 0#32
  let c0_i32_209 : BitVec 32 := 0#32
  let c1_i32_211 : BitVec 32 := 1#32
  let arg85 : BitVec 32 := Scf.iv c0_i32_209 c1_i32_211 k0_t54
  let v162 : Index := Scalar.indexCast arg85
  let c3 : Index := 3#32
  ![0, v162.toNat, 3]
def k0_off287 (k0_t54 : Fin k0_t54_loop.trips) : Fin 3 → Nat :=
  let c0_557 : Index := 0#32
  let c0_i32_209 : BitVec 32 := 0#32
  let c1_i32_211 : BitVec 32 := 1#32
  let arg85 : BitVec 32 := Scf.iv c0_i32_209 c1_i32_211 k0_t54
  let v171 : Index := Scalar.indexCast arg85
  let c4 : Index := 4#32
  ![0, v171.toNat, 4]
def k0_off288 (k0_t54 : Fin k0_t54_loop.trips) : Fin 3 → Nat :=
  let c0_561 : Index := 0#32
  let c80_i32 : BitVec 32 := 80#32
  let c0_i32_209 : BitVec 32 := 0#32
  let c1_i32_211 : BitVec 32 := 1#32
  let arg85 : BitVec 32 := Scf.iv c0_i32_209 c1_i32_211 k0_t54
  let v180 : BitVec 32 := Scalar.addi c80_i32 arg85
  let v181 : Index := Scalar.indexCast v180
  let c0_562 : Index := 0#32
  ![0, v181.toNat, 0]
@[reducible] def k0_t55_loop : Scf.Loop 32 :=
  let c0_i32_213 : BitVec 32 := 0#32
  let c16_i32_214 : BitVec 32 := 16#32
  let v54 : BitVec 32 := Scalar.addi c0_i32_213 c16_i32_214
  let c1_i32_215 : BitVec 32 := 1#32
  ⟨c0_i32_213, v54, c1_i32_215⟩
def k0_off289 (k0_t55 : Fin k0_t55_loop.trips) : Fin 3 → Nat :=
  let c0 : Index := 0#32
  let c0_i32_213 : BitVec 32 := 0#32
  let c1_i32_215 : BitVec 32 := 1#32
  let arg85 : BitVec 32 := Scf.iv c0_i32_213 c1_i32_215 k0_t55
  let v136 : Index := Scalar.indexCast arg85
  let c0_541 : Index := 0#32
  ![0, v136.toNat, 0]
def k0_off290 (k0_t55 : Fin k0_t55_loop.trips) : Fin 3 → Nat :=
  let c0_545 : Index := 0#32
  let c0_i32_213 : BitVec 32 := 0#32
  let c1_i32_215 : BitVec 32 := 1#32
  let arg85 : BitVec 32 := Scf.iv c0_i32_213 c1_i32_215 k0_t55
  let v144 : Index := Scalar.indexCast arg85
  let c1 : Index := 1#32
  ![0, v144.toNat, 1]
def k0_off291 (k0_t55 : Fin k0_t55_loop.trips) : Fin 3 → Nat :=
  let c0_549 : Index := 0#32
  let c0_i32_213 : BitVec 32 := 0#32
  let c1_i32_215 : BitVec 32 := 1#32
  let arg85 : BitVec 32 := Scf.iv c0_i32_213 c1_i32_215 k0_t55
  let v153 : Index := Scalar.indexCast arg85
  let c2 : Index := 2#32
  ![0, v153.toNat, 2]
def k0_off292 (k0_t55 : Fin k0_t55_loop.trips) : Fin 3 → Nat :=
  let c0_553 : Index := 0#32
  let c0_i32_213 : BitVec 32 := 0#32
  let c1_i32_215 : BitVec 32 := 1#32
  let arg85 : BitVec 32 := Scf.iv c0_i32_213 c1_i32_215 k0_t55
  let v162 : Index := Scalar.indexCast arg85
  let c3 : Index := 3#32
  ![0, v162.toNat, 3]
def k0_off293 (k0_t55 : Fin k0_t55_loop.trips) : Fin 3 → Nat :=
  let c0_557 : Index := 0#32
  let c0_i32_213 : BitVec 32 := 0#32
  let c1_i32_215 : BitVec 32 := 1#32
  let arg85 : BitVec 32 := Scf.iv c0_i32_213 c1_i32_215 k0_t55
  let v171 : Index := Scalar.indexCast arg85
  let c4 : Index := 4#32
  ![0, v171.toNat, 4]
def k0_off294 (k0_t55 : Fin k0_t55_loop.trips) : Fin 3 → Nat :=
  let c0_561 : Index := 0#32
  let c0_i32_213 : BitVec 32 := 0#32
  let c1_i32_215 : BitVec 32 := 1#32
  let arg85 : BitVec 32 := Scf.iv c0_i32_213 c1_i32_215 k0_t55
  let v180 : Index := Scalar.indexCast arg85
  let c5 : Index := 5#32
  ![0, v180.toNat, 5]
def k0_off295 (k0_t55 : Fin k0_t55_loop.trips) : Fin 3 → Nat :=
  let c0_565 : Index := 0#32
  let c0_i32_213 : BitVec 32 := 0#32
  let c1_i32_215 : BitVec 32 := 1#32
  let arg85 : BitVec 32 := Scf.iv c0_i32_213 c1_i32_215 k0_t55
  let v189 : Index := Scalar.indexCast arg85
  let c6 : Index := 6#32
  ![0, v189.toNat, 6]
def k0_off296 (k0_t55 : Fin k0_t55_loop.trips) : Fin 3 → Nat :=
  let c0_569 : Index := 0#32
  let c96_i32 : BitVec 32 := 96#32
  let c0_i32_213 : BitVec 32 := 0#32
  let c1_i32_215 : BitVec 32 := 1#32
  let arg85 : BitVec 32 := Scf.iv c0_i32_213 c1_i32_215 k0_t55
  let v198 : BitVec 32 := Scalar.addi c96_i32 arg85
  let v199 : Index := Scalar.indexCast v198
  let c0_570 : Index := 0#32
  ![0, v199.toNat, 0]
@[reducible] def k0_t56_loop : Scf.Loop 32 :=
  let c0_i32_217 : BitVec 32 := 0#32
  let c16_i32_218 : BitVec 32 := 16#32
  let v55 : BitVec 32 := Scalar.addi c0_i32_217 c16_i32_218
  let c1_i32_219 : BitVec 32 := 1#32
  ⟨c0_i32_217, v55, c1_i32_219⟩
def k0_off297 (k0_t56 : Fin k0_t56_loop.trips) : Fin 3 → Nat :=
  let c0 : Index := 0#32
  let c0_i32_217 : BitVec 32 := 0#32
  let c1_i32_219 : BitVec 32 := 1#32
  let arg85 : BitVec 32 := Scf.iv c0_i32_217 c1_i32_219 k0_t56
  let v136 : Index := Scalar.indexCast arg85
  let c0_541 : Index := 0#32
  ![0, v136.toNat, 0]
def k0_off298 (k0_t56 : Fin k0_t56_loop.trips) : Fin 3 → Nat :=
  let c0_545 : Index := 0#32
  let c0_i32_217 : BitVec 32 := 0#32
  let c1_i32_219 : BitVec 32 := 1#32
  let arg85 : BitVec 32 := Scf.iv c0_i32_217 c1_i32_219 k0_t56
  let v144 : Index := Scalar.indexCast arg85
  let c1 : Index := 1#32
  ![0, v144.toNat, 1]
def k0_off299 (k0_t56 : Fin k0_t56_loop.trips) : Fin 3 → Nat :=
  let c0_549 : Index := 0#32
  let c0_i32_217 : BitVec 32 := 0#32
  let c1_i32_219 : BitVec 32 := 1#32
  let arg85 : BitVec 32 := Scf.iv c0_i32_217 c1_i32_219 k0_t56
  let v153 : Index := Scalar.indexCast arg85
  let c2 : Index := 2#32
  ![0, v153.toNat, 2]
def k0_off300 (k0_t56 : Fin k0_t56_loop.trips) : Fin 3 → Nat :=
  let c0_553 : Index := 0#32
  let c0_i32_217 : BitVec 32 := 0#32
  let c1_i32_219 : BitVec 32 := 1#32
  let arg85 : BitVec 32 := Scf.iv c0_i32_217 c1_i32_219 k0_t56
  let v162 : Index := Scalar.indexCast arg85
  let c3 : Index := 3#32
  ![0, v162.toNat, 3]
def k0_off301 (k0_t56 : Fin k0_t56_loop.trips) : Fin 3 → Nat :=
  let c0_557 : Index := 0#32
  let c0_i32_217 : BitVec 32 := 0#32
  let c1_i32_219 : BitVec 32 := 1#32
  let arg85 : BitVec 32 := Scf.iv c0_i32_217 c1_i32_219 k0_t56
  let v171 : Index := Scalar.indexCast arg85
  let c4 : Index := 4#32
  ![0, v171.toNat, 4]
def k0_off302 (k0_t56 : Fin k0_t56_loop.trips) : Fin 3 → Nat :=
  let c0_561 : Index := 0#32
  let c0_i32_217 : BitVec 32 := 0#32
  let c1_i32_219 : BitVec 32 := 1#32
  let arg85 : BitVec 32 := Scf.iv c0_i32_217 c1_i32_219 k0_t56
  let v180 : Index := Scalar.indexCast arg85
  let c5 : Index := 5#32
  ![0, v180.toNat, 5]
def k0_off303 (k0_t56 : Fin k0_t56_loop.trips) : Fin 3 → Nat :=
  let c0_565 : Index := 0#32
  let c0_i32_217 : BitVec 32 := 0#32
  let c1_i32_219 : BitVec 32 := 1#32
  let arg85 : BitVec 32 := Scf.iv c0_i32_217 c1_i32_219 k0_t56
  let v189 : Index := Scalar.indexCast arg85
  let c6 : Index := 6#32
  ![0, v189.toNat, 6]
def k0_off304 (k0_t56 : Fin k0_t56_loop.trips) : Fin 3 → Nat :=
  let c0_569 : Index := 0#32
  let c112_i32 : BitVec 32 := 112#32
  let c0_i32_217 : BitVec 32 := 0#32
  let c1_i32_219 : BitVec 32 := 1#32
  let arg85 : BitVec 32 := Scf.iv c0_i32_217 c1_i32_219 k0_t56
  let v198 : BitVec 32 := Scalar.addi c112_i32 arg85
  let v199 : Index := Scalar.indexCast v198
  let c0_570 : Index := 0#32
  ![0, v199.toNat, 0]
@[reducible] def k0_t57_loop : Scf.Loop 32 :=
  let c0_i32_221 : BitVec 32 := 0#32
  let c16_i32_222 : BitVec 32 := 16#32
  let v56 : BitVec 32 := Scalar.addi c0_i32_221 c16_i32_222
  let c1_i32_223 : BitVec 32 := 1#32
  ⟨c0_i32_221, v56, c1_i32_223⟩
def k0_off305 (k0_t57 : Fin k0_t57_loop.trips) : Fin 3 → Nat :=
  let c0 : Index := 0#32
  let c0_i32_221 : BitVec 32 := 0#32
  let c1_i32_223 : BitVec 32 := 1#32
  let arg85 : BitVec 32 := Scf.iv c0_i32_221 c1_i32_223 k0_t57
  let v136 : Index := Scalar.indexCast arg85
  let c0_541 : Index := 0#32
  ![0, v136.toNat, 0]
def k0_off306 (k0_t57 : Fin k0_t57_loop.trips) : Fin 3 → Nat :=
  let c0_545 : Index := 0#32
  let c0_i32_221 : BitVec 32 := 0#32
  let c1_i32_223 : BitVec 32 := 1#32
  let arg85 : BitVec 32 := Scf.iv c0_i32_221 c1_i32_223 k0_t57
  let v144 : Index := Scalar.indexCast arg85
  let c1 : Index := 1#32
  ![0, v144.toNat, 1]
def k0_off307 (k0_t57 : Fin k0_t57_loop.trips) : Fin 3 → Nat :=
  let c0_549 : Index := 0#32
  let c0_i32_221 : BitVec 32 := 0#32
  let c1_i32_223 : BitVec 32 := 1#32
  let arg85 : BitVec 32 := Scf.iv c0_i32_221 c1_i32_223 k0_t57
  let v153 : Index := Scalar.indexCast arg85
  let c2 : Index := 2#32
  ![0, v153.toNat, 2]
def k0_off308 (k0_t57 : Fin k0_t57_loop.trips) : Fin 3 → Nat :=
  let c0_553 : Index := 0#32
  let c0_i32_221 : BitVec 32 := 0#32
  let c1_i32_223 : BitVec 32 := 1#32
  let arg85 : BitVec 32 := Scf.iv c0_i32_221 c1_i32_223 k0_t57
  let v162 : Index := Scalar.indexCast arg85
  let c3 : Index := 3#32
  ![0, v162.toNat, 3]
def k0_off309 (k0_t57 : Fin k0_t57_loop.trips) : Fin 3 → Nat :=
  let c0_557 : Index := 0#32
  let c0_i32_221 : BitVec 32 := 0#32
  let c1_i32_223 : BitVec 32 := 1#32
  let arg85 : BitVec 32 := Scf.iv c0_i32_221 c1_i32_223 k0_t57
  let v171 : Index := Scalar.indexCast arg85
  let c4 : Index := 4#32
  ![0, v171.toNat, 4]
def k0_off310 (k0_t57 : Fin k0_t57_loop.trips) : Fin 3 → Nat :=
  let c0_561 : Index := 0#32
  let c0_i32_221 : BitVec 32 := 0#32
  let c1_i32_223 : BitVec 32 := 1#32
  let arg85 : BitVec 32 := Scf.iv c0_i32_221 c1_i32_223 k0_t57
  let v180 : Index := Scalar.indexCast arg85
  let c5 : Index := 5#32
  ![0, v180.toNat, 5]
def k0_off311 (k0_t57 : Fin k0_t57_loop.trips) : Fin 3 → Nat :=
  let c0_565 : Index := 0#32
  let c0_i32_221 : BitVec 32 := 0#32
  let c1_i32_223 : BitVec 32 := 1#32
  let arg85 : BitVec 32 := Scf.iv c0_i32_221 c1_i32_223 k0_t57
  let v189 : Index := Scalar.indexCast arg85
  let c6 : Index := 6#32
  ![0, v189.toNat, 6]
def k0_off312 (k0_t57 : Fin k0_t57_loop.trips) : Fin 3 → Nat :=
  let c0_569 : Index := 0#32
  let c128_i32 : BitVec 32 := 128#32
  let c0_i32_221 : BitVec 32 := 0#32
  let c1_i32_223 : BitVec 32 := 1#32
  let arg85 : BitVec 32 := Scf.iv c0_i32_221 c1_i32_223 k0_t57
  let v198 : BitVec 32 := Scalar.addi c128_i32 arg85
  let v199 : Index := Scalar.indexCast v198
  let c0_570 : Index := 0#32
  ![0, v199.toNat, 0]
@[reducible] def k0_t58_loop : Scf.Loop 32 :=
  let c0_i32_225 : BitVec 32 := 0#32
  let c16_i32_226 : BitVec 32 := 16#32
  let v57 : BitVec 32 := Scalar.addi c0_i32_225 c16_i32_226
  let c1_i32_227 : BitVec 32 := 1#32
  ⟨c0_i32_225, v57, c1_i32_227⟩
def k0_off313 (k0_t58 : Fin k0_t58_loop.trips) : Fin 3 → Nat :=
  let c0 : Index := 0#32
  let c0_i32_225 : BitVec 32 := 0#32
  let c1_i32_227 : BitVec 32 := 1#32
  let arg85 : BitVec 32 := Scf.iv c0_i32_225 c1_i32_227 k0_t58
  let v136 : Index := Scalar.indexCast arg85
  let c0_541 : Index := 0#32
  ![0, v136.toNat, 0]
def k0_off314 (k0_t58 : Fin k0_t58_loop.trips) : Fin 3 → Nat :=
  let c0_545 : Index := 0#32
  let c0_i32_225 : BitVec 32 := 0#32
  let c1_i32_227 : BitVec 32 := 1#32
  let arg85 : BitVec 32 := Scf.iv c0_i32_225 c1_i32_227 k0_t58
  let v144 : Index := Scalar.indexCast arg85
  let c1 : Index := 1#32
  ![0, v144.toNat, 1]
def k0_off315 (k0_t58 : Fin k0_t58_loop.trips) : Fin 3 → Nat :=
  let c0_549 : Index := 0#32
  let c0_i32_225 : BitVec 32 := 0#32
  let c1_i32_227 : BitVec 32 := 1#32
  let arg85 : BitVec 32 := Scf.iv c0_i32_225 c1_i32_227 k0_t58
  let v153 : Index := Scalar.indexCast arg85
  let c2 : Index := 2#32
  ![0, v153.toNat, 2]
def k0_off316 (k0_t58 : Fin k0_t58_loop.trips) : Fin 3 → Nat :=
  let c0_553 : Index := 0#32
  let c0_i32_225 : BitVec 32 := 0#32
  let c1_i32_227 : BitVec 32 := 1#32
  let arg85 : BitVec 32 := Scf.iv c0_i32_225 c1_i32_227 k0_t58
  let v162 : Index := Scalar.indexCast arg85
  let c3 : Index := 3#32
  ![0, v162.toNat, 3]
def k0_off317 (k0_t58 : Fin k0_t58_loop.trips) : Fin 3 → Nat :=
  let c0_557 : Index := 0#32
  let c0_i32_225 : BitVec 32 := 0#32
  let c1_i32_227 : BitVec 32 := 1#32
  let arg85 : BitVec 32 := Scf.iv c0_i32_225 c1_i32_227 k0_t58
  let v171 : Index := Scalar.indexCast arg85
  let c4 : Index := 4#32
  ![0, v171.toNat, 4]
def k0_off318 (k0_t58 : Fin k0_t58_loop.trips) : Fin 3 → Nat :=
  let c0_561 : Index := 0#32
  let c0_i32_225 : BitVec 32 := 0#32
  let c1_i32_227 : BitVec 32 := 1#32
  let arg85 : BitVec 32 := Scf.iv c0_i32_225 c1_i32_227 k0_t58
  let v180 : Index := Scalar.indexCast arg85
  let c5 : Index := 5#32
  ![0, v180.toNat, 5]
def k0_off319 (k0_t58 : Fin k0_t58_loop.trips) : Fin 3 → Nat :=
  let c0_565 : Index := 0#32
  let c0_i32_225 : BitVec 32 := 0#32
  let c1_i32_227 : BitVec 32 := 1#32
  let arg85 : BitVec 32 := Scf.iv c0_i32_225 c1_i32_227 k0_t58
  let v189 : Index := Scalar.indexCast arg85
  let c6 : Index := 6#32
  ![0, v189.toNat, 6]
def k0_off320 (k0_t58 : Fin k0_t58_loop.trips) : Fin 3 → Nat :=
  let c0_569 : Index := 0#32
  let c144_i32 : BitVec 32 := 144#32
  let c0_i32_225 : BitVec 32 := 0#32
  let c1_i32_227 : BitVec 32 := 1#32
  let arg85 : BitVec 32 := Scf.iv c0_i32_225 c1_i32_227 k0_t58
  let v198 : BitVec 32 := Scalar.addi c144_i32 arg85
  let v199 : Index := Scalar.indexCast v198
  let c0_570 : Index := 0#32
  ![0, v199.toNat, 0]
@[reducible] def k0_t59_loop : Scf.Loop 32 :=
  let c0_i32_229 : BitVec 32 := 0#32
  let c16_i32_230 : BitVec 32 := 16#32
  let v58 : BitVec 32 := Scalar.addi c0_i32_229 c16_i32_230
  let c1_i32_231 : BitVec 32 := 1#32
  ⟨c0_i32_229, v58, c1_i32_231⟩
def k0_off321 (k0_t59 : Fin k0_t59_loop.trips) : Fin 3 → Nat :=
  let c0 : Index := 0#32
  let c0_i32_229 : BitVec 32 := 0#32
  let c1_i32_231 : BitVec 32 := 1#32
  let arg85 : BitVec 32 := Scf.iv c0_i32_229 c1_i32_231 k0_t59
  let v136 : Index := Scalar.indexCast arg85
  let c0_541 : Index := 0#32
  ![0, v136.toNat, 0]
def k0_off322 (k0_t59 : Fin k0_t59_loop.trips) : Fin 3 → Nat :=
  let c0_545 : Index := 0#32
  let c160_i32 : BitVec 32 := 160#32
  let c0_i32_229 : BitVec 32 := 0#32
  let c1_i32_231 : BitVec 32 := 1#32
  let arg85 : BitVec 32 := Scf.iv c0_i32_229 c1_i32_231 k0_t59
  let v144 : BitVec 32 := Scalar.addi c160_i32 arg85
  let v145 : Index := Scalar.indexCast v144
  let c0_546 : Index := 0#32
  ![0, v145.toNat, 0]
@[reducible] def k0_t60_loop : Scf.Loop 32 :=
  let c0_i32_233 : BitVec 32 := 0#32
  let c16_i32_234 : BitVec 32 := 16#32
  let v59 : BitVec 32 := Scalar.addi c0_i32_233 c16_i32_234
  let c1_i32_235 : BitVec 32 := 1#32
  ⟨c0_i32_233, v59, c1_i32_235⟩
def k0_off323 (k0_t60 : Fin k0_t60_loop.trips) : Fin 3 → Nat :=
  let c0 : Index := 0#32
  let c0_i32_233 : BitVec 32 := 0#32
  let c1_i32_235 : BitVec 32 := 1#32
  let arg85 : BitVec 32 := Scf.iv c0_i32_233 c1_i32_235 k0_t60
  let v136 : Index := Scalar.indexCast arg85
  let c0_541 : Index := 0#32
  ![0, v136.toNat, 0]
def k0_off324 (k0_t60 : Fin k0_t60_loop.trips) : Fin 3 → Nat :=
  let c0_545 : Index := 0#32
  let c0_i32_233 : BitVec 32 := 0#32
  let c1_i32_235 : BitVec 32 := 1#32
  let arg85 : BitVec 32 := Scf.iv c0_i32_233 c1_i32_235 k0_t60
  let v144 : Index := Scalar.indexCast arg85
  let c1 : Index := 1#32
  ![0, v144.toNat, 1]
def k0_off325 (k0_t60 : Fin k0_t60_loop.trips) : Fin 3 → Nat :=
  let c0_549 : Index := 0#32
  let c0_i32_233 : BitVec 32 := 0#32
  let c1_i32_235 : BitVec 32 := 1#32
  let arg85 : BitVec 32 := Scf.iv c0_i32_233 c1_i32_235 k0_t60
  let v153 : Index := Scalar.indexCast arg85
  let c2 : Index := 2#32
  ![0, v153.toNat, 2]
def k0_off326 (k0_t60 : Fin k0_t60_loop.trips) : Fin 3 → Nat :=
  let c0_553 : Index := 0#32
  let c176_i32 : BitVec 32 := 176#32
  let c0_i32_233 : BitVec 32 := 0#32
  let c1_i32_235 : BitVec 32 := 1#32
  let arg85 : BitVec 32 := Scf.iv c0_i32_233 c1_i32_235 k0_t60
  let v162 : BitVec 32 := Scalar.addi c176_i32 arg85
  let v163 : Index := Scalar.indexCast v162
  let c0_554 : Index := 0#32
  ![0, v163.toNat, 0]
@[reducible] def k0_t61_loop : Scf.Loop 32 :=
  let c0_i32_237 : BitVec 32 := 0#32
  let c16_i32_238 : BitVec 32 := 16#32
  let v60 : BitVec 32 := Scalar.addi c0_i32_237 c16_i32_238
  let c1_i32_239 : BitVec 32 := 1#32
  ⟨c0_i32_237, v60, c1_i32_239⟩
def k0_off327 (k0_t61 : Fin k0_t61_loop.trips) : Fin 3 → Nat :=
  let c0 : Index := 0#32
  let c0_i32_237 : BitVec 32 := 0#32
  let c1_i32_239 : BitVec 32 := 1#32
  let arg85 : BitVec 32 := Scf.iv c0_i32_237 c1_i32_239 k0_t61
  let v136 : Index := Scalar.indexCast arg85
  let c0_541 : Index := 0#32
  ![0, v136.toNat, 0]
def k0_off328 (k0_t61 : Fin k0_t61_loop.trips) : Fin 3 → Nat :=
  let c0_545 : Index := 0#32
  let c0_i32_237 : BitVec 32 := 0#32
  let c1_i32_239 : BitVec 32 := 1#32
  let arg85 : BitVec 32 := Scf.iv c0_i32_237 c1_i32_239 k0_t61
  let v144 : Index := Scalar.indexCast arg85
  let c1 : Index := 1#32
  ![0, v144.toNat, 1]
def k0_off329 (k0_t61 : Fin k0_t61_loop.trips) : Fin 3 → Nat :=
  let c0_549 : Index := 0#32
  let c0_i32_237 : BitVec 32 := 0#32
  let c1_i32_239 : BitVec 32 := 1#32
  let arg85 : BitVec 32 := Scf.iv c0_i32_237 c1_i32_239 k0_t61
  let v153 : Index := Scalar.indexCast arg85
  let c2 : Index := 2#32
  ![0, v153.toNat, 2]
def k0_off330 (k0_t61 : Fin k0_t61_loop.trips) : Fin 3 → Nat :=
  let c0_553 : Index := 0#32
  let c192_i32 : BitVec 32 := 192#32
  let c0_i32_237 : BitVec 32 := 0#32
  let c1_i32_239 : BitVec 32 := 1#32
  let arg85 : BitVec 32 := Scf.iv c0_i32_237 c1_i32_239 k0_t61
  let v162 : BitVec 32 := Scalar.addi c192_i32 arg85
  let v163 : Index := Scalar.indexCast v162
  let c0_554 : Index := 0#32
  ![0, v163.toNat, 0]
@[reducible] def k0_t62_loop : Scf.Loop 32 :=
  let c0_i32_241 : BitVec 32 := 0#32
  let c16_i32_242 : BitVec 32 := 16#32
  let v61 : BitVec 32 := Scalar.addi c0_i32_241 c16_i32_242
  let c1_i32_243 : BitVec 32 := 1#32
  ⟨c0_i32_241, v61, c1_i32_243⟩
def k0_off331 (k0_t62 : Fin k0_t62_loop.trips) : Fin 3 → Nat :=
  let c0 : Index := 0#32
  let c0_i32_241 : BitVec 32 := 0#32
  let c1_i32_243 : BitVec 32 := 1#32
  let arg85 : BitVec 32 := Scf.iv c0_i32_241 c1_i32_243 k0_t62
  let v136 : Index := Scalar.indexCast arg85
  let c0_541 : Index := 0#32
  ![0, v136.toNat, 0]
def k0_off332 (k0_t62 : Fin k0_t62_loop.trips) : Fin 3 → Nat :=
  let c0_545 : Index := 0#32
  let c0_i32_241 : BitVec 32 := 0#32
  let c1_i32_243 : BitVec 32 := 1#32
  let arg85 : BitVec 32 := Scf.iv c0_i32_241 c1_i32_243 k0_t62
  let v144 : Index := Scalar.indexCast arg85
  let c1 : Index := 1#32
  ![0, v144.toNat, 1]
def k0_off333 (k0_t62 : Fin k0_t62_loop.trips) : Fin 3 → Nat :=
  let c0_549 : Index := 0#32
  let c0_i32_241 : BitVec 32 := 0#32
  let c1_i32_243 : BitVec 32 := 1#32
  let arg85 : BitVec 32 := Scf.iv c0_i32_241 c1_i32_243 k0_t62
  let v153 : Index := Scalar.indexCast arg85
  let c2 : Index := 2#32
  ![0, v153.toNat, 2]
def k0_off334 (k0_t62 : Fin k0_t62_loop.trips) : Fin 3 → Nat :=
  let c0_553 : Index := 0#32
  let c0_i32_241 : BitVec 32 := 0#32
  let c1_i32_243 : BitVec 32 := 1#32
  let arg85 : BitVec 32 := Scf.iv c0_i32_241 c1_i32_243 k0_t62
  let v162 : Index := Scalar.indexCast arg85
  let c3 : Index := 3#32
  ![0, v162.toNat, 3]
def k0_off335 (k0_t62 : Fin k0_t62_loop.trips) : Fin 3 → Nat :=
  let c0_557 : Index := 0#32
  let c0_i32_241 : BitVec 32 := 0#32
  let c1_i32_243 : BitVec 32 := 1#32
  let arg85 : BitVec 32 := Scf.iv c0_i32_241 c1_i32_243 k0_t62
  let v171 : Index := Scalar.indexCast arg85
  let c4 : Index := 4#32
  ![0, v171.toNat, 4]
def k0_off336 (k0_t62 : Fin k0_t62_loop.trips) : Fin 3 → Nat :=
  let c0_561 : Index := 0#32
  let c208_i32 : BitVec 32 := 208#32
  let c0_i32_241 : BitVec 32 := 0#32
  let c1_i32_243 : BitVec 32 := 1#32
  let arg85 : BitVec 32 := Scf.iv c0_i32_241 c1_i32_243 k0_t62
  let v180 : BitVec 32 := Scalar.addi c208_i32 arg85
  let v181 : Index := Scalar.indexCast v180
  let c0_562 : Index := 0#32
  ![0, v181.toNat, 0]
@[reducible] def k0_t63_loop : Scf.Loop 32 :=
  let c0_i32_245 : BitVec 32 := 0#32
  let c16_i32_246 : BitVec 32 := 16#32
  let v62 : BitVec 32 := Scalar.addi c0_i32_245 c16_i32_246
  let c1_i32_247 : BitVec 32 := 1#32
  ⟨c0_i32_245, v62, c1_i32_247⟩
def k0_off337 (k0_t63 : Fin k0_t63_loop.trips) : Fin 3 → Nat :=
  let c0 : Index := 0#32
  let c0_i32_245 : BitVec 32 := 0#32
  let c1_i32_247 : BitVec 32 := 1#32
  let arg85 : BitVec 32 := Scf.iv c0_i32_245 c1_i32_247 k0_t63
  let v136 : Index := Scalar.indexCast arg85
  let c0_541 : Index := 0#32
  ![0, v136.toNat, 0]
def k0_off338 (k0_t63 : Fin k0_t63_loop.trips) : Fin 3 → Nat :=
  let c0_545 : Index := 0#32
  let c0_i32_245 : BitVec 32 := 0#32
  let c1_i32_247 : BitVec 32 := 1#32
  let arg85 : BitVec 32 := Scf.iv c0_i32_245 c1_i32_247 k0_t63
  let v144 : Index := Scalar.indexCast arg85
  let c1 : Index := 1#32
  ![0, v144.toNat, 1]
def k0_off339 (k0_t63 : Fin k0_t63_loop.trips) : Fin 3 → Nat :=
  let c0_549 : Index := 0#32
  let c0_i32_245 : BitVec 32 := 0#32
  let c1_i32_247 : BitVec 32 := 1#32
  let arg85 : BitVec 32 := Scf.iv c0_i32_245 c1_i32_247 k0_t63
  let v153 : Index := Scalar.indexCast arg85
  let c2 : Index := 2#32
  ![0, v153.toNat, 2]
def k0_off340 (k0_t63 : Fin k0_t63_loop.trips) : Fin 3 → Nat :=
  let c0_553 : Index := 0#32
  let c0_i32_245 : BitVec 32 := 0#32
  let c1_i32_247 : BitVec 32 := 1#32
  let arg85 : BitVec 32 := Scf.iv c0_i32_245 c1_i32_247 k0_t63
  let v162 : Index := Scalar.indexCast arg85
  let c3 : Index := 3#32
  ![0, v162.toNat, 3]
def k0_off341 (k0_t63 : Fin k0_t63_loop.trips) : Fin 3 → Nat :=
  let c0_557 : Index := 0#32
  let c0_i32_245 : BitVec 32 := 0#32
  let c1_i32_247 : BitVec 32 := 1#32
  let arg85 : BitVec 32 := Scf.iv c0_i32_245 c1_i32_247 k0_t63
  let v171 : Index := Scalar.indexCast arg85
  let c4 : Index := 4#32
  ![0, v171.toNat, 4]
def k0_off342 (k0_t63 : Fin k0_t63_loop.trips) : Fin 3 → Nat :=
  let c0_561 : Index := 0#32
  let c224_i32 : BitVec 32 := 224#32
  let c0_i32_245 : BitVec 32 := 0#32
  let c1_i32_247 : BitVec 32 := 1#32
  let arg85 : BitVec 32 := Scf.iv c0_i32_245 c1_i32_247 k0_t63
  let v180 : BitVec 32 := Scalar.addi c224_i32 arg85
  let v181 : Index := Scalar.indexCast v180
  let c0_562 : Index := 0#32
  ![0, v181.toNat, 0]
@[reducible] def k0_t64_loop : Scf.Loop 32 :=
  let c0_i32_249 : BitVec 32 := 0#32
  let c16_i32_250 : BitVec 32 := 16#32
  let v63 : BitVec 32 := Scalar.addi c0_i32_249 c16_i32_250
  let c1_i32_251 : BitVec 32 := 1#32
  ⟨c0_i32_249, v63, c1_i32_251⟩
def k0_off343 (k0_t64 : Fin k0_t64_loop.trips) : Fin 3 → Nat :=
  let c0 : Index := 0#32
  let c0_i32_249 : BitVec 32 := 0#32
  let c1_i32_251 : BitVec 32 := 1#32
  let arg85 : BitVec 32 := Scf.iv c0_i32_249 c1_i32_251 k0_t64
  let v136 : Index := Scalar.indexCast arg85
  let c0_541 : Index := 0#32
  ![0, v136.toNat, 0]
def k0_off344 (k0_t64 : Fin k0_t64_loop.trips) : Fin 3 → Nat :=
  let c0_545 : Index := 0#32
  let c0_i32_249 : BitVec 32 := 0#32
  let c1_i32_251 : BitVec 32 := 1#32
  let arg85 : BitVec 32 := Scf.iv c0_i32_249 c1_i32_251 k0_t64
  let v144 : Index := Scalar.indexCast arg85
  let c1 : Index := 1#32
  ![0, v144.toNat, 1]
def k0_off345 (k0_t64 : Fin k0_t64_loop.trips) : Fin 3 → Nat :=
  let c0_549 : Index := 0#32
  let c0_i32_249 : BitVec 32 := 0#32
  let c1_i32_251 : BitVec 32 := 1#32
  let arg85 : BitVec 32 := Scf.iv c0_i32_249 c1_i32_251 k0_t64
  let v153 : Index := Scalar.indexCast arg85
  let c2 : Index := 2#32
  ![0, v153.toNat, 2]
def k0_off346 (k0_t64 : Fin k0_t64_loop.trips) : Fin 3 → Nat :=
  let c0_553 : Index := 0#32
  let c0_i32_249 : BitVec 32 := 0#32
  let c1_i32_251 : BitVec 32 := 1#32
  let arg85 : BitVec 32 := Scf.iv c0_i32_249 c1_i32_251 k0_t64
  let v162 : Index := Scalar.indexCast arg85
  let c3 : Index := 3#32
  ![0, v162.toNat, 3]
def k0_off347 (k0_t64 : Fin k0_t64_loop.trips) : Fin 3 → Nat :=
  let c0_557 : Index := 0#32
  let c0_i32_249 : BitVec 32 := 0#32
  let c1_i32_251 : BitVec 32 := 1#32
  let arg85 : BitVec 32 := Scf.iv c0_i32_249 c1_i32_251 k0_t64
  let v171 : Index := Scalar.indexCast arg85
  let c4 : Index := 4#32
  ![0, v171.toNat, 4]
def k0_off348 (k0_t64 : Fin k0_t64_loop.trips) : Fin 3 → Nat :=
  let c0_561 : Index := 0#32
  let c240_i32 : BitVec 32 := 240#32
  let c0_i32_249 : BitVec 32 := 0#32
  let c1_i32_251 : BitVec 32 := 1#32
  let arg85 : BitVec 32 := Scf.iv c0_i32_249 c1_i32_251 k0_t64
  let v180 : BitVec 32 := Scalar.addi c240_i32 arg85
  let v181 : Index := Scalar.indexCast v180
  let c0_562 : Index := 0#32
  ![0, v181.toNat, 0]
@[reducible] def k0_t65_loop : Scf.Loop 32 :=
  let c0_i32_253 : BitVec 32 := 0#32
  let c16_i32_254 : BitVec 32 := 16#32
  let v64 : BitVec 32 := Scalar.addi c0_i32_253 c16_i32_254
  let c1_i32_255 : BitVec 32 := 1#32
  ⟨c0_i32_253, v64, c1_i32_255⟩
def k0_off349 (k0_t65 : Fin k0_t65_loop.trips) : Fin 3 → Nat :=
  let c0 : Index := 0#32
  let c0_i32_253 : BitVec 32 := 0#32
  let c1_i32_255 : BitVec 32 := 1#32
  let arg85 : BitVec 32 := Scf.iv c0_i32_253 c1_i32_255 k0_t65
  let v136 : Index := Scalar.indexCast arg85
  let c0_541 : Index := 0#32
  ![0, v136.toNat, 0]
def k0_off350 (k0_t65 : Fin k0_t65_loop.trips) : Fin 3 → Nat :=
  let c0_545 : Index := 0#32
  let c0_i32_253 : BitVec 32 := 0#32
  let c1_i32_255 : BitVec 32 := 1#32
  let arg85 : BitVec 32 := Scf.iv c0_i32_253 c1_i32_255 k0_t65
  let v144 : Index := Scalar.indexCast arg85
  let c1 : Index := 1#32
  ![0, v144.toNat, 1]
def k0_off351 (k0_t65 : Fin k0_t65_loop.trips) : Fin 3 → Nat :=
  let c0_549 : Index := 0#32
  let c0_i32_253 : BitVec 32 := 0#32
  let c1_i32_255 : BitVec 32 := 1#32
  let arg85 : BitVec 32 := Scf.iv c0_i32_253 c1_i32_255 k0_t65
  let v153 : Index := Scalar.indexCast arg85
  let c2 : Index := 2#32
  ![0, v153.toNat, 2]
def k0_off352 (k0_t65 : Fin k0_t65_loop.trips) : Fin 3 → Nat :=
  let c0_553 : Index := 0#32
  let c0_i32_253 : BitVec 32 := 0#32
  let c1_i32_255 : BitVec 32 := 1#32
  let arg85 : BitVec 32 := Scf.iv c0_i32_253 c1_i32_255 k0_t65
  let v162 : Index := Scalar.indexCast arg85
  let c3 : Index := 3#32
  ![0, v162.toNat, 3]
def k0_off353 (k0_t65 : Fin k0_t65_loop.trips) : Fin 3 → Nat :=
  let c0_557 : Index := 0#32
  let c0_i32_253 : BitVec 32 := 0#32
  let c1_i32_255 : BitVec 32 := 1#32
  let arg85 : BitVec 32 := Scf.iv c0_i32_253 c1_i32_255 k0_t65
  let v171 : Index := Scalar.indexCast arg85
  let c4 : Index := 4#32
  ![0, v171.toNat, 4]
def k0_off354 (k0_t65 : Fin k0_t65_loop.trips) : Fin 3 → Nat :=
  let c0_561 : Index := 0#32
  let c0_i32_253 : BitVec 32 := 0#32
  let c1_i32_255 : BitVec 32 := 1#32
  let arg85 : BitVec 32 := Scf.iv c0_i32_253 c1_i32_255 k0_t65
  let v180 : Index := Scalar.indexCast arg85
  let c5 : Index := 5#32
  ![0, v180.toNat, 5]
def k0_off355 (k0_t65 : Fin k0_t65_loop.trips) : Fin 3 → Nat :=
  let c0_565 : Index := 0#32
  let c0_i32_253 : BitVec 32 := 0#32
  let c1_i32_255 : BitVec 32 := 1#32
  let arg85 : BitVec 32 := Scf.iv c0_i32_253 c1_i32_255 k0_t65
  let v189 : Index := Scalar.indexCast arg85
  let c6 : Index := 6#32
  ![0, v189.toNat, 6]
def k0_off356 (k0_t65 : Fin k0_t65_loop.trips) : Fin 3 → Nat :=
  let c0_569 : Index := 0#32
  let c256_i32 : BitVec 32 := 256#32
  let c0_i32_253 : BitVec 32 := 0#32
  let c1_i32_255 : BitVec 32 := 1#32
  let arg85 : BitVec 32 := Scf.iv c0_i32_253 c1_i32_255 k0_t65
  let v198 : BitVec 32 := Scalar.addi c256_i32 arg85
  let v199 : Index := Scalar.indexCast v198
  let c0_570 : Index := 0#32
  ![0, v199.toNat, 0]
@[reducible] def k0_t66_loop : Scf.Loop 32 :=
  let c0_i32_257 : BitVec 32 := 0#32
  let c16_i32_258 : BitVec 32 := 16#32
  let v65 : BitVec 32 := Scalar.addi c0_i32_257 c16_i32_258
  let c1_i32_259 : BitVec 32 := 1#32
  ⟨c0_i32_257, v65, c1_i32_259⟩
def k0_off357 (k0_t66 : Fin k0_t66_loop.trips) : Fin 3 → Nat :=
  let c0 : Index := 0#32
  let c0_i32_257 : BitVec 32 := 0#32
  let c1_i32_259 : BitVec 32 := 1#32
  let arg85 : BitVec 32 := Scf.iv c0_i32_257 c1_i32_259 k0_t66
  let v136 : Index := Scalar.indexCast arg85
  let c0_541 : Index := 0#32
  ![0, v136.toNat, 0]
def k0_off358 (k0_t66 : Fin k0_t66_loop.trips) : Fin 3 → Nat :=
  let c0_545 : Index := 0#32
  let c0_i32_257 : BitVec 32 := 0#32
  let c1_i32_259 : BitVec 32 := 1#32
  let arg85 : BitVec 32 := Scf.iv c0_i32_257 c1_i32_259 k0_t66
  let v144 : Index := Scalar.indexCast arg85
  let c1 : Index := 1#32
  ![0, v144.toNat, 1]
def k0_off359 (k0_t66 : Fin k0_t66_loop.trips) : Fin 3 → Nat :=
  let c0_549 : Index := 0#32
  let c0_i32_257 : BitVec 32 := 0#32
  let c1_i32_259 : BitVec 32 := 1#32
  let arg85 : BitVec 32 := Scf.iv c0_i32_257 c1_i32_259 k0_t66
  let v153 : Index := Scalar.indexCast arg85
  let c2 : Index := 2#32
  ![0, v153.toNat, 2]
def k0_off360 (k0_t66 : Fin k0_t66_loop.trips) : Fin 3 → Nat :=
  let c0_553 : Index := 0#32
  let c0_i32_257 : BitVec 32 := 0#32
  let c1_i32_259 : BitVec 32 := 1#32
  let arg85 : BitVec 32 := Scf.iv c0_i32_257 c1_i32_259 k0_t66
  let v162 : Index := Scalar.indexCast arg85
  let c3 : Index := 3#32
  ![0, v162.toNat, 3]
def k0_off361 (k0_t66 : Fin k0_t66_loop.trips) : Fin 3 → Nat :=
  let c0_557 : Index := 0#32
  let c0_i32_257 : BitVec 32 := 0#32
  let c1_i32_259 : BitVec 32 := 1#32
  let arg85 : BitVec 32 := Scf.iv c0_i32_257 c1_i32_259 k0_t66
  let v171 : Index := Scalar.indexCast arg85
  let c4 : Index := 4#32
  ![0, v171.toNat, 4]
def k0_off362 (k0_t66 : Fin k0_t66_loop.trips) : Fin 3 → Nat :=
  let c0_561 : Index := 0#32
  let c0_i32_257 : BitVec 32 := 0#32
  let c1_i32_259 : BitVec 32 := 1#32
  let arg85 : BitVec 32 := Scf.iv c0_i32_257 c1_i32_259 k0_t66
  let v180 : Index := Scalar.indexCast arg85
  let c5 : Index := 5#32
  ![0, v180.toNat, 5]
def k0_off363 (k0_t66 : Fin k0_t66_loop.trips) : Fin 3 → Nat :=
  let c0_565 : Index := 0#32
  let c0_i32_257 : BitVec 32 := 0#32
  let c1_i32_259 : BitVec 32 := 1#32
  let arg85 : BitVec 32 := Scf.iv c0_i32_257 c1_i32_259 k0_t66
  let v189 : Index := Scalar.indexCast arg85
  let c6 : Index := 6#32
  ![0, v189.toNat, 6]
def k0_off364 (k0_t66 : Fin k0_t66_loop.trips) : Fin 3 → Nat :=
  let c0_569 : Index := 0#32
  let c272_i32 : BitVec 32 := 272#32
  let c0_i32_257 : BitVec 32 := 0#32
  let c1_i32_259 : BitVec 32 := 1#32
  let arg85 : BitVec 32 := Scf.iv c0_i32_257 c1_i32_259 k0_t66
  let v198 : BitVec 32 := Scalar.addi c272_i32 arg85
  let v199 : Index := Scalar.indexCast v198
  let c0_570 : Index := 0#32
  ![0, v199.toNat, 0]
@[reducible] def k0_t67_loop : Scf.Loop 32 :=
  let c0_i32_261 : BitVec 32 := 0#32
  let c16_i32_262 : BitVec 32 := 16#32
  let v66 : BitVec 32 := Scalar.addi c0_i32_261 c16_i32_262
  let c1_i32_263 : BitVec 32 := 1#32
  ⟨c0_i32_261, v66, c1_i32_263⟩
def k0_off365 (k0_t67 : Fin k0_t67_loop.trips) : Fin 3 → Nat :=
  let c0 : Index := 0#32
  let c0_i32_261 : BitVec 32 := 0#32
  let c1_i32_263 : BitVec 32 := 1#32
  let arg85 : BitVec 32 := Scf.iv c0_i32_261 c1_i32_263 k0_t67
  let v136 : Index := Scalar.indexCast arg85
  let c0_541 : Index := 0#32
  ![0, v136.toNat, 0]
def k0_off366 (k0_t67 : Fin k0_t67_loop.trips) : Fin 3 → Nat :=
  let c0_545 : Index := 0#32
  let c0_i32_261 : BitVec 32 := 0#32
  let c1_i32_263 : BitVec 32 := 1#32
  let arg85 : BitVec 32 := Scf.iv c0_i32_261 c1_i32_263 k0_t67
  let v144 : Index := Scalar.indexCast arg85
  let c1 : Index := 1#32
  ![0, v144.toNat, 1]
def k0_off367 (k0_t67 : Fin k0_t67_loop.trips) : Fin 3 → Nat :=
  let c0_549 : Index := 0#32
  let c0_i32_261 : BitVec 32 := 0#32
  let c1_i32_263 : BitVec 32 := 1#32
  let arg85 : BitVec 32 := Scf.iv c0_i32_261 c1_i32_263 k0_t67
  let v153 : Index := Scalar.indexCast arg85
  let c2 : Index := 2#32
  ![0, v153.toNat, 2]
def k0_off368 (k0_t67 : Fin k0_t67_loop.trips) : Fin 3 → Nat :=
  let c0_553 : Index := 0#32
  let c0_i32_261 : BitVec 32 := 0#32
  let c1_i32_263 : BitVec 32 := 1#32
  let arg85 : BitVec 32 := Scf.iv c0_i32_261 c1_i32_263 k0_t67
  let v162 : Index := Scalar.indexCast arg85
  let c3 : Index := 3#32
  ![0, v162.toNat, 3]
def k0_off369 (k0_t67 : Fin k0_t67_loop.trips) : Fin 3 → Nat :=
  let c0_557 : Index := 0#32
  let c0_i32_261 : BitVec 32 := 0#32
  let c1_i32_263 : BitVec 32 := 1#32
  let arg85 : BitVec 32 := Scf.iv c0_i32_261 c1_i32_263 k0_t67
  let v171 : Index := Scalar.indexCast arg85
  let c4 : Index := 4#32
  ![0, v171.toNat, 4]
def k0_off370 (k0_t67 : Fin k0_t67_loop.trips) : Fin 3 → Nat :=
  let c0_561 : Index := 0#32
  let c0_i32_261 : BitVec 32 := 0#32
  let c1_i32_263 : BitVec 32 := 1#32
  let arg85 : BitVec 32 := Scf.iv c0_i32_261 c1_i32_263 k0_t67
  let v180 : Index := Scalar.indexCast arg85
  let c5 : Index := 5#32
  ![0, v180.toNat, 5]
def k0_off371 (k0_t67 : Fin k0_t67_loop.trips) : Fin 3 → Nat :=
  let c0_565 : Index := 0#32
  let c0_i32_261 : BitVec 32 := 0#32
  let c1_i32_263 : BitVec 32 := 1#32
  let arg85 : BitVec 32 := Scf.iv c0_i32_261 c1_i32_263 k0_t67
  let v189 : Index := Scalar.indexCast arg85
  let c6 : Index := 6#32
  ![0, v189.toNat, 6]
def k0_off372 (k0_t67 : Fin k0_t67_loop.trips) : Fin 3 → Nat :=
  let c0_569 : Index := 0#32
  let c288_i32 : BitVec 32 := 288#32
  let c0_i32_261 : BitVec 32 := 0#32
  let c1_i32_263 : BitVec 32 := 1#32
  let arg85 : BitVec 32 := Scf.iv c0_i32_261 c1_i32_263 k0_t67
  let v198 : BitVec 32 := Scalar.addi c288_i32 arg85
  let v199 : Index := Scalar.indexCast v198
  let c0_570 : Index := 0#32
  ![0, v199.toNat, 0]
@[reducible] def k0_t68_loop : Scf.Loop 32 :=
  let c0_i32_265 : BitVec 32 := 0#32
  let c16_i32_266 : BitVec 32 := 16#32
  let v67 : BitVec 32 := Scalar.addi c0_i32_265 c16_i32_266
  let c1_i32_267 : BitVec 32 := 1#32
  ⟨c0_i32_265, v67, c1_i32_267⟩
def k0_off373 (k0_t68 : Fin k0_t68_loop.trips) : Fin 3 → Nat :=
  let c0 : Index := 0#32
  let c0_i32_265 : BitVec 32 := 0#32
  let c1_i32_267 : BitVec 32 := 1#32
  let arg85 : BitVec 32 := Scf.iv c0_i32_265 c1_i32_267 k0_t68
  let v136 : Index := Scalar.indexCast arg85
  let c0_541 : Index := 0#32
  ![0, v136.toNat, 0]
def k0_off374 (k0_t68 : Fin k0_t68_loop.trips) : Fin 3 → Nat :=
  let c0_545 : Index := 0#32
  let c0_i32_265 : BitVec 32 := 0#32
  let c1_i32_267 : BitVec 32 := 1#32
  let arg85 : BitVec 32 := Scf.iv c0_i32_265 c1_i32_267 k0_t68
  let v144 : Index := Scalar.indexCast arg85
  let c1 : Index := 1#32
  ![0, v144.toNat, 1]
def k0_off375 (k0_t68 : Fin k0_t68_loop.trips) : Fin 3 → Nat :=
  let c0_549 : Index := 0#32
  let c0_i32_265 : BitVec 32 := 0#32
  let c1_i32_267 : BitVec 32 := 1#32
  let arg85 : BitVec 32 := Scf.iv c0_i32_265 c1_i32_267 k0_t68
  let v153 : Index := Scalar.indexCast arg85
  let c2 : Index := 2#32
  ![0, v153.toNat, 2]
def k0_off376 (k0_t68 : Fin k0_t68_loop.trips) : Fin 3 → Nat :=
  let c0_553 : Index := 0#32
  let c0_i32_265 : BitVec 32 := 0#32
  let c1_i32_267 : BitVec 32 := 1#32
  let arg85 : BitVec 32 := Scf.iv c0_i32_265 c1_i32_267 k0_t68
  let v162 : Index := Scalar.indexCast arg85
  let c3 : Index := 3#32
  ![0, v162.toNat, 3]
def k0_off377 (k0_t68 : Fin k0_t68_loop.trips) : Fin 3 → Nat :=
  let c0_557 : Index := 0#32
  let c0_i32_265 : BitVec 32 := 0#32
  let c1_i32_267 : BitVec 32 := 1#32
  let arg85 : BitVec 32 := Scf.iv c0_i32_265 c1_i32_267 k0_t68
  let v171 : Index := Scalar.indexCast arg85
  let c4 : Index := 4#32
  ![0, v171.toNat, 4]
def k0_off378 (k0_t68 : Fin k0_t68_loop.trips) : Fin 3 → Nat :=
  let c0_561 : Index := 0#32
  let c0_i32_265 : BitVec 32 := 0#32
  let c1_i32_267 : BitVec 32 := 1#32
  let arg85 : BitVec 32 := Scf.iv c0_i32_265 c1_i32_267 k0_t68
  let v180 : Index := Scalar.indexCast arg85
  let c5 : Index := 5#32
  ![0, v180.toNat, 5]
def k0_off379 (k0_t68 : Fin k0_t68_loop.trips) : Fin 3 → Nat :=
  let c0_565 : Index := 0#32
  let c0_i32_265 : BitVec 32 := 0#32
  let c1_i32_267 : BitVec 32 := 1#32
  let arg85 : BitVec 32 := Scf.iv c0_i32_265 c1_i32_267 k0_t68
  let v189 : Index := Scalar.indexCast arg85
  let c6 : Index := 6#32
  ![0, v189.toNat, 6]
def k0_off380 (k0_t68 : Fin k0_t68_loop.trips) : Fin 3 → Nat :=
  let c0_569 : Index := 0#32
  let c304_i32 : BitVec 32 := 304#32
  let c0_i32_265 : BitVec 32 := 0#32
  let c1_i32_267 : BitVec 32 := 1#32
  let arg85 : BitVec 32 := Scf.iv c0_i32_265 c1_i32_267 k0_t68
  let v198 : BitVec 32 := Scalar.addi c304_i32 arg85
  let v199 : Index := Scalar.indexCast v198
  let c0_570 : Index := 0#32
  ![0, v199.toNat, 0]
@[reducible] def k0_t69_loop : Scf.Loop 32 :=
  let c0_i32_269 : BitVec 32 := 0#32
  let c16_i32_270 : BitVec 32 := 16#32
  let v68 : BitVec 32 := Scalar.addi c0_i32_269 c16_i32_270
  let c1_i32_271 : BitVec 32 := 1#32
  ⟨c0_i32_269, v68, c1_i32_271⟩
def k0_off381 (k0_t69 : Fin k0_t69_loop.trips) : Fin 3 → Nat :=
  let c0 : Index := 0#32
  let c0_i32_269 : BitVec 32 := 0#32
  let c1_i32_271 : BitVec 32 := 1#32
  let arg85 : BitVec 32 := Scf.iv c0_i32_269 c1_i32_271 k0_t69
  let v136 : Index := Scalar.indexCast arg85
  let c0_541 : Index := 0#32
  ![0, v136.toNat, 0]
def k0_off382 (k0_t69 : Fin k0_t69_loop.trips) : Fin 3 → Nat :=
  let c0_546 : Index := 0#32
  let c0_i32_545 : BitVec 32 := 0#32
  let c0_i32_269 : BitVec 32 := 0#32
  let c1_i32_271 : BitVec 32 := 1#32
  let arg85 : BitVec 32 := Scf.iv c0_i32_269 c1_i32_271 k0_t69
  let v144 : BitVec 32 := Scalar.addi c0_i32_545 arg85
  let v145 : Index := Scalar.indexCast v144
  let c0_547 : Index := 0#32
  ![0, v145.toNat, 0]
@[reducible] def k0_t70_loop : Scf.Loop 32 :=
  let c0_i32_273 : BitVec 32 := 0#32
  let c16_i32_274 : BitVec 32 := 16#32
  let v69 : BitVec 32 := Scalar.addi c0_i32_273 c16_i32_274
  let c1_i32_275 : BitVec 32 := 1#32
  ⟨c0_i32_273, v69, c1_i32_275⟩
def k0_off383 (k0_t70 : Fin k0_t70_loop.trips) : Fin 3 → Nat :=
  let c0 : Index := 0#32
  let c0_i32_273 : BitVec 32 := 0#32
  let c1_i32_275 : BitVec 32 := 1#32
  let arg85 : BitVec 32 := Scf.iv c0_i32_273 c1_i32_275 k0_t70
  let v136 : Index := Scalar.indexCast arg85
  let c0_541 : Index := 0#32
  ![0, v136.toNat, 0]
def k0_off384 (k0_t70 : Fin k0_t70_loop.trips) : Fin 3 → Nat :=
  let c0_545 : Index := 0#32
  let c0_i32_273 : BitVec 32 := 0#32
  let c1_i32_275 : BitVec 32 := 1#32
  let arg85 : BitVec 32 := Scf.iv c0_i32_273 c1_i32_275 k0_t70
  let v144 : Index := Scalar.indexCast arg85
  let c1 : Index := 1#32
  ![0, v144.toNat, 1]
def k0_off385 (k0_t70 : Fin k0_t70_loop.trips) : Fin 3 → Nat :=
  let c0_549 : Index := 0#32
  let c0_i32_273 : BitVec 32 := 0#32
  let c1_i32_275 : BitVec 32 := 1#32
  let arg85 : BitVec 32 := Scf.iv c0_i32_273 c1_i32_275 k0_t70
  let v153 : Index := Scalar.indexCast arg85
  let c2 : Index := 2#32
  ![0, v153.toNat, 2]
def k0_off386 (k0_t70 : Fin k0_t70_loop.trips) : Fin 3 → Nat :=
  let c0_554 : Index := 0#32
  let c16_i32_553 : BitVec 32 := 16#32
  let c0_i32_273 : BitVec 32 := 0#32
  let c1_i32_275 : BitVec 32 := 1#32
  let arg85 : BitVec 32 := Scf.iv c0_i32_273 c1_i32_275 k0_t70
  let v162 : BitVec 32 := Scalar.addi c16_i32_553 arg85
  let v163 : Index := Scalar.indexCast v162
  let c0_555 : Index := 0#32
  ![0, v163.toNat, 0]
@[reducible] def k0_t71_loop : Scf.Loop 32 :=
  let c0_i32_277 : BitVec 32 := 0#32
  let c16_i32_278 : BitVec 32 := 16#32
  let v70 : BitVec 32 := Scalar.addi c0_i32_277 c16_i32_278
  let c1_i32_279 : BitVec 32 := 1#32
  ⟨c0_i32_277, v70, c1_i32_279⟩
def k0_off387 (k0_t71 : Fin k0_t71_loop.trips) : Fin 3 → Nat :=
  let c0 : Index := 0#32
  let c0_i32_277 : BitVec 32 := 0#32
  let c1_i32_279 : BitVec 32 := 1#32
  let arg85 : BitVec 32 := Scf.iv c0_i32_277 c1_i32_279 k0_t71
  let v136 : Index := Scalar.indexCast arg85
  let c0_541 : Index := 0#32
  ![0, v136.toNat, 0]
def k0_off388 (k0_t71 : Fin k0_t71_loop.trips) : Fin 3 → Nat :=
  let c0_545 : Index := 0#32
  let c0_i32_277 : BitVec 32 := 0#32
  let c1_i32_279 : BitVec 32 := 1#32
  let arg85 : BitVec 32 := Scf.iv c0_i32_277 c1_i32_279 k0_t71
  let v144 : Index := Scalar.indexCast arg85
  let c1 : Index := 1#32
  ![0, v144.toNat, 1]
def k0_off389 (k0_t71 : Fin k0_t71_loop.trips) : Fin 3 → Nat :=
  let c0_549 : Index := 0#32
  let c0_i32_277 : BitVec 32 := 0#32
  let c1_i32_279 : BitVec 32 := 1#32
  let arg85 : BitVec 32 := Scf.iv c0_i32_277 c1_i32_279 k0_t71
  let v153 : Index := Scalar.indexCast arg85
  let c2 : Index := 2#32
  ![0, v153.toNat, 2]
def k0_off390 (k0_t71 : Fin k0_t71_loop.trips) : Fin 3 → Nat :=
  let c0_553 : Index := 0#32
  let c0_i32_277 : BitVec 32 := 0#32
  let c1_i32_279 : BitVec 32 := 1#32
  let arg85 : BitVec 32 := Scf.iv c0_i32_277 c1_i32_279 k0_t71
  let v162 : Index := Scalar.indexCast arg85
  let c3 : Index := 3#32
  ![0, v162.toNat, 3]
def k0_off391 (k0_t71 : Fin k0_t71_loop.trips) : Fin 3 → Nat :=
  let c0_557 : Index := 0#32
  let c0_i32_277 : BitVec 32 := 0#32
  let c1_i32_279 : BitVec 32 := 1#32
  let arg85 : BitVec 32 := Scf.iv c0_i32_277 c1_i32_279 k0_t71
  let v171 : Index := Scalar.indexCast arg85
  let c4 : Index := 4#32
  ![0, v171.toNat, 4]
def k0_off392 (k0_t71 : Fin k0_t71_loop.trips) : Fin 3 → Nat :=
  let c0_561 : Index := 0#32
  let c32_i32 : BitVec 32 := 32#32
  let c0_i32_277 : BitVec 32 := 0#32
  let c1_i32_279 : BitVec 32 := 1#32
  let arg85 : BitVec 32 := Scf.iv c0_i32_277 c1_i32_279 k0_t71
  let v180 : BitVec 32 := Scalar.addi c32_i32 arg85
  let v181 : Index := Scalar.indexCast v180
  let c0_562 : Index := 0#32
  ![0, v181.toNat, 0]
@[reducible] def k0_t72_loop : Scf.Loop 32 :=
  let c0_i32_281 : BitVec 32 := 0#32
  let c16_i32_282 : BitVec 32 := 16#32
  let v71 : BitVec 32 := Scalar.addi c0_i32_281 c16_i32_282
  let c1_i32_283 : BitVec 32 := 1#32
  ⟨c0_i32_281, v71, c1_i32_283⟩
def k0_off393 (k0_t72 : Fin k0_t72_loop.trips) : Fin 3 → Nat :=
  let c0 : Index := 0#32
  let c0_i32_281 : BitVec 32 := 0#32
  let c1_i32_283 : BitVec 32 := 1#32
  let arg85 : BitVec 32 := Scf.iv c0_i32_281 c1_i32_283 k0_t72
  let v136 : Index := Scalar.indexCast arg85
  let c0_541 : Index := 0#32
  ![0, v136.toNat, 0]
def k0_off394 (k0_t72 : Fin k0_t72_loop.trips) : Fin 3 → Nat :=
  let c0_545 : Index := 0#32
  let c0_i32_281 : BitVec 32 := 0#32
  let c1_i32_283 : BitVec 32 := 1#32
  let arg85 : BitVec 32 := Scf.iv c0_i32_281 c1_i32_283 k0_t72
  let v144 : Index := Scalar.indexCast arg85
  let c1 : Index := 1#32
  ![0, v144.toNat, 1]
def k0_off395 (k0_t72 : Fin k0_t72_loop.trips) : Fin 3 → Nat :=
  let c0_549 : Index := 0#32
  let c0_i32_281 : BitVec 32 := 0#32
  let c1_i32_283 : BitVec 32 := 1#32
  let arg85 : BitVec 32 := Scf.iv c0_i32_281 c1_i32_283 k0_t72
  let v153 : Index := Scalar.indexCast arg85
  let c2 : Index := 2#32
  ![0, v153.toNat, 2]
def k0_off396 (k0_t72 : Fin k0_t72_loop.trips) : Fin 3 → Nat :=
  let c0_553 : Index := 0#32
  let c0_i32_281 : BitVec 32 := 0#32
  let c1_i32_283 : BitVec 32 := 1#32
  let arg85 : BitVec 32 := Scf.iv c0_i32_281 c1_i32_283 k0_t72
  let v162 : Index := Scalar.indexCast arg85
  let c3 : Index := 3#32
  ![0, v162.toNat, 3]
def k0_off397 (k0_t72 : Fin k0_t72_loop.trips) : Fin 3 → Nat :=
  let c0_557 : Index := 0#32
  let c0_i32_281 : BitVec 32 := 0#32
  let c1_i32_283 : BitVec 32 := 1#32
  let arg85 : BitVec 32 := Scf.iv c0_i32_281 c1_i32_283 k0_t72
  let v171 : Index := Scalar.indexCast arg85
  let c4 : Index := 4#32
  ![0, v171.toNat, 4]
def k0_off398 (k0_t72 : Fin k0_t72_loop.trips) : Fin 3 → Nat :=
  let c0_561 : Index := 0#32
  let c0_i32_281 : BitVec 32 := 0#32
  let c1_i32_283 : BitVec 32 := 1#32
  let arg85 : BitVec 32 := Scf.iv c0_i32_281 c1_i32_283 k0_t72
  let v180 : Index := Scalar.indexCast arg85
  let c5 : Index := 5#32
  ![0, v180.toNat, 5]
def k0_off399 (k0_t72 : Fin k0_t72_loop.trips) : Fin 3 → Nat :=
  let c0_565 : Index := 0#32
  let c0_i32_281 : BitVec 32 := 0#32
  let c1_i32_283 : BitVec 32 := 1#32
  let arg85 : BitVec 32 := Scf.iv c0_i32_281 c1_i32_283 k0_t72
  let v189 : Index := Scalar.indexCast arg85
  let c6 : Index := 6#32
  ![0, v189.toNat, 6]
def k0_off400 (k0_t72 : Fin k0_t72_loop.trips) : Fin 3 → Nat :=
  let c0_569 : Index := 0#32
  let c48_i32 : BitVec 32 := 48#32
  let c0_i32_281 : BitVec 32 := 0#32
  let c1_i32_283 : BitVec 32 := 1#32
  let arg85 : BitVec 32 := Scf.iv c0_i32_281 c1_i32_283 k0_t72
  let v198 : BitVec 32 := Scalar.addi c48_i32 arg85
  let v199 : Index := Scalar.indexCast v198
  let c0_570 : Index := 0#32
  ![0, v199.toNat, 0]
@[reducible] def k0_t73_loop : Scf.Loop 32 :=
  let c0_i32_285 : BitVec 32 := 0#32
  let c16_i32_286 : BitVec 32 := 16#32
  let v72 : BitVec 32 := Scalar.addi c0_i32_285 c16_i32_286
  let c1_i32_287 : BitVec 32 := 1#32
  ⟨c0_i32_285, v72, c1_i32_287⟩
def k0_off401 (k0_t73 : Fin k0_t73_loop.trips) : Fin 3 → Nat :=
  let c0 : Index := 0#32
  let c0_i32_285 : BitVec 32 := 0#32
  let c1_i32_287 : BitVec 32 := 1#32
  let arg85 : BitVec 32 := Scf.iv c0_i32_285 c1_i32_287 k0_t73
  let v136 : Index := Scalar.indexCast arg85
  let c0_541 : Index := 0#32
  ![0, v136.toNat, 0]
def k0_off402 (k0_t73 : Fin k0_t73_loop.trips) : Fin 3 → Nat :=
  let c0_545 : Index := 0#32
  let c64_i32 : BitVec 32 := 64#32
  let c0_i32_285 : BitVec 32 := 0#32
  let c1_i32_287 : BitVec 32 := 1#32
  let arg85 : BitVec 32 := Scf.iv c0_i32_285 c1_i32_287 k0_t73
  let v144 : BitVec 32 := Scalar.addi c64_i32 arg85
  let v145 : Index := Scalar.indexCast v144
  let c0_546 : Index := 0#32
  ![0, v145.toNat, 0]
@[reducible] def k0_t74_loop : Scf.Loop 32 :=
  let c0_i32_289 : BitVec 32 := 0#32
  let c16_i32_290 : BitVec 32 := 16#32
  let v73 : BitVec 32 := Scalar.addi c0_i32_289 c16_i32_290
  let c1_i32_291 : BitVec 32 := 1#32
  ⟨c0_i32_289, v73, c1_i32_291⟩
def k0_off403 (k0_t74 : Fin k0_t74_loop.trips) : Fin 3 → Nat :=
  let c0 : Index := 0#32
  let c0_i32_289 : BitVec 32 := 0#32
  let c1_i32_291 : BitVec 32 := 1#32
  let arg85 : BitVec 32 := Scf.iv c0_i32_289 c1_i32_291 k0_t74
  let v136 : Index := Scalar.indexCast arg85
  let c0_541 : Index := 0#32
  ![0, v136.toNat, 0]
def k0_off404 (k0_t74 : Fin k0_t74_loop.trips) : Fin 3 → Nat :=
  let c0_545 : Index := 0#32
  let c0_i32_289 : BitVec 32 := 0#32
  let c1_i32_291 : BitVec 32 := 1#32
  let arg85 : BitVec 32 := Scf.iv c0_i32_289 c1_i32_291 k0_t74
  let v144 : Index := Scalar.indexCast arg85
  let c1 : Index := 1#32
  ![0, v144.toNat, 1]
def k0_off405 (k0_t74 : Fin k0_t74_loop.trips) : Fin 3 → Nat :=
  let c0_549 : Index := 0#32
  let c0_i32_289 : BitVec 32 := 0#32
  let c1_i32_291 : BitVec 32 := 1#32
  let arg85 : BitVec 32 := Scf.iv c0_i32_289 c1_i32_291 k0_t74
  let v153 : Index := Scalar.indexCast arg85
  let c2 : Index := 2#32
  ![0, v153.toNat, 2]
def k0_off406 (k0_t74 : Fin k0_t74_loop.trips) : Fin 3 → Nat :=
  let c0_553 : Index := 0#32
  let c80_i32 : BitVec 32 := 80#32
  let c0_i32_289 : BitVec 32 := 0#32
  let c1_i32_291 : BitVec 32 := 1#32
  let arg85 : BitVec 32 := Scf.iv c0_i32_289 c1_i32_291 k0_t74
  let v162 : BitVec 32 := Scalar.addi c80_i32 arg85
  let v163 : Index := Scalar.indexCast v162
  let c0_554 : Index := 0#32
  ![0, v163.toNat, 0]
@[reducible] def k0_t75_loop : Scf.Loop 32 :=
  let c0_i32_293 : BitVec 32 := 0#32
  let c16_i32_294 : BitVec 32 := 16#32
  let v74 : BitVec 32 := Scalar.addi c0_i32_293 c16_i32_294
  let c1_i32_295 : BitVec 32 := 1#32
  ⟨c0_i32_293, v74, c1_i32_295⟩
def k0_off407 (k0_t75 : Fin k0_t75_loop.trips) : Fin 3 → Nat :=
  let c0 : Index := 0#32
  let c0_i32_293 : BitVec 32 := 0#32
  let c1_i32_295 : BitVec 32 := 1#32
  let arg85 : BitVec 32 := Scf.iv c0_i32_293 c1_i32_295 k0_t75
  let v136 : Index := Scalar.indexCast arg85
  let c0_541 : Index := 0#32
  ![0, v136.toNat, 0]
def k0_off408 (k0_t75 : Fin k0_t75_loop.trips) : Fin 3 → Nat :=
  let c0_545 : Index := 0#32
  let c0_i32_293 : BitVec 32 := 0#32
  let c1_i32_295 : BitVec 32 := 1#32
  let arg85 : BitVec 32 := Scf.iv c0_i32_293 c1_i32_295 k0_t75
  let v144 : Index := Scalar.indexCast arg85
  let c1 : Index := 1#32
  ![0, v144.toNat, 1]
def k0_off409 (k0_t75 : Fin k0_t75_loop.trips) : Fin 3 → Nat :=
  let c0_549 : Index := 0#32
  let c0_i32_293 : BitVec 32 := 0#32
  let c1_i32_295 : BitVec 32 := 1#32
  let arg85 : BitVec 32 := Scf.iv c0_i32_293 c1_i32_295 k0_t75
  let v153 : Index := Scalar.indexCast arg85
  let c2 : Index := 2#32
  ![0, v153.toNat, 2]
def k0_off410 (k0_t75 : Fin k0_t75_loop.trips) : Fin 3 → Nat :=
  let c0_553 : Index := 0#32
  let c0_i32_293 : BitVec 32 := 0#32
  let c1_i32_295 : BitVec 32 := 1#32
  let arg85 : BitVec 32 := Scf.iv c0_i32_293 c1_i32_295 k0_t75
  let v162 : Index := Scalar.indexCast arg85
  let c3 : Index := 3#32
  ![0, v162.toNat, 3]
def k0_off411 (k0_t75 : Fin k0_t75_loop.trips) : Fin 3 → Nat :=
  let c0_557 : Index := 0#32
  let c0_i32_293 : BitVec 32 := 0#32
  let c1_i32_295 : BitVec 32 := 1#32
  let arg85 : BitVec 32 := Scf.iv c0_i32_293 c1_i32_295 k0_t75
  let v171 : Index := Scalar.indexCast arg85
  let c4 : Index := 4#32
  ![0, v171.toNat, 4]
def k0_off412 (k0_t75 : Fin k0_t75_loop.trips) : Fin 3 → Nat :=
  let c0_561 : Index := 0#32
  let c96_i32 : BitVec 32 := 96#32
  let c0_i32_293 : BitVec 32 := 0#32
  let c1_i32_295 : BitVec 32 := 1#32
  let arg85 : BitVec 32 := Scf.iv c0_i32_293 c1_i32_295 k0_t75
  let v180 : BitVec 32 := Scalar.addi c96_i32 arg85
  let v181 : Index := Scalar.indexCast v180
  let c0_562 : Index := 0#32
  ![0, v181.toNat, 0]
@[reducible] def k0_t76_loop : Scf.Loop 32 :=
  let c0_i32_297 : BitVec 32 := 0#32
  let c16_i32_298 : BitVec 32 := 16#32
  let v75 : BitVec 32 := Scalar.addi c0_i32_297 c16_i32_298
  let c1_i32_299 : BitVec 32 := 1#32
  ⟨c0_i32_297, v75, c1_i32_299⟩
def k0_off413 (k0_t76 : Fin k0_t76_loop.trips) : Fin 3 → Nat :=
  let c0 : Index := 0#32
  let c0_i32_297 : BitVec 32 := 0#32
  let c1_i32_299 : BitVec 32 := 1#32
  let arg85 : BitVec 32 := Scf.iv c0_i32_297 c1_i32_299 k0_t76
  let v136 : Index := Scalar.indexCast arg85
  let c0_541 : Index := 0#32
  ![0, v136.toNat, 0]
def k0_off414 (k0_t76 : Fin k0_t76_loop.trips) : Fin 3 → Nat :=
  let c0_545 : Index := 0#32
  let c0_i32_297 : BitVec 32 := 0#32
  let c1_i32_299 : BitVec 32 := 1#32
  let arg85 : BitVec 32 := Scf.iv c0_i32_297 c1_i32_299 k0_t76
  let v144 : Index := Scalar.indexCast arg85
  let c1 : Index := 1#32
  ![0, v144.toNat, 1]
def k0_off415 (k0_t76 : Fin k0_t76_loop.trips) : Fin 3 → Nat :=
  let c0_549 : Index := 0#32
  let c0_i32_297 : BitVec 32 := 0#32
  let c1_i32_299 : BitVec 32 := 1#32
  let arg85 : BitVec 32 := Scf.iv c0_i32_297 c1_i32_299 k0_t76
  let v153 : Index := Scalar.indexCast arg85
  let c2 : Index := 2#32
  ![0, v153.toNat, 2]
def k0_off416 (k0_t76 : Fin k0_t76_loop.trips) : Fin 3 → Nat :=
  let c0_553 : Index := 0#32
  let c0_i32_297 : BitVec 32 := 0#32
  let c1_i32_299 : BitVec 32 := 1#32
  let arg85 : BitVec 32 := Scf.iv c0_i32_297 c1_i32_299 k0_t76
  let v162 : Index := Scalar.indexCast arg85
  let c3 : Index := 3#32
  ![0, v162.toNat, 3]
def k0_off417 (k0_t76 : Fin k0_t76_loop.trips) : Fin 3 → Nat :=
  let c0_557 : Index := 0#32
  let c0_i32_297 : BitVec 32 := 0#32
  let c1_i32_299 : BitVec 32 := 1#32
  let arg85 : BitVec 32 := Scf.iv c0_i32_297 c1_i32_299 k0_t76
  let v171 : Index := Scalar.indexCast arg85
  let c4 : Index := 4#32
  ![0, v171.toNat, 4]
def k0_off418 (k0_t76 : Fin k0_t76_loop.trips) : Fin 3 → Nat :=
  let c0_561 : Index := 0#32
  let c0_i32_297 : BitVec 32 := 0#32
  let c1_i32_299 : BitVec 32 := 1#32
  let arg85 : BitVec 32 := Scf.iv c0_i32_297 c1_i32_299 k0_t76
  let v180 : Index := Scalar.indexCast arg85
  let c5 : Index := 5#32
  ![0, v180.toNat, 5]
def k0_off419 (k0_t76 : Fin k0_t76_loop.trips) : Fin 3 → Nat :=
  let c0_565 : Index := 0#32
  let c0_i32_297 : BitVec 32 := 0#32
  let c1_i32_299 : BitVec 32 := 1#32
  let arg85 : BitVec 32 := Scf.iv c0_i32_297 c1_i32_299 k0_t76
  let v189 : Index := Scalar.indexCast arg85
  let c6 : Index := 6#32
  ![0, v189.toNat, 6]
def k0_off420 (k0_t76 : Fin k0_t76_loop.trips) : Fin 3 → Nat :=
  let c0_569 : Index := 0#32
  let c112_i32 : BitVec 32 := 112#32
  let c0_i32_297 : BitVec 32 := 0#32
  let c1_i32_299 : BitVec 32 := 1#32
  let arg85 : BitVec 32 := Scf.iv c0_i32_297 c1_i32_299 k0_t76
  let v198 : BitVec 32 := Scalar.addi c112_i32 arg85
  let v199 : Index := Scalar.indexCast v198
  let c0_570 : Index := 0#32
  ![0, v199.toNat, 0]
@[reducible] def k0_t77_loop : Scf.Loop 32 :=
  let c0_i32_301 : BitVec 32 := 0#32
  let c16_i32_302 : BitVec 32 := 16#32
  let v76 : BitVec 32 := Scalar.addi c0_i32_301 c16_i32_302
  let c1_i32_303 : BitVec 32 := 1#32
  ⟨c0_i32_301, v76, c1_i32_303⟩
def k0_off421 (k0_t77 : Fin k0_t77_loop.trips) : Fin 3 → Nat :=
  let c0 : Index := 0#32
  let c0_i32_301 : BitVec 32 := 0#32
  let c1_i32_303 : BitVec 32 := 1#32
  let arg85 : BitVec 32 := Scf.iv c0_i32_301 c1_i32_303 k0_t77
  let v136 : Index := Scalar.indexCast arg85
  let c0_541 : Index := 0#32
  ![0, v136.toNat, 0]
def k0_off422 (k0_t77 : Fin k0_t77_loop.trips) : Fin 3 → Nat :=
  let c0_546 : Index := 0#32
  let c0_i32_545 : BitVec 32 := 0#32
  let c0_i32_301 : BitVec 32 := 0#32
  let c1_i32_303 : BitVec 32 := 1#32
  let arg85 : BitVec 32 := Scf.iv c0_i32_301 c1_i32_303 k0_t77
  let v144 : BitVec 32 := Scalar.addi c0_i32_545 arg85
  let v145 : Index := Scalar.indexCast v144
  let c0_547 : Index := 0#32
  ![0, v145.toNat, 0]
@[reducible] def k0_t78_loop : Scf.Loop 32 :=
  let c0_i32_305 : BitVec 32 := 0#32
  let c16_i32_306 : BitVec 32 := 16#32
  let v77 : BitVec 32 := Scalar.addi c0_i32_305 c16_i32_306
  let c1_i32_307 : BitVec 32 := 1#32
  ⟨c0_i32_305, v77, c1_i32_307⟩
def k0_off423 (k0_t78 : Fin k0_t78_loop.trips) : Fin 3 → Nat :=
  let c0 : Index := 0#32
  let c0_i32_305 : BitVec 32 := 0#32
  let c1_i32_307 : BitVec 32 := 1#32
  let arg85 : BitVec 32 := Scf.iv c0_i32_305 c1_i32_307 k0_t78
  let v136 : Index := Scalar.indexCast arg85
  let c0_541 : Index := 0#32
  ![0, v136.toNat, 0]
def k0_off424 (k0_t78 : Fin k0_t78_loop.trips) : Fin 3 → Nat :=
  let c0_545 : Index := 0#32
  let c0_i32_305 : BitVec 32 := 0#32
  let c1_i32_307 : BitVec 32 := 1#32
  let arg85 : BitVec 32 := Scf.iv c0_i32_305 c1_i32_307 k0_t78
  let v144 : Index := Scalar.indexCast arg85
  let c1 : Index := 1#32
  ![0, v144.toNat, 1]
def k0_off425 (k0_t78 : Fin k0_t78_loop.trips) : Fin 3 → Nat :=
  let c0_549 : Index := 0#32
  let c0_i32_305 : BitVec 32 := 0#32
  let c1_i32_307 : BitVec 32 := 1#32
  let arg85 : BitVec 32 := Scf.iv c0_i32_305 c1_i32_307 k0_t78
  let v153 : Index := Scalar.indexCast arg85
  let c2 : Index := 2#32
  ![0, v153.toNat, 2]
def k0_off426 (k0_t78 : Fin k0_t78_loop.trips) : Fin 3 → Nat :=
  let c0_554 : Index := 0#32
  let c16_i32_553 : BitVec 32 := 16#32
  let c0_i32_305 : BitVec 32 := 0#32
  let c1_i32_307 : BitVec 32 := 1#32
  let arg85 : BitVec 32 := Scf.iv c0_i32_305 c1_i32_307 k0_t78
  let v162 : BitVec 32 := Scalar.addi c16_i32_553 arg85
  let v163 : Index := Scalar.indexCast v162
  let c0_555 : Index := 0#32
  ![0, v163.toNat, 0]
@[reducible] def k0_t79_loop : Scf.Loop 32 :=
  let c0_i32_309 : BitVec 32 := 0#32
  let c16_i32_310 : BitVec 32 := 16#32
  let v78 : BitVec 32 := Scalar.addi c0_i32_309 c16_i32_310
  let c1_i32_311 : BitVec 32 := 1#32
  ⟨c0_i32_309, v78, c1_i32_311⟩
def k0_off427 (k0_t79 : Fin k0_t79_loop.trips) : Fin 3 → Nat :=
  let c0 : Index := 0#32
  let c0_i32_309 : BitVec 32 := 0#32
  let c1_i32_311 : BitVec 32 := 1#32
  let arg85 : BitVec 32 := Scf.iv c0_i32_309 c1_i32_311 k0_t79
  let v136 : Index := Scalar.indexCast arg85
  let c0_541 : Index := 0#32
  ![0, v136.toNat, 0]
def k0_off428 (k0_t79 : Fin k0_t79_loop.trips) : Fin 3 → Nat :=
  let c0_545 : Index := 0#32
  let c0_i32_309 : BitVec 32 := 0#32
  let c1_i32_311 : BitVec 32 := 1#32
  let arg85 : BitVec 32 := Scf.iv c0_i32_309 c1_i32_311 k0_t79
  let v144 : Index := Scalar.indexCast arg85
  let c1 : Index := 1#32
  ![0, v144.toNat, 1]
def k0_off429 (k0_t79 : Fin k0_t79_loop.trips) : Fin 3 → Nat :=
  let c0_549 : Index := 0#32
  let c0_i32_309 : BitVec 32 := 0#32
  let c1_i32_311 : BitVec 32 := 1#32
  let arg85 : BitVec 32 := Scf.iv c0_i32_309 c1_i32_311 k0_t79
  let v153 : Index := Scalar.indexCast arg85
  let c2 : Index := 2#32
  ![0, v153.toNat, 2]
def k0_off430 (k0_t79 : Fin k0_t79_loop.trips) : Fin 3 → Nat :=
  let c0_553 : Index := 0#32
  let c32_i32 : BitVec 32 := 32#32
  let c0_i32_309 : BitVec 32 := 0#32
  let c1_i32_311 : BitVec 32 := 1#32
  let arg85 : BitVec 32 := Scf.iv c0_i32_309 c1_i32_311 k0_t79
  let v162 : BitVec 32 := Scalar.addi c32_i32 arg85
  let v163 : Index := Scalar.indexCast v162
  let c0_554 : Index := 0#32
  ![0, v163.toNat, 0]
@[reducible] def k0_t80_loop : Scf.Loop 32 :=
  let c0_i32_313 : BitVec 32 := 0#32
  let c16_i32_314 : BitVec 32 := 16#32
  let v79 : BitVec 32 := Scalar.addi c0_i32_313 c16_i32_314
  let c1_i32_315 : BitVec 32 := 1#32
  ⟨c0_i32_313, v79, c1_i32_315⟩
def k0_off431 (k0_t80 : Fin k0_t80_loop.trips) : Fin 3 → Nat :=
  let c0 : Index := 0#32
  let c0_i32_313 : BitVec 32 := 0#32
  let c1_i32_315 : BitVec 32 := 1#32
  let arg85 : BitVec 32 := Scf.iv c0_i32_313 c1_i32_315 k0_t80
  let v136 : Index := Scalar.indexCast arg85
  let c0_541 : Index := 0#32
  ![0, v136.toNat, 0]
def k0_off432 (k0_t80 : Fin k0_t80_loop.trips) : Fin 3 → Nat :=
  let c0_545 : Index := 0#32
  let c0_i32_313 : BitVec 32 := 0#32
  let c1_i32_315 : BitVec 32 := 1#32
  let arg85 : BitVec 32 := Scf.iv c0_i32_313 c1_i32_315 k0_t80
  let v144 : Index := Scalar.indexCast arg85
  let c1 : Index := 1#32
  ![0, v144.toNat, 1]
def k0_off433 (k0_t80 : Fin k0_t80_loop.trips) : Fin 3 → Nat :=
  let c0_549 : Index := 0#32
  let c0_i32_313 : BitVec 32 := 0#32
  let c1_i32_315 : BitVec 32 := 1#32
  let arg85 : BitVec 32 := Scf.iv c0_i32_313 c1_i32_315 k0_t80
  let v153 : Index := Scalar.indexCast arg85
  let c2 : Index := 2#32
  ![0, v153.toNat, 2]
def k0_off434 (k0_t80 : Fin k0_t80_loop.trips) : Fin 3 → Nat :=
  let c0_553 : Index := 0#32
  let c48_i32 : BitVec 32 := 48#32
  let c0_i32_313 : BitVec 32 := 0#32
  let c1_i32_315 : BitVec 32 := 1#32
  let arg85 : BitVec 32 := Scf.iv c0_i32_313 c1_i32_315 k0_t80
  let v162 : BitVec 32 := Scalar.addi c48_i32 arg85
  let v163 : Index := Scalar.indexCast v162
  let c0_554 : Index := 0#32
  ![0, v163.toNat, 0]
@[reducible] def k0_t81_loop : Scf.Loop 32 :=
  let c0_i32_317 : BitVec 32 := 0#32
  let c16_i32_318 : BitVec 32 := 16#32
  let v80 : BitVec 32 := Scalar.addi c0_i32_317 c16_i32_318
  let c1_i32_319 : BitVec 32 := 1#32
  ⟨c0_i32_317, v80, c1_i32_319⟩
def k0_off435 (k0_t81 : Fin k0_t81_loop.trips) : Fin 3 → Nat :=
  let c0 : Index := 0#32
  let c0_i32_317 : BitVec 32 := 0#32
  let c1_i32_319 : BitVec 32 := 1#32
  let arg85 : BitVec 32 := Scf.iv c0_i32_317 c1_i32_319 k0_t81
  let v136 : Index := Scalar.indexCast arg85
  let c0_541 : Index := 0#32
  ![0, v136.toNat, 0]
def k0_off436 (k0_t81 : Fin k0_t81_loop.trips) : Fin 3 → Nat :=
  let c0_545 : Index := 0#32
  let c0_i32_317 : BitVec 32 := 0#32
  let c1_i32_319 : BitVec 32 := 1#32
  let arg85 : BitVec 32 := Scf.iv c0_i32_317 c1_i32_319 k0_t81
  let v144 : Index := Scalar.indexCast arg85
  let c1 : Index := 1#32
  ![0, v144.toNat, 1]
def k0_off437 (k0_t81 : Fin k0_t81_loop.trips) : Fin 3 → Nat :=
  let c0_549 : Index := 0#32
  let c0_i32_317 : BitVec 32 := 0#32
  let c1_i32_319 : BitVec 32 := 1#32
  let arg85 : BitVec 32 := Scf.iv c0_i32_317 c1_i32_319 k0_t81
  let v153 : Index := Scalar.indexCast arg85
  let c2 : Index := 2#32
  ![0, v153.toNat, 2]
def k0_off438 (k0_t81 : Fin k0_t81_loop.trips) : Fin 3 → Nat :=
  let c0_553 : Index := 0#32
  let c0_i32_317 : BitVec 32 := 0#32
  let c1_i32_319 : BitVec 32 := 1#32
  let arg85 : BitVec 32 := Scf.iv c0_i32_317 c1_i32_319 k0_t81
  let v162 : Index := Scalar.indexCast arg85
  let c3 : Index := 3#32
  ![0, v162.toNat, 3]
def k0_off439 (k0_t81 : Fin k0_t81_loop.trips) : Fin 3 → Nat :=
  let c0_557 : Index := 0#32
  let c0_i32_317 : BitVec 32 := 0#32
  let c1_i32_319 : BitVec 32 := 1#32
  let arg85 : BitVec 32 := Scf.iv c0_i32_317 c1_i32_319 k0_t81
  let v171 : Index := Scalar.indexCast arg85
  let c4 : Index := 4#32
  ![0, v171.toNat, 4]
def k0_off440 (k0_t81 : Fin k0_t81_loop.trips) : Fin 3 → Nat :=
  let c0_561 : Index := 0#32
  let c64_i32 : BitVec 32 := 64#32
  let c0_i32_317 : BitVec 32 := 0#32
  let c1_i32_319 : BitVec 32 := 1#32
  let arg85 : BitVec 32 := Scf.iv c0_i32_317 c1_i32_319 k0_t81
  let v180 : BitVec 32 := Scalar.addi c64_i32 arg85
  let v181 : Index := Scalar.indexCast v180
  let c0_562 : Index := 0#32
  ![0, v181.toNat, 0]
@[reducible] def k0_t82_loop : Scf.Loop 32 :=
  let c0_i32_321 : BitVec 32 := 0#32
  let c16_i32_322 : BitVec 32 := 16#32
  let v81 : BitVec 32 := Scalar.addi c0_i32_321 c16_i32_322
  let c1_i32_323 : BitVec 32 := 1#32
  ⟨c0_i32_321, v81, c1_i32_323⟩
def k0_off441 (k0_t82 : Fin k0_t82_loop.trips) : Fin 3 → Nat :=
  let c0 : Index := 0#32
  let c0_i32_321 : BitVec 32 := 0#32
  let c1_i32_323 : BitVec 32 := 1#32
  let arg85 : BitVec 32 := Scf.iv c0_i32_321 c1_i32_323 k0_t82
  let v136 : Index := Scalar.indexCast arg85
  let c0_541 : Index := 0#32
  ![0, v136.toNat, 0]
def k0_off442 (k0_t82 : Fin k0_t82_loop.trips) : Fin 3 → Nat :=
  let c0_545 : Index := 0#32
  let c0_i32_321 : BitVec 32 := 0#32
  let c1_i32_323 : BitVec 32 := 1#32
  let arg85 : BitVec 32 := Scf.iv c0_i32_321 c1_i32_323 k0_t82
  let v144 : Index := Scalar.indexCast arg85
  let c1 : Index := 1#32
  ![0, v144.toNat, 1]
def k0_off443 (k0_t82 : Fin k0_t82_loop.trips) : Fin 3 → Nat :=
  let c0_549 : Index := 0#32
  let c0_i32_321 : BitVec 32 := 0#32
  let c1_i32_323 : BitVec 32 := 1#32
  let arg85 : BitVec 32 := Scf.iv c0_i32_321 c1_i32_323 k0_t82
  let v153 : Index := Scalar.indexCast arg85
  let c2 : Index := 2#32
  ![0, v153.toNat, 2]
def k0_off444 (k0_t82 : Fin k0_t82_loop.trips) : Fin 3 → Nat :=
  let c0_553 : Index := 0#32
  let c0_i32_321 : BitVec 32 := 0#32
  let c1_i32_323 : BitVec 32 := 1#32
  let arg85 : BitVec 32 := Scf.iv c0_i32_321 c1_i32_323 k0_t82
  let v162 : Index := Scalar.indexCast arg85
  let c3 : Index := 3#32
  ![0, v162.toNat, 3]
def k0_off445 (k0_t82 : Fin k0_t82_loop.trips) : Fin 3 → Nat :=
  let c0_557 : Index := 0#32
  let c0_i32_321 : BitVec 32 := 0#32
  let c1_i32_323 : BitVec 32 := 1#32
  let arg85 : BitVec 32 := Scf.iv c0_i32_321 c1_i32_323 k0_t82
  let v171 : Index := Scalar.indexCast arg85
  let c4 : Index := 4#32
  ![0, v171.toNat, 4]
def k0_off446 (k0_t82 : Fin k0_t82_loop.trips) : Fin 3 → Nat :=
  let c0_561 : Index := 0#32
  let c80_i32 : BitVec 32 := 80#32
  let c0_i32_321 : BitVec 32 := 0#32
  let c1_i32_323 : BitVec 32 := 1#32
  let arg85 : BitVec 32 := Scf.iv c0_i32_321 c1_i32_323 k0_t82
  let v180 : BitVec 32 := Scalar.addi c80_i32 arg85
  let v181 : Index := Scalar.indexCast v180
  let c0_562 : Index := 0#32
  ![0, v181.toNat, 0]
@[reducible] def k0_t83_loop : Scf.Loop 32 :=
  let c0_i32_325 : BitVec 32 := 0#32
  let c16_i32_326 : BitVec 32 := 16#32
  let v82 : BitVec 32 := Scalar.addi c0_i32_325 c16_i32_326
  let c1_i32_327 : BitVec 32 := 1#32
  ⟨c0_i32_325, v82, c1_i32_327⟩
def k0_off447 (k0_t83 : Fin k0_t83_loop.trips) : Fin 3 → Nat :=
  let c0 : Index := 0#32
  let c0_i32_325 : BitVec 32 := 0#32
  let c1_i32_327 : BitVec 32 := 1#32
  let arg85 : BitVec 32 := Scf.iv c0_i32_325 c1_i32_327 k0_t83
  let v136 : Index := Scalar.indexCast arg85
  let c0_541 : Index := 0#32
  ![0, v136.toNat, 0]
def k0_off448 (k0_t83 : Fin k0_t83_loop.trips) : Fin 3 → Nat :=
  let c0_545 : Index := 0#32
  let c0_i32_325 : BitVec 32 := 0#32
  let c1_i32_327 : BitVec 32 := 1#32
  let arg85 : BitVec 32 := Scf.iv c0_i32_325 c1_i32_327 k0_t83
  let v144 : Index := Scalar.indexCast arg85
  let c1 : Index := 1#32
  ![0, v144.toNat, 1]
def k0_off449 (k0_t83 : Fin k0_t83_loop.trips) : Fin 3 → Nat :=
  let c0_549 : Index := 0#32
  let c0_i32_325 : BitVec 32 := 0#32
  let c1_i32_327 : BitVec 32 := 1#32
  let arg85 : BitVec 32 := Scf.iv c0_i32_325 c1_i32_327 k0_t83
  let v153 : Index := Scalar.indexCast arg85
  let c2 : Index := 2#32
  ![0, v153.toNat, 2]
def k0_off450 (k0_t83 : Fin k0_t83_loop.trips) : Fin 3 → Nat :=
  let c0_553 : Index := 0#32
  let c0_i32_325 : BitVec 32 := 0#32
  let c1_i32_327 : BitVec 32 := 1#32
  let arg85 : BitVec 32 := Scf.iv c0_i32_325 c1_i32_327 k0_t83
  let v162 : Index := Scalar.indexCast arg85
  let c3 : Index := 3#32
  ![0, v162.toNat, 3]
def k0_off451 (k0_t83 : Fin k0_t83_loop.trips) : Fin 3 → Nat :=
  let c0_557 : Index := 0#32
  let c0_i32_325 : BitVec 32 := 0#32
  let c1_i32_327 : BitVec 32 := 1#32
  let arg85 : BitVec 32 := Scf.iv c0_i32_325 c1_i32_327 k0_t83
  let v171 : Index := Scalar.indexCast arg85
  let c4 : Index := 4#32
  ![0, v171.toNat, 4]
def k0_off452 (k0_t83 : Fin k0_t83_loop.trips) : Fin 3 → Nat :=
  let c0_561 : Index := 0#32
  let c96_i32 : BitVec 32 := 96#32
  let c0_i32_325 : BitVec 32 := 0#32
  let c1_i32_327 : BitVec 32 := 1#32
  let arg85 : BitVec 32 := Scf.iv c0_i32_325 c1_i32_327 k0_t83
  let v180 : BitVec 32 := Scalar.addi c96_i32 arg85
  let v181 : Index := Scalar.indexCast v180
  let c0_562 : Index := 0#32
  ![0, v181.toNat, 0]
@[reducible] def k0_t84_loop : Scf.Loop 32 :=
  let c0_i32_329 : BitVec 32 := 0#32
  let c16_i32_330 : BitVec 32 := 16#32
  let v83 : BitVec 32 := Scalar.addi c0_i32_329 c16_i32_330
  let c1_i32_331 : BitVec 32 := 1#32
  ⟨c0_i32_329, v83, c1_i32_331⟩
def k0_off453 (k0_t84 : Fin k0_t84_loop.trips) : Fin 3 → Nat :=
  let c0 : Index := 0#32
  let c0_i32_329 : BitVec 32 := 0#32
  let c1_i32_331 : BitVec 32 := 1#32
  let arg85 : BitVec 32 := Scf.iv c0_i32_329 c1_i32_331 k0_t84
  let v136 : Index := Scalar.indexCast arg85
  let c0_541 : Index := 0#32
  ![0, v136.toNat, 0]
def k0_off454 (k0_t84 : Fin k0_t84_loop.trips) : Fin 3 → Nat :=
  let c0_545 : Index := 0#32
  let c0_i32_329 : BitVec 32 := 0#32
  let c1_i32_331 : BitVec 32 := 1#32
  let arg85 : BitVec 32 := Scf.iv c0_i32_329 c1_i32_331 k0_t84
  let v144 : Index := Scalar.indexCast arg85
  let c1 : Index := 1#32
  ![0, v144.toNat, 1]
def k0_off455 (k0_t84 : Fin k0_t84_loop.trips) : Fin 3 → Nat :=
  let c0_549 : Index := 0#32
  let c0_i32_329 : BitVec 32 := 0#32
  let c1_i32_331 : BitVec 32 := 1#32
  let arg85 : BitVec 32 := Scf.iv c0_i32_329 c1_i32_331 k0_t84
  let v153 : Index := Scalar.indexCast arg85
  let c2 : Index := 2#32
  ![0, v153.toNat, 2]
def k0_off456 (k0_t84 : Fin k0_t84_loop.trips) : Fin 3 → Nat :=
  let c0_553 : Index := 0#32
  let c0_i32_329 : BitVec 32 := 0#32
  let c1_i32_331 : BitVec 32 := 1#32
  let arg85 : BitVec 32 := Scf.iv c0_i32_329 c1_i32_331 k0_t84
  let v162 : Index := Scalar.indexCast arg85
  let c3 : Index := 3#32
  ![0, v162.toNat, 3]
def k0_off457 (k0_t84 : Fin k0_t84_loop.trips) : Fin 3 → Nat :=
  let c0_557 : Index := 0#32
  let c0_i32_329 : BitVec 32 := 0#32
  let c1_i32_331 : BitVec 32 := 1#32
  let arg85 : BitVec 32 := Scf.iv c0_i32_329 c1_i32_331 k0_t84
  let v171 : Index := Scalar.indexCast arg85
  let c4 : Index := 4#32
  ![0, v171.toNat, 4]
def k0_off458 (k0_t84 : Fin k0_t84_loop.trips) : Fin 3 → Nat :=
  let c0_561 : Index := 0#32
  let c0_i32_329 : BitVec 32 := 0#32
  let c1_i32_331 : BitVec 32 := 1#32
  let arg85 : BitVec 32 := Scf.iv c0_i32_329 c1_i32_331 k0_t84
  let v180 : Index := Scalar.indexCast arg85
  let c5 : Index := 5#32
  ![0, v180.toNat, 5]
def k0_off459 (k0_t84 : Fin k0_t84_loop.trips) : Fin 3 → Nat :=
  let c0_565 : Index := 0#32
  let c0_i32_329 : BitVec 32 := 0#32
  let c1_i32_331 : BitVec 32 := 1#32
  let arg85 : BitVec 32 := Scf.iv c0_i32_329 c1_i32_331 k0_t84
  let v189 : Index := Scalar.indexCast arg85
  let c6 : Index := 6#32
  ![0, v189.toNat, 6]
def k0_off460 (k0_t84 : Fin k0_t84_loop.trips) : Fin 3 → Nat :=
  let c0_569 : Index := 0#32
  let c112_i32 : BitVec 32 := 112#32
  let c0_i32_329 : BitVec 32 := 0#32
  let c1_i32_331 : BitVec 32 := 1#32
  let arg85 : BitVec 32 := Scf.iv c0_i32_329 c1_i32_331 k0_t84
  let v198 : BitVec 32 := Scalar.addi c112_i32 arg85
  let v199 : Index := Scalar.indexCast v198
  let c0_570 : Index := 0#32
  ![0, v199.toNat, 0]
@[reducible] def k0_t85_loop : Scf.Loop 32 :=
  let c0_i32_333 : BitVec 32 := 0#32
  let c16_i32_334 : BitVec 32 := 16#32
  let v84 : BitVec 32 := Scalar.addi c0_i32_333 c16_i32_334
  let c1_i32_335 : BitVec 32 := 1#32
  ⟨c0_i32_333, v84, c1_i32_335⟩
def k0_off461 (k0_t85 : Fin k0_t85_loop.trips) : Fin 3 → Nat :=
  let c0 : Index := 0#32
  let c0_i32_333 : BitVec 32 := 0#32
  let c1_i32_335 : BitVec 32 := 1#32
  let arg85 : BitVec 32 := Scf.iv c0_i32_333 c1_i32_335 k0_t85
  let v136 : Index := Scalar.indexCast arg85
  let c0_541 : Index := 0#32
  ![0, v136.toNat, 0]
def k0_off462 (k0_t85 : Fin k0_t85_loop.trips) : Fin 3 → Nat :=
  let c0_545 : Index := 0#32
  let c0_i32_333 : BitVec 32 := 0#32
  let c1_i32_335 : BitVec 32 := 1#32
  let arg85 : BitVec 32 := Scf.iv c0_i32_333 c1_i32_335 k0_t85
  let v144 : Index := Scalar.indexCast arg85
  let c1 : Index := 1#32
  ![0, v144.toNat, 1]
def k0_off463 (k0_t85 : Fin k0_t85_loop.trips) : Fin 3 → Nat :=
  let c0_549 : Index := 0#32
  let c0_i32_333 : BitVec 32 := 0#32
  let c1_i32_335 : BitVec 32 := 1#32
  let arg85 : BitVec 32 := Scf.iv c0_i32_333 c1_i32_335 k0_t85
  let v153 : Index := Scalar.indexCast arg85
  let c2 : Index := 2#32
  ![0, v153.toNat, 2]
def k0_off464 (k0_t85 : Fin k0_t85_loop.trips) : Fin 3 → Nat :=
  let c0_553 : Index := 0#32
  let c0_i32_333 : BitVec 32 := 0#32
  let c1_i32_335 : BitVec 32 := 1#32
  let arg85 : BitVec 32 := Scf.iv c0_i32_333 c1_i32_335 k0_t85
  let v162 : Index := Scalar.indexCast arg85
  let c3 : Index := 3#32
  ![0, v162.toNat, 3]
def k0_off465 (k0_t85 : Fin k0_t85_loop.trips) : Fin 3 → Nat :=
  let c0_557 : Index := 0#32
  let c0_i32_333 : BitVec 32 := 0#32
  let c1_i32_335 : BitVec 32 := 1#32
  let arg85 : BitVec 32 := Scf.iv c0_i32_333 c1_i32_335 k0_t85
  let v171 : Index := Scalar.indexCast arg85
  let c4 : Index := 4#32
  ![0, v171.toNat, 4]
def k0_off466 (k0_t85 : Fin k0_t85_loop.trips) : Fin 3 → Nat :=
  let c0_561 : Index := 0#32
  let c0_i32_333 : BitVec 32 := 0#32
  let c1_i32_335 : BitVec 32 := 1#32
  let arg85 : BitVec 32 := Scf.iv c0_i32_333 c1_i32_335 k0_t85
  let v180 : Index := Scalar.indexCast arg85
  let c5 : Index := 5#32
  ![0, v180.toNat, 5]
def k0_off467 (k0_t85 : Fin k0_t85_loop.trips) : Fin 3 → Nat :=
  let c0_565 : Index := 0#32
  let c0_i32_333 : BitVec 32 := 0#32
  let c1_i32_335 : BitVec 32 := 1#32
  let arg85 : BitVec 32 := Scf.iv c0_i32_333 c1_i32_335 k0_t85
  let v189 : Index := Scalar.indexCast arg85
  let c6 : Index := 6#32
  ![0, v189.toNat, 6]
def k0_off468 (k0_t85 : Fin k0_t85_loop.trips) : Fin 3 → Nat :=
  let c0_569 : Index := 0#32
  let c128_i32 : BitVec 32 := 128#32
  let c0_i32_333 : BitVec 32 := 0#32
  let c1_i32_335 : BitVec 32 := 1#32
  let arg85 : BitVec 32 := Scf.iv c0_i32_333 c1_i32_335 k0_t85
  let v198 : BitVec 32 := Scalar.addi c128_i32 arg85
  let v199 : Index := Scalar.indexCast v198
  let c0_570 : Index := 0#32
  ![0, v199.toNat, 0]
@[reducible] def k0_t86_loop : Scf.Loop 32 :=
  let c0_i32_337 : BitVec 32 := 0#32
  let c16_i32_338 : BitVec 32 := 16#32
  let v85 : BitVec 32 := Scalar.addi c0_i32_337 c16_i32_338
  let c1_i32_339 : BitVec 32 := 1#32
  ⟨c0_i32_337, v85, c1_i32_339⟩
def k0_off469 (k0_t86 : Fin k0_t86_loop.trips) : Fin 3 → Nat :=
  let c0 : Index := 0#32
  let c0_i32_337 : BitVec 32 := 0#32
  let c1_i32_339 : BitVec 32 := 1#32
  let arg85 : BitVec 32 := Scf.iv c0_i32_337 c1_i32_339 k0_t86
  let v136 : Index := Scalar.indexCast arg85
  let c0_541 : Index := 0#32
  ![0, v136.toNat, 0]
def k0_off470 (k0_t86 : Fin k0_t86_loop.trips) : Fin 3 → Nat :=
  let c0_545 : Index := 0#32
  let c144_i32 : BitVec 32 := 144#32
  let c0_i32_337 : BitVec 32 := 0#32
  let c1_i32_339 : BitVec 32 := 1#32
  let arg85 : BitVec 32 := Scf.iv c0_i32_337 c1_i32_339 k0_t86
  let v144 : BitVec 32 := Scalar.addi c144_i32 arg85
  let v145 : Index := Scalar.indexCast v144
  let c0_546 : Index := 0#32
  ![0, v145.toNat, 0]
@[reducible] def k0_t87_loop : Scf.Loop 32 :=
  let c0_i32_341 : BitVec 32 := 0#32
  let c16_i32_342 : BitVec 32 := 16#32
  let v86 : BitVec 32 := Scalar.addi c0_i32_341 c16_i32_342
  let c1_i32_343 : BitVec 32 := 1#32
  ⟨c0_i32_341, v86, c1_i32_343⟩
def k0_off471 (k0_t87 : Fin k0_t87_loop.trips) : Fin 3 → Nat :=
  let c0 : Index := 0#32
  let c0_i32_341 : BitVec 32 := 0#32
  let c1_i32_343 : BitVec 32 := 1#32
  let arg85 : BitVec 32 := Scf.iv c0_i32_341 c1_i32_343 k0_t87
  let v136 : Index := Scalar.indexCast arg85
  let c0_541 : Index := 0#32
  ![0, v136.toNat, 0]
def k0_off472 (k0_t87 : Fin k0_t87_loop.trips) : Fin 3 → Nat :=
  let c0_545 : Index := 0#32
  let c0_i32_341 : BitVec 32 := 0#32
  let c1_i32_343 : BitVec 32 := 1#32
  let arg85 : BitVec 32 := Scf.iv c0_i32_341 c1_i32_343 k0_t87
  let v144 : Index := Scalar.indexCast arg85
  let c1 : Index := 1#32
  ![0, v144.toNat, 1]
def k0_off473 (k0_t87 : Fin k0_t87_loop.trips) : Fin 3 → Nat :=
  let c0_549 : Index := 0#32
  let c0_i32_341 : BitVec 32 := 0#32
  let c1_i32_343 : BitVec 32 := 1#32
  let arg85 : BitVec 32 := Scf.iv c0_i32_341 c1_i32_343 k0_t87
  let v153 : Index := Scalar.indexCast arg85
  let c2 : Index := 2#32
  ![0, v153.toNat, 2]
def k0_off474 (k0_t87 : Fin k0_t87_loop.trips) : Fin 3 → Nat :=
  let c0_553 : Index := 0#32
  let c160_i32 : BitVec 32 := 160#32
  let c0_i32_341 : BitVec 32 := 0#32
  let c1_i32_343 : BitVec 32 := 1#32
  let arg85 : BitVec 32 := Scf.iv c0_i32_341 c1_i32_343 k0_t87
  let v162 : BitVec 32 := Scalar.addi c160_i32 arg85
  let v163 : Index := Scalar.indexCast v162
  let c0_554 : Index := 0#32
  ![0, v163.toNat, 0]
@[reducible] def k0_t88_loop : Scf.Loop 32 :=
  let c0_i32_345 : BitVec 32 := 0#32
  let c16_i32_346 : BitVec 32 := 16#32
  let v87 : BitVec 32 := Scalar.addi c0_i32_345 c16_i32_346
  let c1_i32_347 : BitVec 32 := 1#32
  ⟨c0_i32_345, v87, c1_i32_347⟩
def k0_off475 (k0_t88 : Fin k0_t88_loop.trips) : Fin 3 → Nat :=
  let c0 : Index := 0#32
  let c0_i32_345 : BitVec 32 := 0#32
  let c1_i32_347 : BitVec 32 := 1#32
  let arg85 : BitVec 32 := Scf.iv c0_i32_345 c1_i32_347 k0_t88
  let v136 : Index := Scalar.indexCast arg85
  let c0_541 : Index := 0#32
  ![0, v136.toNat, 0]
def k0_off476 (k0_t88 : Fin k0_t88_loop.trips) : Fin 3 → Nat :=
  let c0_545 : Index := 0#32
  let c0_i32_345 : BitVec 32 := 0#32
  let c1_i32_347 : BitVec 32 := 1#32
  let arg85 : BitVec 32 := Scf.iv c0_i32_345 c1_i32_347 k0_t88
  let v144 : Index := Scalar.indexCast arg85
  let c1 : Index := 1#32
  ![0, v144.toNat, 1]
def k0_off477 (k0_t88 : Fin k0_t88_loop.trips) : Fin 3 → Nat :=
  let c0_549 : Index := 0#32
  let c0_i32_345 : BitVec 32 := 0#32
  let c1_i32_347 : BitVec 32 := 1#32
  let arg85 : BitVec 32 := Scf.iv c0_i32_345 c1_i32_347 k0_t88
  let v153 : Index := Scalar.indexCast arg85
  let c2 : Index := 2#32
  ![0, v153.toNat, 2]
def k0_off478 (k0_t88 : Fin k0_t88_loop.trips) : Fin 3 → Nat :=
  let c0_553 : Index := 0#32
  let c176_i32 : BitVec 32 := 176#32
  let c0_i32_345 : BitVec 32 := 0#32
  let c1_i32_347 : BitVec 32 := 1#32
  let arg85 : BitVec 32 := Scf.iv c0_i32_345 c1_i32_347 k0_t88
  let v162 : BitVec 32 := Scalar.addi c176_i32 arg85
  let v163 : Index := Scalar.indexCast v162
  let c0_554 : Index := 0#32
  ![0, v163.toNat, 0]
@[reducible] def k0_t89_loop : Scf.Loop 32 :=
  let c0_i32_349 : BitVec 32 := 0#32
  let c16_i32_350 : BitVec 32 := 16#32
  let v88 : BitVec 32 := Scalar.addi c0_i32_349 c16_i32_350
  let c1_i32_351 : BitVec 32 := 1#32
  ⟨c0_i32_349, v88, c1_i32_351⟩
def k0_off479 (k0_t89 : Fin k0_t89_loop.trips) : Fin 3 → Nat :=
  let c0 : Index := 0#32
  let c0_i32_349 : BitVec 32 := 0#32
  let c1_i32_351 : BitVec 32 := 1#32
  let arg85 : BitVec 32 := Scf.iv c0_i32_349 c1_i32_351 k0_t89
  let v136 : Index := Scalar.indexCast arg85
  let c0_541 : Index := 0#32
  ![0, v136.toNat, 0]
def k0_off480 (k0_t89 : Fin k0_t89_loop.trips) : Fin 3 → Nat :=
  let c0_545 : Index := 0#32
  let c0_i32_349 : BitVec 32 := 0#32
  let c1_i32_351 : BitVec 32 := 1#32
  let arg85 : BitVec 32 := Scf.iv c0_i32_349 c1_i32_351 k0_t89
  let v144 : Index := Scalar.indexCast arg85
  let c1 : Index := 1#32
  ![0, v144.toNat, 1]
def k0_off481 (k0_t89 : Fin k0_t89_loop.trips) : Fin 3 → Nat :=
  let c0_549 : Index := 0#32
  let c0_i32_349 : BitVec 32 := 0#32
  let c1_i32_351 : BitVec 32 := 1#32
  let arg85 : BitVec 32 := Scf.iv c0_i32_349 c1_i32_351 k0_t89
  let v153 : Index := Scalar.indexCast arg85
  let c2 : Index := 2#32
  ![0, v153.toNat, 2]
def k0_off482 (k0_t89 : Fin k0_t89_loop.trips) : Fin 3 → Nat :=
  let c0_553 : Index := 0#32
  let c192_i32 : BitVec 32 := 192#32
  let c0_i32_349 : BitVec 32 := 0#32
  let c1_i32_351 : BitVec 32 := 1#32
  let arg85 : BitVec 32 := Scf.iv c0_i32_349 c1_i32_351 k0_t89
  let v162 : BitVec 32 := Scalar.addi c192_i32 arg85
  let v163 : Index := Scalar.indexCast v162
  let c0_554 : Index := 0#32
  ![0, v163.toNat, 0]
@[reducible] def k0_t90_loop : Scf.Loop 32 :=
  let c0_i32_353 : BitVec 32 := 0#32
  let c16_i32_354 : BitVec 32 := 16#32
  let v89 : BitVec 32 := Scalar.addi c0_i32_353 c16_i32_354
  let c1_i32_355 : BitVec 32 := 1#32
  ⟨c0_i32_353, v89, c1_i32_355⟩
def k0_off483 (k0_t90 : Fin k0_t90_loop.trips) : Fin 3 → Nat :=
  let c0 : Index := 0#32
  let c0_i32_353 : BitVec 32 := 0#32
  let c1_i32_355 : BitVec 32 := 1#32
  let arg85 : BitVec 32 := Scf.iv c0_i32_353 c1_i32_355 k0_t90
  let v136 : Index := Scalar.indexCast arg85
  let c0_541 : Index := 0#32
  ![0, v136.toNat, 0]
def k0_off484 (k0_t90 : Fin k0_t90_loop.trips) : Fin 3 → Nat :=
  let c0_545 : Index := 0#32
  let c0_i32_353 : BitVec 32 := 0#32
  let c1_i32_355 : BitVec 32 := 1#32
  let arg85 : BitVec 32 := Scf.iv c0_i32_353 c1_i32_355 k0_t90
  let v144 : Index := Scalar.indexCast arg85
  let c1 : Index := 1#32
  ![0, v144.toNat, 1]
def k0_off485 (k0_t90 : Fin k0_t90_loop.trips) : Fin 3 → Nat :=
  let c0_549 : Index := 0#32
  let c0_i32_353 : BitVec 32 := 0#32
  let c1_i32_355 : BitVec 32 := 1#32
  let arg85 : BitVec 32 := Scf.iv c0_i32_353 c1_i32_355 k0_t90
  let v153 : Index := Scalar.indexCast arg85
  let c2 : Index := 2#32
  ![0, v153.toNat, 2]
def k0_off486 (k0_t90 : Fin k0_t90_loop.trips) : Fin 3 → Nat :=
  let c0_553 : Index := 0#32
  let c0_i32_353 : BitVec 32 := 0#32
  let c1_i32_355 : BitVec 32 := 1#32
  let arg85 : BitVec 32 := Scf.iv c0_i32_353 c1_i32_355 k0_t90
  let v162 : Index := Scalar.indexCast arg85
  let c3 : Index := 3#32
  ![0, v162.toNat, 3]
def k0_off487 (k0_t90 : Fin k0_t90_loop.trips) : Fin 3 → Nat :=
  let c0_557 : Index := 0#32
  let c0_i32_353 : BitVec 32 := 0#32
  let c1_i32_355 : BitVec 32 := 1#32
  let arg85 : BitVec 32 := Scf.iv c0_i32_353 c1_i32_355 k0_t90
  let v171 : Index := Scalar.indexCast arg85
  let c4 : Index := 4#32
  ![0, v171.toNat, 4]
def k0_off488 (k0_t90 : Fin k0_t90_loop.trips) : Fin 3 → Nat :=
  let c0_561 : Index := 0#32
  let c208_i32 : BitVec 32 := 208#32
  let c0_i32_353 : BitVec 32 := 0#32
  let c1_i32_355 : BitVec 32 := 1#32
  let arg85 : BitVec 32 := Scf.iv c0_i32_353 c1_i32_355 k0_t90
  let v180 : BitVec 32 := Scalar.addi c208_i32 arg85
  let v181 : Index := Scalar.indexCast v180
  let c0_562 : Index := 0#32
  ![0, v181.toNat, 0]
@[reducible] def k0_t91_loop : Scf.Loop 32 :=
  let c0_i32_357 : BitVec 32 := 0#32
  let c16_i32_358 : BitVec 32 := 16#32
  let v90 : BitVec 32 := Scalar.addi c0_i32_357 c16_i32_358
  let c1_i32_359 : BitVec 32 := 1#32
  ⟨c0_i32_357, v90, c1_i32_359⟩
def k0_off489 (k0_t91 : Fin k0_t91_loop.trips) : Fin 3 → Nat :=
  let c0 : Index := 0#32
  let c0_i32_357 : BitVec 32 := 0#32
  let c1_i32_359 : BitVec 32 := 1#32
  let arg85 : BitVec 32 := Scf.iv c0_i32_357 c1_i32_359 k0_t91
  let v136 : Index := Scalar.indexCast arg85
  let c0_541 : Index := 0#32
  ![0, v136.toNat, 0]
def k0_off490 (k0_t91 : Fin k0_t91_loop.trips) : Fin 3 → Nat :=
  let c0_545 : Index := 0#32
  let c0_i32_357 : BitVec 32 := 0#32
  let c1_i32_359 : BitVec 32 := 1#32
  let arg85 : BitVec 32 := Scf.iv c0_i32_357 c1_i32_359 k0_t91
  let v144 : Index := Scalar.indexCast arg85
  let c1 : Index := 1#32
  ![0, v144.toNat, 1]
def k0_off491 (k0_t91 : Fin k0_t91_loop.trips) : Fin 3 → Nat :=
  let c0_549 : Index := 0#32
  let c0_i32_357 : BitVec 32 := 0#32
  let c1_i32_359 : BitVec 32 := 1#32
  let arg85 : BitVec 32 := Scf.iv c0_i32_357 c1_i32_359 k0_t91
  let v153 : Index := Scalar.indexCast arg85
  let c2 : Index := 2#32
  ![0, v153.toNat, 2]
def k0_off492 (k0_t91 : Fin k0_t91_loop.trips) : Fin 3 → Nat :=
  let c0_553 : Index := 0#32
  let c0_i32_357 : BitVec 32 := 0#32
  let c1_i32_359 : BitVec 32 := 1#32
  let arg85 : BitVec 32 := Scf.iv c0_i32_357 c1_i32_359 k0_t91
  let v162 : Index := Scalar.indexCast arg85
  let c3 : Index := 3#32
  ![0, v162.toNat, 3]
def k0_off493 (k0_t91 : Fin k0_t91_loop.trips) : Fin 3 → Nat :=
  let c0_557 : Index := 0#32
  let c0_i32_357 : BitVec 32 := 0#32
  let c1_i32_359 : BitVec 32 := 1#32
  let arg85 : BitVec 32 := Scf.iv c0_i32_357 c1_i32_359 k0_t91
  let v171 : Index := Scalar.indexCast arg85
  let c4 : Index := 4#32
  ![0, v171.toNat, 4]
def k0_off494 (k0_t91 : Fin k0_t91_loop.trips) : Fin 3 → Nat :=
  let c0_561 : Index := 0#32
  let c224_i32 : BitVec 32 := 224#32
  let c0_i32_357 : BitVec 32 := 0#32
  let c1_i32_359 : BitVec 32 := 1#32
  let arg85 : BitVec 32 := Scf.iv c0_i32_357 c1_i32_359 k0_t91
  let v180 : BitVec 32 := Scalar.addi c224_i32 arg85
  let v181 : Index := Scalar.indexCast v180
  let c0_562 : Index := 0#32
  ![0, v181.toNat, 0]
@[reducible] def k0_t92_loop : Scf.Loop 32 :=
  let c0_i32_361 : BitVec 32 := 0#32
  let c16_i32_362 : BitVec 32 := 16#32
  let v91 : BitVec 32 := Scalar.addi c0_i32_361 c16_i32_362
  let c1_i32_363 : BitVec 32 := 1#32
  ⟨c0_i32_361, v91, c1_i32_363⟩
def k0_off495 (k0_t92 : Fin k0_t92_loop.trips) : Fin 3 → Nat :=
  let c0 : Index := 0#32
  let c0_i32_361 : BitVec 32 := 0#32
  let c1_i32_363 : BitVec 32 := 1#32
  let arg85 : BitVec 32 := Scf.iv c0_i32_361 c1_i32_363 k0_t92
  let v136 : Index := Scalar.indexCast arg85
  let c0_541 : Index := 0#32
  ![0, v136.toNat, 0]
def k0_off496 (k0_t92 : Fin k0_t92_loop.trips) : Fin 3 → Nat :=
  let c0_545 : Index := 0#32
  let c0_i32_361 : BitVec 32 := 0#32
  let c1_i32_363 : BitVec 32 := 1#32
  let arg85 : BitVec 32 := Scf.iv c0_i32_361 c1_i32_363 k0_t92
  let v144 : Index := Scalar.indexCast arg85
  let c1 : Index := 1#32
  ![0, v144.toNat, 1]
def k0_off497 (k0_t92 : Fin k0_t92_loop.trips) : Fin 3 → Nat :=
  let c0_549 : Index := 0#32
  let c0_i32_361 : BitVec 32 := 0#32
  let c1_i32_363 : BitVec 32 := 1#32
  let arg85 : BitVec 32 := Scf.iv c0_i32_361 c1_i32_363 k0_t92
  let v153 : Index := Scalar.indexCast arg85
  let c2 : Index := 2#32
  ![0, v153.toNat, 2]
def k0_off498 (k0_t92 : Fin k0_t92_loop.trips) : Fin 3 → Nat :=
  let c0_553 : Index := 0#32
  let c0_i32_361 : BitVec 32 := 0#32
  let c1_i32_363 : BitVec 32 := 1#32
  let arg85 : BitVec 32 := Scf.iv c0_i32_361 c1_i32_363 k0_t92
  let v162 : Index := Scalar.indexCast arg85
  let c3 : Index := 3#32
  ![0, v162.toNat, 3]
def k0_off499 (k0_t92 : Fin k0_t92_loop.trips) : Fin 3 → Nat :=
  let c0_557 : Index := 0#32
  let c0_i32_361 : BitVec 32 := 0#32
  let c1_i32_363 : BitVec 32 := 1#32
  let arg85 : BitVec 32 := Scf.iv c0_i32_361 c1_i32_363 k0_t92
  let v171 : Index := Scalar.indexCast arg85
  let c4 : Index := 4#32
  ![0, v171.toNat, 4]
def k0_off500 (k0_t92 : Fin k0_t92_loop.trips) : Fin 3 → Nat :=
  let c0_561 : Index := 0#32
  let c240_i32 : BitVec 32 := 240#32
  let c0_i32_361 : BitVec 32 := 0#32
  let c1_i32_363 : BitVec 32 := 1#32
  let arg85 : BitVec 32 := Scf.iv c0_i32_361 c1_i32_363 k0_t92
  let v180 : BitVec 32 := Scalar.addi c240_i32 arg85
  let v181 : Index := Scalar.indexCast v180
  let c0_562 : Index := 0#32
  ![0, v181.toNat, 0]
@[reducible] def k0_t93_loop : Scf.Loop 32 :=
  let c0_i32_365 : BitVec 32 := 0#32
  let c16_i32_366 : BitVec 32 := 16#32
  let v92 : BitVec 32 := Scalar.addi c0_i32_365 c16_i32_366
  let c1_i32_367 : BitVec 32 := 1#32
  ⟨c0_i32_365, v92, c1_i32_367⟩
def k0_off501 (k0_t93 : Fin k0_t93_loop.trips) : Fin 3 → Nat :=
  let c0 : Index := 0#32
  let c0_i32_365 : BitVec 32 := 0#32
  let c1_i32_367 : BitVec 32 := 1#32
  let arg85 : BitVec 32 := Scf.iv c0_i32_365 c1_i32_367 k0_t93
  let v136 : Index := Scalar.indexCast arg85
  let c0_541 : Index := 0#32
  ![0, v136.toNat, 0]
def k0_off502 (k0_t93 : Fin k0_t93_loop.trips) : Fin 3 → Nat :=
  let c0_545 : Index := 0#32
  let c0_i32_365 : BitVec 32 := 0#32
  let c1_i32_367 : BitVec 32 := 1#32
  let arg85 : BitVec 32 := Scf.iv c0_i32_365 c1_i32_367 k0_t93
  let v144 : Index := Scalar.indexCast arg85
  let c1 : Index := 1#32
  ![0, v144.toNat, 1]
def k0_off503 (k0_t93 : Fin k0_t93_loop.trips) : Fin 3 → Nat :=
  let c0_549 : Index := 0#32
  let c0_i32_365 : BitVec 32 := 0#32
  let c1_i32_367 : BitVec 32 := 1#32
  let arg85 : BitVec 32 := Scf.iv c0_i32_365 c1_i32_367 k0_t93
  let v153 : Index := Scalar.indexCast arg85
  let c2 : Index := 2#32
  ![0, v153.toNat, 2]
def k0_off504 (k0_t93 : Fin k0_t93_loop.trips) : Fin 3 → Nat :=
  let c0_553 : Index := 0#32
  let c0_i32_365 : BitVec 32 := 0#32
  let c1_i32_367 : BitVec 32 := 1#32
  let arg85 : BitVec 32 := Scf.iv c0_i32_365 c1_i32_367 k0_t93
  let v162 : Index := Scalar.indexCast arg85
  let c3 : Index := 3#32
  ![0, v162.toNat, 3]
def k0_off505 (k0_t93 : Fin k0_t93_loop.trips) : Fin 3 → Nat :=
  let c0_557 : Index := 0#32
  let c0_i32_365 : BitVec 32 := 0#32
  let c1_i32_367 : BitVec 32 := 1#32
  let arg85 : BitVec 32 := Scf.iv c0_i32_365 c1_i32_367 k0_t93
  let v171 : Index := Scalar.indexCast arg85
  let c4 : Index := 4#32
  ![0, v171.toNat, 4]
def k0_off506 (k0_t93 : Fin k0_t93_loop.trips) : Fin 3 → Nat :=
  let c0_561 : Index := 0#32
  let c0_i32_365 : BitVec 32 := 0#32
  let c1_i32_367 : BitVec 32 := 1#32
  let arg85 : BitVec 32 := Scf.iv c0_i32_365 c1_i32_367 k0_t93
  let v180 : Index := Scalar.indexCast arg85
  let c5 : Index := 5#32
  ![0, v180.toNat, 5]
def k0_off507 (k0_t93 : Fin k0_t93_loop.trips) : Fin 3 → Nat :=
  let c0_565 : Index := 0#32
  let c0_i32_365 : BitVec 32 := 0#32
  let c1_i32_367 : BitVec 32 := 1#32
  let arg85 : BitVec 32 := Scf.iv c0_i32_365 c1_i32_367 k0_t93
  let v189 : Index := Scalar.indexCast arg85
  let c6 : Index := 6#32
  ![0, v189.toNat, 6]
def k0_off508 (k0_t93 : Fin k0_t93_loop.trips) : Fin 3 → Nat :=
  let c0_569 : Index := 0#32
  let c256_i32 : BitVec 32 := 256#32
  let c0_i32_365 : BitVec 32 := 0#32
  let c1_i32_367 : BitVec 32 := 1#32
  let arg85 : BitVec 32 := Scf.iv c0_i32_365 c1_i32_367 k0_t93
  let v198 : BitVec 32 := Scalar.addi c256_i32 arg85
  let v199 : Index := Scalar.indexCast v198
  let c0_570 : Index := 0#32
  ![0, v199.toNat, 0]
@[reducible] def k0_t94_loop : Scf.Loop 32 :=
  let c0_i32_369 : BitVec 32 := 0#32
  let c16_i32_370 : BitVec 32 := 16#32
  let v93 : BitVec 32 := Scalar.addi c0_i32_369 c16_i32_370
  let c1_i32_371 : BitVec 32 := 1#32
  ⟨c0_i32_369, v93, c1_i32_371⟩
def k0_off509 (k0_t94 : Fin k0_t94_loop.trips) : Fin 3 → Nat :=
  let c0 : Index := 0#32
  let c0_i32_369 : BitVec 32 := 0#32
  let c1_i32_371 : BitVec 32 := 1#32
  let arg85 : BitVec 32 := Scf.iv c0_i32_369 c1_i32_371 k0_t94
  let v136 : Index := Scalar.indexCast arg85
  let c0_541 : Index := 0#32
  ![0, v136.toNat, 0]
def k0_off510 (k0_t94 : Fin k0_t94_loop.trips) : Fin 3 → Nat :=
  let c0_545 : Index := 0#32
  let c0_i32_369 : BitVec 32 := 0#32
  let c1_i32_371 : BitVec 32 := 1#32
  let arg85 : BitVec 32 := Scf.iv c0_i32_369 c1_i32_371 k0_t94
  let v144 : Index := Scalar.indexCast arg85
  let c1 : Index := 1#32
  ![0, v144.toNat, 1]
def k0_off511 (k0_t94 : Fin k0_t94_loop.trips) : Fin 3 → Nat :=
  let c0_549 : Index := 0#32
  let c0_i32_369 : BitVec 32 := 0#32
  let c1_i32_371 : BitVec 32 := 1#32
  let arg85 : BitVec 32 := Scf.iv c0_i32_369 c1_i32_371 k0_t94
  let v153 : Index := Scalar.indexCast arg85
  let c2 : Index := 2#32
  ![0, v153.toNat, 2]
def k0_off512 (k0_t94 : Fin k0_t94_loop.trips) : Fin 3 → Nat :=
  let c0_553 : Index := 0#32
  let c0_i32_369 : BitVec 32 := 0#32
  let c1_i32_371 : BitVec 32 := 1#32
  let arg85 : BitVec 32 := Scf.iv c0_i32_369 c1_i32_371 k0_t94
  let v162 : Index := Scalar.indexCast arg85
  let c3 : Index := 3#32
  ![0, v162.toNat, 3]
def k0_off513 (k0_t94 : Fin k0_t94_loop.trips) : Fin 3 → Nat :=
  let c0_557 : Index := 0#32
  let c0_i32_369 : BitVec 32 := 0#32
  let c1_i32_371 : BitVec 32 := 1#32
  let arg85 : BitVec 32 := Scf.iv c0_i32_369 c1_i32_371 k0_t94
  let v171 : Index := Scalar.indexCast arg85
  let c4 : Index := 4#32
  ![0, v171.toNat, 4]
def k0_off514 (k0_t94 : Fin k0_t94_loop.trips) : Fin 3 → Nat :=
  let c0_561 : Index := 0#32
  let c0_i32_369 : BitVec 32 := 0#32
  let c1_i32_371 : BitVec 32 := 1#32
  let arg85 : BitVec 32 := Scf.iv c0_i32_369 c1_i32_371 k0_t94
  let v180 : Index := Scalar.indexCast arg85
  let c5 : Index := 5#32
  ![0, v180.toNat, 5]
def k0_off515 (k0_t94 : Fin k0_t94_loop.trips) : Fin 3 → Nat :=
  let c0_565 : Index := 0#32
  let c0_i32_369 : BitVec 32 := 0#32
  let c1_i32_371 : BitVec 32 := 1#32
  let arg85 : BitVec 32 := Scf.iv c0_i32_369 c1_i32_371 k0_t94
  let v189 : Index := Scalar.indexCast arg85
  let c6 : Index := 6#32
  ![0, v189.toNat, 6]
def k0_off516 (k0_t94 : Fin k0_t94_loop.trips) : Fin 3 → Nat :=
  let c0_569 : Index := 0#32
  let c272_i32 : BitVec 32 := 272#32
  let c0_i32_369 : BitVec 32 := 0#32
  let c1_i32_371 : BitVec 32 := 1#32
  let arg85 : BitVec 32 := Scf.iv c0_i32_369 c1_i32_371 k0_t94
  let v198 : BitVec 32 := Scalar.addi c272_i32 arg85
  let v199 : Index := Scalar.indexCast v198
  let c0_570 : Index := 0#32
  ![0, v199.toNat, 0]
@[reducible] def k0_t95_loop : Scf.Loop 32 :=
  let c0_i32_373 : BitVec 32 := 0#32
  let c16_i32_374 : BitVec 32 := 16#32
  let v94 : BitVec 32 := Scalar.addi c0_i32_373 c16_i32_374
  let c1_i32_375 : BitVec 32 := 1#32
  ⟨c0_i32_373, v94, c1_i32_375⟩
def k0_off517 (k0_t95 : Fin k0_t95_loop.trips) : Fin 3 → Nat :=
  let c0 : Index := 0#32
  let c0_i32_373 : BitVec 32 := 0#32
  let c1_i32_375 : BitVec 32 := 1#32
  let arg85 : BitVec 32 := Scf.iv c0_i32_373 c1_i32_375 k0_t95
  let v136 : Index := Scalar.indexCast arg85
  let c0_541 : Index := 0#32
  ![0, v136.toNat, 0]
def k0_off518 (k0_t95 : Fin k0_t95_loop.trips) : Fin 3 → Nat :=
  let c0_546 : Index := 0#32
  let c0_i32_545 : BitVec 32 := 0#32
  let c0_i32_373 : BitVec 32 := 0#32
  let c1_i32_375 : BitVec 32 := 1#32
  let arg85 : BitVec 32 := Scf.iv c0_i32_373 c1_i32_375 k0_t95
  let v144 : BitVec 32 := Scalar.addi c0_i32_545 arg85
  let v145 : Index := Scalar.indexCast v144
  let c0_547 : Index := 0#32
  ![0, v145.toNat, 0]
@[reducible] def k0_t96_loop : Scf.Loop 32 :=
  let c0_i32_377 : BitVec 32 := 0#32
  let c16_i32_378 : BitVec 32 := 16#32
  let v95 : BitVec 32 := Scalar.addi c0_i32_377 c16_i32_378
  let c1_i32_379 : BitVec 32 := 1#32
  ⟨c0_i32_377, v95, c1_i32_379⟩
def k0_off519 (k0_t96 : Fin k0_t96_loop.trips) : Fin 3 → Nat :=
  let c0 : Index := 0#32
  let c0_i32_377 : BitVec 32 := 0#32
  let c1_i32_379 : BitVec 32 := 1#32
  let arg85 : BitVec 32 := Scf.iv c0_i32_377 c1_i32_379 k0_t96
  let v136 : Index := Scalar.indexCast arg85
  let c0_541 : Index := 0#32
  ![0, v136.toNat, 0]
def k0_off520 (k0_t96 : Fin k0_t96_loop.trips) : Fin 3 → Nat :=
  let c0_545 : Index := 0#32
  let c0_i32_377 : BitVec 32 := 0#32
  let c1_i32_379 : BitVec 32 := 1#32
  let arg85 : BitVec 32 := Scf.iv c0_i32_377 c1_i32_379 k0_t96
  let v144 : Index := Scalar.indexCast arg85
  let c1 : Index := 1#32
  ![0, v144.toNat, 1]
def k0_off521 (k0_t96 : Fin k0_t96_loop.trips) : Fin 3 → Nat :=
  let c0_549 : Index := 0#32
  let c0_i32_377 : BitVec 32 := 0#32
  let c1_i32_379 : BitVec 32 := 1#32
  let arg85 : BitVec 32 := Scf.iv c0_i32_377 c1_i32_379 k0_t96
  let v153 : Index := Scalar.indexCast arg85
  let c2 : Index := 2#32
  ![0, v153.toNat, 2]
def k0_off522 (k0_t96 : Fin k0_t96_loop.trips) : Fin 3 → Nat :=
  let c0_554 : Index := 0#32
  let c16_i32_553 : BitVec 32 := 16#32
  let c0_i32_377 : BitVec 32 := 0#32
  let c1_i32_379 : BitVec 32 := 1#32
  let arg85 : BitVec 32 := Scf.iv c0_i32_377 c1_i32_379 k0_t96
  let v162 : BitVec 32 := Scalar.addi c16_i32_553 arg85
  let v163 : Index := Scalar.indexCast v162
  let c0_555 : Index := 0#32
  ![0, v163.toNat, 0]
@[reducible] def k0_t97_loop : Scf.Loop 32 :=
  let c0_i32_381 : BitVec 32 := 0#32
  let c16_i32_382 : BitVec 32 := 16#32
  let v96 : BitVec 32 := Scalar.addi c0_i32_381 c16_i32_382
  let c1_i32_383 : BitVec 32 := 1#32
  ⟨c0_i32_381, v96, c1_i32_383⟩
def k0_off523 (k0_t97 : Fin k0_t97_loop.trips) : Fin 3 → Nat :=
  let c0 : Index := 0#32
  let c0_i32_381 : BitVec 32 := 0#32
  let c1_i32_383 : BitVec 32 := 1#32
  let arg85 : BitVec 32 := Scf.iv c0_i32_381 c1_i32_383 k0_t97
  let v136 : Index := Scalar.indexCast arg85
  let c0_541 : Index := 0#32
  ![0, v136.toNat, 0]
def k0_off524 (k0_t97 : Fin k0_t97_loop.trips) : Fin 3 → Nat :=
  let c0_545 : Index := 0#32
  let c0_i32_381 : BitVec 32 := 0#32
  let c1_i32_383 : BitVec 32 := 1#32
  let arg85 : BitVec 32 := Scf.iv c0_i32_381 c1_i32_383 k0_t97
  let v144 : Index := Scalar.indexCast arg85
  let c1 : Index := 1#32
  ![0, v144.toNat, 1]
def k0_off525 (k0_t97 : Fin k0_t97_loop.trips) : Fin 3 → Nat :=
  let c0_549 : Index := 0#32
  let c0_i32_381 : BitVec 32 := 0#32
  let c1_i32_383 : BitVec 32 := 1#32
  let arg85 : BitVec 32 := Scf.iv c0_i32_381 c1_i32_383 k0_t97
  let v153 : Index := Scalar.indexCast arg85
  let c2 : Index := 2#32
  ![0, v153.toNat, 2]
def k0_off526 (k0_t97 : Fin k0_t97_loop.trips) : Fin 3 → Nat :=
  let c0_553 : Index := 0#32
  let c32_i32 : BitVec 32 := 32#32
  let c0_i32_381 : BitVec 32 := 0#32
  let c1_i32_383 : BitVec 32 := 1#32
  let arg85 : BitVec 32 := Scf.iv c0_i32_381 c1_i32_383 k0_t97
  let v162 : BitVec 32 := Scalar.addi c32_i32 arg85
  let v163 : Index := Scalar.indexCast v162
  let c0_554 : Index := 0#32
  ![0, v163.toNat, 0]
@[reducible] def k0_t98_loop : Scf.Loop 32 :=
  let c0_i32_385 : BitVec 32 := 0#32
  let c16_i32_386 : BitVec 32 := 16#32
  let v97 : BitVec 32 := Scalar.addi c0_i32_385 c16_i32_386
  let c1_i32_387 : BitVec 32 := 1#32
  ⟨c0_i32_385, v97, c1_i32_387⟩
def k0_off527 (k0_t98 : Fin k0_t98_loop.trips) : Fin 3 → Nat :=
  let c0 : Index := 0#32
  let c0_i32_385 : BitVec 32 := 0#32
  let c1_i32_387 : BitVec 32 := 1#32
  let arg85 : BitVec 32 := Scf.iv c0_i32_385 c1_i32_387 k0_t98
  let v136 : Index := Scalar.indexCast arg85
  let c0_541 : Index := 0#32
  ![0, v136.toNat, 0]
def k0_off528 (k0_t98 : Fin k0_t98_loop.trips) : Fin 3 → Nat :=
  let c0_545 : Index := 0#32
  let c0_i32_385 : BitVec 32 := 0#32
  let c1_i32_387 : BitVec 32 := 1#32
  let arg85 : BitVec 32 := Scf.iv c0_i32_385 c1_i32_387 k0_t98
  let v144 : Index := Scalar.indexCast arg85
  let c1 : Index := 1#32
  ![0, v144.toNat, 1]
def k0_off529 (k0_t98 : Fin k0_t98_loop.trips) : Fin 3 → Nat :=
  let c0_549 : Index := 0#32
  let c0_i32_385 : BitVec 32 := 0#32
  let c1_i32_387 : BitVec 32 := 1#32
  let arg85 : BitVec 32 := Scf.iv c0_i32_385 c1_i32_387 k0_t98
  let v153 : Index := Scalar.indexCast arg85
  let c2 : Index := 2#32
  ![0, v153.toNat, 2]
def k0_off530 (k0_t98 : Fin k0_t98_loop.trips) : Fin 3 → Nat :=
  let c0_553 : Index := 0#32
  let c48_i32 : BitVec 32 := 48#32
  let c0_i32_385 : BitVec 32 := 0#32
  let c1_i32_387 : BitVec 32 := 1#32
  let arg85 : BitVec 32 := Scf.iv c0_i32_385 c1_i32_387 k0_t98
  let v162 : BitVec 32 := Scalar.addi c48_i32 arg85
  let v163 : Index := Scalar.indexCast v162
  let c0_554 : Index := 0#32
  ![0, v163.toNat, 0]
@[reducible] def k0_t99_loop : Scf.Loop 32 :=
  let c0_i32_389 : BitVec 32 := 0#32
  let c16_i32_390 : BitVec 32 := 16#32
  let v98 : BitVec 32 := Scalar.addi c0_i32_389 c16_i32_390
  let c1_i32_391 : BitVec 32 := 1#32
  ⟨c0_i32_389, v98, c1_i32_391⟩
def k0_off531 (k0_t99 : Fin k0_t99_loop.trips) : Fin 3 → Nat :=
  let c0 : Index := 0#32
  let c0_i32_389 : BitVec 32 := 0#32
  let c1_i32_391 : BitVec 32 := 1#32
  let arg85 : BitVec 32 := Scf.iv c0_i32_389 c1_i32_391 k0_t99
  let v136 : Index := Scalar.indexCast arg85
  let c0_541 : Index := 0#32
  ![0, v136.toNat, 0]
def k0_off532 (k0_t99 : Fin k0_t99_loop.trips) : Fin 3 → Nat :=
  let c0_545 : Index := 0#32
  let c0_i32_389 : BitVec 32 := 0#32
  let c1_i32_391 : BitVec 32 := 1#32
  let arg85 : BitVec 32 := Scf.iv c0_i32_389 c1_i32_391 k0_t99
  let v144 : Index := Scalar.indexCast arg85
  let c1 : Index := 1#32
  ![0, v144.toNat, 1]
def k0_off533 (k0_t99 : Fin k0_t99_loop.trips) : Fin 3 → Nat :=
  let c0_549 : Index := 0#32
  let c0_i32_389 : BitVec 32 := 0#32
  let c1_i32_391 : BitVec 32 := 1#32
  let arg85 : BitVec 32 := Scf.iv c0_i32_389 c1_i32_391 k0_t99
  let v153 : Index := Scalar.indexCast arg85
  let c2 : Index := 2#32
  ![0, v153.toNat, 2]
def k0_off534 (k0_t99 : Fin k0_t99_loop.trips) : Fin 3 → Nat :=
  let c0_553 : Index := 0#32
  let c0_i32_389 : BitVec 32 := 0#32
  let c1_i32_391 : BitVec 32 := 1#32
  let arg85 : BitVec 32 := Scf.iv c0_i32_389 c1_i32_391 k0_t99
  let v162 : Index := Scalar.indexCast arg85
  let c3 : Index := 3#32
  ![0, v162.toNat, 3]
def k0_off535 (k0_t99 : Fin k0_t99_loop.trips) : Fin 3 → Nat :=
  let c0_557 : Index := 0#32
  let c0_i32_389 : BitVec 32 := 0#32
  let c1_i32_391 : BitVec 32 := 1#32
  let arg85 : BitVec 32 := Scf.iv c0_i32_389 c1_i32_391 k0_t99
  let v171 : Index := Scalar.indexCast arg85
  let c4 : Index := 4#32
  ![0, v171.toNat, 4]
def k0_off536 (k0_t99 : Fin k0_t99_loop.trips) : Fin 3 → Nat :=
  let c0_561 : Index := 0#32
  let c64_i32 : BitVec 32 := 64#32
  let c0_i32_389 : BitVec 32 := 0#32
  let c1_i32_391 : BitVec 32 := 1#32
  let arg85 : BitVec 32 := Scf.iv c0_i32_389 c1_i32_391 k0_t99
  let v180 : BitVec 32 := Scalar.addi c64_i32 arg85
  let v181 : Index := Scalar.indexCast v180
  let c0_562 : Index := 0#32
  ![0, v181.toNat, 0]
@[reducible] def k0_t100_loop : Scf.Loop 32 :=
  let c0_i32_393 : BitVec 32 := 0#32
  let c16_i32_394 : BitVec 32 := 16#32
  let v99 : BitVec 32 := Scalar.addi c0_i32_393 c16_i32_394
  let c1_i32_395 : BitVec 32 := 1#32
  ⟨c0_i32_393, v99, c1_i32_395⟩
def k0_off537 (k0_t100 : Fin k0_t100_loop.trips) : Fin 3 → Nat :=
  let c0 : Index := 0#32
  let c0_i32_393 : BitVec 32 := 0#32
  let c1_i32_395 : BitVec 32 := 1#32
  let arg85 : BitVec 32 := Scf.iv c0_i32_393 c1_i32_395 k0_t100
  let v136 : Index := Scalar.indexCast arg85
  let c0_541 : Index := 0#32
  ![0, v136.toNat, 0]
def k0_off538 (k0_t100 : Fin k0_t100_loop.trips) : Fin 3 → Nat :=
  let c0_545 : Index := 0#32
  let c0_i32_393 : BitVec 32 := 0#32
  let c1_i32_395 : BitVec 32 := 1#32
  let arg85 : BitVec 32 := Scf.iv c0_i32_393 c1_i32_395 k0_t100
  let v144 : Index := Scalar.indexCast arg85
  let c1 : Index := 1#32
  ![0, v144.toNat, 1]
def k0_off539 (k0_t100 : Fin k0_t100_loop.trips) : Fin 3 → Nat :=
  let c0_549 : Index := 0#32
  let c0_i32_393 : BitVec 32 := 0#32
  let c1_i32_395 : BitVec 32 := 1#32
  let arg85 : BitVec 32 := Scf.iv c0_i32_393 c1_i32_395 k0_t100
  let v153 : Index := Scalar.indexCast arg85
  let c2 : Index := 2#32
  ![0, v153.toNat, 2]
def k0_off540 (k0_t100 : Fin k0_t100_loop.trips) : Fin 3 → Nat :=
  let c0_553 : Index := 0#32
  let c0_i32_393 : BitVec 32 := 0#32
  let c1_i32_395 : BitVec 32 := 1#32
  let arg85 : BitVec 32 := Scf.iv c0_i32_393 c1_i32_395 k0_t100
  let v162 : Index := Scalar.indexCast arg85
  let c3 : Index := 3#32
  ![0, v162.toNat, 3]
def k0_off541 (k0_t100 : Fin k0_t100_loop.trips) : Fin 3 → Nat :=
  let c0_557 : Index := 0#32
  let c0_i32_393 : BitVec 32 := 0#32
  let c1_i32_395 : BitVec 32 := 1#32
  let arg85 : BitVec 32 := Scf.iv c0_i32_393 c1_i32_395 k0_t100
  let v171 : Index := Scalar.indexCast arg85
  let c4 : Index := 4#32
  ![0, v171.toNat, 4]
def k0_off542 (k0_t100 : Fin k0_t100_loop.trips) : Fin 3 → Nat :=
  let c0_561 : Index := 0#32
  let c80_i32 : BitVec 32 := 80#32
  let c0_i32_393 : BitVec 32 := 0#32
  let c1_i32_395 : BitVec 32 := 1#32
  let arg85 : BitVec 32 := Scf.iv c0_i32_393 c1_i32_395 k0_t100
  let v180 : BitVec 32 := Scalar.addi c80_i32 arg85
  let v181 : Index := Scalar.indexCast v180
  let c0_562 : Index := 0#32
  ![0, v181.toNat, 0]
@[reducible] def k0_t101_loop : Scf.Loop 32 :=
  let c0_i32_397 : BitVec 32 := 0#32
  let c16_i32_398 : BitVec 32 := 16#32
  let v100 : BitVec 32 := Scalar.addi c0_i32_397 c16_i32_398
  let c1_i32_399 : BitVec 32 := 1#32
  ⟨c0_i32_397, v100, c1_i32_399⟩
def k0_off543 (k0_t101 : Fin k0_t101_loop.trips) : Fin 3 → Nat :=
  let c0 : Index := 0#32
  let c0_i32_397 : BitVec 32 := 0#32
  let c1_i32_399 : BitVec 32 := 1#32
  let arg85 : BitVec 32 := Scf.iv c0_i32_397 c1_i32_399 k0_t101
  let v136 : Index := Scalar.indexCast arg85
  let c0_541 : Index := 0#32
  ![0, v136.toNat, 0]
def k0_off544 (k0_t101 : Fin k0_t101_loop.trips) : Fin 3 → Nat :=
  let c0_545 : Index := 0#32
  let c0_i32_397 : BitVec 32 := 0#32
  let c1_i32_399 : BitVec 32 := 1#32
  let arg85 : BitVec 32 := Scf.iv c0_i32_397 c1_i32_399 k0_t101
  let v144 : Index := Scalar.indexCast arg85
  let c1 : Index := 1#32
  ![0, v144.toNat, 1]
def k0_off545 (k0_t101 : Fin k0_t101_loop.trips) : Fin 3 → Nat :=
  let c0_549 : Index := 0#32
  let c0_i32_397 : BitVec 32 := 0#32
  let c1_i32_399 : BitVec 32 := 1#32
  let arg85 : BitVec 32 := Scf.iv c0_i32_397 c1_i32_399 k0_t101
  let v153 : Index := Scalar.indexCast arg85
  let c2 : Index := 2#32
  ![0, v153.toNat, 2]
def k0_off546 (k0_t101 : Fin k0_t101_loop.trips) : Fin 3 → Nat :=
  let c0_553 : Index := 0#32
  let c0_i32_397 : BitVec 32 := 0#32
  let c1_i32_399 : BitVec 32 := 1#32
  let arg85 : BitVec 32 := Scf.iv c0_i32_397 c1_i32_399 k0_t101
  let v162 : Index := Scalar.indexCast arg85
  let c3 : Index := 3#32
  ![0, v162.toNat, 3]
def k0_off547 (k0_t101 : Fin k0_t101_loop.trips) : Fin 3 → Nat :=
  let c0_557 : Index := 0#32
  let c0_i32_397 : BitVec 32 := 0#32
  let c1_i32_399 : BitVec 32 := 1#32
  let arg85 : BitVec 32 := Scf.iv c0_i32_397 c1_i32_399 k0_t101
  let v171 : Index := Scalar.indexCast arg85
  let c4 : Index := 4#32
  ![0, v171.toNat, 4]
def k0_off548 (k0_t101 : Fin k0_t101_loop.trips) : Fin 3 → Nat :=
  let c0_561 : Index := 0#32
  let c96_i32 : BitVec 32 := 96#32
  let c0_i32_397 : BitVec 32 := 0#32
  let c1_i32_399 : BitVec 32 := 1#32
  let arg85 : BitVec 32 := Scf.iv c0_i32_397 c1_i32_399 k0_t101
  let v180 : BitVec 32 := Scalar.addi c96_i32 arg85
  let v181 : Index := Scalar.indexCast v180
  let c0_562 : Index := 0#32
  ![0, v181.toNat, 0]
@[reducible] def k0_t102_loop : Scf.Loop 32 :=
  let c0_i32_401 : BitVec 32 := 0#32
  let c16_i32_402 : BitVec 32 := 16#32
  let v101 : BitVec 32 := Scalar.addi c0_i32_401 c16_i32_402
  let c1_i32_403 : BitVec 32 := 1#32
  ⟨c0_i32_401, v101, c1_i32_403⟩
def k0_off549 (k0_t102 : Fin k0_t102_loop.trips) : Fin 3 → Nat :=
  let c0 : Index := 0#32
  let c0_i32_401 : BitVec 32 := 0#32
  let c1_i32_403 : BitVec 32 := 1#32
  let arg85 : BitVec 32 := Scf.iv c0_i32_401 c1_i32_403 k0_t102
  let v136 : Index := Scalar.indexCast arg85
  let c0_541 : Index := 0#32
  ![0, v136.toNat, 0]
def k0_off550 (k0_t102 : Fin k0_t102_loop.trips) : Fin 3 → Nat :=
  let c0_545 : Index := 0#32
  let c0_i32_401 : BitVec 32 := 0#32
  let c1_i32_403 : BitVec 32 := 1#32
  let arg85 : BitVec 32 := Scf.iv c0_i32_401 c1_i32_403 k0_t102
  let v144 : Index := Scalar.indexCast arg85
  let c1 : Index := 1#32
  ![0, v144.toNat, 1]
def k0_off551 (k0_t102 : Fin k0_t102_loop.trips) : Fin 3 → Nat :=
  let c0_549 : Index := 0#32
  let c0_i32_401 : BitVec 32 := 0#32
  let c1_i32_403 : BitVec 32 := 1#32
  let arg85 : BitVec 32 := Scf.iv c0_i32_401 c1_i32_403 k0_t102
  let v153 : Index := Scalar.indexCast arg85
  let c2 : Index := 2#32
  ![0, v153.toNat, 2]
def k0_off552 (k0_t102 : Fin k0_t102_loop.trips) : Fin 3 → Nat :=
  let c0_553 : Index := 0#32
  let c0_i32_401 : BitVec 32 := 0#32
  let c1_i32_403 : BitVec 32 := 1#32
  let arg85 : BitVec 32 := Scf.iv c0_i32_401 c1_i32_403 k0_t102
  let v162 : Index := Scalar.indexCast arg85
  let c3 : Index := 3#32
  ![0, v162.toNat, 3]
def k0_off553 (k0_t102 : Fin k0_t102_loop.trips) : Fin 3 → Nat :=
  let c0_557 : Index := 0#32
  let c0_i32_401 : BitVec 32 := 0#32
  let c1_i32_403 : BitVec 32 := 1#32
  let arg85 : BitVec 32 := Scf.iv c0_i32_401 c1_i32_403 k0_t102
  let v171 : Index := Scalar.indexCast arg85
  let c4 : Index := 4#32
  ![0, v171.toNat, 4]
def k0_off554 (k0_t102 : Fin k0_t102_loop.trips) : Fin 3 → Nat :=
  let c0_561 : Index := 0#32
  let c112_i32 : BitVec 32 := 112#32
  let c0_i32_401 : BitVec 32 := 0#32
  let c1_i32_403 : BitVec 32 := 1#32
  let arg85 : BitVec 32 := Scf.iv c0_i32_401 c1_i32_403 k0_t102
  let v180 : BitVec 32 := Scalar.addi c112_i32 arg85
  let v181 : Index := Scalar.indexCast v180
  let c0_562 : Index := 0#32
  ![0, v181.toNat, 0]
@[reducible] def k0_t103_loop : Scf.Loop 32 :=
  let c0_i32_405 : BitVec 32 := 0#32
  let c16_i32_406 : BitVec 32 := 16#32
  let v102 : BitVec 32 := Scalar.addi c0_i32_405 c16_i32_406
  let c1_i32_407 : BitVec 32 := 1#32
  ⟨c0_i32_405, v102, c1_i32_407⟩
def k0_off555 (k0_t103 : Fin k0_t103_loop.trips) : Fin 3 → Nat :=
  let c0 : Index := 0#32
  let c0_i32_405 : BitVec 32 := 0#32
  let c1_i32_407 : BitVec 32 := 1#32
  let arg85 : BitVec 32 := Scf.iv c0_i32_405 c1_i32_407 k0_t103
  let v136 : Index := Scalar.indexCast arg85
  let c0_541 : Index := 0#32
  ![0, v136.toNat, 0]
def k0_off556 (k0_t103 : Fin k0_t103_loop.trips) : Fin 3 → Nat :=
  let c0_545 : Index := 0#32
  let c0_i32_405 : BitVec 32 := 0#32
  let c1_i32_407 : BitVec 32 := 1#32
  let arg85 : BitVec 32 := Scf.iv c0_i32_405 c1_i32_407 k0_t103
  let v144 : Index := Scalar.indexCast arg85
  let c1 : Index := 1#32
  ![0, v144.toNat, 1]
def k0_off557 (k0_t103 : Fin k0_t103_loop.trips) : Fin 3 → Nat :=
  let c0_549 : Index := 0#32
  let c0_i32_405 : BitVec 32 := 0#32
  let c1_i32_407 : BitVec 32 := 1#32
  let arg85 : BitVec 32 := Scf.iv c0_i32_405 c1_i32_407 k0_t103
  let v153 : Index := Scalar.indexCast arg85
  let c2 : Index := 2#32
  ![0, v153.toNat, 2]
def k0_off558 (k0_t103 : Fin k0_t103_loop.trips) : Fin 3 → Nat :=
  let c0_553 : Index := 0#32
  let c0_i32_405 : BitVec 32 := 0#32
  let c1_i32_407 : BitVec 32 := 1#32
  let arg85 : BitVec 32 := Scf.iv c0_i32_405 c1_i32_407 k0_t103
  let v162 : Index := Scalar.indexCast arg85
  let c3 : Index := 3#32
  ![0, v162.toNat, 3]
def k0_off559 (k0_t103 : Fin k0_t103_loop.trips) : Fin 3 → Nat :=
  let c0_557 : Index := 0#32
  let c0_i32_405 : BitVec 32 := 0#32
  let c1_i32_407 : BitVec 32 := 1#32
  let arg85 : BitVec 32 := Scf.iv c0_i32_405 c1_i32_407 k0_t103
  let v171 : Index := Scalar.indexCast arg85
  let c4 : Index := 4#32
  ![0, v171.toNat, 4]
def k0_off560 (k0_t103 : Fin k0_t103_loop.trips) : Fin 3 → Nat :=
  let c0_561 : Index := 0#32
  let c0_i32_405 : BitVec 32 := 0#32
  let c1_i32_407 : BitVec 32 := 1#32
  let arg85 : BitVec 32 := Scf.iv c0_i32_405 c1_i32_407 k0_t103
  let v180 : Index := Scalar.indexCast arg85
  let c5 : Index := 5#32
  ![0, v180.toNat, 5]
def k0_off561 (k0_t103 : Fin k0_t103_loop.trips) : Fin 3 → Nat :=
  let c0_565 : Index := 0#32
  let c0_i32_405 : BitVec 32 := 0#32
  let c1_i32_407 : BitVec 32 := 1#32
  let arg85 : BitVec 32 := Scf.iv c0_i32_405 c1_i32_407 k0_t103
  let v189 : Index := Scalar.indexCast arg85
  let c6 : Index := 6#32
  ![0, v189.toNat, 6]
def k0_off562 (k0_t103 : Fin k0_t103_loop.trips) : Fin 3 → Nat :=
  let c0_569 : Index := 0#32
  let c128_i32 : BitVec 32 := 128#32
  let c0_i32_405 : BitVec 32 := 0#32
  let c1_i32_407 : BitVec 32 := 1#32
  let arg85 : BitVec 32 := Scf.iv c0_i32_405 c1_i32_407 k0_t103
  let v198 : BitVec 32 := Scalar.addi c128_i32 arg85
  let v199 : Index := Scalar.indexCast v198
  let c0_570 : Index := 0#32
  ![0, v199.toNat, 0]
@[reducible] def k0_t104_loop : Scf.Loop 32 :=
  let c0_i32_409 : BitVec 32 := 0#32
  let c16_i32_410 : BitVec 32 := 16#32
  let v103 : BitVec 32 := Scalar.addi c0_i32_409 c16_i32_410
  let c1_i32_411 : BitVec 32 := 1#32
  ⟨c0_i32_409, v103, c1_i32_411⟩
def k0_off563 (k0_t104 : Fin k0_t104_loop.trips) : Fin 3 → Nat :=
  let c0 : Index := 0#32
  let c0_i32_409 : BitVec 32 := 0#32
  let c1_i32_411 : BitVec 32 := 1#32
  let arg85 : BitVec 32 := Scf.iv c0_i32_409 c1_i32_411 k0_t104
  let v136 : Index := Scalar.indexCast arg85
  let c0_541 : Index := 0#32
  ![0, v136.toNat, 0]
def k0_off564 (k0_t104 : Fin k0_t104_loop.trips) : Fin 3 → Nat :=
  let c0_545 : Index := 0#32
  let c0_i32_409 : BitVec 32 := 0#32
  let c1_i32_411 : BitVec 32 := 1#32
  let arg85 : BitVec 32 := Scf.iv c0_i32_409 c1_i32_411 k0_t104
  let v144 : Index := Scalar.indexCast arg85
  let c1 : Index := 1#32
  ![0, v144.toNat, 1]
def k0_off565 (k0_t104 : Fin k0_t104_loop.trips) : Fin 3 → Nat :=
  let c0_549 : Index := 0#32
  let c0_i32_409 : BitVec 32 := 0#32
  let c1_i32_411 : BitVec 32 := 1#32
  let arg85 : BitVec 32 := Scf.iv c0_i32_409 c1_i32_411 k0_t104
  let v153 : Index := Scalar.indexCast arg85
  let c2 : Index := 2#32
  ![0, v153.toNat, 2]
def k0_off566 (k0_t104 : Fin k0_t104_loop.trips) : Fin 3 → Nat :=
  let c0_553 : Index := 0#32
  let c0_i32_409 : BitVec 32 := 0#32
  let c1_i32_411 : BitVec 32 := 1#32
  let arg85 : BitVec 32 := Scf.iv c0_i32_409 c1_i32_411 k0_t104
  let v162 : Index := Scalar.indexCast arg85
  let c3 : Index := 3#32
  ![0, v162.toNat, 3]
def k0_off567 (k0_t104 : Fin k0_t104_loop.trips) : Fin 3 → Nat :=
  let c0_557 : Index := 0#32
  let c0_i32_409 : BitVec 32 := 0#32
  let c1_i32_411 : BitVec 32 := 1#32
  let arg85 : BitVec 32 := Scf.iv c0_i32_409 c1_i32_411 k0_t104
  let v171 : Index := Scalar.indexCast arg85
  let c4 : Index := 4#32
  ![0, v171.toNat, 4]
def k0_off568 (k0_t104 : Fin k0_t104_loop.trips) : Fin 3 → Nat :=
  let c0_561 : Index := 0#32
  let c0_i32_409 : BitVec 32 := 0#32
  let c1_i32_411 : BitVec 32 := 1#32
  let arg85 : BitVec 32 := Scf.iv c0_i32_409 c1_i32_411 k0_t104
  let v180 : Index := Scalar.indexCast arg85
  let c5 : Index := 5#32
  ![0, v180.toNat, 5]
def k0_off569 (k0_t104 : Fin k0_t104_loop.trips) : Fin 3 → Nat :=
  let c0_565 : Index := 0#32
  let c0_i32_409 : BitVec 32 := 0#32
  let c1_i32_411 : BitVec 32 := 1#32
  let arg85 : BitVec 32 := Scf.iv c0_i32_409 c1_i32_411 k0_t104
  let v189 : Index := Scalar.indexCast arg85
  let c6 : Index := 6#32
  ![0, v189.toNat, 6]
def k0_off570 (k0_t104 : Fin k0_t104_loop.trips) : Fin 3 → Nat :=
  let c0_569 : Index := 0#32
  let c144_i32 : BitVec 32 := 144#32
  let c0_i32_409 : BitVec 32 := 0#32
  let c1_i32_411 : BitVec 32 := 1#32
  let arg85 : BitVec 32 := Scf.iv c0_i32_409 c1_i32_411 k0_t104
  let v198 : BitVec 32 := Scalar.addi c144_i32 arg85
  let v199 : Index := Scalar.indexCast v198
  let c0_570 : Index := 0#32
  ![0, v199.toNat, 0]
@[reducible] def k0_t105_loop : Scf.Loop 32 :=
  let c0_i32_413 : BitVec 32 := 0#32
  let c16_i32_414 : BitVec 32 := 16#32
  let v104 : BitVec 32 := Scalar.addi c0_i32_413 c16_i32_414
  let c1_i32_415 : BitVec 32 := 1#32
  ⟨c0_i32_413, v104, c1_i32_415⟩
def k0_off571 (k0_t105 : Fin k0_t105_loop.trips) : Fin 3 → Nat :=
  let c0 : Index := 0#32
  let c0_i32_413 : BitVec 32 := 0#32
  let c1_i32_415 : BitVec 32 := 1#32
  let arg85 : BitVec 32 := Scf.iv c0_i32_413 c1_i32_415 k0_t105
  let v136 : Index := Scalar.indexCast arg85
  let c0_541 : Index := 0#32
  ![0, v136.toNat, 0]
def k0_off572 (k0_t105 : Fin k0_t105_loop.trips) : Fin 3 → Nat :=
  let c0_545 : Index := 0#32
  let c0_i32_413 : BitVec 32 := 0#32
  let c1_i32_415 : BitVec 32 := 1#32
  let arg85 : BitVec 32 := Scf.iv c0_i32_413 c1_i32_415 k0_t105
  let v144 : Index := Scalar.indexCast arg85
  let c1 : Index := 1#32
  ![0, v144.toNat, 1]
def k0_off573 (k0_t105 : Fin k0_t105_loop.trips) : Fin 3 → Nat :=
  let c0_549 : Index := 0#32
  let c0_i32_413 : BitVec 32 := 0#32
  let c1_i32_415 : BitVec 32 := 1#32
  let arg85 : BitVec 32 := Scf.iv c0_i32_413 c1_i32_415 k0_t105
  let v153 : Index := Scalar.indexCast arg85
  let c2 : Index := 2#32
  ![0, v153.toNat, 2]
def k0_off574 (k0_t105 : Fin k0_t105_loop.trips) : Fin 3 → Nat :=
  let c0_553 : Index := 0#32
  let c0_i32_413 : BitVec 32 := 0#32
  let c1_i32_415 : BitVec 32 := 1#32
  let arg85 : BitVec 32 := Scf.iv c0_i32_413 c1_i32_415 k0_t105
  let v162 : Index := Scalar.indexCast arg85
  let c3 : Index := 3#32
  ![0, v162.toNat, 3]
def k0_off575 (k0_t105 : Fin k0_t105_loop.trips) : Fin 3 → Nat :=
  let c0_557 : Index := 0#32
  let c0_i32_413 : BitVec 32 := 0#32
  let c1_i32_415 : BitVec 32 := 1#32
  let arg85 : BitVec 32 := Scf.iv c0_i32_413 c1_i32_415 k0_t105
  let v171 : Index := Scalar.indexCast arg85
  let c4 : Index := 4#32
  ![0, v171.toNat, 4]
def k0_off576 (k0_t105 : Fin k0_t105_loop.trips) : Fin 3 → Nat :=
  let c0_561 : Index := 0#32
  let c0_i32_413 : BitVec 32 := 0#32
  let c1_i32_415 : BitVec 32 := 1#32
  let arg85 : BitVec 32 := Scf.iv c0_i32_413 c1_i32_415 k0_t105
  let v180 : Index := Scalar.indexCast arg85
  let c5 : Index := 5#32
  ![0, v180.toNat, 5]
def k0_off577 (k0_t105 : Fin k0_t105_loop.trips) : Fin 3 → Nat :=
  let c0_565 : Index := 0#32
  let c0_i32_413 : BitVec 32 := 0#32
  let c1_i32_415 : BitVec 32 := 1#32
  let arg85 : BitVec 32 := Scf.iv c0_i32_413 c1_i32_415 k0_t105
  let v189 : Index := Scalar.indexCast arg85
  let c6 : Index := 6#32
  ![0, v189.toNat, 6]
def k0_off578 (k0_t105 : Fin k0_t105_loop.trips) : Fin 3 → Nat :=
  let c0_569 : Index := 0#32
  let c160_i32 : BitVec 32 := 160#32
  let c0_i32_413 : BitVec 32 := 0#32
  let c1_i32_415 : BitVec 32 := 1#32
  let arg85 : BitVec 32 := Scf.iv c0_i32_413 c1_i32_415 k0_t105
  let v198 : BitVec 32 := Scalar.addi c160_i32 arg85
  let v199 : Index := Scalar.indexCast v198
  let c0_570 : Index := 0#32
  ![0, v199.toNat, 0]
@[reducible] def k0_t106_loop : Scf.Loop 32 :=
  let c0_i32_417 : BitVec 32 := 0#32
  let c16_i32_418 : BitVec 32 := 16#32
  let v105 : BitVec 32 := Scalar.addi c0_i32_417 c16_i32_418
  let c1_i32_419 : BitVec 32 := 1#32
  ⟨c0_i32_417, v105, c1_i32_419⟩
def k0_off579 (k0_t106 : Fin k0_t106_loop.trips) : Fin 3 → Nat :=
  let c0 : Index := 0#32
  let c0_i32_417 : BitVec 32 := 0#32
  let c1_i32_419 : BitVec 32 := 1#32
  let arg85 : BitVec 32 := Scf.iv c0_i32_417 c1_i32_419 k0_t106
  let v136 : Index := Scalar.indexCast arg85
  let c0_541 : Index := 0#32
  ![0, v136.toNat, 0]
def k0_off580 (k0_t106 : Fin k0_t106_loop.trips) : Fin 3 → Nat :=
  let c0_545 : Index := 0#32
  let c176_i32 : BitVec 32 := 176#32
  let c0_i32_417 : BitVec 32 := 0#32
  let c1_i32_419 : BitVec 32 := 1#32
  let arg85 : BitVec 32 := Scf.iv c0_i32_417 c1_i32_419 k0_t106
  let v144 : BitVec 32 := Scalar.addi c176_i32 arg85
  let v145 : Index := Scalar.indexCast v144
  let c0_546 : Index := 0#32
  ![0, v145.toNat, 0]
@[reducible] def k0_t107_loop : Scf.Loop 32 :=
  let c0_i32_421 : BitVec 32 := 0#32
  let c16_i32_422 : BitVec 32 := 16#32
  let v106 : BitVec 32 := Scalar.addi c0_i32_421 c16_i32_422
  let c1_i32_423 : BitVec 32 := 1#32
  ⟨c0_i32_421, v106, c1_i32_423⟩
def k0_off581 (k0_t107 : Fin k0_t107_loop.trips) : Fin 3 → Nat :=
  let c0 : Index := 0#32
  let c0_i32_421 : BitVec 32 := 0#32
  let c1_i32_423 : BitVec 32 := 1#32
  let arg85 : BitVec 32 := Scf.iv c0_i32_421 c1_i32_423 k0_t107
  let v136 : Index := Scalar.indexCast arg85
  let c0_541 : Index := 0#32
  ![0, v136.toNat, 0]
def k0_off582 (k0_t107 : Fin k0_t107_loop.trips) : Fin 3 → Nat :=
  let c0_545 : Index := 0#32
  let c0_i32_421 : BitVec 32 := 0#32
  let c1_i32_423 : BitVec 32 := 1#32
  let arg85 : BitVec 32 := Scf.iv c0_i32_421 c1_i32_423 k0_t107
  let v144 : Index := Scalar.indexCast arg85
  let c1 : Index := 1#32
  ![0, v144.toNat, 1]
def k0_off583 (k0_t107 : Fin k0_t107_loop.trips) : Fin 3 → Nat :=
  let c0_549 : Index := 0#32
  let c0_i32_421 : BitVec 32 := 0#32
  let c1_i32_423 : BitVec 32 := 1#32
  let arg85 : BitVec 32 := Scf.iv c0_i32_421 c1_i32_423 k0_t107
  let v153 : Index := Scalar.indexCast arg85
  let c2 : Index := 2#32
  ![0, v153.toNat, 2]
def k0_off584 (k0_t107 : Fin k0_t107_loop.trips) : Fin 3 → Nat :=
  let c0_553 : Index := 0#32
  let c192_i32 : BitVec 32 := 192#32
  let c0_i32_421 : BitVec 32 := 0#32
  let c1_i32_423 : BitVec 32 := 1#32
  let arg85 : BitVec 32 := Scf.iv c0_i32_421 c1_i32_423 k0_t107
  let v162 : BitVec 32 := Scalar.addi c192_i32 arg85
  let v163 : Index := Scalar.indexCast v162
  let c0_554 : Index := 0#32
  ![0, v163.toNat, 0]
@[reducible] def k0_t108_loop : Scf.Loop 32 :=
  let c0_i32_425 : BitVec 32 := 0#32
  let c16_i32_426 : BitVec 32 := 16#32
  let v107 : BitVec 32 := Scalar.addi c0_i32_425 c16_i32_426
  let c1_i32_427 : BitVec 32 := 1#32
  ⟨c0_i32_425, v107, c1_i32_427⟩
def k0_off585 (k0_t108 : Fin k0_t108_loop.trips) : Fin 3 → Nat :=
  let c0 : Index := 0#32
  let c0_i32_425 : BitVec 32 := 0#32
  let c1_i32_427 : BitVec 32 := 1#32
  let arg85 : BitVec 32 := Scf.iv c0_i32_425 c1_i32_427 k0_t108
  let v136 : Index := Scalar.indexCast arg85
  let c0_541 : Index := 0#32
  ![0, v136.toNat, 0]
def k0_off586 (k0_t108 : Fin k0_t108_loop.trips) : Fin 3 → Nat :=
  let c0_545 : Index := 0#32
  let c0_i32_425 : BitVec 32 := 0#32
  let c1_i32_427 : BitVec 32 := 1#32
  let arg85 : BitVec 32 := Scf.iv c0_i32_425 c1_i32_427 k0_t108
  let v144 : Index := Scalar.indexCast arg85
  let c1 : Index := 1#32
  ![0, v144.toNat, 1]
def k0_off587 (k0_t108 : Fin k0_t108_loop.trips) : Fin 3 → Nat :=
  let c0_549 : Index := 0#32
  let c0_i32_425 : BitVec 32 := 0#32
  let c1_i32_427 : BitVec 32 := 1#32
  let arg85 : BitVec 32 := Scf.iv c0_i32_425 c1_i32_427 k0_t108
  let v153 : Index := Scalar.indexCast arg85
  let c2 : Index := 2#32
  ![0, v153.toNat, 2]
def k0_off588 (k0_t108 : Fin k0_t108_loop.trips) : Fin 3 → Nat :=
  let c0_553 : Index := 0#32
  let c208_i32 : BitVec 32 := 208#32
  let c0_i32_425 : BitVec 32 := 0#32
  let c1_i32_427 : BitVec 32 := 1#32
  let arg85 : BitVec 32 := Scf.iv c0_i32_425 c1_i32_427 k0_t108
  let v162 : BitVec 32 := Scalar.addi c208_i32 arg85
  let v163 : Index := Scalar.indexCast v162
  let c0_554 : Index := 0#32
  ![0, v163.toNat, 0]
@[reducible] def k0_t109_loop : Scf.Loop 32 :=
  let c0_i32_429 : BitVec 32 := 0#32
  let c16_i32_430 : BitVec 32 := 16#32
  let v108 : BitVec 32 := Scalar.addi c0_i32_429 c16_i32_430
  let c1_i32_431 : BitVec 32 := 1#32
  ⟨c0_i32_429, v108, c1_i32_431⟩
def k0_off589 (k0_t109 : Fin k0_t109_loop.trips) : Fin 3 → Nat :=
  let c0 : Index := 0#32
  let c0_i32_429 : BitVec 32 := 0#32
  let c1_i32_431 : BitVec 32 := 1#32
  let arg85 : BitVec 32 := Scf.iv c0_i32_429 c1_i32_431 k0_t109
  let v136 : Index := Scalar.indexCast arg85
  let c0_541 : Index := 0#32
  ![0, v136.toNat, 0]
def k0_off590 (k0_t109 : Fin k0_t109_loop.trips) : Fin 3 → Nat :=
  let c0_545 : Index := 0#32
  let c0_i32_429 : BitVec 32 := 0#32
  let c1_i32_431 : BitVec 32 := 1#32
  let arg85 : BitVec 32 := Scf.iv c0_i32_429 c1_i32_431 k0_t109
  let v144 : Index := Scalar.indexCast arg85
  let c1 : Index := 1#32
  ![0, v144.toNat, 1]
def k0_off591 (k0_t109 : Fin k0_t109_loop.trips) : Fin 3 → Nat :=
  let c0_549 : Index := 0#32
  let c0_i32_429 : BitVec 32 := 0#32
  let c1_i32_431 : BitVec 32 := 1#32
  let arg85 : BitVec 32 := Scf.iv c0_i32_429 c1_i32_431 k0_t109
  let v153 : Index := Scalar.indexCast arg85
  let c2 : Index := 2#32
  ![0, v153.toNat, 2]
def k0_off592 (k0_t109 : Fin k0_t109_loop.trips) : Fin 3 → Nat :=
  let c0_553 : Index := 0#32
  let c224_i32 : BitVec 32 := 224#32
  let c0_i32_429 : BitVec 32 := 0#32
  let c1_i32_431 : BitVec 32 := 1#32
  let arg85 : BitVec 32 := Scf.iv c0_i32_429 c1_i32_431 k0_t109
  let v162 : BitVec 32 := Scalar.addi c224_i32 arg85
  let v163 : Index := Scalar.indexCast v162
  let c0_554 : Index := 0#32
  ![0, v163.toNat, 0]
@[reducible] def k0_t110_loop : Scf.Loop 32 :=
  let c0_i32_433 : BitVec 32 := 0#32
  let c16_i32_434 : BitVec 32 := 16#32
  let v109 : BitVec 32 := Scalar.addi c0_i32_433 c16_i32_434
  let c1_i32_435 : BitVec 32 := 1#32
  ⟨c0_i32_433, v109, c1_i32_435⟩
def k0_off593 (k0_t110 : Fin k0_t110_loop.trips) : Fin 3 → Nat :=
  let c0 : Index := 0#32
  let c0_i32_433 : BitVec 32 := 0#32
  let c1_i32_435 : BitVec 32 := 1#32
  let arg85 : BitVec 32 := Scf.iv c0_i32_433 c1_i32_435 k0_t110
  let v136 : Index := Scalar.indexCast arg85
  let c0_541 : Index := 0#32
  ![0, v136.toNat, 0]
def k0_off594 (k0_t110 : Fin k0_t110_loop.trips) : Fin 3 → Nat :=
  let c0_545 : Index := 0#32
  let c0_i32_433 : BitVec 32 := 0#32
  let c1_i32_435 : BitVec 32 := 1#32
  let arg85 : BitVec 32 := Scf.iv c0_i32_433 c1_i32_435 k0_t110
  let v144 : Index := Scalar.indexCast arg85
  let c1 : Index := 1#32
  ![0, v144.toNat, 1]
def k0_off595 (k0_t110 : Fin k0_t110_loop.trips) : Fin 3 → Nat :=
  let c0_549 : Index := 0#32
  let c0_i32_433 : BitVec 32 := 0#32
  let c1_i32_435 : BitVec 32 := 1#32
  let arg85 : BitVec 32 := Scf.iv c0_i32_433 c1_i32_435 k0_t110
  let v153 : Index := Scalar.indexCast arg85
  let c2 : Index := 2#32
  ![0, v153.toNat, 2]
def k0_off596 (k0_t110 : Fin k0_t110_loop.trips) : Fin 3 → Nat :=
  let c0_553 : Index := 0#32
  let c0_i32_433 : BitVec 32 := 0#32
  let c1_i32_435 : BitVec 32 := 1#32
  let arg85 : BitVec 32 := Scf.iv c0_i32_433 c1_i32_435 k0_t110
  let v162 : Index := Scalar.indexCast arg85
  let c3 : Index := 3#32
  ![0, v162.toNat, 3]
def k0_off597 (k0_t110 : Fin k0_t110_loop.trips) : Fin 3 → Nat :=
  let c0_557 : Index := 0#32
  let c0_i32_433 : BitVec 32 := 0#32
  let c1_i32_435 : BitVec 32 := 1#32
  let arg85 : BitVec 32 := Scf.iv c0_i32_433 c1_i32_435 k0_t110
  let v171 : Index := Scalar.indexCast arg85
  let c4 : Index := 4#32
  ![0, v171.toNat, 4]
def k0_off598 (k0_t110 : Fin k0_t110_loop.trips) : Fin 3 → Nat :=
  let c0_561 : Index := 0#32
  let c240_i32 : BitVec 32 := 240#32
  let c0_i32_433 : BitVec 32 := 0#32
  let c1_i32_435 : BitVec 32 := 1#32
  let arg85 : BitVec 32 := Scf.iv c0_i32_433 c1_i32_435 k0_t110
  let v180 : BitVec 32 := Scalar.addi c240_i32 arg85
  let v181 : Index := Scalar.indexCast v180
  let c0_562 : Index := 0#32
  ![0, v181.toNat, 0]
@[reducible] def k0_t111_loop : Scf.Loop 32 :=
  let c0_i32_437 : BitVec 32 := 0#32
  let c16_i32_438 : BitVec 32 := 16#32
  let v110 : BitVec 32 := Scalar.addi c0_i32_437 c16_i32_438
  let c1_i32_439 : BitVec 32 := 1#32
  ⟨c0_i32_437, v110, c1_i32_439⟩
def k0_off599 (k0_t111 : Fin k0_t111_loop.trips) : Fin 3 → Nat :=
  let c0 : Index := 0#32
  let c0_i32_437 : BitVec 32 := 0#32
  let c1_i32_439 : BitVec 32 := 1#32
  let arg85 : BitVec 32 := Scf.iv c0_i32_437 c1_i32_439 k0_t111
  let v136 : Index := Scalar.indexCast arg85
  let c0_541 : Index := 0#32
  ![0, v136.toNat, 0]
def k0_off600 (k0_t111 : Fin k0_t111_loop.trips) : Fin 3 → Nat :=
  let c0_545 : Index := 0#32
  let c0_i32_437 : BitVec 32 := 0#32
  let c1_i32_439 : BitVec 32 := 1#32
  let arg85 : BitVec 32 := Scf.iv c0_i32_437 c1_i32_439 k0_t111
  let v144 : Index := Scalar.indexCast arg85
  let c1 : Index := 1#32
  ![0, v144.toNat, 1]
def k0_off601 (k0_t111 : Fin k0_t111_loop.trips) : Fin 3 → Nat :=
  let c0_549 : Index := 0#32
  let c0_i32_437 : BitVec 32 := 0#32
  let c1_i32_439 : BitVec 32 := 1#32
  let arg85 : BitVec 32 := Scf.iv c0_i32_437 c1_i32_439 k0_t111
  let v153 : Index := Scalar.indexCast arg85
  let c2 : Index := 2#32
  ![0, v153.toNat, 2]
def k0_off602 (k0_t111 : Fin k0_t111_loop.trips) : Fin 3 → Nat :=
  let c0_553 : Index := 0#32
  let c0_i32_437 : BitVec 32 := 0#32
  let c1_i32_439 : BitVec 32 := 1#32
  let arg85 : BitVec 32 := Scf.iv c0_i32_437 c1_i32_439 k0_t111
  let v162 : Index := Scalar.indexCast arg85
  let c3 : Index := 3#32
  ![0, v162.toNat, 3]
def k0_off603 (k0_t111 : Fin k0_t111_loop.trips) : Fin 3 → Nat :=
  let c0_557 : Index := 0#32
  let c0_i32_437 : BitVec 32 := 0#32
  let c1_i32_439 : BitVec 32 := 1#32
  let arg85 : BitVec 32 := Scf.iv c0_i32_437 c1_i32_439 k0_t111
  let v171 : Index := Scalar.indexCast arg85
  let c4 : Index := 4#32
  ![0, v171.toNat, 4]
def k0_off604 (k0_t111 : Fin k0_t111_loop.trips) : Fin 3 → Nat :=
  let c0_561 : Index := 0#32
  let c256_i32 : BitVec 32 := 256#32
  let c0_i32_437 : BitVec 32 := 0#32
  let c1_i32_439 : BitVec 32 := 1#32
  let arg85 : BitVec 32 := Scf.iv c0_i32_437 c1_i32_439 k0_t111
  let v180 : BitVec 32 := Scalar.addi c256_i32 arg85
  let v181 : Index := Scalar.indexCast v180
  let c0_562 : Index := 0#32
  ![0, v181.toNat, 0]
@[reducible] def k0_t112_loop : Scf.Loop 32 :=
  let c0_i32_441 : BitVec 32 := 0#32
  let c16_i32_442 : BitVec 32 := 16#32
  let v111 : BitVec 32 := Scalar.addi c0_i32_441 c16_i32_442
  let c1_i32_443 : BitVec 32 := 1#32
  ⟨c0_i32_441, v111, c1_i32_443⟩
def k0_off605 (k0_t112 : Fin k0_t112_loop.trips) : Fin 3 → Nat :=
  let c0 : Index := 0#32
  let c0_i32_441 : BitVec 32 := 0#32
  let c1_i32_443 : BitVec 32 := 1#32
  let arg85 : BitVec 32 := Scf.iv c0_i32_441 c1_i32_443 k0_t112
  let v136 : Index := Scalar.indexCast arg85
  let c0_541 : Index := 0#32
  ![0, v136.toNat, 0]
def k0_off606 (k0_t112 : Fin k0_t112_loop.trips) : Fin 3 → Nat :=
  let c0_545 : Index := 0#32
  let c0_i32_441 : BitVec 32 := 0#32
  let c1_i32_443 : BitVec 32 := 1#32
  let arg85 : BitVec 32 := Scf.iv c0_i32_441 c1_i32_443 k0_t112
  let v144 : Index := Scalar.indexCast arg85
  let c1 : Index := 1#32
  ![0, v144.toNat, 1]
def k0_off607 (k0_t112 : Fin k0_t112_loop.trips) : Fin 3 → Nat :=
  let c0_549 : Index := 0#32
  let c0_i32_441 : BitVec 32 := 0#32
  let c1_i32_443 : BitVec 32 := 1#32
  let arg85 : BitVec 32 := Scf.iv c0_i32_441 c1_i32_443 k0_t112
  let v153 : Index := Scalar.indexCast arg85
  let c2 : Index := 2#32
  ![0, v153.toNat, 2]
def k0_off608 (k0_t112 : Fin k0_t112_loop.trips) : Fin 3 → Nat :=
  let c0_553 : Index := 0#32
  let c0_i32_441 : BitVec 32 := 0#32
  let c1_i32_443 : BitVec 32 := 1#32
  let arg85 : BitVec 32 := Scf.iv c0_i32_441 c1_i32_443 k0_t112
  let v162 : Index := Scalar.indexCast arg85
  let c3 : Index := 3#32
  ![0, v162.toNat, 3]
def k0_off609 (k0_t112 : Fin k0_t112_loop.trips) : Fin 3 → Nat :=
  let c0_557 : Index := 0#32
  let c0_i32_441 : BitVec 32 := 0#32
  let c1_i32_443 : BitVec 32 := 1#32
  let arg85 : BitVec 32 := Scf.iv c0_i32_441 c1_i32_443 k0_t112
  let v171 : Index := Scalar.indexCast arg85
  let c4 : Index := 4#32
  ![0, v171.toNat, 4]
def k0_off610 (k0_t112 : Fin k0_t112_loop.trips) : Fin 3 → Nat :=
  let c0_561 : Index := 0#32
  let c272_i32 : BitVec 32 := 272#32
  let c0_i32_441 : BitVec 32 := 0#32
  let c1_i32_443 : BitVec 32 := 1#32
  let arg85 : BitVec 32 := Scf.iv c0_i32_441 c1_i32_443 k0_t112
  let v180 : BitVec 32 := Scalar.addi c272_i32 arg85
  let v181 : Index := Scalar.indexCast v180
  let c0_562 : Index := 0#32
  ![0, v181.toNat, 0]
@[reducible] def k0_t113_loop : Scf.Loop 32 :=
  let c0_i32_445 : BitVec 32 := 0#32
  let c16_i32_446 : BitVec 32 := 16#32
  let v112 : BitVec 32 := Scalar.addi c0_i32_445 c16_i32_446
  let c1_i32_447 : BitVec 32 := 1#32
  ⟨c0_i32_445, v112, c1_i32_447⟩
def k0_off611 (k0_t113 : Fin k0_t113_loop.trips) : Fin 3 → Nat :=
  let c0 : Index := 0#32
  let c0_i32_445 : BitVec 32 := 0#32
  let c1_i32_447 : BitVec 32 := 1#32
  let arg85 : BitVec 32 := Scf.iv c0_i32_445 c1_i32_447 k0_t113
  let v136 : Index := Scalar.indexCast arg85
  let c0_541 : Index := 0#32
  ![0, v136.toNat, 0]
def k0_off612 (k0_t113 : Fin k0_t113_loop.trips) : Fin 3 → Nat :=
  let c0_545 : Index := 0#32
  let c0_i32_445 : BitVec 32 := 0#32
  let c1_i32_447 : BitVec 32 := 1#32
  let arg85 : BitVec 32 := Scf.iv c0_i32_445 c1_i32_447 k0_t113
  let v144 : Index := Scalar.indexCast arg85
  let c1 : Index := 1#32
  ![0, v144.toNat, 1]
def k0_off613 (k0_t113 : Fin k0_t113_loop.trips) : Fin 3 → Nat :=
  let c0_549 : Index := 0#32
  let c0_i32_445 : BitVec 32 := 0#32
  let c1_i32_447 : BitVec 32 := 1#32
  let arg85 : BitVec 32 := Scf.iv c0_i32_445 c1_i32_447 k0_t113
  let v153 : Index := Scalar.indexCast arg85
  let c2 : Index := 2#32
  ![0, v153.toNat, 2]
def k0_off614 (k0_t113 : Fin k0_t113_loop.trips) : Fin 3 → Nat :=
  let c0_553 : Index := 0#32
  let c0_i32_445 : BitVec 32 := 0#32
  let c1_i32_447 : BitVec 32 := 1#32
  let arg85 : BitVec 32 := Scf.iv c0_i32_445 c1_i32_447 k0_t113
  let v162 : Index := Scalar.indexCast arg85
  let c3 : Index := 3#32
  ![0, v162.toNat, 3]
def k0_off615 (k0_t113 : Fin k0_t113_loop.trips) : Fin 3 → Nat :=
  let c0_557 : Index := 0#32
  let c0_i32_445 : BitVec 32 := 0#32
  let c1_i32_447 : BitVec 32 := 1#32
  let arg85 : BitVec 32 := Scf.iv c0_i32_445 c1_i32_447 k0_t113
  let v171 : Index := Scalar.indexCast arg85
  let c4 : Index := 4#32
  ![0, v171.toNat, 4]
def k0_off616 (k0_t113 : Fin k0_t113_loop.trips) : Fin 3 → Nat :=
  let c0_561 : Index := 0#32
  let c288_i32 : BitVec 32 := 288#32
  let c0_i32_445 : BitVec 32 := 0#32
  let c1_i32_447 : BitVec 32 := 1#32
  let arg85 : BitVec 32 := Scf.iv c0_i32_445 c1_i32_447 k0_t113
  let v180 : BitVec 32 := Scalar.addi c288_i32 arg85
  let v181 : Index := Scalar.indexCast v180
  let c0_562 : Index := 0#32
  ![0, v181.toNat, 0]
@[reducible] def k0_t114_loop : Scf.Loop 32 :=
  let c0_i32_449 : BitVec 32 := 0#32
  let c16_i32_450 : BitVec 32 := 16#32
  let v113 : BitVec 32 := Scalar.addi c0_i32_449 c16_i32_450
  let c1_i32_451 : BitVec 32 := 1#32
  ⟨c0_i32_449, v113, c1_i32_451⟩
def k0_off617 (k0_t114 : Fin k0_t114_loop.trips) : Fin 3 → Nat :=
  let c0 : Index := 0#32
  let c0_i32_449 : BitVec 32 := 0#32
  let c1_i32_451 : BitVec 32 := 1#32
  let arg85 : BitVec 32 := Scf.iv c0_i32_449 c1_i32_451 k0_t114
  let v136 : Index := Scalar.indexCast arg85
  let c0_541 : Index := 0#32
  ![0, v136.toNat, 0]
def k0_off618 (k0_t114 : Fin k0_t114_loop.trips) : Fin 3 → Nat :=
  let c0_545 : Index := 0#32
  let c0_i32_449 : BitVec 32 := 0#32
  let c1_i32_451 : BitVec 32 := 1#32
  let arg85 : BitVec 32 := Scf.iv c0_i32_449 c1_i32_451 k0_t114
  let v144 : Index := Scalar.indexCast arg85
  let c1 : Index := 1#32
  ![0, v144.toNat, 1]
def k0_off619 (k0_t114 : Fin k0_t114_loop.trips) : Fin 3 → Nat :=
  let c0_549 : Index := 0#32
  let c0_i32_449 : BitVec 32 := 0#32
  let c1_i32_451 : BitVec 32 := 1#32
  let arg85 : BitVec 32 := Scf.iv c0_i32_449 c1_i32_451 k0_t114
  let v153 : Index := Scalar.indexCast arg85
  let c2 : Index := 2#32
  ![0, v153.toNat, 2]
def k0_off620 (k0_t114 : Fin k0_t114_loop.trips) : Fin 3 → Nat :=
  let c0_553 : Index := 0#32
  let c0_i32_449 : BitVec 32 := 0#32
  let c1_i32_451 : BitVec 32 := 1#32
  let arg85 : BitVec 32 := Scf.iv c0_i32_449 c1_i32_451 k0_t114
  let v162 : Index := Scalar.indexCast arg85
  let c3 : Index := 3#32
  ![0, v162.toNat, 3]
def k0_off621 (k0_t114 : Fin k0_t114_loop.trips) : Fin 3 → Nat :=
  let c0_557 : Index := 0#32
  let c0_i32_449 : BitVec 32 := 0#32
  let c1_i32_451 : BitVec 32 := 1#32
  let arg85 : BitVec 32 := Scf.iv c0_i32_449 c1_i32_451 k0_t114
  let v171 : Index := Scalar.indexCast arg85
  let c4 : Index := 4#32
  ![0, v171.toNat, 4]
def k0_off622 (k0_t114 : Fin k0_t114_loop.trips) : Fin 3 → Nat :=
  let c0_561 : Index := 0#32
  let c0_i32_449 : BitVec 32 := 0#32
  let c1_i32_451 : BitVec 32 := 1#32
  let arg85 : BitVec 32 := Scf.iv c0_i32_449 c1_i32_451 k0_t114
  let v180 : Index := Scalar.indexCast arg85
  let c5 : Index := 5#32
  ![0, v180.toNat, 5]
def k0_off623 (k0_t114 : Fin k0_t114_loop.trips) : Fin 3 → Nat :=
  let c0_565 : Index := 0#32
  let c0_i32_449 : BitVec 32 := 0#32
  let c1_i32_451 : BitVec 32 := 1#32
  let arg85 : BitVec 32 := Scf.iv c0_i32_449 c1_i32_451 k0_t114
  let v189 : Index := Scalar.indexCast arg85
  let c6 : Index := 6#32
  ![0, v189.toNat, 6]
def k0_off624 (k0_t114 : Fin k0_t114_loop.trips) : Fin 3 → Nat :=
  let c0_569 : Index := 0#32
  let c304_i32 : BitVec 32 := 304#32
  let c0_i32_449 : BitVec 32 := 0#32
  let c1_i32_451 : BitVec 32 := 1#32
  let arg85 : BitVec 32 := Scf.iv c0_i32_449 c1_i32_451 k0_t114
  let v198 : BitVec 32 := Scalar.addi c304_i32 arg85
  let v199 : Index := Scalar.indexCast v198
  let c0_570 : Index := 0#32
  ![0, v199.toNat, 0]
@[reducible] def k0_t115_loop : Scf.Loop 32 :=
  let c0_i32_453 : BitVec 32 := 0#32
  let c16_i32_454 : BitVec 32 := 16#32
  let v114 : BitVec 32 := Scalar.addi c0_i32_453 c16_i32_454
  let c1_i32_455 : BitVec 32 := 1#32
  ⟨c0_i32_453, v114, c1_i32_455⟩
def k0_off625 (k0_t115 : Fin k0_t115_loop.trips) : Fin 3 → Nat :=
  let c0 : Index := 0#32
  let c0_i32_453 : BitVec 32 := 0#32
  let c1_i32_455 : BitVec 32 := 1#32
  let arg85 : BitVec 32 := Scf.iv c0_i32_453 c1_i32_455 k0_t115
  let v136 : Index := Scalar.indexCast arg85
  let c0_541 : Index := 0#32
  ![0, v136.toNat, 0]
def k0_off626 (k0_t115 : Fin k0_t115_loop.trips) : Fin 3 → Nat :=
  let c0_545 : Index := 0#32
  let c0_i32_453 : BitVec 32 := 0#32
  let c1_i32_455 : BitVec 32 := 1#32
  let arg85 : BitVec 32 := Scf.iv c0_i32_453 c1_i32_455 k0_t115
  let v144 : Index := Scalar.indexCast arg85
  let c1 : Index := 1#32
  ![0, v144.toNat, 1]
def k0_off627 (k0_t115 : Fin k0_t115_loop.trips) : Fin 3 → Nat :=
  let c0_549 : Index := 0#32
  let c0_i32_453 : BitVec 32 := 0#32
  let c1_i32_455 : BitVec 32 := 1#32
  let arg85 : BitVec 32 := Scf.iv c0_i32_453 c1_i32_455 k0_t115
  let v153 : Index := Scalar.indexCast arg85
  let c2 : Index := 2#32
  ![0, v153.toNat, 2]
def k0_off628 (k0_t115 : Fin k0_t115_loop.trips) : Fin 3 → Nat :=
  let c0_553 : Index := 0#32
  let c0_i32_453 : BitVec 32 := 0#32
  let c1_i32_455 : BitVec 32 := 1#32
  let arg85 : BitVec 32 := Scf.iv c0_i32_453 c1_i32_455 k0_t115
  let v162 : Index := Scalar.indexCast arg85
  let c3 : Index := 3#32
  ![0, v162.toNat, 3]
def k0_off629 (k0_t115 : Fin k0_t115_loop.trips) : Fin 3 → Nat :=
  let c0_557 : Index := 0#32
  let c0_i32_453 : BitVec 32 := 0#32
  let c1_i32_455 : BitVec 32 := 1#32
  let arg85 : BitVec 32 := Scf.iv c0_i32_453 c1_i32_455 k0_t115
  let v171 : Index := Scalar.indexCast arg85
  let c4 : Index := 4#32
  ![0, v171.toNat, 4]
def k0_off630 (k0_t115 : Fin k0_t115_loop.trips) : Fin 3 → Nat :=
  let c0_561 : Index := 0#32
  let c0_i32_453 : BitVec 32 := 0#32
  let c1_i32_455 : BitVec 32 := 1#32
  let arg85 : BitVec 32 := Scf.iv c0_i32_453 c1_i32_455 k0_t115
  let v180 : Index := Scalar.indexCast arg85
  let c5 : Index := 5#32
  ![0, v180.toNat, 5]
def k0_off631 (k0_t115 : Fin k0_t115_loop.trips) : Fin 3 → Nat :=
  let c0_565 : Index := 0#32
  let c0_i32_453 : BitVec 32 := 0#32
  let c1_i32_455 : BitVec 32 := 1#32
  let arg85 : BitVec 32 := Scf.iv c0_i32_453 c1_i32_455 k0_t115
  let v189 : Index := Scalar.indexCast arg85
  let c6 : Index := 6#32
  ![0, v189.toNat, 6]
def k0_off632 (k0_t115 : Fin k0_t115_loop.trips) : Fin 3 → Nat :=
  let c0_569 : Index := 0#32
  let c320_i32 : BitVec 32 := 320#32
  let c0_i32_453 : BitVec 32 := 0#32
  let c1_i32_455 : BitVec 32 := 1#32
  let arg85 : BitVec 32 := Scf.iv c0_i32_453 c1_i32_455 k0_t115
  let v198 : BitVec 32 := Scalar.addi c320_i32 arg85
  let v199 : Index := Scalar.indexCast v198
  let c0_570 : Index := 0#32
  ![0, v199.toNat, 0]
@[reducible] def k0_t116_loop : Scf.Loop 32 :=
  let c0_i32_457 : BitVec 32 := 0#32
  let c16_i32_458 : BitVec 32 := 16#32
  let v115 : BitVec 32 := Scalar.addi c0_i32_457 c16_i32_458
  let c1_i32_459 : BitVec 32 := 1#32
  ⟨c0_i32_457, v115, c1_i32_459⟩
def k0_off633 (k0_t116 : Fin k0_t116_loop.trips) : Fin 3 → Nat :=
  let c0 : Index := 0#32
  let c0_i32_457 : BitVec 32 := 0#32
  let c1_i32_459 : BitVec 32 := 1#32
  let arg85 : BitVec 32 := Scf.iv c0_i32_457 c1_i32_459 k0_t116
  let v136 : Index := Scalar.indexCast arg85
  let c0_541 : Index := 0#32
  ![0, v136.toNat, 0]
def k0_off634 (k0_t116 : Fin k0_t116_loop.trips) : Fin 3 → Nat :=
  let c0_545 : Index := 0#32
  let c0_i32_457 : BitVec 32 := 0#32
  let c1_i32_459 : BitVec 32 := 1#32
  let arg85 : BitVec 32 := Scf.iv c0_i32_457 c1_i32_459 k0_t116
  let v144 : Index := Scalar.indexCast arg85
  let c1 : Index := 1#32
  ![0, v144.toNat, 1]
def k0_off635 (k0_t116 : Fin k0_t116_loop.trips) : Fin 3 → Nat :=
  let c0_549 : Index := 0#32
  let c0_i32_457 : BitVec 32 := 0#32
  let c1_i32_459 : BitVec 32 := 1#32
  let arg85 : BitVec 32 := Scf.iv c0_i32_457 c1_i32_459 k0_t116
  let v153 : Index := Scalar.indexCast arg85
  let c2 : Index := 2#32
  ![0, v153.toNat, 2]
def k0_off636 (k0_t116 : Fin k0_t116_loop.trips) : Fin 3 → Nat :=
  let c0_553 : Index := 0#32
  let c0_i32_457 : BitVec 32 := 0#32
  let c1_i32_459 : BitVec 32 := 1#32
  let arg85 : BitVec 32 := Scf.iv c0_i32_457 c1_i32_459 k0_t116
  let v162 : Index := Scalar.indexCast arg85
  let c3 : Index := 3#32
  ![0, v162.toNat, 3]
def k0_off637 (k0_t116 : Fin k0_t116_loop.trips) : Fin 3 → Nat :=
  let c0_557 : Index := 0#32
  let c0_i32_457 : BitVec 32 := 0#32
  let c1_i32_459 : BitVec 32 := 1#32
  let arg85 : BitVec 32 := Scf.iv c0_i32_457 c1_i32_459 k0_t116
  let v171 : Index := Scalar.indexCast arg85
  let c4 : Index := 4#32
  ![0, v171.toNat, 4]
def k0_off638 (k0_t116 : Fin k0_t116_loop.trips) : Fin 3 → Nat :=
  let c0_561 : Index := 0#32
  let c0_i32_457 : BitVec 32 := 0#32
  let c1_i32_459 : BitVec 32 := 1#32
  let arg85 : BitVec 32 := Scf.iv c0_i32_457 c1_i32_459 k0_t116
  let v180 : Index := Scalar.indexCast arg85
  let c5 : Index := 5#32
  ![0, v180.toNat, 5]
def k0_off639 (k0_t116 : Fin k0_t116_loop.trips) : Fin 3 → Nat :=
  let c0_565 : Index := 0#32
  let c0_i32_457 : BitVec 32 := 0#32
  let c1_i32_459 : BitVec 32 := 1#32
  let arg85 : BitVec 32 := Scf.iv c0_i32_457 c1_i32_459 k0_t116
  let v189 : Index := Scalar.indexCast arg85
  let c6 : Index := 6#32
  ![0, v189.toNat, 6]
def k0_off640 (k0_t116 : Fin k0_t116_loop.trips) : Fin 3 → Nat :=
  let c0_569 : Index := 0#32
  let c336_i32 : BitVec 32 := 336#32
  let c0_i32_457 : BitVec 32 := 0#32
  let c1_i32_459 : BitVec 32 := 1#32
  let arg85 : BitVec 32 := Scf.iv c0_i32_457 c1_i32_459 k0_t116
  let v198 : BitVec 32 := Scalar.addi c336_i32 arg85
  let v199 : Index := Scalar.indexCast v198
  let c0_570 : Index := 0#32
  ![0, v199.toNat, 0]
@[reducible] def k0_t117_loop : Scf.Loop 32 :=
  let c0_i32_461 : BitVec 32 := 0#32
  let c16_i32_462 : BitVec 32 := 16#32
  let v116 : BitVec 32 := Scalar.addi c0_i32_461 c16_i32_462
  let c1_i32_463 : BitVec 32 := 1#32
  ⟨c0_i32_461, v116, c1_i32_463⟩
def k0_off641 (k0_t117 : Fin k0_t117_loop.trips) : Fin 3 → Nat :=
  let c0 : Index := 0#32
  let c0_i32_461 : BitVec 32 := 0#32
  let c1_i32_463 : BitVec 32 := 1#32
  let arg85 : BitVec 32 := Scf.iv c0_i32_461 c1_i32_463 k0_t117
  let v136 : Index := Scalar.indexCast arg85
  let c0_541 : Index := 0#32
  ![0, v136.toNat, 0]
def k0_off642 (k0_t117 : Fin k0_t117_loop.trips) : Fin 3 → Nat :=
  let c0_546 : Index := 0#32
  let c0_i32_545 : BitVec 32 := 0#32
  let c0_i32_461 : BitVec 32 := 0#32
  let c1_i32_463 : BitVec 32 := 1#32
  let arg85 : BitVec 32 := Scf.iv c0_i32_461 c1_i32_463 k0_t117
  let v144 : BitVec 32 := Scalar.addi c0_i32_545 arg85
  let v145 : Index := Scalar.indexCast v144
  let c0_547 : Index := 0#32
  ![0, v145.toNat, 0]
@[reducible] def k0_t118_loop : Scf.Loop 32 :=
  let c0_i32_465 : BitVec 32 := 0#32
  let c16_i32_466 : BitVec 32 := 16#32
  let v117 : BitVec 32 := Scalar.addi c0_i32_465 c16_i32_466
  let c1_i32_467 : BitVec 32 := 1#32
  ⟨c0_i32_465, v117, c1_i32_467⟩
def k0_off643 (k0_t118 : Fin k0_t118_loop.trips) : Fin 3 → Nat :=
  let c0 : Index := 0#32
  let c0_i32_465 : BitVec 32 := 0#32
  let c1_i32_467 : BitVec 32 := 1#32
  let arg85 : BitVec 32 := Scf.iv c0_i32_465 c1_i32_467 k0_t118
  let v136 : Index := Scalar.indexCast arg85
  let c0_541 : Index := 0#32
  ![0, v136.toNat, 0]
def k0_off644 (k0_t118 : Fin k0_t118_loop.trips) : Fin 3 → Nat :=
  let c0_545 : Index := 0#32
  let c0_i32_465 : BitVec 32 := 0#32
  let c1_i32_467 : BitVec 32 := 1#32
  let arg85 : BitVec 32 := Scf.iv c0_i32_465 c1_i32_467 k0_t118
  let v144 : Index := Scalar.indexCast arg85
  let c1 : Index := 1#32
  ![0, v144.toNat, 1]
def k0_off645 (k0_t118 : Fin k0_t118_loop.trips) : Fin 3 → Nat :=
  let c0_549 : Index := 0#32
  let c0_i32_465 : BitVec 32 := 0#32
  let c1_i32_467 : BitVec 32 := 1#32
  let arg85 : BitVec 32 := Scf.iv c0_i32_465 c1_i32_467 k0_t118
  let v153 : Index := Scalar.indexCast arg85
  let c2 : Index := 2#32
  ![0, v153.toNat, 2]
def k0_off646 (k0_t118 : Fin k0_t118_loop.trips) : Fin 3 → Nat :=
  let c0_554 : Index := 0#32
  let c16_i32_553 : BitVec 32 := 16#32
  let c0_i32_465 : BitVec 32 := 0#32
  let c1_i32_467 : BitVec 32 := 1#32
  let arg85 : BitVec 32 := Scf.iv c0_i32_465 c1_i32_467 k0_t118
  let v162 : BitVec 32 := Scalar.addi c16_i32_553 arg85
  let v163 : Index := Scalar.indexCast v162
  let c0_555 : Index := 0#32
  ![0, v163.toNat, 0]
@[reducible] def k0_t119_loop : Scf.Loop 32 :=
  let c0_i32_469 : BitVec 32 := 0#32
  let c16_i32_470 : BitVec 32 := 16#32
  let v118 : BitVec 32 := Scalar.addi c0_i32_469 c16_i32_470
  let c1_i32_471 : BitVec 32 := 1#32
  ⟨c0_i32_469, v118, c1_i32_471⟩
def k0_off647 (k0_t119 : Fin k0_t119_loop.trips) : Fin 3 → Nat :=
  let c0 : Index := 0#32
  let c0_i32_469 : BitVec 32 := 0#32
  let c1_i32_471 : BitVec 32 := 1#32
  let arg85 : BitVec 32 := Scf.iv c0_i32_469 c1_i32_471 k0_t119
  let v136 : Index := Scalar.indexCast arg85
  let c0_541 : Index := 0#32
  ![0, v136.toNat, 0]
def k0_off648 (k0_t119 : Fin k0_t119_loop.trips) : Fin 3 → Nat :=
  let c0_545 : Index := 0#32
  let c0_i32_469 : BitVec 32 := 0#32
  let c1_i32_471 : BitVec 32 := 1#32
  let arg85 : BitVec 32 := Scf.iv c0_i32_469 c1_i32_471 k0_t119
  let v144 : Index := Scalar.indexCast arg85
  let c1 : Index := 1#32
  ![0, v144.toNat, 1]
def k0_off649 (k0_t119 : Fin k0_t119_loop.trips) : Fin 3 → Nat :=
  let c0_549 : Index := 0#32
  let c0_i32_469 : BitVec 32 := 0#32
  let c1_i32_471 : BitVec 32 := 1#32
  let arg85 : BitVec 32 := Scf.iv c0_i32_469 c1_i32_471 k0_t119
  let v153 : Index := Scalar.indexCast arg85
  let c2 : Index := 2#32
  ![0, v153.toNat, 2]
def k0_off650 (k0_t119 : Fin k0_t119_loop.trips) : Fin 3 → Nat :=
  let c0_553 : Index := 0#32
  let c32_i32 : BitVec 32 := 32#32
  let c0_i32_469 : BitVec 32 := 0#32
  let c1_i32_471 : BitVec 32 := 1#32
  let arg85 : BitVec 32 := Scf.iv c0_i32_469 c1_i32_471 k0_t119
  let v162 : BitVec 32 := Scalar.addi c32_i32 arg85
  let v163 : Index := Scalar.indexCast v162
  let c0_554 : Index := 0#32
  ![0, v163.toNat, 0]
@[reducible] def k0_t120_loop : Scf.Loop 32 :=
  let c0_i32_473 : BitVec 32 := 0#32
  let c16_i32_474 : BitVec 32 := 16#32
  let v119 : BitVec 32 := Scalar.addi c0_i32_473 c16_i32_474
  let c1_i32_475 : BitVec 32 := 1#32
  ⟨c0_i32_473, v119, c1_i32_475⟩
def k0_off651 (k0_t120 : Fin k0_t120_loop.trips) : Fin 3 → Nat :=
  let c0 : Index := 0#32
  let c0_i32_473 : BitVec 32 := 0#32
  let c1_i32_475 : BitVec 32 := 1#32
  let arg85 : BitVec 32 := Scf.iv c0_i32_473 c1_i32_475 k0_t120
  let v136 : Index := Scalar.indexCast arg85
  let c0_541 : Index := 0#32
  ![0, v136.toNat, 0]
def k0_off652 (k0_t120 : Fin k0_t120_loop.trips) : Fin 3 → Nat :=
  let c0_545 : Index := 0#32
  let c0_i32_473 : BitVec 32 := 0#32
  let c1_i32_475 : BitVec 32 := 1#32
  let arg85 : BitVec 32 := Scf.iv c0_i32_473 c1_i32_475 k0_t120
  let v144 : Index := Scalar.indexCast arg85
  let c1 : Index := 1#32
  ![0, v144.toNat, 1]
def k0_off653 (k0_t120 : Fin k0_t120_loop.trips) : Fin 3 → Nat :=
  let c0_549 : Index := 0#32
  let c0_i32_473 : BitVec 32 := 0#32
  let c1_i32_475 : BitVec 32 := 1#32
  let arg85 : BitVec 32 := Scf.iv c0_i32_473 c1_i32_475 k0_t120
  let v153 : Index := Scalar.indexCast arg85
  let c2 : Index := 2#32
  ![0, v153.toNat, 2]
def k0_off654 (k0_t120 : Fin k0_t120_loop.trips) : Fin 3 → Nat :=
  let c0_553 : Index := 0#32
  let c0_i32_473 : BitVec 32 := 0#32
  let c1_i32_475 : BitVec 32 := 1#32
  let arg85 : BitVec 32 := Scf.iv c0_i32_473 c1_i32_475 k0_t120
  let v162 : Index := Scalar.indexCast arg85
  let c3 : Index := 3#32
  ![0, v162.toNat, 3]
def k0_off655 (k0_t120 : Fin k0_t120_loop.trips) : Fin 3 → Nat :=
  let c0_557 : Index := 0#32
  let c0_i32_473 : BitVec 32 := 0#32
  let c1_i32_475 : BitVec 32 := 1#32
  let arg85 : BitVec 32 := Scf.iv c0_i32_473 c1_i32_475 k0_t120
  let v171 : Index := Scalar.indexCast arg85
  let c4 : Index := 4#32
  ![0, v171.toNat, 4]
def k0_off656 (k0_t120 : Fin k0_t120_loop.trips) : Fin 3 → Nat :=
  let c0_561 : Index := 0#32
  let c48_i32 : BitVec 32 := 48#32
  let c0_i32_473 : BitVec 32 := 0#32
  let c1_i32_475 : BitVec 32 := 1#32
  let arg85 : BitVec 32 := Scf.iv c0_i32_473 c1_i32_475 k0_t120
  let v180 : BitVec 32 := Scalar.addi c48_i32 arg85
  let v181 : Index := Scalar.indexCast v180
  let c0_562 : Index := 0#32
  ![0, v181.toNat, 0]
@[reducible] def k0_t121_loop : Scf.Loop 32 :=
  let c0_i32_477 : BitVec 32 := 0#32
  let c16_i32_478 : BitVec 32 := 16#32
  let v120 : BitVec 32 := Scalar.addi c0_i32_477 c16_i32_478
  let c1_i32_479 : BitVec 32 := 1#32
  ⟨c0_i32_477, v120, c1_i32_479⟩
def k0_off657 (k0_t121 : Fin k0_t121_loop.trips) : Fin 3 → Nat :=
  let c0 : Index := 0#32
  let c0_i32_477 : BitVec 32 := 0#32
  let c1_i32_479 : BitVec 32 := 1#32
  let arg85 : BitVec 32 := Scf.iv c0_i32_477 c1_i32_479 k0_t121
  let v136 : Index := Scalar.indexCast arg85
  let c0_541 : Index := 0#32
  ![0, v136.toNat, 0]
def k0_off658 (k0_t121 : Fin k0_t121_loop.trips) : Fin 3 → Nat :=
  let c0_545 : Index := 0#32
  let c0_i32_477 : BitVec 32 := 0#32
  let c1_i32_479 : BitVec 32 := 1#32
  let arg85 : BitVec 32 := Scf.iv c0_i32_477 c1_i32_479 k0_t121
  let v144 : Index := Scalar.indexCast arg85
  let c1 : Index := 1#32
  ![0, v144.toNat, 1]
def k0_off659 (k0_t121 : Fin k0_t121_loop.trips) : Fin 3 → Nat :=
  let c0_549 : Index := 0#32
  let c0_i32_477 : BitVec 32 := 0#32
  let c1_i32_479 : BitVec 32 := 1#32
  let arg85 : BitVec 32 := Scf.iv c0_i32_477 c1_i32_479 k0_t121
  let v153 : Index := Scalar.indexCast arg85
  let c2 : Index := 2#32
  ![0, v153.toNat, 2]
def k0_off660 (k0_t121 : Fin k0_t121_loop.trips) : Fin 3 → Nat :=
  let c0_553 : Index := 0#32
  let c0_i32_477 : BitVec 32 := 0#32
  let c1_i32_479 : BitVec 32 := 1#32
  let arg85 : BitVec 32 := Scf.iv c0_i32_477 c1_i32_479 k0_t121
  let v162 : Index := Scalar.indexCast arg85
  let c3 : Index := 3#32
  ![0, v162.toNat, 3]
def k0_off661 (k0_t121 : Fin k0_t121_loop.trips) : Fin 3 → Nat :=
  let c0_557 : Index := 0#32
  let c0_i32_477 : BitVec 32 := 0#32
  let c1_i32_479 : BitVec 32 := 1#32
  let arg85 : BitVec 32 := Scf.iv c0_i32_477 c1_i32_479 k0_t121
  let v171 : Index := Scalar.indexCast arg85
  let c4 : Index := 4#32
  ![0, v171.toNat, 4]
def k0_off662 (k0_t121 : Fin k0_t121_loop.trips) : Fin 3 → Nat :=
  let c0_561 : Index := 0#32
  let c64_i32 : BitVec 32 := 64#32
  let c0_i32_477 : BitVec 32 := 0#32
  let c1_i32_479 : BitVec 32 := 1#32
  let arg85 : BitVec 32 := Scf.iv c0_i32_477 c1_i32_479 k0_t121
  let v180 : BitVec 32 := Scalar.addi c64_i32 arg85
  let v181 : Index := Scalar.indexCast v180
  let c0_562 : Index := 0#32
  ![0, v181.toNat, 0]
@[reducible] def k0_t122_loop : Scf.Loop 32 :=
  let c0_i32_481 : BitVec 32 := 0#32
  let c16_i32_482 : BitVec 32 := 16#32
  let v121 : BitVec 32 := Scalar.addi c0_i32_481 c16_i32_482
  let c1_i32_483 : BitVec 32 := 1#32
  ⟨c0_i32_481, v121, c1_i32_483⟩
def k0_off663 (k0_t122 : Fin k0_t122_loop.trips) : Fin 3 → Nat :=
  let c0 : Index := 0#32
  let c0_i32_481 : BitVec 32 := 0#32
  let c1_i32_483 : BitVec 32 := 1#32
  let arg85 : BitVec 32 := Scf.iv c0_i32_481 c1_i32_483 k0_t122
  let v136 : Index := Scalar.indexCast arg85
  let c0_541 : Index := 0#32
  ![0, v136.toNat, 0]
def k0_off664 (k0_t122 : Fin k0_t122_loop.trips) : Fin 3 → Nat :=
  let c0_545 : Index := 0#32
  let c0_i32_481 : BitVec 32 := 0#32
  let c1_i32_483 : BitVec 32 := 1#32
  let arg85 : BitVec 32 := Scf.iv c0_i32_481 c1_i32_483 k0_t122
  let v144 : Index := Scalar.indexCast arg85
  let c1 : Index := 1#32
  ![0, v144.toNat, 1]
def k0_off665 (k0_t122 : Fin k0_t122_loop.trips) : Fin 3 → Nat :=
  let c0_549 : Index := 0#32
  let c0_i32_481 : BitVec 32 := 0#32
  let c1_i32_483 : BitVec 32 := 1#32
  let arg85 : BitVec 32 := Scf.iv c0_i32_481 c1_i32_483 k0_t122
  let v153 : Index := Scalar.indexCast arg85
  let c2 : Index := 2#32
  ![0, v153.toNat, 2]
def k0_off666 (k0_t122 : Fin k0_t122_loop.trips) : Fin 3 → Nat :=
  let c0_553 : Index := 0#32
  let c0_i32_481 : BitVec 32 := 0#32
  let c1_i32_483 : BitVec 32 := 1#32
  let arg85 : BitVec 32 := Scf.iv c0_i32_481 c1_i32_483 k0_t122
  let v162 : Index := Scalar.indexCast arg85
  let c3 : Index := 3#32
  ![0, v162.toNat, 3]
def k0_off667 (k0_t122 : Fin k0_t122_loop.trips) : Fin 3 → Nat :=
  let c0_557 : Index := 0#32
  let c0_i32_481 : BitVec 32 := 0#32
  let c1_i32_483 : BitVec 32 := 1#32
  let arg85 : BitVec 32 := Scf.iv c0_i32_481 c1_i32_483 k0_t122
  let v171 : Index := Scalar.indexCast arg85
  let c4 : Index := 4#32
  ![0, v171.toNat, 4]
def k0_off668 (k0_t122 : Fin k0_t122_loop.trips) : Fin 3 → Nat :=
  let c0_561 : Index := 0#32
  let c80_i32 : BitVec 32 := 80#32
  let c0_i32_481 : BitVec 32 := 0#32
  let c1_i32_483 : BitVec 32 := 1#32
  let arg85 : BitVec 32 := Scf.iv c0_i32_481 c1_i32_483 k0_t122
  let v180 : BitVec 32 := Scalar.addi c80_i32 arg85
  let v181 : Index := Scalar.indexCast v180
  let c0_562 : Index := 0#32
  ![0, v181.toNat, 0]
@[reducible] def k0_t123_loop : Scf.Loop 32 :=
  let c0_i32_485 : BitVec 32 := 0#32
  let c16_i32_486 : BitVec 32 := 16#32
  let v122 : BitVec 32 := Scalar.addi c0_i32_485 c16_i32_486
  let c1_i32_487 : BitVec 32 := 1#32
  ⟨c0_i32_485, v122, c1_i32_487⟩
def k0_off669 (k0_t123 : Fin k0_t123_loop.trips) : Fin 3 → Nat :=
  let c0 : Index := 0#32
  let c0_i32_485 : BitVec 32 := 0#32
  let c1_i32_487 : BitVec 32 := 1#32
  let arg85 : BitVec 32 := Scf.iv c0_i32_485 c1_i32_487 k0_t123
  let v136 : Index := Scalar.indexCast arg85
  let c0_541 : Index := 0#32
  ![0, v136.toNat, 0]
def k0_off670 (k0_t123 : Fin k0_t123_loop.trips) : Fin 3 → Nat :=
  let c0_545 : Index := 0#32
  let c0_i32_485 : BitVec 32 := 0#32
  let c1_i32_487 : BitVec 32 := 1#32
  let arg85 : BitVec 32 := Scf.iv c0_i32_485 c1_i32_487 k0_t123
  let v144 : Index := Scalar.indexCast arg85
  let c1 : Index := 1#32
  ![0, v144.toNat, 1]
def k0_off671 (k0_t123 : Fin k0_t123_loop.trips) : Fin 3 → Nat :=
  let c0_549 : Index := 0#32
  let c0_i32_485 : BitVec 32 := 0#32
  let c1_i32_487 : BitVec 32 := 1#32
  let arg85 : BitVec 32 := Scf.iv c0_i32_485 c1_i32_487 k0_t123
  let v153 : Index := Scalar.indexCast arg85
  let c2 : Index := 2#32
  ![0, v153.toNat, 2]
def k0_off672 (k0_t123 : Fin k0_t123_loop.trips) : Fin 3 → Nat :=
  let c0_553 : Index := 0#32
  let c0_i32_485 : BitVec 32 := 0#32
  let c1_i32_487 : BitVec 32 := 1#32
  let arg85 : BitVec 32 := Scf.iv c0_i32_485 c1_i32_487 k0_t123
  let v162 : Index := Scalar.indexCast arg85
  let c3 : Index := 3#32
  ![0, v162.toNat, 3]
def k0_off673 (k0_t123 : Fin k0_t123_loop.trips) : Fin 3 → Nat :=
  let c0_557 : Index := 0#32
  let c0_i32_485 : BitVec 32 := 0#32
  let c1_i32_487 : BitVec 32 := 1#32
  let arg85 : BitVec 32 := Scf.iv c0_i32_485 c1_i32_487 k0_t123
  let v171 : Index := Scalar.indexCast arg85
  let c4 : Index := 4#32
  ![0, v171.toNat, 4]
def k0_off674 (k0_t123 : Fin k0_t123_loop.trips) : Fin 3 → Nat :=
  let c0_561 : Index := 0#32
  let c0_i32_485 : BitVec 32 := 0#32
  let c1_i32_487 : BitVec 32 := 1#32
  let arg85 : BitVec 32 := Scf.iv c0_i32_485 c1_i32_487 k0_t123
  let v180 : Index := Scalar.indexCast arg85
  let c5 : Index := 5#32
  ![0, v180.toNat, 5]
def k0_off675 (k0_t123 : Fin k0_t123_loop.trips) : Fin 3 → Nat :=
  let c0_565 : Index := 0#32
  let c0_i32_485 : BitVec 32 := 0#32
  let c1_i32_487 : BitVec 32 := 1#32
  let arg85 : BitVec 32 := Scf.iv c0_i32_485 c1_i32_487 k0_t123
  let v189 : Index := Scalar.indexCast arg85
  let c6 : Index := 6#32
  ![0, v189.toNat, 6]
def k0_off676 (k0_t123 : Fin k0_t123_loop.trips) : Fin 3 → Nat :=
  let c0_569 : Index := 0#32
  let c96_i32 : BitVec 32 := 96#32
  let c0_i32_485 : BitVec 32 := 0#32
  let c1_i32_487 : BitVec 32 := 1#32
  let arg85 : BitVec 32 := Scf.iv c0_i32_485 c1_i32_487 k0_t123
  let v198 : BitVec 32 := Scalar.addi c96_i32 arg85
  let v199 : Index := Scalar.indexCast v198
  let c0_570 : Index := 0#32
  ![0, v199.toNat, 0]
@[reducible] def k0_t124_loop : Scf.Loop 32 :=
  let c0_i32_489 : BitVec 32 := 0#32
  let c16_i32_490 : BitVec 32 := 16#32
  let v123 : BitVec 32 := Scalar.addi c0_i32_489 c16_i32_490
  let c1_i32_491 : BitVec 32 := 1#32
  ⟨c0_i32_489, v123, c1_i32_491⟩
def k0_off677 (k0_t124 : Fin k0_t124_loop.trips) : Fin 3 → Nat :=
  let c0 : Index := 0#32
  let c0_i32_489 : BitVec 32 := 0#32
  let c1_i32_491 : BitVec 32 := 1#32
  let arg85 : BitVec 32 := Scf.iv c0_i32_489 c1_i32_491 k0_t124
  let v136 : Index := Scalar.indexCast arg85
  let c0_541 : Index := 0#32
  ![0, v136.toNat, 0]
def k0_off678 (k0_t124 : Fin k0_t124_loop.trips) : Fin 3 → Nat :=
  let c0_545 : Index := 0#32
  let c0_i32_489 : BitVec 32 := 0#32
  let c1_i32_491 : BitVec 32 := 1#32
  let arg85 : BitVec 32 := Scf.iv c0_i32_489 c1_i32_491 k0_t124
  let v144 : Index := Scalar.indexCast arg85
  let c1 : Index := 1#32
  ![0, v144.toNat, 1]
def k0_off679 (k0_t124 : Fin k0_t124_loop.trips) : Fin 3 → Nat :=
  let c0_549 : Index := 0#32
  let c0_i32_489 : BitVec 32 := 0#32
  let c1_i32_491 : BitVec 32 := 1#32
  let arg85 : BitVec 32 := Scf.iv c0_i32_489 c1_i32_491 k0_t124
  let v153 : Index := Scalar.indexCast arg85
  let c2 : Index := 2#32
  ![0, v153.toNat, 2]
def k0_off680 (k0_t124 : Fin k0_t124_loop.trips) : Fin 3 → Nat :=
  let c0_553 : Index := 0#32
  let c0_i32_489 : BitVec 32 := 0#32
  let c1_i32_491 : BitVec 32 := 1#32
  let arg85 : BitVec 32 := Scf.iv c0_i32_489 c1_i32_491 k0_t124
  let v162 : Index := Scalar.indexCast arg85
  let c3 : Index := 3#32
  ![0, v162.toNat, 3]
def k0_off681 (k0_t124 : Fin k0_t124_loop.trips) : Fin 3 → Nat :=
  let c0_557 : Index := 0#32
  let c0_i32_489 : BitVec 32 := 0#32
  let c1_i32_491 : BitVec 32 := 1#32
  let arg85 : BitVec 32 := Scf.iv c0_i32_489 c1_i32_491 k0_t124
  let v171 : Index := Scalar.indexCast arg85
  let c4 : Index := 4#32
  ![0, v171.toNat, 4]
def k0_off682 (k0_t124 : Fin k0_t124_loop.trips) : Fin 3 → Nat :=
  let c0_561 : Index := 0#32
  let c0_i32_489 : BitVec 32 := 0#32
  let c1_i32_491 : BitVec 32 := 1#32
  let arg85 : BitVec 32 := Scf.iv c0_i32_489 c1_i32_491 k0_t124
  let v180 : Index := Scalar.indexCast arg85
  let c5 : Index := 5#32
  ![0, v180.toNat, 5]
def k0_off683 (k0_t124 : Fin k0_t124_loop.trips) : Fin 3 → Nat :=
  let c0_565 : Index := 0#32
  let c0_i32_489 : BitVec 32 := 0#32
  let c1_i32_491 : BitVec 32 := 1#32
  let arg85 : BitVec 32 := Scf.iv c0_i32_489 c1_i32_491 k0_t124
  let v189 : Index := Scalar.indexCast arg85
  let c6 : Index := 6#32
  ![0, v189.toNat, 6]
def k0_off684 (k0_t124 : Fin k0_t124_loop.trips) : Fin 3 → Nat :=
  let c0_569 : Index := 0#32
  let c112_i32 : BitVec 32 := 112#32
  let c0_i32_489 : BitVec 32 := 0#32
  let c1_i32_491 : BitVec 32 := 1#32
  let arg85 : BitVec 32 := Scf.iv c0_i32_489 c1_i32_491 k0_t124
  let v198 : BitVec 32 := Scalar.addi c112_i32 arg85
  let v199 : Index := Scalar.indexCast v198
  let c0_570 : Index := 0#32
  ![0, v199.toNat, 0]
@[reducible] def k0_t125_loop : Scf.Loop 32 :=
  let c0_i32_493 : BitVec 32 := 0#32
  let c16_i32_494 : BitVec 32 := 16#32
  let v124 : BitVec 32 := Scalar.addi c0_i32_493 c16_i32_494
  let c1_i32_495 : BitVec 32 := 1#32
  ⟨c0_i32_493, v124, c1_i32_495⟩
def k0_off685 (k0_t125 : Fin k0_t125_loop.trips) : Fin 3 → Nat :=
  let c0 : Index := 0#32
  let c0_i32_493 : BitVec 32 := 0#32
  let c1_i32_495 : BitVec 32 := 1#32
  let arg85 : BitVec 32 := Scf.iv c0_i32_493 c1_i32_495 k0_t125
  let v136 : Index := Scalar.indexCast arg85
  let c0_541 : Index := 0#32
  ![0, v136.toNat, 0]
def k0_off686 (k0_t125 : Fin k0_t125_loop.trips) : Fin 3 → Nat :=
  let c0_545 : Index := 0#32
  let c0_i32_493 : BitVec 32 := 0#32
  let c1_i32_495 : BitVec 32 := 1#32
  let arg85 : BitVec 32 := Scf.iv c0_i32_493 c1_i32_495 k0_t125
  let v144 : Index := Scalar.indexCast arg85
  let c1 : Index := 1#32
  ![0, v144.toNat, 1]
def k0_off687 (k0_t125 : Fin k0_t125_loop.trips) : Fin 3 → Nat :=
  let c0_549 : Index := 0#32
  let c0_i32_493 : BitVec 32 := 0#32
  let c1_i32_495 : BitVec 32 := 1#32
  let arg85 : BitVec 32 := Scf.iv c0_i32_493 c1_i32_495 k0_t125
  let v153 : Index := Scalar.indexCast arg85
  let c2 : Index := 2#32
  ![0, v153.toNat, 2]
def k0_off688 (k0_t125 : Fin k0_t125_loop.trips) : Fin 3 → Nat :=
  let c0_553 : Index := 0#32
  let c0_i32_493 : BitVec 32 := 0#32
  let c1_i32_495 : BitVec 32 := 1#32
  let arg85 : BitVec 32 := Scf.iv c0_i32_493 c1_i32_495 k0_t125
  let v162 : Index := Scalar.indexCast arg85
  let c3 : Index := 3#32
  ![0, v162.toNat, 3]
def k0_off689 (k0_t125 : Fin k0_t125_loop.trips) : Fin 3 → Nat :=
  let c0_557 : Index := 0#32
  let c0_i32_493 : BitVec 32 := 0#32
  let c1_i32_495 : BitVec 32 := 1#32
  let arg85 : BitVec 32 := Scf.iv c0_i32_493 c1_i32_495 k0_t125
  let v171 : Index := Scalar.indexCast arg85
  let c4 : Index := 4#32
  ![0, v171.toNat, 4]
def k0_off690 (k0_t125 : Fin k0_t125_loop.trips) : Fin 3 → Nat :=
  let c0_561 : Index := 0#32
  let c0_i32_493 : BitVec 32 := 0#32
  let c1_i32_495 : BitVec 32 := 1#32
  let arg85 : BitVec 32 := Scf.iv c0_i32_493 c1_i32_495 k0_t125
  let v180 : Index := Scalar.indexCast arg85
  let c5 : Index := 5#32
  ![0, v180.toNat, 5]
def k0_off691 (k0_t125 : Fin k0_t125_loop.trips) : Fin 3 → Nat :=
  let c0_565 : Index := 0#32
  let c0_i32_493 : BitVec 32 := 0#32
  let c1_i32_495 : BitVec 32 := 1#32
  let arg85 : BitVec 32 := Scf.iv c0_i32_493 c1_i32_495 k0_t125
  let v189 : Index := Scalar.indexCast arg85
  let c6 : Index := 6#32
  ![0, v189.toNat, 6]
def k0_off692 (k0_t125 : Fin k0_t125_loop.trips) : Fin 3 → Nat :=
  let c0_569 : Index := 0#32
  let c128_i32 : BitVec 32 := 128#32
  let c0_i32_493 : BitVec 32 := 0#32
  let c1_i32_495 : BitVec 32 := 1#32
  let arg85 : BitVec 32 := Scf.iv c0_i32_493 c1_i32_495 k0_t125
  let v198 : BitVec 32 := Scalar.addi c128_i32 arg85
  let v199 : Index := Scalar.indexCast v198
  let c0_570 : Index := 0#32
  ![0, v199.toNat, 0]
@[reducible] def k0_t126_loop : Scf.Loop 32 :=
  let c0_i32_497 : BitVec 32 := 0#32
  let c16_i32_498 : BitVec 32 := 16#32
  let v125 : BitVec 32 := Scalar.addi c0_i32_497 c16_i32_498
  let c1_i32_499 : BitVec 32 := 1#32
  ⟨c0_i32_497, v125, c1_i32_499⟩
def k0_off693 (k0_t126 : Fin k0_t126_loop.trips) : Fin 3 → Nat :=
  let c0 : Index := 0#32
  let c0_i32_497 : BitVec 32 := 0#32
  let c1_i32_499 : BitVec 32 := 1#32
  let arg85 : BitVec 32 := Scf.iv c0_i32_497 c1_i32_499 k0_t126
  let v136 : Index := Scalar.indexCast arg85
  let c0_541 : Index := 0#32
  ![0, v136.toNat, 0]
def k0_off694 (k0_t126 : Fin k0_t126_loop.trips) : Fin 3 → Nat :=
  let c0_545 : Index := 0#32
  let c0_i32_497 : BitVec 32 := 0#32
  let c1_i32_499 : BitVec 32 := 1#32
  let arg85 : BitVec 32 := Scf.iv c0_i32_497 c1_i32_499 k0_t126
  let v144 : Index := Scalar.indexCast arg85
  let c1 : Index := 1#32
  ![0, v144.toNat, 1]
def k0_off695 (k0_t126 : Fin k0_t126_loop.trips) : Fin 3 → Nat :=
  let c0_549 : Index := 0#32
  let c0_i32_497 : BitVec 32 := 0#32
  let c1_i32_499 : BitVec 32 := 1#32
  let arg85 : BitVec 32 := Scf.iv c0_i32_497 c1_i32_499 k0_t126
  let v153 : Index := Scalar.indexCast arg85
  let c2 : Index := 2#32
  ![0, v153.toNat, 2]
def k0_off696 (k0_t126 : Fin k0_t126_loop.trips) : Fin 3 → Nat :=
  let c0_553 : Index := 0#32
  let c0_i32_497 : BitVec 32 := 0#32
  let c1_i32_499 : BitVec 32 := 1#32
  let arg85 : BitVec 32 := Scf.iv c0_i32_497 c1_i32_499 k0_t126
  let v162 : Index := Scalar.indexCast arg85
  let c3 : Index := 3#32
  ![0, v162.toNat, 3]
def k0_off697 (k0_t126 : Fin k0_t126_loop.trips) : Fin 3 → Nat :=
  let c0_557 : Index := 0#32
  let c0_i32_497 : BitVec 32 := 0#32
  let c1_i32_499 : BitVec 32 := 1#32
  let arg85 : BitVec 32 := Scf.iv c0_i32_497 c1_i32_499 k0_t126
  let v171 : Index := Scalar.indexCast arg85
  let c4 : Index := 4#32
  ![0, v171.toNat, 4]
def k0_off698 (k0_t126 : Fin k0_t126_loop.trips) : Fin 3 → Nat :=
  let c0_561 : Index := 0#32
  let c0_i32_497 : BitVec 32 := 0#32
  let c1_i32_499 : BitVec 32 := 1#32
  let arg85 : BitVec 32 := Scf.iv c0_i32_497 c1_i32_499 k0_t126
  let v180 : Index := Scalar.indexCast arg85
  let c5 : Index := 5#32
  ![0, v180.toNat, 5]
def k0_off699 (k0_t126 : Fin k0_t126_loop.trips) : Fin 3 → Nat :=
  let c0_565 : Index := 0#32
  let c0_i32_497 : BitVec 32 := 0#32
  let c1_i32_499 : BitVec 32 := 1#32
  let arg85 : BitVec 32 := Scf.iv c0_i32_497 c1_i32_499 k0_t126
  let v189 : Index := Scalar.indexCast arg85
  let c6 : Index := 6#32
  ![0, v189.toNat, 6]
def k0_off700 (k0_t126 : Fin k0_t126_loop.trips) : Fin 3 → Nat :=
  let c0_569 : Index := 0#32
  let c144_i32 : BitVec 32 := 144#32
  let c0_i32_497 : BitVec 32 := 0#32
  let c1_i32_499 : BitVec 32 := 1#32
  let arg85 : BitVec 32 := Scf.iv c0_i32_497 c1_i32_499 k0_t126
  let v198 : BitVec 32 := Scalar.addi c144_i32 arg85
  let v199 : Index := Scalar.indexCast v198
  let c0_570 : Index := 0#32
  ![0, v199.toNat, 0]
@[reducible] def k0_t127_loop : Scf.Loop 32 :=
  let c0_i32_501 : BitVec 32 := 0#32
  let c16_i32_502 : BitVec 32 := 16#32
  let v126 : BitVec 32 := Scalar.addi c0_i32_501 c16_i32_502
  let c1_i32_503 : BitVec 32 := 1#32
  ⟨c0_i32_501, v126, c1_i32_503⟩
def k0_off701 (k0_t127 : Fin k0_t127_loop.trips) : Fin 3 → Nat :=
  let c0 : Index := 0#32
  let c0_i32_501 : BitVec 32 := 0#32
  let c1_i32_503 : BitVec 32 := 1#32
  let arg85 : BitVec 32 := Scf.iv c0_i32_501 c1_i32_503 k0_t127
  let v136 : Index := Scalar.indexCast arg85
  let c0_541 : Index := 0#32
  ![0, v136.toNat, 0]
def k0_off702 (k0_t127 : Fin k0_t127_loop.trips) : Fin 3 → Nat :=
  let c0_545 : Index := 0#32
  let c160_i32 : BitVec 32 := 160#32
  let c0_i32_501 : BitVec 32 := 0#32
  let c1_i32_503 : BitVec 32 := 1#32
  let arg85 : BitVec 32 := Scf.iv c0_i32_501 c1_i32_503 k0_t127
  let v144 : BitVec 32 := Scalar.addi c160_i32 arg85
  let v145 : Index := Scalar.indexCast v144
  let c0_546 : Index := 0#32
  ![0, v145.toNat, 0]
@[reducible] def k0_t128_loop : Scf.Loop 32 :=
  let c0_i32_505 : BitVec 32 := 0#32
  let c16_i32_506 : BitVec 32 := 16#32
  let v127 : BitVec 32 := Scalar.addi c0_i32_505 c16_i32_506
  let c1_i32_507 : BitVec 32 := 1#32
  ⟨c0_i32_505, v127, c1_i32_507⟩
def k0_off703 (k0_t128 : Fin k0_t128_loop.trips) : Fin 3 → Nat :=
  let c0 : Index := 0#32
  let c0_i32_505 : BitVec 32 := 0#32
  let c1_i32_507 : BitVec 32 := 1#32
  let arg85 : BitVec 32 := Scf.iv c0_i32_505 c1_i32_507 k0_t128
  let v136 : Index := Scalar.indexCast arg85
  let c0_541 : Index := 0#32
  ![0, v136.toNat, 0]
def k0_off704 (k0_t128 : Fin k0_t128_loop.trips) : Fin 3 → Nat :=
  let c0_545 : Index := 0#32
  let c0_i32_505 : BitVec 32 := 0#32
  let c1_i32_507 : BitVec 32 := 1#32
  let arg85 : BitVec 32 := Scf.iv c0_i32_505 c1_i32_507 k0_t128
  let v144 : Index := Scalar.indexCast arg85
  let c1 : Index := 1#32
  ![0, v144.toNat, 1]
def k0_off705 (k0_t128 : Fin k0_t128_loop.trips) : Fin 3 → Nat :=
  let c0_549 : Index := 0#32
  let c0_i32_505 : BitVec 32 := 0#32
  let c1_i32_507 : BitVec 32 := 1#32
  let arg85 : BitVec 32 := Scf.iv c0_i32_505 c1_i32_507 k0_t128
  let v153 : Index := Scalar.indexCast arg85
  let c2 : Index := 2#32
  ![0, v153.toNat, 2]
def k0_off706 (k0_t128 : Fin k0_t128_loop.trips) : Fin 3 → Nat :=
  let c0_553 : Index := 0#32
  let c176_i32 : BitVec 32 := 176#32
  let c0_i32_505 : BitVec 32 := 0#32
  let c1_i32_507 : BitVec 32 := 1#32
  let arg85 : BitVec 32 := Scf.iv c0_i32_505 c1_i32_507 k0_t128
  let v162 : BitVec 32 := Scalar.addi c176_i32 arg85
  let v163 : Index := Scalar.indexCast v162
  let c0_554 : Index := 0#32
  ![0, v163.toNat, 0]
@[reducible] def k0_t129_loop : Scf.Loop 32 :=
  let c0_i32_509 : BitVec 32 := 0#32
  let c16_i32_510 : BitVec 32 := 16#32
  let v128 : BitVec 32 := Scalar.addi c0_i32_509 c16_i32_510
  let c1_i32_511 : BitVec 32 := 1#32
  ⟨c0_i32_509, v128, c1_i32_511⟩
def k0_off707 (k0_t129 : Fin k0_t129_loop.trips) : Fin 3 → Nat :=
  let c0 : Index := 0#32
  let c0_i32_509 : BitVec 32 := 0#32
  let c1_i32_511 : BitVec 32 := 1#32
  let arg85 : BitVec 32 := Scf.iv c0_i32_509 c1_i32_511 k0_t129
  let v136 : Index := Scalar.indexCast arg85
  let c0_541 : Index := 0#32
  ![0, v136.toNat, 0]
def k0_off708 (k0_t129 : Fin k0_t129_loop.trips) : Fin 3 → Nat :=
  let c0_545 : Index := 0#32
  let c0_i32_509 : BitVec 32 := 0#32
  let c1_i32_511 : BitVec 32 := 1#32
  let arg85 : BitVec 32 := Scf.iv c0_i32_509 c1_i32_511 k0_t129
  let v144 : Index := Scalar.indexCast arg85
  let c1 : Index := 1#32
  ![0, v144.toNat, 1]
def k0_off709 (k0_t129 : Fin k0_t129_loop.trips) : Fin 3 → Nat :=
  let c0_549 : Index := 0#32
  let c0_i32_509 : BitVec 32 := 0#32
  let c1_i32_511 : BitVec 32 := 1#32
  let arg85 : BitVec 32 := Scf.iv c0_i32_509 c1_i32_511 k0_t129
  let v153 : Index := Scalar.indexCast arg85
  let c2 : Index := 2#32
  ![0, v153.toNat, 2]
def k0_off710 (k0_t129 : Fin k0_t129_loop.trips) : Fin 3 → Nat :=
  let c0_553 : Index := 0#32
  let c192_i32 : BitVec 32 := 192#32
  let c0_i32_509 : BitVec 32 := 0#32
  let c1_i32_511 : BitVec 32 := 1#32
  let arg85 : BitVec 32 := Scf.iv c0_i32_509 c1_i32_511 k0_t129
  let v162 : BitVec 32 := Scalar.addi c192_i32 arg85
  let v163 : Index := Scalar.indexCast v162
  let c0_554 : Index := 0#32
  ![0, v163.toNat, 0]
@[reducible] def k0_t130_loop : Scf.Loop 32 :=
  let c0_i32_513 : BitVec 32 := 0#32
  let c16_i32_514 : BitVec 32 := 16#32
  let v129 : BitVec 32 := Scalar.addi c0_i32_513 c16_i32_514
  let c1_i32_515 : BitVec 32 := 1#32
  ⟨c0_i32_513, v129, c1_i32_515⟩
def k0_off711 (k0_t130 : Fin k0_t130_loop.trips) : Fin 3 → Nat :=
  let c0 : Index := 0#32
  let c0_i32_513 : BitVec 32 := 0#32
  let c1_i32_515 : BitVec 32 := 1#32
  let arg85 : BitVec 32 := Scf.iv c0_i32_513 c1_i32_515 k0_t130
  let v136 : Index := Scalar.indexCast arg85
  let c0_541 : Index := 0#32
  ![0, v136.toNat, 0]
def k0_off712 (k0_t130 : Fin k0_t130_loop.trips) : Fin 3 → Nat :=
  let c0_545 : Index := 0#32
  let c0_i32_513 : BitVec 32 := 0#32
  let c1_i32_515 : BitVec 32 := 1#32
  let arg85 : BitVec 32 := Scf.iv c0_i32_513 c1_i32_515 k0_t130
  let v144 : Index := Scalar.indexCast arg85
  let c1 : Index := 1#32
  ![0, v144.toNat, 1]
def k0_off713 (k0_t130 : Fin k0_t130_loop.trips) : Fin 3 → Nat :=
  let c0_549 : Index := 0#32
  let c0_i32_513 : BitVec 32 := 0#32
  let c1_i32_515 : BitVec 32 := 1#32
  let arg85 : BitVec 32 := Scf.iv c0_i32_513 c1_i32_515 k0_t130
  let v153 : Index := Scalar.indexCast arg85
  let c2 : Index := 2#32
  ![0, v153.toNat, 2]
def k0_off714 (k0_t130 : Fin k0_t130_loop.trips) : Fin 3 → Nat :=
  let c0_553 : Index := 0#32
  let c0_i32_513 : BitVec 32 := 0#32
  let c1_i32_515 : BitVec 32 := 1#32
  let arg85 : BitVec 32 := Scf.iv c0_i32_513 c1_i32_515 k0_t130
  let v162 : Index := Scalar.indexCast arg85
  let c3 : Index := 3#32
  ![0, v162.toNat, 3]
def k0_off715 (k0_t130 : Fin k0_t130_loop.trips) : Fin 3 → Nat :=
  let c0_557 : Index := 0#32
  let c0_i32_513 : BitVec 32 := 0#32
  let c1_i32_515 : BitVec 32 := 1#32
  let arg85 : BitVec 32 := Scf.iv c0_i32_513 c1_i32_515 k0_t130
  let v171 : Index := Scalar.indexCast arg85
  let c4 : Index := 4#32
  ![0, v171.toNat, 4]
def k0_off716 (k0_t130 : Fin k0_t130_loop.trips) : Fin 3 → Nat :=
  let c0_561 : Index := 0#32
  let c208_i32 : BitVec 32 := 208#32
  let c0_i32_513 : BitVec 32 := 0#32
  let c1_i32_515 : BitVec 32 := 1#32
  let arg85 : BitVec 32 := Scf.iv c0_i32_513 c1_i32_515 k0_t130
  let v180 : BitVec 32 := Scalar.addi c208_i32 arg85
  let v181 : Index := Scalar.indexCast v180
  let c0_562 : Index := 0#32
  ![0, v181.toNat, 0]
@[reducible] def k0_t131_loop : Scf.Loop 32 :=
  let c0_i32_517 : BitVec 32 := 0#32
  let c16_i32_518 : BitVec 32 := 16#32
  let v130 : BitVec 32 := Scalar.addi c0_i32_517 c16_i32_518
  let c1_i32_519 : BitVec 32 := 1#32
  ⟨c0_i32_517, v130, c1_i32_519⟩
def k0_off717 (k0_t131 : Fin k0_t131_loop.trips) : Fin 3 → Nat :=
  let c0 : Index := 0#32
  let c0_i32_517 : BitVec 32 := 0#32
  let c1_i32_519 : BitVec 32 := 1#32
  let arg85 : BitVec 32 := Scf.iv c0_i32_517 c1_i32_519 k0_t131
  let v136 : Index := Scalar.indexCast arg85
  let c0_541 : Index := 0#32
  ![0, v136.toNat, 0]
def k0_off718 (k0_t131 : Fin k0_t131_loop.trips) : Fin 3 → Nat :=
  let c0_545 : Index := 0#32
  let c0_i32_517 : BitVec 32 := 0#32
  let c1_i32_519 : BitVec 32 := 1#32
  let arg85 : BitVec 32 := Scf.iv c0_i32_517 c1_i32_519 k0_t131
  let v144 : Index := Scalar.indexCast arg85
  let c1 : Index := 1#32
  ![0, v144.toNat, 1]
def k0_off719 (k0_t131 : Fin k0_t131_loop.trips) : Fin 3 → Nat :=
  let c0_549 : Index := 0#32
  let c0_i32_517 : BitVec 32 := 0#32
  let c1_i32_519 : BitVec 32 := 1#32
  let arg85 : BitVec 32 := Scf.iv c0_i32_517 c1_i32_519 k0_t131
  let v153 : Index := Scalar.indexCast arg85
  let c2 : Index := 2#32
  ![0, v153.toNat, 2]
def k0_off720 (k0_t131 : Fin k0_t131_loop.trips) : Fin 3 → Nat :=
  let c0_553 : Index := 0#32
  let c0_i32_517 : BitVec 32 := 0#32
  let c1_i32_519 : BitVec 32 := 1#32
  let arg85 : BitVec 32 := Scf.iv c0_i32_517 c1_i32_519 k0_t131
  let v162 : Index := Scalar.indexCast arg85
  let c3 : Index := 3#32
  ![0, v162.toNat, 3]
def k0_off721 (k0_t131 : Fin k0_t131_loop.trips) : Fin 3 → Nat :=
  let c0_557 : Index := 0#32
  let c0_i32_517 : BitVec 32 := 0#32
  let c1_i32_519 : BitVec 32 := 1#32
  let arg85 : BitVec 32 := Scf.iv c0_i32_517 c1_i32_519 k0_t131
  let v171 : Index := Scalar.indexCast arg85
  let c4 : Index := 4#32
  ![0, v171.toNat, 4]
def k0_off722 (k0_t131 : Fin k0_t131_loop.trips) : Fin 3 → Nat :=
  let c0_561 : Index := 0#32
  let c224_i32 : BitVec 32 := 224#32
  let c0_i32_517 : BitVec 32 := 0#32
  let c1_i32_519 : BitVec 32 := 1#32
  let arg85 : BitVec 32 := Scf.iv c0_i32_517 c1_i32_519 k0_t131
  let v180 : BitVec 32 := Scalar.addi c224_i32 arg85
  let v181 : Index := Scalar.indexCast v180
  let c0_562 : Index := 0#32
  ![0, v181.toNat, 0]
@[reducible] def k0_t132_loop : Scf.Loop 32 :=
  let c0_i32_521 : BitVec 32 := 0#32
  let c16_i32_522 : BitVec 32 := 16#32
  let v131 : BitVec 32 := Scalar.addi c0_i32_521 c16_i32_522
  let c1_i32_523 : BitVec 32 := 1#32
  ⟨c0_i32_521, v131, c1_i32_523⟩
def k0_off723 (k0_t132 : Fin k0_t132_loop.trips) : Fin 3 → Nat :=
  let c0 : Index := 0#32
  let c0_i32_521 : BitVec 32 := 0#32
  let c1_i32_523 : BitVec 32 := 1#32
  let arg85 : BitVec 32 := Scf.iv c0_i32_521 c1_i32_523 k0_t132
  let v136 : Index := Scalar.indexCast arg85
  let c0_541 : Index := 0#32
  ![0, v136.toNat, 0]
def k0_off724 (k0_t132 : Fin k0_t132_loop.trips) : Fin 3 → Nat :=
  let c0_545 : Index := 0#32
  let c0_i32_521 : BitVec 32 := 0#32
  let c1_i32_523 : BitVec 32 := 1#32
  let arg85 : BitVec 32 := Scf.iv c0_i32_521 c1_i32_523 k0_t132
  let v144 : Index := Scalar.indexCast arg85
  let c1 : Index := 1#32
  ![0, v144.toNat, 1]
def k0_off725 (k0_t132 : Fin k0_t132_loop.trips) : Fin 3 → Nat :=
  let c0_549 : Index := 0#32
  let c0_i32_521 : BitVec 32 := 0#32
  let c1_i32_523 : BitVec 32 := 1#32
  let arg85 : BitVec 32 := Scf.iv c0_i32_521 c1_i32_523 k0_t132
  let v153 : Index := Scalar.indexCast arg85
  let c2 : Index := 2#32
  ![0, v153.toNat, 2]
def k0_off726 (k0_t132 : Fin k0_t132_loop.trips) : Fin 3 → Nat :=
  let c0_553 : Index := 0#32
  let c0_i32_521 : BitVec 32 := 0#32
  let c1_i32_523 : BitVec 32 := 1#32
  let arg85 : BitVec 32 := Scf.iv c0_i32_521 c1_i32_523 k0_t132
  let v162 : Index := Scalar.indexCast arg85
  let c3 : Index := 3#32
  ![0, v162.toNat, 3]
def k0_off727 (k0_t132 : Fin k0_t132_loop.trips) : Fin 3 → Nat :=
  let c0_557 : Index := 0#32
  let c0_i32_521 : BitVec 32 := 0#32
  let c1_i32_523 : BitVec 32 := 1#32
  let arg85 : BitVec 32 := Scf.iv c0_i32_521 c1_i32_523 k0_t132
  let v171 : Index := Scalar.indexCast arg85
  let c4 : Index := 4#32
  ![0, v171.toNat, 4]
def k0_off728 (k0_t132 : Fin k0_t132_loop.trips) : Fin 3 → Nat :=
  let c0_561 : Index := 0#32
  let c240_i32 : BitVec 32 := 240#32
  let c0_i32_521 : BitVec 32 := 0#32
  let c1_i32_523 : BitVec 32 := 1#32
  let arg85 : BitVec 32 := Scf.iv c0_i32_521 c1_i32_523 k0_t132
  let v180 : BitVec 32 := Scalar.addi c240_i32 arg85
  let v181 : Index := Scalar.indexCast v180
  let c0_562 : Index := 0#32
  ![0, v181.toNat, 0]
@[reducible] def k0_t133_loop : Scf.Loop 32 :=
  let c0_i32_525 : BitVec 32 := 0#32
  let c16_i32_526 : BitVec 32 := 16#32
  let v132 : BitVec 32 := Scalar.addi c0_i32_525 c16_i32_526
  let c1_i32_527 : BitVec 32 := 1#32
  ⟨c0_i32_525, v132, c1_i32_527⟩
def k0_off729 (k0_t133 : Fin k0_t133_loop.trips) : Fin 3 → Nat :=
  let c0 : Index := 0#32
  let c0_i32_525 : BitVec 32 := 0#32
  let c1_i32_527 : BitVec 32 := 1#32
  let arg85 : BitVec 32 := Scf.iv c0_i32_525 c1_i32_527 k0_t133
  let v136 : Index := Scalar.indexCast arg85
  let c0_541 : Index := 0#32
  ![0, v136.toNat, 0]
def k0_off730 (k0_t133 : Fin k0_t133_loop.trips) : Fin 3 → Nat :=
  let c0_545 : Index := 0#32
  let c0_i32_525 : BitVec 32 := 0#32
  let c1_i32_527 : BitVec 32 := 1#32
  let arg85 : BitVec 32 := Scf.iv c0_i32_525 c1_i32_527 k0_t133
  let v144 : Index := Scalar.indexCast arg85
  let c1 : Index := 1#32
  ![0, v144.toNat, 1]
def k0_off731 (k0_t133 : Fin k0_t133_loop.trips) : Fin 3 → Nat :=
  let c0_549 : Index := 0#32
  let c0_i32_525 : BitVec 32 := 0#32
  let c1_i32_527 : BitVec 32 := 1#32
  let arg85 : BitVec 32 := Scf.iv c0_i32_525 c1_i32_527 k0_t133
  let v153 : Index := Scalar.indexCast arg85
  let c2 : Index := 2#32
  ![0, v153.toNat, 2]
def k0_off732 (k0_t133 : Fin k0_t133_loop.trips) : Fin 3 → Nat :=
  let c0_553 : Index := 0#32
  let c0_i32_525 : BitVec 32 := 0#32
  let c1_i32_527 : BitVec 32 := 1#32
  let arg85 : BitVec 32 := Scf.iv c0_i32_525 c1_i32_527 k0_t133
  let v162 : Index := Scalar.indexCast arg85
  let c3 : Index := 3#32
  ![0, v162.toNat, 3]
def k0_off733 (k0_t133 : Fin k0_t133_loop.trips) : Fin 3 → Nat :=
  let c0_557 : Index := 0#32
  let c0_i32_525 : BitVec 32 := 0#32
  let c1_i32_527 : BitVec 32 := 1#32
  let arg85 : BitVec 32 := Scf.iv c0_i32_525 c1_i32_527 k0_t133
  let v171 : Index := Scalar.indexCast arg85
  let c4 : Index := 4#32
  ![0, v171.toNat, 4]
def k0_off734 (k0_t133 : Fin k0_t133_loop.trips) : Fin 3 → Nat :=
  let c0_561 : Index := 0#32
  let c0_i32_525 : BitVec 32 := 0#32
  let c1_i32_527 : BitVec 32 := 1#32
  let arg85 : BitVec 32 := Scf.iv c0_i32_525 c1_i32_527 k0_t133
  let v180 : Index := Scalar.indexCast arg85
  let c5 : Index := 5#32
  ![0, v180.toNat, 5]
def k0_off735 (k0_t133 : Fin k0_t133_loop.trips) : Fin 3 → Nat :=
  let c0_565 : Index := 0#32
  let c0_i32_525 : BitVec 32 := 0#32
  let c1_i32_527 : BitVec 32 := 1#32
  let arg85 : BitVec 32 := Scf.iv c0_i32_525 c1_i32_527 k0_t133
  let v189 : Index := Scalar.indexCast arg85
  let c6 : Index := 6#32
  ![0, v189.toNat, 6]
def k0_off736 (k0_t133 : Fin k0_t133_loop.trips) : Fin 3 → Nat :=
  let c0_569 : Index := 0#32
  let c256_i32 : BitVec 32 := 256#32
  let c0_i32_525 : BitVec 32 := 0#32
  let c1_i32_527 : BitVec 32 := 1#32
  let arg85 : BitVec 32 := Scf.iv c0_i32_525 c1_i32_527 k0_t133
  let v198 : BitVec 32 := Scalar.addi c256_i32 arg85
  let v199 : Index := Scalar.indexCast v198
  let c0_570 : Index := 0#32
  ![0, v199.toNat, 0]
@[reducible] def k0_t134_loop : Scf.Loop 32 :=
  let c0_i32_529 : BitVec 32 := 0#32
  let c16_i32_530 : BitVec 32 := 16#32
  let v133 : BitVec 32 := Scalar.addi c0_i32_529 c16_i32_530
  let c1_i32_531 : BitVec 32 := 1#32
  ⟨c0_i32_529, v133, c1_i32_531⟩
def k0_off737 (k0_t134 : Fin k0_t134_loop.trips) : Fin 3 → Nat :=
  let c0 : Index := 0#32
  let c0_i32_529 : BitVec 32 := 0#32
  let c1_i32_531 : BitVec 32 := 1#32
  let arg85 : BitVec 32 := Scf.iv c0_i32_529 c1_i32_531 k0_t134
  let v136 : Index := Scalar.indexCast arg85
  let c0_541 : Index := 0#32
  ![0, v136.toNat, 0]
def k0_off738 (k0_t134 : Fin k0_t134_loop.trips) : Fin 3 → Nat :=
  let c0_545 : Index := 0#32
  let c0_i32_529 : BitVec 32 := 0#32
  let c1_i32_531 : BitVec 32 := 1#32
  let arg85 : BitVec 32 := Scf.iv c0_i32_529 c1_i32_531 k0_t134
  let v144 : Index := Scalar.indexCast arg85
  let c1 : Index := 1#32
  ![0, v144.toNat, 1]
def k0_off739 (k0_t134 : Fin k0_t134_loop.trips) : Fin 3 → Nat :=
  let c0_549 : Index := 0#32
  let c0_i32_529 : BitVec 32 := 0#32
  let c1_i32_531 : BitVec 32 := 1#32
  let arg85 : BitVec 32 := Scf.iv c0_i32_529 c1_i32_531 k0_t134
  let v153 : Index := Scalar.indexCast arg85
  let c2 : Index := 2#32
  ![0, v153.toNat, 2]
def k0_off740 (k0_t134 : Fin k0_t134_loop.trips) : Fin 3 → Nat :=
  let c0_553 : Index := 0#32
  let c0_i32_529 : BitVec 32 := 0#32
  let c1_i32_531 : BitVec 32 := 1#32
  let arg85 : BitVec 32 := Scf.iv c0_i32_529 c1_i32_531 k0_t134
  let v162 : Index := Scalar.indexCast arg85
  let c3 : Index := 3#32
  ![0, v162.toNat, 3]
def k0_off741 (k0_t134 : Fin k0_t134_loop.trips) : Fin 3 → Nat :=
  let c0_557 : Index := 0#32
  let c0_i32_529 : BitVec 32 := 0#32
  let c1_i32_531 : BitVec 32 := 1#32
  let arg85 : BitVec 32 := Scf.iv c0_i32_529 c1_i32_531 k0_t134
  let v171 : Index := Scalar.indexCast arg85
  let c4 : Index := 4#32
  ![0, v171.toNat, 4]
def k0_off742 (k0_t134 : Fin k0_t134_loop.trips) : Fin 3 → Nat :=
  let c0_561 : Index := 0#32
  let c0_i32_529 : BitVec 32 := 0#32
  let c1_i32_531 : BitVec 32 := 1#32
  let arg85 : BitVec 32 := Scf.iv c0_i32_529 c1_i32_531 k0_t134
  let v180 : Index := Scalar.indexCast arg85
  let c5 : Index := 5#32
  ![0, v180.toNat, 5]
def k0_off743 (k0_t134 : Fin k0_t134_loop.trips) : Fin 3 → Nat :=
  let c0_565 : Index := 0#32
  let c0_i32_529 : BitVec 32 := 0#32
  let c1_i32_531 : BitVec 32 := 1#32
  let arg85 : BitVec 32 := Scf.iv c0_i32_529 c1_i32_531 k0_t134
  let v189 : Index := Scalar.indexCast arg85
  let c6 : Index := 6#32
  ![0, v189.toNat, 6]
def k0_off744 (k0_t134 : Fin k0_t134_loop.trips) : Fin 3 → Nat :=
  let c0_569 : Index := 0#32
  let c272_i32 : BitVec 32 := 272#32
  let c0_i32_529 : BitVec 32 := 0#32
  let c1_i32_531 : BitVec 32 := 1#32
  let arg85 : BitVec 32 := Scf.iv c0_i32_529 c1_i32_531 k0_t134
  let v198 : BitVec 32 := Scalar.addi c272_i32 arg85
  let v199 : Index := Scalar.indexCast v198
  let c0_570 : Index := 0#32
  ![0, v199.toNat, 0]
@[reducible] def k0_t135_loop : Scf.Loop 32 :=
  let c0_i32_533 : BitVec 32 := 0#32
  let c16_i32_534 : BitVec 32 := 16#32
  let v134 : BitVec 32 := Scalar.addi c0_i32_533 c16_i32_534
  let c1_i32_535 : BitVec 32 := 1#32
  ⟨c0_i32_533, v134, c1_i32_535⟩
def k0_off745 (k0_t135 : Fin k0_t135_loop.trips) : Fin 3 → Nat :=
  let c0 : Index := 0#32
  let c0_i32_533 : BitVec 32 := 0#32
  let c1_i32_535 : BitVec 32 := 1#32
  let arg85 : BitVec 32 := Scf.iv c0_i32_533 c1_i32_535 k0_t135
  let v136 : Index := Scalar.indexCast arg85
  let c0_541 : Index := 0#32
  ![0, v136.toNat, 0]
def k0_off746 (k0_t135 : Fin k0_t135_loop.trips) : Fin 3 → Nat :=
  let c0_545 : Index := 0#32
  let c0_i32_533 : BitVec 32 := 0#32
  let c1_i32_535 : BitVec 32 := 1#32
  let arg85 : BitVec 32 := Scf.iv c0_i32_533 c1_i32_535 k0_t135
  let v144 : Index := Scalar.indexCast arg85
  let c1 : Index := 1#32
  ![0, v144.toNat, 1]
def k0_off747 (k0_t135 : Fin k0_t135_loop.trips) : Fin 3 → Nat :=
  let c0_549 : Index := 0#32
  let c0_i32_533 : BitVec 32 := 0#32
  let c1_i32_535 : BitVec 32 := 1#32
  let arg85 : BitVec 32 := Scf.iv c0_i32_533 c1_i32_535 k0_t135
  let v153 : Index := Scalar.indexCast arg85
  let c2 : Index := 2#32
  ![0, v153.toNat, 2]
def k0_off748 (k0_t135 : Fin k0_t135_loop.trips) : Fin 3 → Nat :=
  let c0_553 : Index := 0#32
  let c0_i32_533 : BitVec 32 := 0#32
  let c1_i32_535 : BitVec 32 := 1#32
  let arg85 : BitVec 32 := Scf.iv c0_i32_533 c1_i32_535 k0_t135
  let v162 : Index := Scalar.indexCast arg85
  let c3 : Index := 3#32
  ![0, v162.toNat, 3]
def k0_off749 (k0_t135 : Fin k0_t135_loop.trips) : Fin 3 → Nat :=
  let c0_557 : Index := 0#32
  let c0_i32_533 : BitVec 32 := 0#32
  let c1_i32_535 : BitVec 32 := 1#32
  let arg85 : BitVec 32 := Scf.iv c0_i32_533 c1_i32_535 k0_t135
  let v171 : Index := Scalar.indexCast arg85
  let c4 : Index := 4#32
  ![0, v171.toNat, 4]
def k0_off750 (k0_t135 : Fin k0_t135_loop.trips) : Fin 3 → Nat :=
  let c0_561 : Index := 0#32
  let c0_i32_533 : BitVec 32 := 0#32
  let c1_i32_535 : BitVec 32 := 1#32
  let arg85 : BitVec 32 := Scf.iv c0_i32_533 c1_i32_535 k0_t135
  let v180 : Index := Scalar.indexCast arg85
  let c5 : Index := 5#32
  ![0, v180.toNat, 5]
def k0_off751 (k0_t135 : Fin k0_t135_loop.trips) : Fin 3 → Nat :=
  let c0_565 : Index := 0#32
  let c0_i32_533 : BitVec 32 := 0#32
  let c1_i32_535 : BitVec 32 := 1#32
  let arg85 : BitVec 32 := Scf.iv c0_i32_533 c1_i32_535 k0_t135
  let v189 : Index := Scalar.indexCast arg85
  let c6 : Index := 6#32
  ![0, v189.toNat, 6]
def k0_off752 (k0_t135 : Fin k0_t135_loop.trips) : Fin 3 → Nat :=
  let c0_569 : Index := 0#32
  let c288_i32 : BitVec 32 := 288#32
  let c0_i32_533 : BitVec 32 := 0#32
  let c1_i32_535 : BitVec 32 := 1#32
  let arg85 : BitVec 32 := Scf.iv c0_i32_533 c1_i32_535 k0_t135
  let v198 : BitVec 32 := Scalar.addi c288_i32 arg85
  let v199 : Index := Scalar.indexCast v198
  let c0_570 : Index := 0#32
  ![0, v199.toNat, 0]
@[reducible] def k0_t136_loop : Scf.Loop 32 :=
  let c0_i32_537 : BitVec 32 := 0#32
  let c16_i32_538 : BitVec 32 := 16#32
  let v135 : BitVec 32 := Scalar.addi c0_i32_537 c16_i32_538
  let c1_i32_539 : BitVec 32 := 1#32
  ⟨c0_i32_537, v135, c1_i32_539⟩
def k0_off753 (k0_t136 : Fin k0_t136_loop.trips) : Fin 3 → Nat :=
  let c0 : Index := 0#32
  let c0_i32_537 : BitVec 32 := 0#32
  let c1_i32_539 : BitVec 32 := 1#32
  let arg85 : BitVec 32 := Scf.iv c0_i32_537 c1_i32_539 k0_t136
  let v136 : Index := Scalar.indexCast arg85
  let c0_541 : Index := 0#32
  ![0, v136.toNat, 0]
def k0_off754 (k0_t136 : Fin k0_t136_loop.trips) : Fin 3 → Nat :=
  let c0_545 : Index := 0#32
  let c0_i32_537 : BitVec 32 := 0#32
  let c1_i32_539 : BitVec 32 := 1#32
  let arg85 : BitVec 32 := Scf.iv c0_i32_537 c1_i32_539 k0_t136
  let v144 : Index := Scalar.indexCast arg85
  let c1 : Index := 1#32
  ![0, v144.toNat, 1]
def k0_off755 (k0_t136 : Fin k0_t136_loop.trips) : Fin 3 → Nat :=
  let c0_549 : Index := 0#32
  let c0_i32_537 : BitVec 32 := 0#32
  let c1_i32_539 : BitVec 32 := 1#32
  let arg85 : BitVec 32 := Scf.iv c0_i32_537 c1_i32_539 k0_t136
  let v153 : Index := Scalar.indexCast arg85
  let c2 : Index := 2#32
  ![0, v153.toNat, 2]
def k0_off756 (k0_t136 : Fin k0_t136_loop.trips) : Fin 3 → Nat :=
  let c0_553 : Index := 0#32
  let c0_i32_537 : BitVec 32 := 0#32
  let c1_i32_539 : BitVec 32 := 1#32
  let arg85 : BitVec 32 := Scf.iv c0_i32_537 c1_i32_539 k0_t136
  let v162 : Index := Scalar.indexCast arg85
  let c3 : Index := 3#32
  ![0, v162.toNat, 3]
def k0_off757 (k0_t136 : Fin k0_t136_loop.trips) : Fin 3 → Nat :=
  let c0_557 : Index := 0#32
  let c0_i32_537 : BitVec 32 := 0#32
  let c1_i32_539 : BitVec 32 := 1#32
  let arg85 : BitVec 32 := Scf.iv c0_i32_537 c1_i32_539 k0_t136
  let v171 : Index := Scalar.indexCast arg85
  let c4 : Index := 4#32
  ![0, v171.toNat, 4]
def k0_off758 (k0_t136 : Fin k0_t136_loop.trips) : Fin 3 → Nat :=
  let c0_561 : Index := 0#32
  let c0_i32_537 : BitVec 32 := 0#32
  let c1_i32_539 : BitVec 32 := 1#32
  let arg85 : BitVec 32 := Scf.iv c0_i32_537 c1_i32_539 k0_t136
  let v180 : Index := Scalar.indexCast arg85
  let c5 : Index := 5#32
  ![0, v180.toNat, 5]
def k0_off759 (k0_t136 : Fin k0_t136_loop.trips) : Fin 3 → Nat :=
  let c0_565 : Index := 0#32
  let c0_i32_537 : BitVec 32 := 0#32
  let c1_i32_539 : BitVec 32 := 1#32
  let arg85 : BitVec 32 := Scf.iv c0_i32_537 c1_i32_539 k0_t136
  let v189 : Index := Scalar.indexCast arg85
  let c6 : Index := 6#32
  ![0, v189.toNat, 6]
def k0_off760 (k0_t136 : Fin k0_t136_loop.trips) : Fin 3 → Nat :=
  let c0_569 : Index := 0#32
  let c304_i32 : BitVec 32 := 304#32
  let c0_i32_537 : BitVec 32 := 0#32
  let c1_i32_539 : BitVec 32 := 1#32
  let arg85 : BitVec 32 := Scf.iv c0_i32_537 c1_i32_539 k0_t136
  let v198 : BitVec 32 := Scalar.addi c304_i32 arg85
  let v199 : Index := Scalar.indexCast v198
  let c0_570 : Index := 0#32
  ![0, v199.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_38 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_39 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_40 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_41 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_42 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_43 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_44 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_45 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_46 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_47 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_48 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_49 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_50 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_51 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_52 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_53 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_54 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_55 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_56 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_57 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_58 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_59 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_60 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_61 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_62 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_63 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_64 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_65 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_66 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_67 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_68 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_69 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_70 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_71 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_72 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_73 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_74 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_75 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_76 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_77 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_78 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_79 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_80 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_81 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_82 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_83 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x7 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x3x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x5x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x7x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x48 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x3x48 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x3x48 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x3x48 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x5x48 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x5x48 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x5x48 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x7x48 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x7x48 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x1x80 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x3x80 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x3x80 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x3x80 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x5x80 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x5x80 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x5x80 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S8x5x80 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S8x7x80 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S8x7x80 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S8x7x80 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S8x1x112 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S8x3x112 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S8x3x112 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S8x5x112 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S8x5x112 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S8x5x112 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S8x7x112 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S8x7x112 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S8x7x112 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S8x7x112 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S8x1x16 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S8x3x16 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S8x5x16 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S8x7x16 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S8x1x48 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S8x3x48 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S8x3x48 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S8x3x48 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S8x5x48 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S8x5x48 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S8x5x48 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S8x7x48 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S8x7x48 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S8x1x80 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S8x3x80 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S8x3x80 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S8x3x80 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S8x5x80 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S8x5x80 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S8x5x80 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S8x5x80 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S8x7x80 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S8x7x80 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S8x7x80 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S8x1x112 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S8x3x112 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S8x3x112 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S8x5x112 .f32 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S8x5x112 .f32 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S8x5x112 .f32 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S8x7x112 .f32 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 2 → Memref sig .tc .vmem S8x7x112 .f32 := fun | 0 => Memref.whole cc0_stg73_0 | 1 => Memref.whole cc0_stg73_1 | ⟨_ + 2, h⟩ => absurd h (Nat.not_lt.2 (Nat.le_add_left _ _))
abbrev sem0_73 : Fin 2 → DmaSem sig := fun | 0 => cc0_sem73_0 | 1 => cc0_sem73_1 | ⟨_ + 2, h⟩ => absurd h (Nat.not_lt.2 (Nat.le_add_left _ _))
abbrev reads0_73 : Fin grid0.rank → Bool := ![true]

abbrev stage0_74 : Fin 2 → Memref sig .tc .vmem S8x7x112 .f32 := fun | 0 => Memref.whole cc0_stg74_0 | 1 => Memref.whole cc0_stg74_1 | ⟨_ + 2, h⟩ => absurd h (Nat.not_lt.2 (Nat.le_add_left _ _))
abbrev sem0_74 : Fin 2 → DmaSem sig := fun | 0 => cc0_sem74_0 | 1 => cc0_sem74_1 | ⟨_ + 2, h⟩ => absurd h (Nat.not_lt.2 (Nat.le_add_left _ _))
abbrev reads0_74 : Fin grid0.rank → Bool := ![true]

abbrev stage0_75 : Fin 2 → Memref sig .tc .vmem S8x7x112 .f32 := fun | 0 => Memref.whole cc0_stg75_0 | 1 => Memref.whole cc0_stg75_1 | ⟨_ + 2, h⟩ => absurd h (Nat.not_lt.2 (Nat.le_add_left _ _))
abbrev sem0_75 : Fin 2 → DmaSem sig := fun | 0 => cc0_sem75_0 | 1 => cc0_sem75_1 | ⟨_ + 2, h⟩ => absurd h (Nat.not_lt.2 (Nat.le_add_left _ _))
abbrev reads0_75 : Fin grid0.rank → Bool := ![true]

abbrev stage0_76 : Fin 2 → Memref sig .tc .vmem S8x128x16 .f32 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S8x288x48 .f32 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S8x352x80 .f32 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]

abbrev stage0_79 : Fin 2 → Memref sig .tc .vmem S8x320x112 .f32 := fun | 0 => Memref.whole cc0_stg79_0 | 1 => Memref.whole cc0_stg79_1 | ⟨_ + 2, h⟩ => absurd h (Nat.not_lt.2 (Nat.le_add_left _ _))
abbrev sem0_79 : Fin 2 → DmaSem sig := fun | 0 => cc0_sem79_0 | 1 => cc0_sem79_1 | ⟨_ + 2, h⟩ => absurd h (Nat.not_lt.2 (Nat.le_add_left _ _))
abbrev reads0_79 : Fin grid0.rank → Bool := ![true]

abbrev stage0_80 : Fin 2 → Memref sig .tc .vmem S8x128x16 .f32 := fun | 0 => Memref.whole cc0_stg80_0 | 1 => Memref.whole cc0_stg80_1 | ⟨_ + 2, h⟩ => absurd h (Nat.not_lt.2 (Nat.le_add_left _ _))
abbrev sem0_80 : Fin 2 → DmaSem sig := fun | 0 => cc0_sem80_0 | 1 => cc0_sem80_1 | ⟨_ + 2, h⟩ => absurd h (Nat.not_lt.2 (Nat.le_add_left _ _))
abbrev reads0_80 : Fin grid0.rank → Bool := ![true]

abbrev stage0_81 : Fin 2 → Memref sig .tc .vmem S8x288x48 .f32 := fun | 0 => Memref.whole cc0_stg81_0 | 1 => Memref.whole cc0_stg81_1 | ⟨_ + 2, h⟩ => absurd h (Nat.not_lt.2 (Nat.le_add_left _ _))
abbrev sem0_81 : Fin 2 → DmaSem sig := fun | 0 => cc0_sem81_0 | 1 => cc0_sem81_1 | ⟨_ + 2, h⟩ => absurd h (Nat.not_lt.2 (Nat.le_add_left _ _))
abbrev reads0_81 : Fin grid0.rank → Bool := ![true]

abbrev stage0_82 : Fin 2 → Memref sig .tc .vmem S8x352x80 .f32 := fun | 0 => Memref.whole cc0_stg82_0 | 1 => Memref.whole cc0_stg82_1 | ⟨_ + 2, h⟩ => absurd h (Nat.not_lt.2 (Nat.le_add_left _ _))
abbrev sem0_82 : Fin 2 → DmaSem sig := fun | 0 => cc0_sem82_0 | 1 => cc0_sem82_1 | ⟨_ + 2, h⟩ => absurd h (Nat.not_lt.2 (Nat.le_add_left _ _))
abbrev reads0_82 : Fin grid0.rank → Bool := ![true]

abbrev stage0_83 : Fin 2 → Memref sig .tc .vmem S8x320x112 .f32 := fun | 0 => Memref.whole cc0_stg83_0 | 1 => Memref.whole cc0_stg83_1 | ⟨_ + 2, h⟩ => absurd h (Nat.not_lt.2 (Nat.le_add_left _ _))
abbrev sem0_83 : Fin 2 → DmaSem sig := fun | 0 => cc0_sem83_0 | 1 => cc0_sem83_1 | ⟨_ + 2, h⟩ => absurd h (Nat.not_lt.2 (Nat.le_add_left _ _))
abbrev reads0_83 : Fin grid0.rank → Bool := ![true]
-- ==== ReferenceIdeal.lean ====
abbrev S128x16x1 : Shape := ⟨3, ![128, 16, 1]⟩
abbrev S128x16x3 : Shape := ⟨3, ![128, 16, 3]⟩
abbrev S128x16x5 : Shape := ⟨3, ![128, 16, 5]⟩
abbrev S128x16x7 : Shape := ⟨3, ![128, 16, 7]⟩
abbrev S128x1x16 : Shape := ⟨3, ![128, 1, 16]⟩
abbrev S128x3x16 : Shape := ⟨3, ![128, 3, 16]⟩
abbrev S128x5x16 : Shape := ⟨3, ![128, 5, 16]⟩
abbrev S128x7x16 : Shape := ⟨3, ![128, 7, 16]⟩
abbrev S128x1x48 : Shape := ⟨3, ![128, 1, 48]⟩
abbrev S128x3x48 : Shape := ⟨3, ![128, 3, 48]⟩
abbrev S128x5x48 : Shape := ⟨3, ![128, 5, 48]⟩
abbrev S128x7x48 : Shape := ⟨3, ![128, 7, 48]⟩
abbrev S128x1x80 : Shape := ⟨3, ![128, 1, 80]⟩
abbrev S128x3x80 : Shape := ⟨3, ![128, 3, 80]⟩
abbrev S128x5x80 : Shape := ⟨3, ![128, 5, 80]⟩
abbrev S128x7x80 : Shape := ⟨3, ![128, 7, 80]⟩
abbrev S128x1x112 : Shape := ⟨3, ![128, 1, 112]⟩
abbrev S128x3x112 : Shape := ⟨3, ![128, 3, 112]⟩
abbrev S128x5x112 : Shape := ⟨3, ![128, 5, 112]⟩
abbrev S128x7x112 : Shape := ⟨3, ![128, 7, 112]⟩
abbrev S128x16x16 : Shape := ⟨3, ![128, 16, 16]⟩
abbrev S128x128x16 : Shape := ⟨3, ![128, 128, 16]⟩
abbrev S128x16x48 : Shape := ⟨3, ![128, 16, 48]⟩
abbrev S128x256x48 : Shape := ⟨3, ![128, 256, 48]⟩
abbrev S128x32x48 : Shape := ⟨3, ![128, 32, 48]⟩
abbrev S128x288x48 : Shape := ⟨3, ![128, 288, 48]⟩
abbrev S128x16x80 : Shape := ⟨3, ![128, 16, 80]⟩
abbrev S128x256x80 : Shape := ⟨3, ![128, 256, 80]⟩
abbrev S128x96x80 : Shape := ⟨3, ![128, 96, 80]⟩
abbrev S128x352x80 : Shape := ⟨3, ![128, 352, 80]⟩
abbrev S128x16x112 : Shape := ⟨3, ![128, 16, 112]⟩
abbrev S128x256x112 : Shape := ⟨3, ![128, 256, 112]⟩
abbrev S128x64x112 : Shape := ⟨3, ![128, 64, 112]⟩
abbrev S128x320x112 : Shape := ⟨3, ![128, 320, 112]⟩

abbrev nBuf : Space → Nat
  | .hbm => 232
  | .vmem => 0
  | .smem => 0
  | _ => 0

abbrev hbmTy0_0 (i : Nat) : BufTy := match i % 128 with
  | 0 => ⟨S128x16x1, .f32⟩
  | 1 => ⟨S128x16x3, .f32⟩
  | 2 => ⟨S128x16x5, .f32⟩
  | 3 => ⟨S128x16x7, .f32⟩
  | 4 => ⟨S128x16x1, .f32⟩
  | 5 => ⟨S128x16x3, .f32⟩
  | 6 => ⟨S128x16x5, .f32⟩
  | 7 => ⟨S128x16x7, .f32⟩
  | 8 => ⟨S128x1x16, .f32⟩
  | 9 => ⟨S128x3x16, .f32⟩
  | 10 => ⟨S128x5x16, .f32⟩
  | 11 => ⟨S128x7x16, .f32⟩
  | 12 => ⟨S128x1x48, .f32⟩
  | 13 => ⟨S128x3x48, .f32⟩
  | 14 => ⟨S128x3x48, .f32⟩
  | 15 => ⟨S128x3x48, .f32⟩
  | 16 => ⟨S128x5x48, .f32⟩
  | 17 => ⟨S128x5x48, .f32⟩
  | 18 => ⟨S128x5x48, .f32⟩
  | 19 => ⟨S128x7x48, .f32⟩
  | 20 => ⟨S128x7x48, .f32⟩
  | 21 => ⟨S128x1x80, .f32⟩
  | 22 => ⟨S128x3x80, .f32⟩
  | 23 => ⟨S128x3x80, .f32⟩
  | 24 => ⟨S128x3x80, .f32⟩
  | 25 => ⟨S128x5x80, .f32⟩
  | 26 => ⟨S128x5x80, .f32⟩
  | 27 => ⟨S128x5x80, .f32⟩
  | 28 => ⟨S128x5x80, .f32⟩
  | 29 => ⟨S128x7x80, .f32⟩
  | 30 => ⟨S128x7x80, .f32⟩
  | 31 => ⟨S128x7x80, .f32⟩
  | 32 => ⟨S128x1x112, .f32⟩
  | 33 => ⟨S128x3x112, .f32⟩
  | 34 => ⟨S128x3x112, .f32⟩
  | 35 => ⟨S128x5x112, .f32⟩
  | 36 => ⟨S128x5x112, .f32⟩
  | 37 => ⟨S128x5x112, .f32⟩
  | 38 => ⟨S128x7x112, .f32⟩
  | 39 => ⟨S128x7x112, .f32⟩
  | 40 => ⟨S128x7x112, .f32⟩
  | 41 => ⟨S128x7x112, .f32⟩
  | 42 => ⟨S128x1x16, .f32⟩
  | 43 => ⟨S128x3x16, .f32⟩
  | 44 => ⟨S128x5x16, .f32⟩
  | 45 => ⟨S128x7x16, .f32⟩
  | 46 => ⟨S128x1x48, .f32⟩
  | 47 => ⟨S128x3x48, .f32⟩
  | 48 => ⟨S128x3x48, .f32⟩
  | 49 => ⟨S128x3x48, .f32⟩
  | 50 => ⟨S128x5x48, .f32⟩
  | 51 => ⟨S128x5x48, .f32⟩
  | 52 => ⟨S128x5x48, .f32⟩
  | 53 => ⟨S128x7x48, .f32⟩
  | 54 => ⟨S128x7x48, .f32⟩
  | 55 => ⟨S128x1x80, .f32⟩
  | 56 => ⟨S128x3x80, .f32⟩
  | 57 => ⟨S128x3x80, .f32⟩
  | 58 => ⟨S128x3x80, .f32⟩
  | 59 => ⟨S128x5x80, .f32⟩
  | 60 => ⟨S128x5x80, .f32⟩
  | 61 => ⟨S128x5x80, .f32⟩
  | 62 => ⟨S128x5x80, .f32⟩
  | 63 => ⟨S128x7x80, .f32⟩
  | 64 => ⟨S128x7x80, .f32⟩
  | 65 => ⟨S128x7x80, .f32⟩
  | 66 => ⟨S128x1x112, .f32⟩
  | 67 => ⟨S128x3x112, .f32⟩
  | 68 => ⟨S128x3x112, .f32⟩
  | 69 => ⟨S128x5x112, .f32⟩
  | 70 => ⟨S128x5x112, .f32⟩
  | 71 => ⟨S128x5x112, .f32⟩
  | 72 => ⟨S128x7x112, .f32⟩
  | 73 => ⟨S128x7x112, .f32⟩
  | 74 => ⟨S128x7x112, .f32⟩
  | 75 => ⟨S128x7x112, .f32⟩
  | 76 => ⟨S128x16x16, .f32⟩
  | 77 => ⟨S128x16x16, .f32⟩
  | 78 => ⟨S128x16x16, .f32⟩
  | 79 => ⟨S128x16x16, .f32⟩
  | 80 => ⟨S128x16x16, .f32⟩
  | 81 => ⟨S128x16x16, .f32⟩
  | 82 => ⟨S128x16x16, .f32⟩
  | 83 => ⟨S128x16x16, .f32⟩
  | 84 => ⟨S128x128x16, .f32⟩
  | 85 => ⟨S128x16x48, .f32⟩
  | 86 => ⟨S128x16x48, .f32⟩
  | 87 => ⟨S128x16x48, .f32⟩
  | 88 => ⟨S128x16x48, .f32⟩
  | 89 => ⟨S128x16x48, .f32⟩
  | 90 => ⟨S128x16x48, .f32⟩
  | 91 => ⟨S128x16x48, .f32⟩
  | 92 => ⟨S128x16x48, .f32⟩
  | 93 => ⟨S128x16x48, .f32⟩
  | 94 => ⟨S128x16x48, .f32⟩
  | 95 => ⟨S128x16x48, .f32⟩
  | 96 => ⟨S128x16x48, .f32⟩
  | 97 => ⟨S128x16x48, .f32⟩
  | 98 => ⟨S128x16x48, .f32⟩
  | 99 => ⟨S128x16x48, .f32⟩
  | 100 => ⟨S128x16x48, .f32⟩
  | 101 => ⟨S128x16x48, .f32⟩
  | 102 => ⟨S128x16x48, .f32⟩
  | 103 => ⟨S128x256x48, .f32⟩
  | 104 => ⟨S128x32x48, .f32⟩
  | 105 => ⟨S128x288x48, .f32⟩
  | 106 => ⟨S128x16x80, .f32⟩
  | 107 => ⟨S128x16x80, .f32⟩
  | 108 => ⟨S128x16x80, .f32⟩
  | 109 => ⟨S128x16x80, .f32⟩
  | 110 => ⟨S128x16x80, .f32⟩
  | 111 => ⟨S128x16x80, .f32⟩
  | 112 => ⟨S128x16x80, .f32⟩
  | 113 => ⟨S128x16x80, .f32⟩
  | 114 => ⟨S128x16x80, .f32⟩
  | 115 => ⟨S128x16x80, .f32⟩
  | 116 => ⟨S128x16x80, .f32⟩
  | 117 => ⟨S128x16x80, .f32⟩
  | 118 => ⟨S128x16x80, .f32⟩
  | 119 => ⟨S128x16x80, .f32⟩
  | 120 => ⟨S128x16x80, .f32⟩
  | 121 => ⟨S128x16x80, .f32⟩
  | 122 => ⟨S128x16x80, .f32⟩
  | 123 => ⟨S128x16x80, .f32⟩
  | 124 => ⟨S128x16x80, .f32⟩
  | 125 => ⟨S128x16x80, .f32⟩
  | 126 => ⟨S128x16x80, .f32⟩
  | 127 => ⟨S128x16x80, .f32⟩
  | _ => ⟨S128x16x1, .f32⟩

abbrev hbmTy0_1 (i : Nat) : BufTy := match i % 128 with
  | 0 => ⟨S128x256x80, .f32⟩
  | 1 => ⟨S128x96x80, .f32⟩
  | 2 => ⟨S128x352x80, .f32⟩
  | 3 => ⟨S128x16x112, .f32⟩
  | 4 => ⟨S128x16x112, .f32⟩
  | 5 => ⟨S128x16x112, .f32⟩
  | 6 => ⟨S128x16x112, .f32⟩
  | 7 => ⟨S128x16x112, .f32⟩
  | 8 => ⟨S128x16x112, .f32⟩
  | 9 => ⟨S128x16x112, .f32⟩
  | 10 => ⟨S128x16x112, .f32⟩
  | 11 => ⟨S128x16x112, .f32⟩
  | 12 => ⟨S128x16x112, .f32⟩
  | 13 => ⟨S128x16x112, .f32⟩
  | 14 => ⟨S128x16x112, .f32⟩
  | 15 => ⟨S128x16x112, .f32⟩
  | 16 => ⟨S128x16x112, .f32⟩
  | 17 => ⟨S128x16x112, .f32⟩
  | 18 => ⟨S128x16x112, .f32⟩
  | 19 => ⟨S128x16x112, .f32⟩
  | 20 => ⟨S128x16x112, .f32⟩
  | 21 => ⟨S128x16x112, .f32⟩
  | 22 => ⟨S128x16x112, .f32⟩
  | 23 => ⟨S128x256x112, .f32⟩
  | 24 => ⟨S128x64x112, .f32⟩
  | 25 => ⟨S128x320x112, .f32⟩
  | 26 => ⟨S128x16x16, .f32⟩
  | 27 => ⟨S128x16x16, .f32⟩
  | 28 => ⟨S128x16x16, .f32⟩
  | 29 => ⟨S128x16x16, .f32⟩
  | 30 => ⟨S128x16x16, .f32⟩
  | 31 => ⟨S128x16x16, .f32⟩
  | 32 => ⟨S128x16x16, .f32⟩
  | 33 => ⟨S128x16x16, .f32⟩
  | 34 => ⟨S128x128x16, .f32⟩
  | 35 => ⟨S128x16x48, .f32⟩
  | 36 => ⟨S128x16x48, .f32⟩
  | 37 => ⟨S128x16x48, .f32⟩
  | 38 => ⟨S128x16x48, .f32⟩
  | 39 => ⟨S128x16x48, .f32⟩
  | 40 => ⟨S128x16x48, .f32⟩
  | 41 => ⟨S128x16x48, .f32⟩
  | 42 => ⟨S128x16x48, .f32⟩
  | 43 => ⟨S128x16x48, .f32⟩
  | 44 => ⟨S128x16x48, .f32⟩
  | 45 => ⟨S128x16x48, .f32⟩
  | 46 => ⟨S128x16x48, .f32⟩
  | 47 => ⟨S128x16x48, .f32⟩
  | 48 => ⟨S128x16x48, .f32⟩
  | 49 => ⟨S128x16x48, .f32⟩
  | 50 => ⟨S128x16x48, .f32⟩
  | 51 => ⟨S128x16x48, .f32⟩
  | 52 => ⟨S128x16x48, .f32⟩
  | 53 => ⟨S128x256x48, .f32⟩
  | 54 => ⟨S128x32x48, .f32⟩
  | 55 => ⟨S128x288x48, .f32⟩
  | 56 => ⟨S128x16x80, .f32⟩
  | 57 => ⟨S128x16x80, .f32⟩
  | 58 => ⟨S128x16x80, .f32⟩
  | 59 => ⟨S128x16x80, .f32⟩
  | 60 => ⟨S128x16x80, .f32⟩
  | 61 => ⟨S128x16x80, .f32⟩
  | 62 => ⟨S128x16x80, .f32⟩
  | 63 => ⟨S128x16x80, .f32⟩
  | 64 => ⟨S128x16x80, .f32⟩
  | 65 => ⟨S128x16x80, .f32⟩
  | 66 => ⟨S128x16x80, .f32⟩
  | 67 => ⟨S128x16x80, .f32⟩
  | 68 => ⟨S128x16x80, .f32⟩
  | 69 => ⟨S128x16x80, .f32⟩
  | 70 => ⟨S128x16x80, .f32⟩
  | 71 => ⟨S128x16x80, .f32⟩
  | 72 => ⟨S128x16x80, .f32⟩
  | 73 => ⟨S128x16x80, .f32⟩
  | 74 => ⟨S128x16x80, .f32⟩
  | 75 => ⟨S128x16x80, .f32⟩
  | 76 => ⟨S128x16x80, .f32⟩
  | 77 => ⟨S128x16x80, .f32⟩
  | 78 => ⟨S128x256x80, .f32⟩
  | 79 => ⟨S128x96x80, .f32⟩
  | 80 => ⟨S128x352x80, .f32⟩
  | 81 => ⟨S128x16x112, .f32⟩
  | 82 => ⟨S128x16x112, .f32⟩
  | 83 => ⟨S128x16x112, .f32⟩
  | 84 => ⟨S128x16x112, .f32⟩
  | 85 => ⟨S128x16x112, .f32⟩
  | 86 => ⟨S128x16x112, .f32⟩
  | 87 => ⟨S128x16x112, .f32⟩
  | 88 => ⟨S128x16x112, .f32⟩
  | 89 => ⟨S128x16x112, .f32⟩
  | 90 => ⟨S128x16x112, .f32⟩
  | 91 => ⟨S128x16x112, .f32⟩
  | 92 => ⟨S128x16x112, .f32⟩
  | 93 => ⟨S128x16x112, .f32⟩
  | 94 => ⟨S128x16x112, .f32⟩
  | 95 => ⟨S128x16x112, .f32⟩
  | 96 => ⟨S128x16x112, .f32⟩
  | 97 => ⟨S128x16x112, .f32⟩
  | 98 => ⟨S128x16x112, .f32⟩
  | 99 => ⟨S128x16x112, .f32⟩
  | 100 => ⟨S128x16x112, .f32⟩
  | 101 => ⟨S128x256x112, .f32⟩
  | 102 => ⟨S128x64x112, .f32⟩
  | 103 => ⟨S128x320x112, .f32⟩
  | _ => ⟨S128x16x1, .f32⟩

abbrev hbmTy (i : Nat) : BufTy := match i / 128 with
  | 0 => hbmTy0_0 i
  | 1 => hbmTy0_1 i
  | _ => ⟨S128x16x1, .f32⟩

abbrev bufTy : (tb : Table) → Fin (tcTables nBuf tb) → BufTy
  | .hbm, ⟨i, _⟩ => hbmTy i
  | _, _ => ⟨S128x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_v0 : Ref sig .tc := ⟨.hbm, 76, rfl⟩
abbrev main_v1 : Ref sig .tc := ⟨.hbm, 77, rfl⟩
abbrev main_v2 : Ref sig .tc := ⟨.hbm, 78, rfl⟩
abbrev main_v3 : Ref sig .tc := ⟨.hbm, 79, rfl⟩
abbrev main_v4 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩

abbrev nD : Nat := 1
abbrev τ : Topo := Topo.v7x

variable {F : FTy → Type} [FloatOps F]
-- ==== Proof.Loop.lean ====
/- One block of the kernel's output: the loop that fills sixteen rows of it.

   Every one of the kernel's loops does the same thing. For a feature array `f` (environments × 16 features × M
   components), a weight array `w` (environments × M × N lanes) and an output `o` (environments × G rows × N lanes),
   trip `k` stores row `g0 + k` of `o`, which is the sum over the components of feature `k` times the weight.
   The loop's rule is proved here once, for every M, N, G and g0. Block contents are read as functions of three
   naturals, so that arrays of different shapes have contents of one type. -/
module

public import Idealize.ShloMosaic.Lib.Pipeline.FrameBody
public import Idealize.ShloMosaic.Lib.Pipeline.Value
public import Idealize.ShloMosaic.Lib.ValueIdxCore
public import Idealize.ShloMosaic.Lib.Memref
public import Idealize.ShloMosaic.Lib.Scf

@[expose] public section

noncomputable section

namespace Cert.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Contents of a rank-three block, as a function of the three coordinates. -/
abbrev Fn (F : FTy → Type) := ℕ → ℕ → ℕ → F .f32

/-- The contents as a function on the block's indices. -/
def onIdx (d : Fin 3 → ℕ) (Y : Fn F) : (⟨3, d⟩ : Shape).Idx → Elt F .f32 := fun i => Y (i 0).val (i 1).val (i 2).val

/-- The sum of the products `f 0 * w 0`, `f 1 * w 1`, …, added from the left. -/
def chain (f w : ℕ → F .f32) : ℕ → F .f32
  | 0 => FloatOps.mulf (f 0) (w 0)
  | n + 1 => FloatOps.addf (chain f w n) (FloatOps.mulf (f (n + 1)) (w (n + 1)))

/-- What a block holds once rows `g0 … g0 + n - 1` are filled: the sum over `M + 1` components there, what it held elsewhere. -/
def fill (M g0 n : ℕ) (f w o : Fn F) : Fn F := fun b g x =>
  if g0 ≤ g ∧ g < g0 + n then chain (fun m => f b (g - g0) m) (fun m => w b m x) M else o b g x

/-- No row filled: the old contents. -/
theorem fill_zero (M g0 : ℕ) (f w o : Fn F) : fill M g0 0 f w o = o := by
  funext b g x
  unfold fill
  rw [if_neg (by omega)]

/-- A trip's lanes: one feature of each environment, spread over the lanes, times one component's weights. -/
def term (N : ℕ) (a : Vec F ⟨3, ![8, 1, 1]⟩ .f32) (v : Vec F ⟨3, ![8, 1, N]⟩ .f32)
    (h1 : (⟨3, ![8, 1, 1]⟩ : Shape).ShapeCasts ⟨1, ![8]⟩) (h2 : (⟨1, ![8]⟩ : Shape).ShapeCasts ⟨2, ![8, 1]⟩)
    (h3 : (⟨3, ![8, 1, N]⟩ : Shape).ShapeCasts ⟨2, ![8, N]⟩) (h4 : (⟨2, ![8, 1]⟩ : Shape).Broadcasts ⟨2, ![8, N]⟩) :
    FVec F ⟨2, ![8, N]⟩ .f32 :=
  mulf (broadcastTo ⟨2, ![8, N]⟩ (shapeCast ⟨2, ![8, 1]⟩ (shapeCast ⟨1, ![8]⟩ a h1) h2) h4) (shapeCast ⟨2, ![8, N]⟩ v h3)

/-- Its lane `x` in environment `b`. -/
theorem term_apply (N : ℕ) (a : Vec F ⟨3, ![8, 1, 1]⟩ .f32) (v : Vec F ⟨3, ![8, 1, N]⟩ .f32) (h1 h2 h3 h4) (b : Fin 8) (x : Fin N) :
    term N a v h1 h2 h3 h4 (ix2 b x) = FloatOps.mulf (a (ix3 b 0 0)) (v (ix3 b 0 x)) := by
  have e1 : broadcastTo ⟨2, ![8, N]⟩ (shapeCast ⟨2, ![8, 1]⟩ (shapeCast ⟨1, ![8]⟩ a h1) h2) h4 (ix2 b x) = a (ix3 b 0 0) := by
    rw [broadcastTo_apply _ h4 (ix2 b x) (ix2 b 0) (fun d => by
      match d with
      | ⟨0, _⟩ => rfl
      | ⟨1, _⟩ => rfl)]
    rw [shapeCast_apply _ h2 (ix2 b 0) (ix1 b) (by
      rw [Shape.rowMajor_val_one, Shape.rowMajor_val_two]; show b.val = b.val * 1 + 0; omega)]
    rw [shapeCast_apply _ h1 (ix1 b) (ix3 b 0 0) (by
      rw [Shape.rowMajor_val_one, Shape.rowMajor_val_three]; show (b.val * 1 + 0) * 1 + 0 = b.val; omega)]
  have e2 : shapeCast ⟨2, ![8, N]⟩ v h3 (ix2 b x) = v (ix3 b 0 x) :=
    shapeCast_apply _ h3 (ix2 b x) (ix3 b 0 x) (by
      rw [Shape.rowMajor_val_two, Shape.rowMajor_val_three]; show (b.val * 1 + 0) * N + x.val = b.val * N + x.val; rw [Nat.mul_one, Nat.add_zero])
  show FloatOps.mulf _ _ = _
  rw [e1, e2]

section Rules

variable {nD : ℕ} {τ : Topo} {sig : RefSig} {Λ : Labels} {U : Type} [URA U]

local notation "𝕄" => MT nD τ sig Unit (Elt F) ℕ U ℕ

/-- A block held whole, at contents given as a function of the three coordinates. -/
def hold (c : Dev nD) {d : Fin 3 → ℕ} (m : Memref sig .tc .vmem ⟨3, d⟩ .f32) (Y : Fn F) : sProp 𝕄 :=
  owns (c : Thread nD τ) m fullShare (onIdx d Y)

variable {defs : Defs nD τ sig (Elt F) Λ} (c : Dev nD) {E : Set ℕ}

/-- A load of a unit rectangle from a held block goes on at the block's contents there. -/
theorem wp_read {α : Type} {Q : α → sProp 𝕄} {d sz : Fin 3 → ℕ} (m : Memref sig .tc .vmem ⟨3, d⟩ .f32) (Y : Fn F) (off : Fin 3 → ℕ)
    (inb : ∀ a, off a + sz a ≤ d a) {hl} {k : ((⟨3, sz⟩ : Shape).Idx → Elt F .f32) → Prog (TpuEff nD τ sig (Elt F) Λ .tc) α} :
    hold (τ := τ) (U := U) c m Y
      ⊢ iprop((hold c m Y -∗ wp frame (wpE defs Variants.none (c : Thread nD τ) none) E
            (k (onIdx sz fun b g x => Y (off 0 + b) (off 1 + g) (off 2 + x))) Q)
          -∗ wp frame (wpE defs Variants.none (c : Thread nD τ) none) E
            (.op (.load m (Rect.unit (s := ⟨3, d⟩) off sz inb).toLoadRect hl) k) Q) := by
  unfold hold owns
  iintro ⟨%f, %hf, H⟩ HK
  iapply (wp_load Variants.none (c : Thread nD τ) none E (S := m.view.set) (m.view.setOn_subset_set _)) $$ H
  iintro H
  have e : m.view.readAt (Elt F) (Rect.unit (s := ⟨3, d⟩) off sz inb).toLoadRect f
      = onIdx sz fun b g x => Y (off 0 + b) (off 1 + g) (off 2 + x) := by
    funext j
    show m.view.read (Elt F) f ((Rect.unit (s := ⟨3, d⟩) off sz inb).toLoadRect.idx j) = _
    rw [hf]
    show Y (off 0 + 1 * (j 0).val) (off 1 + 1 * (j 1).val) (off 2 + 1 * (j 2).val) = Y _ _ _
    rw [Nat.one_mul, Nat.one_mul, Nat.one_mul]
  rw [e]
  iapply HK
  iexists f
  isplitr; · ipureintro; exact hf
  iexact H

/-- A store of a unit rectangle into a held block leaves it held at the payload on the rectangle and its old contents elsewhere. -/
theorem wp_write {α : Type} {Q : α → sProp 𝕄} {d sz : Fin 3 → ℕ} (m : Memref sig .tc .vmem ⟨3, d⟩ .f32) (Y Z : Fn F) (off : Fin 3 → ℕ)
    (inb : ∀ a, off a + sz a ≤ d a) (v : (⟨3, sz⟩ : Shape).Idx → Elt F .f32) {hx hm}
    (hin : ∀ j : (⟨3, sz⟩ : Shape).Idx, Z (off 0 + (j 0).val) (off 1 + (j 1).val) (off 2 + (j 2).val) = v j)
    (hout : ∀ i : (⟨3, d⟩ : Shape).Idx, (¬ ∀ a, off a ≤ (i a).val ∧ (i a).val < off a + sz a)
      → Z (i 0).val (i 1).val (i 2).val = Y (i 0).val (i 1).val (i 2).val)
    {k : PUnit → Prog (TpuEff nD τ sig (Elt F) Λ .tc) α} :
    hold (τ := τ) (U := U) c m Y
      ⊢ iprop((hold c m Z -∗ wp frame (wpE defs Variants.none (c : Thread nD τ) none) E (k ⟨⟩) Q)
          -∗ wp frame (wpE defs Variants.none (c : Thread nD τ) none) E
            (.op (.store m (Rect.unit (s := ⟨3, d⟩) off sz inb) v Finset.univ hx hm) k) Q) := by
  unfold hold owns
  iintro ⟨%f, %hf, H⟩ HK
  iapply (wp_store Variants.none (c : Thread nD τ) none E (m := m) (r := Rect.unit (s := ⟨3, d⟩) off sz inb) (S := m.view.set)
    ((Finset.map_subset_map.2 (Finset.subset_univ _)).trans (m.view.set_slice_subset _))) $$ H
  iintro H
  iapply HK
  iexists _
  isplitr
  swap; · iexact H
  ipureintro
  funext i
  by_cases hi : ∀ a, off a ≤ (i a).val ∧ (i a).val < off a + sz a
  · obtain ⟨j, rfl⟩ : ∃ j, (Rect.unit (s := ⟨3, d⟩) off sz inb).emb j = i :=
      ⟨fun a => ⟨(i a).val - off a, by have := hi a; show (i a).val - off a < sz a; omega⟩, funext fun a => Fin.ext (by
        have := hi a; show off a + 1 * ((i a).val - off a) = (i a).val; omega)⟩
    rw [View.read_slice_write_emb _ _ _ (Finset.mem_univ _), ← hin j]
    show _ = Z (off 0 + 1 * (j 0).val) (off 1 + 1 * (j 1).val) (off 2 + 1 * (j 2).val)
    rw [Nat.one_mul, Nat.one_mul, Nat.one_mul]
  · rw [View.read_slice_write_of_not_mem]
    · rw [hf]; exact (hout i hi).symm
    · intro hm
      obtain ⟨j, -, rfl⟩ := Finset.mem_map.1 hm
      refine hi fun a => ?_
      have hj := (j a).isLt
      show off a ≤ off a + 1 * (j a).val ∧ off a + 1 * (j a).val < off a + sz a
      have hj' : (j a).val < sz a := hj
      omega

end Rules

/-! ## A trip -/

/-- The shape evidence that a trip's casts and its spreading over the lanes carry. -/
structure LaneFacts (N : ℕ) : Prop where
  pos1 : 0 < (⟨3, ![8, 1, 1]⟩ : Shape).numel
  posN : 0 < (⟨3, ![8, 1, N]⟩ : Shape).numel
  c1 : (⟨3, ![8, 1, 1]⟩ : Shape).ShapeCasts ⟨1, ![8]⟩
  c2 : (⟨1, ![8]⟩ : Shape).ShapeCasts ⟨2, ![8, 1]⟩
  c3 : (⟨3, ![8, 1, N]⟩ : Shape).ShapeCasts ⟨2, ![8, N]⟩
  c4 : (⟨2, ![8, 1]⟩ : Shape).Broadcasts ⟨2, ![8, N]⟩
  c5 : (⟨2, ![8, N]⟩ : Shape).ShapeCasts ⟨3, ![8, 1, N]⟩

/-- Where one component's two loads read: the feature's rectangle in `f`, the component's in `w`. -/
structure Loads (M N : ℕ) where
  offF : Fin 3 → ℕ
  inbF : ∀ a, offF a + (![8, 1, 1] : Fin 3 → ℕ) a ≤ (![8, 16, M] : Fin 3 → ℕ) a
  offW : Fin 3 → ℕ
  inbW : ∀ a, offW a + (![8, 1, N] : Fin 3 → ℕ) a ≤ (![8, M, N] : Fin 3 → ℕ) a

/-- The loads of a list are those of feature `k` at the components from `n` on. -/
def Good {M N : ℕ} (k : ℕ) : ℕ → List (Loads M N) → Prop
  | _, [] => True
  | n, t :: l => t.offF = ![0, k, n] ∧ t.offW = ![0, n, 0] ∧ Good k (n + 1) l

section Trip

variable {nD : ℕ} {τ : Topo} {sig : RefSig} {Λ : Labels} {U : Type} [URA U]
variable {M N G : ℕ} (h : LaneFacts N)
variable (f : Memref sig .tc .vmem ⟨3, ![8, 16, M]⟩ .f32) (w : Memref sig .tc .vmem ⟨3, ![8, M, N]⟩ .f32)
  (o : Memref sig .tc .vmem ⟨3, ![8, G, N]⟩ .f32)

/-- The components after the first: each loads its two operands and adds its product to the sum so far. -/
def more : List (Loads M N) → FVec F ⟨2, ![8, N]⟩ .f32 → (FVec F ⟨2, ![8, N]⟩ .f32 → Prog (TpuEff nD τ sig (Elt F) Λ .tc) PUnit)
    → Prog (TpuEff nD τ sig (Elt F) Λ .tc) PUnit
  | [], acc, K => K acc
  | t :: l, acc, K =>
    .op (.load f (Rect.unit (s := ⟨3, ![8, 16, M]⟩) t.offF ![8, 1, 1] t.inbF).toLoadRect (View.loadsAt_vmem h.pos1)) fun a =>
    .op (.load w (Rect.unit (s := ⟨3, ![8, M, N]⟩) t.offW ![8, 1, N] t.inbW).toLoadRect (View.loadsAt_vmem h.posN)) fun v =>
    more l (addf acc (term N a v h.c1 h.c2 h.c3 h.c4)) K

/-- A trip: the first component, the others, and the row stored (the load before the store is of the row's old contents, unused). -/
def trip (t : Loads M N) (l : List (Loads M N)) (offO : Fin 3 → ℕ)
    (inbO : ∀ a, offO a + (![8, 1, N] : Fin 3 → ℕ) a ≤ (![8, G, N] : Fin 3 → ℕ) a) : Prog (TpuEff nD τ sig (Elt F) Λ .tc) PUnit :=
  .op (.load f (Rect.unit (s := ⟨3, ![8, 16, M]⟩) t.offF ![8, 1, 1] t.inbF).toLoadRect (View.loadsAt_vmem h.pos1)) fun a =>
  .op (.load w (Rect.unit (s := ⟨3, ![8, M, N]⟩) t.offW ![8, 1, N] t.inbW).toLoadRect (View.loadsAt_vmem h.posN)) fun v =>
  more h f w l (term N a v h.c1 h.c2 h.c3 h.c4) fun acc =>
  .op (.load o (Rect.unit (s := ⟨3, ![8, G, N]⟩) offO ![8, 1, N] inbO).toLoadRect (View.loadsAt_vmem h.posN)) fun _ =>
  .op (.store o (Rect.unit (s := ⟨3, ![8, G, N]⟩) offO ![8, 1, N] inbO) (shapeCast ⟨3, ![8, 1, N]⟩ acc h.c5) Finset.univ
    (View.stores_vmem_bits_univ h.posN rfl) (.inl rfl)) fun _ => .ret ⟨⟩

local notation "𝕄" => MT nD τ sig Unit (Elt F) ℕ U ℕ

variable {defs : Defs nD τ sig (Elt F) Λ} (c : Dev nD) {E : Set ℕ}
variable (Yf Yw Yo : Fn F)

/-- The row of feature `k`, summed over the components up to `n`. -/
def lanes (N k n : ℕ) (Yf Yw : Fn F) : FVec F ⟨2, ![8, N]⟩ .f32 := fun j =>
  chain (fun m => Yf (j 0).val k m) (fun m => Yw (j 0).val m (j 1).val) n

/-- One component's product, from what its two loads read. -/
theorem term_lane (k n : ℕ) (t : Loads M N) (hf : t.offF = ![0, k, n]) (hw : t.offW = ![0, n, 0]) :
    term N (onIdx ![8, 1, 1] fun b g x => Yf (t.offF 0 + b) (t.offF 1 + g) (t.offF 2 + x))
        (onIdx ![8, 1, N] fun b g x => Yw (t.offW 0 + b) (t.offW 1 + g) (t.offW 2 + x)) h.c1 h.c2 h.c3 h.c4
      = fun j => FloatOps.mulf (Yf (j 0).val k n) (Yw (j 0).val n (j 1).val) := by
  funext j
  obtain ⟨b, x, rfl⟩ : ∃ (b : Fin 8) (x : Fin N), j = ix2 b x := ⟨j 0, j 1, eq_ix2 j⟩
  rw [term_apply, hf, hw]
  show FloatOps.mulf (Yf (0 + b.val) (k + 0) (n + 0)) (Yw (0 + b.val) (n + 0) (0 + x.val)) = FloatOps.mulf (Yf b.val k n) (Yw b.val n x.val)
  simp only [Nat.zero_add, Nat.add_zero]

/-- The components after the first, from the sum up to `n`: the sum up to the last. -/
theorem wp_more {Q : PUnit → sProp 𝕄} (k : ℕ) (l : List (Loads M N)) : ∀ n, Good k (n + 1) l →
    ∀ K : FVec F ⟨2, ![8, N]⟩ .f32 → Prog (TpuEff nD τ sig (Elt F) Λ .tc) PUnit,
    iprop(hold (τ := τ) (U := U) c f Yf ∗ hold c w Yw)
      ⊢ iprop((hold c f Yf ∗ hold c w Yw -∗ wp frame (wpE defs Variants.none (c : Thread nD τ) none) E (K (lanes N k (n + l.length) Yf Yw)) Q)
          -∗ wp frame (wpE defs Variants.none (c : Thread nD τ) none) E (more h f w l (lanes N k n Yf Yw) K) Q) := by
  induction l with
  | nil =>
    intro n _ K
    iintro H HK
    iapply HK; iexact H
  | cons t l ih =>
    intro n hg K
    obtain ⟨hf, hw, hg⟩ := hg
    iintro ⟨Hf, Hw⟩ HK
    unfold more
    iapply (wp_read c f Yf t.offF t.inbF) $$ Hf
    iintro Hf
    iapply (wp_read c w Yw t.offW t.inbW) $$ Hw
    iintro Hw
    have e : addf (lanes N k n Yf Yw) (term N (onIdx ![8, 1, 1] fun b g x => Yf (t.offF 0 + b) (t.offF 1 + g) (t.offF 2 + x))
        (onIdx ![8, 1, N] fun b g x => Yw (t.offW 0 + b) (t.offW 1 + g) (t.offW 2 + x)) h.c1 h.c2 h.c3 h.c4) = lanes N k (n + 1) Yf Yw := by
      rw [term_lane h Yf Yw k (n + 1) t hf hw]; rfl
    rw [e, show n + (t :: l).length = n + 1 + l.length by rw [List.length_cons]; omega]
    iapply (ih (n + 1) hg K) $$ [Hf Hw]
    · isplitl [Hf] <;> iassumption
    · iexact HK

/-- A trip fills one row more. -/
theorem wp_trip (k g0 : ℕ) (t : Loads M N) (l : List (Loads M N)) (offO : Fin 3 → ℕ) (inbO) (hg : Good k 0 (t :: l)) (hO : offO = ![0, k + g0, 0]) :
    iprop(hold (τ := τ) (U := U) c f Yf ∗ hold c w Yw ∗ hold c o (fill l.length g0 k Yf Yw Yo))
      ⊢ wp frame (wpE defs Variants.none (c : Thread nD τ) none) E (trip h f w o t l offO inbO)
          fun _ => iprop(hold c f Yf ∗ hold c w Yw ∗ hold c o (fill l.length g0 (k + 1) Yf Yw Yo)) := by
  obtain ⟨hf, hw, hg⟩ := hg
  iintro ⟨Hf, Hw, Ho⟩
  unfold trip
  iapply (wp_read c f Yf t.offF t.inbF) $$ Hf
  iintro Hf
  iapply (wp_read c w Yw t.offW t.inbW) $$ Hw
  iintro Hw
  rw [show term N (onIdx ![8, 1, 1] fun b g x => Yf (t.offF 0 + b) (t.offF 1 + g) (t.offF 2 + x))
        (onIdx ![8, 1, N] fun b g x => Yw (t.offW 0 + b) (t.offW 1 + g) (t.offW 2 + x)) h.c1 h.c2 h.c3 h.c4 = lanes N k 0 Yf Yw from
    term_lane h Yf Yw k 0 t hf hw]
  iapply (wp_more h f w c Yf Yw k l 0 hg) $$ [Hf Hw]
  · isplitl [Hf] <;> iassumption
  iintro ⟨Hf, Hw⟩
  iapply (wp_read c o _ offO inbO) $$ Ho
  iintro Ho
  iapply (wp_write c o _ (fill l.length g0 (k + 1) Yf Yw Yo) offO inbO _ ?_ ?_) $$ Ho
  · intro j
    subst hO
    obtain ⟨b, u, x, rfl⟩ : ∃ (b : Fin 8) (u : Fin 1) (x : Fin N), j = ix3 b u x := ⟨j 0, j 1, j 2, eq_ix3 j⟩
    have h1 : u.val = 0 := by omega
    rw [shapeCast_apply _ h.c5 (ix3 b u x) (ix2 b x) (by
      rw [Shape.rowMajor_val_two, Shape.rowMajor_val_three]
      show b.val * N + x.val = (b.val * 1 + u.val) * N + x.val
      rw [h1, Nat.mul_one, Nat.add_zero])]
    show fill l.length g0 (k + 1) Yf Yw Yo (0 + b.val) (k + g0 + u.val) (0 + x.val)
      = chain (fun m => Yf b.val k m) (fun m => Yw b.val m x.val) (0 + l.length)
    rw [h1]
    unfold fill
    rw [if_pos (by omega)]
    simp only [Nat.zero_add, Nat.add_zero, Nat.add_sub_cancel]
  · intro i hi
    subst hO
    unfold fill
    have hne : (i 1).val ≠ k + g0 := by
      intro he
      refine hi fun a => ?_
      match a with
      | ⟨0, _⟩ => have := (i 0).isLt; show 0 ≤ (i 0).val ∧ (i 0).val < 0 + 8; have h8 : (i 0).val < 8 := this; omega
      | ⟨1, _⟩ => show k + g0 ≤ (i 1).val ∧ (i 1).val < k + g0 + 1; omega
      | ⟨2, _⟩ => have := (i 2).isLt; show 0 ≤ (i 2).val ∧ (i 2).val < 0 + N; have h8 : (i 2).val < N := this; omega
    by_cases hh : g0 ≤ (i 1).val ∧ (i 1).val < g0 + k
    · rw [if_pos hh, if_pos (by omega)]
    · rw [if_neg hh, if_neg (by omega)]
  iintro Ho
  rw [wp_ret]
  imodintro
  isplitl [Hf]; · iexact Hf
  isplitl [Hw]; · iexact Hw
  iexact Ho

/-- The loop fills its sixteen rows. -/
theorem wp_block (g0 : ℕ) (L : Scf.Loop 32) (ok : L.OK) (hL : L.trips = 16) (t : Fin L.trips → Loads M N) (l : Fin L.trips → List (Loads M N))
    (n : ℕ) (hl : ∀ k, (l k).length = n) (offO : Fin L.trips → Fin 3 → ℕ)
    (inbO : ∀ k a, offO k a + (![8, 1, N] : Fin 3 → ℕ) a ≤ (![8, G, N] : Fin 3 → ℕ) a) (hg : ∀ k, Good k.val 0 (t k :: l k))
    (hO : ∀ k, offO k = ![0, k.val + g0, 0]) :
    iprop(hold (τ := τ) (U := U) c f Yf ∗ hold c w Yw ∗ hold c o Yo)
      ⊢ wp frame (wpE defs Variants.none (c : Thread nD τ) none) E
          (Scf.Loop.for L ok PUnit.unit fun k _ => trip h f w o (t k) (l k) (offO k) (inbO k))
          fun _ => iprop(hold c f Yf ∗ hold c w Yw ∗ hold c o (fill n g0 16 Yf Yw Yo)) := by
  have hb := Scf.wp_for (E := TpuEff nD τ sig (Elt F) Λ .tc) frame (wpE defs Variants.none (c : Thread nD τ) none) E L.lb L.ub L.st ok PUnit.unit
    (fun k _ => trip h f w o (t k) (l k) (offO k) (inbO k))
    (fun k _ => iprop(hold (τ := τ) (U := U) c f Yf ∗ hold c w Yw ∗ hold c o (fill n g0 k Yf Yw Yo)))
    (fun k _ => by
      have := wp_trip (defs := defs) (E := E) (U := U) h f w o c Yf Yw Yo k.val g0 (t k) (l k) (offO k) (inbO k) (hg k) (hO k)
      rw [hl k] at this
      exact this)
    (Q := fun _ => iprop(hold c f Yf ∗ hold c w Yw ∗ hold c o (fill n g0 16 Yf Yw Yo)))
  refine BIBase.Entails.trans ?_ hb
  rw [fill_zero]
  have hL' : Scf.trips L.lb L.ub L.st = 16 := hL
  rw [hL']
  iintro H
  isplitl [H]; · iexact H
  iintro %_ H
  iexact H

end Trip

end Cert.Blocks

end
-- ==== Proof.Table.lean ====
/- The kernel's 136 loops as a table, and the run of a table.

   A row of the table names the three blocks that a loop works on, how many components its sum has and which sixteen
   rows of the output it fills. Running a row replaces the output's contents there; running the table is running its
   rows one after the other. The rule for a row in a program holds all blocks at once. -/
module

public import proofs.«01_k».proof.Proof.Loop
public import Idealize.ShloMosaic.Lib.Exec.Geometry

@[expose] public section

noncomputable section

namespace Cert.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A loop: the windows of its features, of its weights and of its output; one less than its components; and which
    sixteen rows it fills. -/
structure Entry where
  a : Fin 84
  b : Fin 84
  o : Fin 84
  M : ℕ
  j : ℕ
deriving DecidableEq

/-- The contents of all windows after a loop. -/
def step (e : Entry) (X : Fin 84 → Fn F) : Fin 84 → Fn F :=
  Function.update X e.o (fill e.M (16 * e.j) 16 (X e.a) (X e.b) (X e.o))

/-- The contents of all windows after the loops of a list. -/
def steps : List Entry → (Fin 84 → Fn F) → Fin 84 → Fn F
  | [], X => X
  | e :: l, X => steps l (step e X)

theorem steps_append (l l' : List Entry) (X : Fin 84 → Fn F) : steps (l ++ l') X = steps l' (steps l X) := by
  induction l generalizing X with
  | nil => rfl
  | cons e l ih => exact ih _

def rows0 : List Entry := [⟨0, 8, 76, 0, 0⟩, ⟨1, 9, 76, 2, 1⟩, ⟨2, 10, 76, 4, 2⟩, ⟨3, 11, 76, 6, 3⟩, ⟨4, 42, 76, 0, 4⟩, ⟨5, 43, 76, 2, 5⟩, ⟨6, 44, 76, 4, 6⟩, ⟨7, 45, 76, 6, 7⟩, ⟨0, 12, 77, 0, 0⟩, ⟨1, 13, 77, 2, 1⟩]
def rows1 : List Entry := [⟨1, 14, 77, 2, 2⟩, ⟨1, 15, 77, 2, 3⟩, ⟨2, 16, 77, 4, 4⟩, ⟨2, 17, 77, 4, 5⟩, ⟨2, 18, 77, 4, 6⟩, ⟨3, 19, 77, 6, 7⟩, ⟨3, 20, 77, 6, 8⟩, ⟨4, 46, 77, 0, 9⟩, ⟨5, 47, 77, 2, 10⟩, ⟨5, 48, 77, 2, 11⟩]
def rows2 : List Entry := [⟨5, 49, 77, 2, 12⟩, ⟨6, 50, 77, 4, 13⟩, ⟨6, 51, 77, 4, 14⟩, ⟨6, 52, 77, 4, 15⟩, ⟨7, 53, 77, 6, 16⟩, ⟨7, 54, 77, 6, 17⟩, ⟨0, 21, 78, 0, 0⟩, ⟨1, 22, 78, 2, 1⟩, ⟨1, 23, 78, 2, 2⟩, ⟨1, 24, 78, 2, 3⟩]
def rows3 : List Entry := [⟨2, 25, 78, 4, 4⟩, ⟨2, 26, 78, 4, 5⟩, ⟨2, 27, 78, 4, 6⟩, ⟨2, 28, 78, 4, 7⟩, ⟨3, 29, 78, 6, 8⟩, ⟨3, 30, 78, 6, 9⟩, ⟨3, 31, 78, 6, 10⟩, ⟨4, 55, 78, 0, 11⟩, ⟨5, 56, 78, 2, 12⟩, ⟨5, 57, 78, 2, 13⟩]
def rows4 : List Entry := [⟨5, 58, 78, 2, 14⟩, ⟨6, 59, 78, 4, 15⟩, ⟨6, 60, 78, 4, 16⟩, ⟨6, 61, 78, 4, 17⟩, ⟨6, 62, 78, 4, 18⟩, ⟨7, 63, 78, 6, 19⟩, ⟨7, 64, 78, 6, 20⟩, ⟨7, 65, 78, 6, 21⟩, ⟨0, 32, 79, 0, 0⟩, ⟨1, 33, 79, 2, 1⟩]
def rows5 : List Entry := [⟨1, 34, 79, 2, 2⟩, ⟨2, 35, 79, 4, 3⟩, ⟨2, 36, 79, 4, 4⟩, ⟨2, 37, 79, 4, 5⟩, ⟨3, 38, 79, 6, 6⟩, ⟨3, 39, 79, 6, 7⟩, ⟨3, 40, 79, 6, 8⟩, ⟨3, 41, 79, 6, 9⟩, ⟨4, 66, 79, 0, 10⟩, ⟨5, 67, 79, 2, 11⟩]
def rows6 : List Entry := [⟨5, 68, 79, 2, 12⟩, ⟨6, 69, 79, 4, 13⟩, ⟨6, 70, 79, 4, 14⟩, ⟨6, 71, 79, 4, 15⟩, ⟨7, 72, 79, 6, 16⟩, ⟨7, 73, 79, 6, 17⟩, ⟨7, 74, 79, 6, 18⟩, ⟨7, 75, 79, 6, 19⟩, ⟨0, 42, 80, 0, 0⟩, ⟨1, 43, 80, 2, 1⟩]
def rows7 : List Entry := [⟨2, 44, 80, 4, 2⟩, ⟨3, 45, 80, 6, 3⟩, ⟨4, 8, 80, 0, 4⟩, ⟨5, 9, 80, 2, 5⟩, ⟨6, 10, 80, 4, 6⟩, ⟨7, 11, 80, 6, 7⟩, ⟨0, 46, 81, 0, 0⟩, ⟨1, 47, 81, 2, 1⟩, ⟨1, 48, 81, 2, 2⟩, ⟨1, 49, 81, 2, 3⟩]
def rows8 : List Entry := [⟨2, 50, 81, 4, 4⟩, ⟨2, 51, 81, 4, 5⟩, ⟨2, 52, 81, 4, 6⟩, ⟨3, 53, 81, 6, 7⟩, ⟨3, 54, 81, 6, 8⟩, ⟨4, 12, 81, 0, 9⟩, ⟨5, 13, 81, 2, 10⟩, ⟨5, 14, 81, 2, 11⟩, ⟨5, 15, 81, 2, 12⟩, ⟨6, 16, 81, 4, 13⟩]
def rows9 : List Entry := [⟨6, 17, 81, 4, 14⟩, ⟨6, 18, 81, 4, 15⟩, ⟨7, 19, 81, 6, 16⟩, ⟨7, 20, 81, 6, 17⟩, ⟨0, 55, 82, 0, 0⟩, ⟨1, 56, 82, 2, 1⟩, ⟨1, 57, 82, 2, 2⟩, ⟨1, 58, 82, 2, 3⟩, ⟨2, 59, 82, 4, 4⟩, ⟨2, 60, 82, 4, 5⟩]
def rows10 : List Entry := [⟨2, 61, 82, 4, 6⟩, ⟨2, 62, 82, 4, 7⟩, ⟨3, 63, 82, 6, 8⟩, ⟨3, 64, 82, 6, 9⟩, ⟨3, 65, 82, 6, 10⟩, ⟨4, 21, 82, 0, 11⟩, ⟨5, 22, 82, 2, 12⟩, ⟨5, 23, 82, 2, 13⟩, ⟨5, 24, 82, 2, 14⟩, ⟨6, 25, 82, 4, 15⟩]
def rows11 : List Entry := [⟨6, 26, 82, 4, 16⟩, ⟨6, 27, 82, 4, 17⟩, ⟨6, 28, 82, 4, 18⟩, ⟨7, 29, 82, 6, 19⟩, ⟨7, 30, 82, 6, 20⟩, ⟨7, 31, 82, 6, 21⟩, ⟨0, 66, 83, 0, 0⟩, ⟨1, 67, 83, 2, 1⟩, ⟨1, 68, 83, 2, 2⟩, ⟨2, 69, 83, 4, 3⟩]
def rows12 : List Entry := [⟨2, 70, 83, 4, 4⟩, ⟨2, 71, 83, 4, 5⟩, ⟨3, 72, 83, 6, 6⟩, ⟨3, 73, 83, 6, 7⟩, ⟨3, 74, 83, 6, 8⟩, ⟨3, 75, 83, 6, 9⟩, ⟨4, 32, 83, 0, 10⟩, ⟨5, 33, 83, 2, 11⟩, ⟨5, 34, 83, 2, 12⟩, ⟨6, 35, 83, 4, 13⟩]
def rows13 : List Entry := [⟨6, 36, 83, 4, 14⟩, ⟨6, 37, 83, 4, 15⟩, ⟨7, 38, 83, 6, 16⟩, ⟨7, 39, 83, 6, 17⟩, ⟨7, 40, 83, 6, 18⟩, ⟨7, 41, 83, 6, 19⟩]

/-- All the kernel's loops, in order. -/
def rows : List Entry := rows0 ++ (rows1 ++ (rows2 ++ (rows3 ++ (rows4 ++ (rows5 ++ (rows6 ++ (rows7 ++ (rows8 ++ (rows9 ++ (rows10
  ++ (rows11 ++ (rows12 ++ rows13))))))))))))

/-! ## What the table leaves -/

/-- A list of loops that does not write a window leaves it as it was. -/
theorem steps_of_ne (w : Fin 84) (l : List Entry) : ∀ X : Fin 84 → Fn F, (∀ e ∈ l, e.o ≠ w) → steps l X w = X w := by
  induction l with
  | nil => intro X _; rfl
  | cons e l ih =>
    intro X h
    show steps l (step e X) w = X w
    rw [ih _ fun e' he => h e' (List.mem_cons_of_mem _ he)]
    exact Function.update_of_ne (h e List.mem_cons_self).symm _ _

/-- A list of loops none of which fills the rows of block `j` of window `w` leaves them as they were. -/
theorem steps_of_block_ne (w : Fin 84) (j : ℕ) (l : List Entry) : ∀ X : Fin 84 → Fn F, (∀ e ∈ l, ¬(e.o = w ∧ e.j = j)) →
    ∀ b g x, g / 16 = j → steps l X w b g x = X w b g x := by
  induction l with
  | nil => intro X _ b g x _; rfl
  | cons e l ih =>
    intro X h b g x hg
    show steps l (step e X) w b g x = X w b g x
    rw [ih _ (fun e' he => h e' (List.mem_cons_of_mem _ he)) b g x hg]
    unfold step
    by_cases hw : w = e.o
    · subst hw
      rw [Function.update_self]
      have hj : e.j ≠ j := fun hj => h e List.mem_cons_self ⟨rfl, hj⟩
      unfold fill
      rw [if_neg (by omega)]
    · rw [Function.update_of_ne hw]

/-- The rows that a loop of the list fills, no loop after it filling them again and no loop before it writing what it
    reads: the sum over its components of the first contents. -/
theorem steps_row (l : List Entry) : ∀ X : Fin 84 → Fn F, (∀ e ∈ l, ∀ e' ∈ l, e.o ≠ e'.a ∧ e.o ≠ e'.b) →
    l.Pairwise (fun e e' => ¬(e.o = e'.o ∧ e.j = e'.j)) → ∀ e ∈ l, ∀ b g x, g / 16 = e.j →
    steps l X e.o b g x = chain (fun m => X e.a b (g % 16) m) (fun m => X e.b b m x) e.M := by
  induction l with
  | nil => intro X _ _ e he; exact absurd he List.not_mem_nil
  | cons e₀ l ih =>
    intro X hr hp e he b g x hg
    obtain ⟨hp0, hp⟩ := List.pairwise_cons.1 hp
    show steps l (step e₀ X) e.o b g x = _
    rcases List.mem_cons.1 he with rfl | he
    · rw [steps_of_block_ne e.o e.j l _ (fun e' he' hh => hp0 e' he' ⟨hh.1.symm, hh.2.symm⟩) b g x hg]
      unfold step
      rw [Function.update_self]
      unfold fill
      rw [if_pos (by omega), show g - 16 * e.j = g % 16 by omega]
    · rw [ih _ (fun e1 h1 e2 h2 => hr e1 (List.mem_cons_of_mem _ h1) e2 (List.mem_cons_of_mem _ h2)) hp e he b g x hg]
      have h := hr e₀ List.mem_cons_self e (List.mem_cons_of_mem _ he)
      unfold step
      rw [Function.update_of_ne h.1.symm, Function.update_of_ne h.2.symm]

/-- No loop writes a window that a loop reads. -/
theorem rows_reads : ∀ e ∈ rows, ∀ e' ∈ rows, e.o ≠ e'.a ∧ e.o ≠ e'.b := by
  have h1 : ∀ e ∈ rows, 76 ≤ e.o.val ∧ e.a.val < 76 ∧ e.b.val < 76 := by decide +kernel
  intro e he e' he'
  exact ⟨fun h => by have := (h1 e he).1; have := (h1 e' he').2.1; rw [h] at *; omega,
    fun h => by have := (h1 e he).1; have := (h1 e' he').2.2; rw [h] at *; omega⟩

/-- No two loops fill the same rows. -/
theorem rows_pairwise : rows.Pairwise (fun e e' => ¬(e.o = e'.o ∧ e.j = e'.j)) := by decide +kernel

/-- The rows that a loop of the table fills. -/
theorem rows_row (X : Fin 84 → Fn F) (e : Entry) (he : e ∈ rows) (b g x : ℕ) (hg : g / 16 = e.j) :
    steps rows X e.o b g x = chain (fun m => X e.a b (g % 16) m) (fun m => X e.b b m x) e.M :=
  steps_row rows X rows_reads rows_pairwise e he b g x hg

/-- An input window is left as it was. -/
theorem rows_input (X : Fin 84 → Fn F) (w : Fin 84) (hw : w.val < 76) : steps rows X w = X w :=
  steps_of_ne w rows X fun e he h => by
    have h1 : ∀ e ∈ rows, 76 ≤ e.o.val := by decide +kernel
    have := h1 e he; rw [h] at this; omega

/-- How many blocks of sixteen rows an output window has. -/
def blocks (w : Fin 84) : ℕ := if w.val % 4 = 0 then 8 else if w.val % 4 = 1 then 18 else if w.val % 4 = 2 then 22 else 20

/-- Every block of every output window is filled by a loop. -/
theorem rows_cover (w : Fin 84) (hw : 76 ≤ w.val) (j : ℕ) (hj : j < blocks w) : ∃ e ∈ rows, e.o = w ∧ e.j = j := by
  have h : ∀ w : Fin 84, 76 ≤ w.val → ∀ j : Fin (blocks w), ∃ e ∈ rows, e.o = w ∧ e.j = j.val := by decide +kernel
  exact h w hw ⟨j, hj⟩

/-- What the table leaves in an output does not depend on what the outputs held. -/
theorem rows_congr (X X' : Fin 84 → Fn F) (h : ∀ w : Fin 84, w.val < 76 → X w = X' w) (w : Fin 84) (hw : 76 ≤ w.val) (b g x : ℕ)
    (hg : g < 16 * blocks w) : steps rows X w b g x = steps rows X' w b g x := by
  obtain ⟨e, he, rfl, hj⟩ := rows_cover w hw (g / 16) (by omega)
  have h1 : ∀ e ∈ rows, e.a.val < 76 ∧ e.b.val < 76 := by decide +kernel
  rw [rows_row X e he b g x hj.symm, rows_row X' e he b g x hj.symm, h _ (h1 e he).1, h _ (h1 e he).2]

/-! ## Contents as functions of three coordinates -/

/-- The contents of a shape with three axes and f32 elements, from a function of the coordinates (any contents, for a
    shape of another kind). -/
def ofFn : {sh : Shape} → {e : EltTy} → Fn F → sh.Idx → Elt F e
  | ⟨3, d⟩, .f32, Y => onIdx d Y
  | _, _, _ => fun _ => Classical.choice inferInstance

/-- Contents as a function of the coordinates (zero outside the shape, and for a shape of another kind). -/
def toFn : {sh : Shape} → {e : EltTy} → (sh.Idx → Elt F e) → Fn F
  | ⟨3, d⟩, .f32, v => fun a b c => if h : ∀ k : Fin 3, (![a, b, c] : Fin 3 → ℕ) k < d k then v fun k => ⟨![a, b, c] k, h k⟩ else FloatOps.ofBits .f32 0
  | _, _, _ => fun _ _ _ => FloatOps.ofBits .f32 0

theorem ofFn_toFn3 (d : Fin 3 → ℕ) (v : Shape.Idx ⟨3, d⟩ → Elt F .f32) : (ofFn (toFn v) : Shape.Idx ⟨3, d⟩ → Elt F .f32) = v := by
  funext j
  show (if h : ∀ k : Fin 3, (![(j 0).val, (j 1).val, (j 2).val] : Fin 3 → ℕ) k < d k then _ else _) = v j
  have h : ∀ k : Fin 3, (![(j 0).val, (j 1).val, (j 2).val] : Fin 3 → ℕ) k < d k := fun k => by
    match k with
    | 0 => exact (j 0).isLt
    | 1 => exact (j 1).isLt
    | 2 => exact (j 2).isLt
  rw [dif_pos h]
  congr 1
  funext k
  match k with
  | 0 => rfl
  | 1 => rfl
  | 2 => rfl

theorem ofFn_toFn : {sh : Shape} → {e : EltTy} → sh.rank = 3 → e = .f32 → (v : sh.Idx → Elt F e) → ofFn (toFn v) = v
  | ⟨_, d⟩, _, rfl, rfl, v => ofFn_toFn3 d v

/-- Contents that agree at every coordinate of the shape. -/
theorem ofFn_congr : {sh : Shape} → {e : EltTy} → (h : sh.rank = 3) → (Y Z : Fn F) →
    (∀ a b c, b < sh.size (Fin.cast h.symm 1) → Y a b c = Z a b c) → (ofFn Y : sh.Idx → Elt F e) = ofFn Z
  | ⟨_, d⟩, .f32, rfl, Y, Z, h => funext fun j => h _ _ _ (j 1).isLt
  | ⟨_, d⟩, e, rfl, Y, Z, h => by cases e <;> first | rfl | exact funext fun j => h _ _ _ (j 1).isLt

section Rules

variable {nD : ℕ} {τ : Topo} {sig : RefSig} {Λ : Labels} {U : Type} [URA U]

local notation "𝕄" => MT nD τ sig Unit (Elt F) ℕ U ℕ

variable {defs : Defs nD τ sig (Elt F) Λ}

/-- A window's buffer held whole, its contents a function of the three coordinates. -/
def holdW (c : Dev nD) {sp : Space} {sh : Shape} {e : EltTy} (m : Memref sig .tc sp sh e) (Y : Fn F) : sProp 𝕄 :=
  owns (c : Thread nD τ) m fullShare (ofFn Y)

/-- All windows held, window `w` at `X w`. -/
def all (R : Fin 84 → Fn F → sProp 𝕄) (X : Fin 84 → Fn F) : sProp 𝕄 := bigSep Finset.univ fun w => R w (X w)

/-- Three windows of all, and all again from them with the third changed. -/
theorem all_split (R : Fin 84 → Fn F → sProp 𝕄) (X : Fin 84 → Fn F) (a b o : Fin 84) (hab : a ≠ b) (hao : a ≠ o) (hbo : b ≠ o) :
    all R X ⊢ iprop((R a (X a) ∗ R b (X b) ∗ R o (X o)) ∗ (∀ Y, (R a (X a) ∗ R b (X b) ∗ R o Y) -∗ all R (Function.update X o Y))) := by
  have key : ∀ Z : Fin 84 → Fn F, all R Z = iprop(R a (Z a) ∗ R b (Z b) ∗ R o (Z o)
      ∗ bigSep (((Finset.univ.erase a).erase b).erase o) fun w => R w (Z w)) := by
    intro Z
    unfold all
    rw [bigSep_univ_split a, bigSep_erase (i := b) (Finset.mem_erase.2 ⟨hab.symm, Finset.mem_univ _⟩),
      bigSep_erase (i := o) (Finset.mem_erase.2 ⟨hbo.symm, Finset.mem_erase.2 ⟨hao.symm, Finset.mem_univ _⟩⟩)]
    rfl
  rw [key X]
  iintro ⟨Ha, Hb, Ho, H⟩
  isplitl [Ha Hb Ho]
  · isplitl [Ha]; · iexact Ha
    isplitl [Hb]; · iexact Hb
    iexact Ho
  iintro %Y ⟨Ha, Hb, Ho⟩
  rw [key (Function.update X o Y), Function.update_self, Function.update_of_ne hao, Function.update_of_ne hbo,
    bigSep_congr (s := ((Finset.univ.erase a).erase b).erase o) (Φ := fun w => R w (Function.update X o Y w)) (Ψ := fun w => R w (X w))
      (fun w hw => by rw [Function.update_of_ne (Finset.mem_erase.1 hw).1])]
  isplitl [Ha]; · iexact Ha
  isplitl [Hb]; · iexact Hb
  isplitl [Ho]; · iexact Ho
  iexact H

/-- A choice of contents for every window of a set, from one for each. -/
theorem bigSep_choose {I : Type} [DecidableEq I] {B : Type} [Nonempty B] (Φ : I → B → sProp 𝕄) (s : Finset I) :
    bigSep s (fun i => iprop(∃ y, Φ i y)) ⊢ iprop(∃ f : I → B, bigSep s fun i => Φ i (f i)) := by
  classical
  induction s using Finset.induction_on with
  | empty =>
    rw [bigSep_empty]
    iintro H
    iexists (fun _ => Classical.choice inferInstance)
    rw [bigSep_empty]
    iexact H
  | insert i s hi ih =>
    have e : bigSep (insert i s) (fun i => iprop(∃ y, Φ i y)) = iprop((∃ y, Φ i y) ∗ bigSep s fun i => iprop(∃ y, Φ i y)) := bigSep_insert hi
    rw [e]
    iintro ⟨⟨%y, Hy⟩, H⟩
    ihave ⟨%f, H⟩ := ih $$ H
    iexists (Function.update f i y)
    have e' : bigSep (insert i s) (fun k => Φ k (Function.update f i y k))
        = iprop(Φ i (Function.update f i y i) ∗ bigSep s fun k => Φ k (Function.update f i y k)) := bigSep_insert hi
    rw [e', Function.update_self, bigSep_congr (s := s) (Φ := fun k => Φ k (Function.update f i y k)) (Ψ := fun k => Φ k (f k))
      (fun k hk => by rw [Function.update_of_ne (ne_of_mem_of_not_mem hk hi)])]
    isplitl [Hy]; · iexact Hy
    iexact H

/-- A loop of the table at the head of a program. -/
theorem wp_row {c : Dev nD} {E : Set ℕ} (R : Fin 84 → Fn F → sProp 𝕄) (X : Fin 84 → Fn F) (e : Entry)
    (hne : e.a ≠ e.b ∧ e.a ≠ e.o ∧ e.b ≠ e.o) {p : Prog (TpuEff nD τ sig (Elt F) Λ .tc) PUnit}
    (hp : ∀ Ya Yb Yo, iprop(R e.a Ya ∗ R e.b Yb ∗ R e.o Yo) ⊢ wp frame (wpE defs Variants.none (c : Thread nD τ) none) E p
      fun _ => iprop(R e.a Ya ∗ R e.b Yb ∗ R e.o (fill e.M (16 * e.j) 16 Ya Yb Yo)))
    {k : PUnit → Prog (TpuEff nD τ sig (Elt F) Λ .tc) PUnit} {Q : PUnit → sProp 𝕄}
    (hk : all R (step e X) ⊢ wp frame (wpE defs Variants.none (c : Thread nD τ) none) E (k ⟨⟩) Q) :
    all R X ⊢ wp frame (wpE defs Variants.none (c : Thread nD τ) none) E (p >>= k) Q := by
  replace hk : all R (Function.update X e.o (fill e.M (16 * e.j) 16 (X e.a) (X e.b) (X e.o))) ⊢ _ := hk
  rw [wp_bind]
  refine BIBase.Entails.trans (all_split R X e.a e.b e.o hne.1 hne.2.1 hne.2.2) ?_
  iintro ⟨H, HK⟩
  iapply (wp_wand_r frame (wpE defs Variants.none (c : Thread nD τ) none) E)
  isplitl [H]
  · iapply (hp (X e.a) (X e.b) (X e.o)); iexact H
  · iintro %_ H
    iapply hk
    iapply HK; iexact H

/-- A part of the program that runs a list of loops, at the head of it. -/
theorem wp_part {c : Dev nD} {E : Set ℕ} (R : Fin 84 → Fn F → sProp 𝕄) (X : Fin 84 → Fn F) (l : List Entry)
    {p : Prog (TpuEff nD τ sig (Elt F) Λ .tc) PUnit}
    (hp : all R X ⊢ wp frame (wpE defs Variants.none (c : Thread nD τ) none) E p fun _ => all R (steps l X))
    {k : PUnit → Prog (TpuEff nD τ sig (Elt F) Λ .tc) PUnit} {Q : PUnit → sProp 𝕄}
    (hk : all R (steps l X) ⊢ wp frame (wpE defs Variants.none (c : Thread nD τ) none) E (k ⟨⟩) Q) :
    all R X ⊢ wp frame (wpE defs Variants.none (c : Thread nD τ) none) E (p >>= k) Q := by
  rw [wp_bind]
  iintro H
  iapply (wp_wand_r frame (wpE defs Variants.none (c : Thread nD τ) none) E)
  isplitl [H]
  · iapply hp; iexact H
  · iintro %_ H
    iapply hk; iexact H

/-- The end of a program. -/
theorem wp_end {c : Dev nD} {E : Set ℕ} (R : Fin 84 → Fn F → sProp 𝕄) (X : Fin 84 → Fn F) :
    all R X ⊢ wp frame (wpE defs Variants.none (c : Thread nD τ) none) E (.ret ⟨⟩ : Prog (TpuEff nD τ sig (Elt F) Λ .tc) PUnit) fun _ => all R X := by
  rw [wp_ret]
  iintro H
  imodintro
  iexact H

/-- The loop of a block with 1 component, as the kernel spells it. -/
theorem loop1 (N G : ℕ) (h : LaneFacts N) {f : Memref sig .tc .vmem ⟨3, ![8, 16, 1]⟩ .f32} {w : Memref sig .tc .vmem ⟨3, ![8, 1, N]⟩ .f32}
    {o : Memref sig .tc .vmem ⟨3, ![8, G, N]⟩ .f32} (c : Dev nD) {E : Set ℕ} (j : ℕ) {L : Scf.Loop 32} {ok : L.OK}
    {f0 fo : Fin L.trips → Fin 3 → ℕ}
    {i0 : ∀ k a, f0 k a + (![8, 1, 1] : Fin 3 → ℕ) a ≤ (![8, 16, 1] : Fin 3 → ℕ) a} {j0 : ∀ a, (![0, 0, 0] : Fin 3 → ℕ) a + (![8, 1, N] : Fin 3 → ℕ) a ≤ (![8, 1, N] : Fin 3 → ℕ) a}
    {io : ∀ k a, fo k a + (![8, 1, N] : Fin 3 → ℕ) a ≤ (![8, G, N] : Fin 3 → ℕ) a}
    [c0 : ∀ k, ClosedOff (f0 k)] [co : ∀ k, ClosedOff (fo k)]
    (hL : L.trips = 16) (h0 : ∀ k, (c0 k).form = ![0, k.val, 0]) (ho : ∀ k, (co k).form = ![0, k.val + 16 * j, 0]) (Yf Yw Yo : Fn F) :
    iprop(hold (τ := τ) (U := U) c f Yf ∗ hold c w Yw ∗ hold c o Yo)
      ⊢ wp frame (wpE defs Variants.none (c : Thread nD τ) none) E
          (Scf.Loop.for L ok PUnit.unit fun k _ => trip h f w o ⟨f0 k, i0 k, ![0, 0, 0], j0⟩ [] (fo k) (io k))
          fun _ => iprop(hold c f Yf ∗ hold c w Yw ∗ hold c o (fill 0 (16 * j) 16 Yf Yw Yo)) :=
  wp_block h f w o c Yf Yw Yo (16 * j) L ok hL (fun k => ⟨f0 k, i0 k, ![0, 0, 0], j0⟩) (fun k => []) 0
    (fun _ => rfl) fo io (fun k => ⟨(c0 k).eq.trans (h0 k), rfl, True.intro⟩) (fun k => (co k).eq.trans (ho k))

/-- The loop of a block with 3 components, as the kernel spells it. -/
theorem loop3 (N G : ℕ) (h : LaneFacts N) {f : Memref sig .tc .vmem ⟨3, ![8, 16, 3]⟩ .f32} {w : Memref sig .tc .vmem ⟨3, ![8, 3, N]⟩ .f32}
    {o : Memref sig .tc .vmem ⟨3, ![8, G, N]⟩ .f32} (c : Dev nD) {E : Set ℕ} (j : ℕ) {L : Scf.Loop 32} {ok : L.OK}
    {f0 f1 f2 fo : Fin L.trips → Fin 3 → ℕ}
    {i0 : ∀ k a, f0 k a + (![8, 1, 1] : Fin 3 → ℕ) a ≤ (![8, 16, 3] : Fin 3 → ℕ) a} {j0 : ∀ a, (![0, 0, 0] : Fin 3 → ℕ) a + (![8, 1, N] : Fin 3 → ℕ) a ≤ (![8, 3, N] : Fin 3 → ℕ) a}
    {i1 : ∀ k a, f1 k a + (![8, 1, 1] : Fin 3 → ℕ) a ≤ (![8, 16, 3] : Fin 3 → ℕ) a} {j1 : ∀ a, (![0, 1, 0] : Fin 3 → ℕ) a + (![8, 1, N] : Fin 3 → ℕ) a ≤ (![8, 3, N] : Fin 3 → ℕ) a}
    {i2 : ∀ k a, f2 k a + (![8, 1, 1] : Fin 3 → ℕ) a ≤ (![8, 16, 3] : Fin 3 → ℕ) a} {j2 : ∀ a, (![0, 2, 0] : Fin 3 → ℕ) a + (![8, 1, N] : Fin 3 → ℕ) a ≤ (![8, 3, N] : Fin 3 → ℕ) a}
    {io : ∀ k a, fo k a + (![8, 1, N] : Fin 3 → ℕ) a ≤ (![8, G, N] : Fin 3 → ℕ) a}
    [c0 : ∀ k, ClosedOff (f0 k)]
    [c1 : ∀ k, ClosedOff (f1 k)]
    [c2 : ∀ k, ClosedOff (f2 k)] [co : ∀ k, ClosedOff (fo k)]
    (hL : L.trips = 16) (h0 : ∀ k, (c0 k).form = ![0, k.val, 0]) (h1 : ∀ k, (c1 k).form = ![0, k.val, 1]) (h2 : ∀ k, (c2 k).form = ![0, k.val, 2]) (ho : ∀ k, (co k).form = ![0, k.val + 16 * j, 0]) (Yf Yw Yo : Fn F) :
    iprop(hold (τ := τ) (U := U) c f Yf ∗ hold c w Yw ∗ hold c o Yo)
      ⊢ wp frame (wpE defs Variants.none (c : Thread nD τ) none) E
          (Scf.Loop.for L ok PUnit.unit fun k _ => trip h f w o ⟨f0 k, i0 k, ![0, 0, 0], j0⟩ [⟨f1 k, i1 k, ![0, 1, 0], j1⟩, ⟨f2 k, i2 k, ![0, 2, 0], j2⟩] (fo k) (io k))
          fun _ => iprop(hold c f Yf ∗ hold c w Yw ∗ hold c o (fill 2 (16 * j) 16 Yf Yw Yo)) :=
  wp_block h f w o c Yf Yw Yo (16 * j) L ok hL (fun k => ⟨f0 k, i0 k, ![0, 0, 0], j0⟩) (fun k => [⟨f1 k, i1 k, ![0, 1, 0], j1⟩, ⟨f2 k, i2 k, ![0, 2, 0], j2⟩]) 2
    (fun _ => rfl) fo io (fun k => ⟨(c0 k).eq.trans (h0 k), rfl, (c1 k).eq.trans (h1 k), rfl, (c2 k).eq.trans (h2 k), rfl, True.intro⟩) (fun k => (co k).eq.trans (ho k))

/-- The loop of a block with 5 components, as the kernel spells it. -/
theorem loop5 (N G : ℕ) (h : LaneFacts N) {f : Memref sig .tc .vmem ⟨3, ![8, 16, 5]⟩ .f32} {w : Memref sig .tc .vmem ⟨3, ![8, 5, N]⟩ .f32}
    {o : Memref sig .tc .vmem ⟨3, ![8, G, N]⟩ .f32} (c : Dev nD) {E : Set ℕ} (j : ℕ) {L : Scf.Loop 32} {ok : L.OK}
    {f0 f1 f2 f3 f4 fo : Fin L.trips → Fin 3 → ℕ}
    {i0 : ∀ k a, f0 k a + (![8, 1, 1] : Fin 3 → ℕ) a ≤ (![8, 16, 5] : Fin 3 → ℕ) a} {j0 : ∀ a, (![0, 0, 0] : Fin 3 → ℕ) a + (![8, 1, N] : Fin 3 → ℕ) a ≤ (![8, 5, N] : Fin 3 → ℕ) a}
    {i1 : ∀ k a, f1 k a + (![8, 1, 1] : Fin 3 → ℕ) a ≤ (![8, 16, 5] : Fin 3 → ℕ) a} {j1 : ∀ a, (![0, 1, 0] : Fin 3 → ℕ) a + (![8, 1, N] : Fin 3 → ℕ) a ≤ (![8, 5, N] : Fin 3 → ℕ) a}
    {i2 : ∀ k a, f2 k a + (![8, 1, 1] : Fin 3 → ℕ) a ≤ (![8, 16, 5] : Fin 3 → ℕ) a} {j2 : ∀ a, (![0, 2, 0] : Fin 3 → ℕ) a + (![8, 1, N] : Fin 3 → ℕ) a ≤ (![8, 5, N] : Fin 3 → ℕ) a}
    {i3 : ∀ k a, f3 k a + (![8, 1, 1] : Fin 3 → ℕ) a ≤ (![8, 16, 5] : Fin 3 → ℕ) a} {j3 : ∀ a, (![0, 3, 0] : Fin 3 → ℕ) a + (![8, 1, N] : Fin 3 → ℕ) a ≤ (![8, 5, N] : Fin 3 → ℕ) a}
    {i4 : ∀ k a, f4 k a + (![8, 1, 1] : Fin 3 → ℕ) a ≤ (![8, 16, 5] : Fin 3 → ℕ) a} {j4 : ∀ a, (![0, 4, 0] : Fin 3 → ℕ) a + (![8, 1, N] : Fin 3 → ℕ) a ≤ (![8, 5, N] : Fin 3 → ℕ) a}
    {io : ∀ k a, fo k a + (![8, 1, N] : Fin 3 → ℕ) a ≤ (![8, G, N] : Fin 3 → ℕ) a}
    [c0 : ∀ k, ClosedOff (f0 k)]
    [c1 : ∀ k, ClosedOff (f1 k)]
    [c2 : ∀ k, ClosedOff (f2 k)]
    [c3 : ∀ k, ClosedOff (f3 k)]
    [c4 : ∀ k, ClosedOff (f4 k)] [co : ∀ k, ClosedOff (fo k)]
    (hL : L.trips = 16) (h0 : ∀ k, (c0 k).form = ![0, k.val, 0]) (h1 : ∀ k, (c1 k).form = ![0, k.val, 1]) (h2 : ∀ k, (c2 k).form = ![0, k.val, 2]) (h3 : ∀ k, (c3 k).form = ![0, k.val, 3]) (h4 : ∀ k, (c4 k).form = ![0, k.val, 4]) (ho : ∀ k, (co k).form = ![0, k.val + 16 * j, 0]) (Yf Yw Yo : Fn F) :
    iprop(hold (τ := τ) (U := U) c f Yf ∗ hold c w Yw ∗ hold c o Yo)
      ⊢ wp frame (wpE defs Variants.none (c : Thread nD τ) none) E
          (Scf.Loop.for L ok PUnit.unit fun k _ => trip h f w o ⟨f0 k, i0 k, ![0, 0, 0], j0⟩ [⟨f1 k, i1 k, ![0, 1, 0], j1⟩, ⟨f2 k, i2 k, ![0, 2, 0], j2⟩, ⟨f3 k, i3 k, ![0, 3, 0], j3⟩, ⟨f4 k, i4 k, ![0, 4, 0], j4⟩] (fo k) (io k))
          fun _ => iprop(hold c f Yf ∗ hold c w Yw ∗ hold c o (fill 4 (16 * j) 16 Yf Yw Yo)) :=
  wp_block h f w o c Yf Yw Yo (16 * j) L ok hL (fun k => ⟨f0 k, i0 k, ![0, 0, 0], j0⟩) (fun k => [⟨f1 k, i1 k, ![0, 1, 0], j1⟩, ⟨f2 k, i2 k, ![0, 2, 0], j2⟩, ⟨f3 k, i3 k, ![0, 3, 0], j3⟩, ⟨f4 k, i4 k, ![0, 4, 0], j4⟩]) 4
    (fun _ => rfl) fo io (fun k => ⟨(c0 k).eq.trans (h0 k), rfl, (c1 k).eq.trans (h1 k), rfl, (c2 k).eq.trans (h2 k), rfl, (c3 k).eq.trans (h3 k), rfl, (c4 k).eq.trans (h4 k), rfl, True.intro⟩) (fun k => (co k).eq.trans (ho k))

/-- The loop of a block with 7 components, as the kernel spells it. -/
theorem loop7 (N G : ℕ) (h : LaneFacts N) {f : Memref sig .tc .vmem ⟨3, ![8, 16, 7]⟩ .f32} {w : Memref sig .tc .vmem ⟨3, ![8, 7, N]⟩ .f32}
    {o : Memref sig .tc .vmem ⟨3, ![8, G, N]⟩ .f32} (c : Dev nD) {E : Set ℕ} (j : ℕ) {L : Scf.Loop 32} {ok : L.OK}
    {f0 f1 f2 f3 f4 f5 f6 fo : Fin L.trips → Fin 3 → ℕ}
    {i0 : ∀ k a, f0 k a + (![8, 1, 1] : Fin 3 → ℕ) a ≤ (![8, 16, 7] : Fin 3 → ℕ) a} {j0 : ∀ a, (![0, 0, 0] : Fin 3 → ℕ) a + (![8, 1, N] : Fin 3 → ℕ) a ≤ (![8, 7, N] : Fin 3 → ℕ) a}
    {i1 : ∀ k a, f1 k a + (![8, 1, 1] : Fin 3 → ℕ) a ≤ (![8, 16, 7] : Fin 3 → ℕ) a} {j1 : ∀ a, (![0, 1, 0] : Fin 3 → ℕ) a + (![8, 1, N] : Fin 3 → ℕ) a ≤ (![8, 7, N] : Fin 3 → ℕ) a}
    {i2 : ∀ k a, f2 k a + (![8, 1, 1] : Fin 3 → ℕ) a ≤ (![8, 16, 7] : Fin 3 → ℕ) a} {j2 : ∀ a, (![0, 2, 0] : Fin 3 → ℕ) a + (![8, 1, N] : Fin 3 → ℕ) a ≤ (![8, 7, N] : Fin 3 → ℕ) a}
    {i3 : ∀ k a, f3 k a + (![8, 1, 1] : Fin 3 → ℕ) a ≤ (![8, 16, 7] : Fin 3 → ℕ) a} {j3 : ∀ a, (![0, 3, 0] : Fin 3 → ℕ) a + (![8, 1, N] : Fin 3 → ℕ) a ≤ (![8, 7, N] : Fin 3 → ℕ) a}
    {i4 : ∀ k a, f4 k a + (![8, 1, 1] : Fin 3 → ℕ) a ≤ (![8, 16, 7] : Fin 3 → ℕ) a} {j4 : ∀ a, (![0, 4, 0] : Fin 3 → ℕ) a + (![8, 1, N] : Fin 3 → ℕ) a ≤ (![8, 7, N] : Fin 3 → ℕ) a}
    {i5 : ∀ k a, f5 k a + (![8, 1, 1] : Fin 3 → ℕ) a ≤ (![8, 16, 7] : Fin 3 → ℕ) a} {j5 : ∀ a, (![0, 5, 0] : Fin 3 → ℕ) a + (![8, 1, N] : Fin 3 → ℕ) a ≤ (![8, 7, N] : Fin 3 → ℕ) a}
    {i6 : ∀ k a, f6 k a + (![8, 1, 1] : Fin 3 → ℕ) a ≤ (![8, 16, 7] : Fin 3 → ℕ) a} {j6 : ∀ a, (![0, 6, 0] : Fin 3 → ℕ) a + (![8, 1, N] : Fin 3 → ℕ) a ≤ (![8, 7, N] : Fin 3 → ℕ) a}
    {io : ∀ k a, fo k a + (![8, 1, N] : Fin 3 → ℕ) a ≤ (![8, G, N] : Fin 3 → ℕ) a}
    [c0 : ∀ k, ClosedOff (f0 k)]
    [c1 : ∀ k, ClosedOff (f1 k)]
    [c2 : ∀ k, ClosedOff (f2 k)]
    [c3 : ∀ k, ClosedOff (f3 k)]
    [c4 : ∀ k, ClosedOff (f4 k)]
    [c5 : ∀ k, ClosedOff (f5 k)]
    [c6 : ∀ k, ClosedOff (f6 k)] [co : ∀ k, ClosedOff (fo k)]
    (hL : L.trips = 16) (h0 : ∀ k, (c0 k).form = ![0, k.val, 0]) (h1 : ∀ k, (c1 k).form = ![0, k.val, 1]) (h2 : ∀ k, (c2 k).form = ![0, k.val, 2]) (h3 : ∀ k, (c3 k).form = ![0, k.val, 3]) (h4 : ∀ k, (c4 k).form = ![0, k.val, 4]) (h5 : ∀ k, (c5 k).form = ![0, k.val, 5]) (h6 : ∀ k, (c6 k).form = ![0, k.val, 6]) (ho : ∀ k, (co k).form = ![0, k.val + 16 * j, 0]) (Yf Yw Yo : Fn F) :
    iprop(hold (τ := τ) (U := U) c f Yf ∗ hold c w Yw ∗ hold c o Yo)
      ⊢ wp frame (wpE defs Variants.none (c : Thread nD τ) none) E
          (Scf.Loop.for L ok PUnit.unit fun k _ => trip h f w o ⟨f0 k, i0 k, ![0, 0, 0], j0⟩ [⟨f1 k, i1 k, ![0, 1, 0], j1⟩, ⟨f2 k, i2 k, ![0, 2, 0], j2⟩, ⟨f3 k, i3 k, ![0, 3, 0], j3⟩, ⟨f4 k, i4 k, ![0, 4, 0], j4⟩, ⟨f5 k, i5 k, ![0, 5, 0], j5⟩, ⟨f6 k, i6 k, ![0, 6, 0], j6⟩] (fo k) (io k))
          fun _ => iprop(hold c f Yf ∗ hold c w Yw ∗ hold c o (fill 6 (16 * j) 16 Yf Yw Yo)) :=
  wp_block h f w o c Yf Yw Yo (16 * j) L ok hL (fun k => ⟨f0 k, i0 k, ![0, 0, 0], j0⟩) (fun k => [⟨f1 k, i1 k, ![0, 1, 0], j1⟩, ⟨f2 k, i2 k, ![0, 2, 0], j2⟩, ⟨f3 k, i3 k, ![0, 3, 0], j3⟩, ⟨f4 k, i4 k, ![0, 4, 0], j4⟩, ⟨f5 k, i5 k, ![0, 5, 0], j5⟩, ⟨f6 k, i6 k, ![0, 6, 0], j6⟩]) 6
    (fun _ => rfl) fo io (fun k => ⟨(c0 k).eq.trans (h0 k), rfl, (c1 k).eq.trans (h1 k), rfl, (c2 k).eq.trans (h2 k), rfl, (c3 k).eq.trans (h3 k), rfl, (c4 k).eq.trans (h4 k), rfl, (c5 k).eq.trans (h5 k), rfl, (c6 k).eq.trans (h6 k), rfl, True.intro⟩) (fun k => (co k).eq.trans (ho k))

end Rules

end Cert.Blocks

end
-- ==== Proof.KernelIdealBodyA.lean ====
/- The kernel's loops, run part by part on the table's rows (parts 85 to 88). -/
module

public import proofs.«01_k».proof.Proof.Table
public import proofs.«01_k».proof.Proof.Gen.KernelIdeal

@[expose] public section

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Blocks

variable {F : FTy → Type} [FloatOps F]

/-- The shape facts of a block 16 lanes wide. -/
theorem lane16 : LaneFacts 16 :=
  ⟨h_S8x1x1, h_S8x1x16, shapeCasts_S8x1x1_S8, shapeCasts_S8_S8x1, shapeCasts_S8x1x16_S8x16, broadcasts_S8x1_S8x16,
    shapeCasts_S8x16_S8x1x16⟩

/-- The shape facts of a block 48 lanes wide. -/
theorem lane48 : LaneFacts 48 :=
  ⟨h_S8x1x1, h_S8x1x48, shapeCasts_S8x1x1_S8, shapeCasts_S8_S8x1, shapeCasts_S8x1x48_S8x48, broadcasts_S8x1_S8x48,
    shapeCasts_S8x48_S8x1x48⟩

/-- The shape facts of a block 80 lanes wide. -/
theorem lane80 : LaneFacts 80 :=
  ⟨h_S8x1x1, h_S8x1x80, shapeCasts_S8x1x1_S8, shapeCasts_S8_S8x1, shapeCasts_S8x1x80_S8x80, broadcasts_S8x1_S8x80,
    shapeCasts_S8x80_S8x1x80⟩

/-- The shape facts of a block 112 lanes wide. -/
theorem lane112 : LaneFacts 112 :=
  ⟨h_S8x1x1, h_S8x1x112, shapeCasts_S8x1x1_S8, shapeCasts_S8_S8x1, shapeCasts_S8x1x112_S8x112, broadcasts_S8x1_S8x112,
    shapeCasts_S8x112_S8x1x112⟩

variable {U : Type} [URA U] {defs : Defs nD τ sig (Elt F) Λ₀} (i : grid0.Coords)
  (mm : ∀ w : Fin 84, Memref sig .tc (.core (spec0 w).stageSpace) (spec0 w).block (spec0 w).elt) (h : ∀ w, (mm w).IsWhole) (c : Dev nD)

/-- Window `w`'s buffer held whole at contents `Y`. -/
def held {U : Type} [URA U] (mm : ∀ w : Fin 84, Memref sig .tc (.core (spec0 w).stageSpace) (spec0 w).block (spec0 w).elt) (c : Dev nD) (w : Fin 84)
    (Y : Fn F) : sProp (MT nD τ sig Unit (Elt F) ℕ U ℕ) := holdW c (mm w) Y

/-- The loops of part 85. -/
theorem part85 (X : Fin 84 → Fn F) : all (held (U := U) mm c) X
    ⊢ wp frame (wpE defs Variants.none (c : Thread nD τ) none) Set.univ (k0_part85 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows0 X) := by
  delta k0_part85
  refine wp_row (held mm c) _ ⟨0, 8, 76, 0, 0⟩ (by decide) (loop1 16 128 lane16 c 0 (f0 := k0_off1) (i0 := k0_off1_inb) (j0 := inb_S8x1x16_S8x1x16_0_0_0) (fo := k0_off2) (io := k0_off2_inb) rfl (fun _ => rfl) (fun _ => rfl)) ?_
  refine wp_row (held mm c) _ ⟨1, 9, 76, 2, 1⟩ (by decide) (loop3 16 128 lane16 c 1 (f0 := k0_off3) (i0 := k0_off3_inb) (j0 := inb_S8x3x16_S8x1x16_0_0_0) (f1 := k0_off4) (i1 := k0_off4_inb) (j1 := inb_S8x3x16_S8x1x16_0_1_0) (f2 := k0_off5) (i2 := k0_off5_inb) (j2 := inb_S8x3x16_S8x1x16_0_2_0) (fo := k0_off6) (io := k0_off6_inb) rfl (fun _ => rfl) (fun _ => rfl) (fun _ => rfl) (fun _ => rfl)) ?_
  refine wp_row (held mm c) _ ⟨2, 10, 76, 4, 2⟩ (by decide) (loop5 16 128 lane16 c 2 (f0 := k0_off7) (i0 := k0_off7_inb) (j0 := inb_S8x5x16_S8x1x16_0_0_0) (f1 := k0_off8) (i1 := k0_off8_inb) (j1 := inb_S8x5x16_S8x1x16_0_1_0) (f2 := k0_off9) (i2 := k0_off9_inb) (j2 := inb_S8x5x16_S8x1x16_0_2_0) (f3 := k0_off10) (i3 := k0_off10_inb) (j3 := inb_S8x5x16_S8x1x16_0_3_0) (f4 := k0_off11) (i4 := k0_off11_inb) (j4 := inb_S8x5x16_S8x1x16_0_4_0) (fo := k0_off12) (io := k0_off12_inb) rfl (fun _ => rfl) (fun _ => rfl) (fun _ => rfl) (fun _ => rfl) (fun _ => rfl) (fun _ => rfl)) ?_
  refine wp_row (held mm c) _ ⟨3, 11, 76, 6, 3⟩ (by decide) (loop7 16 128 lane16 c 3 (f0 := k0_off13) (i0 := k0_off13_inb) (j0 := inb_S8x7x16_S8x1x16_0_0_0) (f1 := k0_off14) (i1 := k0_off14_inb) (j1 := inb_S8x7x16_S8x1x16_0_1_0) (f2 := k0_off15) (i2 := k0_off15_inb) (j2 := inb_S8x7x16_S8x1x16_0_2_0) (f3 := k0_off16) (i3 := k0_off16_inb) (j3 := inb_S8x7x16_S8x1x16_0_3_0) (f4 := k0_off17) (i4 := k0_off17_inb) (j4 := inb_S8x7x16_S8x1x16_0_4_0) (f5 := k0_off18) (i5 := k0_off18_inb) (j5 := inb_S8x7x16_S8x1x16_0_5_0) (f6 := k0_off19) (i6 := k0_off19_inb) (j6 := inb_S8x7x16_S8x1x16_0_6_0) (fo := k0_off20) (io := k0_off20_inb) rfl (fun _ => rfl) (fun _ => rfl) (fun _ => rfl) (fun _ => rfl) (fun _ => rfl) (fun _ => rfl) (fun _ => rfl) (fun _ => rfl)) ?_
  refine wp_row (held mm c) _ ⟨4, 42, 76, 0, 4⟩ (by decide) (loop1 16 128 lane16 c 4 (f0 := k0_off21) (i0 := k0_off21_inb) (j0 := inb_S8x1x16_S8x1x16_0_0_0) (fo := k0_off22) (io := k0_off22_inb) rfl (fun _ => rfl) (fun _ => rfl)) ?_
  refine wp_row (held mm c) _ ⟨5, 43, 76, 2, 5⟩ (by decide) (loop3 16 128 lane16 c 5 (f0 := k0_off23) (i0 := k0_off23_inb) (j0 := inb_S8x3x16_S8x1x16_0_0_0) (f1 := k0_off24) (i1 := k0_off24_inb) (j1 := inb_S8x3x16_S8x1x16_0_1_0) (f2 := k0_off25) (i2 := k0_off25_inb) (j2 := inb_S8x3x16_S8x1x16_0_2_0) (fo := k0_off26) (io := k0_off26_inb) rfl (fun _ => rfl) (fun _ => rfl) (fun _ => rfl) (fun _ => rfl)) ?_
  refine wp_row (held mm c) _ ⟨6, 44, 76, 4, 6⟩ (by decide) (loop5 16 128 lane16 c 6 (f0 := k0_off27) (i0 := k0_off27_inb) (j0 := inb_S8x5x16_S8x1x16_0_0_0) (f1 := k0_off28) (i1 := k0_off28_inb) (j1 := inb_S8x5x16_S8x1x16_0_1_0) (f2 := k0_off29) (i2 := k0_off29_inb) (j2 := inb_S8x5x16_S8x1x16_0_2_0) (f3 := k0_off30) (i3 := k0_off30_inb) (j3 := inb_S8x5x16_S8x1x16_0_3_0) (f4 := k0_off31) (i4 := k0_off31_inb) (j4 := inb_S8x5x16_S8x1x16_0_4_0) (fo := k0_off32) (io := k0_off32_inb) rfl (fun _ => rfl) (fun _ => rfl) (fun _ => rfl) (fun _ => rfl) (fun _ => rfl) (fun _ => rfl)) ?_
  refine wp_row (held mm c) _ ⟨7, 45, 76, 6, 7⟩ (by decide) (loop7 16 128 lane16 c 7 (f0 := k0_off33) (i0 := k0_off33_inb) (j0 := inb_S8x7x16_S8x1x16_0_0_0) (f1 := k0_off34) (i1 := k0_off34_inb) (j1 := inb_S8x7x16_S8x1x16_0_1_0) (f2 := k0_off35) (i2 := k0_off35_inb) (j2 := inb_S8x7x16_S8x1x16_0_2_0) (f3 := k0_off36) (i3 := k0_off36_inb) (j3 := inb_S8x7x16_S8x1x16_0_3_0) (f4 := k0_off37) (i4 := k0_off37_inb) (j4 := inb_S8x7x16_S8x1x16_0_4_0) (f5 := k0_off38) (i5 := k0_off38_inb) (j5 := inb_S8x7x16_S8x1x16_0_5_0) (f6 := k0_off39) (i6 := k0_off39_inb) (j6 := inb_S8x7x16_S8x1x16_0_6_0) (fo := k0_off40) (io := k0_off40_inb) rfl (fun _ => rfl) (fun _ => rfl) (fun _ => rfl) (fun _ => rfl) (fun _ => rfl) (fun _ => rfl) (fun _ => rfl) (fun _ => rfl)) ?_
  refine wp_row (held mm c) _ ⟨0, 12, 77, 0, 0⟩ (by decide) (loop1 48 288 lane48 c 0 (f0 := k0_off41) (i0 := k0_off41_inb) (j0 := inb_S8x1x48_S8x1x48_0_0_0) (fo := k0_off42) (io := k0_off42_inb) rfl (fun _ => rfl) (fun _ => rfl)) ?_
  refine wp_row (held mm c) _ ⟨1, 13, 77, 2, 1⟩ (by decide) (loop3 48 288 lane48 c 1 (f0 := k0_off43) (i0 := k0_off43_inb) (j0 := inb_S8x3x48_S8x1x48_0_0_0) (f1 := k0_off44) (i1 := k0_off44_inb) (j1 := inb_S8x3x48_S8x1x48_0_1_0) (f2 := k0_off45) (i2 := k0_off45_inb) (j2 := inb_S8x3x48_S8x1x48_0_2_0) (fo := k0_off46) (io := k0_off46_inb) rfl (fun _ => rfl) (fun _ => rfl) (fun _ => rfl) (fun _ => rfl)) ?_
  exact wp_end _ _

/-- The loops of part 86. -/
theorem part86 (X : Fin 84 → Fn F) : all (held (U := U) mm c) X
    ⊢ wp frame (wpE defs Variants.none (c : Thread nD τ) none) Set.univ (k0_part86 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows1 X) := by
  delta k0_part86
  refine wp_row (held mm c) _ ⟨1, 14, 77, 2, 2⟩ (by decide) (loop3 48 288 lane48 c 2 (f0 := k0_off47) (i0 := k0_off47_inb) (j0 := inb_S8x3x48_S8x1x48_0_0_0) (f1 := k0_off48) (i1 := k0_off48_inb) (j1 := inb_S8x3x48_S8x1x48_0_1_0) (f2 := k0_off49) (i2 := k0_off49_inb) (j2 := inb_S8x3x48_S8x1x48_0_2_0) (fo := k0_off50) (io := k0_off50_inb) rfl (fun _ => rfl) (fun _ => rfl) (fun _ => rfl) (fun _ => rfl)) ?_
  refine wp_row (held mm c) _ ⟨1, 15, 77, 2, 3⟩ (by decide) (loop3 48 288 lane48 c 3 (f0 := k0_off51) (i0 := k0_off51_inb) (j0 := inb_S8x3x48_S8x1x48_0_0_0) (f1 := k0_off52) (i1 := k0_off52_inb) (j1 := inb_S8x3x48_S8x1x48_0_1_0) (f2 := k0_off53) (i2 := k0_off53_inb) (j2 := inb_S8x3x48_S8x1x48_0_2_0) (fo := k0_off54) (io := k0_off54_inb) rfl (fun _ => rfl) (fun _ => rfl) (fun _ => rfl) (fun _ => rfl)) ?_
  refine wp_row (held mm c) _ ⟨2, 16, 77, 4, 4⟩ (by decide) (loop5 48 288 lane48 c 4 (f0 := k0_off55) (i0 := k0_off55_inb) (j0 := inb_S8x5x48_S8x1x48_0_0_0) (f1 := k0_off56) (i1 := k0_off56_inb) (j1 := inb_S8x5x48_S8x1x48_0_1_0) (f2 := k0_off57) (i2 := k0_off57_inb) (j2 := inb_S8x5x48_S8x1x48_0_2_0) (f3 := k0_off58) (i3 := k0_off58_inb) (j3 := inb_S8x5x48_S8x1x48_0_3_0) (f4 := k0_off59) (i4 := k0_off59_inb) (j4 := inb_S8x5x48_S8x1x48_0_4_0) (fo := k0_off60) (io := k0_off60_inb) rfl (fun _ => rfl) (fun _ => rfl) (fun _ => rfl) (fun _ => rfl) (fun _ => rfl) (fun _ => rfl)) ?_
  refine wp_row (held mm c) _ ⟨2, 17, 77, 4, 5⟩ (by decide) (loop5 48 288 lane48 c 5 (f0 := k0_off61) (i0 := k0_off61_inb) (j0 := inb_S8x5x48_S8x1x48_0_0_0) (f1 := k0_off62) (i1 := k0_off62_inb) (j1 := inb_S8x5x48_S8x1x48_0_1_0) (f2 := k0_off63) (i2 := k0_off63_inb) (j2 := inb_S8x5x48_S8x1x48_0_2_0) (f3 := k0_off64) (i3 := k0_off64_inb) (j3 := inb_S8x5x48_S8x1x48_0_3_0) (f4 := k0_off65) (i4 := k0_off65_inb) (j4 := inb_S8x5x48_S8x1x48_0_4_0) (fo := k0_off66) (io := k0_off66_inb) rfl (fun _ => rfl) (fun _ => rfl) (fun _ => rfl) (fun _ => rfl) (fun _ => rfl) (fun _ => rfl)) ?_
  refine wp_row (held mm c) _ ⟨2, 18, 77, 4, 6⟩ (by decide) (loop5 48 288 lane48 c 6 (f0 := k0_off67) (i0 := k0_off67_inb) (j0 := inb_S8x5x48_S8x1x48_0_0_0) (f1 := k0_off68) (i1 := k0_off68_inb) (j1 := inb_S8x5x48_S8x1x48_0_1_0) (f2 := k0_off69) (i2 := k0_off69_inb) (j2 := inb_S8x5x48_S8x1x48_0_2_0) (f3 := k0_off70) (i3 := k0_off70_inb) (j3 := inb_S8x5x48_S8x1x48_0_3_0) (f4 := k0_off71) (i4 := k0_off71_inb) (j4 := inb_S8x5x48_S8x1x48_0_4_0) (fo := k0_off72) (io := k0_off72_inb) rfl (fun _ => rfl) (fun _ => rfl) (fun _ => rfl) (fun _ => rfl) (fun _ => rfl) (fun _ => rfl)) ?_
  refine wp_row (held mm c) _ ⟨3, 19, 77, 6, 7⟩ (by decide) (loop7 48 288 lane48 c 7 (f0 := k0_off73) (i0 := k0_off73_inb) (j0 := inb_S8x7x48_S8x1x48_0_0_0) (f1 := k0_off74) (i1 := k0_off74_inb) (j1 := inb_S8x7x48_S8x1x48_0_1_0) (f2 := k0_off75) (i2 := k0_off75_inb) (j2 := inb_S8x7x48_S8x1x48_0_2_0) (f3 := k0_off76) (i3 := k0_off76_inb) (j3 := inb_S8x7x48_S8x1x48_0_3_0) (f4 := k0_off77) (i4 := k0_off77_inb) (j4 := inb_S8x7x48_S8x1x48_0_4_0) (f5 := k0_off78) (i5 := k0_off78_inb) (j5 := inb_S8x7x48_S8x1x48_0_5_0) (f6 := k0_off79) (i6 := k0_off79_inb) (j6 := inb_S8x7x48_S8x1x48_0_6_0) (fo := k0_off80) (io := k0_off80_inb) rfl (fun _ => rfl) (fun _ => rfl) (fun _ => rfl) (fun _ => rfl) (fun _ => rfl) (fun _ => rfl) (fun _ => rfl) (fun _ => rfl)) ?_
  refine wp_row (held mm c) _ ⟨3, 20, 77, 6, 8⟩ (by decide) (loop7 48 288 lane48 c 8 (f0 := k0_off81) (i0 := k0_off81_inb) (j0 := inb_S8x7x48_S8x1x48_0_0_0) (f1 := k0_off82) (i1 := k0_off82_inb) (j1 := inb_S8x7x48_S8x1x48_0_1_0) (f2 := k0_off83) (i2 := k0_off83_inb) (j2 := inb_S8x7x48_S8x1x48_0_2_0) (f3 := k0_off84) (i3 := k0_off84_inb) (j3 := inb_S8x7x48_S8x1x48_0_3_0) (f4 := k0_off85) (i4 := k0_off85_inb) (j4 := inb_S8x7x48_S8x1x48_0_4_0) (f5 := k0_off86) (i5 := k0_off86_inb) (j5 := inb_S8x7x48_S8x1x48_0_5_0) (f6 := k0_off87) (i6 := k0_off87_inb) (j6 := inb_S8x7x48_S8x1x48_0_6_0) (fo := k0_off88) (io := k0_off88_inb) rfl (fun _ => rfl) (fun _ => rfl) (fun _ => rfl) (fun _ => rfl) (fun _ => rfl) (fun _ => rfl) (fun _ => rfl) (fun _ => rfl)) ?_
  refine wp_row (held mm c) _ ⟨4, 46, 77, 0, 9⟩ (by decide) (loop1 48 288 lane48 c 9 (f0 := k0_off89) (i0 := k0_off89_inb) (j0 := inb_S8x1x48_S8x1x48_0_0_0) (fo := k0_off90) (io := k0_off90_inb) rfl (fun _ => rfl) (fun _ => rfl)) ?_
  refine wp_row (held mm c) _ ⟨5, 47, 77, 2, 10⟩ (by decide) (loop3 48 288 lane48 c 10 (f0 := k0_off91) (i0 := k0_off91_inb) (j0 := inb_S8x3x48_S8x1x48_0_0_0) (f1 := k0_off92) (i1 := k0_off92_inb) (j1 := inb_S8x3x48_S8x1x48_0_1_0) (f2 := k0_off93) (i2 := k0_off93_inb) (j2 := inb_S8x3x48_S8x1x48_0_2_0) (fo := k0_off94) (io := k0_off94_inb) rfl (fun _ => rfl) (fun _ => rfl) (fun _ => rfl) (fun _ => rfl)) ?_
  refine wp_row (held mm c) _ ⟨5, 48, 77, 2, 11⟩ (by decide) (loop3 48 288 lane48 c 11 (f0 := k0_off95) (i0 := k0_off95_inb) (j0 := inb_S8x3x48_S8x1x48_0_0_0) (f1 := k0_off96) (i1 := k0_off96_inb) (j1 := inb_S8x3x48_S8x1x48_0_1_0) (f2 := k0_off97) (i2 := k0_off97_inb) (j2 := inb_S8x3x48_S8x1x48_0_2_0) (fo := k0_off98) (io := k0_off98_inb) rfl (fun _ => rfl) (fun _ => rfl) (fun _ => rfl) (fun _ => rfl)) ?_
  exact wp_end _ _

/-- The loops of part 87. -/
theorem part87 (X : Fin 84 → Fn F) : all (held (U := U) mm c) X
    ⊢ wp frame (wpE defs Variants.none (c : Thread nD τ) none) Set.univ (k0_part87 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows2 X) := by
  delta k0_part87
  refine wp_row (held mm c) _ ⟨5, 49, 77, 2, 12⟩ (by decide) (loop3 48 288 lane48 c 12 (f0 := k0_off99) (i0 := k0_off99_inb) (j0 := inb_S8x3x48_S8x1x48_0_0_0) (f1 := k0_off100) (i1 := k0_off100_inb) (j1 := inb_S8x3x48_S8x1x48_0_1_0) (f2 := k0_off101) (i2 := k0_off101_inb) (j2 := inb_S8x3x48_S8x1x48_0_2_0) (fo := k0_off102) (io := k0_off102_inb) rfl (fun _ => rfl) (fun _ => rfl) (fun _ => rfl) (fun _ => rfl)) ?_
  refine wp_row (held mm c) _ ⟨6, 50, 77, 4, 13⟩ (by decide) (loop5 48 288 lane48 c 13 (f0 := k0_off103) (i0 := k0_off103_inb) (j0 := inb_S8x5x48_S8x1x48_0_0_0) (f1 := k0_off104) (i1 := k0_off104_inb) (j1 := inb_S8x5x48_S8x1x48_0_1_0) (f2 := k0_off105) (i2 := k0_off105_inb) (j2 := inb_S8x5x48_S8x1x48_0_2_0) (f3 := k0_off106) (i3 := k0_off106_inb) (j3 := inb_S8x5x48_S8x1x48_0_3_0) (f4 := k0_off107) (i4 := k0_off107_inb) (j4 := inb_S8x5x48_S8x1x48_0_4_0) (fo := k0_off108) (io := k0_off108_inb) rfl (fun _ => rfl) (fun _ => rfl) (fun _ => rfl) (fun _ => rfl) (fun _ => rfl) (fun _ => rfl)) ?_
  refine wp_row (held mm c) _ ⟨6, 51, 77, 4, 14⟩ (by decide) (loop5 48 288 lane48 c 14 (f0 := k0_off109) (i0 := k0_off109_inb) (j0 := inb_S8x5x48_S8x1x48_0_0_0) (f1 := k0_off110) (i1 := k0_off110_inb) (j1 := inb_S8x5x48_S8x1x48_0_1_0) (f2 := k0_off111) (i2 := k0_off111_inb) (j2 := inb_S8x5x48_S8x1x48_0_2_0) (f3 := k0_off112) (i3 := k0_off112_inb) (j3 := inb_S8x5x48_S8x1x48_0_3_0) (f4 := k0_off113) (i4 := k0_off113_inb) (j4 := inb_S8x5x48_S8x1x48_0_4_0) (fo := k0_off114) (io := k0_off114_inb) rfl (fun _ => rfl) (fun _ => rfl) (fun _ => rfl) (fun _ => rfl) (fun _ => rfl) (fun _ => rfl)) ?_
  refine wp_row (held mm c) _ ⟨6, 52, 77, 4, 15⟩ (by decide) (loop5 48 288 lane48 c 15 (f0 := k0_off115) (i0 := k0_off115_inb) (j0 := inb_S8x5x48_S8x1x48_0_0_0) (f1 := k0_off116) (i1 := k0_off116_inb) (j1 := inb_S8x5x48_S8x1x48_0_1_0) (f2 := k0_off117) (i2 := k0_off117_inb) (j2 := inb_S8x5x48_S8x1x48_0_2_0) (f3 := k0_off118) (i3 := k0_off118_inb) (j3 := inb_S8x5x48_S8x1x48_0_3_0) (f4 := k0_off119) (i4 := k0_off119_inb) (j4 := inb_S8x5x48_S8x1x48_0_4_0) (fo := k0_off120) (io := k0_off120_inb) rfl (fun _ => rfl) (fun _ => rfl) (fun _ => rfl) (fun _ => rfl) (fun _ => rfl) (fun _ => rfl)) ?_
  refine wp_row (held mm c) _ ⟨7, 53, 77, 6, 16⟩ (by decide) (loop7 48 288 lane48 c 16 (f0 := k0_off121) (i0 := k0_off121_inb) (j0 := inb_S8x7x48_S8x1x48_0_0_0) (f1 := k0_off122) (i1 := k0_off122_inb) (j1 := inb_S8x7x48_S8x1x48_0_1_0) (f2 := k0_off123) (i2 := k0_off123_inb) (j2 := inb_S8x7x48_S8x1x48_0_2_0) (f3 := k0_off124) (i3 := k0_off124_inb) (j3 := inb_S8x7x48_S8x1x48_0_3_0) (f4 := k0_off125) (i4 := k0_off125_inb) (j4 := inb_S8x7x48_S8x1x48_0_4_0) (f5 := k0_off126) (i5 := k0_off126_inb) (j5 := inb_S8x7x48_S8x1x48_0_5_0) (f6 := k0_off127) (i6 := k0_off127_inb) (j6 := inb_S8x7x48_S8x1x48_0_6_0) (fo := k0_off128) (io := k0_off128_inb) rfl (fun _ => rfl) (fun _ => rfl) (fun _ => rfl) (fun _ => rfl) (fun _ => rfl) (fun _ => rfl) (fun _ => rfl) (fun _ => rfl)) ?_
  refine wp_row (held mm c) _ ⟨7, 54, 77, 6, 17⟩ (by decide) (loop7 48 288 lane48 c 17 (f0 := k0_off129) (i0 := k0_off129_inb) (j0 := inb_S8x7x48_S8x1x48_0_0_0) (f1 := k0_off130) (i1 := k0_off130_inb) (j1 := inb_S8x7x48_S8x1x48_0_1_0) (f2 := k0_off131) (i2 := k0_off131_inb) (j2 := inb_S8x7x48_S8x1x48_0_2_0) (f3 := k0_off132) (i3 := k0_off132_inb) (j3 := inb_S8x7x48_S8x1x48_0_3_0) (f4 := k0_off133) (i4 := k0_off133_inb) (j4 := inb_S8x7x48_S8x1x48_0_4_0) (f5 := k0_off134) (i5 := k0_off134_inb) (j5 := inb_S8x7x48_S8x1x48_0_5_0) (f6 := k0_off135) (i6 := k0_off135_inb) (j6 := inb_S8x7x48_S8x1x48_0_6_0) (fo := k0_off136) (io := k0_off136_inb) rfl (fun _ => rfl) (fun _ => rfl) (fun _ => rfl) (fun _ => rfl) (fun _ => rfl) (fun _ => rfl) (fun _ => rfl) (fun _ => rfl)) ?_
  refine wp_row (held mm c) _ ⟨0, 21, 78, 0, 0⟩ (by decide) (loop1 80 352 lane80 c 0 (f0 := k0_off137) (i0 := k0_off137_inb) (j0 := inb_S8x1x80_S8x1x80_0_0_0) (fo := k0_off138) (io := k0_off138_inb) rfl (fun _ => rfl) (fun _ => rfl)) ?_
  refine wp_row (held mm c) _ ⟨1, 22, 78, 2, 1⟩ (by decide) (loop3 80 352 lane80 c 1 (f0 := k0_off139) (i0 := k0_off139_inb) (j0 := inb_S8x3x80_S8x1x80_0_0_0) (f1 := k0_off140) (i1 := k0_off140_inb) (j1 := inb_S8x3x80_S8x1x80_0_1_0) (f2 := k0_off141) (i2 := k0_off141_inb) (j2 := inb_S8x3x80_S8x1x80_0_2_0) (fo := k0_off142) (io := k0_off142_inb) rfl (fun _ => rfl) (fun _ => rfl) (fun _ => rfl) (fun _ => rfl)) ?_
  refine wp_row (held mm c) _ ⟨1, 23, 78, 2, 2⟩ (by decide) (loop3 80 352 lane80 c 2 (f0 := k0_off143) (i0 := k0_off143_inb) (j0 := inb_S8x3x80_S8x1x80_0_0_0) (f1 := k0_off144) (i1 := k0_off144_inb) (j1 := inb_S8x3x80_S8x1x80_0_1_0) (f2 := k0_off145) (i2 := k0_off145_inb) (j2 := inb_S8x3x80_S8x1x80_0_2_0) (fo := k0_off146) (io := k0_off146_inb) rfl (fun _ => rfl) (fun _ => rfl) (fun _ => rfl) (fun _ => rfl)) ?_
  refine wp_row (held mm c) _ ⟨1, 24, 78, 2, 3⟩ (by decide) (loop3 80 352 lane80 c 3 (f0 := k0_off147) (i0 := k0_off147_inb) (j0 := inb_S8x3x80_S8x1x80_0_0_0) (f1 := k0_off148) (i1 := k0_off148_inb) (j1 := inb_S8x3x80_S8x1x80_0_1_0) (f2 := k0_off149) (i2 := k0_off149_inb) (j2 := inb_S8x3x80_S8x1x80_0_2_0) (fo := k0_off150) (io := k0_off150_inb) rfl (fun _ => rfl) (fun _ => rfl) (fun _ => rfl) (fun _ => rfl)) ?_
  exact wp_end _ _

/-- The loops of part 88. -/
theorem part88 (X : Fin 84 → Fn F) : all (held (U := U) mm c) X
    ⊢ wp frame (wpE defs Variants.none (c : Thread nD τ) none) Set.univ (k0_part88 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows3 X) := by
  delta k0_part88
  refine wp_row (held mm c) _ ⟨2, 25, 78, 4, 4⟩ (by decide) (loop5 80 352 lane80 c 4 (f0 := k0_off151) (i0 := k0_off151_inb) (j0 := inb_S8x5x80_S8x1x80_0_0_0) (f1 := k0_off152) (i1 := k0_off152_inb) (j1 := inb_S8x5x80_S8x1x80_0_1_0) (f2 := k0_off153) (i2 := k0_off153_inb) (j2 := inb_S8x5x80_S8x1x80_0_2_0) (f3 := k0_off154) (i3 := k0_off154_inb) (j3 := inb_S8x5x80_S8x1x80_0_3_0) (f4 := k0_off155) (i4 := k0_off155_inb) (j4 := inb_S8x5x80_S8x1x80_0_4_0) (fo := k0_off156) (io := k0_off156_inb) rfl (fun _ => rfl) (fun _ => rfl) (fun _ => rfl) (fun _ => rfl) (fun _ => rfl) (fun _ => rfl)) ?_
  refine wp_row (held mm c) _ ⟨2, 26, 78, 4, 5⟩ (by decide) (loop5 80 352 lane80 c 5 (f0 := k0_off157) (i0 := k0_off157_inb) (j0 := inb_S8x5x80_S8x1x80_0_0_0) (f1 := k0_off158) (i1 := k0_off158_inb) (j1 := inb_S8x5x80_S8x1x80_0_1_0) (f2 := k0_off159) (i2 := k0_off159_inb) (j2 := inb_S8x5x80_S8x1x80_0_2_0) (f3 := k0_off160) (i3 := k0_off160_inb) (j3 := inb_S8x5x80_S8x1x80_0_3_0) (f4 := k0_off161) (i4 := k0_off161_inb) (j4 := inb_S8x5x80_S8x1x80_0_4_0) (fo := k0_off162) (io := k0_off162_inb) rfl (fun _ => rfl) (fun _ => rfl) (fun _ => rfl) (fun _ => rfl) (fun _ => rfl) (fun _ => rfl)) ?_
  refine wp_row (held mm c) _ ⟨2, 27, 78, 4, 6⟩ (by decide) (loop5 80 352 lane80 c 6 (f0 := k0_off163) (i0 := k0_off163_inb) (j0 := inb_S8x5x80_S8x1x80_0_0_0) (f1 := k0_off164) (i1 := k0_off164_inb) (j1 := inb_S8x5x80_S8x1x80_0_1_0) (f2 := k0_off165) (i2 := k0_off165_inb) (j2 := inb_S8x5x80_S8x1x80_0_2_0) (f3 := k0_off166) (i3 := k0_off166_inb) (j3 := inb_S8x5x80_S8x1x80_0_3_0) (f4 := k0_off167) (i4 := k0_off167_inb) (j4 := inb_S8x5x80_S8x1x80_0_4_0) (fo := k0_off168) (io := k0_off168_inb) rfl (fun _ => rfl) (fun _ => rfl) (fun _ => rfl) (fun _ => rfl) (fun _ => rfl) (fun _ => rfl)) ?_
  refine wp_row (held mm c) _ ⟨2, 28, 78, 4, 7⟩ (by decide) (loop5 80 352 lane80 c 7 (f0 := k0_off169) (i0 := k0_off169_inb) (j0 := inb_S8x5x80_S8x1x80_0_0_0) (f1 := k0_off170) (i1 := k0_off170_inb) (j1 := inb_S8x5x80_S8x1x80_0_1_0) (f2 := k0_off171) (i2 := k0_off171_inb) (j2 := inb_S8x5x80_S8x1x80_0_2_0) (f3 := k0_off172) (i3 := k0_off172_inb) (j3 := inb_S8x5x80_S8x1x80_0_3_0) (f4 := k0_off173) (i4 := k0_off173_inb) (j4 := inb_S8x5x80_S8x1x80_0_4_0) (fo := k0_off174) (io := k0_off174_inb) rfl (fun _ => rfl) (fun _ => rfl) (fun _ => rfl) (fun _ => rfl) (fun _ => rfl) (fun _ => rfl)) ?_
  refine wp_row (held mm c) _ ⟨3, 29, 78, 6, 8⟩ (by decide) (loop7 80 352 lane80 c 8 (f0 := k0_off175) (i0 := k0_off175_inb) (j0 := inb_S8x7x80_S8x1x80_0_0_0) (f1 := k0_off176) (i1 := k0_off176_inb) (j1 := inb_S8x7x80_S8x1x80_0_1_0) (f2 := k0_off177) (i2 := k0_off177_inb) (j2 := inb_S8x7x80_S8x1x80_0_2_0) (f3 := k0_off178) (i3 := k0_off178_inb) (j3 := inb_S8x7x80_S8x1x80_0_3_0) (f4 := k0_off179) (i4 := k0_off179_inb) (j4 := inb_S8x7x80_S8x1x80_0_4_0) (f5 := k0_off180) (i5 := k0_off180_inb) (j5 := inb_S8x7x80_S8x1x80_0_5_0) (f6 := k0_off181) (i6 := k0_off181_inb) (j6 := inb_S8x7x80_S8x1x80_0_6_0) (fo := k0_off182) (io := k0_off182_inb) rfl (fun _ => rfl) (fun _ => rfl) (fun _ => rfl) (fun _ => rfl) (fun _ => rfl) (fun _ => rfl) (fun _ => rfl) (fun _ => rfl)) ?_
  refine wp_row (held mm c) _ ⟨3, 30, 78, 6, 9⟩ (by decide) (loop7 80 352 lane80 c 9 (f0 := k0_off183) (i0 := k0_off183_inb) (j0 := inb_S8x7x80_S8x1x80_0_0_0) (f1 := k0_off184) (i1 := k0_off184_inb) (j1 := inb_S8x7x80_S8x1x80_0_1_0) (f2 := k0_off185) (i2 := k0_off185_inb) (j2 := inb_S8x7x80_S8x1x80_0_2_0) (f3 := k0_off186) (i3 := k0_off186_inb) (j3 := inb_S8x7x80_S8x1x80_0_3_0) (f4 := k0_off187) (i4 := k0_off187_inb) (j4 := inb_S8x7x80_S8x1x80_0_4_0) (f5 := k0_off188) (i5 := k0_off188_inb) (j5 := inb_S8x7x80_S8x1x80_0_5_0) (f6 := k0_off189) (i6 := k0_off189_inb) (j6 := inb_S8x7x80_S8x1x80_0_6_0) (fo := k0_off190) (io := k0_off190_inb) rfl (fun _ => rfl) (fun _ => rfl) (fun _ => rfl) (fun _ => rfl) (fun _ => rfl) (fun _ => rfl) (fun _ => rfl) (fun _ => rfl)) ?_
  refine wp_row (held mm c) _ ⟨3, 31, 78, 6, 10⟩ (by decide) (loop7 80 352 lane80 c 10 (f0 := k0_off191) (i0 := k0_off191_inb) (j0 := inb_S8x7x80_S8x1x80_0_0_0) (f1 := k0_off192) (i1 := k0_off192_inb) (j1 := inb_S8x7x80_S8x1x80_0_1_0) (f2 := k0_off193) (i2 := k0_off193_inb) (j2 := inb_S8x7x80_S8x1x80_0_2_0) (f3 := k0_off194) (i3 := k0_off194_inb) (j3 := inb_S8x7x80_S8x1x80_0_3_0) (f4 := k0_off195) (i4 := k0_off195_inb) (j4 := inb_S8x7x80_S8x1x80_0_4_0) (f5 := k0_off196) (i5 := k0_off196_inb) (j5 := inb_S8x7x80_S8x1x80_0_5_0) (f6 := k0_off197) (i6 := k0_off197_inb) (j6 := inb_S8x7x80_S8x1x80_0_6_0) (fo := k0_off198) (io := k0_off198_inb) rfl (fun _ => rfl) (fun _ => rfl) (fun _ => rfl) (fun _ => rfl) (fun _ => rfl) (fun _ => rfl) (fun _ => rfl) (fun _ => rfl)) ?_
  refine wp_row (held mm c) _ ⟨4, 55, 78, 0, 11⟩ (by decide) (loop1 80 352 lane80 c 11 (f0 := k0_off199) (i0 := k0_off199_inb) (j0 := inb_S8x1x80_S8x1x80_0_0_0) (fo := k0_off200) (io := k0_off200_inb) rfl (fun _ => rfl) (fun _ => rfl)) ?_
  refine wp_row (held mm c) _ ⟨5, 56, 78, 2, 12⟩ (by decide) (loop3 80 352 lane80 c 12 (f0 := k0_off201) (i0 := k0_off201_inb) (j0 := inb_S8x3x80_S8x1x80_0_0_0) (f1 := k0_off202) (i1 := k0_off202_inb) (j1 := inb_S8x3x80_S8x1x80_0_1_0) (f2 := k0_off203) (i2 := k0_off203_inb) (j2 := inb_S8x3x80_S8x1x80_0_2_0) (fo := k0_off204) (io := k0_off204_inb) rfl (fun _ => rfl) (fun _ => rfl) (fun _ => rfl) (fun _ => rfl)) ?_
  refine wp_row (held mm c) _ ⟨5, 57, 78, 2, 13⟩ (by decide) (loop3 80 352 lane80 c 13 (f0 := k0_off205) (i0 := k0_off205_inb) (j0 := inb_S8x3x80_S8x1x80_0_0_0) (f1 := k0_off206) (i1 := k0_off206_inb) (j1 := inb_S8x3x80_S8x1x80_0_1_0) (f2 := k0_off207) (i2 := k0_off207_inb) (j2 := inb_S8x3x80_S8x1x80_0_2_0) (fo := k0_off208) (io := k0_off208_inb) rfl (fun _ => rfl) (fun _ => rfl) (fun _ => rfl) (fun _ => rfl)) ?_
  exact wp_end _ _

end Cert.KernelIdeal.Gen

end
-- ==== Proof.KernelIdealBodyB.lean ====
/- The kernel's loops, run part by part on the table's rows (parts 89 to 92). -/
module

public import proofs.«01_k».proof.Proof.KernelIdealBodyA

@[expose] public section

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Blocks

variable {F : FTy → Type} [FloatOps F]

variable {U : Type} [URA U] {defs : Defs nD τ sig (Elt F) Λ₀} (i : grid0.Coords)
  (mm : ∀ w : Fin 84, Memref sig .tc (.core (spec0 w).stageSpace) (spec0 w).block (spec0 w).elt) (h : ∀ w, (mm w).IsWhole) (c : Dev nD)

/-- The loops of part 89. -/
theorem part89 (X : Fin 84 → Fn F) : all (held (U := U) mm c) X
    ⊢ wp frame (wpE defs Variants.none (c : Thread nD τ) none) Set.univ (k0_part89 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows4 X) := by
  delta k0_part89
  refine wp_row (held mm c) _ ⟨5, 58, 78, 2, 14⟩ (by decide) (loop3 80 352 lane80 c 14 (f0 := k0_off209) (i0 := k0_off209_inb) (j0 := inb_S8x3x80_S8x1x80_0_0_0) (f1 := k0_off210) (i1 := k0_off210_inb) (j1 := inb_S8x3x80_S8x1x80_0_1_0) (f2 := k0_off211) (i2 := k0_off211_inb) (j2 := inb_S8x3x80_S8x1x80_0_2_0) (fo := k0_off212) (io := k0_off212_inb) rfl (fun _ => rfl) (fun _ => rfl) (fun _ => rfl) (fun _ => rfl)) ?_
  refine wp_row (held mm c) _ ⟨6, 59, 78, 4, 15⟩ (by decide) (loop5 80 352 lane80 c 15 (f0 := k0_off213) (i0 := k0_off213_inb) (j0 := inb_S8x5x80_S8x1x80_0_0_0) (f1 := k0_off214) (i1 := k0_off214_inb) (j1 := inb_S8x5x80_S8x1x80_0_1_0) (f2 := k0_off215) (i2 := k0_off215_inb) (j2 := inb_S8x5x80_S8x1x80_0_2_0) (f3 := k0_off216) (i3 := k0_off216_inb) (j3 := inb_S8x5x80_S8x1x80_0_3_0) (f4 := k0_off217) (i4 := k0_off217_inb) (j4 := inb_S8x5x80_S8x1x80_0_4_0) (fo := k0_off218) (io := k0_off218_inb) rfl (fun _ => rfl) (fun _ => rfl) (fun _ => rfl) (fun _ => rfl) (fun _ => rfl) (fun _ => rfl)) ?_
  refine wp_row (held mm c) _ ⟨6, 60, 78, 4, 16⟩ (by decide) (loop5 80 352 lane80 c 16 (f0 := k0_off219) (i0 := k0_off219_inb) (j0 := inb_S8x5x80_S8x1x80_0_0_0) (f1 := k0_off220) (i1 := k0_off220_inb) (j1 := inb_S8x5x80_S8x1x80_0_1_0) (f2 := k0_off221) (i2 := k0_off221_inb) (j2 := inb_S8x5x80_S8x1x80_0_2_0) (f3 := k0_off222) (i3 := k0_off222_inb) (j3 := inb_S8x5x80_S8x1x80_0_3_0) (f4 := k0_off223) (i4 := k0_off223_inb) (j4 := inb_S8x5x80_S8x1x80_0_4_0) (fo := k0_off224) (io := k0_off224_inb) rfl (fun _ => rfl) (fun _ => rfl) (fun _ => rfl) (fun _ => rfl) (fun _ => rfl) (fun _ => rfl)) ?_
  refine wp_row (held mm c) _ ⟨6, 61, 78, 4, 17⟩ (by decide) (loop5 80 352 lane80 c 17 (f0 := k0_off225) (i0 := k0_off225_inb) (j0 := inb_S8x5x80_S8x1x80_0_0_0) (f1 := k0_off226) (i1 := k0_off226_inb) (j1 := inb_S8x5x80_S8x1x80_0_1_0) (f2 := k0_off227) (i2 := k0_off227_inb) (j2 := inb_S8x5x80_S8x1x80_0_2_0) (f3 := k0_off228) (i3 := k0_off228_inb) (j3 := inb_S8x5x80_S8x1x80_0_3_0) (f4 := k0_off229) (i4 := k0_off229_inb) (j4 := inb_S8x5x80_S8x1x80_0_4_0) (fo := k0_off230) (io := k0_off230_inb) rfl (fun _ => rfl) (fun _ => rfl) (fun _ => rfl) (fun _ => rfl) (fun _ => rfl) (fun _ => rfl)) ?_
  refine wp_row (held mm c) _ ⟨6, 62, 78, 4, 18⟩ (by decide) (loop5 80 352 lane80 c 18 (f0 := k0_off231) (i0 := k0_off231_inb) (j0 := inb_S8x5x80_S8x1x80_0_0_0) (f1 := k0_off232) (i1 := k0_off232_inb) (j1 := inb_S8x5x80_S8x1x80_0_1_0) (f2 := k0_off233) (i2 := k0_off233_inb) (j2 := inb_S8x5x80_S8x1x80_0_2_0) (f3 := k0_off234) (i3 := k0_off234_inb) (j3 := inb_S8x5x80_S8x1x80_0_3_0) (f4 := k0_off235) (i4 := k0_off235_inb) (j4 := inb_S8x5x80_S8x1x80_0_4_0) (fo := k0_off236) (io := k0_off236_inb) rfl (fun _ => rfl) (fun _ => rfl) (fun _ => rfl) (fun _ => rfl) (fun _ => rfl) (fun _ => rfl)) ?_
  refine wp_row (held mm c) _ ⟨7, 63, 78, 6, 19⟩ (by decide) (loop7 80 352 lane80 c 19 (f0 := k0_off237) (i0 := k0_off237_inb) (j0 := inb_S8x7x80_S8x1x80_0_0_0) (f1 := k0_off238) (i1 := k0_off238_inb) (j1 := inb_S8x7x80_S8x1x80_0_1_0) (f2 := k0_off239) (i2 := k0_off239_inb) (j2 := inb_S8x7x80_S8x1x80_0_2_0) (f3 := k0_off240) (i3 := k0_off240_inb) (j3 := inb_S8x7x80_S8x1x80_0_3_0) (f4 := k0_off241) (i4 := k0_off241_inb) (j4 := inb_S8x7x80_S8x1x80_0_4_0) (f5 := k0_off242) (i5 := k0_off242_inb) (j5 := inb_S8x7x80_S8x1x80_0_5_0) (f6 := k0_off243) (i6 := k0_off243_inb) (j6 := inb_S8x7x80_S8x1x80_0_6_0) (fo := k0_off244) (io := k0_off244_inb) rfl (fun _ => rfl) (fun _ => rfl) (fun _ => rfl) (fun _ => rfl) (fun _ => rfl) (fun _ => rfl) (fun _ => rfl) (fun _ => rfl)) ?_
  refine wp_row (held mm c) _ ⟨7, 64, 78, 6, 20⟩ (by decide) (loop7 80 352 lane80 c 20 (f0 := k0_off245) (i0 := k0_off245_inb) (j0 := inb_S8x7x80_S8x1x80_0_0_0) (f1 := k0_off246) (i1 := k0_off246_inb) (j1 := inb_S8x7x80_S8x1x80_0_1_0) (f2 := k0_off247) (i2 := k0_off247_inb) (j2 := inb_S8x7x80_S8x1x80_0_2_0) (f3 := k0_off248) (i3 := k0_off248_inb) (j3 := inb_S8x7x80_S8x1x80_0_3_0) (f4 := k0_off249) (i4 := k0_off249_inb) (j4 := inb_S8x7x80_S8x1x80_0_4_0) (f5 := k0_off250) (i5 := k0_off250_inb) (j5 := inb_S8x7x80_S8x1x80_0_5_0) (f6 := k0_off251) (i6 := k0_off251_inb) (j6 := inb_S8x7x80_S8x1x80_0_6_0) (fo := k0_off252) (io := k0_off252_inb) rfl (fun _ => rfl) (fun _ => rfl) (fun _ => rfl) (fun _ => rfl) (fun _ => rfl) (fun _ => rfl) (fun _ => rfl) (fun _ => rfl)) ?_
  refine wp_row (held mm c) _ ⟨7, 65, 78, 6, 21⟩ (by decide) (loop7 80 352 lane80 c 21 (f0 := k0_off253) (i0 := k0_off253_inb) (j0 := inb_S8x7x80_S8x1x80_0_0_0) (f1 := k0_off254) (i1 := k0_off254_inb) (j1 := inb_S8x7x80_S8x1x80_0_1_0) (f2 := k0_off255) (i2 := k0_off255_inb) (j2 := inb_S8x7x80_S8x1x80_0_2_0) (f3 := k0_off256) (i3 := k0_off256_inb) (j3 := inb_S8x7x80_S8x1x80_0_3_0) (f4 := k0_off257) (i4 := k0_off257_inb) (j4 := inb_S8x7x80_S8x1x80_0_4_0) (f5 := k0_off258) (i5 := k0_off258_inb) (j5 := inb_S8x7x80_S8x1x80_0_5_0) (f6 := k0_off259) (i6 := k0_off259_inb) (j6 := inb_S8x7x80_S8x1x80_0_6_0) (fo := k0_off260) (io := k0_off260_inb) rfl (fun _ => rfl) (fun _ => rfl) (fun _ => rfl) (fun _ => rfl) (fun _ => rfl) (fun _ => rfl) (fun _ => rfl) (fun _ => rfl)) ?_
  refine wp_row (held mm c) _ ⟨0, 32, 79, 0, 0⟩ (by decide) (loop1 112 320 lane112 c 0 (f0 := k0_off261) (i0 := k0_off261_inb) (j0 := inb_S8x1x112_S8x1x112_0_0_0) (fo := k0_off262) (io := k0_off262_inb) rfl (fun _ => rfl) (fun _ => rfl)) ?_
  refine wp_row (held mm c) _ ⟨1, 33, 79, 2, 1⟩ (by decide) (loop3 112 320 lane112 c 1 (f0 := k0_off263) (i0 := k0_off263_inb) (j0 := inb_S8x3x112_S8x1x112_0_0_0) (f1 := k0_off264) (i1 := k0_off264_inb) (j1 := inb_S8x3x112_S8x1x112_0_1_0) (f2 := k0_off265) (i2 := k0_off265_inb) (j2 := inb_S8x3x112_S8x1x112_0_2_0) (fo := k0_off266) (io := k0_off266_inb) rfl (fun _ => rfl) (fun _ => rfl) (fun _ => rfl) (fun _ => rfl)) ?_
  exact wp_end _ _

/-- The loops of part 90. -/
theorem part90 (X : Fin 84 → Fn F) : all (held (U := U) mm c) X
    ⊢ wp frame (wpE defs Variants.none (c : Thread nD τ) none) Set.univ (k0_part90 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows5 X) := by
  delta k0_part90
  refine wp_row (held mm c) _ ⟨1, 34, 79, 2, 2⟩ (by decide) (loop3 112 320 lane112 c 2 (f0 := k0_off267) (i0 := k0_off267_inb) (j0 := inb_S8x3x112_S8x1x112_0_0_0) (f1 := k0_off268) (i1 := k0_off268_inb) (j1 := inb_S8x3x112_S8x1x112_0_1_0) (f2 := k0_off269) (i2 := k0_off269_inb) (j2 := inb_S8x3x112_S8x1x112_0_2_0) (fo := k0_off270) (io := k0_off270_inb) rfl (fun _ => rfl) (fun _ => rfl) (fun _ => rfl) (fun _ => rfl)) ?_
  refine wp_row (held mm c) _ ⟨2, 35, 79, 4, 3⟩ (by decide) (loop5 112 320 lane112 c 3 (f0 := k0_off271) (i0 := k0_off271_inb) (j0 := inb_S8x5x112_S8x1x112_0_0_0) (f1 := k0_off272) (i1 := k0_off272_inb) (j1 := inb_S8x5x112_S8x1x112_0_1_0) (f2 := k0_off273) (i2 := k0_off273_inb) (j2 := inb_S8x5x112_S8x1x112_0_2_0) (f3 := k0_off274) (i3 := k0_off274_inb) (j3 := inb_S8x5x112_S8x1x112_0_3_0) (f4 := k0_off275) (i4 := k0_off275_inb) (j4 := inb_S8x5x112_S8x1x112_0_4_0) (fo := k0_off276) (io := k0_off276_inb) rfl (fun _ => rfl) (fun _ => rfl) (fun _ => rfl) (fun _ => rfl) (fun _ => rfl) (fun _ => rfl)) ?_
  refine wp_row (held mm c) _ ⟨2, 36, 79, 4, 4⟩ (by decide) (loop5 112 320 lane112 c 4 (f0 := k0_off277) (i0 := k0_off277_inb) (j0 := inb_S8x5x112_S8x1x112_0_0_0) (f1 := k0_off278) (i1 := k0_off278_inb) (j1 := inb_S8x5x112_S8x1x112_0_1_0) (f2 := k0_off279) (i2 := k0_off279_inb) (j2 := inb_S8x5x112_S8x1x112_0_2_0) (f3 := k0_off280) (i3 := k0_off280_inb) (j3 := inb_S8x5x112_S8x1x112_0_3_0) (f4 := k0_off281) (i4 := k0_off281_inb) (j4 := inb_S8x5x112_S8x1x112_0_4_0) (fo := k0_off282) (io := k0_off282_inb) rfl (fun _ => rfl) (fun _ => rfl) (fun _ => rfl) (fun _ => rfl) (fun _ => rfl) (fun _ => rfl)) ?_
  refine wp_row (held mm c) _ ⟨2, 37, 79, 4, 5⟩ (by decide) (loop5 112 320 lane112 c 5 (f0 := k0_off283) (i0 := k0_off283_inb) (j0 := inb_S8x5x112_S8x1x112_0_0_0) (f1 := k0_off284) (i1 := k0_off284_inb) (j1 := inb_S8x5x112_S8x1x112_0_1_0) (f2 := k0_off285) (i2 := k0_off285_inb) (j2 := inb_S8x5x112_S8x1x112_0_2_0) (f3 := k0_off286) (i3 := k0_off286_inb) (j3 := inb_S8x5x112_S8x1x112_0_3_0) (f4 := k0_off287) (i4 := k0_off287_inb) (j4 := inb_S8x5x112_S8x1x112_0_4_0) (fo := k0_off288) (io := k0_off288_inb) rfl (fun _ => rfl) (fun _ => rfl) (fun _ => rfl) (fun _ => rfl) (fun _ => rfl) (fun _ => rfl)) ?_
  refine wp_row (held mm c) _ ⟨3, 38, 79, 6, 6⟩ (by decide) (loop7 112 320 lane112 c 6 (f0 := k0_off289) (i0 := k0_off289_inb) (j0 := inb_S8x7x112_S8x1x112_0_0_0) (f1 := k0_off290) (i1 := k0_off290_inb) (j1 := inb_S8x7x112_S8x1x112_0_1_0) (f2 := k0_off291) (i2 := k0_off291_inb) (j2 := inb_S8x7x112_S8x1x112_0_2_0) (f3 := k0_off292) (i3 := k0_off292_inb) (j3 := inb_S8x7x112_S8x1x112_0_3_0) (f4 := k0_off293) (i4 := k0_off293_inb) (j4 := inb_S8x7x112_S8x1x112_0_4_0) (f5 := k0_off294) (i5 := k0_off294_inb) (j5 := inb_S8x7x112_S8x1x112_0_5_0) (f6 := k0_off295) (i6 := k0_off295_inb) (j6 := inb_S8x7x112_S8x1x112_0_6_0) (fo := k0_off296) (io := k0_off296_inb) rfl (fun _ => rfl) (fun _ => rfl) (fun _ => rfl) (fun _ => rfl) (fun _ => rfl) (fun _ => rfl) (fun _ => rfl) (fun _ => rfl)) ?_
  refine wp_row (held mm c) _ ⟨3, 39, 79, 6, 7⟩ (by decide) (loop7 112 320 lane112 c 7 (f0 := k0_off297) (i0 := k0_off297_inb) (j0 := inb_S8x7x112_S8x1x112_0_0_0) (f1 := k0_off298) (i1 := k0_off298_inb) (j1 := inb_S8x7x112_S8x1x112_0_1_0) (f2 := k0_off299) (i2 := k0_off299_inb) (j2 := inb_S8x7x112_S8x1x112_0_2_0) (f3 := k0_off300) (i3 := k0_off300_inb) (j3 := inb_S8x7x112_S8x1x112_0_3_0) (f4 := k0_off301) (i4 := k0_off301_inb) (j4 := inb_S8x7x112_S8x1x112_0_4_0) (f5 := k0_off302) (i5 := k0_off302_inb) (j5 := inb_S8x7x112_S8x1x112_0_5_0) (f6 := k0_off303) (i6 := k0_off303_inb) (j6 := inb_S8x7x112_S8x1x112_0_6_0) (fo := k0_off304) (io := k0_off304_inb) rfl (fun _ => rfl) (fun _ => rfl) (fun _ => rfl) (fun _ => rfl) (fun _ => rfl) (fun _ => rfl) (fun _ => rfl) (fun _ => rfl)) ?_
  refine wp_row (held mm c) _ ⟨3, 40, 79, 6, 8⟩ (by decide) (loop7 112 320 lane112 c 8 (f0 := k0_off305) (i0 := k0_off305_inb) (j0 := inb_S8x7x112_S8x1x112_0_0_0) (f1 := k0_off306) (i1 := k0_off306_inb) (j1 := inb_S8x7x112_S8x1x112_0_1_0) (f2 := k0_off307) (i2 := k0_off307_inb) (j2 := inb_S8x7x112_S8x1x112_0_2_0) (f3 := k0_off308) (i3 := k0_off308_inb) (j3 := inb_S8x7x112_S8x1x112_0_3_0) (f4 := k0_off309) (i4 := k0_off309_inb) (j4 := inb_S8x7x112_S8x1x112_0_4_0) (f5 := k0_off310) (i5 := k0_off310_inb) (j5 := inb_S8x7x112_S8x1x112_0_5_0) (f6 := k0_off311) (i6 := k0_off311_inb) (j6 := inb_S8x7x112_S8x1x112_0_6_0) (fo := k0_off312) (io := k0_off312_inb) rfl (fun _ => rfl) (fun _ => rfl) (fun _ => rfl) (fun _ => rfl) (fun _ => rfl) (fun _ => rfl) (fun _ => rfl) (fun _ => rfl)) ?_
  refine wp_row (held mm c) _ ⟨3, 41, 79, 6, 9⟩ (by decide) (loop7 112 320 lane112 c 9 (f0 := k0_off313) (i0 := k0_off313_inb) (j0 := inb_S8x7x112_S8x1x112_0_0_0) (f1 := k0_off314) (i1 := k0_off314_inb) (j1 := inb_S8x7x112_S8x1x112_0_1_0) (f2 := k0_off315) (i2 := k0_off315_inb) (j2 := inb_S8x7x112_S8x1x112_0_2_0) (f3 := k0_off316) (i3 := k0_off316_inb) (j3 := inb_S8x7x112_S8x1x112_0_3_0) (f4 := k0_off317) (i4 := k0_off317_inb) (j4 := inb_S8x7x112_S8x1x112_0_4_0) (f5 := k0_off318) (i5 := k0_off318_inb) (j5 := inb_S8x7x112_S8x1x112_0_5_0) (f6 := k0_off319) (i6 := k0_off319_inb) (j6 := inb_S8x7x112_S8x1x112_0_6_0) (fo := k0_off320) (io := k0_off320_inb) rfl (fun _ => rfl) (fun _ => rfl) (fun _ => rfl) (fun _ => rfl) (fun _ => rfl) (fun _ => rfl) (fun _ => rfl) (fun _ => rfl)) ?_
  refine wp_row (held mm c) _ ⟨4, 66, 79, 0, 10⟩ (by decide) (loop1 112 320 lane112 c 10 (f0 := k0_off321) (i0 := k0_off321_inb) (j0 := inb_S8x1x112_S8x1x112_0_0_0) (fo := k0_off322) (io := k0_off322_inb) rfl (fun _ => rfl) (fun _ => rfl)) ?_
  refine wp_row (held mm c) _ ⟨5, 67, 79, 2, 11⟩ (by decide) (loop3 112 320 lane112 c 11 (f0 := k0_off323) (i0 := k0_off323_inb) (j0 := inb_S8x3x112_S8x1x112_0_0_0) (f1 := k0_off324) (i1 := k0_off324_inb) (j1 := inb_S8x3x112_S8x1x112_0_1_0) (f2 := k0_off325) (i2 := k0_off325_inb) (j2 := inb_S8x3x112_S8x1x112_0_2_0) (fo := k0_off326) (io := k0_off326_inb) rfl (fun _ => rfl) (fun _ => rfl) (fun _ => rfl) (fun _ => rfl)) ?_
  exact wp_end _ _

/-- The loops of part 91. -/
theorem part91 (X : Fin 84 → Fn F) : all (held (U := U) mm c) X
    ⊢ wp frame (wpE defs Variants.none (c : Thread nD τ) none) Set.univ (k0_part91 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows6 X) := by
  delta k0_part91
  refine wp_row (held mm c) _ ⟨5, 68, 79, 2, 12⟩ (by decide) (loop3 112 320 lane112 c 12 (f0 := k0_off327) (i0 := k0_off327_inb) (j0 := inb_S8x3x112_S8x1x112_0_0_0) (f1 := k0_off328) (i1 := k0_off328_inb) (j1 := inb_S8x3x112_S8x1x112_0_1_0) (f2 := k0_off329) (i2 := k0_off329_inb) (j2 := inb_S8x3x112_S8x1x112_0_2_0) (fo := k0_off330) (io := k0_off330_inb) rfl (fun _ => rfl) (fun _ => rfl) (fun _ => rfl) (fun _ => rfl)) ?_
  refine wp_row (held mm c) _ ⟨6, 69, 79, 4, 13⟩ (by decide) (loop5 112 320 lane112 c 13 (f0 := k0_off331) (i0 := k0_off331_inb) (j0 := inb_S8x5x112_S8x1x112_0_0_0) (f1 := k0_off332) (i1 := k0_off332_inb) (j1 := inb_S8x5x112_S8x1x112_0_1_0) (f2 := k0_off333) (i2 := k0_off333_inb) (j2 := inb_S8x5x112_S8x1x112_0_2_0) (f3 := k0_off334) (i3 := k0_off334_inb) (j3 := inb_S8x5x112_S8x1x112_0_3_0) (f4 := k0_off335) (i4 := k0_off335_inb) (j4 := inb_S8x5x112_S8x1x112_0_4_0) (fo := k0_off336) (io := k0_off336_inb) rfl (fun _ => rfl) (fun _ => rfl) (fun _ => rfl) (fun _ => rfl) (fun _ => rfl) (fun _ => rfl)) ?_
  refine wp_row (held mm c) _ ⟨6, 70, 79, 4, 14⟩ (by decide) (loop5 112 320 lane112 c 14 (f0 := k0_off337) (i0 := k0_off337_inb) (j0 := inb_S8x5x112_S8x1x112_0_0_0) (f1 := k0_off338) (i1 := k0_off338_inb) (j1 := inb_S8x5x112_S8x1x112_0_1_0) (f2 := k0_off339) (i2 := k0_off339_inb) (j2 := inb_S8x5x112_S8x1x112_0_2_0) (f3 := k0_off340) (i3 := k0_off340_inb) (j3 := inb_S8x5x112_S8x1x112_0_3_0) (f4 := k0_off341) (i4 := k0_off341_inb) (j4 := inb_S8x5x112_S8x1x112_0_4_0) (fo := k0_off342) (io := k0_off342_inb) rfl (fun _ => rfl) (fun _ => rfl) (fun _ => rfl) (fun _ => rfl) (fun _ => rfl) (fun _ => rfl)) ?_
  refine wp_row (held mm c) _ ⟨6, 71, 79, 4, 15⟩ (by decide) (loop5 112 320 lane112 c 15 (f0 := k0_off343) (i0 := k0_off343_inb) (j0 := inb_S8x5x112_S8x1x112_0_0_0) (f1 := k0_off344) (i1 := k0_off344_inb) (j1 := inb_S8x5x112_S8x1x112_0_1_0) (f2 := k0_off345) (i2 := k0_off345_inb) (j2 := inb_S8x5x112_S8x1x112_0_2_0) (f3 := k0_off346) (i3 := k0_off346_inb) (j3 := inb_S8x5x112_S8x1x112_0_3_0) (f4 := k0_off347) (i4 := k0_off347_inb) (j4 := inb_S8x5x112_S8x1x112_0_4_0) (fo := k0_off348) (io := k0_off348_inb) rfl (fun _ => rfl) (fun _ => rfl) (fun _ => rfl) (fun _ => rfl) (fun _ => rfl) (fun _ => rfl)) ?_
  refine wp_row (held mm c) _ ⟨7, 72, 79, 6, 16⟩ (by decide) (loop7 112 320 lane112 c 16 (f0 := k0_off349) (i0 := k0_off349_inb) (j0 := inb_S8x7x112_S8x1x112_0_0_0) (f1 := k0_off350) (i1 := k0_off350_inb) (j1 := inb_S8x7x112_S8x1x112_0_1_0) (f2 := k0_off351) (i2 := k0_off351_inb) (j2 := inb_S8x7x112_S8x1x112_0_2_0) (f3 := k0_off352) (i3 := k0_off352_inb) (j3 := inb_S8x7x112_S8x1x112_0_3_0) (f4 := k0_off353) (i4 := k0_off353_inb) (j4 := inb_S8x7x112_S8x1x112_0_4_0) (f5 := k0_off354) (i5 := k0_off354_inb) (j5 := inb_S8x7x112_S8x1x112_0_5_0) (f6 := k0_off355) (i6 := k0_off355_inb) (j6 := inb_S8x7x112_S8x1x112_0_6_0) (fo := k0_off356) (io := k0_off356_inb) rfl (fun _ => rfl) (fun _ => rfl) (fun _ => rfl) (fun _ => rfl) (fun _ => rfl) (fun _ => rfl) (fun _ => rfl) (fun _ => rfl)) ?_
  refine wp_row (held mm c) _ ⟨7, 73, 79, 6, 17⟩ (by decide) (loop7 112 320 lane112 c 17 (f0 := k0_off357) (i0 := k0_off357_inb) (j0 := inb_S8x7x112_S8x1x112_0_0_0) (f1 := k0_off358) (i1 := k0_off358_inb) (j1 := inb_S8x7x112_S8x1x112_0_1_0) (f2 := k0_off359) (i2 := k0_off359_inb) (j2 := inb_S8x7x112_S8x1x112_0_2_0) (f3 := k0_off360) (i3 := k0_off360_inb) (j3 := inb_S8x7x112_S8x1x112_0_3_0) (f4 := k0_off361) (i4 := k0_off361_inb) (j4 := inb_S8x7x112_S8x1x112_0_4_0) (f5 := k0_off362) (i5 := k0_off362_inb) (j5 := inb_S8x7x112_S8x1x112_0_5_0) (f6 := k0_off363) (i6 := k0_off363_inb) (j6 := inb_S8x7x112_S8x1x112_0_6_0) (fo := k0_off364) (io := k0_off364_inb) rfl (fun _ => rfl) (fun _ => rfl) (fun _ => rfl) (fun _ => rfl) (fun _ => rfl) (fun _ => rfl) (fun _ => rfl) (fun _ => rfl)) ?_
  refine wp_row (held mm c) _ ⟨7, 74, 79, 6, 18⟩ (by decide) (loop7 112 320 lane112 c 18 (f0 := k0_off365) (i0 := k0_off365_inb) (j0 := inb_S8x7x112_S8x1x112_0_0_0) (f1 := k0_off366) (i1 := k0_off366_inb) (j1 := inb_S8x7x112_S8x1x112_0_1_0) (f2 := k0_off367) (i2 := k0_off367_inb) (j2 := inb_S8x7x112_S8x1x112_0_2_0) (f3 := k0_off368) (i3 := k0_off368_inb) (j3 := inb_S8x7x112_S8x1x112_0_3_0) (f4 := k0_off369) (i4 := k0_off369_inb) (j4 := inb_S8x7x112_S8x1x112_0_4_0) (f5 := k0_off370) (i5 := k0_off370_inb) (j5 := inb_S8x7x112_S8x1x112_0_5_0) (f6 := k0_off371) (i6 := k0_off371_inb) (j6 := inb_S8x7x112_S8x1x112_0_6_0) (fo := k0_off372) (io := k0_off372_inb) rfl (fun _ => rfl) (fun _ => rfl) (fun _ => rfl) (fun _ => rfl) (fun _ => rfl) (fun _ => rfl) (fun _ => rfl) (fun _ => rfl)) ?_
  refine wp_row (held mm c) _ ⟨7, 75, 79, 6, 19⟩ (by decide) (loop7 112 320 lane112 c 19 (f0 := k0_off373) (i0 := k0_off373_inb) (j0 := inb_S8x7x112_S8x1x112_0_0_0) (f1 := k0_off374) (i1 := k0_off374_inb) (j1 := inb_S8x7x112_S8x1x112_0_1_0) (f2 := k0_off375) (i2 := k0_off375_inb) (j2 := inb_S8x7x112_S8x1x112_0_2_0) (f3 := k0_off376) (i3 := k0_off376_inb) (j3 := inb_S8x7x112_S8x1x112_0_3_0) (f4 := k0_off377) (i4 := k0_off377_inb) (j4 := inb_S8x7x112_S8x1x112_0_4_0) (f5 := k0_off378) (i5 := k0_off378_inb) (j5 := inb_S8x7x112_S8x1x112_0_5_0) (f6 := k0_off379) (i6 := k0_off379_inb) (j6 := inb_S8x7x112_S8x1x112_0_6_0) (fo := k0_off380) (io := k0_off380_inb) rfl (fun _ => rfl) (fun _ => rfl) (fun _ => rfl) (fun _ => rfl) (fun _ => rfl) (fun _ => rfl) (fun _ => rfl) (fun _ => rfl)) ?_
  refine wp_row (held mm c) _ ⟨0, 42, 80, 0, 0⟩ (by decide) (loop1 16 128 lane16 c 0 (f0 := k0_off381) (i0 := k0_off381_inb) (j0 := inb_S8x1x16_S8x1x16_0_0_0) (fo := k0_off382) (io := k0_off382_inb) rfl (fun _ => rfl) (fun _ => rfl)) ?_
  refine wp_row (held mm c) _ ⟨1, 43, 80, 2, 1⟩ (by decide) (loop3 16 128 lane16 c 1 (f0 := k0_off383) (i0 := k0_off383_inb) (j0 := inb_S8x3x16_S8x1x16_0_0_0) (f1 := k0_off384) (i1 := k0_off384_inb) (j1 := inb_S8x3x16_S8x1x16_0_1_0) (f2 := k0_off385) (i2 := k0_off385_inb) (j2 := inb_S8x3x16_S8x1x16_0_2_0) (fo := k0_off386) (io := k0_off386_inb) rfl (fun _ => rfl) (fun _ => rfl) (fun _ => rfl) (fun _ => rfl)) ?_
  exact wp_end _ _

/-- The loops of part 92. -/
theorem part92 (X : Fin 84 → Fn F) : all (held (U := U) mm c) X
    ⊢ wp frame (wpE defs Variants.none (c : Thread nD τ) none) Set.univ (k0_part92 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows7 X) := by
  delta k0_part92
  refine wp_row (held mm c) _ ⟨2, 44, 80, 4, 2⟩ (by decide) (loop5 16 128 lane16 c 2 (f0 := k0_off387) (i0 := k0_off387_inb) (j0 := inb_S8x5x16_S8x1x16_0_0_0) (f1 := k0_off388) (i1 := k0_off388_inb) (j1 := inb_S8x5x16_S8x1x16_0_1_0) (f2 := k0_off389) (i2 := k0_off389_inb) (j2 := inb_S8x5x16_S8x1x16_0_2_0) (f3 := k0_off390) (i3 := k0_off390_inb) (j3 := inb_S8x5x16_S8x1x16_0_3_0) (f4 := k0_off391) (i4 := k0_off391_inb) (j4 := inb_S8x5x16_S8x1x16_0_4_0) (fo := k0_off392) (io := k0_off392_inb) rfl (fun _ => rfl) (fun _ => rfl) (fun _ => rfl) (fun _ => rfl) (fun _ => rfl) (fun _ => rfl)) ?_
  refine wp_row (held mm c) _ ⟨3, 45, 80, 6, 3⟩ (by decide) (loop7 16 128 lane16 c 3 (f0 := k0_off393) (i0 := k0_off393_inb) (j0 := inb_S8x7x16_S8x1x16_0_0_0) (f1 := k0_off394) (i1 := k0_off394_inb) (j1 := inb_S8x7x16_S8x1x16_0_1_0) (f2 := k0_off395) (i2 := k0_off395_inb) (j2 := inb_S8x7x16_S8x1x16_0_2_0) (f3 := k0_off396) (i3 := k0_off396_inb) (j3 := inb_S8x7x16_S8x1x16_0_3_0) (f4 := k0_off397) (i4 := k0_off397_inb) (j4 := inb_S8x7x16_S8x1x16_0_4_0) (f5 := k0_off398) (i5 := k0_off398_inb) (j5 := inb_S8x7x16_S8x1x16_0_5_0) (f6 := k0_off399) (i6 := k0_off399_inb) (j6 := inb_S8x7x16_S8x1x16_0_6_0) (fo := k0_off400) (io := k0_off400_inb) rfl (fun _ => rfl) (fun _ => rfl) (fun _ => rfl) (fun _ => rfl) (fun _ => rfl) (fun _ => rfl) (fun _ => rfl) (fun _ => rfl)) ?_
  refine wp_row (held mm c) _ ⟨4, 8, 80, 0, 4⟩ (by decide) (loop1 16 128 lane16 c 4 (f0 := k0_off401) (i0 := k0_off401_inb) (j0 := inb_S8x1x16_S8x1x16_0_0_0) (fo := k0_off402) (io := k0_off402_inb) rfl (fun _ => rfl) (fun _ => rfl)) ?_
  refine wp_row (held mm c) _ ⟨5, 9, 80, 2, 5⟩ (by decide) (loop3 16 128 lane16 c 5 (f0 := k0_off403) (i0 := k0_off403_inb) (j0 := inb_S8x3x16_S8x1x16_0_0_0) (f1 := k0_off404) (i1 := k0_off404_inb) (j1 := inb_S8x3x16_S8x1x16_0_1_0) (f2 := k0_off405) (i2 := k0_off405_inb) (j2 := inb_S8x3x16_S8x1x16_0_2_0) (fo := k0_off406) (io := k0_off406_inb) rfl (fun _ => rfl) (fun _ => rfl) (fun _ => rfl) (fun _ => rfl)) ?_
  refine wp_row (held mm c) _ ⟨6, 10, 80, 4, 6⟩ (by decide) (loop5 16 128 lane16 c 6 (f0 := k0_off407) (i0 := k0_off407_inb) (j0 := inb_S8x5x16_S8x1x16_0_0_0) (f1 := k0_off408) (i1 := k0_off408_inb) (j1 := inb_S8x5x16_S8x1x16_0_1_0) (f2 := k0_off409) (i2 := k0_off409_inb) (j2 := inb_S8x5x16_S8x1x16_0_2_0) (f3 := k0_off410) (i3 := k0_off410_inb) (j3 := inb_S8x5x16_S8x1x16_0_3_0) (f4 := k0_off411) (i4 := k0_off411_inb) (j4 := inb_S8x5x16_S8x1x16_0_4_0) (fo := k0_off412) (io := k0_off412_inb) rfl (fun _ => rfl) (fun _ => rfl) (fun _ => rfl) (fun _ => rfl) (fun _ => rfl) (fun _ => rfl)) ?_
  refine wp_row (held mm c) _ ⟨7, 11, 80, 6, 7⟩ (by decide) (loop7 16 128 lane16 c 7 (f0 := k0_off413) (i0 := k0_off413_inb) (j0 := inb_S8x7x16_S8x1x16_0_0_0) (f1 := k0_off414) (i1 := k0_off414_inb) (j1 := inb_S8x7x16_S8x1x16_0_1_0) (f2 := k0_off415) (i2 := k0_off415_inb) (j2 := inb_S8x7x16_S8x1x16_0_2_0) (f3 := k0_off416) (i3 := k0_off416_inb) (j3 := inb_S8x7x16_S8x1x16_0_3_0) (f4 := k0_off417) (i4 := k0_off417_inb) (j4 := inb_S8x7x16_S8x1x16_0_4_0) (f5 := k0_off418) (i5 := k0_off418_inb) (j5 := inb_S8x7x16_S8x1x16_0_5_0) (f6 := k0_off419) (i6 := k0_off419_inb) (j6 := inb_S8x7x16_S8x1x16_0_6_0) (fo := k0_off420) (io := k0_off420_inb) rfl (fun _ => rfl) (fun _ => rfl) (fun _ => rfl) (fun _ => rfl) (fun _ => rfl) (fun _ => rfl) (fun _ => rfl) (fun _ => rfl)) ?_
  refine wp_row (held mm c) _ ⟨0, 46, 81, 0, 0⟩ (by decide) (loop1 48 288 lane48 c 0 (f0 := k0_off421) (i0 := k0_off421_inb) (j0 := inb_S8x1x48_S8x1x48_0_0_0) (fo := k0_off422) (io := k0_off422_inb) rfl (fun _ => rfl) (fun _ => rfl)) ?_
  refine wp_row (held mm c) _ ⟨1, 47, 81, 2, 1⟩ (by decide) (loop3 48 288 lane48 c 1 (f0 := k0_off423) (i0 := k0_off423_inb) (j0 := inb_S8x3x48_S8x1x48_0_0_0) (f1 := k0_off424) (i1 := k0_off424_inb) (j1 := inb_S8x3x48_S8x1x48_0_1_0) (f2 := k0_off425) (i2 := k0_off425_inb) (j2 := inb_S8x3x48_S8x1x48_0_2_0) (fo := k0_off426) (io := k0_off426_inb) rfl (fun _ => rfl) (fun _ => rfl) (fun _ => rfl) (fun _ => rfl)) ?_
  refine wp_row (held mm c) _ ⟨1, 48, 81, 2, 2⟩ (by decide) (loop3 48 288 lane48 c 2 (f0 := k0_off427) (i0 := k0_off427_inb) (j0 := inb_S8x3x48_S8x1x48_0_0_0) (f1 := k0_off428) (i1 := k0_off428_inb) (j1 := inb_S8x3x48_S8x1x48_0_1_0) (f2 := k0_off429) (i2 := k0_off429_inb) (j2 := inb_S8x3x48_S8x1x48_0_2_0) (fo := k0_off430) (io := k0_off430_inb) rfl (fun _ => rfl) (fun _ => rfl) (fun _ => rfl) (fun _ => rfl)) ?_
  refine wp_row (held mm c) _ ⟨1, 49, 81, 2, 3⟩ (by decide) (loop3 48 288 lane48 c 3 (f0 := k0_off431) (i0 := k0_off431_inb) (j0 := inb_S8x3x48_S8x1x48_0_0_0) (f1 := k0_off432) (i1 := k0_off432_inb) (j1 := inb_S8x3x48_S8x1x48_0_1_0) (f2 := k0_off433) (i2 := k0_off433_inb) (j2 := inb_S8x3x48_S8x1x48_0_2_0) (fo := k0_off434) (io := k0_off434_inb) rfl (fun _ => rfl) (fun _ => rfl) (fun _ => rfl) (fun _ => rfl)) ?_
  exact wp_end _ _

end Cert.KernelIdeal.Gen

end
-- ==== Proof.KernelIdealBodyC.lean ====
/- The kernel's loops, run part by part on the table's rows (parts 93 to 97). -/
module

public import proofs.«01_k».proof.Proof.KernelIdealBodyA

@[expose] public section

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Blocks

variable {F : FTy → Type} [FloatOps F]

variable {U : Type} [URA U] {defs : Defs nD τ sig (Elt F) Λ₀} (i : grid0.Coords)
  (mm : ∀ w : Fin 84, Memref sig .tc (.core (spec0 w).stageSpace) (spec0 w).block (spec0 w).elt) (h : ∀ w, (mm w).IsWhole) (c : Dev nD)

/-- The loops of part 93. -/
theorem part93 (X : Fin 84 → Fn F) : all (held (U := U) mm c) X
    ⊢ wp frame (wpE defs Variants.none (c : Thread nD τ) none) Set.univ (k0_part93 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows8 X) := by
  delta k0_part93
  refine wp_row (held mm c) _ ⟨2, 50, 81, 4, 4⟩ (by decide) (loop5 48 288 lane48 c 4 (f0 := k0_off435) (i0 := k0_off435_inb) (j0 := inb_S8x5x48_S8x1x48_0_0_0) (f1 := k0_off436) (i1 := k0_off436_inb) (j1 := inb_S8x5x48_S8x1x48_0_1_0) (f2 := k0_off437) (i2 := k0_off437_inb) (j2 := inb_S8x5x48_S8x1x48_0_2_0) (f3 := k0_off438) (i3 := k0_off438_inb) (j3 := inb_S8x5x48_S8x1x48_0_3_0) (f4 := k0_off439) (i4 := k0_off439_inb) (j4 := inb_S8x5x48_S8x1x48_0_4_0) (fo := k0_off440) (io := k0_off440_inb) rfl (fun _ => rfl) (fun _ => rfl) (fun _ => rfl) (fun _ => rfl) (fun _ => rfl) (fun _ => rfl)) ?_
  refine wp_row (held mm c) _ ⟨2, 51, 81, 4, 5⟩ (by decide) (loop5 48 288 lane48 c 5 (f0 := k0_off441) (i0 := k0_off441_inb) (j0 := inb_S8x5x48_S8x1x48_0_0_0) (f1 := k0_off442) (i1 := k0_off442_inb) (j1 := inb_S8x5x48_S8x1x48_0_1_0) (f2 := k0_off443) (i2 := k0_off443_inb) (j2 := inb_S8x5x48_S8x1x48_0_2_0) (f3 := k0_off444) (i3 := k0_off444_inb) (j3 := inb_S8x5x48_S8x1x48_0_3_0) (f4 := k0_off445) (i4 := k0_off445_inb) (j4 := inb_S8x5x48_S8x1x48_0_4_0) (fo := k0_off446) (io := k0_off446_inb) rfl (fun _ => rfl) (fun _ => rfl) (fun _ => rfl) (fun _ => rfl) (fun _ => rfl) (fun _ => rfl)) ?_
  refine wp_row (held mm c) _ ⟨2, 52, 81, 4, 6⟩ (by decide) (loop5 48 288 lane48 c 6 (f0 := k0_off447) (i0 := k0_off447_inb) (j0 := inb_S8x5x48_S8x1x48_0_0_0) (f1 := k0_off448) (i1 := k0_off448_inb) (j1 := inb_S8x5x48_S8x1x48_0_1_0) (f2 := k0_off449) (i2 := k0_off449_inb) (j2 := inb_S8x5x48_S8x1x48_0_2_0) (f3 := k0_off450) (i3 := k0_off450_inb) (j3 := inb_S8x5x48_S8x1x48_0_3_0) (f4 := k0_off451) (i4 := k0_off451_inb) (j4 := inb_S8x5x48_S8x1x48_0_4_0) (fo := k0_off452) (io := k0_off452_inb) rfl (fun _ => rfl) (fun _ => rfl) (fun _ => rfl) (fun _ => rfl) (fun _ => rfl) (fun _ => rfl)) ?_
  refine wp_row (held mm c) _ ⟨3, 53, 81, 6, 7⟩ (by decide) (loop7 48 288 lane48 c 7 (f0 := k0_off453) (i0 := k0_off453_inb) (j0 := inb_S8x7x48_S8x1x48_0_0_0) (f1 := k0_off454) (i1 := k0_off454_inb) (j1 := inb_S8x7x48_S8x1x48_0_1_0) (f2 := k0_off455) (i2 := k0_off455_inb) (j2 := inb_S8x7x48_S8x1x48_0_2_0) (f3 := k0_off456) (i3 := k0_off456_inb) (j3 := inb_S8x7x48_S8x1x48_0_3_0) (f4 := k0_off457) (i4 := k0_off457_inb) (j4 := inb_S8x7x48_S8x1x48_0_4_0) (f5 := k0_off458) (i5 := k0_off458_inb) (j5 := inb_S8x7x48_S8x1x48_0_5_0) (f6 := k0_off459) (i6 := k0_off459_inb) (j6 := inb_S8x7x48_S8x1x48_0_6_0) (fo := k0_off460) (io := k0_off460_inb) rfl (fun _ => rfl) (fun _ => rfl) (fun _ => rfl) (fun _ => rfl) (fun _ => rfl) (fun _ => rfl) (fun _ => rfl) (fun _ => rfl)) ?_
  refine wp_row (held mm c) _ ⟨3, 54, 81, 6, 8⟩ (by decide) (loop7 48 288 lane48 c 8 (f0 := k0_off461) (i0 := k0_off461_inb) (j0 := inb_S8x7x48_S8x1x48_0_0_0) (f1 := k0_off462) (i1 := k0_off462_inb) (j1 := inb_S8x7x48_S8x1x48_0_1_0) (f2 := k0_off463) (i2 := k0_off463_inb) (j2 := inb_S8x7x48_S8x1x48_0_2_0) (f3 := k0_off464) (i3 := k0_off464_inb) (j3 := inb_S8x7x48_S8x1x48_0_3_0) (f4 := k0_off465) (i4 := k0_off465_inb) (j4 := inb_S8x7x48_S8x1x48_0_4_0) (f5 := k0_off466) (i5 := k0_off466_inb) (j5 := inb_S8x7x48_S8x1x48_0_5_0) (f6 := k0_off467) (i6 := k0_off467_inb) (j6 := inb_S8x7x48_S8x1x48_0_6_0) (fo := k0_off468) (io := k0_off468_inb) rfl (fun _ => rfl) (fun _ => rfl) (fun _ => rfl) (fun _ => rfl) (fun _ => rfl) (fun _ => rfl) (fun _ => rfl) (fun _ => rfl)) ?_
  refine wp_row (held mm c) _ ⟨4, 12, 81, 0, 9⟩ (by decide) (loop1 48 288 lane48 c 9 (f0 := k0_off469) (i0 := k0_off469_inb) (j0 := inb_S8x1x48_S8x1x48_0_0_0) (fo := k0_off470) (io := k0_off470_inb) rfl (fun _ => rfl) (fun _ => rfl)) ?_
  refine wp_row (held mm c) _ ⟨5, 13, 81, 2, 10⟩ (by decide) (loop3 48 288 lane48 c 10 (f0 := k0_off471) (i0 := k0_off471_inb) (j0 := inb_S8x3x48_S8x1x48_0_0_0) (f1 := k0_off472) (i1 := k0_off472_inb) (j1 := inb_S8x3x48_S8x1x48_0_1_0) (f2 := k0_off473) (i2 := k0_off473_inb) (j2 := inb_S8x3x48_S8x1x48_0_2_0) (fo := k0_off474) (io := k0_off474_inb) rfl (fun _ => rfl) (fun _ => rfl) (fun _ => rfl) (fun _ => rfl)) ?_
  refine wp_row (held mm c) _ ⟨5, 14, 81, 2, 11⟩ (by decide) (loop3 48 288 lane48 c 11 (f0 := k0_off475) (i0 := k0_off475_inb) (j0 := inb_S8x3x48_S8x1x48_0_0_0) (f1 := k0_off476) (i1 := k0_off476_inb) (j1 := inb_S8x3x48_S8x1x48_0_1_0) (f2 := k0_off477) (i2 := k0_off477_inb) (j2 := inb_S8x3x48_S8x1x48_0_2_0) (fo := k0_off478) (io := k0_off478_inb) rfl (fun _ => rfl) (fun _ => rfl) (fun _ => rfl) (fun _ => rfl)) ?_
  refine wp_row (held mm c) _ ⟨5, 15, 81, 2, 12⟩ (by decide) (loop3 48 288 lane48 c 12 (f0 := k0_off479) (i0 := k0_off479_inb) (j0 := inb_S8x3x48_S8x1x48_0_0_0) (f1 := k0_off480) (i1 := k0_off480_inb) (j1 := inb_S8x3x48_S8x1x48_0_1_0) (f2 := k0_off481) (i2 := k0_off481_inb) (j2 := inb_S8x3x48_S8x1x48_0_2_0) (fo := k0_off482) (io := k0_off482_inb) rfl (fun _ => rfl) (fun _ => rfl) (fun _ => rfl) (fun _ => rfl)) ?_
  refine wp_row (held mm c) _ ⟨6, 16, 81, 4, 13⟩ (by decide) (loop5 48 288 lane48 c 13 (f0 := k0_off483) (i0 := k0_off483_inb) (j0 := inb_S8x5x48_S8x1x48_0_0_0) (f1 := k0_off484) (i1 := k0_off484_inb) (j1 := inb_S8x5x48_S8x1x48_0_1_0) (f2 := k0_off485) (i2 := k0_off485_inb) (j2 := inb_S8x5x48_S8x1x48_0_2_0) (f3 := k0_off486) (i3 := k0_off486_inb) (j3 := inb_S8x5x48_S8x1x48_0_3_0) (f4 := k0_off487) (i4 := k0_off487_inb) (j4 := inb_S8x5x48_S8x1x48_0_4_0) (fo := k0_off488) (io := k0_off488_inb) rfl (fun _ => rfl) (fun _ => rfl) (fun _ => rfl) (fun _ => rfl) (fun _ => rfl) (fun _ => rfl)) ?_
  exact wp_end _ _

/-- The loops of part 94. -/
theorem part94 (X : Fin 84 → Fn F) : all (held (U := U) mm c) X
    ⊢ wp frame (wpE defs Variants.none (c : Thread nD τ) none) Set.univ (k0_part94 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows9 X) := by
  delta k0_part94
  refine wp_row (held mm c) _ ⟨6, 17, 81, 4, 14⟩ (by decide) (loop5 48 288 lane48 c 14 (f0 := k0_off489) (i0 := k0_off489_inb) (j0 := inb_S8x5x48_S8x1x48_0_0_0) (f1 := k0_off490) (i1 := k0_off490_inb) (j1 := inb_S8x5x48_S8x1x48_0_1_0) (f2 := k0_off491) (i2 := k0_off491_inb) (j2 := inb_S8x5x48_S8x1x48_0_2_0) (f3 := k0_off492) (i3 := k0_off492_inb) (j3 := inb_S8x5x48_S8x1x48_0_3_0) (f4 := k0_off493) (i4 := k0_off493_inb) (j4 := inb_S8x5x48_S8x1x48_0_4_0) (fo := k0_off494) (io := k0_off494_inb) rfl (fun _ => rfl) (fun _ => rfl) (fun _ => rfl) (fun _ => rfl) (fun _ => rfl) (fun _ => rfl)) ?_
  refine wp_row (held mm c) _ ⟨6, 18, 81, 4, 15⟩ (by decide) (loop5 48 288 lane48 c 15 (f0 := k0_off495) (i0 := k0_off495_inb) (j0 := inb_S8x5x48_S8x1x48_0_0_0) (f1 := k0_off496) (i1 := k0_off496_inb) (j1 := inb_S8x5x48_S8x1x48_0_1_0) (f2 := k0_off497) (i2 := k0_off497_inb) (j2 := inb_S8x5x48_S8x1x48_0_2_0) (f3 := k0_off498) (i3 := k0_off498_inb) (j3 := inb_S8x5x48_S8x1x48_0_3_0) (f4 := k0_off499) (i4 := k0_off499_inb) (j4 := inb_S8x5x48_S8x1x48_0_4_0) (fo := k0_off500) (io := k0_off500_inb) rfl (fun _ => rfl) (fun _ => rfl) (fun _ => rfl) (fun _ => rfl) (fun _ => rfl) (fun _ => rfl)) ?_
  refine wp_row (held mm c) _ ⟨7, 19, 81, 6, 16⟩ (by decide) (loop7 48 288 lane48 c 16 (f0 := k0_off501) (i0 := k0_off501_inb) (j0 := inb_S8x7x48_S8x1x48_0_0_0) (f1 := k0_off502) (i1 := k0_off502_inb) (j1 := inb_S8x7x48_S8x1x48_0_1_0) (f2 := k0_off503) (i2 := k0_off503_inb) (j2 := inb_S8x7x48_S8x1x48_0_2_0) (f3 := k0_off504) (i3 := k0_off504_inb) (j3 := inb_S8x7x48_S8x1x48_0_3_0) (f4 := k0_off505) (i4 := k0_off505_inb) (j4 := inb_S8x7x48_S8x1x48_0_4_0) (f5 := k0_off506) (i5 := k0_off506_inb) (j5 := inb_S8x7x48_S8x1x48_0_5_0) (f6 := k0_off507) (i6 := k0_off507_inb) (j6 := inb_S8x7x48_S8x1x48_0_6_0) (fo := k0_off508) (io := k0_off508_inb) rfl (fun _ => rfl) (fun _ => rfl) (fun _ => rfl) (fun _ => rfl) (fun _ => rfl) (fun _ => rfl) (fun _ => rfl) (fun _ => rfl)) ?_
  refine wp_row (held mm c) _ ⟨7, 20, 81, 6, 17⟩ (by decide) (loop7 48 288 lane48 c 17 (f0 := k0_off509) (i0 := k0_off509_inb) (j0 := inb_S8x7x48_S8x1x48_0_0_0) (f1 := k0_off510) (i1 := k0_off510_inb) (j1 := inb_S8x7x48_S8x1x48_0_1_0) (f2 := k0_off511) (i2 := k0_off511_inb) (j2 := inb_S8x7x48_S8x1x48_0_2_0) (f3 := k0_off512) (i3 := k0_off512_inb) (j3 := inb_S8x7x48_S8x1x48_0_3_0) (f4 := k0_off513) (i4 := k0_off513_inb) (j4 := inb_S8x7x48_S8x1x48_0_4_0) (f5 := k0_off514) (i5 := k0_off514_inb) (j5 := inb_S8x7x48_S8x1x48_0_5_0) (f6 := k0_off515) (i6 := k0_off515_inb) (j6 := inb_S8x7x48_S8x1x48_0_6_0) (fo := k0_off516) (io := k0_off516_inb) rfl (fun _ => rfl) (fun _ => rfl) (fun _ => rfl) (fun _ => rfl) (fun _ => rfl) (fun _ => rfl) (fun _ => rfl) (fun _ => rfl)) ?_
  refine wp_row (held mm c) _ ⟨0, 55, 82, 0, 0⟩ (by decide) (loop1 80 352 lane80 c 0 (f0 := k0_off517) (i0 := k0_off517_inb) (j0 := inb_S8x1x80_S8x1x80_0_0_0) (fo := k0_off518) (io := k0_off518_inb) rfl (fun _ => rfl) (fun _ => rfl)) ?_
  refine wp_row (held mm c) _ ⟨1, 56, 82, 2, 1⟩ (by decide) (loop3 80 352 lane80 c 1 (f0 := k0_off519) (i0 := k0_off519_inb) (j0 := inb_S8x3x80_S8x1x80_0_0_0) (f1 := k0_off520) (i1 := k0_off520_inb) (j1 := inb_S8x3x80_S8x1x80_0_1_0) (f2 := k0_off521) (i2 := k0_off521_inb) (j2 := inb_S8x3x80_S8x1x80_0_2_0) (fo := k0_off522) (io := k0_off522_inb) rfl (fun _ => rfl) (fun _ => rfl) (fun _ => rfl) (fun _ => rfl)) ?_
  refine wp_row (held mm c) _ ⟨1, 57, 82, 2, 2⟩ (by decide) (loop3 80 352 lane80 c 2 (f0 := k0_off523) (i0 := k0_off523_inb) (j0 := inb_S8x3x80_S8x1x80_0_0_0) (f1 := k0_off524) (i1 := k0_off524_inb) (j1 := inb_S8x3x80_S8x1x80_0_1_0) (f2 := k0_off525) (i2 := k0_off525_inb) (j2 := inb_S8x3x80_S8x1x80_0_2_0) (fo := k0_off526) (io := k0_off526_inb) rfl (fun _ => rfl) (fun _ => rfl) (fun _ => rfl) (fun _ => rfl)) ?_
  refine wp_row (held mm c) _ ⟨1, 58, 82, 2, 3⟩ (by decide) (loop3 80 352 lane80 c 3 (f0 := k0_off527) (i0 := k0_off527_inb) (j0 := inb_S8x3x80_S8x1x80_0_0_0) (f1 := k0_off528) (i1 := k0_off528_inb) (j1 := inb_S8x3x80_S8x1x80_0_1_0) (f2 := k0_off529) (i2 := k0_off529_inb) (j2 := inb_S8x3x80_S8x1x80_0_2_0) (fo := k0_off530) (io := k0_off530_inb) rfl (fun _ => rfl) (fun _ => rfl) (fun _ => rfl) (fun _ => rfl)) ?_
  refine wp_row (held mm c) _ ⟨2, 59, 82, 4, 4⟩ (by decide) (loop5 80 352 lane80 c 4 (f0 := k0_off531) (i0 := k0_off531_inb) (j0 := inb_S8x5x80_S8x1x80_0_0_0) (f1 := k0_off532) (i1 := k0_off532_inb) (j1 := inb_S8x5x80_S8x1x80_0_1_0) (f2 := k0_off533) (i2 := k0_off533_inb) (j2 := inb_S8x5x80_S8x1x80_0_2_0) (f3 := k0_off534) (i3 := k0_off534_inb) (j3 := inb_S8x5x80_S8x1x80_0_3_0) (f4 := k0_off535) (i4 := k0_off535_inb) (j4 := inb_S8x5x80_S8x1x80_0_4_0) (fo := k0_off536) (io := k0_off536_inb) rfl (fun _ => rfl) (fun _ => rfl) (fun _ => rfl) (fun _ => rfl) (fun _ => rfl) (fun _ => rfl)) ?_
  refine wp_row (held mm c) _ ⟨2, 60, 82, 4, 5⟩ (by decide) (loop5 80 352 lane80 c 5 (f0 := k0_off537) (i0 := k0_off537_inb) (j0 := inb_S8x5x80_S8x1x80_0_0_0) (f1 := k0_off538) (i1 := k0_off538_inb) (j1 := inb_S8x5x80_S8x1x80_0_1_0) (f2 := k0_off539) (i2 := k0_off539_inb) (j2 := inb_S8x5x80_S8x1x80_0_2_0) (f3 := k0_off540) (i3 := k0_off540_inb) (j3 := inb_S8x5x80_S8x1x80_0_3_0) (f4 := k0_off541) (i4 := k0_off541_inb) (j4 := inb_S8x5x80_S8x1x80_0_4_0) (fo := k0_off542) (io := k0_off542_inb) rfl (fun _ => rfl) (fun _ => rfl) (fun _ => rfl) (fun _ => rfl) (fun _ => rfl) (fun _ => rfl)) ?_
  exact wp_end _ _

/-- The loops of part 95. -/
theorem part95 (X : Fin 84 → Fn F) : all (held (U := U) mm c) X
    ⊢ wp frame (wpE defs Variants.none (c : Thread nD τ) none) Set.univ (k0_part95 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows10 X) := by
  delta k0_part95
  refine wp_row (held mm c) _ ⟨2, 61, 82, 4, 6⟩ (by decide) (loop5 80 352 lane80 c 6 (f0 := k0_off543) (i0 := k0_off543_inb) (j0 := inb_S8x5x80_S8x1x80_0_0_0) (f1 := k0_off544) (i1 := k0_off544_inb) (j1 := inb_S8x5x80_S8x1x80_0_1_0) (f2 := k0_off545) (i2 := k0_off545_inb) (j2 := inb_S8x5x80_S8x1x80_0_2_0) (f3 := k0_off546) (i3 := k0_off546_inb) (j3 := inb_S8x5x80_S8x1x80_0_3_0) (f4 := k0_off547) (i4 := k0_off547_inb) (j4 := inb_S8x5x80_S8x1x80_0_4_0) (fo := k0_off548) (io := k0_off548_inb) rfl (fun _ => rfl) (fun _ => rfl) (fun _ => rfl) (fun _ => rfl) (fun _ => rfl) (fun _ => rfl)) ?_
  refine wp_row (held mm c) _ ⟨2, 62, 82, 4, 7⟩ (by decide) (loop5 80 352 lane80 c 7 (f0 := k0_off549) (i0 := k0_off549_inb) (j0 := inb_S8x5x80_S8x1x80_0_0_0) (f1 := k0_off550) (i1 := k0_off550_inb) (j1 := inb_S8x5x80_S8x1x80_0_1_0) (f2 := k0_off551) (i2 := k0_off551_inb) (j2 := inb_S8x5x80_S8x1x80_0_2_0) (f3 := k0_off552) (i3 := k0_off552_inb) (j3 := inb_S8x5x80_S8x1x80_0_3_0) (f4 := k0_off553) (i4 := k0_off553_inb) (j4 := inb_S8x5x80_S8x1x80_0_4_0) (fo := k0_off554) (io := k0_off554_inb) rfl (fun _ => rfl) (fun _ => rfl) (fun _ => rfl) (fun _ => rfl) (fun _ => rfl) (fun _ => rfl)) ?_
  refine wp_row (held mm c) _ ⟨3, 63, 82, 6, 8⟩ (by decide) (loop7 80 352 lane80 c 8 (f0 := k0_off555) (i0 := k0_off555_inb) (j0 := inb_S8x7x80_S8x1x80_0_0_0) (f1 := k0_off556) (i1 := k0_off556_inb) (j1 := inb_S8x7x80_S8x1x80_0_1_0) (f2 := k0_off557) (i2 := k0_off557_inb) (j2 := inb_S8x7x80_S8x1x80_0_2_0) (f3 := k0_off558) (i3 := k0_off558_inb) (j3 := inb_S8x7x80_S8x1x80_0_3_0) (f4 := k0_off559) (i4 := k0_off559_inb) (j4 := inb_S8x7x80_S8x1x80_0_4_0) (f5 := k0_off560) (i5 := k0_off560_inb) (j5 := inb_S8x7x80_S8x1x80_0_5_0) (f6 := k0_off561) (i6 := k0_off561_inb) (j6 := inb_S8x7x80_S8x1x80_0_6_0) (fo := k0_off562) (io := k0_off562_inb) rfl (fun _ => rfl) (fun _ => rfl) (fun _ => rfl) (fun _ => rfl) (fun _ => rfl) (fun _ => rfl) (fun _ => rfl) (fun _ => rfl)) ?_
  refine wp_row (held mm c) _ ⟨3, 64, 82, 6, 9⟩ (by decide) (loop7 80 352 lane80 c 9 (f0 := k0_off563) (i0 := k0_off563_inb) (j0 := inb_S8x7x80_S8x1x80_0_0_0) (f1 := k0_off564) (i1 := k0_off564_inb) (j1 := inb_S8x7x80_S8x1x80_0_1_0) (f2 := k0_off565) (i2 := k0_off565_inb) (j2 := inb_S8x7x80_S8x1x80_0_2_0) (f3 := k0_off566) (i3 := k0_off566_inb) (j3 := inb_S8x7x80_S8x1x80_0_3_0) (f4 := k0_off567) (i4 := k0_off567_inb) (j4 := inb_S8x7x80_S8x1x80_0_4_0) (f5 := k0_off568) (i5 := k0_off568_inb) (j5 := inb_S8x7x80_S8x1x80_0_5_0) (f6 := k0_off569) (i6 := k0_off569_inb) (j6 := inb_S8x7x80_S8x1x80_0_6_0) (fo := k0_off570) (io := k0_off570_inb) rfl (fun _ => rfl) (fun _ => rfl) (fun _ => rfl) (fun _ => rfl) (fun _ => rfl) (fun _ => rfl) (fun _ => rfl) (fun _ => rfl)) ?_
  refine wp_row (held mm c) _ ⟨3, 65, 82, 6, 10⟩ (by decide) (loop7 80 352 lane80 c 10 (f0 := k0_off571) (i0 := k0_off571_inb) (j0 := inb_S8x7x80_S8x1x80_0_0_0) (f1 := k0_off572) (i1 := k0_off572_inb) (j1 := inb_S8x7x80_S8x1x80_0_1_0) (f2 := k0_off573) (i2 := k0_off573_inb) (j2 := inb_S8x7x80_S8x1x80_0_2_0) (f3 := k0_off574) (i3 := k0_off574_inb) (j3 := inb_S8x7x80_S8x1x80_0_3_0) (f4 := k0_off575) (i4 := k0_off575_inb) (j4 := inb_S8x7x80_S8x1x80_0_4_0) (f5 := k0_off576) (i5 := k0_off576_inb) (j5 := inb_S8x7x80_S8x1x80_0_5_0) (f6 := k0_off577) (i6 := k0_off577_inb) (j6 := inb_S8x7x80_S8x1x80_0_6_0) (fo := k0_off578) (io := k0_off578_inb) rfl (fun _ => rfl) (fun _ => rfl) (fun _ => rfl) (fun _ => rfl) (fun _ => rfl) (fun _ => rfl) (fun _ => rfl) (fun _ => rfl)) ?_
  refine wp_row (held mm c) _ ⟨4, 21, 82, 0, 11⟩ (by decide) (loop1 80 352 lane80 c 11 (f0 := k0_off579) (i0 := k0_off579_inb) (j0 := inb_S8x1x80_S8x1x80_0_0_0) (fo := k0_off580) (io := k0_off580_inb) rfl (fun _ => rfl) (fun _ => rfl)) ?_
  refine wp_row (held mm c) _ ⟨5, 22, 82, 2, 12⟩ (by decide) (loop3 80 352 lane80 c 12 (f0 := k0_off581) (i0 := k0_off581_inb) (j0 := inb_S8x3x80_S8x1x80_0_0_0) (f1 := k0_off582) (i1 := k0_off582_inb) (j1 := inb_S8x3x80_S8x1x80_0_1_0) (f2 := k0_off583) (i2 := k0_off583_inb) (j2 := inb_S8x3x80_S8x1x80_0_2_0) (fo := k0_off584) (io := k0_off584_inb) rfl (fun _ => rfl) (fun _ => rfl) (fun _ => rfl) (fun _ => rfl)) ?_
  refine wp_row (held mm c) _ ⟨5, 23, 82, 2, 13⟩ (by decide) (loop3 80 352 lane80 c 13 (f0 := k0_off585) (i0 := k0_off585_inb) (j0 := inb_S8x3x80_S8x1x80_0_0_0) (f1 := k0_off586) (i1 := k0_off586_inb) (j1 := inb_S8x3x80_S8x1x80_0_1_0) (f2 := k0_off587) (i2 := k0_off587_inb) (j2 := inb_S8x3x80_S8x1x80_0_2_0) (fo := k0_off588) (io := k0_off588_inb) rfl (fun _ => rfl) (fun _ => rfl) (fun _ => rfl) (fun _ => rfl)) ?_
  refine wp_row (held mm c) _ ⟨5, 24, 82, 2, 14⟩ (by decide) (loop3 80 352 lane80 c 14 (f0 := k0_off589) (i0 := k0_off589_inb) (j0 := inb_S8x3x80_S8x1x80_0_0_0) (f1 := k0_off590) (i1 := k0_off590_inb) (j1 := inb_S8x3x80_S8x1x80_0_1_0) (f2 := k0_off591) (i2 := k0_off591_inb) (j2 := inb_S8x3x80_S8x1x80_0_2_0) (fo := k0_off592) (io := k0_off592_inb) rfl (fun _ => rfl) (fun _ => rfl) (fun _ => rfl) (fun _ => rfl)) ?_
  refine wp_row (held mm c) _ ⟨6, 25, 82, 4, 15⟩ (by decide) (loop5 80 352 lane80 c 15 (f0 := k0_off593) (i0 := k0_off593_inb) (j0 := inb_S8x5x80_S8x1x80_0_0_0) (f1 := k0_off594) (i1 := k0_off594_inb) (j1 := inb_S8x5x80_S8x1x80_0_1_0) (f2 := k0_off595) (i2 := k0_off595_inb) (j2 := inb_S8x5x80_S8x1x80_0_2_0) (f3 := k0_off596) (i3 := k0_off596_inb) (j3 := inb_S8x5x80_S8x1x80_0_3_0) (f4 := k0_off597) (i4 := k0_off597_inb) (j4 := inb_S8x5x80_S8x1x80_0_4_0) (fo := k0_off598) (io := k0_off598_inb) rfl (fun _ => rfl) (fun _ => rfl) (fun _ => rfl) (fun _ => rfl) (fun _ => rfl) (fun _ => rfl)) ?_
  exact wp_end _ _

/-- The loops of part 96. -/
theorem part96 (X : Fin 84 → Fn F) : all (held (U := U) mm c) X
    ⊢ wp frame (wpE defs Variants.none (c : Thread nD τ) none) Set.univ (k0_part96 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows11 X) := by
  delta k0_part96
  refine wp_row (held mm c) _ ⟨6, 26, 82, 4, 16⟩ (by decide) (loop5 80 352 lane80 c 16 (f0 := k0_off599) (i0 := k0_off599_inb) (j0 := inb_S8x5x80_S8x1x80_0_0_0) (f1 := k0_off600) (i1 := k0_off600_inb) (j1 := inb_S8x5x80_S8x1x80_0_1_0) (f2 := k0_off601) (i2 := k0_off601_inb) (j2 := inb_S8x5x80_S8x1x80_0_2_0) (f3 := k0_off602) (i3 := k0_off602_inb) (j3 := inb_S8x5x80_S8x1x80_0_3_0) (f4 := k0_off603) (i4 := k0_off603_inb) (j4 := inb_S8x5x80_S8x1x80_0_4_0) (fo := k0_off604) (io := k0_off604_inb) rfl (fun _ => rfl) (fun _ => rfl) (fun _ => rfl) (fun _ => rfl) (fun _ => rfl) (fun _ => rfl)) ?_
  refine wp_row (held mm c) _ ⟨6, 27, 82, 4, 17⟩ (by decide) (loop5 80 352 lane80 c 17 (f0 := k0_off605) (i0 := k0_off605_inb) (j0 := inb_S8x5x80_S8x1x80_0_0_0) (f1 := k0_off606) (i1 := k0_off606_inb) (j1 := inb_S8x5x80_S8x1x80_0_1_0) (f2 := k0_off607) (i2 := k0_off607_inb) (j2 := inb_S8x5x80_S8x1x80_0_2_0) (f3 := k0_off608) (i3 := k0_off608_inb) (j3 := inb_S8x5x80_S8x1x80_0_3_0) (f4 := k0_off609) (i4 := k0_off609_inb) (j4 := inb_S8x5x80_S8x1x80_0_4_0) (fo := k0_off610) (io := k0_off610_inb) rfl (fun _ => rfl) (fun _ => rfl) (fun _ => rfl) (fun _ => rfl) (fun _ => rfl) (fun _ => rfl)) ?_
  refine wp_row (held mm c) _ ⟨6, 28, 82, 4, 18⟩ (by decide) (loop5 80 352 lane80 c 18 (f0 := k0_off611) (i0 := k0_off611_inb) (j0 := inb_S8x5x80_S8x1x80_0_0_0) (f1 := k0_off612) (i1 := k0_off612_inb) (j1 := inb_S8x5x80_S8x1x80_0_1_0) (f2 := k0_off613) (i2 := k0_off613_inb) (j2 := inb_S8x5x80_S8x1x80_0_2_0) (f3 := k0_off614) (i3 := k0_off614_inb) (j3 := inb_S8x5x80_S8x1x80_0_3_0) (f4 := k0_off615) (i4 := k0_off615_inb) (j4 := inb_S8x5x80_S8x1x80_0_4_0) (fo := k0_off616) (io := k0_off616_inb) rfl (fun _ => rfl) (fun _ => rfl) (fun _ => rfl) (fun _ => rfl) (fun _ => rfl) (fun _ => rfl)) ?_
  refine wp_row (held mm c) _ ⟨7, 29, 82, 6, 19⟩ (by decide) (loop7 80 352 lane80 c 19 (f0 := k0_off617) (i0 := k0_off617_inb) (j0 := inb_S8x7x80_S8x1x80_0_0_0) (f1 := k0_off618) (i1 := k0_off618_inb) (j1 := inb_S8x7x80_S8x1x80_0_1_0) (f2 := k0_off619) (i2 := k0_off619_inb) (j2 := inb_S8x7x80_S8x1x80_0_2_0) (f3 := k0_off620) (i3 := k0_off620_inb) (j3 := inb_S8x7x80_S8x1x80_0_3_0) (f4 := k0_off621) (i4 := k0_off621_inb) (j4 := inb_S8x7x80_S8x1x80_0_4_0) (f5 := k0_off622) (i5 := k0_off622_inb) (j5 := inb_S8x7x80_S8x1x80_0_5_0) (f6 := k0_off623) (i6 := k0_off623_inb) (j6 := inb_S8x7x80_S8x1x80_0_6_0) (fo := k0_off624) (io := k0_off624_inb) rfl (fun _ => rfl) (fun _ => rfl) (fun _ => rfl) (fun _ => rfl) (fun _ => rfl) (fun _ => rfl) (fun _ => rfl) (fun _ => rfl)) ?_
  refine wp_row (held mm c) _ ⟨7, 30, 82, 6, 20⟩ (by decide) (loop7 80 352 lane80 c 20 (f0 := k0_off625) (i0 := k0_off625_inb) (j0 := inb_S8x7x80_S8x1x80_0_0_0) (f1 := k0_off626) (i1 := k0_off626_inb) (j1 := inb_S8x7x80_S8x1x80_0_1_0) (f2 := k0_off627) (i2 := k0_off627_inb) (j2 := inb_S8x7x80_S8x1x80_0_2_0) (f3 := k0_off628) (i3 := k0_off628_inb) (j3 := inb_S8x7x80_S8x1x80_0_3_0) (f4 := k0_off629) (i4 := k0_off629_inb) (j4 := inb_S8x7x80_S8x1x80_0_4_0) (f5 := k0_off630) (i5 := k0_off630_inb) (j5 := inb_S8x7x80_S8x1x80_0_5_0) (f6 := k0_off631) (i6 := k0_off631_inb) (j6 := inb_S8x7x80_S8x1x80_0_6_0) (fo := k0_off632) (io := k0_off632_inb) rfl (fun _ => rfl) (fun _ => rfl) (fun _ => rfl) (fun _ => rfl) (fun _ => rfl) (fun _ => rfl) (fun _ => rfl) (fun _ => rfl)) ?_
  refine wp_row (held mm c) _ ⟨7, 31, 82, 6, 21⟩ (by decide) (loop7 80 352 lane80 c 21 (f0 := k0_off633) (i0 := k0_off633_inb) (j0 := inb_S8x7x80_S8x1x80_0_0_0) (f1 := k0_off634) (i1 := k0_off634_inb) (j1 := inb_S8x7x80_S8x1x80_0_1_0) (f2 := k0_off635) (i2 := k0_off635_inb) (j2 := inb_S8x7x80_S8x1x80_0_2_0) (f3 := k0_off636) (i3 := k0_off636_inb) (j3 := inb_S8x7x80_S8x1x80_0_3_0) (f4 := k0_off637) (i4 := k0_off637_inb) (j4 := inb_S8x7x80_S8x1x80_0_4_0) (f5 := k0_off638) (i5 := k0_off638_inb) (j5 := inb_S8x7x80_S8x1x80_0_5_0) (f6 := k0_off639) (i6 := k0_off639_inb) (j6 := inb_S8x7x80_S8x1x80_0_6_0) (fo := k0_off640) (io := k0_off640_inb) rfl (fun _ => rfl) (fun _ => rfl) (fun _ => rfl) (fun _ => rfl) (fun _ => rfl) (fun _ => rfl) (fun _ => rfl) (fun _ => rfl)) ?_
  refine wp_row (held mm c) _ ⟨0, 66, 83, 0, 0⟩ (by decide) (loop1 112 320 lane112 c 0 (f0 := k0_off641) (i0 := k0_off641_inb) (j0 := inb_S8x1x112_S8x1x112_0_0_0) (fo := k0_off642) (io := k0_off642_inb) rfl (fun _ => rfl) (fun _ => rfl)) ?_
  refine wp_row (held mm c) _ ⟨1, 67, 83, 2, 1⟩ (by decide) (loop3 112 320 lane112 c 1 (f0 := k0_off643) (i0 := k0_off643_inb) (j0 := inb_S8x3x112_S8x1x112_0_0_0) (f1 := k0_off644) (i1 := k0_off644_inb) (j1 := inb_S8x3x112_S8x1x112_0_1_0) (f2 := k0_off645) (i2 := k0_off645_inb) (j2 := inb_S8x3x112_S8x1x112_0_2_0) (fo := k0_off646) (io := k0_off646_inb) rfl (fun _ => rfl) (fun _ => rfl) (fun _ => rfl) (fun _ => rfl)) ?_
  refine wp_row (held mm c) _ ⟨1, 68, 83, 2, 2⟩ (by decide) (loop3 112 320 lane112 c 2 (f0 := k0_off647) (i0 := k0_off647_inb) (j0 := inb_S8x3x112_S8x1x112_0_0_0) (f1 := k0_off648) (i1 := k0_off648_inb) (j1 := inb_S8x3x112_S8x1x112_0_1_0) (f2 := k0_off649) (i2 := k0_off649_inb) (j2 := inb_S8x3x112_S8x1x112_0_2_0) (fo := k0_off650) (io := k0_off650_inb) rfl (fun _ => rfl) (fun _ => rfl) (fun _ => rfl) (fun _ => rfl)) ?_
  refine wp_row (held mm c) _ ⟨2, 69, 83, 4, 3⟩ (by decide) (loop5 112 320 lane112 c 3 (f0 := k0_off651) (i0 := k0_off651_inb) (j0 := inb_S8x5x112_S8x1x112_0_0_0) (f1 := k0_off652) (i1 := k0_off652_inb) (j1 := inb_S8x5x112_S8x1x112_0_1_0) (f2 := k0_off653) (i2 := k0_off653_inb) (j2 := inb_S8x5x112_S8x1x112_0_2_0) (f3 := k0_off654) (i3 := k0_off654_inb) (j3 := inb_S8x5x112_S8x1x112_0_3_0) (f4 := k0_off655) (i4 := k0_off655_inb) (j4 := inb_S8x5x112_S8x1x112_0_4_0) (fo := k0_off656) (io := k0_off656_inb) rfl (fun _ => rfl) (fun _ => rfl) (fun _ => rfl) (fun _ => rfl) (fun _ => rfl) (fun _ => rfl)) ?_
  exact wp_end _ _

/-- The loops of part 97. -/
theorem part97 (X : Fin 84 → Fn F) : all (held (U := U) mm c) X
    ⊢ wp frame (wpE defs Variants.none (c : Thread nD τ) none) Set.univ (k0_part97 i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows12 X) := by
  delta k0_part97
  refine wp_row (held mm c) _ ⟨2, 70, 83, 4, 4⟩ (by decide) (loop5 112 320 lane112 c 4 (f0 := k0_off657) (i0 := k0_off657_inb) (j0 := inb_S8x5x112_S8x1x112_0_0_0) (f1 := k0_off658) (i1 := k0_off658_inb) (j1 := inb_S8x5x112_S8x1x112_0_1_0) (f2 := k0_off659) (i2 := k0_off659_inb) (j2 := inb_S8x5x112_S8x1x112_0_2_0) (f3 := k0_off660) (i3 := k0_off660_inb) (j3 := inb_S8x5x112_S8x1x112_0_3_0) (f4 := k0_off661) (i4 := k0_off661_inb) (j4 := inb_S8x5x112_S8x1x112_0_4_0) (fo := k0_off662) (io := k0_off662_inb) rfl (fun _ => rfl) (fun _ => rfl) (fun _ => rfl) (fun _ => rfl) (fun _ => rfl) (fun _ => rfl)) ?_
  refine wp_row (held mm c) _ ⟨2, 71, 83, 4, 5⟩ (by decide) (loop5 112 320 lane112 c 5 (f0 := k0_off663) (i0 := k0_off663_inb) (j0 := inb_S8x5x112_S8x1x112_0_0_0) (f1 := k0_off664) (i1 := k0_off664_inb) (j1 := inb_S8x5x112_S8x1x112_0_1_0) (f2 := k0_off665) (i2 := k0_off665_inb) (j2 := inb_S8x5x112_S8x1x112_0_2_0) (f3 := k0_off666) (i3 := k0_off666_inb) (j3 := inb_S8x5x112_S8x1x112_0_3_0) (f4 := k0_off667) (i4 := k0_off667_inb) (j4 := inb_S8x5x112_S8x1x112_0_4_0) (fo := k0_off668) (io := k0_off668_inb) rfl (fun _ => rfl) (fun _ => rfl) (fun _ => rfl) (fun _ => rfl) (fun _ => rfl) (fun _ => rfl)) ?_
  refine wp_row (held mm c) _ ⟨3, 72, 83, 6, 6⟩ (by decide) (loop7 112 320 lane112 c 6 (f0 := k0_off669) (i0 := k0_off669_inb) (j0 := inb_S8x7x112_S8x1x112_0_0_0) (f1 := k0_off670) (i1 := k0_off670_inb) (j1 := inb_S8x7x112_S8x1x112_0_1_0) (f2 := k0_off671) (i2 := k0_off671_inb) (j2 := inb_S8x7x112_S8x1x112_0_2_0) (f3 := k0_off672) (i3 := k0_off672_inb) (j3 := inb_S8x7x112_S8x1x112_0_3_0) (f4 := k0_off673) (i4 := k0_off673_inb) (j4 := inb_S8x7x112_S8x1x112_0_4_0) (f5 := k0_off674) (i5 := k0_off674_inb) (j5 := inb_S8x7x112_S8x1x112_0_5_0) (f6 := k0_off675) (i6 := k0_off675_inb) (j6 := inb_S8x7x112_S8x1x112_0_6_0) (fo := k0_off676) (io := k0_off676_inb) rfl (fun _ => rfl) (fun _ => rfl) (fun _ => rfl) (fun _ => rfl) (fun _ => rfl) (fun _ => rfl) (fun _ => rfl) (fun _ => rfl)) ?_
  refine wp_row (held mm c) _ ⟨3, 73, 83, 6, 7⟩ (by decide) (loop7 112 320 lane112 c 7 (f0 := k0_off677) (i0 := k0_off677_inb) (j0 := inb_S8x7x112_S8x1x112_0_0_0) (f1 := k0_off678) (i1 := k0_off678_inb) (j1 := inb_S8x7x112_S8x1x112_0_1_0) (f2 := k0_off679) (i2 := k0_off679_inb) (j2 := inb_S8x7x112_S8x1x112_0_2_0) (f3 := k0_off680) (i3 := k0_off680_inb) (j3 := inb_S8x7x112_S8x1x112_0_3_0) (f4 := k0_off681) (i4 := k0_off681_inb) (j4 := inb_S8x7x112_S8x1x112_0_4_0) (f5 := k0_off682) (i5 := k0_off682_inb) (j5 := inb_S8x7x112_S8x1x112_0_5_0) (f6 := k0_off683) (i6 := k0_off683_inb) (j6 := inb_S8x7x112_S8x1x112_0_6_0) (fo := k0_off684) (io := k0_off684_inb) rfl (fun _ => rfl) (fun _ => rfl) (fun _ => rfl) (fun _ => rfl) (fun _ => rfl) (fun _ => rfl) (fun _ => rfl) (fun _ => rfl)) ?_
  refine wp_row (held mm c) _ ⟨3, 74, 83, 6, 8⟩ (by decide) (loop7 112 320 lane112 c 8 (f0 := k0_off685) (i0 := k0_off685_inb) (j0 := inb_S8x7x112_S8x1x112_0_0_0) (f1 := k0_off686) (i1 := k0_off686_inb) (j1 := inb_S8x7x112_S8x1x112_0_1_0) (f2 := k0_off687) (i2 := k0_off687_inb) (j2 := inb_S8x7x112_S8x1x112_0_2_0) (f3 := k0_off688) (i3 := k0_off688_inb) (j3 := inb_S8x7x112_S8x1x112_0_3_0) (f4 := k0_off689) (i4 := k0_off689_inb) (j4 := inb_S8x7x112_S8x1x112_0_4_0) (f5 := k0_off690) (i5 := k0_off690_inb) (j5 := inb_S8x7x112_S8x1x112_0_5_0) (f6 := k0_off691) (i6 := k0_off691_inb) (j6 := inb_S8x7x112_S8x1x112_0_6_0) (fo := k0_off692) (io := k0_off692_inb) rfl (fun _ => rfl) (fun _ => rfl) (fun _ => rfl) (fun _ => rfl) (fun _ => rfl) (fun _ => rfl) (fun _ => rfl) (fun _ => rfl)) ?_
  refine wp_row (held mm c) _ ⟨3, 75, 83, 6, 9⟩ (by decide) (loop7 112 320 lane112 c 9 (f0 := k0_off693) (i0 := k0_off693_inb) (j0 := inb_S8x7x112_S8x1x112_0_0_0) (f1 := k0_off694) (i1 := k0_off694_inb) (j1 := inb_S8x7x112_S8x1x112_0_1_0) (f2 := k0_off695) (i2 := k0_off695_inb) (j2 := inb_S8x7x112_S8x1x112_0_2_0) (f3 := k0_off696) (i3 := k0_off696_inb) (j3 := inb_S8x7x112_S8x1x112_0_3_0) (f4 := k0_off697) (i4 := k0_off697_inb) (j4 := inb_S8x7x112_S8x1x112_0_4_0) (f5 := k0_off698) (i5 := k0_off698_inb) (j5 := inb_S8x7x112_S8x1x112_0_5_0) (f6 := k0_off699) (i6 := k0_off699_inb) (j6 := inb_S8x7x112_S8x1x112_0_6_0) (fo := k0_off700) (io := k0_off700_inb) rfl (fun _ => rfl) (fun _ => rfl) (fun _ => rfl) (fun _ => rfl) (fun _ => rfl) (fun _ => rfl) (fun _ => rfl) (fun _ => rfl)) ?_
  refine wp_row (held mm c) _ ⟨4, 32, 83, 0, 10⟩ (by decide) (loop1 112 320 lane112 c 10 (f0 := k0_off701) (i0 := k0_off701_inb) (j0 := inb_S8x1x112_S8x1x112_0_0_0) (fo := k0_off702) (io := k0_off702_inb) rfl (fun _ => rfl) (fun _ => rfl)) ?_
  refine wp_row (held mm c) _ ⟨5, 33, 83, 2, 11⟩ (by decide) (loop3 112 320 lane112 c 11 (f0 := k0_off703) (i0 := k0_off703_inb) (j0 := inb_S8x3x112_S8x1x112_0_0_0) (f1 := k0_off704) (i1 := k0_off704_inb) (j1 := inb_S8x3x112_S8x1x112_0_1_0) (f2 := k0_off705) (i2 := k0_off705_inb) (j2 := inb_S8x3x112_S8x1x112_0_2_0) (fo := k0_off706) (io := k0_off706_inb) rfl (fun _ => rfl) (fun _ => rfl) (fun _ => rfl) (fun _ => rfl)) ?_
  refine wp_row (held mm c) _ ⟨5, 34, 83, 2, 12⟩ (by decide) (loop3 112 320 lane112 c 12 (f0 := k0_off707) (i0 := k0_off707_inb) (j0 := inb_S8x3x112_S8x1x112_0_0_0) (f1 := k0_off708) (i1 := k0_off708_inb) (j1 := inb_S8x3x112_S8x1x112_0_1_0) (f2 := k0_off709) (i2 := k0_off709_inb) (j2 := inb_S8x3x112_S8x1x112_0_2_0) (fo := k0_off710) (io := k0_off710_inb) rfl (fun _ => rfl) (fun _ => rfl) (fun _ => rfl) (fun _ => rfl)) ?_
  refine wp_row (held mm c) _ ⟨6, 35, 83, 4, 13⟩ (by decide) (loop5 112 320 lane112 c 13 (f0 := k0_off711) (i0 := k0_off711_inb) (j0 := inb_S8x5x112_S8x1x112_0_0_0) (f1 := k0_off712) (i1 := k0_off712_inb) (j1 := inb_S8x5x112_S8x1x112_0_1_0) (f2 := k0_off713) (i2 := k0_off713_inb) (j2 := inb_S8x5x112_S8x1x112_0_2_0) (f3 := k0_off714) (i3 := k0_off714_inb) (j3 := inb_S8x5x112_S8x1x112_0_3_0) (f4 := k0_off715) (i4 := k0_off715_inb) (j4 := inb_S8x5x112_S8x1x112_0_4_0) (fo := k0_off716) (io := k0_off716_inb) rfl (fun _ => rfl) (fun _ => rfl) (fun _ => rfl) (fun _ => rfl) (fun _ => rfl) (fun _ => rfl)) ?_
  exact wp_end _ _

end Cert.KernelIdeal.Gen

end
-- ==== Proof.KernelIdealBody.lean ====
/- The kernel's loops, put together: the whole body on the whole table. -/
module

public import proofs.«01_k».proof.Proof.KernelIdealBodyB
public import proofs.«01_k».proof.Proof.KernelIdealBodyC

@[expose] public section

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Blocks

variable {F : FTy → Type} [FloatOps F]

variable {U : Type} [URA U] {defs : Defs nD τ sig (Elt F) Λ₀} (i : grid0.Coords)
  (mm : ∀ w : Fin 84, Memref sig .tc (.core (spec0 w).stageSpace) (spec0 w).block (spec0 w).elt) (h : ∀ w, (mm w).IsWhole) (c : Dev nD)

/-- The whole body: the table's loops. -/
theorem body_run (X : Fin 84 → Fn F) : all (held (U := U) mm c) X
    ⊢ wp frame (wpE defs Variants.none (c : Thread nD τ) none) Set.univ (cc0__tc_body i (mm 0) (h 0) (mm 1) (h 1) (mm 2) (h 2) (mm 3) (h 3) (mm 4) (h 4) (mm 5) (h 5) (mm 6) (h 6) (mm 7) (h 7) (mm 8) (h 8) (mm 9) (h 9) (mm 10) (h 10) (mm 11) (h 11) (mm 12) (h 12) (mm 13) (h 13) (mm 14) (h 14) (mm 15) (h 15) (mm 16) (h 16) (mm 17) (h 17) (mm 18) (h 18) (mm 19) (h 19) (mm 20) (h 20) (mm 21) (h 21) (mm 22) (h 22) (mm 23) (h 23) (mm 24) (h 24) (mm 25) (h 25) (mm 26) (h 26) (mm 27) (h 27) (mm 28) (h 28) (mm 29) (h 29) (mm 30) (h 30) (mm 31) (h 31) (mm 32) (h 32) (mm 33) (h 33) (mm 34) (h 34) (mm 35) (h 35) (mm 36) (h 36) (mm 37) (h 37) (mm 38) (h 38) (mm 39) (h 39) (mm 40) (h 40) (mm 41) (h 41) (mm 42) (h 42) (mm 43) (h 43) (mm 44) (h 44) (mm 45) (h 45) (mm 46) (h 46) (mm 47) (h 47) (mm 48) (h 48) (mm 49) (h 49) (mm 50) (h 50) (mm 51) (h 51) (mm 52) (h 52) (mm 53) (h 53) (mm 54) (h 54) (mm 55) (h 55) (mm 56) (h 56) (mm 57) (h 57) (mm 58) (h 58) (mm 59) (h 59) (mm 60) (h 60) (mm 61) (h 61) (mm 62) (h 62) (mm 63) (h 63) (mm 64) (h 64) (mm 65) (h 65) (mm 66) (h 66) (mm 67) (h 67) (mm 68) (h 68) (mm 69) (h 69) (mm 70) (h 70) (mm 71) (h 71) (mm 72) (h 72) (mm 73) (h 73) (mm 74) (h 74) (mm 75) (h 75) (mm 76) (h 76) (mm 77) (h 77) (mm 78) (h 78) (mm 79) (h 79) (mm 80) (h 80) (mm 81) (h 81) (mm 82) (h 82) (mm 83) (h 83))
        fun _ => all (held (U := U) mm c) (steps rows X) := by
  unfold rows
  simp only [steps_append]
  delta cc0__tc_body
  refine wp_part (held mm c) _ rows0 (part85 i mm h c _) ?_
  refine wp_part (held mm c) _ rows1 (part86 i mm h c _) ?_
  refine wp_part (held mm c) _ rows2 (part87 i mm h c _) ?_
  refine wp_part (held mm c) _ rows3 (part88 i mm h c _) ?_
  refine wp_part (held mm c) _ rows4 (part89 i mm h c _) ?_
  refine wp_part (held mm c) _ rows5 (part90 i mm h c _) ?_
  refine wp_part (held mm c) _ rows6 (part91 i mm h c _) ?_
  refine wp_part (held mm c) _ rows7 (part92 i mm h c _) ?_
  refine wp_part (held mm c) _ rows8 (part93 i mm h c _) ?_
  refine wp_part (held mm c) _ rows9 (part94 i mm h c _) ?_
  refine wp_part (held mm c) _ rows10 (part95 i mm h c _) ?_
  refine wp_part (held mm c) _ rows11 (part96 i mm h c _) ?_
  refine wp_part (held mm c) _ rows12 (part97 i mm h c _) ?_
  refine wp_row (held mm c) _ ⟨6, 36, 83, 4, 14⟩ (by decide) (loop5 112 320 lane112 c 14 (f0 := k0_off717) (i0 := k0_off717_inb) (j0 := inb_S8x5x112_S8x1x112_0_0_0) (f1 := k0_off718) (i1 := k0_off718_inb) (j1 := inb_S8x5x112_S8x1x112_0_1_0) (f2 := k0_off719) (i2 := k0_off719_inb) (j2 := inb_S8x5x112_S8x1x112_0_2_0) (f3 := k0_off720) (i3 := k0_off720_inb) (j3 := inb_S8x5x112_S8x1x112_0_3_0) (f4 := k0_off721) (i4 := k0_off721_inb) (j4 := inb_S8x5x112_S8x1x112_0_4_0) (fo := k0_off722) (io := k0_off722_inb) rfl (fun _ => rfl) (fun _ => rfl) (fun _ => rfl) (fun _ => rfl) (fun _ => rfl) (fun _ => rfl)) ?_
  refine wp_row (held mm c) _ ⟨6, 37, 83, 4, 15⟩ (by decide) (loop5 112 320 lane112 c 15 (f0 := k0_off723) (i0 := k0_off723_inb) (j0 := inb_S8x5x112_S8x1x112_0_0_0) (f1 := k0_off724) (i1 := k0_off724_inb) (j1 := inb_S8x5x112_S8x1x112_0_1_0) (f2 := k0_off725) (i2 := k0_off725_inb) (j2 := inb_S8x5x112_S8x1x112_0_2_0) (f3 := k0_off726) (i3 := k0_off726_inb) (j3 := inb_S8x5x112_S8x1x112_0_3_0) (f4 := k0_off727) (i4 := k0_off727_inb) (j4 := inb_S8x5x112_S8x1x112_0_4_0) (fo := k0_off728) (io := k0_off728_inb) rfl (fun _ => rfl) (fun _ => rfl) (fun _ => rfl) (fun _ => rfl) (fun _ => rfl) (fun _ => rfl)) ?_
  refine wp_row (held mm c) _ ⟨7, 38, 83, 6, 16⟩ (by decide) (loop7 112 320 lane112 c 16 (f0 := k0_off729) (i0 := k0_off729_inb) (j0 := inb_S8x7x112_S8x1x112_0_0_0) (f1 := k0_off730) (i1 := k0_off730_inb) (j1 := inb_S8x7x112_S8x1x112_0_1_0) (f2 := k0_off731) (i2 := k0_off731_inb) (j2 := inb_S8x7x112_S8x1x112_0_2_0) (f3 := k0_off732) (i3 := k0_off732_inb) (j3 := inb_S8x7x112_S8x1x112_0_3_0) (f4 := k0_off733) (i4 := k0_off733_inb) (j4 := inb_S8x7x112_S8x1x112_0_4_0) (f5 := k0_off734) (i5 := k0_off734_inb) (j5 := inb_S8x7x112_S8x1x112_0_5_0) (f6 := k0_off735) (i6 := k0_off735_inb) (j6 := inb_S8x7x112_S8x1x112_0_6_0) (fo := k0_off736) (io := k0_off736_inb) rfl (fun _ => rfl) (fun _ => rfl) (fun _ => rfl) (fun _ => rfl) (fun _ => rfl) (fun _ => rfl) (fun _ => rfl) (fun _ => rfl)) ?_
  refine wp_row (held mm c) _ ⟨7, 39, 83, 6, 17⟩ (by decide) (loop7 112 320 lane112 c 17 (f0 := k0_off737) (i0 := k0_off737_inb) (j0 := inb_S8x7x112_S8x1x112_0_0_0) (f1 := k0_off738) (i1 := k0_off738_inb) (j1 := inb_S8x7x112_S8x1x112_0_1_0) (f2 := k0_off739) (i2 := k0_off739_inb) (j2 := inb_S8x7x112_S8x1x112_0_2_0) (f3 := k0_off740) (i3 := k0_off740_inb) (j3 := inb_S8x7x112_S8x1x112_0_3_0) (f4 := k0_off741) (i4 := k0_off741_inb) (j4 := inb_S8x7x112_S8x1x112_0_4_0) (f5 := k0_off742) (i5 := k0_off742_inb) (j5 := inb_S8x7x112_S8x1x112_0_5_0) (f6 := k0_off743) (i6 := k0_off743_inb) (j6 := inb_S8x7x112_S8x1x112_0_6_0) (fo := k0_off744) (io := k0_off744_inb) rfl (fun _ => rfl) (fun _ => rfl) (fun _ => rfl) (fun _ => rfl) (fun _ => rfl) (fun _ => rfl) (fun _ => rfl) (fun _ => rfl)) ?_
  refine wp_row (held mm c) _ ⟨7, 40, 83, 6, 18⟩ (by decide) (loop7 112 320 lane112 c 18 (f0 := k0_off745) (i0 := k0_off745_inb) (j0 := inb_S8x7x112_S8x1x112_0_0_0) (f1 := k0_off746) (i1 := k0_off746_inb) (j1 := inb_S8x7x112_S8x1x112_0_1_0) (f2 := k0_off747) (i2 := k0_off747_inb) (j2 := inb_S8x7x112_S8x1x112_0_2_0) (f3 := k0_off748) (i3 := k0_off748_inb) (j3 := inb_S8x7x112_S8x1x112_0_3_0) (f4 := k0_off749) (i4 := k0_off749_inb) (j4 := inb_S8x7x112_S8x1x112_0_4_0) (f5 := k0_off750) (i5 := k0_off750_inb) (j5 := inb_S8x7x112_S8x1x112_0_5_0) (f6 := k0_off751) (i6 := k0_off751_inb) (j6 := inb_S8x7x112_S8x1x112_0_6_0) (fo := k0_off752) (io := k0_off752_inb) rfl (fun _ => rfl) (fun _ => rfl) (fun _ => rfl) (fun _ => rfl) (fun _ => rfl) (fun _ => rfl) (fun _ => rfl) (fun _ => rfl)) ?_
  refine wp_row (held mm c) _ ⟨7, 41, 83, 6, 19⟩ (by decide) (loop7 112 320 lane112 c 19 (f0 := k0_off753) (i0 := k0_off753_inb) (j0 := inb_S8x7x112_S8x1x112_0_0_0) (f1 := k0_off754) (i1 := k0_off754_inb) (j1 := inb_S8x7x112_S8x1x112_0_1_0) (f2 := k0_off755) (i2 := k0_off755_inb) (j2 := inb_S8x7x112_S8x1x112_0_2_0) (f3 := k0_off756) (i3 := k0_off756_inb) (j3 := inb_S8x7x112_S8x1x112_0_3_0) (f4 := k0_off757) (i4 := k0_off757_inb) (j4 := inb_S8x7x112_S8x1x112_0_4_0) (f5 := k0_off758) (i5 := k0_off758_inb) (j5 := inb_S8x7x112_S8x1x112_0_5_0) (f6 := k0_off759) (i6 := k0_off759_inb) (j6 := inb_S8x7x112_S8x1x112_0_6_0) (fo := k0_off760) (io := k0_off760_inb) rfl (fun _ => rfl) (fun _ => rfl) (fun _ => rfl) (fun _ => rfl) (fun _ => rfl) (fun _ => rfl) (fun _ => rfl) (fun _ => rfl)) ?_
  exact wp_end _ _

end Cert.KernelIdeal.Gen

end
-- ==== Proof.KernelIdealWindows.lean ====
/- The windows of the kernel's one pipeline: what all of them have in common, read off each of them. -/
module

public import proofs.«01_k».proof.Proof.Table
public import proofs.«01_k».proof.Proof.Gen.KernelIdeal.Launch
public import proofs.«01_k».proof.Proof.Gen.KernelIdeal.Points
public import Mathlib.Tactic.FinCases

@[expose] public section

set_option maxRecDepth 16384

noncomputable section

namespace Cert.KernelIdeal.Gen

open Idealize.ShloMosaic Idealize.ShloMosaic.TcCoe
open Idealize.SL Idealize.SL.Sem
open Cert.Blocks

variable {F : FTy → Type} [FloatOps F]

/-! ## The windows: all have three axes and f32 elements, none is cut -/

theorem win_rank (w : Fin 84) : (win0 w).block.rank = 3 := by fin_cases w <;> rfl

theorem win_elt (w : Fin 84) : (win0 w).elt = .f32 := by fin_cases w <;> rfl

theorem win_in (w : Fin 84) (hw : w.val < 76) : (win0 w).isOut = false := by
  fin_cases w <;> first | rfl | exact absurd hw (by decide)

theorem win_clip (w : Fin 84) (i j : grid0.Coords) : (win0 w).clip i = (win0 w).clip j := by fin_cases w <;> rfl

theorem win_cut (w : Fin 84) (i : grid0.Coords) (v : ((win0 w).xblock i).Idx → Elt F (win0 w).elt) :
    (win0 w).cut i (ofFn (toFn v)) = v := by
  fin_cases w <;> exact ofFn_toFn3 _ v

theorem win_fill (w : Fin 84) (i : grid0.Coords) (d : (win0 w).block.Idx → Elt F (win0 w).elt)
    (v : ((win0 w).xblock i).Idx → Elt F (win0 w).elt) : (win0 w).fill i d v = ofFn (toFn v) := by
  fin_cases w <;> exact (ofFn_toFn3 _ v).symm

theorem win_rows (w : Fin 84) (hw : 76 ≤ w.val) : (win0 w).block.size (Fin.cast (win_rank w).symm 1) = 16 * blocks w := by
  fin_cases w <;> first | rfl | exact absurd hw (by decide)

/-- The windows' staging buffers at a point. -/
def stg (t : Fin cfg0.N) (w : Fin 84) : Memref sig .tc (.core (spec0 w).stageSpace) (spec0 w).block (spec0 w).elt :=
  (cfg0.win w).stage (cfg0.slots t w)

theorem stg_whole (t : Fin cfg0.N) (w : Fin 84) : (stg t w).IsWhole := by
  unfold stg
  fin_cases w
  · exact hstage0_0 ((cfg0.slots t 0).cast nbuf0_0)
  · exact hstage0_1 ((cfg0.slots t 1).cast nbuf0_1)
  · exact hstage0_2 ((cfg0.slots t 2).cast nbuf0_2)
  · exact hstage0_3 ((cfg0.slots t 3).cast nbuf0_3)
  · exact hstage0_4 ((cfg0.slots t 4).cast nbuf0_4)
  · exact hstage0_5 ((cfg0.slots t 5).cast nbuf0_5)
  · exact hstage0_6 ((cfg0.slots t 6).cast nbuf0_6)
  · exact hstage0_7 ((cfg0.slots t 7).cast nbuf0_7)
  · exact hstage0_8 ((cfg0.slots t 8).cast nbuf0_8)
  · exact hstage0_9 ((cfg0.slots t 9).cast nbuf0_9)
  · exact hstage0_10 ((cfg0.slots t 10).cast nbuf0_10)
  · exact hstage0_11 ((cfg0.slots t 11).cast nbuf0_11)
  · exact hstage0_12 ((cfg0.slots t 12).cast nbuf0_12)
  · exact hstage0_13 ((cfg0.slots t 13).cast nbuf0_13)
  · exact hstage0_14 ((cfg0.slots t 14).cast nbuf0_14)
  · exact hstage0_15 ((cfg0.slots t 15).cast nbuf0_15)
  · exact hstage0_16 ((cfg0.slots t 16).cast nbuf0_16)
  · exact hstage0_17 ((cfg0.slots t 17).cast nbuf0_17)
  · exact hstage0_18 ((cfg0.slots t 18).cast nbuf0_18)
  · exact hstage0_19 ((cfg0.slots t 19).cast nbuf0_19)
  · exact hstage0_20 ((cfg0.slots t 20).cast nbuf0_20)
  · exact hstage0_21 ((cfg0.slots t 21).cast nbuf0_21)
  · exact hstage0_22 ((cfg0.slots t 22).cast nbuf0_22)
  · exact hstage0_23 ((cfg0.slots t 23).cast nbuf0_23)
  · exact hstage0_24 ((cfg0.slots t 24).cast nbuf0_24)
  · exact hstage0_25 ((cfg0.slots t 25).cast nbuf0_25)
  · exact hstage0_26 ((cfg0.slots t 26).cast nbuf0_26)
  · exact hstage0_27 ((cfg0.slots t 27).cast nbuf0_27)
  · exact hstage0_28 ((cfg0.slots t 28).cast nbuf0_28)
  · exact hstage0_29 ((cfg0.slots t 29).cast nbuf0_29)
  · exact hstage0_30 ((cfg0.slots t 30).cast nbuf0_30)
  · exact hstage0_31 ((cfg0.slots t 31).cast nbuf0_31)
  · exact hstage0_32 ((cfg0.slots t 32).cast nbuf0_32)
  · exact hstage0_33 ((cfg0.slots t 33).cast nbuf0_33)
  · exact hstage0_34 ((cfg0.slots t 34).cast nbuf0_34)
  · exact hstage0_35 ((cfg0.slots t 35).cast nbuf0_35)
  · exact hstage0_36 ((cfg0.slots t 36).cast nbuf0_36)
  · exact hstage0_37 ((cfg0.slots t 37).cast nbuf0_37)
  · exact hstage0_38 ((cfg0.slots t 38).cast nbuf0_38)
  · exact hstage0_39 ((cfg0.slots t 39).cast nbuf0_39)
  · exact hstage0_40 ((cfg0.slots t 40).cast nbuf0_40)
  · exact hstage0_41 ((cfg0.slots t 41).cast nbuf0_41)
  · exact hstage0_42 ((cfg0.slots t 42).cast nbuf0_42)
  · exact hstage0_43 ((cfg0.slots t 43).cast nbuf0_43)
  · exact hstage0_44 ((cfg0.slots t 44).cast nbuf0_44)
  · exact hstage0_45 ((cfg0.slots t 45).cast nbuf0_45)
  · exact hstage0_46 ((cfg0.slots t 46).cast nbuf0_46)
  · exact hstage0_47 ((cfg0.slots t 47).cast nbuf0_47)
  · exact hstage0_48 ((cfg0.slots t 48).cast nbuf0_48)
  · exact hstage0_49 ((cfg0.slots t 49).cast nbuf0_49)
  · exact hstage0_50 ((cfg0.slots t 50).cast nbuf0_50)
  · exact hstage0_51 ((cfg0.slots t 51).cast nbuf0_51)
  · exact hstage0_52 ((cfg0.slots t 52).cast nbuf0_52)
  · exact hstage0_53 ((cfg0.slots t 53).cast nbuf0_53)
  · exact hstage0_54 ((cfg0.slots t 54).cast nbuf0_54)
  · exact hstage0_55 ((cfg0.slots t 55).cast nbuf0_55)
  · exact hstage0_56 ((cfg0.slots t 56).cast nbuf0_56)
  · exact hstage0_57 ((cfg0.slots t 57).cast nbuf0_57)
  · exact hstage0_58 ((cfg0.slots t 58).cast nbuf0_58)
  · exact hstage0_59 ((cfg0.slots t 59).cast nbuf0_59)
  · exact hstage0_60 ((cfg0.slots t 60).cast nbuf0_60)
  · exact hstage0_61 ((cfg0.slots t 61).cast nbuf0_61)
  · exact hstage0_62 ((cfg0.slots t 62).cast nbuf0_62)
  · exact hstage0_63 ((cfg0.slots t 63).cast nbuf0_63)
  · exact hstage0_64 ((cfg0.slots t 64).cast nbuf0_64)
  · exact hstage0_65 ((cfg0.slots t 65).cast nbuf0_65)
  · exact hstage0_66 ((cfg0.slots t 66).cast nbuf0_66)
  · exact hstage0_67 ((cfg0.slots t 67).cast nbuf0_67)
  · exact hstage0_68 ((cfg0.slots t 68).cast nbuf0_68)
  · exact hstage0_69 ((cfg0.slots t 69).cast nbuf0_69)
  · exact hstage0_70 ((cfg0.slots t 70).cast nbuf0_70)
  · exact hstage0_71 ((cfg0.slots t 71).cast nbuf0_71)
  · exact hstage0_72 ((cfg0.slots t 72).cast nbuf0_72)
  · exact hstage0_73 ((cfg0.slots t 73).cast nbuf0_73)
  · exact hstage0_74 ((cfg0.slots t 74).cast nbuf0_74)
  · exact hstage0_75 ((cfg0.slots t 75).cast nbuf0_75)
  · exact hstage0_76 ((cfg0.slots t 76).cast nbuf0_76)
  · exact hstage0_77 ((cfg0.slots t 77).cast nbuf0_77)
  · exact hstage0_78 ((cfg0.slots t 78).cast nbuf0_78)
  · exact hstage0_79 ((cfg0.slots t 79).cast nbuf0_79)
  · exact hstage0_80 ((cfg0.slots t 80).cast nbuf0_80)
  · exact hstage0_81 ((cfg0.slots t 81).cast nbuf0_81)
  · exact hstage0_82 ((cfg0.slots t 82).cast nbuf0_82)
  · exact hstage0_83 ((cfg0.slots t 83).cast nbuf0_83)

end Cert.KernelIdeal.Gen

end
-- ==== Proof.KernelIdealLaunch.lean ====
/- The kernel's one pipeline: what its body leaves in every window, the launch, and the frame.

   At a grid point every input window holds its block of its array; the body leaves the table's run of those blocks. -/
module

public import proofs.«01_k».proof.Proof.KernelIdealBody
public import proofs.«01_k».proof.Proof.KernelIdealWindows
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Blocks

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its pipeline, and the windows' blocks -/

/-- The buffers when the pipeline starts: as launched. -/
abbrev V (c : Dev nD) (b : Ref sig .tc) : Buf (Elt F) ((c : Thread nD τ).loc b) := m ((c : Thread nD τ).loc b)

/-- The program is the pipeline alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves -/

/-- Window `w`'s block at point `t`, as a function of the coordinates. -/
def inp (c : Dev nD) (t : Fin cfg0.N) (w : Fin 84) : Fn F := toFn (iblk m c w t)

/-- What the body leaves in window `w` at point `t`. -/
def left (c : Dev nD) (t : Fin cfg0.N) (w : Fin 84) : Fn F := steps rows (inp m c t) w

/-- The pipeline's data: the arrays as the region finds them, and the windows as the body leaves them. -/
def dats (_ : Fin 1) (c : Dev nD) : Dat τ (Elt F) Unit ℕ (UR sig nD τ) ℕ cfg0 c where
  A w := V m c (Pipeline.arrRef spec0 w)
  after w t := ofFn (left m c t w)
  Φ _ := Pipeline.ΦA spec0 c
  q _ := fullShare
  owed _ := 0

theorem A_eq (c : Dev nD) (w : Fin cfg0.W) : (dats m 0 c).A w = V m c (Pipeline.arrRef spec0 w) := by dsimp only [dats]

theorem left_in (c : Dev nD) (t : Fin cfg0.N) (w : Fin 84) (hw : w.val < 76) : left m c t w = inp m c t w := by
  unfold left
  rw [rows_input _ w hw]

theorem before_in (c : Dev nD) (w : Fin 84) (hw : w.val < 76) (t : Fin cfg0.N) (d) :
    (dats m 0 c).before w t d = ofFn (inp m c t w) := by
  have hb : ∀ t, (dats m 0 c).blockOf w t = iblk m c w t := fun _ => rfl
  rw [(dats m 0 c).before_in_eq_fetched w (win_in w hw) (fun _ => rfl) (fun _ _ _ => win_clip w _ _)
    (fun t => by
      show (win0 w).cut _ (ofFn (left m c t w)) = _
      rw [left_in m c t w hw, hb]
      exact win_cut w _ _) t d]
  unfold Dat.fetched
  rw [hb]
  exact win_fill w _ _ _

/-! ## The body obligation -/

theorem bodyAt_run (c : Dev nD) (t : Fin cfg0.N) (X : Fin 84 → Fn F) : all (held (U := UR sig nD τ) (stg t) c) X
    ⊢ wp frame (wpE (defs₀ (F := F)) Variants.none (c : Thread nD τ) none) Set.univ (bodyAt0 t)
        fun _ => all (held (stg t) c) (steps rows X) :=
  body_run (grid0.coords t) (stg t) (stg_whole t) c X

/-- The body's row of the table of definitions, at a point. -/
theorem defs₀_row (t : Fin cfg0.N) : defs₀ (F := F) .tc cfg0.body (cfg0.bodyArgs t (cfg0.slots t)) = bodyAt0 t := by
  unfold defs₀
  rw [Defs.onTc_tc]

/-- The windows as the body finds them are all held, the inputs at their blocks. -/
theorem found (c : Dev nD) (t : Fin cfg0.N) :
    (bigSep Finset.univ fun w : Fin 84 => iprop(∃ d, owns (c : Thread nD τ) (stg t w) fullShare ((dats m 0 c).before w t d)) : sProp 𝕄)
      ⊢ iprop(∃ X : Fin 84 → Fn F, ⌜∀ w : Fin 84, w.val < 76 → X w = inp m c t w⌝ ∗ all (held (stg t) c) X) := by
  have one : ∀ w ∈ (Finset.univ : Finset (Fin 84)),
      (iprop(∃ d, owns (c : Thread nD τ) (stg t w) fullShare ((dats m 0 c).before w t d)) : sProp 𝕄)
        ⊢ iprop(∃ Y, held (stg t) c w (if w.val < 76 then inp m c t w else Y)) := fun w _ => by
    iintro ⟨%d, H⟩
    iexists (toFn ((dats m 0 c).before w t d))
    unfold held holdW
    by_cases hw : w.val < 76
    · rw [if_pos hw, before_in m c w hw t d]
      iexact H
    · rw [if_neg hw, ofFn_toFn (win_rank w) (win_elt w)]
      iexact H
  refine BIBase.Entails.trans (bigSep_mono one) ?_
  haveI : Nonempty (Fn F) := ⟨fun _ _ _ => FloatOps.ofBits .f32 0⟩
  refine BIBase.Entails.trans (bigSep_choose _ _) ?_
  iintro ⟨%f, H⟩
  iexists (fun w => if w.val < 76 then inp m c t w else f w)
  isplitr
  · ipureintro
    exact fun w hw => if_pos hw
  · unfold all
    iexact H

/-- All held after the body's run is every window as the body leaves it. -/
theorem leaves (c : Dev nD) (t : Fin cfg0.N) (X : Fin 84 → Fn F) (hX : ∀ w : Fin 84, w.val < 76 → X w = inp m c t w) :
    (all (held (stg t) c) (steps rows X) : sProp 𝕄)
      ⊢ bigSep Finset.univ fun w : Fin 84 => owns (c : Thread nD τ) (stg t w) fullShare ((dats m 0 c).after w t) := by
  unfold all
  refine bigSep_mono fun w _ => ?_
  have h : (ofFn (steps rows X w) : (win0 w).block.Idx → Elt F (win0 w).elt) = ofFn (left m c t w) := by
    by_cases hw : w.val < 76
    · rw [rows_input X w hw, left_in m c t w hw, hX w hw]
    · exact ofFn_congr (win_rank w) _ _ fun b g x hg => rows_congr X (inp m c t) hX w (by omega) b g x
        (by rw [← win_rows w (by omega)]; exact hg)
  show holdW c (stg t w) (steps rows X w) ⊢ owns (c : Thread nD τ) (stg t w) fullShare (ofFn (left m c t w))
  unfold holdW
  rw [h]

theorem body_obligation (c : Dev nD) : BodyObligation (dats (F := F) m 0 c) (defs₀ (F := F)) Variants.none () Set.univ := fun t => by
  rw [defs₀_row]
  show iprop((dats m 0 c).Φ t.castSucc ∗ (dats m 0 c).owesAt () t.castSucc
        ∗ bigSep Finset.univ fun w : Fin 84 => iprop(∃ d, owns (c : Thread nD τ) (stg t w) fullShare ((dats m 0 c).before w t d)))
      ⊢ wp frame (wpE (defs₀ (F := F)) Variants.none (c : Thread nD τ) none) Set.univ (bodyAt0 t) fun _ =>
        iprop((dats m 0 c).Φ t.castSucc ∗ (dats m 0 c).owesAt () t.castSucc
          ∗ bigSep Finset.univ fun w : Fin 84 => owns (c : Thread nD τ) (stg t w) fullShare ((dats m 0 c).after w t))
  iintro ⟨HΦ, Ho, H⟩
  ihave ⟨%X, %hX, H⟩ := found m c t $$ H
  iapply (wp_wand_r frame (wpE (defs₀ (F := F)) Variants.none (c : Thread nD τ) none) Set.univ)
  isplitl [H]
  · iapply (bodyAt_run c t X); iexact H
  · iintro %_ H
    isplitl [HΦ]; · iexact HΦ
    isplitl [Ho]; · iexact Ho
    iapply (leaves m c t X hX); iexact H

/-! ## The run and the frame -/

set_option backward.isDefEq.respectTransparency.types false in
/-- The launch: every execution ends with the pipeline's arrays as computed, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- An argument array after the run. -/
theorem arg_end {r : PUnit × MemSt nD τ sig (Elt F)} (h : Pipeline.FramePost cfgs (dats m) 0 (V m) r) (c : Dev nD) (w : Fin 84)
    (hw : w.val < 76) : r.2.mem ((spec0 w).arr.view.loc (c : Thread nD τ)) = m ((c : Thread nD τ).loc (Pipeline.arrRef spec0 w)) :=
  ((h c).1 w).trans ((dats m 0 c).arrAt_in w (win_in w hw) _)

end Cert.KernelIdeal.Gen

end
-- ==== Proof.Sums.lean ====
/- The results as sums: a row of the table is a product of two stacks of matrices, and a result is such products laid
   end to end, sixteen rows each. -/
module

public import proofs.«01_k».proof.Proof.Table
public import Idealize.ShloMosaic.Lib.Pipeline.Value
public import Idealize.ShloMosaic.Lib.StackMember

@[expose] public section

noncomputable section

namespace Cert.Blocks

open Idealize.ShloMosaic Idealize.ShloMosaic.ValueIdx Idealize.ShloMosaic.StackMember

/-- A left-added sum of products on the extended reals is the sum over all components. -/
theorem chain_sum (f w : ℕ → Ideal .f32) (n : ℕ) : chain f w n = ∑ k : Fin (n + 1), f k.val * w k.val := by
  induction n with
  | zero =>
    rw [Fin.sum_univ_one]
    rfl
  | succ n ih =>
    rw [Fin.sum_univ_castSucc, chain, ih]
    rfl

/-- Contents at an index, through the coordinates. -/
theorem toFn_at {F : FTy → Type} [FloatOps F] (d : Fin 3 → ℕ) (v : Shape.Idx ⟨3, d⟩ → Elt F .f32) (j : Shape.Idx ⟨3, d⟩) :
    toFn v (j 0).val (j 1).val (j 2).val = v j := congrFun (ofFn_toFn3 d v) j

/-- Sixteen rows from row `16 * j` of contents given by coordinates. -/
def piece {F : FTy → Type} (Y : Fn F) (N j : ℕ) : Shape.Idx ⟨3, ![128, 16, N]⟩ → Elt F .f32 :=
  onIdx ![128, 16, N] fun b g x => Y b (16 * j + g) x

/-- A product that keeps the first axis, and sums over the last axis of the features and the middle one of the weights. -/
def IsRow {sl sr so : Shape} (h : sl.rank = 3) (h' : sr.rank = 3) (D : DotDims sl sr so) : Prop :=
  D.lhsContracting = [Fin.cast h.symm 2] ∧ D.rhsContracting = [Fin.cast h'.symm 1] ∧ D.lhsNonContracting = [Fin.cast h.symm 1]
    ∧ D.rhsNonContracting = [Fin.cast h'.symm 2] ∧ D.lhsBatch = [Fin.cast h.symm 0] ∧ D.rhsBatch = [Fin.cast h'.symm 0]

/-- Such a product at an index. -/
theorem dot_apply {M N : ℕ} (D : DotDims ⟨3, ![128, 16, M]⟩ ⟨3, ![128, M, N]⟩ ⟨3, ![128, 16, N]⟩) (hD : IsRow rfl rfl D)
    (u : FVec Ideal ⟨3, ![128, 16, M]⟩ .f32) (v : FVec Ideal ⟨3, ![128, M, N]⟩ .f32) (b : Fin 128) (g : Fin 16) (x : Fin N) :
    Host.dotGeneral D none u v (ix3 b g x) = ∑ k : Fin M, u (ix3 b g k) * v (ix3 b k x) := by
  obtain ⟨l, r, ln, rn, lb, rb, wf⟩ := D
  obtain ⟨h1, h2, h3, h4, h5, h6⟩ := hD
  dsimp only at h1 h2 h3 h4 h5 h6
  subst h1 h2 h3 h4 h5 h6
  exact dotGeneral_stack_apply wf none u v b g x

/-- The product of a row's operands is the row's piece of the table's run. -/
theorem dot_piece (A : Fin 84 → Fn Ideal) (e : Entry) (he : e ∈ rows) {M N : ℕ} (hM : e.M + 1 = M)
    (D : DotDims ⟨3, ![128, 16, M]⟩ ⟨3, ![128, M, N]⟩ ⟨3, ![128, 16, N]⟩) (hD : IsRow rfl rfl D)
    (u : FVec Ideal ⟨3, ![128, 16, M]⟩ .f32) (v : FVec Ideal ⟨3, ![128, M, N]⟩ .f32) (hu : toFn (sh := ⟨3, ![128, 16, M]⟩) (e := .f32) u = A e.a) (hv : toFn (sh := ⟨3, ![128, M, N]⟩) (e := .f32) v = A e.b) :
    Host.dotGeneral D none u v = piece (steps rows A e.o) N e.j := by
  subst hM
  funext j
  obtain ⟨b, g, x, rfl⟩ : ∃ (b : Fin 128) (g : Fin 16) (x : Fin N), j = ix3 b g x := ⟨j 0, j 1, j 2, eq_ix3 j⟩
  have hg := g.isLt
  rw [dot_apply D hD]
  show _ = steps rows A e.o b.val (16 * e.j + g.val) x.val
  rw [rows_row A e he b.val _ x.val (by omega), chain_sum]
  refine Finset.sum_congr rfl fun k _ => ?_
  have h1 : A e.a b.val ((16 * e.j + g.val) % 16) k.val = u (ix3 b g k) := by
    rw [Nat.mul_add_mod, Nat.mod_eq_of_lt hg, ← hu]
    exact toFn_at (F := Ideal) _ u (ix3 b g k)
  have h2 : A e.b b.val k.val x.val = v (ix3 b k x) := by
    rw [← hv]
    exact toFn_at (F := Ideal) _ v (ix3 b k x)
  rw [h1, h2]

/-- The pieces of a concatenation are products, one for each row of a list. -/
inductive Dots (A : Fin 84 → Fn Ideal) (N : ℕ) : List Entry → List ((s : Shape) × (s.Idx → Elt Ideal .f32)) → Prop where
  | nil : Dots A N [] []
  | cons {e : Entry} {es : List Entry} {ps : List ((s : Shape) × (s.Idx → Elt Ideal .f32))} {M : ℕ}
      {D : DotDims ⟨3, ![128, 16, M]⟩ ⟨3, ![128, M, N]⟩ ⟨3, ![128, 16, N]⟩}
      {u : FVec Ideal ⟨3, ![128, 16, M]⟩ .f32} {v : FVec Ideal ⟨3, ![128, M, N]⟩ .f32} :
      IsRow rfl rfl D → e.M + 1 = M → toFn (sh := ⟨3, ![128, 16, M]⟩) (e := .f32) u = A e.a →
      toFn (sh := ⟨3, ![128, M, N]⟩) (e := .f32) v = A e.b → Dots A N es ps →
      Dots A N (e :: es) (⟨⟨3, ![128, 16, N]⟩, Host.dotGeneral D none u v⟩ :: ps)

/-- Rows that fill consecutive pieces of one window, from a piece on. -/
def Run (o : Fin 84) : ℕ → List Entry → Prop
  | _, [] => True
  | j, e :: es => e.o = o ∧ e.j = j ∧ Run o (j + 1) es

instance (o : Fin 84) : (j : ℕ) → (es : List Entry) → Decidable (Run o j es)
  | _, [] => .isTrue trivial
  | j, e :: es => by
    haveI := instDecidableRun o (j + 1) es
    unfold Run
    infer_instance

/-- The products of such rows are the pieces of the table's run. -/
theorem dots_pieces {A : Fin 84 → Fn Ideal} {N : ℕ} {o : Fin 84} {es : List Entry} {ps : List ((s : Shape) × (s.Idx → Elt Ideal .f32))}
    (h : Dots A N es ps) : ∀ j : ℕ, Run o j es → (∀ e ∈ es, e ∈ rows) →
      ps = List.ofFn fun n : Fin es.length => ⟨⟨3, ![128, 16, N]⟩, piece (steps rows A o) N (j + n.val)⟩ := by
  induction h with
  | nil => exact fun _ _ _ => rfl
  | @cons e es ps M D u v hD hM hu hv _ ih =>
    intro j ⟨ho, hj, hr⟩ hm
    rw [ih (j + 1) hr fun e' h' => hm e' (List.mem_cons_of_mem _ h'), dot_piece A e (hm e List.mem_cons_self) hM D hD u v hu hv, ho, hj]
    show _ = List.ofFn fun n : Fin (es.length + 1) => _
    rw [List.ofFn_succ]
    congr 1
    congr 1
    funext n
    rw [Fin.val_succ, Nat.add_assoc, Nat.add_comm 1]

/-- Consecutive pieces laid end to end. -/
theorem stack_pieces {F : FTy → Type} [FloatOps F] (Y : Fn F) (N j K G : ℕ) (hG : G = 16 * K)
    (h : Shape.Concatenates ((List.ofFn fun n : Fin K => (⟨⟨3, ![128, 16, N]⟩, piece Y N (j + n.val)⟩ : (s : Shape) × (s.Idx → Elt F .f32))).map (·.1))
      ⟨3, ![128, G, N]⟩ 1) :
    concatenate ⟨3, ![128, G, N]⟩ 1 (List.ofFn fun n : Fin K => (⟨⟨3, ![128, 16, N]⟩, piece Y N (j + n.val)⟩ : (s : Shape) × (s.Idx → Elt F .f32))) h
      = onIdx ![128, G, N] fun b g x => Y b (16 * j + g) x := by
  subst hG
  funext i
  obtain ⟨b, g, x, rfl⟩ : ∃ (b : Fin 128) (g : Fin (16 * K)) (x : Fin N), i = ix3 b g x := ⟨i 0, i 1, i 2, eq_ix3 i⟩
  have hg := g.isLt
  rw [concatenate_ofFn_apply (s₁ := ⟨3, ![128, 16, N]⟩) (t := ⟨3, ![128, 16 * K, N]⟩) 1 (fun n : Fin K => piece Y N (j + n.val)) h rfl 16 rfl
    (ix3 b g x) ⟨g.val / 16, by omega⟩ rfl (ix3 b ⟨g.val % 16, by omega⟩ x) rfl
    (fun a ha => by
      match a with
      | ⟨0, _⟩ => rfl
      | ⟨1, _⟩ => exact absurd rfl ha
      | ⟨2, _⟩ => rfl)]
  show Y b.val (16 * (j + g.val / 16) + g.val % 16) x.val = Y b.val (16 * j + g.val) x.val
  congr 1
  omega

/-- A concatenation of the products of consecutive rows. -/
theorem stack_dots (A : Fin 84 → Fn Ideal) (o : Fin 84) (N j G : ℕ) (es : List Entry) (ps : List ((s : Shape) × (s.Idx → Elt Ideal .f32)))
    (hr : Run o j es) (hm : ∀ e ∈ es, e ∈ rows) (hG : G = 16 * es.length) (hd : Dots A N es ps)
    (h : Shape.Concatenates (ps.map (·.1)) ⟨3, ![128, G, N]⟩ 1) :
    concatenate ⟨3, ![128, G, N]⟩ 1 ps h = onIdx ![128, G, N] fun b g x => steps rows A o b (16 * j + g) x := by
  have e := dots_pieces hd j hr hm
  subst e
  exact stack_pieces _ N j _ G hG h

/-- The same from a window's first row. -/
theorem stack_dots_first (A : Fin 84 → Fn Ideal) (o : Fin 84) (N G : ℕ) (es : List Entry) (ps : List ((s : Shape) × (s.Idx → Elt Ideal .f32)))
    (hr : Run o 0 es) (hm : ∀ e ∈ es, e ∈ rows) (hG : G = 16 * es.length) (hd : Dots A N es ps)
    (h : Shape.Concatenates (ps.map (·.1)) ⟨3, ![128, G, N]⟩ 1) :
    concatenate ⟨3, ![128, G, N]⟩ 1 ps h = onIdx ![128, G, N] (steps rows A o) := by
  refine (stack_dots A o N 0 G es ps hr hm hG hd h).trans ?_
  simp only [Nat.mul_zero, Nat.zero_add]

/-- Two runs of rows laid end to end. -/
theorem stack_two {F : FTy → Type} [FloatOps F] (Y : Fn F) (N G G' T : ℕ) (u : Shape.Idx ⟨3, ![128, G, N]⟩ → Elt F .f32)
    (v : Shape.Idx ⟨3, ![128, G', N]⟩ → Elt F .f32) (hT : T = G + G')
    (h : Shape.Concatenates [⟨3, ![128, G, N]⟩, ⟨3, ![128, G', N]⟩] ⟨3, ![128, T, N]⟩ 1)
    (hu : u = onIdx ![128, G, N] Y) (hv : v = onIdx ![128, G', N] fun b g x => Y b (G + g) x) :
    concatenate (α := Elt F .f32) ⟨3, ![128, T, N]⟩ 1 [⟨⟨3, ![128, G, N]⟩, u⟩, ⟨⟨3, ![128, G', N]⟩, v⟩] h = onIdx ![128, T, N] Y := by
  subst hT hu hv
  funext i
  obtain ⟨b, g, x, rfl⟩ : ∃ (b : Fin 128) (g : Fin (G + G')) (x : Fin N), i = ix3 b g x := ⟨i 0, i 1, i 2, eq_ix3 i⟩
  have hg := g.isLt
  by_cases hlt : g.val < G
  · exact concatenate_pair_apply_left (α := Elt F .f32) (t := ⟨3, ![128, G + G', N]⟩) 1 _ _ h (ix3 b g x) rfl (ix3 b ⟨g.val, hlt⟩ x) (fun a => by
      match a with
      | ⟨0, _⟩ => rfl
      | ⟨1, _⟩ => rfl
      | ⟨2, _⟩ => rfl)
  · refine (concatenate_pair_apply_right (α := Elt F .f32) (t := ⟨3, ![128, G + G', N]⟩) 1 _ _ h (ix3 b g x) rfl rfl (ix3 b ⟨g.val - G, by omega⟩ x) (fun a ha => by
      match a with
      | ⟨0, _⟩ => rfl
      | ⟨1, _⟩ => exact absurd rfl ha
      | ⟨2, _⟩ => rfl) (by show g.val - G + G = g.val; omega)).trans ?_
    show Y b.val (G + (g.val - G)) x.val = Y b.val g.val x.val
    congr 1
    omega

end Cert.Blocks

end
-- ==== Proof.KernelIdealBlocks.lean ====
/- The pipeline's blocks and arrays: block `t` of every array is its environments `8 t … 8 t + 7`, and a result's array
   ends as the table's run of the argument arrays. -/
module

public import proofs.«01_k».proof.Proof.KernelIdealLaunch
public import proofs.«01_k».proof.Proof.Sums

@[expose] public section

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.Blocks

variable {F : FTy → Type} [FloatOps F]

variable (m : (ℓ : Loc nD τ sig) → Buf (Elt F) ℓ)

/-! ## Where a block lies in its array -/

/-- A window's axis. -/
abbrev ax (w : Fin 84) (k : Fin 3) : Fin (win0 w).shape.rank := Fin.cast (win_rank w).symm k

theorem win_off : ∀ (w : Fin 84) (t : Fin grid0.N) (k : Fin 3),
    (win0 w).kind.off ((win0 w).index t (ax w k)) ((win0 w).size (ax w k)) = if k = 0 then 8 * t.val else 0 := by
  decide +kernel

theorem win_emb (w : Fin 84) (t : Fin grid0.N) (j : ((win0 w).rect t).shape.Idx) (k : Fin 3) :
    (((win0 w).rect t).emb j (ax w k)).val = (if k = 0 then 8 * t.val else 0) + (j (ax w k)).val := by
  show (win0 w).kind.off ((win0 w).index t (ax w k)) ((win0 w).size (ax w k)) + 1 * (j (ax w k)).val = _
  rw [win_off, Nat.one_mul]

theorem win_size : ∀ (w : Fin 84) (t : Fin grid0.N),
    (win0 w).xsize (grid0.coords t) (ax w 0) = 8 ∧ (win0 w).shape.size (ax w 0) = 128
      ∧ (win0 w).xsize (grid0.coords t) (ax w 1) = (win0 w).shape.size (ax w 1)
      ∧ (win0 w).xsize (grid0.coords t) (ax w 2) = (win0 w).shape.size (ax w 2) := by
  decide +kernel

theorem win_xrank (w : Fin 84) (t : Fin grid0.N) : ((win0 w).xblock (grid0.coords t)).rank = 3 := win_rank w

theorem win_srank (w : Fin 84) : (win0 w).shape.rank = 3 := win_rank w

/-- A block of eight environments, by coordinates. -/
theorem toFn_rows : {sh sh' : Shape} → {e : EltTy} → (h : sh.rank = 3) → (h' : sh'.rank = 3) → (he : e = .f32) →
    (v : sh.Idx → Elt F e) → (A : sh'.Idx → Elt F e) → (E : sh.Idx → sh'.Idx) → (∀ j, v j = A (E j)) → (s : ℕ) → s + 8 ≤ 128 →
    (∀ j (k : Fin 3), (E j (Fin.cast h'.symm k)).val = (if k = 0 then s else 0) + (j (Fin.cast h.symm k)).val) →
    sh.size (Fin.cast h.symm 0) = 8 → sh'.size (Fin.cast h'.symm 0) = 128 →
    sh.size (Fin.cast h.symm 1) = sh'.size (Fin.cast h'.symm 1) → sh.size (Fin.cast h.symm 2) = sh'.size (Fin.cast h'.symm 2) →
    (a b c : ℕ) → a < 8 → toFn v a b c = toFn A (s + a) b c
  | ⟨_, d⟩, ⟨_, d'⟩, _, rfl, rfl, rfl, v, A, E, hv, s, hs, hE, h0, h0', h1, h2, a, b, c, ha => by
    replace h0 : d 0 = 8 := h0
    replace h0' : d' 0 = 128 := h0'
    replace h1 : d 1 = d' 1 := h1
    replace h2 : d 2 = d' 2 := h2
    show (if h : ∀ k : Fin 3, (![a, b, c] : Fin 3 → ℕ) k < d k then v fun k => ⟨![a, b, c] k, h k⟩ else FloatOps.ofBits .f32 0)
      = (if h : ∀ k : Fin 3, (![s + a, b, c] : Fin 3 → ℕ) k < d' k then A fun k => ⟨![s + a, b, c] k, h k⟩ else FloatOps.ofBits .f32 0)
    by_cases hb : b < d 1 ∧ c < d 2
    · have q : ∀ k : Fin 3, (![a, b, c] : Fin 3 → ℕ) k < d k := fun k => by
        match k with
        | 0 => exact h0 ▸ ha
        | 1 => exact hb.1
        | 2 => exact hb.2
      have q' : ∀ k : Fin 3, (![s + a, b, c] : Fin 3 → ℕ) k < d' k := fun k => by
        match k with
        | 0 => show s + a < d' 0; omega
        | 1 => exact h1 ▸ hb.1
        | 2 => exact h2 ▸ hb.2
      rw [dif_pos q, dif_pos q', hv]
      congr 1
      funext k
      apply Fin.ext
      refine (hE _ k).trans ?_
      match k with
      | 0 => rfl
      | 1 => exact Nat.zero_add _
      | 2 => exact Nat.zero_add _
    · rw [dif_neg fun q => hb ⟨q 1, q 2⟩, dif_neg fun q => hb ⟨h1 ▸ q 1, h2 ▸ q 2⟩]

/-- A function of the coordinates read through a map of indices. -/
theorem ofFn_read : {sh sh' : Shape} → {e : EltTy} → (h : sh.rank = 3) → (h' : sh'.rank = 3) → (he : e = .f32) → (Y Z : Fn F) → (E : sh.Idx → sh'.Idx) →
    (∀ j, Y (j (Fin.cast h.symm 0)).val (j (Fin.cast h.symm 1)).val (j (Fin.cast h.symm 2)).val
      = Z (E j (Fin.cast h'.symm 0)).val (E j (Fin.cast h'.symm 1)).val (E j (Fin.cast h'.symm 2)).val) →
    (ofFn Y : sh.Idx → Elt F e) = fun j => ofFn Z (E j)
  | ⟨_, d⟩, ⟨_, d'⟩, _, rfl, rfl, rfl, Y, Z, E, h => funext fun j => h j

/-- Blocks of eight environments cover an array. -/
theorem cover_rows {G N n : ℕ} (hn : n = 16) {P : Fin n → Prop} {S : Fin n → Finset (Shape.Idx ⟨3, ![128, G, N]⟩)} (hP : ∀ t, P t)
    (h : ∀ (t : Fin n) (j : Shape.Idx ⟨3, ![8, G, N]⟩), ∃ i ∈ S t, (i 0).val = 8 * t.val + (j 0).val
      ∧ (i 1).val = 0 + (j 1).val ∧ (i 2).val = 0 + (j 2).val) (i : Shape.Idx ⟨3, ![128, G, N]⟩) : ∃ t, P t ∧ i ∈ S t := by
  have h0 : (i 0).val < 128 := (i 0).isLt
  obtain ⟨i', hi, e0, e1, e2⟩ := h ⟨(i 0).val / 8, by omega⟩ (ix3 ⟨(i 0).val % 8, by omega⟩ (i 1) (i 2))
  have e : i' = i := by
    funext a
    apply Fin.ext
    match a with
    | 0 => exact e0.trans (Nat.div_add_mod _ 8)
    | 1 => exact e1.trans (Nat.zero_add _)
    | 2 => exact e2.trans (Nat.zero_add _)
  exact ⟨_, hP _, e ▸ hi⟩

/-- The windows of the results. -/
theorem win_out (w : Fin 84) (hw : 76 ≤ w.val) : w = 76 ∨ w = 77 ∨ w = 78 ∨ w = 79 ∨ w = 80 ∨ w = 81 ∨ w = 82 ∨ w = 83 := by
  have := w.isLt
  simp only [Fin.ext_iff]
  show w.val = 76 ∨ w.val = 77 ∨ w.val = 78 ∨ w.val = 79 ∨ w.val = 80 ∨ w.val = 81 ∨ w.val = 82 ∨ w.val = 83
  omega

/-! ## The arrays -/

/-- Window `w`'s array as launched, by coordinates. -/
def arrs (c : Dev nD) (w : Fin 84) : Fn F := toFn ((win0 w).arr.view.read (Elt F) (V m c (Pipeline.arrRef spec0 w)))

theorem inp_eq (c : Dev nD) (t : Fin grid0.N) (w : Fin 84) (a b x : ℕ) (ha : a < 8) :
    inp m c t w a b x = arrs m c w (8 * t.val + a) b x := by
  have hs : 8 * t.val + 8 ≤ 128 := by have h := t.isLt; have := N_0; omega
  have z := win_size w t
  exact toFn_rows (win_xrank w t) (win_srank w) (win_elt w) (iblk m c w t) ((win0 w).arr.view.read (Elt F) (V m c (Pipeline.arrRef spec0 w)))
    (fun j => ((win0 w).rect t).emb j) (fun _ => rfl) (8 * t.val) hs (win_emb w t) z.1 z.2.1 z.2.2.1 z.2.2.2 a b x ha

/-- What the body leaves in a result's block is the table's run of the arrays, there. -/
theorem left_eq (c : Dev nD) (t : Fin grid0.N) (w : Fin 84) (hw : 76 ≤ w.val) (b g x i0 i1 i2 : ℕ) (hb : b < 8) (hg : g < 16 * blocks w)
    (h0 : i0 = 8 * t.val + b) (h1 : i1 = 0 + g) (h2 : i2 = 0 + x) : left m c t w b g x = steps rows (arrs m c) w i0 i1 i2 := by
  obtain rfl : i1 = g := h1.trans (Nat.zero_add _)
  obtain rfl : i2 = x := h2.trans (Nat.zero_add _)
  subst h0
  obtain ⟨e, he, rfl, hj⟩ := rows_cover w hw (i1 / 16) (by omega)
  unfold left
  rw [rows_row _ e he b i1 i2 hj.symm, rows_row _ e he _ i1 i2 hj.symm]
  simp only [inp_eq m c t _ _ _ _ hb]

/-- A result's array as the table's run of the argument arrays. -/
def whole (c : Dev nD) (w : Fin 84) : Buf (Elt F) ((cfg0.win w).arr.view.loc (c : Thread nD τ)) :=
  ofFn (sh := (Pipeline.arrRef spec0 w).ty.shape) (e := (Pipeline.arrRef spec0 w).ty.elt) (steps rows (arrs m c) w)

theorem out_rows : ∀ w : Fin 84, 76 ≤ w.val → (win0 w).shape.size (ax w 1) = 16 * blocks w := by decide +kernel

theorem cut_out (w : Fin 84) (hw : 76 ≤ w.val) (i : grid0.Coords) (Y : Fn F) :
    (win0 w).cut i (ofFn Y : (win0 w).block.Idx → Elt F (win0 w).elt) = ofFn Y := by
  rcases win_out w hw with rfl | rfl | rfl | rfl | rfl | rfl | rfl | rfl <;> rfl

theorem read_whole (c : Dev nD) (w : Fin 84) (hw : 76 ≤ w.val) :
    (win0 w).arr.view.read (Elt F) (whole m c w) = ofFn (steps rows (arrs m c) w) := by
  rcases win_out w hw with rfl | rfl | rfl | rfl | rfl | rfl | rfl | rfl <;> rfl

theorem flushed_eq (c : Dev nD) (w : Fin 84) (hw : 76 ≤ w.val) (t : Fin cfg0.N) :
    (dats m 0 c).flushed w t = ((cfg0.win w).blk t).view.read (Elt F) (whole m c w) := by
  have e := win_emb w t
  have z := win_size w t
  have h1 : (dats m 0 c).flushed w t = (win0 w).cut (grid0.coords t) (ofFn (left m c t w)) := rfl
  have h2 : ((cfg0.win w).blk t).view.read (Elt F) (whole m c w)
      = fun j => (win0 w).arr.view.read (Elt F) (whole m c w) (((win0 w).rect t).emb j) := rfl
  rw [h1, h2, cut_out w hw, read_whole m c w hw]
  refine ofFn_read (F := F) (win_xrank w t) (win_srank w) (win_elt w) _ _ _ fun j => ?_
  refine left_eq m c t w hw _ _ _ _ _ _ ?_ ?_ (e j 0) (e j 1) (e j 2)
  · exact lt_of_lt_of_eq (j (ax w 0)).isLt z.1
  · exact lt_of_lt_of_eq (j (ax w 1)).isLt (z.2.2.1.trans (out_rows w hw))

theorem final (c : Dev nD) (w : Fin 84) (hw : 76 ≤ w.val) : (dats m 0 c).arrAt w cfg0.N = whole m c w := by
  have hN : grid0.N = 16 := N_0
  have e := win_emb w
  have hf : ∀ t, (win0 w).flush t = true := by
    rcases win_out w hw with rfl | rfl | rfl | rfl | rfl | rfl | rfl | rfl
    exacts [flush0_76, flush0_77, flush0_78, flush0_79, flush0_80, flush0_81, flush0_82, flush0_83]
  refine (dats m 0 c).arrAt_eq_of_cover w _ (fun t _ => flushed_eq m c w hw t) (fun i => ?_)
  rcases win_out w hw with rfl | rfl | rfl | rfl | rfl | rfl | rfl | rfl <;>
    exact cover_rows hN hf (fun t j => ⟨_, View.emb_mem_set _ j, e t j 0, e t j 1, e t j 2⟩) i

end Cert.KernelIdeal.Gen

end
-- ==== Proof.ReferenceIdealResults.lean ====
/- The reference's results: each is the table's run of the argument arrays.

   The reference multiplies features and weights stack by stack and lays the products end to end, in the order of the
   table's rows. -/
module

public import proofs.«01_k».proof.Proof.Sums
public import proofs.«01_k».proof.Proof.Gen.ReferenceIdeal.Run
public import Idealize.ShloMosaic.Lib.Quiescent

@[expose] public section

set_option maxRecDepth 16384

noncomputable section

namespace Cert.ReferenceIdeal.Results

open Idealize.ShloMosaic Idealize.ShloMosaic.TcCoe Idealize.SL.Sem
open Cert.Blocks Cert.ReferenceIdeal.Gen

variable (m : (ℓ : Loc nD τ sig) → Buf (Elt Ideal) ℓ) (c : Dev nD)

/-- The argument arrays in order, by coordinates. -/
def args : List (Fn Ideal) :=
  [toFn (sh := S128x16x1) (e := .f32) (m ((c.tc : Thread nD τ).loc main_arg0)),
   toFn (sh := S128x16x3) (e := .f32) (m ((c.tc : Thread nD τ).loc main_arg1)),
   toFn (sh := S128x16x5) (e := .f32) (m ((c.tc : Thread nD τ).loc main_arg2)),
   toFn (sh := S128x16x7) (e := .f32) (m ((c.tc : Thread nD τ).loc main_arg3)),
   toFn (sh := S128x16x1) (e := .f32) (m ((c.tc : Thread nD τ).loc main_arg4)),
   toFn (sh := S128x16x3) (e := .f32) (m ((c.tc : Thread nD τ).loc main_arg5)),
   toFn (sh := S128x16x5) (e := .f32) (m ((c.tc : Thread nD τ).loc main_arg6)),
   toFn (sh := S128x16x7) (e := .f32) (m ((c.tc : Thread nD τ).loc main_arg7)),
   toFn (sh := S128x1x16) (e := .f32) (m ((c.tc : Thread nD τ).loc main_arg8)),
   toFn (sh := S128x3x16) (e := .f32) (m ((c.tc : Thread nD τ).loc main_arg9)),
   toFn (sh := S128x5x16) (e := .f32) (m ((c.tc : Thread nD τ).loc main_arg10)),
   toFn (sh := S128x7x16) (e := .f32) (m ((c.tc : Thread nD τ).loc main_arg11)),
   toFn (sh := S128x1x48) (e := .f32) (m ((c.tc : Thread nD τ).loc main_arg12)),
   toFn (sh := S128x3x48) (e := .f32) (m ((c.tc : Thread nD τ).loc main_arg13)),
   toFn (sh := S128x3x48) (e := .f32) (m ((c.tc : Thread nD τ).loc main_arg14)),
   toFn (sh := S128x3x48) (e := .f32) (m ((c.tc : Thread nD τ).loc main_arg15)),
   toFn (sh := S128x5x48) (e := .f32) (m ((c.tc : Thread nD τ).loc main_arg16)),
   toFn (sh := S128x5x48) (e := .f32) (m ((c.tc : Thread nD τ).loc main_arg17)),
   toFn (sh := S128x5x48) (e := .f32) (m ((c.tc : Thread nD τ).loc main_arg18)),
   toFn (sh := S128x7x48) (e := .f32) (m ((c.tc : Thread nD τ).loc main_arg19)),
   toFn (sh := S128x7x48) (e := .f32) (m ((c.tc : Thread nD τ).loc main_arg20)),
   toFn (sh := S128x1x80) (e := .f32) (m ((c.tc : Thread nD τ).loc main_arg21)),
   toFn (sh := S128x3x80) (e := .f32) (m ((c.tc : Thread nD τ).loc main_arg22)),
   toFn (sh := S128x3x80) (e := .f32) (m ((c.tc : Thread nD τ).loc main_arg23)),
   toFn (sh := S128x3x80) (e := .f32) (m ((c.tc : Thread nD τ).loc main_arg24)),
   toFn (sh := S128x5x80) (e := .f32) (m ((c.tc : Thread nD τ).loc main_arg25)),
   toFn (sh := S128x5x80) (e := .f32) (m ((c.tc : Thread nD τ).loc main_arg26)),
   toFn (sh := S128x5x80) (e := .f32) (m ((c.tc : Thread nD τ).loc main_arg27)),
   toFn (sh := S128x5x80) (e := .f32) (m ((c.tc : Thread nD τ).loc main_arg28)),
   toFn (sh := S128x7x80) (e := .f32) (m ((c.tc : Thread nD τ).loc main_arg29)),
   toFn (sh := S128x7x80) (e := .f32) (m ((c.tc : Thread nD τ).loc main_arg30)),
   toFn (sh := S128x7x80) (e := .f32) (m ((c.tc : Thread nD τ).loc main_arg31)),
   toFn (sh := S128x1x112) (e := .f32) (m ((c.tc : Thread nD τ).loc main_arg32)),
   toFn (sh := S128x3x112) (e := .f32) (m ((c.tc : Thread nD τ).loc main_arg33)),
   toFn (sh := S128x3x112) (e := .f32) (m ((c.tc : Thread nD τ).loc main_arg34)),
   toFn (sh := S128x5x112) (e := .f32) (m ((c.tc : Thread nD τ).loc main_arg35)),
   toFn (sh := S128x5x112) (e := .f32) (m ((c.tc : Thread nD τ).loc main_arg36)),
   toFn (sh := S128x5x112) (e := .f32) (m ((c.tc : Thread nD τ).loc main_arg37)),
   toFn (sh := S128x7x112) (e := .f32) (m ((c.tc : Thread nD τ).loc main_arg38)),
   toFn (sh := S128x7x112) (e := .f32) (m ((c.tc : Thread nD τ).loc main_arg39)),
   toFn (sh := S128x7x112) (e := .f32) (m ((c.tc : Thread nD τ).loc main_arg40)),
   toFn (sh := S128x7x112) (e := .f32) (m ((c.tc : Thread nD τ).loc main_arg41)),
   toFn (sh := S128x1x16) (e := .f32) (m ((c.tc : Thread nD τ).loc main_arg42)),
   toFn (sh := S128x3x16) (e := .f32) (m ((c.tc : Thread nD τ).loc main_arg43)),
   toFn (sh := S128x5x16) (e := .f32) (m ((c.tc : Thread nD τ).loc main_arg44)),
   toFn (sh := S128x7x16) (e := .f32) (m ((c.tc : Thread nD τ).loc main_arg45)),
   toFn (sh := S128x1x48) (e := .f32) (m ((c.tc : Thread nD τ).loc main_arg46)),
   toFn (sh := S128x3x48) (e := .f32) (m ((c.tc : Thread nD τ).loc main_arg47)),
   toFn (sh := S128x3x48) (e := .f32) (m ((c.tc : Thread nD τ).loc main_arg48)),
   toFn (sh := S128x3x48) (e := .f32) (m ((c.tc : Thread nD τ).loc main_arg49)),
   toFn (sh := S128x5x48) (e := .f32) (m ((c.tc : Thread nD τ).loc main_arg50)),
   toFn (sh := S128x5x48) (e := .f32) (m ((c.tc : Thread nD τ).loc main_arg51)),
   toFn (sh := S128x5x48) (e := .f32) (m ((c.tc : Thread nD τ).loc main_arg52)),
   toFn (sh := S128x7x48) (e := .f32) (m ((c.tc : Thread nD τ).loc main_arg53)),
   toFn (sh := S128x7x48) (e := .f32) (m ((c.tc : Thread nD τ).loc main_arg54)),
   toFn (sh := S128x1x80) (e := .f32) (m ((c.tc : Thread nD τ).loc main_arg55)),
   toFn (sh := S128x3x80) (e := .f32) (m ((c.tc : Thread nD τ).loc main_arg56)),
   toFn (sh := S128x3x80) (e := .f32) (m ((c.tc : Thread nD τ).loc main_arg57)),
   toFn (sh := S128x3x80) (e := .f32) (m ((c.tc : Thread nD τ).loc main_arg58)),
   toFn (sh := S128x5x80) (e := .f32) (m ((c.tc : Thread nD τ).loc main_arg59)),
   toFn (sh := S128x5x80) (e := .f32) (m ((c.tc : Thread nD τ).loc main_arg60)),
   toFn (sh := S128x5x80) (e := .f32) (m ((c.tc : Thread nD τ).loc main_arg61)),
   toFn (sh := S128x5x80) (e := .f32) (m ((c.tc : Thread nD τ).loc main_arg62)),
   toFn (sh := S128x7x80) (e := .f32) (m ((c.tc : Thread nD τ).loc main_arg63)),
   toFn (sh := S128x7x80) (e := .f32) (m ((c.tc : Thread nD τ).loc main_arg64)),
   toFn (sh := S128x7x80) (e := .f32) (m ((c.tc : Thread nD τ).loc main_arg65)),
   toFn (sh := S128x1x112) (e := .f32) (m ((c.tc : Thread nD τ).loc main_arg66)),
   toFn (sh := S128x3x112) (e := .f32) (m ((c.tc : Thread nD τ).loc main_arg67)),
   toFn (sh := S128x3x112) (e := .f32) (m ((c.tc : Thread nD τ).loc main_arg68)),
   toFn (sh := S128x5x112) (e := .f32) (m ((c.tc : Thread nD τ).loc main_arg69)),
   toFn (sh := S128x5x112) (e := .f32) (m ((c.tc : Thread nD τ).loc main_arg70)),
   toFn (sh := S128x5x112) (e := .f32) (m ((c.tc : Thread nD τ).loc main_arg71)),
   toFn (sh := S128x7x112) (e := .f32) (m ((c.tc : Thread nD τ).loc main_arg72)),
   toFn (sh := S128x7x112) (e := .f32) (m ((c.tc : Thread nD τ).loc main_arg73)),
   toFn (sh := S128x7x112) (e := .f32) (m ((c.tc : Thread nD τ).loc main_arg74)),
   toFn (sh := S128x7x112) (e := .f32) (m ((c.tc : Thread nD τ).loc main_arg75))]

/-- The windows' arrays: the arguments, and nothing for the results. -/
def arrs (w : Fin 84) : Fn Ideal := (args m c).getD w.val fun _ _ _ => 0

theorem out1 : Value.res_out1 m c = onIdx ![128, 288, 48] (steps rows (arrs m c) 77) := by
  refine stack_two (steps rows (arrs m c) 77) 48 256 32 288 _ _ rfl _ ?_ ?_
  · refine stack_dots_first (arrs m c) 77 48 256 ((rows.drop 8).take 16) _ (by decide +kernel) (by decide +kernel) rfl ?_ _
    repeat (first | exact .nil | refine .cons ⟨rfl, rfl, rfl, rfl, rfl, rfl⟩ rfl rfl rfl ?_)
  · refine stack_dots (arrs m c) 77 48 16 32 ((rows.drop 24).take 2) _ (by decide +kernel) (by decide +kernel) rfl ?_ _
    repeat (first | exact .nil | refine .cons ⟨rfl, rfl, rfl, rfl, rfl, rfl⟩ rfl rfl rfl ?_)

theorem out2 : Value.res_out2 m c = onIdx ![128, 352, 80] (steps rows (arrs m c) 78) := by
  refine stack_two (steps rows (arrs m c) 78) 80 256 96 352 _ _ rfl _ ?_ ?_
  · refine stack_dots_first (arrs m c) 78 80 256 ((rows.drop 26).take 16) _ (by decide +kernel) (by decide +kernel) rfl ?_ _
    repeat (first | exact .nil | refine .cons ⟨rfl, rfl, rfl, rfl, rfl, rfl⟩ rfl rfl rfl ?_)
  · refine stack_dots (arrs m c) 78 80 16 96 ((rows.drop 42).take 6) _ (by decide +kernel) (by decide +kernel) rfl ?_ _
    repeat (first | exact .nil | refine .cons ⟨rfl, rfl, rfl, rfl, rfl, rfl⟩ rfl rfl rfl ?_)

theorem out3 : Value.res_out3 m c = onIdx ![128, 320, 112] (steps rows (arrs m c) 79) := by
  refine stack_two (steps rows (arrs m c) 79) 112 256 64 320 _ _ rfl _ ?_ ?_
  · refine stack_dots_first (arrs m c) 79 112 256 ((rows.drop 48).take 16) _ (by decide +kernel) (by decide +kernel) rfl ?_ _
    repeat (first | exact .nil | refine .cons ⟨rfl, rfl, rfl, rfl, rfl, rfl⟩ rfl rfl rfl ?_)
  · refine stack_dots (arrs m c) 79 112 16 64 ((rows.drop 64).take 4) _ (by decide +kernel) (by decide +kernel) rfl ?_ _
    repeat (first | exact .nil | refine .cons ⟨rfl, rfl, rfl, rfl, rfl, rfl⟩ rfl rfl rfl ?_)

theorem out5 : Value.res_out5 m c = onIdx ![128, 288, 48] (steps rows (arrs m c) 81) := by
  refine stack_two (steps rows (arrs m c) 81) 48 256 32 288 _ _ rfl _ ?_ ?_
  · refine stack_dots_first (arrs m c) 81 48 256 ((rows.drop 76).take 16) _ (by decide +kernel) (by decide +kernel) rfl ?_ _
    repeat (first | exact .nil | refine .cons ⟨rfl, rfl, rfl, rfl, rfl, rfl⟩ rfl rfl rfl ?_)
  · refine stack_dots (arrs m c) 81 48 16 32 ((rows.drop 92).take 2) _ (by decide +kernel) (by decide +kernel) rfl ?_ _
    repeat (first | exact .nil | refine .cons ⟨rfl, rfl, rfl, rfl, rfl, rfl⟩ rfl rfl rfl ?_)

theorem out6 : Value.res_out6 m c = onIdx ![128, 352, 80] (steps rows (arrs m c) 82) := by
  refine stack_two (steps rows (arrs m c) 82) 80 256 96 352 _ _ rfl _ ?_ ?_
  · refine stack_dots_first (arrs m c) 82 80 256 ((rows.drop 94).take 16) _ (by decide +kernel) (by decide +kernel) rfl ?_ _
    repeat (first | exact .nil | refine .cons ⟨rfl, rfl, rfl, rfl, rfl, rfl⟩ rfl rfl rfl ?_)
  · refine stack_dots (arrs m c) 82 80 16 96 ((rows.drop 110).take 6) _ (by decide +kernel) (by decide +kernel) rfl ?_ _
    repeat (first | exact .nil | refine .cons ⟨rfl, rfl, rfl, rfl, rfl, rfl⟩ rfl rfl rfl ?_)

theorem out7 : Value.res_out7 m c = onIdx ![128, 320, 112] (steps rows (arrs m c) 83) := by
  refine stack_two (steps rows (arrs m c) 83) 112 256 64 320 _ _ rfl _ ?_ ?_
  · refine stack_dots_first (arrs m c) 83 112 256 ((rows.drop 116).take 16) _ (by decide +kernel) (by decide +kernel) rfl ?_ _
    repeat (first | exact .nil | refine .cons ⟨rfl, rfl, rfl, rfl, rfl, rfl⟩ rfl rfl rfl ?_)
  · refine stack_dots (arrs m c) 83 112 16 64 ((rows.drop 132).take 4) _ (by decide +kernel) (by decide +kernel) rfl ?_ _
    repeat (first | exact .nil | refine .cons ⟨rfl, rfl, rfl, rfl, rfl, rfl⟩ rfl rfl rfl ?_)

/-- Every run of the reference ends with its results as the table's run of its arguments. -/
theorem run (ρ : Dev nD → PrngReg) : θ_run defs (onTc (τ := τ) (main (F := Ideal))) ⟨m, fun _ => 0, ρ⟩ fun r => ∀ c : Dev nD,
    r.2.mem ((c.tc : Thread nD τ).loc main_v8) = onIdx ![128, 128, 16] (steps rows (arrs m c) 76)
    ∧ r.2.mem ((c.tc : Thread nD τ).loc main_v29) = onIdx ![128, 288, 48] (steps rows (arrs m c) 77)
    ∧ r.2.mem ((c.tc : Thread nD τ).loc main_v54) = onIdx ![128, 352, 80] (steps rows (arrs m c) 78)
    ∧ r.2.mem ((c.tc : Thread nD τ).loc main_v77) = onIdx ![128, 320, 112] (steps rows (arrs m c) 79)
    ∧ r.2.mem ((c.tc : Thread nD τ).loc main_v86) = onIdx ![128, 128, 16] (steps rows (arrs m c) 80)
    ∧ r.2.mem ((c.tc : Thread nD τ).loc main_v107) = onIdx ![128, 288, 48] (steps rows (arrs m c) 81)
    ∧ r.2.mem ((c.tc : Thread nD τ).loc main_v132) = onIdx ![128, 352, 80] (steps rows (arrs m c) 82)
    ∧ r.2.mem ((c.tc : Thread nD τ).loc main_v155) = onIdx ![128, 320, 112] (steps rows (arrs m c) 83) := by
  refine (θ_run defs _ _).mono (fun r h c => ?_) (Value.run (F := Ideal) m ρ)
  replace h := h c
  refine ⟨?_, h.2.1.trans (out1 m c), h.2.2.1.trans (out2 m c), h.2.2.2.1.trans (out3 m c), ?_, h.2.2.2.2.2.1.trans (out5 m c),
    h.2.2.2.2.2.2.1.trans (out6 m c), h.2.2.2.2.2.2.2.1.trans (out7 m c)⟩
  · refine h.1.trans (stack_dots_first (arrs m c) 76 16 128 ((rows.drop 0).take 8) _ (by decide +kernel) (by decide +kernel) rfl ?_ _)
    repeat (first | exact .nil | refine .cons ⟨rfl, rfl, rfl, rfl, rfl, rfl⟩ rfl rfl rfl ?_)
  · refine h.2.2.2.2.1.trans (stack_dots_first (arrs m c) 80 16 128 ((rows.drop 68).take 8) _ (by decide +kernel) (by decide +kernel) rfl ?_ _)
    repeat (first | exact .nil | refine .cons ⟨rfl, rfl, rfl, rfl, rfl, rfl⟩ rfl rfl rfl ?_)

end Cert.ReferenceIdeal.Results

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelLaunch
public import proofs.«01_k».proof.Proof.KernelIdealBlocks
public import proofs.«01_k».proof.Proof.ReferenceIdealResults
public import Idealize.ShloMosaic.Adequacy
public import Idealize.ShloMosaic.Init
public import Idealize.ShloMosaic.Lib.Claim

@[expose] public section

set_option maxRecDepth 16384
set_option maxHeartbeats 4000000

noncomputable section

namespace Cert.Proof

open Idealize.ShloMosaic Idealize.ShloMosaic.TcCoe Idealize.SL.Sem
open Cert.Blocks Cert.ReferenceIdeal

/-! ## The frames -/

theorem frame_Kernel : Cert.quiescent_Kernel := fun m ρ _ => by
  refine (θ_run _ _ _).mono (fun r h => ⟨fun c => ?_, h.2⟩) (Cert.Kernel.Gen.run_main_quiescent m ρ)
  have a := fun k : Fin 76 => Cert.Kernel.Gen.arg_end m h.1 c (Fin.castLE (by decide) k) k.isLt
  exact ⟨a 0, a 1, a 2, a 3, a 4, a 5, a 6, a 7, a 8, a 9, a 10, a 11, a 12, a 13, a 14, a 15, a 16, a 17, a 18, a 19, a 20, a 21, a 22, a 23, a 24, a 25,
    a 26, a 27, a 28, a 29, a 30, a 31, a 32, a 33, a 34, a 35, a 36, a 37, a 38, a 39, a 40, a 41, a 42, a 43, a 44, a 45, a 46, a 47, a 48, a 49,
    a 50, a 51, a 52, a 53, a 54, a 55, a 56, a 57, a 58, a 59, a 60, a 61, a 62, a 63, a 64, a 65, a 66, a 67, a 68, a 69, a 70, a 71, a 72, a 73,
    a 74, a 75⟩

/-- The ideal kernel's arguments end as launched. -/
theorem frame_KernelIdeal : Cert.quiescent_KernelIdeal := fun m ρ _ => by
  refine (θ_run _ _ _).mono (fun r h => ⟨fun c => ?_, h.2⟩) (Cert.KernelIdeal.Gen.run_main_quiescent m ρ)
  have a := fun k : Fin 76 => Cert.KernelIdeal.Gen.arg_end m h.1 c (Fin.castLE (by decide) k) k.isLt
  exact ⟨a 0, a 1, a 2, a 3, a 4, a 5, a 6, a 7, a 8, a 9, a 10, a 11, a 12, a 13, a 14, a 15, a 16, a 17, a 18, a 19, a 20, a 21, a 22, a 23, a 24, a 25,
    a 26, a 27, a 28, a 29, a 30, a 31, a 32, a 33, a 34, a 35, a 36, a 37, a 38, a 39, a 40, a 41, a 42, a 43, a 44, a 45, a 46, a 47, a 48, a 49,
    a 50, a 51, a 52, a 53, a 54, a 55, a 56, a 57, a 58, a 59, a 60, a 61, a 62, a 63, a 64, a 65, a 66, a 67, a 68, a 69, a 70, a 71, a 72, a 73,
    a 74, a 75⟩

/-- The reference's run ends with the arguments as launched, and it declares no semaphore. -/
theorem frame_ReferenceIdeal : Cert.quiescent_ReferenceIdeal := fun m ρ _ =>
  (θ_run _ _ _).mono (fun r h => ⟨fun c => (h c).2.2.2.2.2.2.2.2, sem_eq_zero_of_no_sems (by decide) r.2⟩)
    (Cert.ReferenceIdeal.Value.run (F := Ideal) m ρ)

/-! ## The results -/

theorem same {sh : Shape} {A A' : sh.Idx → Elt Ideal .f32} (h : A' = A) : toFn A = toFn A' := congrArg toFn h.symm

/-- Runs of the table from arrays that agree leave the same results. -/
theorem results_eq (X X' : Fin 84 → Fn Ideal) (h : ∀ w : Fin 84, w.val < 76 → X w = X' w) (w : Fin 84) (hw : 76 ≤ w.val) (d : Fin 3 → ℕ)
    (hd : d 1 = 16 * blocks w) : onIdx d (steps rows X' w) = onIdx d (steps rows X w) := by
  funext i
  exact (rows_congr X X' h w hw _ _ _ (lt_of_lt_of_eq (i 1).isLt hd)).symm

theorem value : Cert.algebraic_KernelIdeal_ReferenceIdeal := by
  intro m ρ m' ρ' _ hm
  have hA : ∀ c (w : Fin 84), w.val < 76 → Cert.KernelIdeal.Gen.arrs m c w = Cert.ReferenceIdeal.Results.arrs m' c w := by
    intro c w hw
    obtain ⟨h0, h1, h2, h3, h4, h5, h6, h7, h8, h9, h10, h11, h12, h13, h14, h15, h16, h17, h18, h19, h20, h21, h22, h23, h24, h25, h26, h27, h28, h29, h30,
    h31, h32, h33, h34, h35, h36, h37, h38, h39, h40, h41, h42, h43, h44, h45, h46, h47, h48, h49, h50, h51, h52, h53, h54, h55, h56, h57, h58, h59,
    h60, h61, h62, h63, h64, h65, h66, h67, h68, h69, h70, h71, h72, h73, h74, h75⟩ := hm c
    obtain ⟨k, rfl⟩ : ∃ k : Fin 76, w = Fin.castLE (by decide) k := ⟨⟨w.val, hw⟩, rfl⟩
    clear hw
    fin_cases k
    exacts [same (sh := S128x16x1) h0, same (sh := S128x16x3) h1, same (sh := S128x16x5) h2, same (sh := S128x16x7) h3, same (sh := S128x16x1) h4,
    same (sh := S128x16x3) h5, same (sh := S128x16x5) h6, same (sh := S128x16x7) h7, same (sh := S128x1x16) h8, same (sh := S128x3x16) h9,
    same (sh := S128x5x16) h10, same (sh := S128x7x16) h11, same (sh := S128x1x48) h12, same (sh := S128x3x48) h13, same (sh := S128x3x48) h14,
    same (sh := S128x3x48) h15, same (sh := S128x5x48) h16, same (sh := S128x5x48) h17, same (sh := S128x5x48) h18, same (sh := S128x7x48) h19,
    same (sh := S128x7x48) h20, same (sh := S128x1x80) h21, same (sh := S128x3x80) h22, same (sh := S128x3x80) h23, same (sh := S128x3x80) h24,
    same (sh := S128x5x80) h25, same (sh := S128x5x80) h26, same (sh := S128x5x80) h27, same (sh := S128x5x80) h28, same (sh := S128x7x80) h29,
    same (sh := S128x7x80) h30, same (sh := S128x7x80) h31, same (sh := S128x1x112) h32, same (sh := S128x3x112) h33, same (sh := S128x3x112) h34,
    same (sh := S128x5x112) h35, same (sh := S128x5x112) h36, same (sh := S128x5x112) h37, same (sh := S128x7x112) h38, same (sh := S128x7x112) h39,
    same (sh := S128x7x112) h40, same (sh := S128x7x112) h41, same (sh := S128x1x16) h42, same (sh := S128x3x16) h43, same (sh := S128x5x16) h44,
    same (sh := S128x7x16) h45, same (sh := S128x1x48) h46, same (sh := S128x3x48) h47, same (sh := S128x3x48) h48, same (sh := S128x3x48) h49,
    same (sh := S128x5x48) h50, same (sh := S128x5x48) h51, same (sh := S128x5x48) h52, same (sh := S128x7x48) h53, same (sh := S128x7x48) h54,
    same (sh := S128x1x80) h55, same (sh := S128x3x80) h56, same (sh := S128x3x80) h57, same (sh := S128x3x80) h58, same (sh := S128x5x80) h59,
    same (sh := S128x5x80) h60, same (sh := S128x5x80) h61, same (sh := S128x5x80) h62, same (sh := S128x7x80) h63, same (sh := S128x7x80) h64,
    same (sh := S128x7x80) h65, same (sh := S128x1x112) h66, same (sh := S128x3x112) h67, same (sh := S128x3x112) h68, same (sh := S128x5x112) h69,
    same (sh := S128x5x112) h70, same (sh := S128x5x112) h71, same (sh := S128x7x112) h72, same (sh := S128x7x112) h73, same (sh := S128x7x112) h74,
    same (sh := S128x7x112) h75]
  refine ⟨fun c => Cert.KernelIdeal.Gen.whole m c 76, fun c => Cert.KernelIdeal.Gen.whole m c 77, fun c => Cert.KernelIdeal.Gen.whole m c 78,
    fun c => Cert.KernelIdeal.Gen.whole m c 79, fun c => Cert.KernelIdeal.Gen.whole m c 80, fun c => Cert.KernelIdeal.Gen.whole m c 81,
    fun c => Cert.KernelIdeal.Gen.whole m c 82, fun c => Cert.KernelIdeal.Gen.whole m c 83, ?_, ?_⟩
  · refine (θ_run _ _ _).mono (fun r h c => ?_) (θ_run_and (Cert.KernelIdeal.Gen.run_main m ρ) (frame_KernelIdeal m ρ trivial))
    have e := fun (w : Fin 84) (hw : 76 ≤ w.val) => ((h.1 c).1 w).trans (Cert.KernelIdeal.Gen.final m c w hw)
    exact ⟨e 76 (by decide), e 77 (by decide), e 78 (by decide), e 79 (by decide), e 80 (by decide), e 81 (by decide), e 82 (by decide),
      e 83 (by decide), h.2.1 c⟩
  · refine (θ_run _ _ _).mono (fun r h c => ?_) (θ_run_and (Cert.ReferenceIdeal.Results.run m' ρ') (Cert.ReferenceIdeal.Value.run m' ρ'))
    have e := results_eq _ _ (hA c)
    obtain ⟨q0, q1, q2, q3, q4, q5, q6, q7⟩ := h.1 c
    exact ⟨q0.trans (e 76 (by decide) _ rfl), q1.trans (e 77 (by decide) _ rfl), q2.trans (e 78 (by decide) _ rfl),
      q3.trans (e 79 (by decide) _ rfl), q4.trans (e 80 (by decide) _ rfl), q5.trans (e 81 (by decide) _ rfl),
      q6.trans (e 82 (by decide) _ rfl), q7.trans (e 83 (by decide) _ rfl), (h.2 c).2.2.2.2.2.2.2.2⟩

theorem claim : Cert.Claim := ⟨Cert.Kernel.Gen.facts, Cert.KernelIdeal.Gen.facts, Cert.ReferenceIdeal.Gen.facts,
  frame_Kernel, frame_KernelIdeal, frame_ReferenceIdeal, trivial, value⟩

end Cert.Proof

end
